-- ==== Defs.lean ====
def Pre_Kernel [hPre_tables_agree : Cert.Pre_tables_agree.Facts] (m : (ℓ : Loc Cert.Kernel.nD Cert.Kernel.τ Cert.Kernel.sig) → Buf (Elt Bits) ℓ) : Prop :=
  ∀ c : Dev Cert.Kernel.nD,
    (Cert.Pre_tables_agree.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).1 = (fun _ => 1#1)
    ∧ (Cert.Pre_tables_agree.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.1 = (fun _ => 1#1)
    ∧ (Cert.Pre_tables_agree.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.2.1 = (fun _ => 1#1)
    ∧ (Cert.Pre_tables_agree.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.2.2.1 = (fun _ => 1#1)
    ∧ (Cert.Pre_tables_agree.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.2.2.2.1 = (fun _ => 1#1)
    ∧ (Cert.Pre_tables_agree.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.2.2.2.2 = (fun _ => 1#1)

def Pre_KernelIdeal [hPre_tables_agree : Cert.Pre_tables_agree.Facts] (m : (ℓ : Loc Cert.KernelIdeal.nD Cert.KernelIdeal.τ Cert.KernelIdeal.sig) → Buf (Elt Ideal) ℓ) : Prop :=
  ∀ c : Dev Cert.KernelIdeal.nD,
    (Cert.Pre_tables_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_tables_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_tables_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_tables_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_tables_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_tables_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_agree [hPre_tables_agree : Cert.Pre_tables_agree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_tables_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_tables_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_tables_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_tables_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_tables_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_rows_differ [hPre_rows_differ : Cert.Pre_rows_differ.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_differ.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_rows_differ.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rows_differ [hPre_rows_differ : Cert.Pre_rows_differ.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_differ.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_rows_differ.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def quiescent_Kernel [hKernel : Cert.Kernel.Facts] [hPre_tables_agree : Cert.Pre_tables_agree.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_tables_agree : Cert.Pre_tables_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tables_agree [hReferenceIdeal : Cert.ReferenceIdeal.Facts] [hPre_tables_agree : Cert.Pre_tables_agree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_agree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_rows_differ [hKernel2Ideal : Cert.Kernel2Ideal.Facts] [hPre_rows_differ : Cert.Pre_rows_differ.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_rows_differ m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_rows_differ [hReference2Ideal : Cert.Reference2Ideal.Facts] [hPre_rows_differ : Cert.Pre_rows_differ.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rows_differ m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_agree : Cert.Pre_tables_agree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_rows_differ [hKernel2Ideal : Cert.Kernel2Ideal.Facts] [hReference2Ideal : Cert.Reference2Ideal.Facts] [hPre_rows_differ : Cert.Pre_rows_differ.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_rows_differ m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v96) = v0 c
          ∧ r.2.mem ((c.tc : Thread Cert.Reference2Ideal.nD Cert.Reference2Ideal.τ).loc Cert.Reference2Ideal.main_v132) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_tables_agree : Cert.Pre_tables_agree.Facts) (hPre_rows_differ : Cert.Pre_rows_differ.Facts),
    quiescent_Kernel (hKernel := hKernel) (hPre_tables_agree := hPre_tables_agree)
    ∧ quiescent_KernelIdeal (hKernelIdeal := hKernelIdeal) (hPre_tables_agree := hPre_tables_agree)
    ∧ quiescent_ReferenceIdeal (hReferenceIdeal := hReferenceIdeal)
    ∧ quiescent_ReferenceIdeal_pre_tables_agree (hReferenceIdeal := hReferenceIdeal) (hPre_tables_agree := hPre_tables_agree)
    ∧ quiescent_Kernel2 (hKernel2 := hKernel2)
    ∧ quiescent_Kernel2Ideal (hKernel2Ideal := hKernel2Ideal)
    ∧ quiescent_Kernel2Ideal_pre_rows_differ (hKernel2Ideal := hKernel2Ideal) (hPre_rows_differ := hPre_rows_differ)
    ∧ quiescent_Reference2Ideal (hReference2Ideal := hReference2Ideal)
    ∧ quiescent_Reference2Ideal_pre_rows_differ (hReference2Ideal := hReference2Ideal) (hPre_rows_differ := hPre_rows_differ)
    ∧ preserves_Kernel_KernelIdeal
    ∧ algebraic_KernelIdeal_ReferenceIdeal (hKernelIdeal := hKernelIdeal) (hReferenceIdeal := hReferenceIdeal) (hPre_tables_agree := hPre_tables_agree)
    ∧ preserves_Kernel2_Kernel2Ideal
    ∧ algebraic_Kernel2Ideal_Reference2Ideal_pre_rows_differ (hKernel2Ideal := hKernel2Ideal) (hReference2Ideal := hReference2Ideal) (hPre_rows_differ := hPre_rows_differ)
-- ==== Pre_rows_differ.lean ====
abbrev S20480x1024 : Shape := ⟨2, ![20480, 1024]⟩
abbrev S20480x128 : Shape := ⟨2, ![20480, 128]⟩
abbrev S8x6144 : Shape := ⟨2, ![8, 6144]⟩
abbrev S1024 : Shape := ⟨1, ![1024]⟩
abbrev S102400x1024 : Shape := ⟨2, ![102400, 1024]⟩
abbrev S20480x4 : Shape := ⟨2, ![20480, 4]⟩
abbrev S20480x4x4 : Shape := ⟨3, ![20480, 4, 4]⟩
abbrev S_ : Shape := ⟨0, ![]⟩
abbrev S20480x4x1 : Shape := ⟨3, ![20480, 4, 1]⟩
abbrev S20480x1x4 : Shape := ⟨3, ![20480, 1, 4]⟩

class Facts : Prop where
  slices_S20480x128_S20480x4_0_4 : S20480x128.Slices ![0, 4] S20480x4
  bcast_S_S20480x4 : S_.BroadcastsInDim S20480x4 (![] : Fin 0 → Fin S20480x4.rank)
  bcast_S20480x4_S20480x4x1_0_1 : S20480x4.BroadcastsInDim S20480x4x1 (![0, 1] : Fin 2 → Fin S20480x4x1.rank)
  bcast_S20480x4_S20480x1x4_0_2 : S20480x4.BroadcastsInDim S20480x1x4 (![0, 2] : Fin 2 → Fin S20480x1x4.rank)
  bcast_S20480x4x1_S20480x4x4_0_1_2 : S20480x4x1.BroadcastsInDim S20480x4x4 (![0, 1, 2] : Fin 3 → Fin S20480x4x4.rank)
  bcast_S20480x1x4_S20480x4x4_0_1_2 : S20480x1x4.BroadcastsInDim S20480x4x4 (![0, 1, 2] : Fin 3 → Fin S20480x4x4.rank)

variable [Facts]

def fn {F : FTy → Type} [FloatOps F] (main_arg0 : FVec F S20480x1024 .f32) (main_arg1 : IVec S20480x128 32) (main_arg2 : FVec F S20480x128 .f32) (main_arg3 : FVec F S8x6144 .f32) (main_arg4 : FVec F S1024 .f32) (main_arg5 : FVec F S1024 .f32) (main_arg6 : FVec F S102400x1024 .f32) : IVec S20480x4 1 × IVec S20480x4x4 1 :=
  let main_v0 : IVec S20480x4 32 := (extractStridedSlice S20480x4 ![0, 4] · slices_S20480x128_S20480x4_0_4) main_arg1
  let main_v1 : IVec S20480x4x4 32 := iotaInDim S20480x4x4 32 1
  let main_v2 : IVec S20480x4x4 32 := iotaInDim S20480x4x4 32 2
  let main_c : IVec S_ 32 := constantI S_ 32 0#32
  let main_v3 : IVec S20480x4 32 := broadcastInDim S20480x4 ![] bcast_S_S20480x4 main_c
  let main_v4 : IVec S20480x4 1 := cmpi .sge main_v0 main_v3
  let main_c_0 : IVec S_ 32 := constantI S_ 32 1280#32
  let main_v5 : IVec S20480x4 32 := broadcastInDim S20480x4 ![] bcast_S_S20480x4 main_c_0
  let main_v6 : IVec S20480x4 1 := cmpi .slt main_v0 main_v5
  let main_v7 : IVec S20480x4 1 := andi main_v4 main_v6
  let main_v8 : IVec S20480x4x1 32 := broadcastInDim S20480x4x1 ![0, 1] bcast_S20480x4_S20480x4x1_0_1 main_v0
  let main_v9 : IVec S20480x1x4 32 := broadcastInDim S20480x1x4 ![0, 2] bcast_S20480x4_S20480x1x4_0_2 main_v0
  let main_v10 : IVec S20480x4x4 32 := broadcastInDim S20480x4x4 ![0, 1, 2] bcast_S20480x4x1_S20480x4x4_0_1_2 main_v8
  let main_v11 : IVec S20480x4x4 32 := broadcastInDim S20480x4x4 ![0, 1, 2] bcast_S20480x1x4_S20480x4x4_0_1_2 main_v9
  let main_v12 : IVec S20480x4x4 1 := cmpi .ne main_v10 main_v11
  let main_v13 : IVec S20480x4x4 1 := cmpi .eq main_v1 main_v2
  let main_v14 : IVec S20480x4x4 1 := ori main_v12 main_v13
  (main_v7, main_v14)
-- ==== Pre_tables_agree.lean ====
abbrev S1 : Shape := ⟨1, ![1]⟩
abbrev S228 : Shape := ⟨1, ![228]⟩
abbrev S228x1x64 : Shape := ⟨3, ![228, 1, 64]⟩
abbrev S102400x1024 : Shape := ⟨2, ![102400, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S227 : Shape := ⟨1, ![227]⟩
abbrev S228x64 : Shape := ⟨2, ![228, 64]⟩
abbrev S1x1 : Shape := ⟨2, ![1, 1]⟩
abbrev S228x1 : Shape := ⟨2, ![228, 1]⟩
abbrev S228x64x228x64 : Shape := ⟨4, ![228, 64, 228, 64]⟩
abbrev S228x64x1x1 : Shape := ⟨4, ![228, 64, 1, 1]⟩
abbrev S1x1x228x64 : Shape := ⟨4, ![1, 1, 228, 64]⟩

class Facts : Prop where
  bcast_S_S228 : S_.BroadcastsInDim S228 (![] : Fin 0 → Fin S228.rank)
  bcast_S_S1 : S_.BroadcastsInDim S1 (![] : Fin 0 → Fin S1.rank)
  bcast_S1_S228_0 : S1.BroadcastsInDim S228 (![0] : Fin 1 → Fin S228.rank)
  slices_S228_S227_1 : S228.Slices ![1] S227
  slices_S228_S227_0 : S228.Slices ![0] S227
  bcast_S1_S227_0 : S1.BroadcastsInDim S227 (![0] : Fin 1 → Fin S227.rank)
  bcast_S_S227 : S_.BroadcastsInDim S227 (![] : Fin 0 → Fin S227.rank)
  bcast_S_S228x1x64 : S_.BroadcastsInDim S228x1x64 (![] : Fin 0 → Fin S228x1x64.rank)
  bcast_S1_S1x1_1 : S1.BroadcastsInDim S1x1 (![1] : Fin 1 → Fin S1x1.rank)
  bcast_S1x1_S228x64_0_1 : S1x1.BroadcastsInDim S228x64 (![0, 1] : Fin 2 → Fin S228x64.rank)
  bcast_S228_S228x1_0 : S228.BroadcastsInDim S228x1 (![0] : Fin 1 → Fin S228x1.rank)
  bcast_S228x1_S228x64_0_1 : S228x1.BroadcastsInDim S228x64 (![0, 1] : Fin 2 → Fin S228x64.rank)
  shapeCasts_S228x1x64_S228x64 : S228x1x64.ShapeCasts S228x64
  bcast_S228x64_S228x64x1x1_0_1 : S228x64.BroadcastsInDim S228x64x1x1 (![0, 1] : Fin 2 → Fin S228x64x1x1.rank)
  bcast_S228x64_S1x1x228x64_2_3 : S228x64.BroadcastsInDim S1x1x228x64 (![2, 3] : Fin 2 → Fin S1x1x228x64.rank)
  bcast_S228x64x1x1_S228x64x228x64_0_1_2_3 : S228x64x1x1.BroadcastsInDim S228x64x228x64 (![0, 1, 2, 3] : Fin 4 → Fin S228x64x228x64.rank)
  bcast_S1x1x228x64_S228x64x228x64_0_1_2_3 : S1x1x228x64.BroadcastsInDim S228x64x228x64 (![0, 1, 2, 3] : Fin 4 → Fin S228x64x228x64.rank)
  shapeCasts_S1_S_ : S1.ShapeCasts S_
  bcast_S_S228x64x228x64 : S_.BroadcastsInDim S228x64x228x64 (![] : Fin 0 → Fin S228x64x228x64.rank)

variable [Facts]

def fn_part6 {F : FTy → Type} [FloatOps F] (main_arg0 : IVec S1 32) (main_v48 : IVec S228 1) (main_v75 : IVec S227 1) (main_v86 : IVec S228x1x64 1) (main_v96 : IVec S228x64 32) (main_v97 : IVec S228x64 32) (main_v98 : IVec S228x64x228x64 32) (main_v100 : IVec S228x64x228x64 32) (main_v117 : IVec S228x64x228x64 1) (main_v121 : IVec S228x64x228x64 1) (main_v122 : IVec S228x64x228x64 1) : IVec S1 1 × IVec S228 1 × IVec S227 1 × IVec S228x1x64 1 × IVec S228x64x228x64 1 × IVec S228x64x228x64 1 :=
  let main_v123 : IVec S228x64x228x64 1 := andi main_v122 main_v121
  let main_v124 : IVec S228x64x1x1 32 := broadcastInDim S228x64x1x1 ![0, 1] bcast_S228x64_S228x64x1x1_0_1 main_v96
  let main_v125 : IVec S1x1x228x64 32 := broadcastInDim S1x1x228x64 ![2, 3] bcast_S228x64_S1x1x228x64_2_3 main_v97
  let main_v126 : IVec S228x64x228x64 32 := broadcastInDim S228x64x228x64 ![0, 1, 2, 3] bcast_S228x64x1x1_S228x64x228x64_0_1_2_3 main_v124
  let main_v127 : IVec S228x64x228x64 32 := broadcastInDim S228x64x228x64 ![0, 1, 2, 3] bcast_S1x1x228x64_S228x64x228x64_0_1_2_3 main_v125
  let main_v128 : IVec S228x64x228x64 1 := cmpi .eq main_v126 main_v127
  let main_v129 : IVec S228x64x228x64 1 := andi main_v123 main_v128
  let main_v130 : IVec S228x64x228x64 1 := noti main_v129
  let main_v131 : IVec S228x64x228x64 1 := cmpi .sle main_v98 main_v100
  let main_v132 : IVec S228x64x228x64 1 := ori main_v130 main_v131
  let main_c_20 : IVec S_ 32 := constantI S_ 32 1#32
  let main_v133 : IVec S1 32 := broadcastInDim S1 ![] bcast_S_S1 main_c_20
  let main_v134 : IVec S1 1 := cmpi .sge main_arg0 main_v133
  let main_c_21 : IVec S_ 32 := constantI S_ 32 228#32
  let main_v135 : IVec S1 32 := broadcastInDim S1 ![] bcast_S_S1 main_c_21
  let main_v136 : IVec S1 1 := cmpi .slt main_arg0 main_v135
  let main_v137 : IVec S1 1 := andi main_v134 main_v136
  (main_v137, main_v48, main_v75, main_v86, main_v117, main_v132)

def fn_part5 {F : FTy → Type} [FloatOps F] (main_arg0 : IVec S1 32) (main_v48 : IVec S228 1) (main_v75 : IVec S227 1) (main_v86 : IVec S228x1x64 1) (main_v95 : IVec S228x64 1) (main_v96 : IVec S228x64 32) (main_v97 : IVec S228x64 32) (main_v98 : IVec S228x64x228x64 32) : IVec S1 1 × IVec S228 1 × IVec S227 1 × IVec S228x1x64 1 × IVec S228x64x228x64 1 × IVec S228x64x228x64 1 :=
  let main_v99 : IVec S228x64x228x64 32 := iotaInDim S228x64x228x64 32 1
  let main_v100 : IVec S228x64x228x64 32 := iotaInDim S228x64x228x64 32 2
  let main_v101 : IVec S228x64x228x64 32 := iotaInDim S228x64x228x64 32 3
  let main_v102 : IVec S228x64x1x1 1 := broadcastInDim S228x64x1x1 ![0, 1] bcast_S228x64_S228x64x1x1_0_1 main_v95
  let main_v103 : IVec S1x1x228x64 1 := broadcastInDim S1x1x228x64 ![2, 3] bcast_S228x64_S1x1x228x64_2_3 main_v95
  let main_v104 : IVec S228x64x228x64 1 := broadcastInDim S228x64x228x64 ![0, 1, 2, 3] bcast_S228x64x1x1_S228x64x228x64_0_1_2_3 main_v102
  let main_v105 : IVec S228x64x228x64 1 := broadcastInDim S228x64x228x64 ![0, 1, 2, 3] bcast_S1x1x228x64_S228x64x228x64_0_1_2_3 main_v103
  let main_v106 : IVec S228x64x228x64 1 := andi main_v104 main_v105
  let main_v107 : IVec S228x64x1x1 32 := broadcastInDim S228x64x1x1 ![0, 1] bcast_S228x64_S228x64x1x1_0_1 main_v97
  let main_v108 : IVec S1x1x228x64 32 := broadcastInDim S1x1x228x64 ![2, 3] bcast_S228x64_S1x1x228x64_2_3 main_v97
  let main_v109 : IVec S228x64x228x64 32 := broadcastInDim S228x64x228x64 ![0, 1, 2, 3] bcast_S228x64x1x1_S228x64x228x64_0_1_2_3 main_v107
  let main_v110 : IVec S228x64x228x64 32 := broadcastInDim S228x64x228x64 ![0, 1, 2, 3] bcast_S1x1x228x64_S228x64x228x64_0_1_2_3 main_v108
  let main_v111 : IVec S228x64x228x64 1 := cmpi .eq main_v109 main_v110
  let main_v112 : IVec S228x64x228x64 1 := andi main_v106 main_v111
  let main_v113 : IVec S228x64x228x64 1 := noti main_v112
  let main_v114 : IVec S228x64x228x64 1 := cmpi .eq main_v98 main_v100
  let main_v115 : IVec S228x64x228x64 1 := cmpi .eq main_v99 main_v101
  let main_v116 : IVec S228x64x228x64 1 := andi main_v114 main_v115
  let main_v117 : IVec S228x64x228x64 1 := ori main_v113 main_v116
  let main_v118 : IVec S1x1x228x64 1 := broadcastInDim S1x1x228x64 ![2, 3] bcast_S228x64_S1x1x228x64_2_3 main_v95
  let main_v119 : IVec S_ 32 := shapeCast S_ main_arg0 shapeCasts_S1_S_
  let main_v120 : IVec S228x64x228x64 32 := broadcastInDim S228x64x228x64 ![] bcast_S_S228x64x228x64 main_v119
  let main_v121 : IVec S228x64x228x64 1 := cmpi .sle main_v98 main_v120
  let main_v122 : IVec S228x64x228x64 1 := broadcastInDim S228x64x228x64 ![0, 1, 2, 3] bcast_S1x1x228x64_S228x64x228x64_0_1_2_3 main_v118
  fn_part6 (F := F) main_arg0 main_v48 main_v75 main_v86 main_v96 main_v97 main_v98 main_v100 main_v117 main_v121 main_v122

def fn_part4 {F : FTy → Type} [FloatOps F] (main_arg0 : IVec S1 32) (main_arg2 : IVec S228 32) (main_arg6 : IVec S228x1x64 32) (main_arg7 : IVec S228x1x64 32) (main_v48 : IVec S228 1) (main_v75 : IVec S227 1) (main_v77 : IVec S228x1x64 1) : IVec S1 1 × IVec S228 1 × IVec S227 1 × IVec S228x1x64 1 × IVec S228x64x228x64 1 × IVec S228x64x228x64 1 :=
  let main_c_17 : IVec S_ 32 := constantI S_ 32 12800#32
  let main_v78 : IVec S228x1x64 32 := broadcastInDim S228x1x64 ![] bcast_S_S228x1x64 main_c_17
  let main_v79 : IVec S228x1x64 1 := cmpi .slt main_arg6 main_v78
  let main_v80 : IVec S228x1x64 1 := andi main_v77 main_v79
  let main_c_18 : IVec S_ 32 := constantI S_ 32 0#32
  let main_v81 : IVec S228x1x64 32 := broadcastInDim S228x1x64 ![] bcast_S_S228x1x64 main_c_18
  let main_v82 : IVec S228x1x64 1 := cmpi .sge main_arg7 main_v81
  let main_v83 : IVec S228x1x64 1 := andi main_v80 main_v82
  let main_c_19 : IVec S_ 32 := constantI S_ 32 12800#32
  let main_v84 : IVec S228x1x64 32 := broadcastInDim S228x1x64 ![] bcast_S_S228x1x64 main_c_19
  let main_v85 : IVec S228x1x64 1 := cmpi .slt main_arg7 main_v84
  let main_v86 : IVec S228x1x64 1 := andi main_v83 main_v85
  let main_v87 : IVec S228x64 32 := iotaInDim S228x64 32 0
  let main_v88 : IVec S228x64 32 := iotaInDim S228x64 32 1
  let main_v89 : IVec S1x1 32 := broadcastInDim S1x1 ![1] bcast_S1_S1x1_1 main_arg0
  let main_v90 : IVec S228x64 32 := broadcastInDim S228x64 ![0, 1] bcast_S1x1_S228x64_0_1 main_v89
  let main_v91 : IVec S228x64 1 := cmpi .slt main_v87 main_v90
  let main_v92 : IVec S228x1 32 := broadcastInDim S228x1 ![0] bcast_S228_S228x1_0 main_arg2
  let main_v93 : IVec S228x64 32 := broadcastInDim S228x64 ![0, 1] bcast_S228x1_S228x64_0_1 main_v92
  let main_v94 : IVec S228x64 1 := cmpi .slt main_v88 main_v93
  let main_v95 : IVec S228x64 1 := andi main_v91 main_v94
  let main_v96 : IVec S228x64 32 := shapeCast S228x64 main_arg6 shapeCasts_S228x1x64_S228x64
  let main_v97 : IVec S228x64 32 := shapeCast S228x64 main_arg7 shapeCasts_S228x1x64_S228x64
  let main_v98 : IVec S228x64x228x64 32 := iotaInDim S228x64x228x64 32 0
  fn_part5 (F := F) main_arg0 main_v48 main_v75 main_v86 main_v95 main_v96 main_v97 main_v98

def fn_part3 {F : FTy → Type} [FloatOps F] (main_arg0 : IVec S1 32) (main_arg1 : IVec S228 32) (main_arg2 : IVec S228 32) (main_arg4 : IVec S228 32) (main_arg5 : IVec S228 32) (main_arg6 : IVec S228x1x64 32) (main_arg7 : IVec S228x1x64 32) (main_v48 : IVec S228 1) (main_v51 : IVec S227 1) (main_v54 : IVec S227 1) (main_v55 : IVec S227 32) : IVec S1 1 × IVec S228 1 × IVec S227 1 × IVec S228x1x64 1 × IVec S228x64x228x64 1 × IVec S228x64x228x64 1 :=
  let main_v56 : IVec S227 32 := (extractStridedSlice S227 ![0] · slices_S228_S227_0) main_arg5
  let main_v57 : IVec S227 1 := cmpi .eq main_v55 main_v56
  let main_v58 : IVec S227 1 := andi main_v51 main_v57
  let main_v59 : IVec S227 32 := (extractStridedSlice S227 ![1] · slices_S228_S227_1) main_arg4
  let main_v60 : IVec S227 32 := (extractStridedSlice S227 ![0] · slices_S228_S227_0) main_arg4
  let main_v61 : IVec S227 1 := cmpi .eq main_v59 main_v60
  let main_v62 : IVec S227 1 := andi main_v58 main_v61
  let main_v63 : IVec S227 1 := ori main_v54 main_v62
  let main_v64 : IVec S227 1 := noti main_v51
  let main_v65 : IVec S227 32 := (extractStridedSlice S227 ![0] · slices_S228_S227_0) main_arg5
  let main_v66 : IVec S227 32 := (extractStridedSlice S227 ![1] · slices_S228_S227_1) main_arg1
  let main_v67 : IVec S227 1 := cmpi .eq main_v65 main_v66
  let main_v68 : IVec S227 1 := andi main_v64 main_v67
  let main_v69 : IVec S227 32 := (extractStridedSlice S227 ![1] · slices_S228_S227_1) main_arg4
  let main_v70 : IVec S227 32 := (extractStridedSlice S227 ![0] · slices_S228_S227_0) main_arg4
  let main_c_15 : IVec S_ 32 := constantI S_ 32 1#32
  let main_v71 : IVec S227 32 := broadcastInDim S227 ![] bcast_S_S227 main_c_15
  let main_v72 : IVec S227 32 := subi main_v71 main_v70
  let main_v73 : IVec S227 1 := cmpi .eq main_v69 main_v72
  let main_v74 : IVec S227 1 := andi main_v68 main_v73
  let main_v75 : IVec S227 1 := ori main_v63 main_v74
  let main_c_16 : IVec S_ 32 := constantI S_ 32 0#32
  let main_v76 : IVec S228x1x64 32 := broadcastInDim S228x1x64 ![] bcast_S_S228x1x64 main_c_16
  let main_v77 : IVec S228x1x64 1 := cmpi .sge main_arg6 main_v76
  fn_part4 (F := F) main_arg0 main_arg2 main_arg6 main_arg7 main_v48 main_v75 main_v77

def fn_part2 {F : FTy → Type} [FloatOps F] (main_arg0 : IVec S1 32) (main_arg1 : IVec S228 32) (main_arg2 : IVec S228 32) (main_arg4 : IVec S228 32) (main_arg5 : IVec S228 32) (main_arg6 : IVec S228x1x64 32) (main_arg7 : IVec S228x1x64 32) (main_v0 : IVec S228 32) (main_v31 : IVec S228 1) (main_v33 : IVec S228 1) (main_v34 : IVec S228 32) : IVec S1 1 × IVec S228 1 × IVec S227 1 × IVec S228x1x64 1 × IVec S228x64x228x64 1 × IVec S228x64x228x64 1 :=
  let main_v35 : IVec S228 1 := cmpi .eq main_arg4 main_v34
  let main_v36 : IVec S228 1 := ori main_v33 main_v35
  let main_v37 : IVec S228 1 := andi main_v31 main_v36
  let main_c_12 : IVec S_ 32 := constantI S_ 32 32#32
  let main_v38 : IVec S228 32 := broadcastInDim S228 ![] bcast_S_S228 main_c_12
  let main_v39 : IVec S228 1 := cmpi .slt main_arg5 main_v38
  let main_v40 : IVec S228 1 := andi main_v37 main_v39
  let main_c_13 : IVec S_ 32 := constantI S_ 32 1#32
  let main_v41 : IVec S1 32 := broadcastInDim S1 ![] bcast_S_S1 main_c_13
  let main_v42 : IVec S1 32 := subi main_arg0 main_v41
  let main_v43 : IVec S228 32 := broadcastInDim S228 ![0] bcast_S1_S228_0 main_v42
  let main_v44 : IVec S228 1 := cmpi .ne main_v0 main_v43
  let main_c_14 : IVec S_ 32 := constantI S_ 32 0#32
  let main_v45 : IVec S228 32 := broadcastInDim S228 ![] bcast_S_S228 main_c_14
  let main_v46 : IVec S228 1 := cmpi .slt main_arg5 main_v45
  let main_v47 : IVec S228 1 := ori main_v44 main_v46
  let main_v48 : IVec S228 1 := andi main_v40 main_v47
  let main_v49 : IVec S227 32 := (extractStridedSlice S227 ![1] · slices_S228_S227_1) main_arg1
  let main_v50 : IVec S227 32 := (extractStridedSlice S227 ![0] · slices_S228_S227_0) main_arg1
  let main_v51 : IVec S227 1 := cmpi .eq main_v49 main_v50
  let main_v52 : IVec S227 32 := (extractStridedSlice S227 ![1] · slices_S228_S227_1) main_v0
  let main_v53 : IVec S227 32 := broadcastInDim S227 ![0] bcast_S1_S227_0 main_arg0
  let main_v54 : IVec S227 1 := cmpi .sge main_v52 main_v53
  let main_v55 : IVec S227 32 := (extractStridedSlice S227 ![1] · slices_S228_S227_1) main_arg5
  fn_part3 (F := F) main_arg0 main_arg1 main_arg2 main_arg4 main_arg5 main_arg6 main_arg7 main_v48 main_v51 main_v54 main_v55

def fn_part1 {F : FTy → Type} [FloatOps F] (main_arg0 : IVec S1 32) (main_arg1 : IVec S228 32) (main_arg2 : IVec S228 32) (main_arg3 : IVec S228 32) (main_arg4 : IVec S228 32) (main_arg5 : IVec S228 32) (main_arg6 : IVec S228x1x64 32) (main_arg7 : IVec S228x1x64 32) (main_v0 : IVec S228 32) (main_v16 : IVec S228 1) (main_c_5 : IVec S_ 32) : IVec S1 1 × IVec S228 1 × IVec S227 1 × IVec S228x1x64 1 × IVec S228x64x228x64 1 × IVec S228x64x228x64 1 :=
  let main_v17 : IVec S228 32 := broadcastInDim S228 ![] bcast_S_S228 main_c_5
  let main_v18 : IVec S228 1 := cmpi .eq main_arg3 main_v17
  let main_c_6 : IVec S_ 32 := constantI S_ 32 1#32
  let main_v19 : IVec S228 32 := broadcastInDim S228 ![] bcast_S_S228 main_c_6
  let main_v20 : IVec S228 1 := cmpi .eq main_arg3 main_v19
  let main_c_7 : IVec S_ 32 := constantI S_ 32 32#32
  let main_v21 : IVec S228 32 := broadcastInDim S228 ![] bcast_S_S228 main_c_7
  let main_v22 : IVec S228 1 := cmpi .sle main_arg2 main_v21
  let main_v23 : IVec S228 1 := andi main_v20 main_v22
  let main_v24 : IVec S228 1 := ori main_v18 main_v23
  let main_v25 : IVec S228 1 := andi main_v16 main_v24
  let main_c_8 : IVec S_ 32 := constantI S_ 32 0#32
  let main_v26 : IVec S228 32 := broadcastInDim S228 ![] bcast_S_S228 main_c_8
  let main_v27 : IVec S228 1 := cmpi .eq main_arg4 main_v26
  let main_c_9 : IVec S_ 32 := constantI S_ 32 1#32
  let main_v28 : IVec S228 32 := broadcastInDim S228 ![] bcast_S_S228 main_c_9
  let main_v29 : IVec S228 1 := cmpi .eq main_arg4 main_v28
  let main_v30 : IVec S228 1 := ori main_v27 main_v29
  let main_v31 : IVec S228 1 := andi main_v25 main_v30
  let main_c_10 : IVec S_ 32 := constantI S_ 32 0#32
  let main_v32 : IVec S228 32 := broadcastInDim S228 ![] bcast_S_S228 main_c_10
  let main_v33 : IVec S228 1 := cmpi .sgt main_v0 main_v32
  let main_c_11 : IVec S_ 32 := constantI S_ 32 0#32
  let main_v34 : IVec S228 32 := broadcastInDim S228 ![] bcast_S_S228 main_c_11
  fn_part2 (F := F) main_arg0 main_arg1 main_arg2 main_arg4 main_arg5 main_arg6 main_arg7 main_v0 main_v31 main_v33 main_v34

def fn {F : FTy → Type} [FloatOps F] (main_arg0 : IVec S1 32) (main_arg1 : IVec S228 32) (main_arg2 : IVec S228 32) (main_arg3 : IVec S228 32) (main_arg4 : IVec S228 32) (main_arg5 : IVec S228 32) (main_arg6 : IVec S228x1x64 32) (main_arg7 : IVec S228x1x64 32) (main_arg8 : FVec F S102400x1024 .f32) (main_arg9 : FVec F S32x1024x2048 .f32) (main_arg10 : FVec F S32x2048 .f32) (main_arg11 : FVec F S32x1024x1024 .f32) (main_arg12 : FVec F S32x1024 .f32) : IVec S1 1 × IVec S228 1 × IVec S227 1 × IVec S228x1x64 1 × IVec S228x64x228x64 1 × IVec S228x64x228x64 1 :=
  let main_v0 : IVec S228 32 := iotaInDim S228 32 0
  let main_c : IVec S_ 32 := constantI S_ 32 0#32
  let main_v1 : IVec S228 32 := broadcastInDim S228 ![] bcast_S_S228 main_c
  let main_v2 : IVec S228 1 := cmpi .sge main_arg1 main_v1
  let main_c_0 : IVec S_ 32 := constantI S_ 32 32#32
  let main_v3 : IVec S228 32 := broadcastInDim S228 ![] bcast_S_S228 main_c_0
  let main_v4 : IVec S228 1 := cmpi .slt main_arg1 main_v3
  let main_v5 : IVec S228 1 := andi main_v2 main_v4
  let main_c_1 : IVec S_ 32 := constantI S_ 32 0#32
  let main_v6 : IVec S228 32 := broadcastInDim S228 ![] bcast_S_S228 main_c_1
  let main_v7 : IVec S228 1 := cmpi .sge main_arg2 main_v6
  let main_v8 : IVec S228 1 := andi main_v5 main_v7
  let main_c_2 : IVec S_ 32 := constantI S_ 32 64#32
  let main_v9 : IVec S228 32 := broadcastInDim S228 ![] bcast_S_S228 main_c_2
  let main_v10 : IVec S228 1 := cmpi .sle main_arg2 main_v9
  let main_v11 : IVec S228 1 := andi main_v8 main_v10
  let main_c_3 : IVec S_ 32 := constantI S_ 32 7#32
  let main_v12 : IVec S228 32 := broadcastInDim S228 ![] bcast_S_S228 main_c_3
  let main_v13 : IVec S228 32 := andi main_arg2 main_v12
  let main_c_4 : IVec S_ 32 := constantI S_ 32 0#32
  let main_v14 : IVec S228 32 := broadcastInDim S228 ![] bcast_S_S228 main_c_4
  let main_v15 : IVec S228 1 := cmpi .eq main_v13 main_v14
  let main_v16 : IVec S228 1 := andi main_v11 main_v15
  let main_c_5 : IVec S_ 32 := constantI S_ 32 0#32
  fn_part1 (F := F) main_arg0 main_arg1 main_arg2 main_arg3 main_arg4 main_arg5 main_arg6 main_arg7 main_v0 main_v16 main_c_5
-- ==== Kernel.lean ====
abbrev S1 : Shape := ⟨1, ![1]⟩
abbrev S228 : Shape := ⟨1, ![228]⟩
abbrev S228x1x64 : Shape := ⟨3, ![228, 1, 64]⟩
abbrev S102400x1024 : Shape := ⟨2, ![102400, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S1x1x64 : Shape := ⟨3, ![1, 1, 64]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2x512x1024 : Shape := ⟨3, ![2, 512, 1024]⟩
abbrev S2 : Shape := ⟨1, ![2]⟩
abbrev S1x1x1 : Shape := ⟨3, ![1, 1, 1]⟩
abbrev S_ : Shape := ⟨0, ![]⟩
abbrev S1x8x1024 : Shape := ⟨3, ![1, 8, 1024]⟩
abbrev S8x1024 : Shape := ⟨2, ![8, 1024]⟩
abbrev S1x1024x2048 : Shape := ⟨3, ![1, 1024, 2048]⟩
abbrev S1x1024x1024 : Shape := ⟨3, ![1, 1024, 1024]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩
abbrev S512x2048 : Shape := ⟨2, ![512, 2048]⟩

abbrev nBuf : Space → Nat
  | .hbm => 10
  | .vmem => 10
  | .smem => 12
  | _ => 0

abbrev bufTy : (tb : Table) → Fin (tcTables nBuf tb) → BufTy
  | .hbm, ⟨0, _⟩ => ⟨S228x1x64, .i32⟩
  | .hbm, ⟨1, _⟩ => ⟨S228x1x64, .i32⟩
  | .hbm, ⟨2, _⟩ => ⟨S102400x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S32x1x2048, .f32⟩
  | .hbm, ⟨8, _⟩ => ⟨S32x1x1024, .f32⟩
  | .hbm, ⟨9, _⟩ => ⟨S102400x1024, .f32⟩
  | .local _ .vmem, ⟨0, _⟩ => ⟨S1x1x2048, .f32⟩
  | .local _ .vmem, ⟨1, _⟩ => ⟨S1x1x2048, .f32⟩
  | .local _ .vmem, ⟨2, _⟩ => ⟨S1x1x1024, .f32⟩
  | .local _ .vmem, ⟨3, _⟩ => ⟨S1x1x1024, .f32⟩
  | .local _ .vmem, ⟨4, _⟩ => ⟨S2x1024x2048, .f32⟩
  | .local _ .vmem, ⟨5, _⟩ => ⟨S2x1024x1024, .f32⟩
  | .local _ .vmem, ⟨6, _⟩ => ⟨S1024x2048, .bf16⟩
  | .local _ .vmem, ⟨7, _⟩ => ⟨S1024x1024, .bf16⟩
  | .local _ .vmem, ⟨8, _⟩ => ⟨S2x512x1024, .f32⟩
  | .local _ .vmem, ⟨9, _⟩ => ⟨S2x512x1024, .f32⟩
  | .local _ .smem, ⟨0, _⟩ => ⟨S1, .i32⟩
  | .local _ .smem, ⟨1, _⟩ => ⟨S228, .i32⟩
  | .local _ .smem, ⟨2, _⟩ => ⟨S228, .i32⟩
  | .local _ .smem, ⟨3, _⟩ => ⟨S228, .i32⟩
  | .local _ .smem, ⟨4, _⟩ => ⟨S228, .i32⟩
  | .local _ .smem, ⟨5, _⟩ => ⟨S228, .i32⟩
  | .local _ .smem, ⟨6, _⟩ => ⟨S1x1x64, .i32⟩
  | .local _ .smem, ⟨7, _⟩ => ⟨S1x1x64, .i32⟩
  | .local _ .smem, ⟨8, _⟩ => ⟨S1x1x64, .i32⟩
  | .local _ .smem, ⟨9, _⟩ => ⟨S1x1x64, .i32⟩
  | .local _ .smem, ⟨10, _⟩ => ⟨S1x1x64, .i32⟩
  | .local _ .smem, ⟨11, _⟩ => ⟨S1x1x64, .i32⟩
  | _, _ => ⟨S228x1x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_arg9 : Ref sig .tc := ⟨.hbm, 3, rfl⟩
abbrev main_arg10 : Ref sig .tc := ⟨.hbm, 4, rfl⟩
abbrev main_arg11 : Ref sig .tc := ⟨.hbm, 5, rfl⟩
abbrev main_arg12 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_stg0_0 : Ref sig .tc := ⟨.smem, 6, rfl⟩
abbrev cc0_stg0_1 : Ref sig .tc := ⟨.smem, 7, rfl⟩
abbrev cc0_stg1_0 : Ref sig .tc := ⟨.smem, 8, rfl⟩
abbrev cc0_stg1_1 : Ref sig .tc := ⟨.smem, 9, rfl⟩
abbrev cc0_stg2_0 : Ref sig .tc := ⟨.smem, 10, rfl⟩
abbrev cc0_stg2_1 : Ref sig .tc := ⟨.smem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![228], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32_0 : BitVec 32 := 1#32
  let v7 : BitVec 32 := Scalar.subi arg0 c1_i32_0
  let c0_i32_1 : BitVec 32 := 0#32
  let v8 : BitVec 32 := Scalar.maxsi v7 c0_i32_1
  let v9 : Index := Scalar.indexCast v8
  ![v9.toNat]
def k0_cond1 (i : grid0.Coords) : BitVec 1 :=
  let arg0 : BitVec 32 := BitVec.ofNat 32 (i 0).val
  let c0_i32_2 : BitVec 32 := 0#32
  let v15 : BitVec 1 := Scalar.cmpi .eq arg0 c0_i32_2
  let v16 : BitVec 32 := Scalar.extui v15
  let c0_i32_3 : BitVec 32 := 0#32
  let v17 : BitVec 1 := Scalar.cmpi .ne v16 c0_i32_3
  v17

def k0_mult1 (v21 : BitVec 32) : BitVec 32 :=
  let c8_i32 : BitVec 32 := 8#32
  let v22 : BitVec 32 := Scalar.muli v21 c8_i32
  v22

def k0_off3 (v21 : BitVec 32) : Fin 2 → Nat :=
  let c8_i32 : BitVec 32 := 8#32
  let v22 : BitVec 32 := Scalar.muli v21 c8_i32
  let v23 : BitVec 32 := v22
  let c0_i32_12 : BitVec 32 := 0#32
  ![v23.toNat, 0]

def k0_chk1 (i : grid0.Coords) (v21 : BitVec 32) : Prop :=
  (∀ (k0_h1 : k0_cond1 i = 1#1), 8 ∣ (k0_mult1 v21).toNat) ∧
  (∀ (k0_h1 : k0_cond1 i = 1#1), ∀ a, (k0_off3 v21) a + S8x1024.size a ≤ S102400x1024.size a)
theorem k0_mult1_dvd : ∀ (i : grid0.Coords) (v21 : BitVec 32) (k0_hw1 : k0_chk1 i v21), ∀ (k0_h1 : k0_cond1 i = 1#1), 8 ∣ (k0_mult1 v21).toNat := fun i v21 k0_hw1 k0_h1 => k0_hw1.1 k0_h1
theorem k0_off3_inb : ∀ (i : grid0.Coords) (v21 : BitVec 32) (k0_hw1 : k0_chk1 i v21), ∀ (k0_h1 : k0_cond1 i = 1#1), ∀ a, (k0_off3 v21) a + S8x1024.size a ≤ S102400x1024.size a := fun i v21 k0_hw1 k0_h1 => k0_hw1.2 k0_h1

def k0_mult2 (v29 : BitVec 32) : BitVec 32 :=
  let c8_i32_15 : BitVec 32 := 8#32
  let v30 : BitVec 32 := Scalar.muli v29 c8_i32_15
  v30

def k0_off4 (v29 : BitVec 32) : Fin 2 → Nat :=
  let c8_i32_15 : BitVec 32 := 8#32
  let v30 : BitVec 32 := Scalar.muli v29 c8_i32_15
  let v31 : BitVec 32 := v30
  let c0_i32_20 : BitVec 32 := 0#32
  ![v31.toNat, 0]

def k0_chk2 (i : grid0.Coords) (v29 : BitVec 32) : Prop :=
  (∀ (k0_h1 : k0_cond1 i = 1#1), 8 ∣ (k0_mult2 v29).toNat) ∧
  (∀ (k0_h1 : k0_cond1 i = 1#1), ∀ a, (k0_off4 v29) a + S8x1024.size a ≤ S102400x1024.size a)
theorem k0_mult2_dvd : ∀ (i : grid0.Coords) (v29 : BitVec 32) (k0_hw2 : k0_chk2 i v29), ∀ (k0_h1 : k0_cond1 i = 1#1), 8 ∣ (k0_mult2 v29).toNat := fun i v29 k0_hw2 k0_h1 => k0_hw2.1 k0_h1
theorem k0_off4_inb : ∀ (i : grid0.Coords) (v29 : BitVec 32) (k0_hw2 : k0_chk2 i v29), ∀ (k0_h1 : k0_cond1 i = 1#1), ∀ a, (k0_off4 v29) a + S8x1024.size a ≤ S102400x1024.size a := fun i v29 k0_hw2 k0_h1 => k0_hw2.2 k0_h1

def k0_mult3 (v37 : BitVec 32) : BitVec 32 :=
  let c8_i32_23 : BitVec 32 := 8#32
  let v38 : BitVec 32 := Scalar.muli v37 c8_i32_23
  v38

def k0_off5 (v37 : BitVec 32) : Fin 2 → Nat :=
  let c8_i32_23 : BitVec 32 := 8#32
  let v38 : BitVec 32 := Scalar.muli v37 c8_i32_23
  let v39 : BitVec 32 := v38
  let c0_i32_27 : BitVec 32 := 0#32
  ![v39.toNat, 0]

def k0_chk3 (i : grid0.Coords) (v37 : BitVec 32) : Prop :=
  (∀ (k0_h1 : k0_cond1 i = 1#1), 8 ∣ (k0_mult3 v37).toNat) ∧
  (∀ (k0_h1 : k0_cond1 i = 1#1), ∀ a, (k0_off5 v37) a + S8x1024.size a ≤ S102400x1024.size a)
theorem k0_mult3_dvd : ∀ (i : grid0.Coords) (v37 : BitVec 32) (k0_hw3 : k0_chk3 i v37), ∀ (k0_h1 : k0_cond1 i = 1#1), 8 ∣ (k0_mult3 v37).toNat := fun i v37 k0_hw3 k0_h1 => k0_hw3.1 k0_h1
theorem k0_off5_inb : ∀ (i : grid0.Coords) (v37 : BitVec 32) (k0_hw3 : k0_chk3 i v37), ∀ (k0_h1 : k0_cond1 i = 1#1), ∀ a, (k0_off5 v37) a + S8x1024.size a ≤ S102400x1024.size a := fun i v37 k0_hw3 k0_h1 => k0_hw3.2 k0_h1

def k0_mult4 (v45 : BitVec 32) : BitVec 32 :=
  let c8_i32_30 : BitVec 32 := 8#32
  let v46 : BitVec 32 := Scalar.muli v45 c8_i32_30
  v46

def k0_off6 (v45 : BitVec 32) : Fin 2 → Nat :=
  let c8_i32_30 : BitVec 32 := 8#32
  let v46 : BitVec 32 := Scalar.muli v45 c8_i32_30
  let v47 : BitVec 32 := v46
  let c0_i32_34 : BitVec 32 := 0#32
  ![v47.toNat, 0]

def k0_chk4 (i : grid0.Coords) (v45 : BitVec 32) : Prop :=
  (∀ (k0_h1 : k0_cond1 i = 1#1), 8 ∣ (k0_mult4 v45).toNat) ∧
  (∀ (k0_h1 : k0_cond1 i = 1#1), ∀ a, (k0_off6 v45) a + S8x1024.size a ≤ S102400x1024.size a)
theorem k0_mult4_dvd : ∀ (i : grid0.Coords) (v45 : BitVec 32) (k0_hw4 : k0_chk4 i v45), ∀ (k0_h1 : k0_cond1 i = 1#1), 8 ∣ (k0_mult4 v45).toNat := fun i v45 k0_hw4 k0_h1 => k0_hw4.1 k0_h1
theorem k0_off6_inb : ∀ (i : grid0.Coords) (v45 : BitVec 32) (k0_hw4 : k0_chk4 i v45), ∀ (k0_h1 : k0_cond1 i = 1#1), ∀ a, (k0_off6 v45) a + S8x1024.size a ≤ S102400x1024.size a := fun i v45 k0_hw4 k0_h1 => k0_hw4.2 k0_h1

def k0_mult5 (v53 : BitVec 32) : BitVec 32 :=
  let c8_i32_37 : BitVec 32 := 8#32
  let v54 : BitVec 32 := Scalar.muli v53 c8_i32_37
  v54

def k0_off7 (v53 : BitVec 32) : Fin 2 → Nat :=
  let c8_i32_37 : BitVec 32 := 8#32
  let v54 : BitVec 32 := Scalar.muli v53 c8_i32_37
  let v55 : BitVec 32 := v54
  let c0_i32_41 : BitVec 32 := 0#32
  ![v55.toNat, 0]

def k0_chk5 (i : grid0.Coords) (v53 : BitVec 32) : Prop :=
  (∀ (k0_h1 : k0_cond1 i = 1#1), 8 ∣ (k0_mult5 v53).toNat) ∧
  (∀ (k0_h1 : k0_cond1 i = 1#1), ∀ a, (k0_off7 v53) a + S8x1024.size a ≤ S102400x1024.size a)
theorem k0_mult5_dvd : ∀ (i : grid0.Coords) (v53 : BitVec 32) (k0_hw5 : k0_chk5 i v53), ∀ (k0_h1 : k0_cond1 i = 1#1), 8 ∣ (k0_mult5 v53).toNat := fun i v53 k0_hw5 k0_h1 => k0_hw5.1 k0_h1
theorem k0_off7_inb : ∀ (i : grid0.Coords) (v53 : BitVec 32) (k0_hw5 : k0_chk5 i v53), ∀ (k0_h1 : k0_cond1 i = 1#1), ∀ a, (k0_off7 v53) a + S8x1024.size a ≤ S102400x1024.size a := fun i v53 k0_hw5 k0_h1 => k0_hw5.2 k0_h1

def k0_mult6 (v61 : BitVec 32) : BitVec 32 :=
  let c8_i32_44 : BitVec 32 := 8#32
  let v62 : BitVec 32 := Scalar.muli v61 c8_i32_44
  v62

def k0_off8 (v61 : BitVec 32) : Fin 2 → Nat :=
  let c8_i32_44 : BitVec 32 := 8#32
  let v62 : BitVec 32 := Scalar.muli v61 c8_i32_44
  let v63 : BitVec 32 := v62
  let c0_i32_48 : BitVec 32 := 0#32
  ![v63.toNat, 0]

def k0_chk6 (i : grid0.Coords) (v61 : BitVec 32) : Prop :=
  (∀ (k0_h1 : k0_cond1 i = 1#1), 8 ∣ (k0_mult6 v61).toNat) ∧
  (∀ (k0_h1 : k0_cond1 i = 1#1), ∀ a, (k0_off8 v61) a + S8x1024.size a ≤ S102400x1024.size a)
theorem k0_mult6_dvd : ∀ (i : grid0.Coords) (v61 : BitVec 32) (k0_hw6 : k0_chk6 i v61), ∀ (k0_h1 : k0_cond1 i = 1#1), 8 ∣ (k0_mult6 v61).toNat := fun i v61 k0_hw6 k0_h1 => k0_hw6.1 k0_h1
theorem k0_off8_inb : ∀ (i : grid0.Coords) (v61 : BitVec 32) (k0_hw6 : k0_chk6 i v61), ∀ (k0_h1 : k0_cond1 i = 1#1), ∀ a, (k0_off8 v61) a + S8x1024.size a ≤ S102400x1024.size a := fun i v61 k0_hw6 k0_h1 => k0_hw6.2 k0_h1

def k0_mult7 (v69 : BitVec 32) : BitVec 32 :=
  let c8_i32_51 : BitVec 32 := 8#32
  let v70 : BitVec 32 := Scalar.muli v69 c8_i32_51
  v70

def k0_off9 (v69 : BitVec 32) : Fin 2 → Nat :=
  let c8_i32_51 : BitVec 32 := 8#32
  let v70 : BitVec 32 := Scalar.muli v69 c8_i32_51
  let v71 : BitVec 32 := v70
  let c0_i32_55 : BitVec 32 := 0#32
  ![v71.toNat, 0]

def k0_chk7 (i : grid0.Coords) (v69 : BitVec 32) : Prop :=
  (∀ (k0_h1 : k0_cond1 i = 1#1), 8 ∣ (k0_mult7 v69).toNat) ∧
  (∀ (k0_h1 : k0_cond1 i = 1#1), ∀ a, (k0_off9 v69) a + S8x1024.size a ≤ S102400x1024.size a)
theorem k0_mult7_dvd : ∀ (i : grid0.Coords) (v69 : BitVec 32) (k0_hw7 : k0_chk7 i v69), ∀ (k0_h1 : k0_cond1 i = 1#1), 8 ∣ (k0_mult7 v69).toNat := fun i v69 k0_hw7 k0_h1 => k0_hw7.1 k0_h1
theorem k0_off9_inb : ∀ (i : grid0.Coords) (v69 : BitVec 32) (k0_hw7 : k0_chk7 i v69), ∀ (k0_h1 : k0_cond1 i = 1#1), ∀ a, (k0_off9 v69) a + S8x1024.size a ≤ S102400x1024.size a := fun i v69 k0_hw7 k0_h1 => k0_hw7.2 k0_h1

def k0_mult8 (v77 : BitVec 32) : BitVec 32 :=
  let c8_i32_58 : BitVec 32 := 8#32
  let v78 : BitVec 32 := Scalar.muli v77 c8_i32_58
  v78

def k0_off10 (v77 : BitVec 32) : Fin 2 → Nat :=
  let c8_i32_58 : BitVec 32 := 8#32
  let v78 : BitVec 32 := Scalar.muli v77 c8_i32_58
  let v79 : BitVec 32 := v78
  let c0_i32_62 : BitVec 32 := 0#32
  ![v79.toNat, 0]

def k0_chk8 (i : grid0.Coords) (v77 : BitVec 32) : Prop :=
  (∀ (k0_h1 : k0_cond1 i = 1#1), 8 ∣ (k0_mult8 v77).toNat) ∧
  (∀ (k0_h1 : k0_cond1 i = 1#1), ∀ a, (k0_off10 v77) a + S8x1024.size a ≤ S102400x1024.size a)
theorem k0_mult8_dvd : ∀ (i : grid0.Coords) (v77 : BitVec 32) (k0_hw8 : k0_chk8 i v77), ∀ (k0_h1 : k0_cond1 i = 1#1), 8 ∣ (k0_mult8 v77).toNat := fun i v77 k0_hw8 k0_h1 => k0_hw8.1 k0_h1
theorem k0_off10_inb : ∀ (i : grid0.Coords) (v77 : BitVec 32) (k0_hw8 : k0_chk8 i v77), ∀ (k0_h1 : k0_cond1 i = 1#1), ∀ a, (k0_off10 v77) a + S8x1024.size a ≤ S102400x1024.size a := fun i v77 k0_hw8 k0_h1 => k0_hw8.2 k0_h1

def k0_mult9 (v85 : BitVec 32) : BitVec 32 :=
  let c8_i32_65 : BitVec 32 := 8#32
  let v86 : BitVec 32 := Scalar.muli v85 c8_i32_65
  v86

def k0_off11 (v85 : BitVec 32) : Fin 2 → Nat :=
  let c8_i32_65 : BitVec 32 := 8#32
  let v86 : BitVec 32 := Scalar.muli v85 c8_i32_65
  let v87 : BitVec 32 := v86
  let c0_i32_69 : BitVec 32 := 0#32
  ![v87.toNat, 0]

def k0_chk9 (i : grid0.Coords) (v85 : BitVec 32) : Prop :=
  (∀ (k0_h1 : k0_cond1 i = 1#1), 8 ∣ (k0_mult9 v85).toNat) ∧
  (∀ (k0_h1 : k0_cond1 i = 1#1), ∀ a, (k0_off11 v85) a + S8x1024.size a ≤ S102400x1024.size a)
theorem k0_mult9_dvd : ∀ (i : grid0.Coords) (v85 : BitVec 32) (k0_hw9 : k0_chk9 i v85), ∀ (k0_h1 : k0_cond1 i = 1#1), 8 ∣ (k0_mult9 v85).toNat := fun i v85 k0_hw9 k0_h1 => k0_hw9.1 k0_h1
theorem k0_off11_inb : ∀ (i : grid0.Coords) (v85 : BitVec 32) (k0_hw9 : k0_chk9 i v85), ∀ (k0_h1 : k0_cond1 i = 1#1), ∀ a, (k0_off11 v85) a + S8x1024.size a ≤ S102400x1024.size a := fun i v85 k0_hw9 k0_h1 => k0_hw9.2 k0_h1

def k0_mult10 (v93 : BitVec 32) : BitVec 32 :=
  let c8_i32_72 : BitVec 32 := 8#32
  let v94 : BitVec 32 := Scalar.muli v93 c8_i32_72
  v94

def k0_off12 (v93 : BitVec 32) : Fin 2 → Nat :=
  let c8_i32_72 : BitVec 32 := 8#32
  let v94 : BitVec 32 := Scalar.muli v93 c8_i32_72
  let v95 : BitVec 32 := v94
  let c0_i32_76 : BitVec 32 := 0#32
  ![v95.toNat, 0]

def k0_chk10 (i : grid0.Coords) (v93 : BitVec 32) : Prop :=
  (∀ (k0_h1 : k0_cond1 i = 1#1), 8 ∣ (k0_mult10 v93).toNat) ∧
  (∀ (k0_h1 : k0_cond1 i = 1#1), ∀ a, (k0_off12 v93) a + S8x1024.size a ≤ S102400x1024.size a)
theorem k0_mult10_dvd : ∀ (i : grid0.Coords) (v93 : BitVec 32) (k0_hw10 : k0_chk10 i v93), ∀ (k0_h1 : k0_cond1 i = 1#1), 8 ∣ (k0_mult10 v93).toNat := fun i v93 k0_hw10 k0_h1 => k0_hw10.1 k0_h1
theorem k0_off12_inb : ∀ (i : grid0.Coords) (v93 : BitVec 32) (k0_hw10 : k0_chk10 i v93), ∀ (k0_h1 : k0_cond1 i = 1#1), ∀ a, (k0_off12 v93) a + S8x1024.size a ≤ S102400x1024.size a := fun i v93 k0_hw10 k0_h1 => k0_hw10.2 k0_h1

def k0_mult11 (v101 : BitVec 32) : BitVec 32 :=
  let c8_i32_79 : BitVec 32 := 8#32
  let v102 : BitVec 32 := Scalar.muli v101 c8_i32_79
  v102

def k0_off13 (v101 : BitVec 32) : Fin 2 → Nat :=
  let c8_i32_79 : BitVec 32 := 8#32
  let v102 : BitVec 32 := Scalar.muli v101 c8_i32_79
  let v103 : BitVec 32 := v102
  let c0_i32_83 : BitVec 32 := 0#32
  ![v103.toNat, 0]

def k0_chk11 (i : grid0.Coords) (v101 : BitVec 32) : Prop :=
  (∀ (k0_h1 : k0_cond1 i = 1#1), 8 ∣ (k0_mult11 v101).toNat) ∧
  (∀ (k0_h1 : k0_cond1 i = 1#1), ∀ a, (k0_off13 v101) a + S8x1024.size a ≤ S102400x1024.size a)
theorem k0_mult11_dvd : ∀ (i : grid0.Coords) (v101 : BitVec 32) (k0_hw11 : k0_chk11 i v101), ∀ (k0_h1 : k0_cond1 i = 1#1), 8 ∣ (k0_mult11 v101).toNat := fun i v101 k0_hw11 k0_h1 => k0_hw11.1 k0_h1
theorem k0_off13_inb : ∀ (i : grid0.Coords) (v101 : BitVec 32) (k0_hw11 : k0_chk11 i v101), ∀ (k0_h1 : k0_cond1 i = 1#1), ∀ a, (k0_off13 v101) a + S8x1024.size a ≤ S102400x1024.size a := fun i v101 k0_hw11 k0_h1 => k0_hw11.2 k0_h1

def k0_mult12 (v109 : BitVec 32) : BitVec 32 :=
  let c8_i32_86 : BitVec 32 := 8#32
  let v110 : BitVec 32 := Scalar.muli v109 c8_i32_86
  v110

def k0_off14 (v109 : BitVec 32) : Fin 2 → Nat :=
  let c8_i32_86 : BitVec 32 := 8#32
  let v110 : BitVec 32 := Scalar.muli v109 c8_i32_86
  let v111 : BitVec 32 := v110
  let c0_i32_90 : BitVec 32 := 0#32
  ![v111.toNat, 0]

def k0_chk12 (i : grid0.Coords) (v109 : BitVec 32) : Prop :=
  (∀ (k0_h1 : k0_cond1 i = 1#1), 8 ∣ (k0_mult12 v109).toNat) ∧
  (∀ (k0_h1 : k0_cond1 i = 1#1), ∀ a, (k0_off14 v109) a + S8x1024.size a ≤ S102400x1024.size a)
theorem k0_mult12_dvd : ∀ (i : grid0.Coords) (v109 : BitVec 32) (k0_hw12 : k0_chk12 i v109), ∀ (k0_h1 : k0_cond1 i = 1#1), 8 ∣ (k0_mult12 v109).toNat := fun i v109 k0_hw12 k0_h1 => k0_hw12.1 k0_h1
theorem k0_off14_inb : ∀ (i : grid0.Coords) (v109 : BitVec 32) (k0_hw12 : k0_chk12 i v109), ∀ (k0_h1 : k0_cond1 i = 1#1), ∀ a, (k0_off14 v109) a + S8x1024.size a ≤ S102400x1024.size a := fun i v109 k0_hw12 k0_h1 => k0_hw12.2 k0_h1

def k0_mult13 (v117 : BitVec 32) : BitVec 32 :=
  let c8_i32_93 : BitVec 32 := 8#32
  let v118 : BitVec 32 := Scalar.muli v117 c8_i32_93
  v118

def k0_off15 (v117 : BitVec 32) : Fin 2 → Nat :=
  let c8_i32_93 : BitVec 32 := 8#32
  let v118 : BitVec 32 := Scalar.muli v117 c8_i32_93
  let v119 : BitVec 32 := v118
  let c0_i32_97 : BitVec 32 := 0#32
  ![v119.toNat, 0]

def k0_chk13 (i : grid0.Coords) (v117 : BitVec 32) : Prop :=
  (∀ (k0_h1 : k0_cond1 i = 1#1), 8 ∣ (k0_mult13 v117).toNat) ∧
  (∀ (k0_h1 : k0_cond1 i = 1#1), ∀ a, (k0_off15 v117) a + S8x1024.size a ≤ S102400x1024.size a)
theorem k0_mult13_dvd : ∀ (i : grid0.Coords) (v117 : BitVec 32) (k0_hw13 : k0_chk13 i v117), ∀ (k0_h1 : k0_cond1 i = 1#1), 8 ∣ (k0_mult13 v117).toNat := fun i v117 k0_hw13 k0_h1 => k0_hw13.1 k0_h1
theorem k0_off15_inb : ∀ (i : grid0.Coords) (v117 : BitVec 32) (k0_hw13 : k0_chk13 i v117), ∀ (k0_h1 : k0_cond1 i = 1#1), ∀ a, (k0_off15 v117) a + S8x1024.size a ≤ S102400x1024.size a := fun i v117 k0_hw13 k0_h1 => k0_hw13.2 k0_h1

def k0_mult14 (v125 : BitVec 32) : BitVec 32 :=
  let c8_i32_100 : BitVec 32 := 8#32
  let v126 : BitVec 32 := Scalar.muli v125 c8_i32_100
  v126

def k0_off16 (v125 : BitVec 32) : Fin 2 → Nat :=
  let c8_i32_100 : BitVec 32 := 8#32
  let v126 : BitVec 32 := Scalar.muli v125 c8_i32_100
  let v127 : BitVec 32 := v126
  let c0_i32_104 : BitVec 32 := 0#32
  ![v127.toNat, 0]

def k0_chk14 (i : grid0.Coords) (v125 : BitVec 32) : Prop :=
  (∀ (k0_h1 : k0_cond1 i = 1#1), 8 ∣ (k0_mult14 v125).toNat) ∧
  (∀ (k0_h1 : k0_cond1 i = 1#1), ∀ a, (k0_off16 v125) a + S8x1024.size a ≤ S102400x1024.size a)
theorem k0_mult14_dvd : ∀ (i : grid0.Coords) (v125 : BitVec 32) (k0_hw14 : k0_chk14 i v125), ∀ (k0_h1 : k0_cond1 i = 1#1), 8 ∣ (k0_mult14 v125).toNat := fun i v125 k0_hw14 k0_h1 => k0_hw14.1 k0_h1
theorem k0_off16_inb : ∀ (i : grid0.Coords) (v125 : BitVec 32) (k0_hw14 : k0_chk14 i v125), ∀ (k0_h1 : k0_cond1 i = 1#1), ∀ a, (k0_off16 v125) a + S8x1024.size a ≤ S102400x1024.size a := fun i v125 k0_hw14 k0_h1 => k0_hw14.2 k0_h1

def k0_mult15 (v133 : BitVec 32) : BitVec 32 :=
  let c8_i32_107 : BitVec 32 := 8#32
  let v134 : BitVec 32 := Scalar.muli v133 c8_i32_107
  v134

def k0_off17 (v133 : BitVec 32) : Fin 2 → Nat :=
  let c8_i32_107 : BitVec 32 := 8#32
  let v134 : BitVec 32 := Scalar.muli v133 c8_i32_107
  let v135 : BitVec 32 := v134
  let c0_i32_111 : BitVec 32 := 0#32
  ![v135.toNat, 0]

def k0_chk15 (i : grid0.Coords) (v133 : BitVec 32) : Prop :=
  (∀ (k0_h1 : k0_cond1 i = 1#1), 8 ∣ (k0_mult15 v133).toNat) ∧
  (∀ (k0_h1 : k0_cond1 i = 1#1), ∀ a, (k0_off17 v133) a + S8x1024.size a ≤ S102400x1024.size a)
theorem k0_mult15_dvd : ∀ (i : grid0.Coords) (v133 : BitVec 32) (k0_hw15 : k0_chk15 i v133), ∀ (k0_h1 : k0_cond1 i = 1#1), 8 ∣ (k0_mult15 v133).toNat := fun i v133 k0_hw15 k0_h1 => k0_hw15.1 k0_h1
theorem k0_off17_inb : ∀ (i : grid0.Coords) (v133 : BitVec 32) (k0_hw15 : k0_chk15 i v133), ∀ (k0_h1 : k0_cond1 i = 1#1), ∀ a, (k0_off17 v133) a + S8x1024.size a ≤ S102400x1024.size a := fun i v133 k0_hw15 k0_h1 => k0_hw15.2 k0_h1

def k0_mult16 (v141 : BitVec 32) : BitVec 32 :=
  let c8_i32_114 : BitVec 32 := 8#32
  let v142 : BitVec 32 := Scalar.muli v141 c8_i32_114
  v142

def k0_off18 (v141 : BitVec 32) : Fin 2 → Nat :=
  let c8_i32_114 : BitVec 32 := 8#32
  let v142 : BitVec 32 := Scalar.muli v141 c8_i32_114
  let v143 : BitVec 32 := v142
  let c0_i32_118 : BitVec 32 := 0#32
  ![v143.toNat, 0]

def k0_chk16 (i : grid0.Coords) (v141 : BitVec 32) : Prop :=
  (∀ (k0_h1 : k0_cond1 i = 1#1), 8 ∣ (k0_mult16 v141).toNat) ∧
  (∀ (k0_h1 : k0_cond1 i = 1#1), ∀ a, (k0_off18 v141) a + S8x1024.size a ≤ S102400x1024.size a)
theorem k0_mult16_dvd : ∀ (i : grid0.Coords) (v141 : BitVec 32) (k0_hw16 : k0_chk16 i v141), ∀ (k0_h1 : k0_cond1 i = 1#1), 8 ∣ (k0_mult16 v141).toNat := fun i v141 k0_hw16 k0_h1 => k0_hw16.1 k0_h1
theorem k0_off18_inb : ∀ (i : grid0.Coords) (v141 : BitVec 32) (k0_hw16 : k0_chk16 i v141), ∀ (k0_h1 : k0_cond1 i = 1#1), ∀ a, (k0_off18 v141) a + S8x1024.size a ≤ S102400x1024.size a := fun i v141 k0_hw16 k0_h1 => k0_hw16.2 k0_h1

def k0_mult17 (v149 : BitVec 32) : BitVec 32 :=
  let c8_i32_121 : BitVec 32 := 8#32
  let v150 : BitVec 32 := Scalar.muli v149 c8_i32_121
  v150

def k0_off19 (v149 : BitVec 32) : Fin 2 → Nat :=
  let c8_i32_121 : BitVec 32 := 8#32
  let v150 : BitVec 32 := Scalar.muli v149 c8_i32_121
  let v151 : BitVec 32 := v150
  let c0_i32_125 : BitVec 32 := 0#32
  ![v151.toNat, 0]

def k0_chk17 (i : grid0.Coords) (v149 : BitVec 32) : Prop :=
  (∀ (k0_h1 : k0_cond1 i = 1#1), 8 ∣ (k0_mult17 v149).toNat) ∧
  (∀ (k0_h1 : k0_cond1 i = 1#1), ∀ a, (k0_off19 v149) a + S8x1024.size a ≤ S102400x1024.size a)
theorem k0_mult17_dvd : ∀ (i : grid0.Coords) (v149 : BitVec 32) (k0_hw17 : k0_chk17 i v149), ∀ (k0_h1 : k0_cond1 i = 1#1), 8 ∣ (k0_mult17 v149).toNat := fun i v149 k0_hw17 k0_h1 => k0_hw17.1 k0_h1
theorem k0_off19_inb : ∀ (i : grid0.Coords) (v149 : BitVec 32) (k0_hw17 : k0_chk17 i v149), ∀ (k0_h1 : k0_cond1 i = 1#1), ∀ a, (k0_off19 v149) a + S8x1024.size a ≤ S102400x1024.size a := fun i v149 k0_hw17 k0_h1 => k0_hw17.2 k0_h1

def k0_mult18 (v157 : BitVec 32) : BitVec 32 :=
  let c8_i32_128 : BitVec 32 := 8#32
  let v158 : BitVec 32 := Scalar.muli v157 c8_i32_128
  v158

def k0_off20 (v157 : BitVec 32) : Fin 2 → Nat :=
  let c8_i32_128 : BitVec 32 := 8#32
  let v158 : BitVec 32 := Scalar.muli v157 c8_i32_128
  let v159 : BitVec 32 := v158
  let c0_i32_132 : BitVec 32 := 0#32
  ![v159.toNat, 0]

def k0_chk18 (i : grid0.Coords) (v157 : BitVec 32) : Prop :=
  (∀ (k0_h1 : k0_cond1 i = 1#1), 8 ∣ (k0_mult18 v157).toNat) ∧
  (∀ (k0_h1 : k0_cond1 i = 1#1), ∀ a, (k0_off20 v157) a + S8x1024.size a ≤ S102400x1024.size a)
theorem k0_mult18_dvd : ∀ (i : grid0.Coords) (v157 : BitVec 32) (k0_hw18 : k0_chk18 i v157), ∀ (k0_h1 : k0_cond1 i = 1#1), 8 ∣ (k0_mult18 v157).toNat := fun i v157 k0_hw18 k0_h1 => k0_hw18.1 k0_h1
theorem k0_off20_inb : ∀ (i : grid0.Coords) (v157 : BitVec 32) (k0_hw18 : k0_chk18 i v157), ∀ (k0_h1 : k0_cond1 i = 1#1), ∀ a, (k0_off20 v157) a + S8x1024.size a ≤ S102400x1024.size a := fun i v157 k0_hw18 k0_h1 => k0_hw18.2 k0_h1

def k0_mult19 (v165 : BitVec 32) : BitVec 32 :=
  let c8_i32_135 : BitVec 32 := 8#32
  let v166 : BitVec 32 := Scalar.muli v165 c8_i32_135
  v166

def k0_off21 (v165 : BitVec 32) : Fin 2 → Nat :=
  let c8_i32_135 : BitVec 32 := 8#32
  let v166 : BitVec 32 := Scalar.muli v165 c8_i32_135
  let v167 : BitVec 32 := v166
  let c0_i32_139 : BitVec 32 := 0#32
  ![v167.toNat, 0]

def k0_chk19 (i : grid0.Coords) (v165 : BitVec 32) : Prop :=
  (∀ (k0_h1 : k0_cond1 i = 1#1), 8 ∣ (k0_mult19 v165).toNat) ∧
  (∀ (k0_h1 : k0_cond1 i = 1#1), ∀ a, (k0_off21 v165) a + S8x1024.size a ≤ S102400x1024.size a)
theorem k0_mult19_dvd : ∀ (i : grid0.Coords) (v165 : BitVec 32) (k0_hw19 : k0_chk19 i v165), ∀ (k0_h1 : k0_cond1 i = 1#1), 8 ∣ (k0_mult19 v165).toNat := fun i v165 k0_hw19 k0_h1 => k0_hw19.1 k0_h1
theorem k0_off21_inb : ∀ (i : grid0.Coords) (v165 : BitVec 32) (k0_hw19 : k0_chk19 i v165), ∀ (k0_h1 : k0_cond1 i = 1#1), ∀ a, (k0_off21 v165) a + S8x1024.size a ≤ S102400x1024.size a := fun i v165 k0_hw19 k0_h1 => k0_hw19.2 k0_h1

def k0_mult20 (v173 : BitVec 32) : BitVec 32 :=
  let c8_i32_142 : BitVec 32 := 8#32
  let v174 : BitVec 32 := Scalar.muli v173 c8_i32_142
  v174

def k0_off22 (v173 : BitVec 32) : Fin 2 → Nat :=
  let c8_i32_142 : BitVec 32 := 8#32
  let v174 : BitVec 32 := Scalar.muli v173 c8_i32_142
  let v175 : BitVec 32 := v174
  let c0_i32_146 : BitVec 32 := 0#32
  ![v175.toNat, 0]

def k0_chk20 (i : grid0.Coords) (v173 : BitVec 32) : Prop :=
  (∀ (k0_h1 : k0_cond1 i = 1#1), 8 ∣ (k0_mult20 v173).toNat) ∧
  (∀ (k0_h1 : k0_cond1 i = 1#1), ∀ a, (k0_off22 v173) a + S8x1024.size a ≤ S102400x1024.size a)
theorem k0_mult20_dvd : ∀ (i : grid0.Coords) (v173 : BitVec 32) (k0_hw20 : k0_chk20 i v173), ∀ (k0_h1 : k0_cond1 i = 1#1), 8 ∣ (k0_mult20 v173).toNat := fun i v173 k0_hw20 k0_h1 => k0_hw20.1 k0_h1
theorem k0_off22_inb : ∀ (i : grid0.Coords) (v173 : BitVec 32) (k0_hw20 : k0_chk20 i v173), ∀ (k0_h1 : k0_cond1 i = 1#1), ∀ a, (k0_off22 v173) a + S8x1024.size a ≤ S102400x1024.size a := fun i v173 k0_hw20 k0_h1 => k0_hw20.2 k0_h1

def k0_mult21 (v181 : BitVec 32) : BitVec 32 :=
  let c8_i32_149 : BitVec 32 := 8#32
  let v182 : BitVec 32 := Scalar.muli v181 c8_i32_149
  v182

def k0_off23 (v181 : BitVec 32) : Fin 2 → Nat :=
  let c8_i32_149 : BitVec 32 := 8#32
  let v182 : BitVec 32 := Scalar.muli v181 c8_i32_149
  let v183 : BitVec 32 := v182
  let c0_i32_153 : BitVec 32 := 0#32
  ![v183.toNat, 0]

def k0_chk21 (i : grid0.Coords) (v181 : BitVec 32) : Prop :=
  (∀ (k0_h1 : k0_cond1 i = 1#1), 8 ∣ (k0_mult21 v181).toNat) ∧
  (∀ (k0_h1 : k0_cond1 i = 1#1), ∀ a, (k0_off23 v181) a + S8x1024.size a ≤ S102400x1024.size a)
theorem k0_mult21_dvd : ∀ (i : grid0.Coords) (v181 : BitVec 32) (k0_hw21 : k0_chk21 i v181), ∀ (k0_h1 : k0_cond1 i = 1#1), 8 ∣ (k0_mult21 v181).toNat := fun i v181 k0_hw21 k0_h1 => k0_hw21.1 k0_h1
theorem k0_off23_inb : ∀ (i : grid0.Coords) (v181 : BitVec 32) (k0_hw21 : k0_chk21 i v181), ∀ (k0_h1 : k0_cond1 i = 1#1), ∀ a, (k0_off23 v181) a + S8x1024.size a ≤ S102400x1024.size a := fun i v181 k0_hw21 k0_h1 => k0_hw21.2 k0_h1

def k0_mult22 (v189 : BitVec 32) : BitVec 32 :=
  let c8_i32_156 : BitVec 32 := 8#32
  let v190 : BitVec 32 := Scalar.muli v189 c8_i32_156
  v190

def k0_off24 (v189 : BitVec 32) : Fin 2 → Nat :=
  let c8_i32_156 : BitVec 32 := 8#32
  let v190 : BitVec 32 := Scalar.muli v189 c8_i32_156
  let v191 : BitVec 32 := v190
  let c0_i32_160 : BitVec 32 := 0#32
  ![v191.toNat, 0]

def k0_chk22 (i : grid0.Coords) (v189 : BitVec 32) : Prop :=
  (∀ (k0_h1 : k0_cond1 i = 1#1), 8 ∣ (k0_mult22 v189).toNat) ∧
  (∀ (k0_h1 : k0_cond1 i = 1#1), ∀ a, (k0_off24 v189) a + S8x1024.size a ≤ S102400x1024.size a)
theorem k0_mult22_dvd : ∀ (i : grid0.Coords) (v189 : BitVec 32) (k0_hw22 : k0_chk22 i v189), ∀ (k0_h1 : k0_cond1 i = 1#1), 8 ∣ (k0_mult22 v189).toNat := fun i v189 k0_hw22 k0_h1 => k0_hw22.1 k0_h1
theorem k0_off24_inb : ∀ (i : grid0.Coords) (v189 : BitVec 32) (k0_hw22 : k0_chk22 i v189), ∀ (k0_h1 : k0_cond1 i = 1#1), ∀ a, (k0_off24 v189) a + S8x1024.size a ≤ S102400x1024.size a := fun i v189 k0_hw22 k0_h1 => k0_hw22.2 k0_h1

def k0_mult23 (v197 : BitVec 32) : BitVec 32 :=
  let c8_i32_163 : BitVec 32 := 8#32
  let v198 : BitVec 32 := Scalar.muli v197 c8_i32_163
  v198

def k0_off25 (v197 : BitVec 32) : Fin 2 → Nat :=
  let c8_i32_163 : BitVec 32 := 8#32
  let v198 : BitVec 32 := Scalar.muli v197 c8_i32_163
  let v199 : BitVec 32 := v198
  let c0_i32_167 : BitVec 32 := 0#32
  ![v199.toNat, 0]

def k0_chk23 (i : grid0.Coords) (v197 : BitVec 32) : Prop :=
  (∀ (k0_h1 : k0_cond1 i = 1#1), 8 ∣ (k0_mult23 v197).toNat) ∧
  (∀ (k0_h1 : k0_cond1 i = 1#1), ∀ a, (k0_off25 v197) a + S8x1024.size a ≤ S102400x1024.size a)
theorem k0_mult23_dvd : ∀ (i : grid0.Coords) (v197 : BitVec 32) (k0_hw23 : k0_chk23 i v197), ∀ (k0_h1 : k0_cond1 i = 1#1), 8 ∣ (k0_mult23 v197).toNat := fun i v197 k0_hw23 k0_h1 => k0_hw23.1 k0_h1
theorem k0_off25_inb : ∀ (i : grid0.Coords) (v197 : BitVec 32) (k0_hw23 : k0_chk23 i v197), ∀ (k0_h1 : k0_cond1 i = 1#1), ∀ a, (k0_off25 v197) a + S8x1024.size a ≤ S102400x1024.size a := fun i v197 k0_hw23 k0_h1 => k0_hw23.2 k0_h1

def k0_mult24 (v205 : BitVec 32) : BitVec 32 :=
  let c8_i32_170 : BitVec 32 := 8#32
  let v206 : BitVec 32 := Scalar.muli v205 c8_i32_170
  v206

def k0_off26 (v205 : BitVec 32) : Fin 2 → Nat :=
  let c8_i32_170 : BitVec 32 := 8#32
  let v206 : BitVec 32 := Scalar.muli v205 c8_i32_170
  let v207 : BitVec 32 := v206
  let c0_i32_174 : BitVec 32 := 0#32
  ![v207.toNat, 0]

def k0_chk24 (i : grid0.Coords) (v205 : BitVec 32) : Prop :=
  (∀ (k0_h1 : k0_cond1 i = 1#1), 8 ∣ (k0_mult24 v205).toNat) ∧
  (∀ (k0_h1 : k0_cond1 i = 1#1), ∀ a, (k0_off26 v205) a + S8x1024.size a ≤ S102400x1024.size a)
theorem k0_mult24_dvd : ∀ (i : grid0.Coords) (v205 : BitVec 32) (k0_hw24 : k0_chk24 i v205), ∀ (k0_h1 : k0_cond1 i = 1#1), 8 ∣ (k0_mult24 v205).toNat := fun i v205 k0_hw24 k0_h1 => k0_hw24.1 k0_h1
theorem k0_off26_inb : ∀ (i : grid0.Coords) (v205 : BitVec 32) (k0_hw24 : k0_chk24 i v205), ∀ (k0_h1 : k0_cond1 i = 1#1), ∀ a, (k0_off26 v205) a + S8x1024.size a ≤ S102400x1024.size a := fun i v205 k0_hw24 k0_h1 => k0_hw24.2 k0_h1

def k0_mult25 (v213 : BitVec 32) : BitVec 32 :=
  let c8_i32_177 : BitVec 32 := 8#32
  let v214 : BitVec 32 := Scalar.muli v213 c8_i32_177
  v214

def k0_off27 (v213 : BitVec 32) : Fin 2 → Nat :=
  let c8_i32_177 : BitVec 32 := 8#32
  let v214 : BitVec 32 := Scalar.muli v213 c8_i32_177
  let v215 : BitVec 32 := v214
  let c0_i32_181 : BitVec 32 := 0#32
  ![v215.toNat, 0]

def k0_chk25 (i : grid0.Coords) (v213 : BitVec 32) : Prop :=
  (∀ (k0_h1 : k0_cond1 i = 1#1), 8 ∣ (k0_mult25 v213).toNat) ∧
  (∀ (k0_h1 : k0_cond1 i = 1#1), ∀ a, (k0_off27 v213) a + S8x1024.size a ≤ S102400x1024.size a)
theorem k0_mult25_dvd : ∀ (i : grid0.Coords) (v213 : BitVec 32) (k0_hw25 : k0_chk25 i v213), ∀ (k0_h1 : k0_cond1 i = 1#1), 8 ∣ (k0_mult25 v213).toNat := fun i v213 k0_hw25 k0_h1 => k0_hw25.1 k0_h1
theorem k0_off27_inb : ∀ (i : grid0.Coords) (v213 : BitVec 32) (k0_hw25 : k0_chk25 i v213), ∀ (k0_h1 : k0_cond1 i = 1#1), ∀ a, (k0_off27 v213) a + S8x1024.size a ≤ S102400x1024.size a := fun i v213 k0_hw25 k0_h1 => k0_hw25.2 k0_h1

def k0_mult26 (v221 : BitVec 32) : BitVec 32 :=
  let c8_i32_184 : BitVec 32 := 8#32
  let v222 : BitVec 32 := Scalar.muli v221 c8_i32_184
  v222

def k0_off28 (v221 : BitVec 32) : Fin 2 → Nat :=
  let c8_i32_184 : BitVec 32 := 8#32
  let v222 : BitVec 32 := Scalar.muli v221 c8_i32_184
  let v223 : BitVec 32 := v222
  let c0_i32_188 : BitVec 32 := 0#32
  ![v223.toNat, 0]

def k0_chk26 (i : grid0.Coords) (v221 : BitVec 32) : Prop :=
  (∀ (k0_h1 : k0_cond1 i = 1#1), 8 ∣ (k0_mult26 v221).toNat) ∧
  (∀ (k0_h1 : k0_cond1 i = 1#1), ∀ a, (k0_off28 v221) a + S8x1024.size a ≤ S102400x1024.size a)
theorem k0_mult26_dvd : ∀ (i : grid0.Coords) (v221 : BitVec 32) (k0_hw26 : k0_chk26 i v221), ∀ (k0_h1 : k0_cond1 i = 1#1), 8 ∣ (k0_mult26 v221).toNat := fun i v221 k0_hw26 k0_h1 => k0_hw26.1 k0_h1
theorem k0_off28_inb : ∀ (i : grid0.Coords) (v221 : BitVec 32) (k0_hw26 : k0_chk26 i v221), ∀ (k0_h1 : k0_cond1 i = 1#1), ∀ a, (k0_off28 v221) a + S8x1024.size a ≤ S102400x1024.size a := fun i v221 k0_hw26 k0_h1 => k0_hw26.2 k0_h1

def k0_mult27 (v229 : BitVec 32) : BitVec 32 :=
  let c8_i32_191 : BitVec 32 := 8#32
  let v230 : BitVec 32 := Scalar.muli v229 c8_i32_191
  v230

def k0_off29 (v229 : BitVec 32) : Fin 2 → Nat :=
  let c8_i32_191 : BitVec 32 := 8#32
  let v230 : BitVec 32 := Scalar.muli v229 c8_i32_191
  let v231 : BitVec 32 := v230
  let c0_i32_195 : BitVec 32 := 0#32
  ![v231.toNat, 0]

def k0_chk27 (i : grid0.Coords) (v229 : BitVec 32) : Prop :=
  (∀ (k0_h1 : k0_cond1 i = 1#1), 8 ∣ (k0_mult27 v229).toNat) ∧
  (∀ (k0_h1 : k0_cond1 i = 1#1), ∀ a, (k0_off29 v229) a + S8x1024.size a ≤ S102400x1024.size a)
theorem k0_mult27_dvd : ∀ (i : grid0.Coords) (v229 : BitVec 32) (k0_hw27 : k0_chk27 i v229), ∀ (k0_h1 : k0_cond1 i = 1#1), 8 ∣ (k0_mult27 v229).toNat := fun i v229 k0_hw27 k0_h1 => k0_hw27.1 k0_h1
theorem k0_off29_inb : ∀ (i : grid0.Coords) (v229 : BitVec 32) (k0_hw27 : k0_chk27 i v229), ∀ (k0_h1 : k0_cond1 i = 1#1), ∀ a, (k0_off29 v229) a + S8x1024.size a ≤ S102400x1024.size a := fun i v229 k0_hw27 k0_h1 => k0_hw27.2 k0_h1

def k0_mult28 (v237 : BitVec 32) : BitVec 32 :=
  let c8_i32_198 : BitVec 32 := 8#32
  let v238 : BitVec 32 := Scalar.muli v237 c8_i32_198
  v238

def k0_off30 (v237 : BitVec 32) : Fin 2 → Nat :=
  let c8_i32_198 : BitVec 32 := 8#32
  let v238 : BitVec 32 := Scalar.muli v237 c8_i32_198
  let v239 : BitVec 32 := v238
  let c0_i32_202 : BitVec 32 := 0#32
  ![v239.toNat, 0]

def k0_chk28 (i : grid0.Coords) (v237 : BitVec 32) : Prop :=
  (∀ (k0_h1 : k0_cond1 i = 1#1), 8 ∣ (k0_mult28 v237).toNat) ∧
  (∀ (k0_h1 : k0_cond1 i = 1#1), ∀ a, (k0_off30 v237) a + S8x1024.size a ≤ S102400x1024.size a)
theorem k0_mult28_dvd : ∀ (i : grid0.Coords) (v237 : BitVec 32) (k0_hw28 : k0_chk28 i v237), ∀ (k0_h1 : k0_cond1 i = 1#1), 8 ∣ (k0_mult28 v237).toNat := fun i v237 k0_hw28 k0_h1 => k0_hw28.1 k0_h1
theorem k0_off30_inb : ∀ (i : grid0.Coords) (v237 : BitVec 32) (k0_hw28 : k0_chk28 i v237), ∀ (k0_h1 : k0_cond1 i = 1#1), ∀ a, (k0_off30 v237) a + S8x1024.size a ≤ S102400x1024.size a := fun i v237 k0_hw28 k0_h1 => k0_hw28.2 k0_h1

def k0_mult29 (v245 : BitVec 32) : BitVec 32 :=
  let c8_i32_205 : BitVec 32 := 8#32
  let v246 : BitVec 32 := Scalar.muli v245 c8_i32_205
  v246

def k0_off31 (v245 : BitVec 32) : Fin 2 → Nat :=
  let c8_i32_205 : BitVec 32 := 8#32
  let v246 : BitVec 32 := Scalar.muli v245 c8_i32_205
  let v247 : BitVec 32 := v246
  let c0_i32_209 : BitVec 32 := 0#32
  ![v247.toNat, 0]

def k0_chk29 (i : grid0.Coords) (v245 : BitVec 32) : Prop :=
  (∀ (k0_h1 : k0_cond1 i = 1#1), 8 ∣ (k0_mult29 v245).toNat) ∧
  (∀ (k0_h1 : k0_cond1 i = 1#1), ∀ a, (k0_off31 v245) a + S8x1024.size a ≤ S102400x1024.size a)
theorem k0_mult29_dvd : ∀ (i : grid0.Coords) (v245 : BitVec 32) (k0_hw29 : k0_chk29 i v245), ∀ (k0_h1 : k0_cond1 i = 1#1), 8 ∣ (k0_mult29 v245).toNat := fun i v245 k0_hw29 k0_h1 => k0_hw29.1 k0_h1
theorem k0_off31_inb : ∀ (i : grid0.Coords) (v245 : BitVec 32) (k0_hw29 : k0_chk29 i v245), ∀ (k0_h1 : k0_cond1 i = 1#1), ∀ a, (k0_off31 v245) a + S8x1024.size a ≤ S102400x1024.size a := fun i v245 k0_hw29 k0_h1 => k0_hw29.2 k0_h1

def k0_mult30 (v253 : BitVec 32) : BitVec 32 :=
  let c8_i32_212 : BitVec 32 := 8#32
  let v254 : BitVec 32 := Scalar.muli v253 c8_i32_212
  v254

def k0_off32 (v253 : BitVec 32) : Fin 2 → Nat :=
  let c8_i32_212 : BitVec 32 := 8#32
  let v254 : BitVec 32 := Scalar.muli v253 c8_i32_212
  let v255 : BitVec 32 := v254
  let c0_i32_216 : BitVec 32 := 0#32
  ![v255.toNat, 0]

def k0_chk30 (i : grid0.Coords) (v253 : BitVec 32) : Prop :=
  (∀ (k0_h1 : k0_cond1 i = 1#1), 8 ∣ (k0_mult30 v253).toNat) ∧
  (∀ (k0_h1 : k0_cond1 i = 1#1), ∀ a, (k0_off32 v253) a + S8x1024.size a ≤ S102400x1024.size a)
theorem k0_mult30_dvd : ∀ (i : grid0.Coords) (v253 : BitVec 32) (k0_hw30 : k0_chk30 i v253), ∀ (k0_h1 : k0_cond1 i = 1#1), 8 ∣ (k0_mult30 v253).toNat := fun i v253 k0_hw30 k0_h1 => k0_hw30.1 k0_h1
theorem k0_off32_inb : ∀ (i : grid0.Coords) (v253 : BitVec 32) (k0_hw30 : k0_chk30 i v253), ∀ (k0_h1 : k0_cond1 i = 1#1), ∀ a, (k0_off32 v253) a + S8x1024.size a ≤ S102400x1024.size a := fun i v253 k0_hw30 k0_h1 => k0_hw30.2 k0_h1

def k0_mult31 (v261 : BitVec 32) : BitVec 32 :=
  let c8_i32_219 : BitVec 32 := 8#32
  let v262 : BitVec 32 := Scalar.muli v261 c8_i32_219
  v262

def k0_off33 (v261 : BitVec 32) : Fin 2 → Nat :=
  let c8_i32_219 : BitVec 32 := 8#32
  let v262 : BitVec 32 := Scalar.muli v261 c8_i32_219
  let v263 : BitVec 32 := v262
  let c0_i32_223 : BitVec 32 := 0#32
  ![v263.toNat, 0]

def k0_chk31 (i : grid0.Coords) (v261 : BitVec 32) : Prop :=
  (∀ (k0_h1 : k0_cond1 i = 1#1), 8 ∣ (k0_mult31 v261).toNat) ∧
  (∀ (k0_h1 : k0_cond1 i = 1#1), ∀ a, (k0_off33 v261) a + S8x1024.size a ≤ S102400x1024.size a)
theorem k0_mult31_dvd : ∀ (i : grid0.Coords) (v261 : BitVec 32) (k0_hw31 : k0_chk31 i v261), ∀ (k0_h1 : k0_cond1 i = 1#1), 8 ∣ (k0_mult31 v261).toNat := fun i v261 k0_hw31 k0_h1 => k0_hw31.1 k0_h1
theorem k0_off33_inb : ∀ (i : grid0.Coords) (v261 : BitVec 32) (k0_hw31 : k0_chk31 i v261), ∀ (k0_h1 : k0_cond1 i = 1#1), ∀ a, (k0_off33 v261) a + S8x1024.size a ≤ S102400x1024.size a := fun i v261 k0_hw31 k0_h1 => k0_hw31.2 k0_h1

def k0_mult32 (v269 : BitVec 32) : BitVec 32 :=
  let c8_i32_226 : BitVec 32 := 8#32
  let v270 : BitVec 32 := Scalar.muli v269 c8_i32_226
  v270

def k0_off34 (v269 : BitVec 32) : Fin 2 → Nat :=
  let c8_i32_226 : BitVec 32 := 8#32
  let v270 : BitVec 32 := Scalar.muli v269 c8_i32_226
  let v271 : BitVec 32 := v270
  let c0_i32_230 : BitVec 32 := 0#32
  ![v271.toNat, 0]

def k0_chk32 (i : grid0.Coords) (v269 : BitVec 32) : Prop :=
  (∀ (k0_h1 : k0_cond1 i = 1#1), 8 ∣ (k0_mult32 v269).toNat) ∧
  (∀ (k0_h1 : k0_cond1 i = 1#1), ∀ a, (k0_off34 v269) a + S8x1024.size a ≤ S102400x1024.size a)
theorem k0_mult32_dvd : ∀ (i : grid0.Coords) (v269 : BitVec 32) (k0_hw32 : k0_chk32 i v269), ∀ (k0_h1 : k0_cond1 i = 1#1), 8 ∣ (k0_mult32 v269).toNat := fun i v269 k0_hw32 k0_h1 => k0_hw32.1 k0_h1
theorem k0_off34_inb : ∀ (i : grid0.Coords) (v269 : BitVec 32) (k0_hw32 : k0_chk32 i v269), ∀ (k0_h1 : k0_cond1 i = 1#1), ∀ a, (k0_off34 v269) a + S8x1024.size a ≤ S102400x1024.size a := fun i v269 k0_hw32 k0_h1 => k0_hw32.2 k0_h1

def k0_mult33 (v277 : BitVec 32) : BitVec 32 :=
  let c8_i32_233 : BitVec 32 := 8#32
  let v278 : BitVec 32 := Scalar.muli v277 c8_i32_233
  v278

def k0_off35 (v277 : BitVec 32) : Fin 2 → Nat :=
  let c8_i32_233 : BitVec 32 := 8#32
  let v278 : BitVec 32 := Scalar.muli v277 c8_i32_233
  let v279 : BitVec 32 := v278
  let c0_i32_237 : BitVec 32 := 0#32
  ![v279.toNat, 0]

def k0_chk33 (i : grid0.Coords) (v277 : BitVec 32) : Prop :=
  (∀ (k0_h1 : k0_cond1 i = 1#1), 8 ∣ (k0_mult33 v277).toNat) ∧
  (∀ (k0_h1 : k0_cond1 i = 1#1), ∀ a, (k0_off35 v277) a + S8x1024.size a ≤ S102400x1024.size a)
theorem k0_mult33_dvd : ∀ (i : grid0.Coords) (v277 : BitVec 32) (k0_hw33 : k0_chk33 i v277), ∀ (k0_h1 : k0_cond1 i = 1#1), 8 ∣ (k0_mult33 v277).toNat := fun i v277 k0_hw33 k0_h1 => k0_hw33.1 k0_h1
theorem k0_off35_inb : ∀ (i : grid0.Coords) (v277 : BitVec 32) (k0_hw33 : k0_chk33 i v277), ∀ (k0_h1 : k0_cond1 i = 1#1), ∀ a, (k0_off35 v277) a + S8x1024.size a ≤ S102400x1024.size a := fun i v277 k0_hw33 k0_h1 => k0_hw33.2 k0_h1

def k0_mult34 (v285 : BitVec 32) : BitVec 32 :=
  let c8_i32_240 : BitVec 32 := 8#32
  let v286 : BitVec 32 := Scalar.muli v285 c8_i32_240
  v286

def k0_off36 (v285 : BitVec 32) : Fin 2 → Nat :=
  let c8_i32_240 : BitVec 32 := 8#32
  let v286 : BitVec 32 := Scalar.muli v285 c8_i32_240
  let v287 : BitVec 32 := v286
  let c0_i32_244 : BitVec 32 := 0#32
  ![v287.toNat, 0]

def k0_chk34 (i : grid0.Coords) (v285 : BitVec 32) : Prop :=
  (∀ (k0_h1 : k0_cond1 i = 1#1), 8 ∣ (k0_mult34 v285).toNat) ∧
  (∀ (k0_h1 : k0_cond1 i = 1#1), ∀ a, (k0_off36 v285) a + S8x1024.size a ≤ S102400x1024.size a)
theorem k0_mult34_dvd : ∀ (i : grid0.Coords) (v285 : BitVec 32) (k0_hw34 : k0_chk34 i v285), ∀ (k0_h1 : k0_cond1 i = 1#1), 8 ∣ (k0_mult34 v285).toNat := fun i v285 k0_hw34 k0_h1 => k0_hw34.1 k0_h1
theorem k0_off36_inb : ∀ (i : grid0.Coords) (v285 : BitVec 32) (k0_hw34 : k0_chk34 i v285), ∀ (k0_h1 : k0_cond1 i = 1#1), ∀ a, (k0_off36 v285) a + S8x1024.size a ≤ S102400x1024.size a := fun i v285 k0_hw34 k0_h1 => k0_hw34.2 k0_h1

def k0_mult35 (v293 : BitVec 32) : BitVec 32 :=
  let c8_i32_247 : BitVec 32 := 8#32
  let v294 : BitVec 32 := Scalar.muli v293 c8_i32_247
  v294

def k0_off37 (v293 : BitVec 32) : Fin 2 → Nat :=
  let c8_i32_247 : BitVec 32 := 8#32
  let v294 : BitVec 32 := Scalar.muli v293 c8_i32_247
  let v295 : BitVec 32 := v294
  let c0_i32_251 : BitVec 32 := 0#32
  ![v295.toNat, 0]

def k0_chk35 (i : grid0.Coords) (v293 : BitVec 32) : Prop :=
  (∀ (k0_h1 : k0_cond1 i = 1#1), 8 ∣ (k0_mult35 v293).toNat) ∧
  (∀ (k0_h1 : k0_cond1 i = 1#1), ∀ a, (k0_off37 v293) a + S8x1024.size a ≤ S102400x1024.size a)
theorem k0_mult35_dvd : ∀ (i : grid0.Coords) (v293 : BitVec 32) (k0_hw35 : k0_chk35 i v293), ∀ (k0_h1 : k0_cond1 i = 1#1), 8 ∣ (k0_mult35 v293).toNat := fun i v293 k0_hw35 k0_h1 => k0_hw35.1 k0_h1
theorem k0_off37_inb : ∀ (i : grid0.Coords) (v293 : BitVec 32) (k0_hw35 : k0_chk35 i v293), ∀ (k0_h1 : k0_cond1 i = 1#1), ∀ a, (k0_off37 v293) a + S8x1024.size a ≤ S102400x1024.size a := fun i v293 k0_hw35 k0_h1 => k0_hw35.2 k0_h1

def k0_mult36 (v301 : BitVec 32) : BitVec 32 :=
  let c8_i32_254 : BitVec 32 := 8#32
  let v302 : BitVec 32 := Scalar.muli v301 c8_i32_254
  v302

def k0_off38 (v301 : BitVec 32) : Fin 2 → Nat :=
  let c8_i32_254 : BitVec 32 := 8#32
  let v302 : BitVec 32 := Scalar.muli v301 c8_i32_254
  let v303 : BitVec 32 := v302
  let c0_i32_258 : BitVec 32 := 0#32
  ![v303.toNat, 0]

def k0_chk36 (i : grid0.Coords) (v301 : BitVec 32) : Prop :=
  (∀ (k0_h1 : k0_cond1 i = 1#1), 8 ∣ (k0_mult36 v301).toNat) ∧
  (∀ (k0_h1 : k0_cond1 i = 1#1), ∀ a, (k0_off38 v301) a + S8x1024.size a ≤ S102400x1024.size a)
theorem k0_mult36_dvd : ∀ (i : grid0.Coords) (v301 : BitVec 32) (k0_hw36 : k0_chk36 i v301), ∀ (k0_h1 : k0_cond1 i = 1#1), 8 ∣ (k0_mult36 v301).toNat := fun i v301 k0_hw36 k0_h1 => k0_hw36.1 k0_h1
theorem k0_off38_inb : ∀ (i : grid0.Coords) (v301 : BitVec 32) (k0_hw36 : k0_chk36 i v301), ∀ (k0_h1 : k0_cond1 i = 1#1), ∀ a, (k0_off38 v301) a + S8x1024.size a ≤ S102400x1024.size a := fun i v301 k0_hw36 k0_h1 => k0_hw36.2 k0_h1

def k0_mult37 (v309 : BitVec 32) : BitVec 32 :=
  let c8_i32_261 : BitVec 32 := 8#32
  let v310 : BitVec 32 := Scalar.muli v309 c8_i32_261
  v310

def k0_off39 (v309 : BitVec 32) : Fin 2 → Nat :=
  let c8_i32_261 : BitVec 32 := 8#32
  let v310 : BitVec 32 := Scalar.muli v309 c8_i32_261
  let v311 : BitVec 32 := v310
  let c0_i32_265 : BitVec 32 := 0#32
  ![v311.toNat, 0]

def k0_chk37 (i : grid0.Coords) (v309 : BitVec 32) : Prop :=
  (∀ (k0_h1 : k0_cond1 i = 1#1), 8 ∣ (k0_mult37 v309).toNat) ∧
  (∀ (k0_h1 : k0_cond1 i = 1#1), ∀ a, (k0_off39 v309) a + S8x1024.size a ≤ S102400x1024.size a)
theorem k0_mult37_dvd : ∀ (i : grid0.Coords) (v309 : BitVec 32) (k0_hw37 : k0_chk37 i v309), ∀ (k0_h1 : k0_cond1 i = 1#1), 8 ∣ (k0_mult37 v309).toNat := fun i v309 k0_hw37 k0_h1 => k0_hw37.1 k0_h1
theorem k0_off39_inb : ∀ (i : grid0.Coords) (v309 : BitVec 32) (k0_hw37 : k0_chk37 i v309), ∀ (k0_h1 : k0_cond1 i = 1#1), ∀ a, (k0_off39 v309) a + S8x1024.size a ≤ S102400x1024.size a := fun i v309 k0_hw37 k0_h1 => k0_hw37.2 k0_h1

def k0_mult38 (v317 : BitVec 32) : BitVec 32 :=
  let c8_i32_268 : BitVec 32 := 8#32
  let v318 : BitVec 32 := Scalar.muli v317 c8_i32_268
  v318

def k0_off40 (v317 : BitVec 32) : Fin 2 → Nat :=
  let c8_i32_268 : BitVec 32 := 8#32
  let v318 : BitVec 32 := Scalar.muli v317 c8_i32_268
  let v319 : BitVec 32 := v318
  let c0_i32_272 : BitVec 32 := 0#32
  ![v319.toNat, 0]

def k0_chk38 (i : grid0.Coords) (v317 : BitVec 32) : Prop :=
  (∀ (k0_h1 : k0_cond1 i = 1#1), 8 ∣ (k0_mult38 v317).toNat) ∧
  (∀ (k0_h1 : k0_cond1 i = 1#1), ∀ a, (k0_off40 v317) a + S8x1024.size a ≤ S102400x1024.size a)
theorem k0_mult38_dvd : ∀ (i : grid0.Coords) (v317 : BitVec 32) (k0_hw38 : k0_chk38 i v317), ∀ (k0_h1 : k0_cond1 i = 1#1), 8 ∣ (k0_mult38 v317).toNat := fun i v317 k0_hw38 k0_h1 => k0_hw38.1 k0_h1
theorem k0_off40_inb : ∀ (i : grid0.Coords) (v317 : BitVec 32) (k0_hw38 : k0_chk38 i v317), ∀ (k0_h1 : k0_cond1 i = 1#1), ∀ a, (k0_off40 v317) a + S8x1024.size a ≤ S102400x1024.size a := fun i v317 k0_hw38 k0_h1 => k0_hw38.2 k0_h1

def k0_mult39 (v325 : BitVec 32) : BitVec 32 :=
  let c8_i32_275 : BitVec 32 := 8#32
  let v326 : BitVec 32 := Scalar.muli v325 c8_i32_275
  v326

def k0_off41 (v325 : BitVec 32) : Fin 2 → Nat :=
  let c8_i32_275 : BitVec 32 := 8#32
  let v326 : BitVec 32 := Scalar.muli v325 c8_i32_275
  let v327 : BitVec 32 := v326
  let c0_i32_279 : BitVec 32 := 0#32
  ![v327.toNat, 0]

def k0_chk39 (i : grid0.Coords) (v325 : BitVec 32) : Prop :=
  (∀ (k0_h1 : k0_cond1 i = 1#1), 8 ∣ (k0_mult39 v325).toNat) ∧
  (∀ (k0_h1 : k0_cond1 i = 1#1), ∀ a, (k0_off41 v325) a + S8x1024.size a ≤ S102400x1024.size a)
theorem k0_mult39_dvd : ∀ (i : grid0.Coords) (v325 : BitVec 32) (k0_hw39 : k0_chk39 i v325), ∀ (k0_h1 : k0_cond1 i = 1#1), 8 ∣ (k0_mult39 v325).toNat := fun i v325 k0_hw39 k0_h1 => k0_hw39.1 k0_h1
theorem k0_off41_inb : ∀ (i : grid0.Coords) (v325 : BitVec 32) (k0_hw39 : k0_chk39 i v325), ∀ (k0_h1 : k0_cond1 i = 1#1), ∀ a, (k0_off41 v325) a + S8x1024.size a ≤ S102400x1024.size a := fun i v325 k0_hw39 k0_h1 => k0_hw39.2 k0_h1

def k0_mult40 (v333 : BitVec 32) : BitVec 32 :=
  let c8_i32_282 : BitVec 32 := 8#32
  let v334 : BitVec 32 := Scalar.muli v333 c8_i32_282
  v334

def k0_off42 (v333 : BitVec 32) : Fin 2 → Nat :=
  let c8_i32_282 : BitVec 32 := 8#32
  let v334 : BitVec 32 := Scalar.muli v333 c8_i32_282
  let v335 : BitVec 32 := v334
  let c0_i32_286 : BitVec 32 := 0#32
  ![v335.toNat, 0]

def k0_chk40 (i : grid0.Coords) (v333 : BitVec 32) : Prop :=
  (∀ (k0_h1 : k0_cond1 i = 1#1), 8 ∣ (k0_mult40 v333).toNat) ∧
  (∀ (k0_h1 : k0_cond1 i = 1#1), ∀ a, (k0_off42 v333) a + S8x1024.size a ≤ S102400x1024.size a)
theorem k0_mult40_dvd : ∀ (i : grid0.Coords) (v333 : BitVec 32) (k0_hw40 : k0_chk40 i v333), ∀ (k0_h1 : k0_cond1 i = 1#1), 8 ∣ (k0_mult40 v333).toNat := fun i v333 k0_hw40 k0_h1 => k0_hw40.1 k0_h1
theorem k0_off42_inb : ∀ (i : grid0.Coords) (v333 : BitVec 32) (k0_hw40 : k0_chk40 i v333), ∀ (k0_h1 : k0_cond1 i = 1#1), ∀ a, (k0_off42 v333) a + S8x1024.size a ≤ S102400x1024.size a := fun i v333 k0_hw40 k0_h1 => k0_hw40.2 k0_h1

def k0_mult41 (v341 : BitVec 32) : BitVec 32 :=
  let c8_i32_289 : BitVec 32 := 8#32
  let v342 : BitVec 32 := Scalar.muli v341 c8_i32_289
  v342

def k0_off43 (v341 : BitVec 32) : Fin 2 → Nat :=
  let c8_i32_289 : BitVec 32 := 8#32
  let v342 : BitVec 32 := Scalar.muli v341 c8_i32_289
  let v343 : BitVec 32 := v342
  let c0_i32_293 : BitVec 32 := 0#32
  ![v343.toNat, 0]

def k0_chk41 (i : grid0.Coords) (v341 : BitVec 32) : Prop :=
  (∀ (k0_h1 : k0_cond1 i = 1#1), 8 ∣ (k0_mult41 v341).toNat) ∧
  (∀ (k0_h1 : k0_cond1 i = 1#1), ∀ a, (k0_off43 v341) a + S8x1024.size a ≤ S102400x1024.size a)
theorem k0_mult41_dvd : ∀ (i : grid0.Coords) (v341 : BitVec 32) (k0_hw41 : k0_chk41 i v341), ∀ (k0_h1 : k0_cond1 i = 1#1), 8 ∣ (k0_mult41 v341).toNat := fun i v341 k0_hw41 k0_h1 => k0_hw41.1 k0_h1
theorem k0_off43_inb : ∀ (i : grid0.Coords) (v341 : BitVec 32) (k0_hw41 : k0_chk41 i v341), ∀ (k0_h1 : k0_cond1 i = 1#1), ∀ a, (k0_off43 v341) a + S8x1024.size a ≤ S102400x1024.size a := fun i v341 k0_hw41 k0_h1 => k0_hw41.2 k0_h1

def k0_mult42 (v349 : BitVec 32) : BitVec 32 :=
  let c8_i32_296 : BitVec 32 := 8#32
  let v350 : BitVec 32 := Scalar.muli v349 c8_i32_296
  v350

def k0_off44 (v349 : BitVec 32) : Fin 2 → Nat :=
  let c8_i32_296 : BitVec 32 := 8#32
  let v350 : BitVec 32 := Scalar.muli v349 c8_i32_296
  let v351 : BitVec 32 := v350
  let c0_i32_300 : BitVec 32 := 0#32
  ![v351.toNat, 0]

def k0_chk42 (i : grid0.Coords) (v349 : BitVec 32) : Prop :=
  (∀ (k0_h1 : k0_cond1 i = 1#1), 8 ∣ (k0_mult42 v349).toNat) ∧
  (∀ (k0_h1 : k0_cond1 i = 1#1), ∀ a, (k0_off44 v349) a + S8x1024.size a ≤ S102400x1024.size a)
theorem k0_mult42_dvd : ∀ (i : grid0.Coords) (v349 : BitVec 32) (k0_hw42 : k0_chk42 i v349), ∀ (k0_h1 : k0_cond1 i = 1#1), 8 ∣ (k0_mult42 v349).toNat := fun i v349 k0_hw42 k0_h1 => k0_hw42.1 k0_h1
theorem k0_off44_inb : ∀ (i : grid0.Coords) (v349 : BitVec 32) (k0_hw42 : k0_chk42 i v349), ∀ (k0_h1 : k0_cond1 i = 1#1), ∀ a, (k0_off44 v349) a + S8x1024.size a ≤ S102400x1024.size a := fun i v349 k0_hw42 k0_h1 => k0_hw42.2 k0_h1

def k0_mult43 (v357 : BitVec 32) : BitVec 32 :=
  let c8_i32_303 : BitVec 32 := 8#32
  let v358 : BitVec 32 := Scalar.muli v357 c8_i32_303
  v358

def k0_off45 (v357 : BitVec 32) : Fin 2 → Nat :=
  let c8_i32_303 : BitVec 32 := 8#32
  let v358 : BitVec 32 := Scalar.muli v357 c8_i32_303
  let v359 : BitVec 32 := v358
  let c0_i32_307 : BitVec 32 := 0#32
  ![v359.toNat, 0]

def k0_chk43 (i : grid0.Coords) (v357 : BitVec 32) : Prop :=
  (∀ (k0_h1 : k0_cond1 i = 1#1), 8 ∣ (k0_mult43 v357).toNat) ∧
  (∀ (k0_h1 : k0_cond1 i = 1#1), ∀ a, (k0_off45 v357) a + S8x1024.size a ≤ S102400x1024.size a)
theorem k0_mult43_dvd : ∀ (i : grid0.Coords) (v357 : BitVec 32) (k0_hw43 : k0_chk43 i v357), ∀ (k0_h1 : k0_cond1 i = 1#1), 8 ∣ (k0_mult43 v357).toNat := fun i v357 k0_hw43 k0_h1 => k0_hw43.1 k0_h1
theorem k0_off45_inb : ∀ (i : grid0.Coords) (v357 : BitVec 32) (k0_hw43 : k0_chk43 i v357), ∀ (k0_h1 : k0_cond1 i = 1#1), ∀ a, (k0_off45 v357) a + S8x1024.size a ≤ S102400x1024.size a := fun i v357 k0_hw43 k0_h1 => k0_hw43.2 k0_h1

def k0_mult44 (v365 : BitVec 32) : BitVec 32 :=
  let c8_i32_310 : BitVec 32 := 8#32
  let v366 : BitVec 32 := Scalar.muli v365 c8_i32_310
  v366

def k0_off46 (v365 : BitVec 32) : Fin 2 → Nat :=
  let c8_i32_310 : BitVec 32 := 8#32
  let v366 : BitVec 32 := Scalar.muli v365 c8_i32_310
  let v367 : BitVec 32 := v366
  let c0_i32_314 : BitVec 32 := 0#32
  ![v367.toNat, 0]

def k0_chk44 (i : grid0.Coords) (v365 : BitVec 32) : Prop :=
  (∀ (k0_h1 : k0_cond1 i = 1#1), 8 ∣ (k0_mult44 v365).toNat) ∧
  (∀ (k0_h1 : k0_cond1 i = 1#1), ∀ a, (k0_off46 v365) a + S8x1024.size a ≤ S102400x1024.size a)
theorem k0_mult44_dvd : ∀ (i : grid0.Coords) (v365 : BitVec 32) (k0_hw44 : k0_chk44 i v365), ∀ (k0_h1 : k0_cond1 i = 1#1), 8 ∣ (k0_mult44 v365).toNat := fun i v365 k0_hw44 k0_h1 => k0_hw44.1 k0_h1
theorem k0_off46_inb : ∀ (i : grid0.Coords) (v365 : BitVec 32) (k0_hw44 : k0_chk44 i v365), ∀ (k0_h1 : k0_cond1 i = 1#1), ∀ a, (k0_off46 v365) a + S8x1024.size a ≤ S102400x1024.size a := fun i v365 k0_hw44 k0_h1 => k0_hw44.2 k0_h1

def k0_mult45 (v373 : BitVec 32) : BitVec 32 :=
  let c8_i32_317 : BitVec 32 := 8#32
  let v374 : BitVec 32 := Scalar.muli v373 c8_i32_317
  v374

def k0_off47 (v373 : BitVec 32) : Fin 2 → Nat :=
  let c8_i32_317 : BitVec 32 := 8#32
  let v374 : BitVec 32 := Scalar.muli v373 c8_i32_317
  let v375 : BitVec 32 := v374
  let c0_i32_321 : BitVec 32 := 0#32
  ![v375.toNat, 0]

def k0_chk45 (i : grid0.Coords) (v373 : BitVec 32) : Prop :=
  (∀ (k0_h1 : k0_cond1 i = 1#1), 8 ∣ (k0_mult45 v373).toNat) ∧
  (∀ (k0_h1 : k0_cond1 i = 1#1), ∀ a, (k0_off47 v373) a + S8x1024.size a ≤ S102400x1024.size a)
theorem k0_mult45_dvd : ∀ (i : grid0.Coords) (v373 : BitVec 32) (k0_hw45 : k0_chk45 i v373), ∀ (k0_h1 : k0_cond1 i = 1#1), 8 ∣ (k0_mult45 v373).toNat := fun i v373 k0_hw45 k0_h1 => k0_hw45.1 k0_h1
theorem k0_off47_inb : ∀ (i : grid0.Coords) (v373 : BitVec 32) (k0_hw45 : k0_chk45 i v373), ∀ (k0_h1 : k0_cond1 i = 1#1), ∀ a, (k0_off47 v373) a + S8x1024.size a ≤ S102400x1024.size a := fun i v373 k0_hw45 k0_h1 => k0_hw45.2 k0_h1

def k0_mult46 (v381 : BitVec 32) : BitVec 32 :=
  let c8_i32_324 : BitVec 32 := 8#32
  let v382 : BitVec 32 := Scalar.muli v381 c8_i32_324
  v382

def k0_off48 (v381 : BitVec 32) : Fin 2 → Nat :=
  let c8_i32_324 : BitVec 32 := 8#32
  let v382 : BitVec 32 := Scalar.muli v381 c8_i32_324
  let v383 : BitVec 32 := v382
  let c0_i32_328 : BitVec 32 := 0#32
  ![v383.toNat, 0]

def k0_chk46 (i : grid0.Coords) (v381 : BitVec 32) : Prop :=
  (∀ (k0_h1 : k0_cond1 i = 1#1), 8 ∣ (k0_mult46 v381).toNat) ∧
  (∀ (k0_h1 : k0_cond1 i = 1#1), ∀ a, (k0_off48 v381) a + S8x1024.size a ≤ S102400x1024.size a)
theorem k0_mult46_dvd : ∀ (i : grid0.Coords) (v381 : BitVec 32) (k0_hw46 : k0_chk46 i v381), ∀ (k0_h1 : k0_cond1 i = 1#1), 8 ∣ (k0_mult46 v381).toNat := fun i v381 k0_hw46 k0_h1 => k0_hw46.1 k0_h1
theorem k0_off48_inb : ∀ (i : grid0.Coords) (v381 : BitVec 32) (k0_hw46 : k0_chk46 i v381), ∀ (k0_h1 : k0_cond1 i = 1#1), ∀ a, (k0_off48 v381) a + S8x1024.size a ≤ S102400x1024.size a := fun i v381 k0_hw46 k0_h1 => k0_hw46.2 k0_h1

def k0_mult47 (v389 : BitVec 32) : BitVec 32 :=
  let c8_i32_331 : BitVec 32 := 8#32
  let v390 : BitVec 32 := Scalar.muli v389 c8_i32_331
  v390

def k0_off49 (v389 : BitVec 32) : Fin 2 → Nat :=
  let c8_i32_331 : BitVec 32 := 8#32
  let v390 : BitVec 32 := Scalar.muli v389 c8_i32_331
  let v391 : BitVec 32 := v390
  let c0_i32_335 : BitVec 32 := 0#32
  ![v391.toNat, 0]

def k0_chk47 (i : grid0.Coords) (v389 : BitVec 32) : Prop :=
  (∀ (k0_h1 : k0_cond1 i = 1#1), 8 ∣ (k0_mult47 v389).toNat) ∧
  (∀ (k0_h1 : k0_cond1 i = 1#1), ∀ a, (k0_off49 v389) a + S8x1024.size a ≤ S102400x1024.size a)
theorem k0_mult47_dvd : ∀ (i : grid0.Coords) (v389 : BitVec 32) (k0_hw47 : k0_chk47 i v389), ∀ (k0_h1 : k0_cond1 i = 1#1), 8 ∣ (k0_mult47 v389).toNat := fun i v389 k0_hw47 k0_h1 => k0_hw47.1 k0_h1
theorem k0_off49_inb : ∀ (i : grid0.Coords) (v389 : BitVec 32) (k0_hw47 : k0_chk47 i v389), ∀ (k0_h1 : k0_cond1 i = 1#1), ∀ a, (k0_off49 v389) a + S8x1024.size a ≤ S102400x1024.size a := fun i v389 k0_hw47 k0_h1 => k0_hw47.2 k0_h1

def k0_mult48 (v397 : BitVec 32) : BitVec 32 :=
  let c8_i32_338 : BitVec 32 := 8#32
  let v398 : BitVec 32 := Scalar.muli v397 c8_i32_338
  v398

def k0_off50 (v397 : BitVec 32) : Fin 2 → Nat :=
  let c8_i32_338 : BitVec 32 := 8#32
  let v398 : BitVec 32 := Scalar.muli v397 c8_i32_338
  let v399 : BitVec 32 := v398
  let c0_i32_342 : BitVec 32 := 0#32
  ![v399.toNat, 0]

def k0_chk48 (i : grid0.Coords) (v397 : BitVec 32) : Prop :=
  (∀ (k0_h1 : k0_cond1 i = 1#1), 8 ∣ (k0_mult48 v397).toNat) ∧
  (∀ (k0_h1 : k0_cond1 i = 1#1), ∀ a, (k0_off50 v397) a + S8x1024.size a ≤ S102400x1024.size a)
theorem k0_mult48_dvd : ∀ (i : grid0.Coords) (v397 : BitVec 32) (k0_hw48 : k0_chk48 i v397), ∀ (k0_h1 : k0_cond1 i = 1#1), 8 ∣ (k0_mult48 v397).toNat := fun i v397 k0_hw48 k0_h1 => k0_hw48.1 k0_h1
theorem k0_off50_inb : ∀ (i : grid0.Coords) (v397 : BitVec 32) (k0_hw48 : k0_chk48 i v397), ∀ (k0_h1 : k0_cond1 i = 1#1), ∀ a, (k0_off50 v397) a + S8x1024.size a ≤ S102400x1024.size a := fun i v397 k0_hw48 k0_h1 => k0_hw48.2 k0_h1

def k0_mult49 (v405 : BitVec 32) : BitVec 32 :=
  let c8_i32_345 : BitVec 32 := 8#32
  let v406 : BitVec 32 := Scalar.muli v405 c8_i32_345
  v406

def k0_off51 (v405 : BitVec 32) : Fin 2 → Nat :=
  let c8_i32_345 : BitVec 32 := 8#32
  let v406 : BitVec 32 := Scalar.muli v405 c8_i32_345
  let v407 : BitVec 32 := v406
  let c0_i32_349 : BitVec 32 := 0#32
  ![v407.toNat, 0]

def k0_chk49 (i : grid0.Coords) (v405 : BitVec 32) : Prop :=
  (∀ (k0_h1 : k0_cond1 i = 1#1), 8 ∣ (k0_mult49 v405).toNat) ∧
  (∀ (k0_h1 : k0_cond1 i = 1#1), ∀ a, (k0_off51 v405) a + S8x1024.size a ≤ S102400x1024.size a)
theorem k0_mult49_dvd : ∀ (i : grid0.Coords) (v405 : BitVec 32) (k0_hw49 : k0_chk49 i v405), ∀ (k0_h1 : k0_cond1 i = 1#1), 8 ∣ (k0_mult49 v405).toNat := fun i v405 k0_hw49 k0_h1 => k0_hw49.1 k0_h1
theorem k0_off51_inb : ∀ (i : grid0.Coords) (v405 : BitVec 32) (k0_hw49 : k0_chk49 i v405), ∀ (k0_h1 : k0_cond1 i = 1#1), ∀ a, (k0_off51 v405) a + S8x1024.size a ≤ S102400x1024.size a := fun i v405 k0_hw49 k0_h1 => k0_hw49.2 k0_h1

def k0_mult50 (v413 : BitVec 32) : BitVec 32 :=
  let c8_i32_352 : BitVec 32 := 8#32
  let v414 : BitVec 32 := Scalar.muli v413 c8_i32_352
  v414

def k0_off52 (v413 : BitVec 32) : Fin 2 → Nat :=
  let c8_i32_352 : BitVec 32 := 8#32
  let v414 : BitVec 32 := Scalar.muli v413 c8_i32_352
  let v415 : BitVec 32 := v414
  let c0_i32_356 : BitVec 32 := 0#32
  ![v415.toNat, 0]

def k0_chk50 (i : grid0.Coords) (v413 : BitVec 32) : Prop :=
  (∀ (k0_h1 : k0_cond1 i = 1#1), 8 ∣ (k0_mult50 v413).toNat) ∧
  (∀ (k0_h1 : k0_cond1 i = 1#1), ∀ a, (k0_off52 v413) a + S8x1024.size a ≤ S102400x1024.size a)
theorem k0_mult50_dvd : ∀ (i : grid0.Coords) (v413 : BitVec 32) (k0_hw50 : k0_chk50 i v413), ∀ (k0_h1 : k0_cond1 i = 1#1), 8 ∣ (k0_mult50 v413).toNat := fun i v413 k0_hw50 k0_h1 => k0_hw50.1 k0_h1
theorem k0_off52_inb : ∀ (i : grid0.Coords) (v413 : BitVec 32) (k0_hw50 : k0_chk50 i v413), ∀ (k0_h1 : k0_cond1 i = 1#1), ∀ a, (k0_off52 v413) a + S8x1024.size a ≤ S102400x1024.size a := fun i v413 k0_hw50 k0_h1 => k0_hw50.2 k0_h1

def k0_mult51 (v421 : BitVec 32) : BitVec 32 :=
  let c8_i32_359 : BitVec 32 := 8#32
  let v422 : BitVec 32 := Scalar.muli v421 c8_i32_359
  v422

def k0_off53 (v421 : BitVec 32) : Fin 2 → Nat :=
  let c8_i32_359 : BitVec 32 := 8#32
  let v422 : BitVec 32 := Scalar.muli v421 c8_i32_359
  let v423 : BitVec 32 := v422
  let c0_i32_363 : BitVec 32 := 0#32
  ![v423.toNat, 0]

def k0_chk51 (i : grid0.Coords) (v421 : BitVec 32) : Prop :=
  (∀ (k0_h1 : k0_cond1 i = 1#1), 8 ∣ (k0_mult51 v421).toNat) ∧
  (∀ (k0_h1 : k0_cond1 i = 1#1), ∀ a, (k0_off53 v421) a + S8x1024.size a ≤ S102400x1024.size a)
theorem k0_mult51_dvd : ∀ (i : grid0.Coords) (v421 : BitVec 32) (k0_hw51 : k0_chk51 i v421), ∀ (k0_h1 : k0_cond1 i = 1#1), 8 ∣ (k0_mult51 v421).toNat := fun i v421 k0_hw51 k0_h1 => k0_hw51.1 k0_h1
theorem k0_off53_inb : ∀ (i : grid0.Coords) (v421 : BitVec 32) (k0_hw51 : k0_chk51 i v421), ∀ (k0_h1 : k0_cond1 i = 1#1), ∀ a, (k0_off53 v421) a + S8x1024.size a ≤ S102400x1024.size a := fun i v421 k0_hw51 k0_h1 => k0_hw51.2 k0_h1

def k0_mult52 (v429 : BitVec 32) : BitVec 32 :=
  let c8_i32_366 : BitVec 32 := 8#32
  let v430 : BitVec 32 := Scalar.muli v429 c8_i32_366
  v430

def k0_off54 (v429 : BitVec 32) : Fin 2 → Nat :=
  let c8_i32_366 : BitVec 32 := 8#32
  let v430 : BitVec 32 := Scalar.muli v429 c8_i32_366
  let v431 : BitVec 32 := v430
  let c0_i32_370 : BitVec 32 := 0#32
  ![v431.toNat, 0]

def k0_chk52 (i : grid0.Coords) (v429 : BitVec 32) : Prop :=
  (∀ (k0_h1 : k0_cond1 i = 1#1), 8 ∣ (k0_mult52 v429).toNat) ∧
  (∀ (k0_h1 : k0_cond1 i = 1#1), ∀ a, (k0_off54 v429) a + S8x1024.size a ≤ S102400x1024.size a)
theorem k0_mult52_dvd : ∀ (i : grid0.Coords) (v429 : BitVec 32) (k0_hw52 : k0_chk52 i v429), ∀ (k0_h1 : k0_cond1 i = 1#1), 8 ∣ (k0_mult52 v429).toNat := fun i v429 k0_hw52 k0_h1 => k0_hw52.1 k0_h1
theorem k0_off54_inb : ∀ (i : grid0.Coords) (v429 : BitVec 32) (k0_hw52 : k0_chk52 i v429), ∀ (k0_h1 : k0_cond1 i = 1#1), ∀ a, (k0_off54 v429) a + S8x1024.size a ≤ S102400x1024.size a := fun i v429 k0_hw52 k0_h1 => k0_hw52.2 k0_h1

def k0_mult53 (v437 : BitVec 32) : BitVec 32 :=
  let c8_i32_373 : BitVec 32 := 8#32
  let v438 : BitVec 32 := Scalar.muli v437 c8_i32_373
  v438

def k0_off55 (v437 : BitVec 32) : Fin 2 → Nat :=
  let c8_i32_373 : BitVec 32 := 8#32
  let v438 : BitVec 32 := Scalar.muli v437 c8_i32_373
  let v439 : BitVec 32 := v438
  let c0_i32_377 : BitVec 32 := 0#32
  ![v439.toNat, 0]

def k0_chk53 (i : grid0.Coords) (v437 : BitVec 32) : Prop :=
  (∀ (k0_h1 : k0_cond1 i = 1#1), 8 ∣ (k0_mult53 v437).toNat) ∧
  (∀ (k0_h1 : k0_cond1 i = 1#1), ∀ a, (k0_off55 v437) a + S8x1024.size a ≤ S102400x1024.size a)
theorem k0_mult53_dvd : ∀ (i : grid0.Coords) (v437 : BitVec 32) (k0_hw53 : k0_chk53 i v437), ∀ (k0_h1 : k0_cond1 i = 1#1), 8 ∣ (k0_mult53 v437).toNat := fun i v437 k0_hw53 k0_h1 => k0_hw53.1 k0_h1
theorem k0_off55_inb : ∀ (i : grid0.Coords) (v437 : BitVec 32) (k0_hw53 : k0_chk53 i v437), ∀ (k0_h1 : k0_cond1 i = 1#1), ∀ a, (k0_off55 v437) a + S8x1024.size a ≤ S102400x1024.size a := fun i v437 k0_hw53 k0_h1 => k0_hw53.2 k0_h1

def k0_mult54 (v445 : BitVec 32) : BitVec 32 :=
  let c8_i32_380 : BitVec 32 := 8#32
  let v446 : BitVec 32 := Scalar.muli v445 c8_i32_380
  v446

def k0_off56 (v445 : BitVec 32) : Fin 2 → Nat :=
  let c8_i32_380 : BitVec 32 := 8#32
  let v446 : BitVec 32 := Scalar.muli v445 c8_i32_380
  let v447 : BitVec 32 := v446
  let c0_i32_384 : BitVec 32 := 0#32
  ![v447.toNat, 0]

def k0_chk54 (i : grid0.Coords) (v445 : BitVec 32) : Prop :=
  (∀ (k0_h1 : k0_cond1 i = 1#1), 8 ∣ (k0_mult54 v445).toNat) ∧
  (∀ (k0_h1 : k0_cond1 i = 1#1), ∀ a, (k0_off56 v445) a + S8x1024.size a ≤ S102400x1024.size a)
theorem k0_mult54_dvd : ∀ (i : grid0.Coords) (v445 : BitVec 32) (k0_hw54 : k0_chk54 i v445), ∀ (k0_h1 : k0_cond1 i = 1#1), 8 ∣ (k0_mult54 v445).toNat := fun i v445 k0_hw54 k0_h1 => k0_hw54.1 k0_h1
theorem k0_off56_inb : ∀ (i : grid0.Coords) (v445 : BitVec 32) (k0_hw54 : k0_chk54 i v445), ∀ (k0_h1 : k0_cond1 i = 1#1), ∀ a, (k0_off56 v445) a + S8x1024.size a ≤ S102400x1024.size a := fun i v445 k0_hw54 k0_h1 => k0_hw54.2 k0_h1

def k0_mult55 (v453 : BitVec 32) : BitVec 32 :=
  let c8_i32_387 : BitVec 32 := 8#32
  let v454 : BitVec 32 := Scalar.muli v453 c8_i32_387
  v454

def k0_off57 (v453 : BitVec 32) : Fin 2 → Nat :=
  let c8_i32_387 : BitVec 32 := 8#32
  let v454 : BitVec 32 := Scalar.muli v453 c8_i32_387
  let v455 : BitVec 32 := v454
  let c0_i32_391 : BitVec 32 := 0#32
  ![v455.toNat, 0]

def k0_chk55 (i : grid0.Coords) (v453 : BitVec 32) : Prop :=
  (∀ (k0_h1 : k0_cond1 i = 1#1), 8 ∣ (k0_mult55 v453).toNat) ∧
  (∀ (k0_h1 : k0_cond1 i = 1#1), ∀ a, (k0_off57 v453) a + S8x1024.size a ≤ S102400x1024.size a)
theorem k0_mult55_dvd : ∀ (i : grid0.Coords) (v453 : BitVec 32) (k0_hw55 : k0_chk55 i v453), ∀ (k0_h1 : k0_cond1 i = 1#1), 8 ∣ (k0_mult55 v453).toNat := fun i v453 k0_hw55 k0_h1 => k0_hw55.1 k0_h1
theorem k0_off57_inb : ∀ (i : grid0.Coords) (v453 : BitVec 32) (k0_hw55 : k0_chk55 i v453), ∀ (k0_h1 : k0_cond1 i = 1#1), ∀ a, (k0_off57 v453) a + S8x1024.size a ≤ S102400x1024.size a := fun i v453 k0_hw55 k0_h1 => k0_hw55.2 k0_h1

def k0_mult56 (v461 : BitVec 32) : BitVec 32 :=
  let c8_i32_394 : BitVec 32 := 8#32
  let v462 : BitVec 32 := Scalar.muli v461 c8_i32_394
  v462

def k0_off58 (v461 : BitVec 32) : Fin 2 → Nat :=
  let c8_i32_394 : BitVec 32 := 8#32
  let v462 : BitVec 32 := Scalar.muli v461 c8_i32_394
  let v463 : BitVec 32 := v462
  let c0_i32_398 : BitVec 32 := 0#32
  ![v463.toNat, 0]

def k0_chk56 (i : grid0.Coords) (v461 : BitVec 32) : Prop :=
  (∀ (k0_h1 : k0_cond1 i = 1#1), 8 ∣ (k0_mult56 v461).toNat) ∧
  (∀ (k0_h1 : k0_cond1 i = 1#1), ∀ a, (k0_off58 v461) a + S8x1024.size a ≤ S102400x1024.size a)
theorem k0_mult56_dvd : ∀ (i : grid0.Coords) (v461 : BitVec 32) (k0_hw56 : k0_chk56 i v461), ∀ (k0_h1 : k0_cond1 i = 1#1), 8 ∣ (k0_mult56 v461).toNat := fun i v461 k0_hw56 k0_h1 => k0_hw56.1 k0_h1
theorem k0_off58_inb : ∀ (i : grid0.Coords) (v461 : BitVec 32) (k0_hw56 : k0_chk56 i v461), ∀ (k0_h1 : k0_cond1 i = 1#1), ∀ a, (k0_off58 v461) a + S8x1024.size a ≤ S102400x1024.size a := fun i v461 k0_hw56 k0_h1 => k0_hw56.2 k0_h1

def k0_mult57 (v469 : BitVec 32) : BitVec 32 :=
  let c8_i32_401 : BitVec 32 := 8#32
  let v470 : BitVec 32 := Scalar.muli v469 c8_i32_401
  v470

def k0_off59 (v469 : BitVec 32) : Fin 2 → Nat :=
  let c8_i32_401 : BitVec 32 := 8#32
  let v470 : BitVec 32 := Scalar.muli v469 c8_i32_401
  let v471 : BitVec 32 := v470
  let c0_i32_405 : BitVec 32 := 0#32
  ![v471.toNat, 0]

def k0_chk57 (i : grid0.Coords) (v469 : BitVec 32) : Prop :=
  (∀ (k0_h1 : k0_cond1 i = 1#1), 8 ∣ (k0_mult57 v469).toNat) ∧
  (∀ (k0_h1 : k0_cond1 i = 1#1), ∀ a, (k0_off59 v469) a + S8x1024.size a ≤ S102400x1024.size a)
theorem k0_mult57_dvd : ∀ (i : grid0.Coords) (v469 : BitVec 32) (k0_hw57 : k0_chk57 i v469), ∀ (k0_h1 : k0_cond1 i = 1#1), 8 ∣ (k0_mult57 v469).toNat := fun i v469 k0_hw57 k0_h1 => k0_hw57.1 k0_h1
theorem k0_off59_inb : ∀ (i : grid0.Coords) (v469 : BitVec 32) (k0_hw57 : k0_chk57 i v469), ∀ (k0_h1 : k0_cond1 i = 1#1), ∀ a, (k0_off59 v469) a + S8x1024.size a ≤ S102400x1024.size a := fun i v469 k0_hw57 k0_h1 => k0_hw57.2 k0_h1

def k0_mult58 (v477 : BitVec 32) : BitVec 32 :=
  let c8_i32_408 : BitVec 32 := 8#32
  let v478 : BitVec 32 := Scalar.muli v477 c8_i32_408
  v478

def k0_off60 (v477 : BitVec 32) : Fin 2 → Nat :=
  let c8_i32_408 : BitVec 32 := 8#32
  let v478 : BitVec 32 := Scalar.muli v477 c8_i32_408
  let v479 : BitVec 32 := v478
  let c0_i32_412 : BitVec 32 := 0#32
  ![v479.toNat, 0]

def k0_chk58 (i : grid0.Coords) (v477 : BitVec 32) : Prop :=
  (∀ (k0_h1 : k0_cond1 i = 1#1), 8 ∣ (k0_mult58 v477).toNat) ∧
  (∀ (k0_h1 : k0_cond1 i = 1#1), ∀ a, (k0_off60 v477) a + S8x1024.size a ≤ S102400x1024.size a)
theorem k0_mult58_dvd : ∀ (i : grid0.Coords) (v477 : BitVec 32) (k0_hw58 : k0_chk58 i v477), ∀ (k0_h1 : k0_cond1 i = 1#1), 8 ∣ (k0_mult58 v477).toNat := fun i v477 k0_hw58 k0_h1 => k0_hw58.1 k0_h1
theorem k0_off60_inb : ∀ (i : grid0.Coords) (v477 : BitVec 32) (k0_hw58 : k0_chk58 i v477), ∀ (k0_h1 : k0_cond1 i = 1#1), ∀ a, (k0_off60 v477) a + S8x1024.size a ≤ S102400x1024.size a := fun i v477 k0_hw58 k0_h1 => k0_hw58.2 k0_h1

def k0_mult59 (v485 : BitVec 32) : BitVec 32 :=
  let c8_i32_415 : BitVec 32 := 8#32
  let v486 : BitVec 32 := Scalar.muli v485 c8_i32_415
  v486

def k0_off61 (v485 : BitVec 32) : Fin 2 → Nat :=
  let c8_i32_415 : BitVec 32 := 8#32
  let v486 : BitVec 32 := Scalar.muli v485 c8_i32_415
  let v487 : BitVec 32 := v486
  let c0_i32_419 : BitVec 32 := 0#32
  ![v487.toNat, 0]

def k0_chk59 (i : grid0.Coords) (v485 : BitVec 32) : Prop :=
  (∀ (k0_h1 : k0_cond1 i = 1#1), 8 ∣ (k0_mult59 v485).toNat) ∧
  (∀ (k0_h1 : k0_cond1 i = 1#1), ∀ a, (k0_off61 v485) a + S8x1024.size a ≤ S102400x1024.size a)
theorem k0_mult59_dvd : ∀ (i : grid0.Coords) (v485 : BitVec 32) (k0_hw59 : k0_chk59 i v485), ∀ (k0_h1 : k0_cond1 i = 1#1), 8 ∣ (k0_mult59 v485).toNat := fun i v485 k0_hw59 k0_h1 => k0_hw59.1 k0_h1
theorem k0_off61_inb : ∀ (i : grid0.Coords) (v485 : BitVec 32) (k0_hw59 : k0_chk59 i v485), ∀ (k0_h1 : k0_cond1 i = 1#1), ∀ a, (k0_off61 v485) a + S8x1024.size a ≤ S102400x1024.size a := fun i v485 k0_hw59 k0_h1 => k0_hw59.2 k0_h1

def k0_mult60 (v493 : BitVec 32) : BitVec 32 :=
  let c8_i32_422 : BitVec 32 := 8#32
  let v494 : BitVec 32 := Scalar.muli v493 c8_i32_422
  v494

def k0_off62 (v493 : BitVec 32) : Fin 2 → Nat :=
  let c8_i32_422 : BitVec 32 := 8#32
  let v494 : BitVec 32 := Scalar.muli v493 c8_i32_422
  let v495 : BitVec 32 := v494
  let c0_i32_426 : BitVec 32 := 0#32
  ![v495.toNat, 0]

def k0_chk60 (i : grid0.Coords) (v493 : BitVec 32) : Prop :=
  (∀ (k0_h1 : k0_cond1 i = 1#1), 8 ∣ (k0_mult60 v493).toNat) ∧
  (∀ (k0_h1 : k0_cond1 i = 1#1), ∀ a, (k0_off62 v493) a + S8x1024.size a ≤ S102400x1024.size a)
theorem k0_mult60_dvd : ∀ (i : grid0.Coords) (v493 : BitVec 32) (k0_hw60 : k0_chk60 i v493), ∀ (k0_h1 : k0_cond1 i = 1#1), 8 ∣ (k0_mult60 v493).toNat := fun i v493 k0_hw60 k0_h1 => k0_hw60.1 k0_h1
theorem k0_off62_inb : ∀ (i : grid0.Coords) (v493 : BitVec 32) (k0_hw60 : k0_chk60 i v493), ∀ (k0_h1 : k0_cond1 i = 1#1), ∀ a, (k0_off62 v493) a + S8x1024.size a ≤ S102400x1024.size a := fun i v493 k0_hw60 k0_h1 => k0_hw60.2 k0_h1

def k0_mult61 (v501 : BitVec 32) : BitVec 32 :=
  let c8_i32_429 : BitVec 32 := 8#32
  let v502 : BitVec 32 := Scalar.muli v501 c8_i32_429
  v502

def k0_off63 (v501 : BitVec 32) : Fin 2 → Nat :=
  let c8_i32_429 : BitVec 32 := 8#32
  let v502 : BitVec 32 := Scalar.muli v501 c8_i32_429
  let v503 : BitVec 32 := v502
  let c0_i32_433 : BitVec 32 := 0#32
  ![v503.toNat, 0]

def k0_chk61 (i : grid0.Coords) (v501 : BitVec 32) : Prop :=
  (∀ (k0_h1 : k0_cond1 i = 1#1), 8 ∣ (k0_mult61 v501).toNat) ∧
  (∀ (k0_h1 : k0_cond1 i = 1#1), ∀ a, (k0_off63 v501) a + S8x1024.size a ≤ S102400x1024.size a)
theorem k0_mult61_dvd : ∀ (i : grid0.Coords) (v501 : BitVec 32) (k0_hw61 : k0_chk61 i v501), ∀ (k0_h1 : k0_cond1 i = 1#1), 8 ∣ (k0_mult61 v501).toNat := fun i v501 k0_hw61 k0_h1 => k0_hw61.1 k0_h1
theorem k0_off63_inb : ∀ (i : grid0.Coords) (v501 : BitVec 32) (k0_hw61 : k0_chk61 i v501), ∀ (k0_h1 : k0_cond1 i = 1#1), ∀ a, (k0_off63 v501) a + S8x1024.size a ≤ S102400x1024.size a := fun i v501 k0_hw61 k0_h1 => k0_hw61.2 k0_h1

def k0_mult62 (v509 : BitVec 32) : BitVec 32 :=
  let c8_i32_436 : BitVec 32 := 8#32
  let v510 : BitVec 32 := Scalar.muli v509 c8_i32_436
  v510

def k0_off64 (v509 : BitVec 32) : Fin 2 → Nat :=
  let c8_i32_436 : BitVec 32 := 8#32
  let v510 : BitVec 32 := Scalar.muli v509 c8_i32_436
  let v511 : BitVec 32 := v510
  let c0_i32_440 : BitVec 32 := 0#32
  ![v511.toNat, 0]

def k0_chk62 (i : grid0.Coords) (v509 : BitVec 32) : Prop :=
  (∀ (k0_h1 : k0_cond1 i = 1#1), 8 ∣ (k0_mult62 v509).toNat) ∧
  (∀ (k0_h1 : k0_cond1 i = 1#1), ∀ a, (k0_off64 v509) a + S8x1024.size a ≤ S102400x1024.size a)
theorem k0_mult62_dvd : ∀ (i : grid0.Coords) (v509 : BitVec 32) (k0_hw62 : k0_chk62 i v509), ∀ (k0_h1 : k0_cond1 i = 1#1), 8 ∣ (k0_mult62 v509).toNat := fun i v509 k0_hw62 k0_h1 => k0_hw62.1 k0_h1
theorem k0_off64_inb : ∀ (i : grid0.Coords) (v509 : BitVec 32) (k0_hw62 : k0_chk62 i v509), ∀ (k0_h1 : k0_cond1 i = 1#1), ∀ a, (k0_off64 v509) a + S8x1024.size a ≤ S102400x1024.size a := fun i v509 k0_hw62 k0_h1 => k0_hw62.2 k0_h1

def k0_mult63 (v517 : BitVec 32) : BitVec 32 :=
  let c8_i32_443 : BitVec 32 := 8#32
  let v518 : BitVec 32 := Scalar.muli v517 c8_i32_443
  v518

def k0_off65 (v517 : BitVec 32) : Fin 2 → Nat :=
  let c8_i32_443 : BitVec 32 := 8#32
  let v518 : BitVec 32 := Scalar.muli v517 c8_i32_443
  let v519 : BitVec 32 := v518
  let c0_i32_447 : BitVec 32 := 0#32
  ![v519.toNat, 0]

def k0_chk63 (i : grid0.Coords) (v517 : BitVec 32) : Prop :=
  (∀ (k0_h1 : k0_cond1 i = 1#1), 8 ∣ (k0_mult63 v517).toNat) ∧
  (∀ (k0_h1 : k0_cond1 i = 1#1), ∀ a, (k0_off65 v517) a + S8x1024.size a ≤ S102400x1024.size a)
theorem k0_mult63_dvd : ∀ (i : grid0.Coords) (v517 : BitVec 32) (k0_hw63 : k0_chk63 i v517), ∀ (k0_h1 : k0_cond1 i = 1#1), 8 ∣ (k0_mult63 v517).toNat := fun i v517 k0_hw63 k0_h1 => k0_hw63.1 k0_h1
theorem k0_off65_inb : ∀ (i : grid0.Coords) (v517 : BitVec 32) (k0_hw63 : k0_chk63 i v517), ∀ (k0_h1 : k0_cond1 i = 1#1), ∀ a, (k0_off65 v517) a + S8x1024.size a ≤ S102400x1024.size a := fun i v517 k0_hw63 k0_h1 => k0_hw63.2 k0_h1

def k0_mult64 (v525 : BitVec 32) : BitVec 32 :=
  let c8_i32_450 : BitVec 32 := 8#32
  let v526 : BitVec 32 := Scalar.muli v525 c8_i32_450
  v526

def k0_off66 (v525 : BitVec 32) : Fin 2 → Nat :=
  let c8_i32_450 : BitVec 32 := 8#32
  let v526 : BitVec 32 := Scalar.muli v525 c8_i32_450
  let v527 : BitVec 32 := v526
  let c0_i32_454 : BitVec 32 := 0#32
  ![v527.toNat, 0]

def k0_chk64 (i : grid0.Coords) (v525 : BitVec 32) : Prop :=
  (∀ (k0_h1 : k0_cond1 i = 1#1), 8 ∣ (k0_mult64 v525).toNat) ∧
  (∀ (k0_h1 : k0_cond1 i = 1#1), ∀ a, (k0_off66 v525) a + S8x1024.size a ≤ S102400x1024.size a)
theorem k0_mult64_dvd : ∀ (i : grid0.Coords) (v525 : BitVec 32) (k0_hw64 : k0_chk64 i v525), ∀ (k0_h1 : k0_cond1 i = 1#1), 8 ∣ (k0_mult64 v525).toNat := fun i v525 k0_hw64 k0_h1 => k0_hw64.1 k0_h1
theorem k0_off66_inb : ∀ (i : grid0.Coords) (v525 : BitVec 32) (k0_hw64 : k0_chk64 i v525), ∀ (k0_h1 : k0_cond1 i = 1#1), ∀ a, (k0_off66 v525) a + S8x1024.size a ≤ S102400x1024.size a := fun i v525 k0_hw64 k0_h1 => k0_hw64.2 k0_h1

def k0_off67 (v533 : BitVec 32) : Fin 3 → Nat :=
  let c0_i32_460 : BitVec 32 := 0#32
  let c0_i32_461 : BitVec 32 := 0#32
  ![v533.toNat, 0, 0]

def k0_off68 (v533 : BitVec 32) : Fin 3 → Nat :=
  let c0_i32_466 : BitVec 32 := 0#32
  let c0_i32_467 : BitVec 32 := 0#32
  ![v533.toNat, 0, 0]

def k0_chk65 (i : grid0.Coords) (v533 : BitVec 32) : Prop :=
  (∀ (k0_h1 : k0_cond1 i = 1#1), ∀ a, (k0_off67 v533) a + S1x1024x2048.size a ≤ S32x1024x2048.size a) ∧
  (∀ (k0_h1 : k0_cond1 i = 1#1), ∀ a, (k0_off68 v533) a + S1x1024x1024.size a ≤ S32x1024x1024.size a)
theorem k0_off67_inb : ∀ (i : grid0.Coords) (v533 : BitVec 32) (k0_hw65 : k0_chk65 i v533), ∀ (k0_h1 : k0_cond1 i = 1#1), ∀ a, (k0_off67 v533) a + S1x1024x2048.size a ≤ S32x1024x2048.size a := fun i v533 k0_hw65 k0_h1 => k0_hw65.1 k0_h1
theorem k0_off68_inb : ∀ (i : grid0.Coords) (v533 : BitVec 32) (k0_hw65 : k0_chk65 i v533), ∀ (k0_h1 : k0_cond1 i = 1#1), ∀ a, (k0_off68 v533) a + S1x1024x1024.size a ≤ S32x1024x1024.size a := fun i v533 k0_hw65 k0_h1 => k0_hw65.2 k0_h1

def k0_off69 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off70 (i : grid0.Coords) : Fin 3 → Nat :=
  let arg0 : BitVec 32 := BitVec.ofNat 32 (i 0).val
  let c1_i32 : BitVec 32 := 1#32
  let v0 : BitVec 32 := Scalar.andi arg0 c1_i32
  let c0_i32_5 : BitVec 32 := 0#32
  let c0_i32_6 : BitVec 32 := 0#32
  ![v0.toNat, 0, 0]
def k0_off71 (v14 : BitVec 32) : Fin 1 → Nat :=
  ![v14.toNat]
def k0_cond2 (i : grid0.Coords) (v1 : BitVec 32) : BitVec 1 :=
  let arg0 : BitVec 32 := BitVec.ofNat 32 (i 0).val
  let v18 : BitVec 1 := Scalar.cmpi .slt arg0 v1
  let v19 : BitVec 32 := Scalar.extui v18
  let c0_i32_4 : BitVec 32 := 0#32
  let v20 : BitVec 1 := Scalar.cmpi .ne v19 c0_i32_4
  v20

def k0_cond3 (i : grid0.Coords) (v6 : BitVec 32) (v10 : BitVec 32) : BitVec 1 :=
  let arg0 : BitVec 32 := BitVec.ofNat 32 (i 0).val
  let c0_i32 : BitVec 32 := 0#32
  let v4 : BitVec 1 := Scalar.cmpi .eq arg0 c0_i32
  let v11 : BitVec 1 := Scalar.cmpi .ne v6 v10
  let v12 : BitVec 1 := Scalar.ori v4 v11
  let v26 : BitVec 32 := Scalar.extui v12
  let c0_i32_9 : BitVec 32 := 0#32
  let v27 : BitVec 1 := Scalar.cmpi .ne v26 c0_i32_9
  v27

def k0_off72 (v14 : BitVec 32) : Fin 3 → Nat :=
  let c0_i32_26 : BitVec 32 := 0#32
  let c0_i32_27 : BitVec 32 := 0#32
  ![v14.toNat, 0, 0]
def k0_off73 (v14 : BitVec 32) : Fin 3 → Nat :=
  let c0_i32_31 : BitVec 32 := 0#32
  let c0_i32_32 : BitVec 32 := 0#32
  ![v14.toNat, 0, 0]
def k0_off74 (v14 : BitVec 32) : Fin 3 → Nat :=
  let v78 : Index := Scalar.indexCast v14
  let c0_35 : Index := 0#32
  let c0_36 : Index := 0#32
  ![v78.toNat, 0, 0]
def k0_off75 (v14 : BitVec 32) : Fin 3 → Nat :=
  let v85 : Index := Scalar.indexCast v14
  let c0_39 : Index := 0#32
  let c0_40 : Index := 0#32
  ![v85.toNat, 0, 0]

def k0_chk66 (i : grid0.Coords) (v1 : BitVec 32) (v6 : BitVec 32) (v10 : BitVec 32) (v14 : BitVec 32) : Prop :=
  (∀ (k0_h2 : k0_cond2 i v1 = 1#1), ∀ (k0_h3 : k0_cond3 i v6 v10 = 1#1), ∀ a, (k0_off71 v14) a + S1.size a ≤ S2.size a) ∧
  (∀ (k0_h2 : k0_cond2 i v1 = 1#1), ∀ (k0_h3 : k0_cond3 i v6 v10 = 1#1), ∀ a, (k0_off72 v14) a + S1x1024x2048.size a ≤ S2x1024x2048.size a) ∧
  (∀ (k0_h2 : k0_cond2 i v1 = 1#1), ∀ (k0_h3 : k0_cond3 i v6 v10 = 1#1), ∀ a, (k0_off73 v14) a + S1x1024x1024.size a ≤ S2x1024x1024.size a) ∧
  (∀ (k0_h2 : k0_cond2 i v1 = 1#1), ∀ (k0_h3 : k0_cond3 i v6 v10 = 1#1), ∀ a, (k0_off74 v14) a + S1x1024x2048.size a ≤ S2x1024x2048.size a) ∧
  (∀ (k0_h2 : k0_cond2 i v1 = 1#1), ∀ (k0_h3 : k0_cond3 i v6 v10 = 1#1), ∀ a, (k0_off75 v14) a + S1x1024x1024.size a ≤ S2x1024x1024.size a)
theorem k0_off71_inb : ∀ (i : grid0.Coords) (v1 : BitVec 32) (v6 : BitVec 32) (v10 : BitVec 32) (v14 : BitVec 32) (k0_hw66 : k0_chk66 i v1 v6 v10 v14), ∀ (k0_h2 : k0_cond2 i v1 = 1#1), ∀ (k0_h3 : k0_cond3 i v6 v10 = 1#1), ∀ a, (k0_off71 v14) a + S1.size a ≤ S2.size a := fun i v1 v6 v10 v14 k0_hw66 k0_h2 k0_h3 => k0_hw66.1 k0_h2 k0_h3
theorem k0_off72_inb : ∀ (i : grid0.Coords) (v1 : BitVec 32) (v6 : BitVec 32) (v10 : BitVec 32) (v14 : BitVec 32) (k0_hw66 : k0_chk66 i v1 v6 v10 v14), ∀ (k0_h2 : k0_cond2 i v1 = 1#1), ∀ (k0_h3 : k0_cond3 i v6 v10 = 1#1), ∀ a, (k0_off72 v14) a + S1x1024x2048.size a ≤ S2x1024x2048.size a := fun i v1 v6 v10 v14 k0_hw66 k0_h2 k0_h3 => k0_hw66.2.1 k0_h2 k0_h3
theorem k0_off73_inb : ∀ (i : grid0.Coords) (v1 : BitVec 32) (v6 : BitVec 32) (v10 : BitVec 32) (v14 : BitVec 32) (k0_hw66 : k0_chk66 i v1 v6 v10 v14), ∀ (k0_h2 : k0_cond2 i v1 = 1#1), ∀ (k0_h3 : k0_cond3 i v6 v10 = 1#1), ∀ a, (k0_off73 v14) a + S1x1024x1024.size a ≤ S2x1024x1024.size a := fun i v1 v6 v10 v14 k0_hw66 k0_h2 k0_h3 => k0_hw66.2.2.1 k0_h2 k0_h3
theorem k0_off74_inb : ∀ (i : grid0.Coords) (v1 : BitVec 32) (v6 : BitVec 32) (v10 : BitVec 32) (v14 : BitVec 32) (k0_hw66 : k0_chk66 i v1 v6 v10 v14), ∀ (k0_h2 : k0_cond2 i v1 = 1#1), ∀ (k0_h3 : k0_cond3 i v6 v10 = 1#1), ∀ a, (k0_off74 v14) a + S1x1024x2048.size a ≤ S2x1024x2048.size a := fun i v1 v6 v10 v14 k0_hw66 k0_h2 k0_h3 => k0_hw66.2.2.2.1 k0_h2 k0_h3
theorem k0_off75_inb : ∀ (i : grid0.Coords) (v1 : BitVec 32) (v6 : BitVec 32) (v10 : BitVec 32) (v14 : BitVec 32) (k0_hw66 : k0_chk66 i v1 v6 v10 v14), ∀ (k0_h2 : k0_cond2 i v1 = 1#1), ∀ (k0_h3 : k0_cond3 i v6 v10 = 1#1), ∀ a, (k0_off75 v14) a + S1x1024x1024.size a ≤ S2x1024x1024.size a := fun i v1 v6 v10 v14 k0_hw66 k0_h2 k0_h3 => k0_hw66.2.2.2.2 k0_h2 k0_h3

def k0_off76 (i : grid0.Coords) : Fin 1 → Nat :=
  let arg0 : BitVec 32 := BitVec.ofNat 32 (i 0).val
  let v92 : Index := Scalar.indexCast arg0
  ![v92.toNat]
def k0_off77 (i : grid0.Coords) : Fin 1 → Nat :=
  let arg0 : BitVec 32 := BitVec.ofNat 32 (i 0).val
  let v97 : Index := Scalar.indexCast arg0
  ![v97.toNat]
def k0_off78 (v14 : BitVec 32) : Fin 1 → Nat :=
  let c1_i32_45 : BitVec 32 := 1#32
  let v99 : BitVec 32 := Scalar.subi c1_i32_45 v14
  ![v99.toNat]
def k0_cond4 (v93 : BitVec 32) : BitVec 1 :=
  let c0_i32_43 : BitVec 32 := 0#32
  let v94 : BitVec 1 := Scalar.cmpi .sge v93 c0_i32_43
  let v95 : BitVec 32 := Scalar.extui v94
  let c0_i32_44 : BitVec 32 := 0#32
  let v96 : BitVec 1 := Scalar.cmpi .ne v95 c0_i32_44
  v96

def k0_off79 (v14 : BitVec 32) : Fin 3 → Nat :=
  let c1_i32_45 : BitVec 32 := 1#32
  let v99 : BitVec 32 := Scalar.subi c1_i32_45 v14
  let c0_i32_46 : BitVec 32 := 0#32
  let c0_i32_47 : BitVec 32 := 0#32
  ![v99.toNat, 0, 0]
def k0_off80 (v98 : BitVec 32) : Fin 3 → Nat :=
  let c0_i32_48 : BitVec 32 := 0#32
  let c0_i32_49 : BitVec 32 := 0#32
  ![v98.toNat, 0, 0]

def k0_off81 (v14 : BitVec 32) : Fin 1 → Nat :=
  let c1_i32_45 : BitVec 32 := 1#32
  let v99 : BitVec 32 := Scalar.subi c1_i32_45 v14
  ![v99.toNat]
def k0_off82 (v14 : BitVec 32) : Fin 3 → Nat :=
  let c1_i32_45 : BitVec 32 := 1#32
  let v99 : BitVec 32 := Scalar.subi c1_i32_45 v14
  let c0_i32_50 : BitVec 32 := 0#32
  let c0_i32_51 : BitVec 32 := 0#32
  ![v99.toNat, 0, 0]

def k0_chk67 (i : grid0.Coords) (v1 : BitVec 32) (v6 : BitVec 32) (v10 : BitVec 32) (v14 : BitVec 32) (v93 : BitVec 32) : Prop :=
  (∀ (k0_h2 : k0_cond2 i v1 = 1#1), ∀ (k0_h3 : k0_cond3 i v6 v10 = 1#1), ∀ (k0_h4 : k0_cond4 v93 = 1#1), ∀ a, (k0_off78 v14) a + S1.size a ≤ S2.size a) ∧
  (∀ (k0_h2 : k0_cond2 i v1 = 1#1), ∀ (k0_h3 : k0_cond3 i v6 v10 = 1#1), ∀ (k0_h4 : k0_cond4 v93 = 1#1), ∀ a, (k0_off79 v14) a + S1x1024x2048.size a ≤ S2x1024x2048.size a) ∧
  (∀ (k0_h2 : k0_cond2 i v1 = 1#1), ∀ (k0_h3 : k0_cond3 i v6 v10 = 1#1), ∀ (k0_h4 : k0_cond4 v93 = 1#1), ∀ a, (k0_off81 v14) a + S1.size a ≤ S2.size a) ∧
  (∀ (k0_h2 : k0_cond2 i v1 = 1#1), ∀ (k0_h3 : k0_cond3 i v6 v10 = 1#1), ∀ (k0_h4 : k0_cond4 v93 = 1#1), ∀ a, (k0_off82 v14) a + S1x1024x1024.size a ≤ S2x1024x1024.size a)
theorem k0_off78_inb : ∀ (i : grid0.Coords) (v1 : BitVec 32) (v6 : BitVec 32) (v10 : BitVec 32) (v14 : BitVec 32) (v93 : BitVec 32) (k0_hw67 : k0_chk67 i v1 v6 v10 v14 v93), ∀ (k0_h2 : k0_cond2 i v1 = 1#1), ∀ (k0_h3 : k0_cond3 i v6 v10 = 1#1), ∀ (k0_h4 : k0_cond4 v93 = 1#1), ∀ a, (k0_off78 v14) a + S1.size a ≤ S2.size a := fun i v1 v6 v10 v14 v93 k0_hw67 k0_h2 k0_h3 k0_h4 => k0_hw67.1 k0_h2 k0_h3 k0_h4
theorem k0_off79_inb : ∀ (i : grid0.Coords) (v1 : BitVec 32) (v6 : BitVec 32) (v10 : BitVec 32) (v14 : BitVec 32) (v93 : BitVec 32) (k0_hw67 : k0_chk67 i v1 v6 v10 v14 v93), ∀ (k0_h2 : k0_cond2 i v1 = 1#1), ∀ (k0_h3 : k0_cond3 i v6 v10 = 1#1), ∀ (k0_h4 : k0_cond4 v93 = 1#1), ∀ a, (k0_off79 v14) a + S1x1024x2048.size a ≤ S2x1024x2048.size a := fun i v1 v6 v10 v14 v93 k0_hw67 k0_h2 k0_h3 k0_h4 => k0_hw67.2.1 k0_h2 k0_h3 k0_h4
theorem k0_off81_inb : ∀ (i : grid0.Coords) (v1 : BitVec 32) (v6 : BitVec 32) (v10 : BitVec 32) (v14 : BitVec 32) (v93 : BitVec 32) (k0_hw67 : k0_chk67 i v1 v6 v10 v14 v93), ∀ (k0_h2 : k0_cond2 i v1 = 1#1), ∀ (k0_h3 : k0_cond3 i v6 v10 = 1#1), ∀ (k0_h4 : k0_cond4 v93 = 1#1), ∀ a, (k0_off81 v14) a + S1.size a ≤ S2.size a := fun i v1 v6 v10 v14 v93 k0_hw67 k0_h2 k0_h3 k0_h4 => k0_hw67.2.2.1 k0_h2 k0_h3 k0_h4
theorem k0_off82_inb : ∀ (i : grid0.Coords) (v1 : BitVec 32) (v6 : BitVec 32) (v10 : BitVec 32) (v14 : BitVec 32) (v93 : BitVec 32) (k0_hw67 : k0_chk67 i v1 v6 v10 v14 v93), ∀ (k0_h2 : k0_cond2 i v1 = 1#1), ∀ (k0_h3 : k0_cond3 i v6 v10 = 1#1), ∀ (k0_h4 : k0_cond4 v93 = 1#1), ∀ a, (k0_off82 v14) a + S1x1024x1024.size a ≤ S2x1024x1024.size a := fun i v1 v6 v10 v14 v93 k0_hw67 k0_h2 k0_h3 k0_h4 => k0_hw67.2.2.2 k0_h2 k0_h3 k0_h4

def k0_off83 (v98 : BitVec 32) : Fin 3 → Nat :=
  let c0_i32_52 : BitVec 32 := 0#32
  let c0_i32_53 : BitVec 32 := 0#32
  ![v98.toNat, 0, 0]

def k0_chk68 (i : grid0.Coords) (v1 : BitVec 32) (v6 : BitVec 32) (v10 : BitVec 32) (v93 : BitVec 32) (v98 : BitVec 32) : Prop :=
  (∀ (k0_h2 : k0_cond2 i v1 = 1#1), ∀ (k0_h3 : k0_cond3 i v6 v10 = 1#1), ∀ (k0_h4 : k0_cond4 v93 = 1#1), ∀ a, (k0_off80 v98) a + S1x1024x2048.size a ≤ S32x1024x2048.size a) ∧
  (∀ (k0_h2 : k0_cond2 i v1 = 1#1), ∀ (k0_h3 : k0_cond3 i v6 v10 = 1#1), ∀ (k0_h4 : k0_cond4 v93 = 1#1), ∀ a, (k0_off83 v98) a + S1x1024x1024.size a ≤ S32x1024x1024.size a)
theorem k0_off80_inb : ∀ (i : grid0.Coords) (v1 : BitVec 32) (v6 : BitVec 32) (v10 : BitVec 32) (v93 : BitVec 32) (v98 : BitVec 32) (k0_hw68 : k0_chk68 i v1 v6 v10 v93 v98), ∀ (k0_h2 : k0_cond2 i v1 = 1#1), ∀ (k0_h3 : k0_cond3 i v6 v10 = 1#1), ∀ (k0_h4 : k0_cond4 v93 = 1#1), ∀ a, (k0_off80 v98) a + S1x1024x2048.size a ≤ S32x1024x2048.size a := fun i v1 v6 v10 v93 v98 k0_hw68 k0_h2 k0_h3 k0_h4 => k0_hw68.1 k0_h2 k0_h3 k0_h4
theorem k0_off83_inb : ∀ (i : grid0.Coords) (v1 : BitVec 32) (v6 : BitVec 32) (v10 : BitVec 32) (v93 : BitVec 32) (v98 : BitVec 32) (k0_hw68 : k0_chk68 i v1 v6 v10 v93 v98), ∀ (k0_h2 : k0_cond2 i v1 = 1#1), ∀ (k0_h3 : k0_cond3 i v6 v10 = 1#1), ∀ (k0_h4 : k0_cond4 v93 = 1#1), ∀ a, (k0_off83 v98) a + S1x1024x1024.size a ≤ S32x1024x1024.size a := fun i v1 v6 v10 v93 v98 k0_hw68 k0_h2 k0_h3 k0_h4 => k0_hw68.2 k0_h2 k0_h3 k0_h4

def k0_off84 (i : grid0.Coords) : Fin 1 → Nat :=
  let arg0 : BitVec 32 := BitVec.ofNat 32 (i 0).val
  let v28 : Index := Scalar.indexCast arg0
  ![v28.toNat]
def k0_mult65 (v67 : BitVec 32) : BitVec 32 :=
  let c8_i32_29 : BitVec 32 := 8#32
  let v68 : BitVec 32 := Scalar.muli v67 c8_i32_29
  v68
def k0_cond5 (v29 : BitVec 32) : BitVec 1 :=
  let c1_i32_10 : BitVec 32 := 1#32
  let v30 : BitVec 1 := Scalar.cmpi .eq v29 c1_i32_10
  let v31 : BitVec 32 := Scalar.extui v30
  let c0_i32_11 : BitVec 32 := 0#32
  let v32 : BitVec 1 := Scalar.cmpi .ne v31 c0_i32_11
  v32

def k0_off85 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off86 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c0_i32_30 : BitVec 32 := 0#32
  let c0_i32_31 : BitVec 32 := 0#32
  ![v66.toNat, 0, 0]
def k0_off87 (v67 : BitVec 32) : Fin 2 → Nat :=
  let c8_i32_29 : BitVec 32 := 8#32
  let v68 : BitVec 32 := Scalar.muli v67 c8_i32_29
  let v69 : BitVec 32 := v68
  let c0_i32_32 : BitVec 32 := 0#32
  ![v69.toNat, 0]

def k0_chk69 (i : grid0.Coords) (v1 : BitVec 32) (v29 : BitVec 32) (v67 : BitVec 32) : Prop :=
  (∀ (k0_h2 : k0_cond2 i v1 = 1#1), ∀ (k0_h5 : k0_cond5 v29 = 1#1), 8 ∣ (k0_mult65 v67).toNat) ∧
  (∀ (k0_h2 : k0_cond2 i v1 = 1#1), ∀ (k0_h5 : k0_cond5 v29 = 1#1), ∀ a, (k0_off87 v67) a + S8x1024.size a ≤ S102400x1024.size a)
theorem k0_mult65_dvd : ∀ (i : grid0.Coords) (v1 : BitVec 32) (v29 : BitVec 32) (v67 : BitVec 32) (k0_hw69 : k0_chk69 i v1 v29 v67), ∀ (k0_h2 : k0_cond2 i v1 = 1#1), ∀ (k0_h5 : k0_cond5 v29 = 1#1), 8 ∣ (k0_mult65 v67).toNat := fun i v1 v29 v67 k0_hw69 k0_h2 k0_h5 => k0_hw69.1 k0_h2 k0_h5
theorem k0_off87_inb : ∀ (i : grid0.Coords) (v1 : BitVec 32) (v29 : BitVec 32) (v67 : BitVec 32) (k0_hw69 : k0_chk69 i v1 v29 v67), ∀ (k0_h2 : k0_cond2 i v1 = 1#1), ∀ (k0_h5 : k0_cond5 v29 = 1#1), ∀ a, (k0_off87 v67) a + S8x1024.size a ≤ S102400x1024.size a := fun i v1 v29 v67 k0_hw69 k0_h2 k0_h5 => k0_hw69.2 k0_h2 k0_h5

def k0_mult66 (v75 : BitVec 32) : BitVec 32 :=
  let c8_i32_35 : BitVec 32 := 8#32
  let v76 : BitVec 32 := Scalar.muli v75 c8_i32_35
  v76

def k0_off88 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off89 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c8_i32_36 : BitVec 32 := 8#32
  let c0_i32_37 : BitVec 32 := 0#32
  ![v66.toNat, 8, 0]
def k0_off90 (v75 : BitVec 32) : Fin 2 → Nat :=
  let c8_i32_35 : BitVec 32 := 8#32
  let v76 : BitVec 32 := Scalar.muli v75 c8_i32_35
  let v77 : BitVec 32 := v76
  let c0_i32_38 : BitVec 32 := 0#32
  ![v77.toNat, 0]

def k0_chk70 (i : grid0.Coords) (v1 : BitVec 32) (v29 : BitVec 32) (v75 : BitVec 32) : Prop :=
  (∀ (k0_h2 : k0_cond2 i v1 = 1#1), ∀ (k0_h5 : k0_cond5 v29 = 1#1), 8 ∣ (k0_mult66 v75).toNat) ∧
  (∀ (k0_h2 : k0_cond2 i v1 = 1#1), ∀ (k0_h5 : k0_cond5 v29 = 1#1), ∀ a, (k0_off90 v75) a + S8x1024.size a ≤ S102400x1024.size a)
theorem k0_mult66_dvd : ∀ (i : grid0.Coords) (v1 : BitVec 32) (v29 : BitVec 32) (v75 : BitVec 32) (k0_hw70 : k0_chk70 i v1 v29 v75), ∀ (k0_h2 : k0_cond2 i v1 = 1#1), ∀ (k0_h5 : k0_cond5 v29 = 1#1), 8 ∣ (k0_mult66 v75).toNat := fun i v1 v29 v75 k0_hw70 k0_h2 k0_h5 => k0_hw70.1 k0_h2 k0_h5
theorem k0_off90_inb : ∀ (i : grid0.Coords) (v1 : BitVec 32) (v29 : BitVec 32) (v75 : BitVec 32) (k0_hw70 : k0_chk70 i v1 v29 v75), ∀ (k0_h2 : k0_cond2 i v1 = 1#1), ∀ (k0_h5 : k0_cond5 v29 = 1#1), ∀ a, (k0_off90 v75) a + S8x1024.size a ≤ S102400x1024.size a := fun i v1 v29 v75 k0_hw70 k0_h2 k0_h5 => k0_hw70.2 k0_h2 k0_h5

def k0_mult67 (v83 : BitVec 32) : BitVec 32 :=
  let c8_i32_41 : BitVec 32 := 8#32
  let v84 : BitVec 32 := Scalar.muli v83 c8_i32_41
  v84

def k0_off91 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off92 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c16_i32_42 : BitVec 32 := 16#32
  let c0_i32_43 : BitVec 32 := 0#32
  ![v66.toNat, 16, 0]
def k0_off93 (v83 : BitVec 32) : Fin 2 → Nat :=
  let c8_i32_41 : BitVec 32 := 8#32
  let v84 : BitVec 32 := Scalar.muli v83 c8_i32_41
  let v85 : BitVec 32 := v84
  let c0_i32_44 : BitVec 32 := 0#32
  ![v85.toNat, 0]

def k0_chk71 (i : grid0.Coords) (v1 : BitVec 32) (v29 : BitVec 32) (v83 : BitVec 32) : Prop :=
  (∀ (k0_h2 : k0_cond2 i v1 = 1#1), ∀ (k0_h5 : k0_cond5 v29 = 1#1), 8 ∣ (k0_mult67 v83).toNat) ∧
  (∀ (k0_h2 : k0_cond2 i v1 = 1#1), ∀ (k0_h5 : k0_cond5 v29 = 1#1), ∀ a, (k0_off93 v83) a + S8x1024.size a ≤ S102400x1024.size a)
theorem k0_mult67_dvd : ∀ (i : grid0.Coords) (v1 : BitVec 32) (v29 : BitVec 32) (v83 : BitVec 32) (k0_hw71 : k0_chk71 i v1 v29 v83), ∀ (k0_h2 : k0_cond2 i v1 = 1#1), ∀ (k0_h5 : k0_cond5 v29 = 1#1), 8 ∣ (k0_mult67 v83).toNat := fun i v1 v29 v83 k0_hw71 k0_h2 k0_h5 => k0_hw71.1 k0_h2 k0_h5
theorem k0_off93_inb : ∀ (i : grid0.Coords) (v1 : BitVec 32) (v29 : BitVec 32) (v83 : BitVec 32) (k0_hw71 : k0_chk71 i v1 v29 v83), ∀ (k0_h2 : k0_cond2 i v1 = 1#1), ∀ (k0_h5 : k0_cond5 v29 = 1#1), ∀ a, (k0_off93 v83) a + S8x1024.size a ≤ S102400x1024.size a := fun i v1 v29 v83 k0_hw71 k0_h2 k0_h5 => k0_hw71.2 k0_h2 k0_h5

def k0_mult68 (v91 : BitVec 32) : BitVec 32 :=
  let c8_i32_47 : BitVec 32 := 8#32
  let v92 : BitVec 32 := Scalar.muli v91 c8_i32_47
  v92

def k0_off94 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off95 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c24_i32_48 : BitVec 32 := 24#32
  let c0_i32_49 : BitVec 32 := 0#32
  ![v66.toNat, 24, 0]
def k0_off96 (v91 : BitVec 32) : Fin 2 → Nat :=
  let c8_i32_47 : BitVec 32 := 8#32
  let v92 : BitVec 32 := Scalar.muli v91 c8_i32_47
  let v93 : BitVec 32 := v92
  let c0_i32_50 : BitVec 32 := 0#32
  ![v93.toNat, 0]

def k0_chk72 (i : grid0.Coords) (v1 : BitVec 32) (v29 : BitVec 32) (v91 : BitVec 32) : Prop :=
  (∀ (k0_h2 : k0_cond2 i v1 = 1#1), ∀ (k0_h5 : k0_cond5 v29 = 1#1), 8 ∣ (k0_mult68 v91).toNat) ∧
  (∀ (k0_h2 : k0_cond2 i v1 = 1#1), ∀ (k0_h5 : k0_cond5 v29 = 1#1), ∀ a, (k0_off96 v91) a + S8x1024.size a ≤ S102400x1024.size a)
theorem k0_mult68_dvd : ∀ (i : grid0.Coords) (v1 : BitVec 32) (v29 : BitVec 32) (v91 : BitVec 32) (k0_hw72 : k0_chk72 i v1 v29 v91), ∀ (k0_h2 : k0_cond2 i v1 = 1#1), ∀ (k0_h5 : k0_cond5 v29 = 1#1), 8 ∣ (k0_mult68 v91).toNat := fun i v1 v29 v91 k0_hw72 k0_h2 k0_h5 => k0_hw72.1 k0_h2 k0_h5
theorem k0_off96_inb : ∀ (i : grid0.Coords) (v1 : BitVec 32) (v29 : BitVec 32) (v91 : BitVec 32) (k0_hw72 : k0_chk72 i v1 v29 v91), ∀ (k0_h2 : k0_cond2 i v1 = 1#1), ∀ (k0_h5 : k0_cond5 v29 = 1#1), ∀ a, (k0_off96 v91) a + S8x1024.size a ≤ S102400x1024.size a := fun i v1 v29 v91 k0_hw72 k0_h2 k0_h5 => k0_hw72.2 k0_h2 k0_h5

def k0_mult69 (v99 : BitVec 32) : BitVec 32 :=
  let c8_i32_53 : BitVec 32 := 8#32
  let v100 : BitVec 32 := Scalar.muli v99 c8_i32_53
  v100

def k0_off97 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off98 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c32_i32_54 : BitVec 32 := 32#32
  let c0_i32_55 : BitVec 32 := 0#32
  ![v66.toNat, 32, 0]
def k0_off99 (v99 : BitVec 32) : Fin 2 → Nat :=
  let c8_i32_53 : BitVec 32 := 8#32
  let v100 : BitVec 32 := Scalar.muli v99 c8_i32_53
  let v101 : BitVec 32 := v100
  let c0_i32_56 : BitVec 32 := 0#32
  ![v101.toNat, 0]

def k0_chk73 (i : grid0.Coords) (v1 : BitVec 32) (v29 : BitVec 32) (v99 : BitVec 32) : Prop :=
  (∀ (k0_h2 : k0_cond2 i v1 = 1#1), ∀ (k0_h5 : k0_cond5 v29 = 1#1), 8 ∣ (k0_mult69 v99).toNat) ∧
  (∀ (k0_h2 : k0_cond2 i v1 = 1#1), ∀ (k0_h5 : k0_cond5 v29 = 1#1), ∀ a, (k0_off99 v99) a + S8x1024.size a ≤ S102400x1024.size a)
theorem k0_mult69_dvd : ∀ (i : grid0.Coords) (v1 : BitVec 32) (v29 : BitVec 32) (v99 : BitVec 32) (k0_hw73 : k0_chk73 i v1 v29 v99), ∀ (k0_h2 : k0_cond2 i v1 = 1#1), ∀ (k0_h5 : k0_cond5 v29 = 1#1), 8 ∣ (k0_mult69 v99).toNat := fun i v1 v29 v99 k0_hw73 k0_h2 k0_h5 => k0_hw73.1 k0_h2 k0_h5
theorem k0_off99_inb : ∀ (i : grid0.Coords) (v1 : BitVec 32) (v29 : BitVec 32) (v99 : BitVec 32) (k0_hw73 : k0_chk73 i v1 v29 v99), ∀ (k0_h2 : k0_cond2 i v1 = 1#1), ∀ (k0_h5 : k0_cond5 v29 = 1#1), ∀ a, (k0_off99 v99) a + S8x1024.size a ≤ S102400x1024.size a := fun i v1 v29 v99 k0_hw73 k0_h2 k0_h5 => k0_hw73.2 k0_h2 k0_h5

def k0_mult70 (v107 : BitVec 32) : BitVec 32 :=
  let c8_i32_59 : BitVec 32 := 8#32
  let v108 : BitVec 32 := Scalar.muli v107 c8_i32_59
  v108

def k0_off100 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off101 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c40_i32_60 : BitVec 32 := 40#32
  let c0_i32_61 : BitVec 32 := 0#32
  ![v66.toNat, 40, 0]
def k0_off102 (v107 : BitVec 32) : Fin 2 → Nat :=
  let c8_i32_59 : BitVec 32 := 8#32
  let v108 : BitVec 32 := Scalar.muli v107 c8_i32_59
  let v109 : BitVec 32 := v108
  let c0_i32_62 : BitVec 32 := 0#32
  ![v109.toNat, 0]

def k0_chk74 (i : grid0.Coords) (v1 : BitVec 32) (v29 : BitVec 32) (v107 : BitVec 32) : Prop :=
  (∀ (k0_h2 : k0_cond2 i v1 = 1#1), ∀ (k0_h5 : k0_cond5 v29 = 1#1), 8 ∣ (k0_mult70 v107).toNat) ∧
  (∀ (k0_h2 : k0_cond2 i v1 = 1#1), ∀ (k0_h5 : k0_cond5 v29 = 1#1), ∀ a, (k0_off102 v107) a + S8x1024.size a ≤ S102400x1024.size a)
theorem k0_mult70_dvd : ∀ (i : grid0.Coords) (v1 : BitVec 32) (v29 : BitVec 32) (v107 : BitVec 32) (k0_hw74 : k0_chk74 i v1 v29 v107), ∀ (k0_h2 : k0_cond2 i v1 = 1#1), ∀ (k0_h5 : k0_cond5 v29 = 1#1), 8 ∣ (k0_mult70 v107).toNat := fun i v1 v29 v107 k0_hw74 k0_h2 k0_h5 => k0_hw74.1 k0_h2 k0_h5
theorem k0_off102_inb : ∀ (i : grid0.Coords) (v1 : BitVec 32) (v29 : BitVec 32) (v107 : BitVec 32) (k0_hw74 : k0_chk74 i v1 v29 v107), ∀ (k0_h2 : k0_cond2 i v1 = 1#1), ∀ (k0_h5 : k0_cond5 v29 = 1#1), ∀ a, (k0_off102 v107) a + S8x1024.size a ≤ S102400x1024.size a := fun i v1 v29 v107 k0_hw74 k0_h2 k0_h5 => k0_hw74.2 k0_h2 k0_h5

def k0_mult71 (v115 : BitVec 32) : BitVec 32 :=
  let c8_i32_65 : BitVec 32 := 8#32
  let v116 : BitVec 32 := Scalar.muli v115 c8_i32_65
  v116

def k0_off103 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off104 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c48_i32_66 : BitVec 32 := 48#32
  let c0_i32_67 : BitVec 32 := 0#32
  ![v66.toNat, 48, 0]
def k0_off105 (v115 : BitVec 32) : Fin 2 → Nat :=
  let c8_i32_65 : BitVec 32 := 8#32
  let v116 : BitVec 32 := Scalar.muli v115 c8_i32_65
  let v117 : BitVec 32 := v116
  let c0_i32_68 : BitVec 32 := 0#32
  ![v117.toNat, 0]

def k0_chk75 (i : grid0.Coords) (v1 : BitVec 32) (v29 : BitVec 32) (v115 : BitVec 32) : Prop :=
  (∀ (k0_h2 : k0_cond2 i v1 = 1#1), ∀ (k0_h5 : k0_cond5 v29 = 1#1), 8 ∣ (k0_mult71 v115).toNat) ∧
  (∀ (k0_h2 : k0_cond2 i v1 = 1#1), ∀ (k0_h5 : k0_cond5 v29 = 1#1), ∀ a, (k0_off105 v115) a + S8x1024.size a ≤ S102400x1024.size a)
theorem k0_mult71_dvd : ∀ (i : grid0.Coords) (v1 : BitVec 32) (v29 : BitVec 32) (v115 : BitVec 32) (k0_hw75 : k0_chk75 i v1 v29 v115), ∀ (k0_h2 : k0_cond2 i v1 = 1#1), ∀ (k0_h5 : k0_cond5 v29 = 1#1), 8 ∣ (k0_mult71 v115).toNat := fun i v1 v29 v115 k0_hw75 k0_h2 k0_h5 => k0_hw75.1 k0_h2 k0_h5
theorem k0_off105_inb : ∀ (i : grid0.Coords) (v1 : BitVec 32) (v29 : BitVec 32) (v115 : BitVec 32) (k0_hw75 : k0_chk75 i v1 v29 v115), ∀ (k0_h2 : k0_cond2 i v1 = 1#1), ∀ (k0_h5 : k0_cond5 v29 = 1#1), ∀ a, (k0_off105 v115) a + S8x1024.size a ≤ S102400x1024.size a := fun i v1 v29 v115 k0_hw75 k0_h2 k0_h5 => k0_hw75.2 k0_h2 k0_h5

def k0_mult72 (v123 : BitVec 32) : BitVec 32 :=
  let c8_i32_71 : BitVec 32 := 8#32
  let v124 : BitVec 32 := Scalar.muli v123 c8_i32_71
  v124

def k0_off106 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off107 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c56_i32_72 : BitVec 32 := 56#32
  let c0_i32_73 : BitVec 32 := 0#32
  ![v66.toNat, 56, 0]
def k0_off108 (v123 : BitVec 32) : Fin 2 → Nat :=
  let c8_i32_71 : BitVec 32 := 8#32
  let v124 : BitVec 32 := Scalar.muli v123 c8_i32_71
  let v125 : BitVec 32 := v124
  let c0_i32_74 : BitVec 32 := 0#32
  ![v125.toNat, 0]

def k0_chk76 (i : grid0.Coords) (v1 : BitVec 32) (v29 : BitVec 32) (v123 : BitVec 32) : Prop :=
  (∀ (k0_h2 : k0_cond2 i v1 = 1#1), ∀ (k0_h5 : k0_cond5 v29 = 1#1), 8 ∣ (k0_mult72 v123).toNat) ∧
  (∀ (k0_h2 : k0_cond2 i v1 = 1#1), ∀ (k0_h5 : k0_cond5 v29 = 1#1), ∀ a, (k0_off108 v123) a + S8x1024.size a ≤ S102400x1024.size a)
theorem k0_mult72_dvd : ∀ (i : grid0.Coords) (v1 : BitVec 32) (v29 : BitVec 32) (v123 : BitVec 32) (k0_hw76 : k0_chk76 i v1 v29 v123), ∀ (k0_h2 : k0_cond2 i v1 = 1#1), ∀ (k0_h5 : k0_cond5 v29 = 1#1), 8 ∣ (k0_mult72 v123).toNat := fun i v1 v29 v123 k0_hw76 k0_h2 k0_h5 => k0_hw76.1 k0_h2 k0_h5
theorem k0_off108_inb : ∀ (i : grid0.Coords) (v1 : BitVec 32) (v29 : BitVec 32) (v123 : BitVec 32) (k0_hw76 : k0_chk76 i v1 v29 v123), ∀ (k0_h2 : k0_cond2 i v1 = 1#1), ∀ (k0_h5 : k0_cond5 v29 = 1#1), ∀ a, (k0_off108 v123) a + S8x1024.size a ≤ S102400x1024.size a := fun i v1 v29 v123 k0_hw76 k0_h2 k0_h5 => k0_hw76.2 k0_h2 k0_h5

def k0_mult73 (v131 : BitVec 32) : BitVec 32 :=
  let c8_i32_77 : BitVec 32 := 8#32
  let v132 : BitVec 32 := Scalar.muli v131 c8_i32_77
  v132

def k0_off109 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off110 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c64_i32 : BitVec 32 := 64#32
  let c0_i32_78 : BitVec 32 := 0#32
  ![v66.toNat, 64, 0]
def k0_off111 (v131 : BitVec 32) : Fin 2 → Nat :=
  let c8_i32_77 : BitVec 32 := 8#32
  let v132 : BitVec 32 := Scalar.muli v131 c8_i32_77
  let v133 : BitVec 32 := v132
  let c0_i32_79 : BitVec 32 := 0#32
  ![v133.toNat, 0]

def k0_chk77 (i : grid0.Coords) (v1 : BitVec 32) (v29 : BitVec 32) (v131 : BitVec 32) : Prop :=
  (∀ (k0_h2 : k0_cond2 i v1 = 1#1), ∀ (k0_h5 : k0_cond5 v29 = 1#1), 8 ∣ (k0_mult73 v131).toNat) ∧
  (∀ (k0_h2 : k0_cond2 i v1 = 1#1), ∀ (k0_h5 : k0_cond5 v29 = 1#1), ∀ a, (k0_off111 v131) a + S8x1024.size a ≤ S102400x1024.size a)
theorem k0_mult73_dvd : ∀ (i : grid0.Coords) (v1 : BitVec 32) (v29 : BitVec 32) (v131 : BitVec 32) (k0_hw77 : k0_chk77 i v1 v29 v131), ∀ (k0_h2 : k0_cond2 i v1 = 1#1), ∀ (k0_h5 : k0_cond5 v29 = 1#1), 8 ∣ (k0_mult73 v131).toNat := fun i v1 v29 v131 k0_hw77 k0_h2 k0_h5 => k0_hw77.1 k0_h2 k0_h5
theorem k0_off111_inb : ∀ (i : grid0.Coords) (v1 : BitVec 32) (v29 : BitVec 32) (v131 : BitVec 32) (k0_hw77 : k0_chk77 i v1 v29 v131), ∀ (k0_h2 : k0_cond2 i v1 = 1#1), ∀ (k0_h5 : k0_cond5 v29 = 1#1), ∀ a, (k0_off111 v131) a + S8x1024.size a ≤ S102400x1024.size a := fun i v1 v29 v131 k0_hw77 k0_h2 k0_h5 => k0_hw77.2 k0_h2 k0_h5

def k0_mult74 (v139 : BitVec 32) : BitVec 32 :=
  let c8_i32_82 : BitVec 32 := 8#32
  let v140 : BitVec 32 := Scalar.muli v139 c8_i32_82
  v140

def k0_off112 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off113 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c72_i32 : BitVec 32 := 72#32
  let c0_i32_83 : BitVec 32 := 0#32
  ![v66.toNat, 72, 0]
def k0_off114 (v139 : BitVec 32) : Fin 2 → Nat :=
  let c8_i32_82 : BitVec 32 := 8#32
  let v140 : BitVec 32 := Scalar.muli v139 c8_i32_82
  let v141 : BitVec 32 := v140
  let c0_i32_84 : BitVec 32 := 0#32
  ![v141.toNat, 0]

def k0_chk78 (i : grid0.Coords) (v1 : BitVec 32) (v29 : BitVec 32) (v139 : BitVec 32) : Prop :=
  (∀ (k0_h2 : k0_cond2 i v1 = 1#1), ∀ (k0_h5 : k0_cond5 v29 = 1#1), 8 ∣ (k0_mult74 v139).toNat) ∧
  (∀ (k0_h2 : k0_cond2 i v1 = 1#1), ∀ (k0_h5 : k0_cond5 v29 = 1#1), ∀ a, (k0_off114 v139) a + S8x1024.size a ≤ S102400x1024.size a)
theorem k0_mult74_dvd : ∀ (i : grid0.Coords) (v1 : BitVec 32) (v29 : BitVec 32) (v139 : BitVec 32) (k0_hw78 : k0_chk78 i v1 v29 v139), ∀ (k0_h2 : k0_cond2 i v1 = 1#1), ∀ (k0_h5 : k0_cond5 v29 = 1#1), 8 ∣ (k0_mult74 v139).toNat := fun i v1 v29 v139 k0_hw78 k0_h2 k0_h5 => k0_hw78.1 k0_h2 k0_h5
theorem k0_off114_inb : ∀ (i : grid0.Coords) (v1 : BitVec 32) (v29 : BitVec 32) (v139 : BitVec 32) (k0_hw78 : k0_chk78 i v1 v29 v139), ∀ (k0_h2 : k0_cond2 i v1 = 1#1), ∀ (k0_h5 : k0_cond5 v29 = 1#1), ∀ a, (k0_off114 v139) a + S8x1024.size a ≤ S102400x1024.size a := fun i v1 v29 v139 k0_hw78 k0_h2 k0_h5 => k0_hw78.2 k0_h2 k0_h5

def k0_mult75 (v147 : BitVec 32) : BitVec 32 :=
  let c8_i32_87 : BitVec 32 := 8#32
  let v148 : BitVec 32 := Scalar.muli v147 c8_i32_87
  v148

def k0_off115 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off116 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c80_i32 : BitVec 32 := 80#32
  let c0_i32_88 : BitVec 32 := 0#32
  ![v66.toNat, 80, 0]
def k0_off117 (v147 : BitVec 32) : Fin 2 → Nat :=
  let c8_i32_87 : BitVec 32 := 8#32
  let v148 : BitVec 32 := Scalar.muli v147 c8_i32_87
  let v149 : BitVec 32 := v148
  let c0_i32_89 : BitVec 32 := 0#32
  ![v149.toNat, 0]

def k0_chk79 (i : grid0.Coords) (v1 : BitVec 32) (v29 : BitVec 32) (v147 : BitVec 32) : Prop :=
  (∀ (k0_h2 : k0_cond2 i v1 = 1#1), ∀ (k0_h5 : k0_cond5 v29 = 1#1), 8 ∣ (k0_mult75 v147).toNat) ∧
  (∀ (k0_h2 : k0_cond2 i v1 = 1#1), ∀ (k0_h5 : k0_cond5 v29 = 1#1), ∀ a, (k0_off117 v147) a + S8x1024.size a ≤ S102400x1024.size a)
theorem k0_mult75_dvd : ∀ (i : grid0.Coords) (v1 : BitVec 32) (v29 : BitVec 32) (v147 : BitVec 32) (k0_hw79 : k0_chk79 i v1 v29 v147), ∀ (k0_h2 : k0_cond2 i v1 = 1#1), ∀ (k0_h5 : k0_cond5 v29 = 1#1), 8 ∣ (k0_mult75 v147).toNat := fun i v1 v29 v147 k0_hw79 k0_h2 k0_h5 => k0_hw79.1 k0_h2 k0_h5
theorem k0_off117_inb : ∀ (i : grid0.Coords) (v1 : BitVec 32) (v29 : BitVec 32) (v147 : BitVec 32) (k0_hw79 : k0_chk79 i v1 v29 v147), ∀ (k0_h2 : k0_cond2 i v1 = 1#1), ∀ (k0_h5 : k0_cond5 v29 = 1#1), ∀ a, (k0_off117 v147) a + S8x1024.size a ≤ S102400x1024.size a := fun i v1 v29 v147 k0_hw79 k0_h2 k0_h5 => k0_hw79.2 k0_h2 k0_h5

def k0_mult76 (v155 : BitVec 32) : BitVec 32 :=
  let c8_i32_92 : BitVec 32 := 8#32
  let v156 : BitVec 32 := Scalar.muli v155 c8_i32_92
  v156

def k0_off118 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off119 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c88_i32 : BitVec 32 := 88#32
  let c0_i32_93 : BitVec 32 := 0#32
  ![v66.toNat, 88, 0]
def k0_off120 (v155 : BitVec 32) : Fin 2 → Nat :=
  let c8_i32_92 : BitVec 32 := 8#32
  let v156 : BitVec 32 := Scalar.muli v155 c8_i32_92
  let v157 : BitVec 32 := v156
  let c0_i32_94 : BitVec 32 := 0#32
  ![v157.toNat, 0]

def k0_chk80 (i : grid0.Coords) (v1 : BitVec 32) (v29 : BitVec 32) (v155 : BitVec 32) : Prop :=
  (∀ (k0_h2 : k0_cond2 i v1 = 1#1), ∀ (k0_h5 : k0_cond5 v29 = 1#1), 8 ∣ (k0_mult76 v155).toNat) ∧
  (∀ (k0_h2 : k0_cond2 i v1 = 1#1), ∀ (k0_h5 : k0_cond5 v29 = 1#1), ∀ a, (k0_off120 v155) a + S8x1024.size a ≤ S102400x1024.size a)
theorem k0_mult76_dvd : ∀ (i : grid0.Coords) (v1 : BitVec 32) (v29 : BitVec 32) (v155 : BitVec 32) (k0_hw80 : k0_chk80 i v1 v29 v155), ∀ (k0_h2 : k0_cond2 i v1 = 1#1), ∀ (k0_h5 : k0_cond5 v29 = 1#1), 8 ∣ (k0_mult76 v155).toNat := fun i v1 v29 v155 k0_hw80 k0_h2 k0_h5 => k0_hw80.1 k0_h2 k0_h5
theorem k0_off120_inb : ∀ (i : grid0.Coords) (v1 : BitVec 32) (v29 : BitVec 32) (v155 : BitVec 32) (k0_hw80 : k0_chk80 i v1 v29 v155), ∀ (k0_h2 : k0_cond2 i v1 = 1#1), ∀ (k0_h5 : k0_cond5 v29 = 1#1), ∀ a, (k0_off120 v155) a + S8x1024.size a ≤ S102400x1024.size a := fun i v1 v29 v155 k0_hw80 k0_h2 k0_h5 => k0_hw80.2 k0_h2 k0_h5

def k0_mult77 (v163 : BitVec 32) : BitVec 32 :=
  let c8_i32_97 : BitVec 32 := 8#32
  let v164 : BitVec 32 := Scalar.muli v163 c8_i32_97
  v164

def k0_off121 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off122 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c96_i32 : BitVec 32 := 96#32
  let c0_i32_98 : BitVec 32 := 0#32
  ![v66.toNat, 96, 0]
def k0_off123 (v163 : BitVec 32) : Fin 2 → Nat :=
  let c8_i32_97 : BitVec 32 := 8#32
  let v164 : BitVec 32 := Scalar.muli v163 c8_i32_97
  let v165 : BitVec 32 := v164
  let c0_i32_99 : BitVec 32 := 0#32
  ![v165.toNat, 0]

def k0_chk81 (i : grid0.Coords) (v1 : BitVec 32) (v29 : BitVec 32) (v163 : BitVec 32) : Prop :=
  (∀ (k0_h2 : k0_cond2 i v1 = 1#1), ∀ (k0_h5 : k0_cond5 v29 = 1#1), 8 ∣ (k0_mult77 v163).toNat) ∧
  (∀ (k0_h2 : k0_cond2 i v1 = 1#1), ∀ (k0_h5 : k0_cond5 v29 = 1#1), ∀ a, (k0_off123 v163) a + S8x1024.size a ≤ S102400x1024.size a)
theorem k0_mult77_dvd : ∀ (i : grid0.Coords) (v1 : BitVec 32) (v29 : BitVec 32) (v163 : BitVec 32) (k0_hw81 : k0_chk81 i v1 v29 v163), ∀ (k0_h2 : k0_cond2 i v1 = 1#1), ∀ (k0_h5 : k0_cond5 v29 = 1#1), 8 ∣ (k0_mult77 v163).toNat := fun i v1 v29 v163 k0_hw81 k0_h2 k0_h5 => k0_hw81.1 k0_h2 k0_h5
theorem k0_off123_inb : ∀ (i : grid0.Coords) (v1 : BitVec 32) (v29 : BitVec 32) (v163 : BitVec 32) (k0_hw81 : k0_chk81 i v1 v29 v163), ∀ (k0_h2 : k0_cond2 i v1 = 1#1), ∀ (k0_h5 : k0_cond5 v29 = 1#1), ∀ a, (k0_off123 v163) a + S8x1024.size a ≤ S102400x1024.size a := fun i v1 v29 v163 k0_hw81 k0_h2 k0_h5 => k0_hw81.2 k0_h2 k0_h5

def k0_mult78 (v171 : BitVec 32) : BitVec 32 :=
  let c8_i32_102 : BitVec 32 := 8#32
  let v172 : BitVec 32 := Scalar.muli v171 c8_i32_102
  v172

def k0_off124 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off125 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c104_i32 : BitVec 32 := 104#32
  let c0_i32_103 : BitVec 32 := 0#32
  ![v66.toNat, 104, 0]
def k0_off126 (v171 : BitVec 32) : Fin 2 → Nat :=
  let c8_i32_102 : BitVec 32 := 8#32
  let v172 : BitVec 32 := Scalar.muli v171 c8_i32_102
  let v173 : BitVec 32 := v172
  let c0_i32_104 : BitVec 32 := 0#32
  ![v173.toNat, 0]

def k0_chk82 (i : grid0.Coords) (v1 : BitVec 32) (v29 : BitVec 32) (v171 : BitVec 32) : Prop :=
  (∀ (k0_h2 : k0_cond2 i v1 = 1#1), ∀ (k0_h5 : k0_cond5 v29 = 1#1), 8 ∣ (k0_mult78 v171).toNat) ∧
  (∀ (k0_h2 : k0_cond2 i v1 = 1#1), ∀ (k0_h5 : k0_cond5 v29 = 1#1), ∀ a, (k0_off126 v171) a + S8x1024.size a ≤ S102400x1024.size a)
theorem k0_mult78_dvd : ∀ (i : grid0.Coords) (v1 : BitVec 32) (v29 : BitVec 32) (v171 : BitVec 32) (k0_hw82 : k0_chk82 i v1 v29 v171), ∀ (k0_h2 : k0_cond2 i v1 = 1#1), ∀ (k0_h5 : k0_cond5 v29 = 1#1), 8 ∣ (k0_mult78 v171).toNat := fun i v1 v29 v171 k0_hw82 k0_h2 k0_h5 => k0_hw82.1 k0_h2 k0_h5
theorem k0_off126_inb : ∀ (i : grid0.Coords) (v1 : BitVec 32) (v29 : BitVec 32) (v171 : BitVec 32) (k0_hw82 : k0_chk82 i v1 v29 v171), ∀ (k0_h2 : k0_cond2 i v1 = 1#1), ∀ (k0_h5 : k0_cond5 v29 = 1#1), ∀ a, (k0_off126 v171) a + S8x1024.size a ≤ S102400x1024.size a := fun i v1 v29 v171 k0_hw82 k0_h2 k0_h5 => k0_hw82.2 k0_h2 k0_h5

def k0_mult79 (v179 : BitVec 32) : BitVec 32 :=
  let c8_i32_107 : BitVec 32 := 8#32
  let v180 : BitVec 32 := Scalar.muli v179 c8_i32_107
  v180

def k0_off127 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off128 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c112_i32 : BitVec 32 := 112#32
  let c0_i32_108 : BitVec 32 := 0#32
  ![v66.toNat, 112, 0]
def k0_off129 (v179 : BitVec 32) : Fin 2 → Nat :=
  let c8_i32_107 : BitVec 32 := 8#32
  let v180 : BitVec 32 := Scalar.muli v179 c8_i32_107
  let v181 : BitVec 32 := v180
  let c0_i32_109 : BitVec 32 := 0#32
  ![v181.toNat, 0]

def k0_chk83 (i : grid0.Coords) (v1 : BitVec 32) (v29 : BitVec 32) (v179 : BitVec 32) : Prop :=
  (∀ (k0_h2 : k0_cond2 i v1 = 1#1), ∀ (k0_h5 : k0_cond5 v29 = 1#1), 8 ∣ (k0_mult79 v179).toNat) ∧
  (∀ (k0_h2 : k0_cond2 i v1 = 1#1), ∀ (k0_h5 : k0_cond5 v29 = 1#1), ∀ a, (k0_off129 v179) a + S8x1024.size a ≤ S102400x1024.size a)
theorem k0_mult79_dvd : ∀ (i : grid0.Coords) (v1 : BitVec 32) (v29 : BitVec 32) (v179 : BitVec 32) (k0_hw83 : k0_chk83 i v1 v29 v179), ∀ (k0_h2 : k0_cond2 i v1 = 1#1), ∀ (k0_h5 : k0_cond5 v29 = 1#1), 8 ∣ (k0_mult79 v179).toNat := fun i v1 v29 v179 k0_hw83 k0_h2 k0_h5 => k0_hw83.1 k0_h2 k0_h5
theorem k0_off129_inb : ∀ (i : grid0.Coords) (v1 : BitVec 32) (v29 : BitVec 32) (v179 : BitVec 32) (k0_hw83 : k0_chk83 i v1 v29 v179), ∀ (k0_h2 : k0_cond2 i v1 = 1#1), ∀ (k0_h5 : k0_cond5 v29 = 1#1), ∀ a, (k0_off129 v179) a + S8x1024.size a ≤ S102400x1024.size a := fun i v1 v29 v179 k0_hw83 k0_h2 k0_h5 => k0_hw83.2 k0_h2 k0_h5

def k0_mult80 (v187 : BitVec 32) : BitVec 32 :=
  let c8_i32_112 : BitVec 32 := 8#32
  let v188 : BitVec 32 := Scalar.muli v187 c8_i32_112
  v188

def k0_off130 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off131 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c120_i32 : BitVec 32 := 120#32
  let c0_i32_113 : BitVec 32 := 0#32
  ![v66.toNat, 120, 0]
def k0_off132 (v187 : BitVec 32) : Fin 2 → Nat :=
  let c8_i32_112 : BitVec 32 := 8#32
  let v188 : BitVec 32 := Scalar.muli v187 c8_i32_112
  let v189 : BitVec 32 := v188
  let c0_i32_114 : BitVec 32 := 0#32
  ![v189.toNat, 0]

def k0_chk84 (i : grid0.Coords) (v1 : BitVec 32) (v29 : BitVec 32) (v187 : BitVec 32) : Prop :=
  (∀ (k0_h2 : k0_cond2 i v1 = 1#1), ∀ (k0_h5 : k0_cond5 v29 = 1#1), 8 ∣ (k0_mult80 v187).toNat) ∧
  (∀ (k0_h2 : k0_cond2 i v1 = 1#1), ∀ (k0_h5 : k0_cond5 v29 = 1#1), ∀ a, (k0_off132 v187) a + S8x1024.size a ≤ S102400x1024.size a)
theorem k0_mult80_dvd : ∀ (i : grid0.Coords) (v1 : BitVec 32) (v29 : BitVec 32) (v187 : BitVec 32) (k0_hw84 : k0_chk84 i v1 v29 v187), ∀ (k0_h2 : k0_cond2 i v1 = 1#1), ∀ (k0_h5 : k0_cond5 v29 = 1#1), 8 ∣ (k0_mult80 v187).toNat := fun i v1 v29 v187 k0_hw84 k0_h2 k0_h5 => k0_hw84.1 k0_h2 k0_h5
theorem k0_off132_inb : ∀ (i : grid0.Coords) (v1 : BitVec 32) (v29 : BitVec 32) (v187 : BitVec 32) (k0_hw84 : k0_chk84 i v1 v29 v187), ∀ (k0_h2 : k0_cond2 i v1 = 1#1), ∀ (k0_h5 : k0_cond5 v29 = 1#1), ∀ a, (k0_off132 v187) a + S8x1024.size a ≤ S102400x1024.size a := fun i v1 v29 v187 k0_hw84 k0_h2 k0_h5 => k0_hw84.2 k0_h2 k0_h5

def k0_mult81 (v195 : BitVec 32) : BitVec 32 :=
  let c8_i32_117 : BitVec 32 := 8#32
  let v196 : BitVec 32 := Scalar.muli v195 c8_i32_117
  v196

def k0_off133 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off134 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c128_i32 : BitVec 32 := 128#32
  let c0_i32_118 : BitVec 32 := 0#32
  ![v66.toNat, 128, 0]
def k0_off135 (v195 : BitVec 32) : Fin 2 → Nat :=
  let c8_i32_117 : BitVec 32 := 8#32
  let v196 : BitVec 32 := Scalar.muli v195 c8_i32_117
  let v197 : BitVec 32 := v196
  let c0_i32_119 : BitVec 32 := 0#32
  ![v197.toNat, 0]

def k0_chk85 (i : grid0.Coords) (v1 : BitVec 32) (v29 : BitVec 32) (v195 : BitVec 32) : Prop :=
  (∀ (k0_h2 : k0_cond2 i v1 = 1#1), ∀ (k0_h5 : k0_cond5 v29 = 1#1), 8 ∣ (k0_mult81 v195).toNat) ∧
  (∀ (k0_h2 : k0_cond2 i v1 = 1#1), ∀ (k0_h5 : k0_cond5 v29 = 1#1), ∀ a, (k0_off135 v195) a + S8x1024.size a ≤ S102400x1024.size a)
theorem k0_mult81_dvd : ∀ (i : grid0.Coords) (v1 : BitVec 32) (v29 : BitVec 32) (v195 : BitVec 32) (k0_hw85 : k0_chk85 i v1 v29 v195), ∀ (k0_h2 : k0_cond2 i v1 = 1#1), ∀ (k0_h5 : k0_cond5 v29 = 1#1), 8 ∣ (k0_mult81 v195).toNat := fun i v1 v29 v195 k0_hw85 k0_h2 k0_h5 => k0_hw85.1 k0_h2 k0_h5
theorem k0_off135_inb : ∀ (i : grid0.Coords) (v1 : BitVec 32) (v29 : BitVec 32) (v195 : BitVec 32) (k0_hw85 : k0_chk85 i v1 v29 v195), ∀ (k0_h2 : k0_cond2 i v1 = 1#1), ∀ (k0_h5 : k0_cond5 v29 = 1#1), ∀ a, (k0_off135 v195) a + S8x1024.size a ≤ S102400x1024.size a := fun i v1 v29 v195 k0_hw85 k0_h2 k0_h5 => k0_hw85.2 k0_h2 k0_h5

def k0_mult82 (v203 : BitVec 32) : BitVec 32 :=
  let c8_i32_122 : BitVec 32 := 8#32
  let v204 : BitVec 32 := Scalar.muli v203 c8_i32_122
  v204

def k0_off136 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off137 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c136_i32 : BitVec 32 := 136#32
  let c0_i32_123 : BitVec 32 := 0#32
  ![v66.toNat, 136, 0]
def k0_off138 (v203 : BitVec 32) : Fin 2 → Nat :=
  let c8_i32_122 : BitVec 32 := 8#32
  let v204 : BitVec 32 := Scalar.muli v203 c8_i32_122
  let v205 : BitVec 32 := v204
  let c0_i32_124 : BitVec 32 := 0#32
  ![v205.toNat, 0]

def k0_chk86 (i : grid0.Coords) (v1 : BitVec 32) (v29 : BitVec 32) (v203 : BitVec 32) : Prop :=
  (∀ (k0_h2 : k0_cond2 i v1 = 1#1), ∀ (k0_h5 : k0_cond5 v29 = 1#1), 8 ∣ (k0_mult82 v203).toNat) ∧
  (∀ (k0_h2 : k0_cond2 i v1 = 1#1), ∀ (k0_h5 : k0_cond5 v29 = 1#1), ∀ a, (k0_off138 v203) a + S8x1024.size a ≤ S102400x1024.size a)
theorem k0_mult82_dvd : ∀ (i : grid0.Coords) (v1 : BitVec 32) (v29 : BitVec 32) (v203 : BitVec 32) (k0_hw86 : k0_chk86 i v1 v29 v203), ∀ (k0_h2 : k0_cond2 i v1 = 1#1), ∀ (k0_h5 : k0_cond5 v29 = 1#1), 8 ∣ (k0_mult82 v203).toNat := fun i v1 v29 v203 k0_hw86 k0_h2 k0_h5 => k0_hw86.1 k0_h2 k0_h5
theorem k0_off138_inb : ∀ (i : grid0.Coords) (v1 : BitVec 32) (v29 : BitVec 32) (v203 : BitVec 32) (k0_hw86 : k0_chk86 i v1 v29 v203), ∀ (k0_h2 : k0_cond2 i v1 = 1#1), ∀ (k0_h5 : k0_cond5 v29 = 1#1), ∀ a, (k0_off138 v203) a + S8x1024.size a ≤ S102400x1024.size a := fun i v1 v29 v203 k0_hw86 k0_h2 k0_h5 => k0_hw86.2 k0_h2 k0_h5

def k0_mult83 (v211 : BitVec 32) : BitVec 32 :=
  let c8_i32_127 : BitVec 32 := 8#32
  let v212 : BitVec 32 := Scalar.muli v211 c8_i32_127
  v212

def k0_off139 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off140 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c144_i32 : BitVec 32 := 144#32
  let c0_i32_128 : BitVec 32 := 0#32
  ![v66.toNat, 144, 0]
def k0_off141 (v211 : BitVec 32) : Fin 2 → Nat :=
  let c8_i32_127 : BitVec 32 := 8#32
  let v212 : BitVec 32 := Scalar.muli v211 c8_i32_127
  let v213 : BitVec 32 := v212
  let c0_i32_129 : BitVec 32 := 0#32
  ![v213.toNat, 0]

def k0_chk87 (i : grid0.Coords) (v1 : BitVec 32) (v29 : BitVec 32) (v211 : BitVec 32) : Prop :=
  (∀ (k0_h2 : k0_cond2 i v1 = 1#1), ∀ (k0_h5 : k0_cond5 v29 = 1#1), 8 ∣ (k0_mult83 v211).toNat) ∧
  (∀ (k0_h2 : k0_cond2 i v1 = 1#1), ∀ (k0_h5 : k0_cond5 v29 = 1#1), ∀ a, (k0_off141 v211) a + S8x1024.size a ≤ S102400x1024.size a)
theorem k0_mult83_dvd : ∀ (i : grid0.Coords) (v1 : BitVec 32) (v29 : BitVec 32) (v211 : BitVec 32) (k0_hw87 : k0_chk87 i v1 v29 v211), ∀ (k0_h2 : k0_cond2 i v1 = 1#1), ∀ (k0_h5 : k0_cond5 v29 = 1#1), 8 ∣ (k0_mult83 v211).toNat := fun i v1 v29 v211 k0_hw87 k0_h2 k0_h5 => k0_hw87.1 k0_h2 k0_h5
theorem k0_off141_inb : ∀ (i : grid0.Coords) (v1 : BitVec 32) (v29 : BitVec 32) (v211 : BitVec 32) (k0_hw87 : k0_chk87 i v1 v29 v211), ∀ (k0_h2 : k0_cond2 i v1 = 1#1), ∀ (k0_h5 : k0_cond5 v29 = 1#1), ∀ a, (k0_off141 v211) a + S8x1024.size a ≤ S102400x1024.size a := fun i v1 v29 v211 k0_hw87 k0_h2 k0_h5 => k0_hw87.2 k0_h2 k0_h5

def k0_mult84 (v219 : BitVec 32) : BitVec 32 :=
  let c8_i32_132 : BitVec 32 := 8#32
  let v220 : BitVec 32 := Scalar.muli v219 c8_i32_132
  v220

def k0_off142 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off143 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c152_i32 : BitVec 32 := 152#32
  let c0_i32_133 : BitVec 32 := 0#32
  ![v66.toNat, 152, 0]
def k0_off144 (v219 : BitVec 32) : Fin 2 → Nat :=
  let c8_i32_132 : BitVec 32 := 8#32
  let v220 : BitVec 32 := Scalar.muli v219 c8_i32_132
  let v221 : BitVec 32 := v220
  let c0_i32_134 : BitVec 32 := 0#32
  ![v221.toNat, 0]

def k0_chk88 (i : grid0.Coords) (v1 : BitVec 32) (v29 : BitVec 32) (v219 : BitVec 32) : Prop :=
  (∀ (k0_h2 : k0_cond2 i v1 = 1#1), ∀ (k0_h5 : k0_cond5 v29 = 1#1), 8 ∣ (k0_mult84 v219).toNat) ∧
  (∀ (k0_h2 : k0_cond2 i v1 = 1#1), ∀ (k0_h5 : k0_cond5 v29 = 1#1), ∀ a, (k0_off144 v219) a + S8x1024.size a ≤ S102400x1024.size a)
theorem k0_mult84_dvd : ∀ (i : grid0.Coords) (v1 : BitVec 32) (v29 : BitVec 32) (v219 : BitVec 32) (k0_hw88 : k0_chk88 i v1 v29 v219), ∀ (k0_h2 : k0_cond2 i v1 = 1#1), ∀ (k0_h5 : k0_cond5 v29 = 1#1), 8 ∣ (k0_mult84 v219).toNat := fun i v1 v29 v219 k0_hw88 k0_h2 k0_h5 => k0_hw88.1 k0_h2 k0_h5
theorem k0_off144_inb : ∀ (i : grid0.Coords) (v1 : BitVec 32) (v29 : BitVec 32) (v219 : BitVec 32) (k0_hw88 : k0_chk88 i v1 v29 v219), ∀ (k0_h2 : k0_cond2 i v1 = 1#1), ∀ (k0_h5 : k0_cond5 v29 = 1#1), ∀ a, (k0_off144 v219) a + S8x1024.size a ≤ S102400x1024.size a := fun i v1 v29 v219 k0_hw88 k0_h2 k0_h5 => k0_hw88.2 k0_h2 k0_h5

def k0_mult85 (v227 : BitVec 32) : BitVec 32 :=
  let c8_i32_137 : BitVec 32 := 8#32
  let v228 : BitVec 32 := Scalar.muli v227 c8_i32_137
  v228

def k0_off145 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off146 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c160_i32 : BitVec 32 := 160#32
  let c0_i32_138 : BitVec 32 := 0#32
  ![v66.toNat, 160, 0]
def k0_off147 (v227 : BitVec 32) : Fin 2 → Nat :=
  let c8_i32_137 : BitVec 32 := 8#32
  let v228 : BitVec 32 := Scalar.muli v227 c8_i32_137
  let v229 : BitVec 32 := v228
  let c0_i32_139 : BitVec 32 := 0#32
  ![v229.toNat, 0]

def k0_chk89 (i : grid0.Coords) (v1 : BitVec 32) (v29 : BitVec 32) (v227 : BitVec 32) : Prop :=
  (∀ (k0_h2 : k0_cond2 i v1 = 1#1), ∀ (k0_h5 : k0_cond5 v29 = 1#1), 8 ∣ (k0_mult85 v227).toNat) ∧
  (∀ (k0_h2 : k0_cond2 i v1 = 1#1), ∀ (k0_h5 : k0_cond5 v29 = 1#1), ∀ a, (k0_off147 v227) a + S8x1024.size a ≤ S102400x1024.size a)
theorem k0_mult85_dvd : ∀ (i : grid0.Coords) (v1 : BitVec 32) (v29 : BitVec 32) (v227 : BitVec 32) (k0_hw89 : k0_chk89 i v1 v29 v227), ∀ (k0_h2 : k0_cond2 i v1 = 1#1), ∀ (k0_h5 : k0_cond5 v29 = 1#1), 8 ∣ (k0_mult85 v227).toNat := fun i v1 v29 v227 k0_hw89 k0_h2 k0_h5 => k0_hw89.1 k0_h2 k0_h5
theorem k0_off147_inb : ∀ (i : grid0.Coords) (v1 : BitVec 32) (v29 : BitVec 32) (v227 : BitVec 32) (k0_hw89 : k0_chk89 i v1 v29 v227), ∀ (k0_h2 : k0_cond2 i v1 = 1#1), ∀ (k0_h5 : k0_cond5 v29 = 1#1), ∀ a, (k0_off147 v227) a + S8x1024.size a ≤ S102400x1024.size a := fun i v1 v29 v227 k0_hw89 k0_h2 k0_h5 => k0_hw89.2 k0_h2 k0_h5

def k0_mult86 (v235 : BitVec 32) : BitVec 32 :=
  let c8_i32_142 : BitVec 32 := 8#32
  let v236 : BitVec 32 := Scalar.muli v235 c8_i32_142
  v236

def k0_off148 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off149 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c168_i32 : BitVec 32 := 168#32
  let c0_i32_143 : BitVec 32 := 0#32
  ![v66.toNat, 168, 0]
def k0_off150 (v235 : BitVec 32) : Fin 2 → Nat :=
  let c8_i32_142 : BitVec 32 := 8#32
  let v236 : BitVec 32 := Scalar.muli v235 c8_i32_142
  let v237 : BitVec 32 := v236
  let c0_i32_144 : BitVec 32 := 0#32
  ![v237.toNat, 0]

def k0_chk90 (i : grid0.Coords) (v1 : BitVec 32) (v29 : BitVec 32) (v235 : BitVec 32) : Prop :=
  (∀ (k0_h2 : k0_cond2 i v1 = 1#1), ∀ (k0_h5 : k0_cond5 v29 = 1#1), 8 ∣ (k0_mult86 v235).toNat) ∧
  (∀ (k0_h2 : k0_cond2 i v1 = 1#1), ∀ (k0_h5 : k0_cond5 v29 = 1#1), ∀ a, (k0_off150 v235) a + S8x1024.size a ≤ S102400x1024.size a)
theorem k0_mult86_dvd : ∀ (i : grid0.Coords) (v1 : BitVec 32) (v29 : BitVec 32) (v235 : BitVec 32) (k0_hw90 : k0_chk90 i v1 v29 v235), ∀ (k0_h2 : k0_cond2 i v1 = 1#1), ∀ (k0_h5 : k0_cond5 v29 = 1#1), 8 ∣ (k0_mult86 v235).toNat := fun i v1 v29 v235 k0_hw90 k0_h2 k0_h5 => k0_hw90.1 k0_h2 k0_h5
theorem k0_off150_inb : ∀ (i : grid0.Coords) (v1 : BitVec 32) (v29 : BitVec 32) (v235 : BitVec 32) (k0_hw90 : k0_chk90 i v1 v29 v235), ∀ (k0_h2 : k0_cond2 i v1 = 1#1), ∀ (k0_h5 : k0_cond5 v29 = 1#1), ∀ a, (k0_off150 v235) a + S8x1024.size a ≤ S102400x1024.size a := fun i v1 v29 v235 k0_hw90 k0_h2 k0_h5 => k0_hw90.2 k0_h2 k0_h5

def k0_mult87 (v243 : BitVec 32) : BitVec 32 :=
  let c8_i32_147 : BitVec 32 := 8#32
  let v244 : BitVec 32 := Scalar.muli v243 c8_i32_147
  v244

def k0_off151 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off152 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c176_i32 : BitVec 32 := 176#32
  let c0_i32_148 : BitVec 32 := 0#32
  ![v66.toNat, 176, 0]
def k0_off153 (v243 : BitVec 32) : Fin 2 → Nat :=
  let c8_i32_147 : BitVec 32 := 8#32
  let v244 : BitVec 32 := Scalar.muli v243 c8_i32_147
  let v245 : BitVec 32 := v244
  let c0_i32_149 : BitVec 32 := 0#32
  ![v245.toNat, 0]

def k0_chk91 (i : grid0.Coords) (v1 : BitVec 32) (v29 : BitVec 32) (v243 : BitVec 32) : Prop :=
  (∀ (k0_h2 : k0_cond2 i v1 = 1#1), ∀ (k0_h5 : k0_cond5 v29 = 1#1), 8 ∣ (k0_mult87 v243).toNat) ∧
  (∀ (k0_h2 : k0_cond2 i v1 = 1#1), ∀ (k0_h5 : k0_cond5 v29 = 1#1), ∀ a, (k0_off153 v243) a + S8x1024.size a ≤ S102400x1024.size a)
theorem k0_mult87_dvd : ∀ (i : grid0.Coords) (v1 : BitVec 32) (v29 : BitVec 32) (v243 : BitVec 32) (k0_hw91 : k0_chk91 i v1 v29 v243), ∀ (k0_h2 : k0_cond2 i v1 = 1#1), ∀ (k0_h5 : k0_cond5 v29 = 1#1), 8 ∣ (k0_mult87 v243).toNat := fun i v1 v29 v243 k0_hw91 k0_h2 k0_h5 => k0_hw91.1 k0_h2 k0_h5
theorem k0_off153_inb : ∀ (i : grid0.Coords) (v1 : BitVec 32) (v29 : BitVec 32) (v243 : BitVec 32) (k0_hw91 : k0_chk91 i v1 v29 v243), ∀ (k0_h2 : k0_cond2 i v1 = 1#1), ∀ (k0_h5 : k0_cond5 v29 = 1#1), ∀ a, (k0_off153 v243) a + S8x1024.size a ≤ S102400x1024.size a := fun i v1 v29 v243 k0_hw91 k0_h2 k0_h5 => k0_hw91.2 k0_h2 k0_h5

def k0_mult88 (v251 : BitVec 32) : BitVec 32 :=
  let c8_i32_152 : BitVec 32 := 8#32
  let v252 : BitVec 32 := Scalar.muli v251 c8_i32_152
  v252

def k0_off154 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off155 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c184_i32 : BitVec 32 := 184#32
  let c0_i32_153 : BitVec 32 := 0#32
  ![v66.toNat, 184, 0]
def k0_off156 (v251 : BitVec 32) : Fin 2 → Nat :=
  let c8_i32_152 : BitVec 32 := 8#32
  let v252 : BitVec 32 := Scalar.muli v251 c8_i32_152
  let v253 : BitVec 32 := v252
  let c0_i32_154 : BitVec 32 := 0#32
  ![v253.toNat, 0]

def k0_chk92 (i : grid0.Coords) (v1 : BitVec 32) (v29 : BitVec 32) (v251 : BitVec 32) : Prop :=
  (∀ (k0_h2 : k0_cond2 i v1 = 1#1), ∀ (k0_h5 : k0_cond5 v29 = 1#1), 8 ∣ (k0_mult88 v251).toNat) ∧
  (∀ (k0_h2 : k0_cond2 i v1 = 1#1), ∀ (k0_h5 : k0_cond5 v29 = 1#1), ∀ a, (k0_off156 v251) a + S8x1024.size a ≤ S102400x1024.size a)
theorem k0_mult88_dvd : ∀ (i : grid0.Coords) (v1 : BitVec 32) (v29 : BitVec 32) (v251 : BitVec 32) (k0_hw92 : k0_chk92 i v1 v29 v251), ∀ (k0_h2 : k0_cond2 i v1 = 1#1), ∀ (k0_h5 : k0_cond5 v29 = 1#1), 8 ∣ (k0_mult88 v251).toNat := fun i v1 v29 v251 k0_hw92 k0_h2 k0_h5 => k0_hw92.1 k0_h2 k0_h5
theorem k0_off156_inb : ∀ (i : grid0.Coords) (v1 : BitVec 32) (v29 : BitVec 32) (v251 : BitVec 32) (k0_hw92 : k0_chk92 i v1 v29 v251), ∀ (k0_h2 : k0_cond2 i v1 = 1#1), ∀ (k0_h5 : k0_cond5 v29 = 1#1), ∀ a, (k0_off156 v251) a + S8x1024.size a ≤ S102400x1024.size a := fun i v1 v29 v251 k0_hw92 k0_h2 k0_h5 => k0_hw92.2 k0_h2 k0_h5

def k0_mult89 (v259 : BitVec 32) : BitVec 32 :=
  let c8_i32_157 : BitVec 32 := 8#32
  let v260 : BitVec 32 := Scalar.muli v259 c8_i32_157
  v260

def k0_off157 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off158 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c192_i32 : BitVec 32 := 192#32
  let c0_i32_158 : BitVec 32 := 0#32
  ![v66.toNat, 192, 0]
def k0_off159 (v259 : BitVec 32) : Fin 2 → Nat :=
  let c8_i32_157 : BitVec 32 := 8#32
  let v260 : BitVec 32 := Scalar.muli v259 c8_i32_157
  let v261 : BitVec 32 := v260
  let c0_i32_159 : BitVec 32 := 0#32
  ![v261.toNat, 0]

def k0_chk93 (i : grid0.Coords) (v1 : BitVec 32) (v29 : BitVec 32) (v259 : BitVec 32) : Prop :=
  (∀ (k0_h2 : k0_cond2 i v1 = 1#1), ∀ (k0_h5 : k0_cond5 v29 = 1#1), 8 ∣ (k0_mult89 v259).toNat) ∧
  (∀ (k0_h2 : k0_cond2 i v1 = 1#1), ∀ (k0_h5 : k0_cond5 v29 = 1#1), ∀ a, (k0_off159 v259) a + S8x1024.size a ≤ S102400x1024.size a)
theorem k0_mult89_dvd : ∀ (i : grid0.Coords) (v1 : BitVec 32) (v29 : BitVec 32) (v259 : BitVec 32) (k0_hw93 : k0_chk93 i v1 v29 v259), ∀ (k0_h2 : k0_cond2 i v1 = 1#1), ∀ (k0_h5 : k0_cond5 v29 = 1#1), 8 ∣ (k0_mult89 v259).toNat := fun i v1 v29 v259 k0_hw93 k0_h2 k0_h5 => k0_hw93.1 k0_h2 k0_h5
theorem k0_off159_inb : ∀ (i : grid0.Coords) (v1 : BitVec 32) (v29 : BitVec 32) (v259 : BitVec 32) (k0_hw93 : k0_chk93 i v1 v29 v259), ∀ (k0_h2 : k0_cond2 i v1 = 1#1), ∀ (k0_h5 : k0_cond5 v29 = 1#1), ∀ a, (k0_off159 v259) a + S8x1024.size a ≤ S102400x1024.size a := fun i v1 v29 v259 k0_hw93 k0_h2 k0_h5 => k0_hw93.2 k0_h2 k0_h5

def k0_mult90 (v267 : BitVec 32) : BitVec 32 :=
  let c8_i32_162 : BitVec 32 := 8#32
  let v268 : BitVec 32 := Scalar.muli v267 c8_i32_162
  v268

def k0_off160 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off161 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c200_i32 : BitVec 32 := 200#32
  let c0_i32_163 : BitVec 32 := 0#32
  ![v66.toNat, 200, 0]
def k0_off162 (v267 : BitVec 32) : Fin 2 → Nat :=
  let c8_i32_162 : BitVec 32 := 8#32
  let v268 : BitVec 32 := Scalar.muli v267 c8_i32_162
  let v269 : BitVec 32 := v268
  let c0_i32_164 : BitVec 32 := 0#32
  ![v269.toNat, 0]

def k0_chk94 (i : grid0.Coords) (v1 : BitVec 32) (v29 : BitVec 32) (v267 : BitVec 32) : Prop :=
  (∀ (k0_h2 : k0_cond2 i v1 = 1#1), ∀ (k0_h5 : k0_cond5 v29 = 1#1), 8 ∣ (k0_mult90 v267).toNat) ∧
  (∀ (k0_h2 : k0_cond2 i v1 = 1#1), ∀ (k0_h5 : k0_cond5 v29 = 1#1), ∀ a, (k0_off162 v267) a + S8x1024.size a ≤ S102400x1024.size a)
theorem k0_mult90_dvd : ∀ (i : grid0.Coords) (v1 : BitVec 32) (v29 : BitVec 32) (v267 : BitVec 32) (k0_hw94 : k0_chk94 i v1 v29 v267), ∀ (k0_h2 : k0_cond2 i v1 = 1#1), ∀ (k0_h5 : k0_cond5 v29 = 1#1), 8 ∣ (k0_mult90 v267).toNat := fun i v1 v29 v267 k0_hw94 k0_h2 k0_h5 => k0_hw94.1 k0_h2 k0_h5
theorem k0_off162_inb : ∀ (i : grid0.Coords) (v1 : BitVec 32) (v29 : BitVec 32) (v267 : BitVec 32) (k0_hw94 : k0_chk94 i v1 v29 v267), ∀ (k0_h2 : k0_cond2 i v1 = 1#1), ∀ (k0_h5 : k0_cond5 v29 = 1#1), ∀ a, (k0_off162 v267) a + S8x1024.size a ≤ S102400x1024.size a := fun i v1 v29 v267 k0_hw94 k0_h2 k0_h5 => k0_hw94.2 k0_h2 k0_h5

def k0_mult91 (v275 : BitVec 32) : BitVec 32 :=
  let c8_i32_167 : BitVec 32 := 8#32
  let v276 : BitVec 32 := Scalar.muli v275 c8_i32_167
  v276

def k0_off163 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off164 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c208_i32 : BitVec 32 := 208#32
  let c0_i32_168 : BitVec 32 := 0#32
  ![v66.toNat, 208, 0]
def k0_off165 (v275 : BitVec 32) : Fin 2 → Nat :=
  let c8_i32_167 : BitVec 32 := 8#32
  let v276 : BitVec 32 := Scalar.muli v275 c8_i32_167
  let v277 : BitVec 32 := v276
  let c0_i32_169 : BitVec 32 := 0#32
  ![v277.toNat, 0]

def k0_chk95 (i : grid0.Coords) (v1 : BitVec 32) (v29 : BitVec 32) (v275 : BitVec 32) : Prop :=
  (∀ (k0_h2 : k0_cond2 i v1 = 1#1), ∀ (k0_h5 : k0_cond5 v29 = 1#1), 8 ∣ (k0_mult91 v275).toNat) ∧
  (∀ (k0_h2 : k0_cond2 i v1 = 1#1), ∀ (k0_h5 : k0_cond5 v29 = 1#1), ∀ a, (k0_off165 v275) a + S8x1024.size a ≤ S102400x1024.size a)
theorem k0_mult91_dvd : ∀ (i : grid0.Coords) (v1 : BitVec 32) (v29 : BitVec 32) (v275 : BitVec 32) (k0_hw95 : k0_chk95 i v1 v29 v275), ∀ (k0_h2 : k0_cond2 i v1 = 1#1), ∀ (k0_h5 : k0_cond5 v29 = 1#1), 8 ∣ (k0_mult91 v275).toNat := fun i v1 v29 v275 k0_hw95 k0_h2 k0_h5 => k0_hw95.1 k0_h2 k0_h5
theorem k0_off165_inb : ∀ (i : grid0.Coords) (v1 : BitVec 32) (v29 : BitVec 32) (v275 : BitVec 32) (k0_hw95 : k0_chk95 i v1 v29 v275), ∀ (k0_h2 : k0_cond2 i v1 = 1#1), ∀ (k0_h5 : k0_cond5 v29 = 1#1), ∀ a, (k0_off165 v275) a + S8x1024.size a ≤ S102400x1024.size a := fun i v1 v29 v275 k0_hw95 k0_h2 k0_h5 => k0_hw95.2 k0_h2 k0_h5

def k0_mult92 (v283 : BitVec 32) : BitVec 32 :=
  let c8_i32_172 : BitVec 32 := 8#32
  let v284 : BitVec 32 := Scalar.muli v283 c8_i32_172
  v284

def k0_off166 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off167 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c216_i32 : BitVec 32 := 216#32
  let c0_i32_173 : BitVec 32 := 0#32
  ![v66.toNat, 216, 0]
def k0_off168 (v283 : BitVec 32) : Fin 2 → Nat :=
  let c8_i32_172 : BitVec 32 := 8#32
  let v284 : BitVec 32 := Scalar.muli v283 c8_i32_172
  let v285 : BitVec 32 := v284
  let c0_i32_174 : BitVec 32 := 0#32
  ![v285.toNat, 0]

def k0_chk96 (i : grid0.Coords) (v1 : BitVec 32) (v29 : BitVec 32) (v283 : BitVec 32) : Prop :=
  (∀ (k0_h2 : k0_cond2 i v1 = 1#1), ∀ (k0_h5 : k0_cond5 v29 = 1#1), 8 ∣ (k0_mult92 v283).toNat) ∧
  (∀ (k0_h2 : k0_cond2 i v1 = 1#1), ∀ (k0_h5 : k0_cond5 v29 = 1#1), ∀ a, (k0_off168 v283) a + S8x1024.size a ≤ S102400x1024.size a)
theorem k0_mult92_dvd : ∀ (i : grid0.Coords) (v1 : BitVec 32) (v29 : BitVec 32) (v283 : BitVec 32) (k0_hw96 : k0_chk96 i v1 v29 v283), ∀ (k0_h2 : k0_cond2 i v1 = 1#1), ∀ (k0_h5 : k0_cond5 v29 = 1#1), 8 ∣ (k0_mult92 v283).toNat := fun i v1 v29 v283 k0_hw96 k0_h2 k0_h5 => k0_hw96.1 k0_h2 k0_h5
theorem k0_off168_inb : ∀ (i : grid0.Coords) (v1 : BitVec 32) (v29 : BitVec 32) (v283 : BitVec 32) (k0_hw96 : k0_chk96 i v1 v29 v283), ∀ (k0_h2 : k0_cond2 i v1 = 1#1), ∀ (k0_h5 : k0_cond5 v29 = 1#1), ∀ a, (k0_off168 v283) a + S8x1024.size a ≤ S102400x1024.size a := fun i v1 v29 v283 k0_hw96 k0_h2 k0_h5 => k0_hw96.2 k0_h2 k0_h5

def k0_mult93 (v291 : BitVec 32) : BitVec 32 :=
  let c8_i32_177 : BitVec 32 := 8#32
  let v292 : BitVec 32 := Scalar.muli v291 c8_i32_177
  v292

def k0_off169 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off170 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c224_i32 : BitVec 32 := 224#32
  let c0_i32_178 : BitVec 32 := 0#32
  ![v66.toNat, 224, 0]
def k0_off171 (v291 : BitVec 32) : Fin 2 → Nat :=
  let c8_i32_177 : BitVec 32 := 8#32
  let v292 : BitVec 32 := Scalar.muli v291 c8_i32_177
  let v293 : BitVec 32 := v292
  let c0_i32_179 : BitVec 32 := 0#32
  ![v293.toNat, 0]

def k0_chk97 (i : grid0.Coords) (v1 : BitVec 32) (v29 : BitVec 32) (v291 : BitVec 32) : Prop :=
  (∀ (k0_h2 : k0_cond2 i v1 = 1#1), ∀ (k0_h5 : k0_cond5 v29 = 1#1), 8 ∣ (k0_mult93 v291).toNat) ∧
  (∀ (k0_h2 : k0_cond2 i v1 = 1#1), ∀ (k0_h5 : k0_cond5 v29 = 1#1), ∀ a, (k0_off171 v291) a + S8x1024.size a ≤ S102400x1024.size a)
theorem k0_mult93_dvd : ∀ (i : grid0.Coords) (v1 : BitVec 32) (v29 : BitVec 32) (v291 : BitVec 32) (k0_hw97 : k0_chk97 i v1 v29 v291), ∀ (k0_h2 : k0_cond2 i v1 = 1#1), ∀ (k0_h5 : k0_cond5 v29 = 1#1), 8 ∣ (k0_mult93 v291).toNat := fun i v1 v29 v291 k0_hw97 k0_h2 k0_h5 => k0_hw97.1 k0_h2 k0_h5
theorem k0_off171_inb : ∀ (i : grid0.Coords) (v1 : BitVec 32) (v29 : BitVec 32) (v291 : BitVec 32) (k0_hw97 : k0_chk97 i v1 v29 v291), ∀ (k0_h2 : k0_cond2 i v1 = 1#1), ∀ (k0_h5 : k0_cond5 v29 = 1#1), ∀ a, (k0_off171 v291) a + S8x1024.size a ≤ S102400x1024.size a := fun i v1 v29 v291 k0_hw97 k0_h2 k0_h5 => k0_hw97.2 k0_h2 k0_h5

def k0_mult94 (v299 : BitVec 32) : BitVec 32 :=
  let c8_i32_182 : BitVec 32 := 8#32
  let v300 : BitVec 32 := Scalar.muli v299 c8_i32_182
  v300

def k0_off172 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off173 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c232_i32 : BitVec 32 := 232#32
  let c0_i32_183 : BitVec 32 := 0#32
  ![v66.toNat, 232, 0]
def k0_off174 (v299 : BitVec 32) : Fin 2 → Nat :=
  let c8_i32_182 : BitVec 32 := 8#32
  let v300 : BitVec 32 := Scalar.muli v299 c8_i32_182
  let v301 : BitVec 32 := v300
  let c0_i32_184 : BitVec 32 := 0#32
  ![v301.toNat, 0]

def k0_chk98 (i : grid0.Coords) (v1 : BitVec 32) (v29 : BitVec 32) (v299 : BitVec 32) : Prop :=
  (∀ (k0_h2 : k0_cond2 i v1 = 1#1), ∀ (k0_h5 : k0_cond5 v29 = 1#1), 8 ∣ (k0_mult94 v299).toNat) ∧
  (∀ (k0_h2 : k0_cond2 i v1 = 1#1), ∀ (k0_h5 : k0_cond5 v29 = 1#1), ∀ a, (k0_off174 v299) a + S8x1024.size a ≤ S102400x1024.size a)
theorem k0_mult94_dvd : ∀ (i : grid0.Coords) (v1 : BitVec 32) (v29 : BitVec 32) (v299 : BitVec 32) (k0_hw98 : k0_chk98 i v1 v29 v299), ∀ (k0_h2 : k0_cond2 i v1 = 1#1), ∀ (k0_h5 : k0_cond5 v29 = 1#1), 8 ∣ (k0_mult94 v299).toNat := fun i v1 v29 v299 k0_hw98 k0_h2 k0_h5 => k0_hw98.1 k0_h2 k0_h5
theorem k0_off174_inb : ∀ (i : grid0.Coords) (v1 : BitVec 32) (v29 : BitVec 32) (v299 : BitVec 32) (k0_hw98 : k0_chk98 i v1 v29 v299), ∀ (k0_h2 : k0_cond2 i v1 = 1#1), ∀ (k0_h5 : k0_cond5 v29 = 1#1), ∀ a, (k0_off174 v299) a + S8x1024.size a ≤ S102400x1024.size a := fun i v1 v29 v299 k0_hw98 k0_h2 k0_h5 => k0_hw98.2 k0_h2 k0_h5

def k0_mult95 (v307 : BitVec 32) : BitVec 32 :=
  let c8_i32_187 : BitVec 32 := 8#32
  let v308 : BitVec 32 := Scalar.muli v307 c8_i32_187
  v308

def k0_off175 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off176 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c240_i32 : BitVec 32 := 240#32
  let c0_i32_188 : BitVec 32 := 0#32
  ![v66.toNat, 240, 0]
def k0_off177 (v307 : BitVec 32) : Fin 2 → Nat :=
  let c8_i32_187 : BitVec 32 := 8#32
  let v308 : BitVec 32 := Scalar.muli v307 c8_i32_187
  let v309 : BitVec 32 := v308
  let c0_i32_189 : BitVec 32 := 0#32
  ![v309.toNat, 0]

def k0_chk99 (i : grid0.Coords) (v1 : BitVec 32) (v29 : BitVec 32) (v307 : BitVec 32) : Prop :=
  (∀ (k0_h2 : k0_cond2 i v1 = 1#1), ∀ (k0_h5 : k0_cond5 v29 = 1#1), 8 ∣ (k0_mult95 v307).toNat) ∧
  (∀ (k0_h2 : k0_cond2 i v1 = 1#1), ∀ (k0_h5 : k0_cond5 v29 = 1#1), ∀ a, (k0_off177 v307) a + S8x1024.size a ≤ S102400x1024.size a)
theorem k0_mult95_dvd : ∀ (i : grid0.Coords) (v1 : BitVec 32) (v29 : BitVec 32) (v307 : BitVec 32) (k0_hw99 : k0_chk99 i v1 v29 v307), ∀ (k0_h2 : k0_cond2 i v1 = 1#1), ∀ (k0_h5 : k0_cond5 v29 = 1#1), 8 ∣ (k0_mult95 v307).toNat := fun i v1 v29 v307 k0_hw99 k0_h2 k0_h5 => k0_hw99.1 k0_h2 k0_h5
theorem k0_off177_inb : ∀ (i : grid0.Coords) (v1 : BitVec 32) (v29 : BitVec 32) (v307 : BitVec 32) (k0_hw99 : k0_chk99 i v1 v29 v307), ∀ (k0_h2 : k0_cond2 i v1 = 1#1), ∀ (k0_h5 : k0_cond5 v29 = 1#1), ∀ a, (k0_off177 v307) a + S8x1024.size a ≤ S102400x1024.size a := fun i v1 v29 v307 k0_hw99 k0_h2 k0_h5 => k0_hw99.2 k0_h2 k0_h5

def k0_mult96 (v315 : BitVec 32) : BitVec 32 :=
  let c8_i32_192 : BitVec 32 := 8#32
  let v316 : BitVec 32 := Scalar.muli v315 c8_i32_192
  v316

def k0_off178 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off179 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c248_i32 : BitVec 32 := 248#32
  let c0_i32_193 : BitVec 32 := 0#32
  ![v66.toNat, 248, 0]
def k0_off180 (v315 : BitVec 32) : Fin 2 → Nat :=
  let c8_i32_192 : BitVec 32 := 8#32
  let v316 : BitVec 32 := Scalar.muli v315 c8_i32_192
  let v317 : BitVec 32 := v316
  let c0_i32_194 : BitVec 32 := 0#32
  ![v317.toNat, 0]

def k0_chk100 (i : grid0.Coords) (v1 : BitVec 32) (v29 : BitVec 32) (v315 : BitVec 32) : Prop :=
  (∀ (k0_h2 : k0_cond2 i v1 = 1#1), ∀ (k0_h5 : k0_cond5 v29 = 1#1), 8 ∣ (k0_mult96 v315).toNat) ∧
  (∀ (k0_h2 : k0_cond2 i v1 = 1#1), ∀ (k0_h5 : k0_cond5 v29 = 1#1), ∀ a, (k0_off180 v315) a + S8x1024.size a ≤ S102400x1024.size a)
theorem k0_mult96_dvd : ∀ (i : grid0.Coords) (v1 : BitVec 32) (v29 : BitVec 32) (v315 : BitVec 32) (k0_hw100 : k0_chk100 i v1 v29 v315), ∀ (k0_h2 : k0_cond2 i v1 = 1#1), ∀ (k0_h5 : k0_cond5 v29 = 1#1), 8 ∣ (k0_mult96 v315).toNat := fun i v1 v29 v315 k0_hw100 k0_h2 k0_h5 => k0_hw100.1 k0_h2 k0_h5
theorem k0_off180_inb : ∀ (i : grid0.Coords) (v1 : BitVec 32) (v29 : BitVec 32) (v315 : BitVec 32) (k0_hw100 : k0_chk100 i v1 v29 v315), ∀ (k0_h2 : k0_cond2 i v1 = 1#1), ∀ (k0_h5 : k0_cond5 v29 = 1#1), ∀ a, (k0_off180 v315) a + S8x1024.size a ≤ S102400x1024.size a := fun i v1 v29 v315 k0_hw100 k0_h2 k0_h5 => k0_hw100.2 k0_h2 k0_h5

def k0_mult97 (v323 : BitVec 32) : BitVec 32 :=
  let c8_i32_197 : BitVec 32 := 8#32
  let v324 : BitVec 32 := Scalar.muli v323 c8_i32_197
  v324

def k0_off181 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off182 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c256_i32 : BitVec 32 := 256#32
  let c0_i32_198 : BitVec 32 := 0#32
  ![v66.toNat, 256, 0]
def k0_off183 (v323 : BitVec 32) : Fin 2 → Nat :=
  let c8_i32_197 : BitVec 32 := 8#32
  let v324 : BitVec 32 := Scalar.muli v323 c8_i32_197
  let v325 : BitVec 32 := v324
  let c0_i32_199 : BitVec 32 := 0#32
  ![v325.toNat, 0]

def k0_chk101 (i : grid0.Coords) (v1 : BitVec 32) (v29 : BitVec 32) (v323 : BitVec 32) : Prop :=
  (∀ (k0_h2 : k0_cond2 i v1 = 1#1), ∀ (k0_h5 : k0_cond5 v29 = 1#1), 8 ∣ (k0_mult97 v323).toNat) ∧
  (∀ (k0_h2 : k0_cond2 i v1 = 1#1), ∀ (k0_h5 : k0_cond5 v29 = 1#1), ∀ a, (k0_off183 v323) a + S8x1024.size a ≤ S102400x1024.size a)
theorem k0_mult97_dvd : ∀ (i : grid0.Coords) (v1 : BitVec 32) (v29 : BitVec 32) (v323 : BitVec 32) (k0_hw101 : k0_chk101 i v1 v29 v323), ∀ (k0_h2 : k0_cond2 i v1 = 1#1), ∀ (k0_h5 : k0_cond5 v29 = 1#1), 8 ∣ (k0_mult97 v323).toNat := fun i v1 v29 v323 k0_hw101 k0_h2 k0_h5 => k0_hw101.1 k0_h2 k0_h5
theorem k0_off183_inb : ∀ (i : grid0.Coords) (v1 : BitVec 32) (v29 : BitVec 32) (v323 : BitVec 32) (k0_hw101 : k0_chk101 i v1 v29 v323), ∀ (k0_h2 : k0_cond2 i v1 = 1#1), ∀ (k0_h5 : k0_cond5 v29 = 1#1), ∀ a, (k0_off183 v323) a + S8x1024.size a ≤ S102400x1024.size a := fun i v1 v29 v323 k0_hw101 k0_h2 k0_h5 => k0_hw101.2 k0_h2 k0_h5

def k0_mult98 (v331 : BitVec 32) : BitVec 32 :=
  let c8_i32_202 : BitVec 32 := 8#32
  let v332 : BitVec 32 := Scalar.muli v331 c8_i32_202
  v332

def k0_off184 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off185 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c264_i32 : BitVec 32 := 264#32
  let c0_i32_203 : BitVec 32 := 0#32
  ![v66.toNat, 264, 0]
def k0_off186 (v331 : BitVec 32) : Fin 2 → Nat :=
  let c8_i32_202 : BitVec 32 := 8#32
  let v332 : BitVec 32 := Scalar.muli v331 c8_i32_202
  let v333 : BitVec 32 := v332
  let c0_i32_204 : BitVec 32 := 0#32
  ![v333.toNat, 0]

def k0_chk102 (i : grid0.Coords) (v1 : BitVec 32) (v29 : BitVec 32) (v331 : BitVec 32) : Prop :=
  (∀ (k0_h2 : k0_cond2 i v1 = 1#1), ∀ (k0_h5 : k0_cond5 v29 = 1#1), 8 ∣ (k0_mult98 v331).toNat) ∧
  (∀ (k0_h2 : k0_cond2 i v1 = 1#1), ∀ (k0_h5 : k0_cond5 v29 = 1#1), ∀ a, (k0_off186 v331) a + S8x1024.size a ≤ S102400x1024.size a)
theorem k0_mult98_dvd : ∀ (i : grid0.Coords) (v1 : BitVec 32) (v29 : BitVec 32) (v331 : BitVec 32) (k0_hw102 : k0_chk102 i v1 v29 v331), ∀ (k0_h2 : k0_cond2 i v1 = 1#1), ∀ (k0_h5 : k0_cond5 v29 = 1#1), 8 ∣ (k0_mult98 v331).toNat := fun i v1 v29 v331 k0_hw102 k0_h2 k0_h5 => k0_hw102.1 k0_h2 k0_h5
theorem k0_off186_inb : ∀ (i : grid0.Coords) (v1 : BitVec 32) (v29 : BitVec 32) (v331 : BitVec 32) (k0_hw102 : k0_chk102 i v1 v29 v331), ∀ (k0_h2 : k0_cond2 i v1 = 1#1), ∀ (k0_h5 : k0_cond5 v29 = 1#1), ∀ a, (k0_off186 v331) a + S8x1024.size a ≤ S102400x1024.size a := fun i v1 v29 v331 k0_hw102 k0_h2 k0_h5 => k0_hw102.2 k0_h2 k0_h5

def k0_mult99 (v339 : BitVec 32) : BitVec 32 :=
  let c8_i32_207 : BitVec 32 := 8#32
  let v340 : BitVec 32 := Scalar.muli v339 c8_i32_207
  v340

def k0_off187 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off188 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c272_i32 : BitVec 32 := 272#32
  let c0_i32_208 : BitVec 32 := 0#32
  ![v66.toNat, 272, 0]
def k0_off189 (v339 : BitVec 32) : Fin 2 → Nat :=
  let c8_i32_207 : BitVec 32 := 8#32
  let v340 : BitVec 32 := Scalar.muli v339 c8_i32_207
  let v341 : BitVec 32 := v340
  let c0_i32_209 : BitVec 32 := 0#32
  ![v341.toNat, 0]

def k0_chk103 (i : grid0.Coords) (v1 : BitVec 32) (v29 : BitVec 32) (v339 : BitVec 32) : Prop :=
  (∀ (k0_h2 : k0_cond2 i v1 = 1#1), ∀ (k0_h5 : k0_cond5 v29 = 1#1), 8 ∣ (k0_mult99 v339).toNat) ∧
  (∀ (k0_h2 : k0_cond2 i v1 = 1#1), ∀ (k0_h5 : k0_cond5 v29 = 1#1), ∀ a, (k0_off189 v339) a + S8x1024.size a ≤ S102400x1024.size a)
theorem k0_mult99_dvd : ∀ (i : grid0.Coords) (v1 : BitVec 32) (v29 : BitVec 32) (v339 : BitVec 32) (k0_hw103 : k0_chk103 i v1 v29 v339), ∀ (k0_h2 : k0_cond2 i v1 = 1#1), ∀ (k0_h5 : k0_cond5 v29 = 1#1), 8 ∣ (k0_mult99 v339).toNat := fun i v1 v29 v339 k0_hw103 k0_h2 k0_h5 => k0_hw103.1 k0_h2 k0_h5
theorem k0_off189_inb : ∀ (i : grid0.Coords) (v1 : BitVec 32) (v29 : BitVec 32) (v339 : BitVec 32) (k0_hw103 : k0_chk103 i v1 v29 v339), ∀ (k0_h2 : k0_cond2 i v1 = 1#1), ∀ (k0_h5 : k0_cond5 v29 = 1#1), ∀ a, (k0_off189 v339) a + S8x1024.size a ≤ S102400x1024.size a := fun i v1 v29 v339 k0_hw103 k0_h2 k0_h5 => k0_hw103.2 k0_h2 k0_h5

def k0_mult100 (v347 : BitVec 32) : BitVec 32 :=
  let c8_i32_212 : BitVec 32 := 8#32
  let v348 : BitVec 32 := Scalar.muli v347 c8_i32_212
  v348

def k0_off190 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off191 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c280_i32 : BitVec 32 := 280#32
  let c0_i32_213 : BitVec 32 := 0#32
  ![v66.toNat, 280, 0]
def k0_off192 (v347 : BitVec 32) : Fin 2 → Nat :=
  let c8_i32_212 : BitVec 32 := 8#32
  let v348 : BitVec 32 := Scalar.muli v347 c8_i32_212
  let v349 : BitVec 32 := v348
  let c0_i32_214 : BitVec 32 := 0#32
  ![v349.toNat, 0]

def k0_chk104 (i : grid0.Coords) (v1 : BitVec 32) (v29 : BitVec 32) (v347 : BitVec 32) : Prop :=
  (∀ (k0_h2 : k0_cond2 i v1 = 1#1), ∀ (k0_h5 : k0_cond5 v29 = 1#1), 8 ∣ (k0_mult100 v347).toNat) ∧
  (∀ (k0_h2 : k0_cond2 i v1 = 1#1), ∀ (k0_h5 : k0_cond5 v29 = 1#1), ∀ a, (k0_off192 v347) a + S8x1024.size a ≤ S102400x1024.size a)
theorem k0_mult100_dvd : ∀ (i : grid0.Coords) (v1 : BitVec 32) (v29 : BitVec 32) (v347 : BitVec 32) (k0_hw104 : k0_chk104 i v1 v29 v347), ∀ (k0_h2 : k0_cond2 i v1 = 1#1), ∀ (k0_h5 : k0_cond5 v29 = 1#1), 8 ∣ (k0_mult100 v347).toNat := fun i v1 v29 v347 k0_hw104 k0_h2 k0_h5 => k0_hw104.1 k0_h2 k0_h5
theorem k0_off192_inb : ∀ (i : grid0.Coords) (v1 : BitVec 32) (v29 : BitVec 32) (v347 : BitVec 32) (k0_hw104 : k0_chk104 i v1 v29 v347), ∀ (k0_h2 : k0_cond2 i v1 = 1#1), ∀ (k0_h5 : k0_cond5 v29 = 1#1), ∀ a, (k0_off192 v347) a + S8x1024.size a ≤ S102400x1024.size a := fun i v1 v29 v347 k0_hw104 k0_h2 k0_h5 => k0_hw104.2 k0_h2 k0_h5

def k0_mult101 (v355 : BitVec 32) : BitVec 32 :=
  let c8_i32_217 : BitVec 32 := 8#32
  let v356 : BitVec 32 := Scalar.muli v355 c8_i32_217
  v356

def k0_off193 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off194 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c288_i32 : BitVec 32 := 288#32
  let c0_i32_218 : BitVec 32 := 0#32
  ![v66.toNat, 288, 0]
def k0_off195 (v355 : BitVec 32) : Fin 2 → Nat :=
  let c8_i32_217 : BitVec 32 := 8#32
  let v356 : BitVec 32 := Scalar.muli v355 c8_i32_217
  let v357 : BitVec 32 := v356
  let c0_i32_219 : BitVec 32 := 0#32
  ![v357.toNat, 0]

def k0_chk105 (i : grid0.Coords) (v1 : BitVec 32) (v29 : BitVec 32) (v355 : BitVec 32) : Prop :=
  (∀ (k0_h2 : k0_cond2 i v1 = 1#1), ∀ (k0_h5 : k0_cond5 v29 = 1#1), 8 ∣ (k0_mult101 v355).toNat) ∧
  (∀ (k0_h2 : k0_cond2 i v1 = 1#1), ∀ (k0_h5 : k0_cond5 v29 = 1#1), ∀ a, (k0_off195 v355) a + S8x1024.size a ≤ S102400x1024.size a)
theorem k0_mult101_dvd : ∀ (i : grid0.Coords) (v1 : BitVec 32) (v29 : BitVec 32) (v355 : BitVec 32) (k0_hw105 : k0_chk105 i v1 v29 v355), ∀ (k0_h2 : k0_cond2 i v1 = 1#1), ∀ (k0_h5 : k0_cond5 v29 = 1#1), 8 ∣ (k0_mult101 v355).toNat := fun i v1 v29 v355 k0_hw105 k0_h2 k0_h5 => k0_hw105.1 k0_h2 k0_h5
theorem k0_off195_inb : ∀ (i : grid0.Coords) (v1 : BitVec 32) (v29 : BitVec 32) (v355 : BitVec 32) (k0_hw105 : k0_chk105 i v1 v29 v355), ∀ (k0_h2 : k0_cond2 i v1 = 1#1), ∀ (k0_h5 : k0_cond5 v29 = 1#1), ∀ a, (k0_off195 v355) a + S8x1024.size a ≤ S102400x1024.size a := fun i v1 v29 v355 k0_hw105 k0_h2 k0_h5 => k0_hw105.2 k0_h2 k0_h5

def k0_mult102 (v363 : BitVec 32) : BitVec 32 :=
  let c8_i32_222 : BitVec 32 := 8#32
  let v364 : BitVec 32 := Scalar.muli v363 c8_i32_222
  v364

def k0_off196 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off197 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c296_i32 : BitVec 32 := 296#32
  let c0_i32_223 : BitVec 32 := 0#32
  ![v66.toNat, 296, 0]
def k0_off198 (v363 : BitVec 32) : Fin 2 → Nat :=
  let c8_i32_222 : BitVec 32 := 8#32
  let v364 : BitVec 32 := Scalar.muli v363 c8_i32_222
  let v365 : BitVec 32 := v364
  let c0_i32_224 : BitVec 32 := 0#32
  ![v365.toNat, 0]

def k0_chk106 (i : grid0.Coords) (v1 : BitVec 32) (v29 : BitVec 32) (v363 : BitVec 32) : Prop :=
  (∀ (k0_h2 : k0_cond2 i v1 = 1#1), ∀ (k0_h5 : k0_cond5 v29 = 1#1), 8 ∣ (k0_mult102 v363).toNat) ∧
  (∀ (k0_h2 : k0_cond2 i v1 = 1#1), ∀ (k0_h5 : k0_cond5 v29 = 1#1), ∀ a, (k0_off198 v363) a + S8x1024.size a ≤ S102400x1024.size a)
theorem k0_mult102_dvd : ∀ (i : grid0.Coords) (v1 : BitVec 32) (v29 : BitVec 32) (v363 : BitVec 32) (k0_hw106 : k0_chk106 i v1 v29 v363), ∀ (k0_h2 : k0_cond2 i v1 = 1#1), ∀ (k0_h5 : k0_cond5 v29 = 1#1), 8 ∣ (k0_mult102 v363).toNat := fun i v1 v29 v363 k0_hw106 k0_h2 k0_h5 => k0_hw106.1 k0_h2 k0_h5
theorem k0_off198_inb : ∀ (i : grid0.Coords) (v1 : BitVec 32) (v29 : BitVec 32) (v363 : BitVec 32) (k0_hw106 : k0_chk106 i v1 v29 v363), ∀ (k0_h2 : k0_cond2 i v1 = 1#1), ∀ (k0_h5 : k0_cond5 v29 = 1#1), ∀ a, (k0_off198 v363) a + S8x1024.size a ≤ S102400x1024.size a := fun i v1 v29 v363 k0_hw106 k0_h2 k0_h5 => k0_hw106.2 k0_h2 k0_h5

def k0_mult103 (v371 : BitVec 32) : BitVec 32 :=
  let c8_i32_227 : BitVec 32 := 8#32
  let v372 : BitVec 32 := Scalar.muli v371 c8_i32_227
  v372

def k0_off199 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off200 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c304_i32 : BitVec 32 := 304#32
  let c0_i32_228 : BitVec 32 := 0#32
  ![v66.toNat, 304, 0]
def k0_off201 (v371 : BitVec 32) : Fin 2 → Nat :=
  let c8_i32_227 : BitVec 32 := 8#32
  let v372 : BitVec 32 := Scalar.muli v371 c8_i32_227
  let v373 : BitVec 32 := v372
  let c0_i32_229 : BitVec 32 := 0#32
  ![v373.toNat, 0]

def k0_chk107 (i : grid0.Coords) (v1 : BitVec 32) (v29 : BitVec 32) (v371 : BitVec 32) : Prop :=
  (∀ (k0_h2 : k0_cond2 i v1 = 1#1), ∀ (k0_h5 : k0_cond5 v29 = 1#1), 8 ∣ (k0_mult103 v371).toNat) ∧
  (∀ (k0_h2 : k0_cond2 i v1 = 1#1), ∀ (k0_h5 : k0_cond5 v29 = 1#1), ∀ a, (k0_off201 v371) a + S8x1024.size a ≤ S102400x1024.size a)
theorem k0_mult103_dvd : ∀ (i : grid0.Coords) (v1 : BitVec 32) (v29 : BitVec 32) (v371 : BitVec 32) (k0_hw107 : k0_chk107 i v1 v29 v371), ∀ (k0_h2 : k0_cond2 i v1 = 1#1), ∀ (k0_h5 : k0_cond5 v29 = 1#1), 8 ∣ (k0_mult103 v371).toNat := fun i v1 v29 v371 k0_hw107 k0_h2 k0_h5 => k0_hw107.1 k0_h2 k0_h5
theorem k0_off201_inb : ∀ (i : grid0.Coords) (v1 : BitVec 32) (v29 : BitVec 32) (v371 : BitVec 32) (k0_hw107 : k0_chk107 i v1 v29 v371), ∀ (k0_h2 : k0_cond2 i v1 = 1#1), ∀ (k0_h5 : k0_cond5 v29 = 1#1), ∀ a, (k0_off201 v371) a + S8x1024.size a ≤ S102400x1024.size a := fun i v1 v29 v371 k0_hw107 k0_h2 k0_h5 => k0_hw107.2 k0_h2 k0_h5

def k0_mult104 (v379 : BitVec 32) : BitVec 32 :=
  let c8_i32_232 : BitVec 32 := 8#32
  let v380 : BitVec 32 := Scalar.muli v379 c8_i32_232
  v380

def k0_off202 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off203 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c312_i32 : BitVec 32 := 312#32
  let c0_i32_233 : BitVec 32 := 0#32
  ![v66.toNat, 312, 0]
def k0_off204 (v379 : BitVec 32) : Fin 2 → Nat :=
  let c8_i32_232 : BitVec 32 := 8#32
  let v380 : BitVec 32 := Scalar.muli v379 c8_i32_232
  let v381 : BitVec 32 := v380
  let c0_i32_234 : BitVec 32 := 0#32
  ![v381.toNat, 0]

def k0_chk108 (i : grid0.Coords) (v1 : BitVec 32) (v29 : BitVec 32) (v379 : BitVec 32) : Prop :=
  (∀ (k0_h2 : k0_cond2 i v1 = 1#1), ∀ (k0_h5 : k0_cond5 v29 = 1#1), 8 ∣ (k0_mult104 v379).toNat) ∧
  (∀ (k0_h2 : k0_cond2 i v1 = 1#1), ∀ (k0_h5 : k0_cond5 v29 = 1#1), ∀ a, (k0_off204 v379) a + S8x1024.size a ≤ S102400x1024.size a)
theorem k0_mult104_dvd : ∀ (i : grid0.Coords) (v1 : BitVec 32) (v29 : BitVec 32) (v379 : BitVec 32) (k0_hw108 : k0_chk108 i v1 v29 v379), ∀ (k0_h2 : k0_cond2 i v1 = 1#1), ∀ (k0_h5 : k0_cond5 v29 = 1#1), 8 ∣ (k0_mult104 v379).toNat := fun i v1 v29 v379 k0_hw108 k0_h2 k0_h5 => k0_hw108.1 k0_h2 k0_h5
theorem k0_off204_inb : ∀ (i : grid0.Coords) (v1 : BitVec 32) (v29 : BitVec 32) (v379 : BitVec 32) (k0_hw108 : k0_chk108 i v1 v29 v379), ∀ (k0_h2 : k0_cond2 i v1 = 1#1), ∀ (k0_h5 : k0_cond5 v29 = 1#1), ∀ a, (k0_off204 v379) a + S8x1024.size a ≤ S102400x1024.size a := fun i v1 v29 v379 k0_hw108 k0_h2 k0_h5 => k0_hw108.2 k0_h2 k0_h5

def k0_mult105 (v387 : BitVec 32) : BitVec 32 :=
  let c8_i32_237 : BitVec 32 := 8#32
  let v388 : BitVec 32 := Scalar.muli v387 c8_i32_237
  v388

def k0_off205 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off206 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c320_i32 : BitVec 32 := 320#32
  let c0_i32_238 : BitVec 32 := 0#32
  ![v66.toNat, 320, 0]
def k0_off207 (v387 : BitVec 32) : Fin 2 → Nat :=
  let c8_i32_237 : BitVec 32 := 8#32
  let v388 : BitVec 32 := Scalar.muli v387 c8_i32_237
  let v389 : BitVec 32 := v388
  let c0_i32_239 : BitVec 32 := 0#32
  ![v389.toNat, 0]

def k0_chk109 (i : grid0.Coords) (v1 : BitVec 32) (v29 : BitVec 32) (v387 : BitVec 32) : Prop :=
  (∀ (k0_h2 : k0_cond2 i v1 = 1#1), ∀ (k0_h5 : k0_cond5 v29 = 1#1), 8 ∣ (k0_mult105 v387).toNat) ∧
  (∀ (k0_h2 : k0_cond2 i v1 = 1#1), ∀ (k0_h5 : k0_cond5 v29 = 1#1), ∀ a, (k0_off207 v387) a + S8x1024.size a ≤ S102400x1024.size a)
theorem k0_mult105_dvd : ∀ (i : grid0.Coords) (v1 : BitVec 32) (v29 : BitVec 32) (v387 : BitVec 32) (k0_hw109 : k0_chk109 i v1 v29 v387), ∀ (k0_h2 : k0_cond2 i v1 = 1#1), ∀ (k0_h5 : k0_cond5 v29 = 1#1), 8 ∣ (k0_mult105 v387).toNat := fun i v1 v29 v387 k0_hw109 k0_h2 k0_h5 => k0_hw109.1 k0_h2 k0_h5
theorem k0_off207_inb : ∀ (i : grid0.Coords) (v1 : BitVec 32) (v29 : BitVec 32) (v387 : BitVec 32) (k0_hw109 : k0_chk109 i v1 v29 v387), ∀ (k0_h2 : k0_cond2 i v1 = 1#1), ∀ (k0_h5 : k0_cond5 v29 = 1#1), ∀ a, (k0_off207 v387) a + S8x1024.size a ≤ S102400x1024.size a := fun i v1 v29 v387 k0_hw109 k0_h2 k0_h5 => k0_hw109.2 k0_h2 k0_h5

def k0_mult106 (v395 : BitVec 32) : BitVec 32 :=
  let c8_i32_242 : BitVec 32 := 8#32
  let v396 : BitVec 32 := Scalar.muli v395 c8_i32_242
  v396

def k0_off208 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off209 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c328_i32 : BitVec 32 := 328#32
  let c0_i32_243 : BitVec 32 := 0#32
  ![v66.toNat, 328, 0]
def k0_off210 (v395 : BitVec 32) : Fin 2 → Nat :=
  let c8_i32_242 : BitVec 32 := 8#32
  let v396 : BitVec 32 := Scalar.muli v395 c8_i32_242
  let v397 : BitVec 32 := v396
  let c0_i32_244 : BitVec 32 := 0#32
  ![v397.toNat, 0]

def k0_chk110 (i : grid0.Coords) (v1 : BitVec 32) (v29 : BitVec 32) (v395 : BitVec 32) : Prop :=
  (∀ (k0_h2 : k0_cond2 i v1 = 1#1), ∀ (k0_h5 : k0_cond5 v29 = 1#1), 8 ∣ (k0_mult106 v395).toNat) ∧
  (∀ (k0_h2 : k0_cond2 i v1 = 1#1), ∀ (k0_h5 : k0_cond5 v29 = 1#1), ∀ a, (k0_off210 v395) a + S8x1024.size a ≤ S102400x1024.size a)
theorem k0_mult106_dvd : ∀ (i : grid0.Coords) (v1 : BitVec 32) (v29 : BitVec 32) (v395 : BitVec 32) (k0_hw110 : k0_chk110 i v1 v29 v395), ∀ (k0_h2 : k0_cond2 i v1 = 1#1), ∀ (k0_h5 : k0_cond5 v29 = 1#1), 8 ∣ (k0_mult106 v395).toNat := fun i v1 v29 v395 k0_hw110 k0_h2 k0_h5 => k0_hw110.1 k0_h2 k0_h5
theorem k0_off210_inb : ∀ (i : grid0.Coords) (v1 : BitVec 32) (v29 : BitVec 32) (v395 : BitVec 32) (k0_hw110 : k0_chk110 i v1 v29 v395), ∀ (k0_h2 : k0_cond2 i v1 = 1#1), ∀ (k0_h5 : k0_cond5 v29 = 1#1), ∀ a, (k0_off210 v395) a + S8x1024.size a ≤ S102400x1024.size a := fun i v1 v29 v395 k0_hw110 k0_h2 k0_h5 => k0_hw110.2 k0_h2 k0_h5

def k0_mult107 (v403 : BitVec 32) : BitVec 32 :=
  let c8_i32_247 : BitVec 32 := 8#32
  let v404 : BitVec 32 := Scalar.muli v403 c8_i32_247
  v404

def k0_off211 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off212 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c336_i32 : BitVec 32 := 336#32
  let c0_i32_248 : BitVec 32 := 0#32
  ![v66.toNat, 336, 0]
def k0_off213 (v403 : BitVec 32) : Fin 2 → Nat :=
  let c8_i32_247 : BitVec 32 := 8#32
  let v404 : BitVec 32 := Scalar.muli v403 c8_i32_247
  let v405 : BitVec 32 := v404
  let c0_i32_249 : BitVec 32 := 0#32
  ![v405.toNat, 0]

def k0_chk111 (i : grid0.Coords) (v1 : BitVec 32) (v29 : BitVec 32) (v403 : BitVec 32) : Prop :=
  (∀ (k0_h2 : k0_cond2 i v1 = 1#1), ∀ (k0_h5 : k0_cond5 v29 = 1#1), 8 ∣ (k0_mult107 v403).toNat) ∧
  (∀ (k0_h2 : k0_cond2 i v1 = 1#1), ∀ (k0_h5 : k0_cond5 v29 = 1#1), ∀ a, (k0_off213 v403) a + S8x1024.size a ≤ S102400x1024.size a)
theorem k0_mult107_dvd : ∀ (i : grid0.Coords) (v1 : BitVec 32) (v29 : BitVec 32) (v403 : BitVec 32) (k0_hw111 : k0_chk111 i v1 v29 v403), ∀ (k0_h2 : k0_cond2 i v1 = 1#1), ∀ (k0_h5 : k0_cond5 v29 = 1#1), 8 ∣ (k0_mult107 v403).toNat := fun i v1 v29 v403 k0_hw111 k0_h2 k0_h5 => k0_hw111.1 k0_h2 k0_h5
theorem k0_off213_inb : ∀ (i : grid0.Coords) (v1 : BitVec 32) (v29 : BitVec 32) (v403 : BitVec 32) (k0_hw111 : k0_chk111 i v1 v29 v403), ∀ (k0_h2 : k0_cond2 i v1 = 1#1), ∀ (k0_h5 : k0_cond5 v29 = 1#1), ∀ a, (k0_off213 v403) a + S8x1024.size a ≤ S102400x1024.size a := fun i v1 v29 v403 k0_hw111 k0_h2 k0_h5 => k0_hw111.2 k0_h2 k0_h5

def k0_mult108 (v411 : BitVec 32) : BitVec 32 :=
  let c8_i32_252 : BitVec 32 := 8#32
  let v412 : BitVec 32 := Scalar.muli v411 c8_i32_252
  v412

def k0_off214 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off215 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c344_i32 : BitVec 32 := 344#32
  let c0_i32_253 : BitVec 32 := 0#32
  ![v66.toNat, 344, 0]
def k0_off216 (v411 : BitVec 32) : Fin 2 → Nat :=
  let c8_i32_252 : BitVec 32 := 8#32
  let v412 : BitVec 32 := Scalar.muli v411 c8_i32_252
  let v413 : BitVec 32 := v412
  let c0_i32_254 : BitVec 32 := 0#32
  ![v413.toNat, 0]

def k0_chk112 (i : grid0.Coords) (v1 : BitVec 32) (v29 : BitVec 32) (v411 : BitVec 32) : Prop :=
  (∀ (k0_h2 : k0_cond2 i v1 = 1#1), ∀ (k0_h5 : k0_cond5 v29 = 1#1), 8 ∣ (k0_mult108 v411).toNat) ∧
  (∀ (k0_h2 : k0_cond2 i v1 = 1#1), ∀ (k0_h5 : k0_cond5 v29 = 1#1), ∀ a, (k0_off216 v411) a + S8x1024.size a ≤ S102400x1024.size a)
theorem k0_mult108_dvd : ∀ (i : grid0.Coords) (v1 : BitVec 32) (v29 : BitVec 32) (v411 : BitVec 32) (k0_hw112 : k0_chk112 i v1 v29 v411), ∀ (k0_h2 : k0_cond2 i v1 = 1#1), ∀ (k0_h5 : k0_cond5 v29 = 1#1), 8 ∣ (k0_mult108 v411).toNat := fun i v1 v29 v411 k0_hw112 k0_h2 k0_h5 => k0_hw112.1 k0_h2 k0_h5
theorem k0_off216_inb : ∀ (i : grid0.Coords) (v1 : BitVec 32) (v29 : BitVec 32) (v411 : BitVec 32) (k0_hw112 : k0_chk112 i v1 v29 v411), ∀ (k0_h2 : k0_cond2 i v1 = 1#1), ∀ (k0_h5 : k0_cond5 v29 = 1#1), ∀ a, (k0_off216 v411) a + S8x1024.size a ≤ S102400x1024.size a := fun i v1 v29 v411 k0_hw112 k0_h2 k0_h5 => k0_hw112.2 k0_h2 k0_h5

def k0_mult109 (v419 : BitVec 32) : BitVec 32 :=
  let c8_i32_257 : BitVec 32 := 8#32
  let v420 : BitVec 32 := Scalar.muli v419 c8_i32_257
  v420

def k0_off217 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off218 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c352_i32 : BitVec 32 := 352#32
  let c0_i32_258 : BitVec 32 := 0#32
  ![v66.toNat, 352, 0]
def k0_off219 (v419 : BitVec 32) : Fin 2 → Nat :=
  let c8_i32_257 : BitVec 32 := 8#32
  let v420 : BitVec 32 := Scalar.muli v419 c8_i32_257
  let v421 : BitVec 32 := v420
  let c0_i32_259 : BitVec 32 := 0#32
  ![v421.toNat, 0]

def k0_chk113 (i : grid0.Coords) (v1 : BitVec 32) (v29 : BitVec 32) (v419 : BitVec 32) : Prop :=
  (∀ (k0_h2 : k0_cond2 i v1 = 1#1), ∀ (k0_h5 : k0_cond5 v29 = 1#1), 8 ∣ (k0_mult109 v419).toNat) ∧
  (∀ (k0_h2 : k0_cond2 i v1 = 1#1), ∀ (k0_h5 : k0_cond5 v29 = 1#1), ∀ a, (k0_off219 v419) a + S8x1024.size a ≤ S102400x1024.size a)
theorem k0_mult109_dvd : ∀ (i : grid0.Coords) (v1 : BitVec 32) (v29 : BitVec 32) (v419 : BitVec 32) (k0_hw113 : k0_chk113 i v1 v29 v419), ∀ (k0_h2 : k0_cond2 i v1 = 1#1), ∀ (k0_h5 : k0_cond5 v29 = 1#1), 8 ∣ (k0_mult109 v419).toNat := fun i v1 v29 v419 k0_hw113 k0_h2 k0_h5 => k0_hw113.1 k0_h2 k0_h5
theorem k0_off219_inb : ∀ (i : grid0.Coords) (v1 : BitVec 32) (v29 : BitVec 32) (v419 : BitVec 32) (k0_hw113 : k0_chk113 i v1 v29 v419), ∀ (k0_h2 : k0_cond2 i v1 = 1#1), ∀ (k0_h5 : k0_cond5 v29 = 1#1), ∀ a, (k0_off219 v419) a + S8x1024.size a ≤ S102400x1024.size a := fun i v1 v29 v419 k0_hw113 k0_h2 k0_h5 => k0_hw113.2 k0_h2 k0_h5

def k0_mult110 (v427 : BitVec 32) : BitVec 32 :=
  let c8_i32_262 : BitVec 32 := 8#32
  let v428 : BitVec 32 := Scalar.muli v427 c8_i32_262
  v428

def k0_off220 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off221 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c360_i32 : BitVec 32 := 360#32
  let c0_i32_263 : BitVec 32 := 0#32
  ![v66.toNat, 360, 0]
def k0_off222 (v427 : BitVec 32) : Fin 2 → Nat :=
  let c8_i32_262 : BitVec 32 := 8#32
  let v428 : BitVec 32 := Scalar.muli v427 c8_i32_262
  let v429 : BitVec 32 := v428
  let c0_i32_264 : BitVec 32 := 0#32
  ![v429.toNat, 0]

def k0_chk114 (i : grid0.Coords) (v1 : BitVec 32) (v29 : BitVec 32) (v427 : BitVec 32) : Prop :=
  (∀ (k0_h2 : k0_cond2 i v1 = 1#1), ∀ (k0_h5 : k0_cond5 v29 = 1#1), 8 ∣ (k0_mult110 v427).toNat) ∧
  (∀ (k0_h2 : k0_cond2 i v1 = 1#1), ∀ (k0_h5 : k0_cond5 v29 = 1#1), ∀ a, (k0_off222 v427) a + S8x1024.size a ≤ S102400x1024.size a)
theorem k0_mult110_dvd : ∀ (i : grid0.Coords) (v1 : BitVec 32) (v29 : BitVec 32) (v427 : BitVec 32) (k0_hw114 : k0_chk114 i v1 v29 v427), ∀ (k0_h2 : k0_cond2 i v1 = 1#1), ∀ (k0_h5 : k0_cond5 v29 = 1#1), 8 ∣ (k0_mult110 v427).toNat := fun i v1 v29 v427 k0_hw114 k0_h2 k0_h5 => k0_hw114.1 k0_h2 k0_h5
theorem k0_off222_inb : ∀ (i : grid0.Coords) (v1 : BitVec 32) (v29 : BitVec 32) (v427 : BitVec 32) (k0_hw114 : k0_chk114 i v1 v29 v427), ∀ (k0_h2 : k0_cond2 i v1 = 1#1), ∀ (k0_h5 : k0_cond5 v29 = 1#1), ∀ a, (k0_off222 v427) a + S8x1024.size a ≤ S102400x1024.size a := fun i v1 v29 v427 k0_hw114 k0_h2 k0_h5 => k0_hw114.2 k0_h2 k0_h5

def k0_mult111 (v435 : BitVec 32) : BitVec 32 :=
  let c8_i32_267 : BitVec 32 := 8#32
  let v436 : BitVec 32 := Scalar.muli v435 c8_i32_267
  v436

def k0_off223 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off224 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c368_i32 : BitVec 32 := 368#32
  let c0_i32_268 : BitVec 32 := 0#32
  ![v66.toNat, 368, 0]
def k0_off225 (v435 : BitVec 32) : Fin 2 → Nat :=
  let c8_i32_267 : BitVec 32 := 8#32
  let v436 : BitVec 32 := Scalar.muli v435 c8_i32_267
  let v437 : BitVec 32 := v436
  let c0_i32_269 : BitVec 32 := 0#32
  ![v437.toNat, 0]

def k0_chk115 (i : grid0.Coords) (v1 : BitVec 32) (v29 : BitVec 32) (v435 : BitVec 32) : Prop :=
  (∀ (k0_h2 : k0_cond2 i v1 = 1#1), ∀ (k0_h5 : k0_cond5 v29 = 1#1), 8 ∣ (k0_mult111 v435).toNat) ∧
  (∀ (k0_h2 : k0_cond2 i v1 = 1#1), ∀ (k0_h5 : k0_cond5 v29 = 1#1), ∀ a, (k0_off225 v435) a + S8x1024.size a ≤ S102400x1024.size a)
theorem k0_mult111_dvd : ∀ (i : grid0.Coords) (v1 : BitVec 32) (v29 : BitVec 32) (v435 : BitVec 32) (k0_hw115 : k0_chk115 i v1 v29 v435), ∀ (k0_h2 : k0_cond2 i v1 = 1#1), ∀ (k0_h5 : k0_cond5 v29 = 1#1), 8 ∣ (k0_mult111 v435).toNat := fun i v1 v29 v435 k0_hw115 k0_h2 k0_h5 => k0_hw115.1 k0_h2 k0_h5
theorem k0_off225_inb : ∀ (i : grid0.Coords) (v1 : BitVec 32) (v29 : BitVec 32) (v435 : BitVec 32) (k0_hw115 : k0_chk115 i v1 v29 v435), ∀ (k0_h2 : k0_cond2 i v1 = 1#1), ∀ (k0_h5 : k0_cond5 v29 = 1#1), ∀ a, (k0_off225 v435) a + S8x1024.size a ≤ S102400x1024.size a := fun i v1 v29 v435 k0_hw115 k0_h2 k0_h5 => k0_hw115.2 k0_h2 k0_h5

def k0_mult112 (v443 : BitVec 32) : BitVec 32 :=
  let c8_i32_272 : BitVec 32 := 8#32
  let v444 : BitVec 32 := Scalar.muli v443 c8_i32_272
  v444

def k0_off226 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off227 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c376_i32 : BitVec 32 := 376#32
  let c0_i32_273 : BitVec 32 := 0#32
  ![v66.toNat, 376, 0]
def k0_off228 (v443 : BitVec 32) : Fin 2 → Nat :=
  let c8_i32_272 : BitVec 32 := 8#32
  let v444 : BitVec 32 := Scalar.muli v443 c8_i32_272
  let v445 : BitVec 32 := v444
  let c0_i32_274 : BitVec 32 := 0#32
  ![v445.toNat, 0]

def k0_chk116 (i : grid0.Coords) (v1 : BitVec 32) (v29 : BitVec 32) (v443 : BitVec 32) : Prop :=
  (∀ (k0_h2 : k0_cond2 i v1 = 1#1), ∀ (k0_h5 : k0_cond5 v29 = 1#1), 8 ∣ (k0_mult112 v443).toNat) ∧
  (∀ (k0_h2 : k0_cond2 i v1 = 1#1), ∀ (k0_h5 : k0_cond5 v29 = 1#1), ∀ a, (k0_off228 v443) a + S8x1024.size a ≤ S102400x1024.size a)
theorem k0_mult112_dvd : ∀ (i : grid0.Coords) (v1 : BitVec 32) (v29 : BitVec 32) (v443 : BitVec 32) (k0_hw116 : k0_chk116 i v1 v29 v443), ∀ (k0_h2 : k0_cond2 i v1 = 1#1), ∀ (k0_h5 : k0_cond5 v29 = 1#1), 8 ∣ (k0_mult112 v443).toNat := fun i v1 v29 v443 k0_hw116 k0_h2 k0_h5 => k0_hw116.1 k0_h2 k0_h5
theorem k0_off228_inb : ∀ (i : grid0.Coords) (v1 : BitVec 32) (v29 : BitVec 32) (v443 : BitVec 32) (k0_hw116 : k0_chk116 i v1 v29 v443), ∀ (k0_h2 : k0_cond2 i v1 = 1#1), ∀ (k0_h5 : k0_cond5 v29 = 1#1), ∀ a, (k0_off228 v443) a + S8x1024.size a ≤ S102400x1024.size a := fun i v1 v29 v443 k0_hw116 k0_h2 k0_h5 => k0_hw116.2 k0_h2 k0_h5

def k0_mult113 (v451 : BitVec 32) : BitVec 32 :=
  let c8_i32_277 : BitVec 32 := 8#32
  let v452 : BitVec 32 := Scalar.muli v451 c8_i32_277
  v452

def k0_off229 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off230 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c384_i32 : BitVec 32 := 384#32
  let c0_i32_278 : BitVec 32 := 0#32
  ![v66.toNat, 384, 0]
def k0_off231 (v451 : BitVec 32) : Fin 2 → Nat :=
  let c8_i32_277 : BitVec 32 := 8#32
  let v452 : BitVec 32 := Scalar.muli v451 c8_i32_277
  let v453 : BitVec 32 := v452
  let c0_i32_279 : BitVec 32 := 0#32
  ![v453.toNat, 0]

def k0_chk117 (i : grid0.Coords) (v1 : BitVec 32) (v29 : BitVec 32) (v451 : BitVec 32) : Prop :=
  (∀ (k0_h2 : k0_cond2 i v1 = 1#1), ∀ (k0_h5 : k0_cond5 v29 = 1#1), 8 ∣ (k0_mult113 v451).toNat) ∧
  (∀ (k0_h2 : k0_cond2 i v1 = 1#1), ∀ (k0_h5 : k0_cond5 v29 = 1#1), ∀ a, (k0_off231 v451) a + S8x1024.size a ≤ S102400x1024.size a)
theorem k0_mult113_dvd : ∀ (i : grid0.Coords) (v1 : BitVec 32) (v29 : BitVec 32) (v451 : BitVec 32) (k0_hw117 : k0_chk117 i v1 v29 v451), ∀ (k0_h2 : k0_cond2 i v1 = 1#1), ∀ (k0_h5 : k0_cond5 v29 = 1#1), 8 ∣ (k0_mult113 v451).toNat := fun i v1 v29 v451 k0_hw117 k0_h2 k0_h5 => k0_hw117.1 k0_h2 k0_h5
theorem k0_off231_inb : ∀ (i : grid0.Coords) (v1 : BitVec 32) (v29 : BitVec 32) (v451 : BitVec 32) (k0_hw117 : k0_chk117 i v1 v29 v451), ∀ (k0_h2 : k0_cond2 i v1 = 1#1), ∀ (k0_h5 : k0_cond5 v29 = 1#1), ∀ a, (k0_off231 v451) a + S8x1024.size a ≤ S102400x1024.size a := fun i v1 v29 v451 k0_hw117 k0_h2 k0_h5 => k0_hw117.2 k0_h2 k0_h5

def k0_mult114 (v459 : BitVec 32) : BitVec 32 :=
  let c8_i32_282 : BitVec 32 := 8#32
  let v460 : BitVec 32 := Scalar.muli v459 c8_i32_282
  v460

def k0_off232 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off233 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c392_i32 : BitVec 32 := 392#32
  let c0_i32_283 : BitVec 32 := 0#32
  ![v66.toNat, 392, 0]
def k0_off234 (v459 : BitVec 32) : Fin 2 → Nat :=
  let c8_i32_282 : BitVec 32 := 8#32
  let v460 : BitVec 32 := Scalar.muli v459 c8_i32_282
  let v461 : BitVec 32 := v460
  let c0_i32_284 : BitVec 32 := 0#32
  ![v461.toNat, 0]

def k0_chk118 (i : grid0.Coords) (v1 : BitVec 32) (v29 : BitVec 32) (v459 : BitVec 32) : Prop :=
  (∀ (k0_h2 : k0_cond2 i v1 = 1#1), ∀ (k0_h5 : k0_cond5 v29 = 1#1), 8 ∣ (k0_mult114 v459).toNat) ∧
  (∀ (k0_h2 : k0_cond2 i v1 = 1#1), ∀ (k0_h5 : k0_cond5 v29 = 1#1), ∀ a, (k0_off234 v459) a + S8x1024.size a ≤ S102400x1024.size a)
theorem k0_mult114_dvd : ∀ (i : grid0.Coords) (v1 : BitVec 32) (v29 : BitVec 32) (v459 : BitVec 32) (k0_hw118 : k0_chk118 i v1 v29 v459), ∀ (k0_h2 : k0_cond2 i v1 = 1#1), ∀ (k0_h5 : k0_cond5 v29 = 1#1), 8 ∣ (k0_mult114 v459).toNat := fun i v1 v29 v459 k0_hw118 k0_h2 k0_h5 => k0_hw118.1 k0_h2 k0_h5
theorem k0_off234_inb : ∀ (i : grid0.Coords) (v1 : BitVec 32) (v29 : BitVec 32) (v459 : BitVec 32) (k0_hw118 : k0_chk118 i v1 v29 v459), ∀ (k0_h2 : k0_cond2 i v1 = 1#1), ∀ (k0_h5 : k0_cond5 v29 = 1#1), ∀ a, (k0_off234 v459) a + S8x1024.size a ≤ S102400x1024.size a := fun i v1 v29 v459 k0_hw118 k0_h2 k0_h5 => k0_hw118.2 k0_h2 k0_h5

def k0_mult115 (v467 : BitVec 32) : BitVec 32 :=
  let c8_i32_287 : BitVec 32 := 8#32
  let v468 : BitVec 32 := Scalar.muli v467 c8_i32_287
  v468

def k0_off235 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off236 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c400_i32 : BitVec 32 := 400#32
  let c0_i32_288 : BitVec 32 := 0#32
  ![v66.toNat, 400, 0]
def k0_off237 (v467 : BitVec 32) : Fin 2 → Nat :=
  let c8_i32_287 : BitVec 32 := 8#32
  let v468 : BitVec 32 := Scalar.muli v467 c8_i32_287
  let v469 : BitVec 32 := v468
  let c0_i32_289 : BitVec 32 := 0#32
  ![v469.toNat, 0]

def k0_chk119 (i : grid0.Coords) (v1 : BitVec 32) (v29 : BitVec 32) (v467 : BitVec 32) : Prop :=
  (∀ (k0_h2 : k0_cond2 i v1 = 1#1), ∀ (k0_h5 : k0_cond5 v29 = 1#1), 8 ∣ (k0_mult115 v467).toNat) ∧
  (∀ (k0_h2 : k0_cond2 i v1 = 1#1), ∀ (k0_h5 : k0_cond5 v29 = 1#1), ∀ a, (k0_off237 v467) a + S8x1024.size a ≤ S102400x1024.size a)
theorem k0_mult115_dvd : ∀ (i : grid0.Coords) (v1 : BitVec 32) (v29 : BitVec 32) (v467 : BitVec 32) (k0_hw119 : k0_chk119 i v1 v29 v467), ∀ (k0_h2 : k0_cond2 i v1 = 1#1), ∀ (k0_h5 : k0_cond5 v29 = 1#1), 8 ∣ (k0_mult115 v467).toNat := fun i v1 v29 v467 k0_hw119 k0_h2 k0_h5 => k0_hw119.1 k0_h2 k0_h5
theorem k0_off237_inb : ∀ (i : grid0.Coords) (v1 : BitVec 32) (v29 : BitVec 32) (v467 : BitVec 32) (k0_hw119 : k0_chk119 i v1 v29 v467), ∀ (k0_h2 : k0_cond2 i v1 = 1#1), ∀ (k0_h5 : k0_cond5 v29 = 1#1), ∀ a, (k0_off237 v467) a + S8x1024.size a ≤ S102400x1024.size a := fun i v1 v29 v467 k0_hw119 k0_h2 k0_h5 => k0_hw119.2 k0_h2 k0_h5

def k0_mult116 (v475 : BitVec 32) : BitVec 32 :=
  let c8_i32_292 : BitVec 32 := 8#32
  let v476 : BitVec 32 := Scalar.muli v475 c8_i32_292
  v476

def k0_off238 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off239 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c408_i32 : BitVec 32 := 408#32
  let c0_i32_293 : BitVec 32 := 0#32
  ![v66.toNat, 408, 0]
def k0_off240 (v475 : BitVec 32) : Fin 2 → Nat :=
  let c8_i32_292 : BitVec 32 := 8#32
  let v476 : BitVec 32 := Scalar.muli v475 c8_i32_292
  let v477 : BitVec 32 := v476
  let c0_i32_294 : BitVec 32 := 0#32
  ![v477.toNat, 0]

def k0_chk120 (i : grid0.Coords) (v1 : BitVec 32) (v29 : BitVec 32) (v475 : BitVec 32) : Prop :=
  (∀ (k0_h2 : k0_cond2 i v1 = 1#1), ∀ (k0_h5 : k0_cond5 v29 = 1#1), 8 ∣ (k0_mult116 v475).toNat) ∧
  (∀ (k0_h2 : k0_cond2 i v1 = 1#1), ∀ (k0_h5 : k0_cond5 v29 = 1#1), ∀ a, (k0_off240 v475) a + S8x1024.size a ≤ S102400x1024.size a)
theorem k0_mult116_dvd : ∀ (i : grid0.Coords) (v1 : BitVec 32) (v29 : BitVec 32) (v475 : BitVec 32) (k0_hw120 : k0_chk120 i v1 v29 v475), ∀ (k0_h2 : k0_cond2 i v1 = 1#1), ∀ (k0_h5 : k0_cond5 v29 = 1#1), 8 ∣ (k0_mult116 v475).toNat := fun i v1 v29 v475 k0_hw120 k0_h2 k0_h5 => k0_hw120.1 k0_h2 k0_h5
theorem k0_off240_inb : ∀ (i : grid0.Coords) (v1 : BitVec 32) (v29 : BitVec 32) (v475 : BitVec 32) (k0_hw120 : k0_chk120 i v1 v29 v475), ∀ (k0_h2 : k0_cond2 i v1 = 1#1), ∀ (k0_h5 : k0_cond5 v29 = 1#1), ∀ a, (k0_off240 v475) a + S8x1024.size a ≤ S102400x1024.size a := fun i v1 v29 v475 k0_hw120 k0_h2 k0_h5 => k0_hw120.2 k0_h2 k0_h5

def k0_mult117 (v483 : BitVec 32) : BitVec 32 :=
  let c8_i32_297 : BitVec 32 := 8#32
  let v484 : BitVec 32 := Scalar.muli v483 c8_i32_297
  v484

def k0_off241 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off242 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c416_i32 : BitVec 32 := 416#32
  let c0_i32_298 : BitVec 32 := 0#32
  ![v66.toNat, 416, 0]
def k0_off243 (v483 : BitVec 32) : Fin 2 → Nat :=
  let c8_i32_297 : BitVec 32 := 8#32
  let v484 : BitVec 32 := Scalar.muli v483 c8_i32_297
  let v485 : BitVec 32 := v484
  let c0_i32_299 : BitVec 32 := 0#32
  ![v485.toNat, 0]

def k0_chk121 (i : grid0.Coords) (v1 : BitVec 32) (v29 : BitVec 32) (v483 : BitVec 32) : Prop :=
  (∀ (k0_h2 : k0_cond2 i v1 = 1#1), ∀ (k0_h5 : k0_cond5 v29 = 1#1), 8 ∣ (k0_mult117 v483).toNat) ∧
  (∀ (k0_h2 : k0_cond2 i v1 = 1#1), ∀ (k0_h5 : k0_cond5 v29 = 1#1), ∀ a, (k0_off243 v483) a + S8x1024.size a ≤ S102400x1024.size a)
theorem k0_mult117_dvd : ∀ (i : grid0.Coords) (v1 : BitVec 32) (v29 : BitVec 32) (v483 : BitVec 32) (k0_hw121 : k0_chk121 i v1 v29 v483), ∀ (k0_h2 : k0_cond2 i v1 = 1#1), ∀ (k0_h5 : k0_cond5 v29 = 1#1), 8 ∣ (k0_mult117 v483).toNat := fun i v1 v29 v483 k0_hw121 k0_h2 k0_h5 => k0_hw121.1 k0_h2 k0_h5
theorem k0_off243_inb : ∀ (i : grid0.Coords) (v1 : BitVec 32) (v29 : BitVec 32) (v483 : BitVec 32) (k0_hw121 : k0_chk121 i v1 v29 v483), ∀ (k0_h2 : k0_cond2 i v1 = 1#1), ∀ (k0_h5 : k0_cond5 v29 = 1#1), ∀ a, (k0_off243 v483) a + S8x1024.size a ≤ S102400x1024.size a := fun i v1 v29 v483 k0_hw121 k0_h2 k0_h5 => k0_hw121.2 k0_h2 k0_h5

def k0_mult118 (v491 : BitVec 32) : BitVec 32 :=
  let c8_i32_302 : BitVec 32 := 8#32
  let v492 : BitVec 32 := Scalar.muli v491 c8_i32_302
  v492

def k0_off244 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off245 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c424_i32 : BitVec 32 := 424#32
  let c0_i32_303 : BitVec 32 := 0#32
  ![v66.toNat, 424, 0]
def k0_off246 (v491 : BitVec 32) : Fin 2 → Nat :=
  let c8_i32_302 : BitVec 32 := 8#32
  let v492 : BitVec 32 := Scalar.muli v491 c8_i32_302
  let v493 : BitVec 32 := v492
  let c0_i32_304 : BitVec 32 := 0#32
  ![v493.toNat, 0]

def k0_chk122 (i : grid0.Coords) (v1 : BitVec 32) (v29 : BitVec 32) (v491 : BitVec 32) : Prop :=
  (∀ (k0_h2 : k0_cond2 i v1 = 1#1), ∀ (k0_h5 : k0_cond5 v29 = 1#1), 8 ∣ (k0_mult118 v491).toNat) ∧
  (∀ (k0_h2 : k0_cond2 i v1 = 1#1), ∀ (k0_h5 : k0_cond5 v29 = 1#1), ∀ a, (k0_off246 v491) a + S8x1024.size a ≤ S102400x1024.size a)
theorem k0_mult118_dvd : ∀ (i : grid0.Coords) (v1 : BitVec 32) (v29 : BitVec 32) (v491 : BitVec 32) (k0_hw122 : k0_chk122 i v1 v29 v491), ∀ (k0_h2 : k0_cond2 i v1 = 1#1), ∀ (k0_h5 : k0_cond5 v29 = 1#1), 8 ∣ (k0_mult118 v491).toNat := fun i v1 v29 v491 k0_hw122 k0_h2 k0_h5 => k0_hw122.1 k0_h2 k0_h5
theorem k0_off246_inb : ∀ (i : grid0.Coords) (v1 : BitVec 32) (v29 : BitVec 32) (v491 : BitVec 32) (k0_hw122 : k0_chk122 i v1 v29 v491), ∀ (k0_h2 : k0_cond2 i v1 = 1#1), ∀ (k0_h5 : k0_cond5 v29 = 1#1), ∀ a, (k0_off246 v491) a + S8x1024.size a ≤ S102400x1024.size a := fun i v1 v29 v491 k0_hw122 k0_h2 k0_h5 => k0_hw122.2 k0_h2 k0_h5

def k0_mult119 (v499 : BitVec 32) : BitVec 32 :=
  let c8_i32_307 : BitVec 32 := 8#32
  let v500 : BitVec 32 := Scalar.muli v499 c8_i32_307
  v500

def k0_off247 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off248 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c432_i32 : BitVec 32 := 432#32
  let c0_i32_308 : BitVec 32 := 0#32
  ![v66.toNat, 432, 0]
def k0_off249 (v499 : BitVec 32) : Fin 2 → Nat :=
  let c8_i32_307 : BitVec 32 := 8#32
  let v500 : BitVec 32 := Scalar.muli v499 c8_i32_307
  let v501 : BitVec 32 := v500
  let c0_i32_309 : BitVec 32 := 0#32
  ![v501.toNat, 0]

def k0_chk123 (i : grid0.Coords) (v1 : BitVec 32) (v29 : BitVec 32) (v499 : BitVec 32) : Prop :=
  (∀ (k0_h2 : k0_cond2 i v1 = 1#1), ∀ (k0_h5 : k0_cond5 v29 = 1#1), 8 ∣ (k0_mult119 v499).toNat) ∧
  (∀ (k0_h2 : k0_cond2 i v1 = 1#1), ∀ (k0_h5 : k0_cond5 v29 = 1#1), ∀ a, (k0_off249 v499) a + S8x1024.size a ≤ S102400x1024.size a)
theorem k0_mult119_dvd : ∀ (i : grid0.Coords) (v1 : BitVec 32) (v29 : BitVec 32) (v499 : BitVec 32) (k0_hw123 : k0_chk123 i v1 v29 v499), ∀ (k0_h2 : k0_cond2 i v1 = 1#1), ∀ (k0_h5 : k0_cond5 v29 = 1#1), 8 ∣ (k0_mult119 v499).toNat := fun i v1 v29 v499 k0_hw123 k0_h2 k0_h5 => k0_hw123.1 k0_h2 k0_h5
theorem k0_off249_inb : ∀ (i : grid0.Coords) (v1 : BitVec 32) (v29 : BitVec 32) (v499 : BitVec 32) (k0_hw123 : k0_chk123 i v1 v29 v499), ∀ (k0_h2 : k0_cond2 i v1 = 1#1), ∀ (k0_h5 : k0_cond5 v29 = 1#1), ∀ a, (k0_off249 v499) a + S8x1024.size a ≤ S102400x1024.size a := fun i v1 v29 v499 k0_hw123 k0_h2 k0_h5 => k0_hw123.2 k0_h2 k0_h5

def k0_mult120 (v507 : BitVec 32) : BitVec 32 :=
  let c8_i32_312 : BitVec 32 := 8#32
  let v508 : BitVec 32 := Scalar.muli v507 c8_i32_312
  v508

def k0_off250 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off251 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c440_i32 : BitVec 32 := 440#32
  let c0_i32_313 : BitVec 32 := 0#32
  ![v66.toNat, 440, 0]
def k0_off252 (v507 : BitVec 32) : Fin 2 → Nat :=
  let c8_i32_312 : BitVec 32 := 8#32
  let v508 : BitVec 32 := Scalar.muli v507 c8_i32_312
  let v509 : BitVec 32 := v508
  let c0_i32_314 : BitVec 32 := 0#32
  ![v509.toNat, 0]

def k0_chk124 (i : grid0.Coords) (v1 : BitVec 32) (v29 : BitVec 32) (v507 : BitVec 32) : Prop :=
  (∀ (k0_h2 : k0_cond2 i v1 = 1#1), ∀ (k0_h5 : k0_cond5 v29 = 1#1), 8 ∣ (k0_mult120 v507).toNat) ∧
  (∀ (k0_h2 : k0_cond2 i v1 = 1#1), ∀ (k0_h5 : k0_cond5 v29 = 1#1), ∀ a, (k0_off252 v507) a + S8x1024.size a ≤ S102400x1024.size a)
theorem k0_mult120_dvd : ∀ (i : grid0.Coords) (v1 : BitVec 32) (v29 : BitVec 32) (v507 : BitVec 32) (k0_hw124 : k0_chk124 i v1 v29 v507), ∀ (k0_h2 : k0_cond2 i v1 = 1#1), ∀ (k0_h5 : k0_cond5 v29 = 1#1), 8 ∣ (k0_mult120 v507).toNat := fun i v1 v29 v507 k0_hw124 k0_h2 k0_h5 => k0_hw124.1 k0_h2 k0_h5
theorem k0_off252_inb : ∀ (i : grid0.Coords) (v1 : BitVec 32) (v29 : BitVec 32) (v507 : BitVec 32) (k0_hw124 : k0_chk124 i v1 v29 v507), ∀ (k0_h2 : k0_cond2 i v1 = 1#1), ∀ (k0_h5 : k0_cond5 v29 = 1#1), ∀ a, (k0_off252 v507) a + S8x1024.size a ≤ S102400x1024.size a := fun i v1 v29 v507 k0_hw124 k0_h2 k0_h5 => k0_hw124.2 k0_h2 k0_h5

def k0_mult121 (v515 : BitVec 32) : BitVec 32 :=
  let c8_i32_317 : BitVec 32 := 8#32
  let v516 : BitVec 32 := Scalar.muli v515 c8_i32_317
  v516

def k0_off253 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off254 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c448_i32 : BitVec 32 := 448#32
  let c0_i32_318 : BitVec 32 := 0#32
  ![v66.toNat, 448, 0]
def k0_off255 (v515 : BitVec 32) : Fin 2 → Nat :=
  let c8_i32_317 : BitVec 32 := 8#32
  let v516 : BitVec 32 := Scalar.muli v515 c8_i32_317
  let v517 : BitVec 32 := v516
  let c0_i32_319 : BitVec 32 := 0#32
  ![v517.toNat, 0]

def k0_chk125 (i : grid0.Coords) (v1 : BitVec 32) (v29 : BitVec 32) (v515 : BitVec 32) : Prop :=
  (∀ (k0_h2 : k0_cond2 i v1 = 1#1), ∀ (k0_h5 : k0_cond5 v29 = 1#1), 8 ∣ (k0_mult121 v515).toNat) ∧
  (∀ (k0_h2 : k0_cond2 i v1 = 1#1), ∀ (k0_h5 : k0_cond5 v29 = 1#1), ∀ a, (k0_off255 v515) a + S8x1024.size a ≤ S102400x1024.size a)
theorem k0_mult121_dvd : ∀ (i : grid0.Coords) (v1 : BitVec 32) (v29 : BitVec 32) (v515 : BitVec 32) (k0_hw125 : k0_chk125 i v1 v29 v515), ∀ (k0_h2 : k0_cond2 i v1 = 1#1), ∀ (k0_h5 : k0_cond5 v29 = 1#1), 8 ∣ (k0_mult121 v515).toNat := fun i v1 v29 v515 k0_hw125 k0_h2 k0_h5 => k0_hw125.1 k0_h2 k0_h5
theorem k0_off255_inb : ∀ (i : grid0.Coords) (v1 : BitVec 32) (v29 : BitVec 32) (v515 : BitVec 32) (k0_hw125 : k0_chk125 i v1 v29 v515), ∀ (k0_h2 : k0_cond2 i v1 = 1#1), ∀ (k0_h5 : k0_cond5 v29 = 1#1), ∀ a, (k0_off255 v515) a + S8x1024.size a ≤ S102400x1024.size a := fun i v1 v29 v515 k0_hw125 k0_h2 k0_h5 => k0_hw125.2 k0_h2 k0_h5

def k0_mult122 (v523 : BitVec 32) : BitVec 32 :=
  let c8_i32_322 : BitVec 32 := 8#32
  let v524 : BitVec 32 := Scalar.muli v523 c8_i32_322
  v524

def k0_off256 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off257 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c456_i32 : BitVec 32 := 456#32
  let c0_i32_323 : BitVec 32 := 0#32
  ![v66.toNat, 456, 0]
def k0_off258 (v523 : BitVec 32) : Fin 2 → Nat :=
  let c8_i32_322 : BitVec 32 := 8#32
  let v524 : BitVec 32 := Scalar.muli v523 c8_i32_322
  let v525 : BitVec 32 := v524
  let c0_i32_324 : BitVec 32 := 0#32
  ![v525.toNat, 0]

def k0_chk126 (i : grid0.Coords) (v1 : BitVec 32) (v29 : BitVec 32) (v523 : BitVec 32) : Prop :=
  (∀ (k0_h2 : k0_cond2 i v1 = 1#1), ∀ (k0_h5 : k0_cond5 v29 = 1#1), 8 ∣ (k0_mult122 v523).toNat) ∧
  (∀ (k0_h2 : k0_cond2 i v1 = 1#1), ∀ (k0_h5 : k0_cond5 v29 = 1#1), ∀ a, (k0_off258 v523) a + S8x1024.size a ≤ S102400x1024.size a)
theorem k0_mult122_dvd : ∀ (i : grid0.Coords) (v1 : BitVec 32) (v29 : BitVec 32) (v523 : BitVec 32) (k0_hw126 : k0_chk126 i v1 v29 v523), ∀ (k0_h2 : k0_cond2 i v1 = 1#1), ∀ (k0_h5 : k0_cond5 v29 = 1#1), 8 ∣ (k0_mult122 v523).toNat := fun i v1 v29 v523 k0_hw126 k0_h2 k0_h5 => k0_hw126.1 k0_h2 k0_h5
theorem k0_off258_inb : ∀ (i : grid0.Coords) (v1 : BitVec 32) (v29 : BitVec 32) (v523 : BitVec 32) (k0_hw126 : k0_chk126 i v1 v29 v523), ∀ (k0_h2 : k0_cond2 i v1 = 1#1), ∀ (k0_h5 : k0_cond5 v29 = 1#1), ∀ a, (k0_off258 v523) a + S8x1024.size a ≤ S102400x1024.size a := fun i v1 v29 v523 k0_hw126 k0_h2 k0_h5 => k0_hw126.2 k0_h2 k0_h5

def k0_mult123 (v531 : BitVec 32) : BitVec 32 :=
  let c8_i32_327 : BitVec 32 := 8#32
  let v532 : BitVec 32 := Scalar.muli v531 c8_i32_327
  v532

def k0_off259 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off260 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c464_i32 : BitVec 32 := 464#32
  let c0_i32_328 : BitVec 32 := 0#32
  ![v66.toNat, 464, 0]
def k0_off261 (v531 : BitVec 32) : Fin 2 → Nat :=
  let c8_i32_327 : BitVec 32 := 8#32
  let v532 : BitVec 32 := Scalar.muli v531 c8_i32_327
  let v533 : BitVec 32 := v532
  let c0_i32_329 : BitVec 32 := 0#32
  ![v533.toNat, 0]

def k0_chk127 (i : grid0.Coords) (v1 : BitVec 32) (v29 : BitVec 32) (v531 : BitVec 32) : Prop :=
  (∀ (k0_h2 : k0_cond2 i v1 = 1#1), ∀ (k0_h5 : k0_cond5 v29 = 1#1), 8 ∣ (k0_mult123 v531).toNat) ∧
  (∀ (k0_h2 : k0_cond2 i v1 = 1#1), ∀ (k0_h5 : k0_cond5 v29 = 1#1), ∀ a, (k0_off261 v531) a + S8x1024.size a ≤ S102400x1024.size a)
theorem k0_mult123_dvd : ∀ (i : grid0.Coords) (v1 : BitVec 32) (v29 : BitVec 32) (v531 : BitVec 32) (k0_hw127 : k0_chk127 i v1 v29 v531), ∀ (k0_h2 : k0_cond2 i v1 = 1#1), ∀ (k0_h5 : k0_cond5 v29 = 1#1), 8 ∣ (k0_mult123 v531).toNat := fun i v1 v29 v531 k0_hw127 k0_h2 k0_h5 => k0_hw127.1 k0_h2 k0_h5
theorem k0_off261_inb : ∀ (i : grid0.Coords) (v1 : BitVec 32) (v29 : BitVec 32) (v531 : BitVec 32) (k0_hw127 : k0_chk127 i v1 v29 v531), ∀ (k0_h2 : k0_cond2 i v1 = 1#1), ∀ (k0_h5 : k0_cond5 v29 = 1#1), ∀ a, (k0_off261 v531) a + S8x1024.size a ≤ S102400x1024.size a := fun i v1 v29 v531 k0_hw127 k0_h2 k0_h5 => k0_hw127.2 k0_h2 k0_h5

def k0_mult124 (v539 : BitVec 32) : BitVec 32 :=
  let c8_i32_332 : BitVec 32 := 8#32
  let v540 : BitVec 32 := Scalar.muli v539 c8_i32_332
  v540

def k0_off262 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off263 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c472_i32 : BitVec 32 := 472#32
  let c0_i32_333 : BitVec 32 := 0#32
  ![v66.toNat, 472, 0]
def k0_off264 (v539 : BitVec 32) : Fin 2 → Nat :=
  let c8_i32_332 : BitVec 32 := 8#32
  let v540 : BitVec 32 := Scalar.muli v539 c8_i32_332
  let v541 : BitVec 32 := v540
  let c0_i32_334 : BitVec 32 := 0#32
  ![v541.toNat, 0]

def k0_chk128 (i : grid0.Coords) (v1 : BitVec 32) (v29 : BitVec 32) (v539 : BitVec 32) : Prop :=
  (∀ (k0_h2 : k0_cond2 i v1 = 1#1), ∀ (k0_h5 : k0_cond5 v29 = 1#1), 8 ∣ (k0_mult124 v539).toNat) ∧
  (∀ (k0_h2 : k0_cond2 i v1 = 1#1), ∀ (k0_h5 : k0_cond5 v29 = 1#1), ∀ a, (k0_off264 v539) a + S8x1024.size a ≤ S102400x1024.size a)
theorem k0_mult124_dvd : ∀ (i : grid0.Coords) (v1 : BitVec 32) (v29 : BitVec 32) (v539 : BitVec 32) (k0_hw128 : k0_chk128 i v1 v29 v539), ∀ (k0_h2 : k0_cond2 i v1 = 1#1), ∀ (k0_h5 : k0_cond5 v29 = 1#1), 8 ∣ (k0_mult124 v539).toNat := fun i v1 v29 v539 k0_hw128 k0_h2 k0_h5 => k0_hw128.1 k0_h2 k0_h5
theorem k0_off264_inb : ∀ (i : grid0.Coords) (v1 : BitVec 32) (v29 : BitVec 32) (v539 : BitVec 32) (k0_hw128 : k0_chk128 i v1 v29 v539), ∀ (k0_h2 : k0_cond2 i v1 = 1#1), ∀ (k0_h5 : k0_cond5 v29 = 1#1), ∀ a, (k0_off264 v539) a + S8x1024.size a ≤ S102400x1024.size a := fun i v1 v29 v539 k0_hw128 k0_h2 k0_h5 => k0_hw128.2 k0_h2 k0_h5

def k0_mult125 (v547 : BitVec 32) : BitVec 32 :=
  let c8_i32_337 : BitVec 32 := 8#32
  let v548 : BitVec 32 := Scalar.muli v547 c8_i32_337
  v548

def k0_off265 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off266 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c480_i32 : BitVec 32 := 480#32
  let c0_i32_338 : BitVec 32 := 0#32
  ![v66.toNat, 480, 0]
def k0_off267 (v547 : BitVec 32) : Fin 2 → Nat :=
  let c8_i32_337 : BitVec 32 := 8#32
  let v548 : BitVec 32 := Scalar.muli v547 c8_i32_337
  let v549 : BitVec 32 := v548
  let c0_i32_339 : BitVec 32 := 0#32
  ![v549.toNat, 0]

def k0_chk129 (i : grid0.Coords) (v1 : BitVec 32) (v29 : BitVec 32) (v547 : BitVec 32) : Prop :=
  (∀ (k0_h2 : k0_cond2 i v1 = 1#1), ∀ (k0_h5 : k0_cond5 v29 = 1#1), 8 ∣ (k0_mult125 v547).toNat) ∧
  (∀ (k0_h2 : k0_cond2 i v1 = 1#1), ∀ (k0_h5 : k0_cond5 v29 = 1#1), ∀ a, (k0_off267 v547) a + S8x1024.size a ≤ S102400x1024.size a)
theorem k0_mult125_dvd : ∀ (i : grid0.Coords) (v1 : BitVec 32) (v29 : BitVec 32) (v547 : BitVec 32) (k0_hw129 : k0_chk129 i v1 v29 v547), ∀ (k0_h2 : k0_cond2 i v1 = 1#1), ∀ (k0_h5 : k0_cond5 v29 = 1#1), 8 ∣ (k0_mult125 v547).toNat := fun i v1 v29 v547 k0_hw129 k0_h2 k0_h5 => k0_hw129.1 k0_h2 k0_h5
theorem k0_off267_inb : ∀ (i : grid0.Coords) (v1 : BitVec 32) (v29 : BitVec 32) (v547 : BitVec 32) (k0_hw129 : k0_chk129 i v1 v29 v547), ∀ (k0_h2 : k0_cond2 i v1 = 1#1), ∀ (k0_h5 : k0_cond5 v29 = 1#1), ∀ a, (k0_off267 v547) a + S8x1024.size a ≤ S102400x1024.size a := fun i v1 v29 v547 k0_hw129 k0_h2 k0_h5 => k0_hw129.2 k0_h2 k0_h5

def k0_mult126 (v555 : BitVec 32) : BitVec 32 :=
  let c8_i32_342 : BitVec 32 := 8#32
  let v556 : BitVec 32 := Scalar.muli v555 c8_i32_342
  v556

def k0_off268 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off269 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c488_i32 : BitVec 32 := 488#32
  let c0_i32_343 : BitVec 32 := 0#32
  ![v66.toNat, 488, 0]
def k0_off270 (v555 : BitVec 32) : Fin 2 → Nat :=
  let c8_i32_342 : BitVec 32 := 8#32
  let v556 : BitVec 32 := Scalar.muli v555 c8_i32_342
  let v557 : BitVec 32 := v556
  let c0_i32_344 : BitVec 32 := 0#32
  ![v557.toNat, 0]

def k0_chk130 (i : grid0.Coords) (v1 : BitVec 32) (v29 : BitVec 32) (v555 : BitVec 32) : Prop :=
  (∀ (k0_h2 : k0_cond2 i v1 = 1#1), ∀ (k0_h5 : k0_cond5 v29 = 1#1), 8 ∣ (k0_mult126 v555).toNat) ∧
  (∀ (k0_h2 : k0_cond2 i v1 = 1#1), ∀ (k0_h5 : k0_cond5 v29 = 1#1), ∀ a, (k0_off270 v555) a + S8x1024.size a ≤ S102400x1024.size a)
theorem k0_mult126_dvd : ∀ (i : grid0.Coords) (v1 : BitVec 32) (v29 : BitVec 32) (v555 : BitVec 32) (k0_hw130 : k0_chk130 i v1 v29 v555), ∀ (k0_h2 : k0_cond2 i v1 = 1#1), ∀ (k0_h5 : k0_cond5 v29 = 1#1), 8 ∣ (k0_mult126 v555).toNat := fun i v1 v29 v555 k0_hw130 k0_h2 k0_h5 => k0_hw130.1 k0_h2 k0_h5
theorem k0_off270_inb : ∀ (i : grid0.Coords) (v1 : BitVec 32) (v29 : BitVec 32) (v555 : BitVec 32) (k0_hw130 : k0_chk130 i v1 v29 v555), ∀ (k0_h2 : k0_cond2 i v1 = 1#1), ∀ (k0_h5 : k0_cond5 v29 = 1#1), ∀ a, (k0_off270 v555) a + S8x1024.size a ≤ S102400x1024.size a := fun i v1 v29 v555 k0_hw130 k0_h2 k0_h5 => k0_hw130.2 k0_h2 k0_h5

def k0_mult127 (v563 : BitVec 32) : BitVec 32 :=
  let c8_i32_347 : BitVec 32 := 8#32
  let v564 : BitVec 32 := Scalar.muli v563 c8_i32_347
  v564

def k0_off271 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off272 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c496_i32 : BitVec 32 := 496#32
  let c0_i32_348 : BitVec 32 := 0#32
  ![v66.toNat, 496, 0]
def k0_off273 (v563 : BitVec 32) : Fin 2 → Nat :=
  let c8_i32_347 : BitVec 32 := 8#32
  let v564 : BitVec 32 := Scalar.muli v563 c8_i32_347
  let v565 : BitVec 32 := v564
  let c0_i32_349 : BitVec 32 := 0#32
  ![v565.toNat, 0]

def k0_chk131 (i : grid0.Coords) (v1 : BitVec 32) (v29 : BitVec 32) (v563 : BitVec 32) : Prop :=
  (∀ (k0_h2 : k0_cond2 i v1 = 1#1), ∀ (k0_h5 : k0_cond5 v29 = 1#1), 8 ∣ (k0_mult127 v563).toNat) ∧
  (∀ (k0_h2 : k0_cond2 i v1 = 1#1), ∀ (k0_h5 : k0_cond5 v29 = 1#1), ∀ a, (k0_off273 v563) a + S8x1024.size a ≤ S102400x1024.size a)
theorem k0_mult127_dvd : ∀ (i : grid0.Coords) (v1 : BitVec 32) (v29 : BitVec 32) (v563 : BitVec 32) (k0_hw131 : k0_chk131 i v1 v29 v563), ∀ (k0_h2 : k0_cond2 i v1 = 1#1), ∀ (k0_h5 : k0_cond5 v29 = 1#1), 8 ∣ (k0_mult127 v563).toNat := fun i v1 v29 v563 k0_hw131 k0_h2 k0_h5 => k0_hw131.1 k0_h2 k0_h5
theorem k0_off273_inb : ∀ (i : grid0.Coords) (v1 : BitVec 32) (v29 : BitVec 32) (v563 : BitVec 32) (k0_hw131 : k0_chk131 i v1 v29 v563), ∀ (k0_h2 : k0_cond2 i v1 = 1#1), ∀ (k0_h5 : k0_cond5 v29 = 1#1), ∀ a, (k0_off273 v563) a + S8x1024.size a ≤ S102400x1024.size a := fun i v1 v29 v563 k0_hw131 k0_h2 k0_h5 => k0_hw131.2 k0_h2 k0_h5

def k0_mult128 (v571 : BitVec 32) : BitVec 32 :=
  let c8_i32_352 : BitVec 32 := 8#32
  let v572 : BitVec 32 := Scalar.muli v571 c8_i32_352
  v572

def k0_off274 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off275 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c504_i32 : BitVec 32 := 504#32
  let c0_i32_353 : BitVec 32 := 0#32
  ![v66.toNat, 504, 0]
def k0_off276 (v571 : BitVec 32) : Fin 2 → Nat :=
  let c8_i32_352 : BitVec 32 := 8#32
  let v572 : BitVec 32 := Scalar.muli v571 c8_i32_352
  let v573 : BitVec 32 := v572
  let c0_i32_354 : BitVec 32 := 0#32
  ![v573.toNat, 0]

def k0_chk132 (i : grid0.Coords) (v1 : BitVec 32) (v29 : BitVec 32) (v571 : BitVec 32) : Prop :=
  (∀ (k0_h2 : k0_cond2 i v1 = 1#1), ∀ (k0_h5 : k0_cond5 v29 = 1#1), 8 ∣ (k0_mult128 v571).toNat) ∧
  (∀ (k0_h2 : k0_cond2 i v1 = 1#1), ∀ (k0_h5 : k0_cond5 v29 = 1#1), ∀ a, (k0_off276 v571) a + S8x1024.size a ≤ S102400x1024.size a)
theorem k0_mult128_dvd : ∀ (i : grid0.Coords) (v1 : BitVec 32) (v29 : BitVec 32) (v571 : BitVec 32) (k0_hw132 : k0_chk132 i v1 v29 v571), ∀ (k0_h2 : k0_cond2 i v1 = 1#1), ∀ (k0_h5 : k0_cond5 v29 = 1#1), 8 ∣ (k0_mult128 v571).toNat := fun i v1 v29 v571 k0_hw132 k0_h2 k0_h5 => k0_hw132.1 k0_h2 k0_h5
theorem k0_off276_inb : ∀ (i : grid0.Coords) (v1 : BitVec 32) (v29 : BitVec 32) (v571 : BitVec 32) (k0_hw132 : k0_chk132 i v1 v29 v571), ∀ (k0_h2 : k0_cond2 i v1 = 1#1), ∀ (k0_h5 : k0_cond5 v29 = 1#1), ∀ a, (k0_off276 v571) a + S8x1024.size a ≤ S102400x1024.size a := fun i v1 v29 v571 k0_hw132 k0_h2 k0_h5 => k0_hw132.2 k0_h2 k0_h5

def k0_off277 (i : grid0.Coords) : Fin 3 → Nat :=
  let arg0 : BitVec 32 := BitVec.ofNat 32 (i 0).val
  let c1_i32 : BitVec 32 := 1#32
  let v0 : BitVec 32 := Scalar.andi arg0 c1_i32
  let v579 : Index := Scalar.indexCast v0
  let c0_355 : Index := 0#32
  let c0_356 : Index := 0#32
  ![v579.toNat, 0, 0]
def k0_cond6 (i : grid0.Coords) : BitVec 1 :=
  let arg0 : BitVec 32 := BitVec.ofNat 32 (i 0).val
  let c2_i32 : BitVec 32 := 2#32
  let v611 : BitVec 1 := Scalar.cmpi .sge arg0 c2_i32
  let v612 : BitVec 32 := Scalar.extui v611
  let c0_i32_373 : BitVec 32 := 0#32
  let v613 : BitVec 1 := Scalar.cmpi .ne v612 c0_i32_373
  v613

def k0_off278 (i : grid0.Coords) : Fin 1 → Nat :=
  let arg0 : BitVec 32 := BitVec.ofNat 32 (i 0).val
  let c2_i32_376 : BitVec 32 := 2#32
  let v618 : BitVec 32 := Scalar.subi arg0 c2_i32_376
  let c0_i32_377 : BitVec 32 := 0#32
  let v619 : BitVec 32 := Scalar.maxsi v618 c0_i32_377
  let v620 : Index := Scalar.indexCast v619
  ![v620.toNat]
def k0_mult129 (v621 : BitVec 32) : BitVec 32 :=
  let c8_i32_378 : BitVec 32 := 8#32
  let v622 : BitVec 32 := Scalar.muli v621 c8_i32_378
  v622

def k0_off279 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off280 (v621 : BitVec 32) : (Fin 2 → Nat) × (Fin 2 → Nat) :=
  let c0_i32_379 : BitVec 32 := 0#32
  let c0_i32_380 : BitVec 32 := 0#32
  let c8_i32_378 : BitVec 32 := 8#32
  let v622 : BitVec 32 := Scalar.muli v621 c8_i32_378
  let v623 : BitVec 32 := v622
  ⟨![0, 0], ![v623.toNat, 1024]⟩

def k0_off281 (i : grid0.Coords) (v621 : BitVec 32) : (Fin 3 → Nat) × (Fin 3 → Nat) :=
  let arg0 : BitVec 32 := BitVec.ofNat 32 (i 0).val
  let c1_i32 : BitVec 32 := 1#32
  let v0 : BitVec 32 := Scalar.andi arg0 c1_i32
  let c0_i32_381 : BitVec 32 := 0#32
  let c0_i32_382 : BitVec 32 := 0#32
  let c8_i32_378 : BitVec 32 := 8#32
  let v622 : BitVec 32 := Scalar.muli v621 c8_i32_378
  let v623 : BitVec 32 := v622
  ⟨![v0.toNat, 0, 0], ![1, v623.toNat, 1024]⟩

def k0_sz1 (v621 : BitVec 32) : Fin 2 → Nat :=
  let c8_i32_378 : BitVec 32 := 8#32
  let v622 : BitVec 32 := Scalar.muli v621 c8_i32_378
  let v623 : BitVec 32 := v622
  ![v623.toNat, 1024]

def k0_chk133 (i : grid0.Coords) (v1 : BitVec 32) (v29 : BitVec 32) (v621 : BitVec 32) : Prop :=
  (∀ (k0_h2 : k0_cond2 i v1 = 1#1), ∀ (k0_h5 : k0_cond5 v29 = 1#1), ∀ (k0_h6 : k0_cond6 i = 1#1), 8 ∣ (k0_mult129 v621).toNat) ∧
  (∀ (k0_h2 : k0_cond2 i v1 = 1#1), ∀ (k0_h5 : k0_cond5 v29 = 1#1), ∀ (k0_h6 : k0_cond6 i = 1#1), (⟨3, (k0_off281 i v621).2⟩ : Shape).Squeezes ⟨2, k0_sz1 v621⟩)
theorem k0_mult129_dvd : ∀ (i : grid0.Coords) (v1 : BitVec 32) (v29 : BitVec 32) (v621 : BitVec 32) (k0_hw133 : k0_chk133 i v1 v29 v621), ∀ (k0_h2 : k0_cond2 i v1 = 1#1), ∀ (k0_h5 : k0_cond5 v29 = 1#1), ∀ (k0_h6 : k0_cond6 i = 1#1), 8 ∣ (k0_mult129 v621).toNat := fun i v1 v29 v621 k0_hw133 k0_h2 k0_h5 k0_h6 => k0_hw133.1 k0_h2 k0_h5 k0_h6
theorem k0_sz1_squeezes : ∀ (i : grid0.Coords) (v1 : BitVec 32) (v29 : BitVec 32) (v621 : BitVec 32) (k0_hw133 : k0_chk133 i v1 v29 v621), ∀ (k0_h2 : k0_cond2 i v1 = 1#1), ∀ (k0_h5 : k0_cond5 v29 = 1#1), ∀ (k0_h6 : k0_cond6 i = 1#1), (⟨3, (k0_off281 i v621).2⟩ : Shape).Squeezes ⟨2, k0_sz1 v621⟩ := fun i v1 v29 v621 k0_hw133 k0_h2 k0_h5 k0_h6 => k0_hw133.2 k0_h2 k0_h5 k0_h6

def k0_off282 (i : grid0.Coords) : Fin 1 → Nat :=
  let arg0 : BitVec 32 := BitVec.ofNat 32 (i 0).val
  let v33 : Index := Scalar.indexCast arg0
  ![v33.toNat]
def k0_mult130 (v67 : BitVec 32) : BitVec 32 :=
  let c8_i32_29 : BitVec 32 := 8#32
  let v68 : BitVec 32 := Scalar.muli v67 c8_i32_29
  v68
def k0_cond7 (v34 : BitVec 32) : BitVec 1 :=
  let c0_i32_12 : BitVec 32 := 0#32
  let v35 : BitVec 1 := Scalar.cmpi .eq v34 c0_i32_12
  let v36 : BitVec 32 := Scalar.extui v35
  let c0_i32_13 : BitVec 32 := 0#32
  let v37 : BitVec 1 := Scalar.cmpi .ne v36 c0_i32_13
  v37

def k0_off283 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off284 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c0_i32_30 : BitVec 32 := 0#32
  let c0_i32_31 : BitVec 32 := 0#32
  ![v66.toNat, 0, 0]
def k0_off285 (v67 : BitVec 32) : Fin 2 → Nat :=
  let c8_i32_29 : BitVec 32 := 8#32
  let v68 : BitVec 32 := Scalar.muli v67 c8_i32_29
  let v69 : BitVec 32 := v68
  let c0_i32_32 : BitVec 32 := 0#32
  ![v69.toNat, 0]

def k0_chk134 (i : grid0.Coords) (v1 : BitVec 32) (v34 : BitVec 32) (v67 : BitVec 32) : Prop :=
  (∀ (k0_h2 : k0_cond2 i v1 = 1#1), ∀ (k0_h7 : k0_cond7 v34 = 1#1), 8 ∣ (k0_mult130 v67).toNat) ∧
  (∀ (k0_h2 : k0_cond2 i v1 = 1#1), ∀ (k0_h7 : k0_cond7 v34 = 1#1), ∀ a, (k0_off285 v67) a + S8x1024.size a ≤ S102400x1024.size a)
theorem k0_mult130_dvd : ∀ (i : grid0.Coords) (v1 : BitVec 32) (v34 : BitVec 32) (v67 : BitVec 32) (k0_hw134 : k0_chk134 i v1 v34 v67), ∀ (k0_h2 : k0_cond2 i v1 = 1#1), ∀ (k0_h7 : k0_cond7 v34 = 1#1), 8 ∣ (k0_mult130 v67).toNat := fun i v1 v34 v67 k0_hw134 k0_h2 k0_h7 => k0_hw134.1 k0_h2 k0_h7
theorem k0_off285_inb : ∀ (i : grid0.Coords) (v1 : BitVec 32) (v34 : BitVec 32) (v67 : BitVec 32) (k0_hw134 : k0_chk134 i v1 v34 v67), ∀ (k0_h2 : k0_cond2 i v1 = 1#1), ∀ (k0_h7 : k0_cond7 v34 = 1#1), ∀ a, (k0_off285 v67) a + S8x1024.size a ≤ S102400x1024.size a := fun i v1 v34 v67 k0_hw134 k0_h2 k0_h7 => k0_hw134.2 k0_h2 k0_h7

def k0_mult131 (v75 : BitVec 32) : BitVec 32 :=
  let c8_i32_35 : BitVec 32 := 8#32
  let v76 : BitVec 32 := Scalar.muli v75 c8_i32_35
  v76

def k0_off286 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off287 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c8_i32_36 : BitVec 32 := 8#32
  let c0_i32_37 : BitVec 32 := 0#32
  ![v66.toNat, 8, 0]
def k0_off288 (v75 : BitVec 32) : Fin 2 → Nat :=
  let c8_i32_35 : BitVec 32 := 8#32
  let v76 : BitVec 32 := Scalar.muli v75 c8_i32_35
  let v77 : BitVec 32 := v76
  let c0_i32_38 : BitVec 32 := 0#32
  ![v77.toNat, 0]

def k0_chk135 (i : grid0.Coords) (v1 : BitVec 32) (v34 : BitVec 32) (v75 : BitVec 32) : Prop :=
  (∀ (k0_h2 : k0_cond2 i v1 = 1#1), ∀ (k0_h7 : k0_cond7 v34 = 1#1), 8 ∣ (k0_mult131 v75).toNat) ∧
  (∀ (k0_h2 : k0_cond2 i v1 = 1#1), ∀ (k0_h7 : k0_cond7 v34 = 1#1), ∀ a, (k0_off288 v75) a + S8x1024.size a ≤ S102400x1024.size a)
theorem k0_mult131_dvd : ∀ (i : grid0.Coords) (v1 : BitVec 32) (v34 : BitVec 32) (v75 : BitVec 32) (k0_hw135 : k0_chk135 i v1 v34 v75), ∀ (k0_h2 : k0_cond2 i v1 = 1#1), ∀ (k0_h7 : k0_cond7 v34 = 1#1), 8 ∣ (k0_mult131 v75).toNat := fun i v1 v34 v75 k0_hw135 k0_h2 k0_h7 => k0_hw135.1 k0_h2 k0_h7
theorem k0_off288_inb : ∀ (i : grid0.Coords) (v1 : BitVec 32) (v34 : BitVec 32) (v75 : BitVec 32) (k0_hw135 : k0_chk135 i v1 v34 v75), ∀ (k0_h2 : k0_cond2 i v1 = 1#1), ∀ (k0_h7 : k0_cond7 v34 = 1#1), ∀ a, (k0_off288 v75) a + S8x1024.size a ≤ S102400x1024.size a := fun i v1 v34 v75 k0_hw135 k0_h2 k0_h7 => k0_hw135.2 k0_h2 k0_h7

def k0_mult132 (v83 : BitVec 32) : BitVec 32 :=
  let c8_i32_41 : BitVec 32 := 8#32
  let v84 : BitVec 32 := Scalar.muli v83 c8_i32_41
  v84

def k0_off289 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off290 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c16_i32_42 : BitVec 32 := 16#32
  let c0_i32_43 : BitVec 32 := 0#32
  ![v66.toNat, 16, 0]
def k0_off291 (v83 : BitVec 32) : Fin 2 → Nat :=
  let c8_i32_41 : BitVec 32 := 8#32
  let v84 : BitVec 32 := Scalar.muli v83 c8_i32_41
  let v85 : BitVec 32 := v84
  let c0_i32_44 : BitVec 32 := 0#32
  ![v85.toNat, 0]

def k0_chk136 (i : grid0.Coords) (v1 : BitVec 32) (v34 : BitVec 32) (v83 : BitVec 32) : Prop :=
  (∀ (k0_h2 : k0_cond2 i v1 = 1#1), ∀ (k0_h7 : k0_cond7 v34 = 1#1), 8 ∣ (k0_mult132 v83).toNat) ∧
  (∀ (k0_h2 : k0_cond2 i v1 = 1#1), ∀ (k0_h7 : k0_cond7 v34 = 1#1), ∀ a, (k0_off291 v83) a + S8x1024.size a ≤ S102400x1024.size a)
theorem k0_mult132_dvd : ∀ (i : grid0.Coords) (v1 : BitVec 32) (v34 : BitVec 32) (v83 : BitVec 32) (k0_hw136 : k0_chk136 i v1 v34 v83), ∀ (k0_h2 : k0_cond2 i v1 = 1#1), ∀ (k0_h7 : k0_cond7 v34 = 1#1), 8 ∣ (k0_mult132 v83).toNat := fun i v1 v34 v83 k0_hw136 k0_h2 k0_h7 => k0_hw136.1 k0_h2 k0_h7
theorem k0_off291_inb : ∀ (i : grid0.Coords) (v1 : BitVec 32) (v34 : BitVec 32) (v83 : BitVec 32) (k0_hw136 : k0_chk136 i v1 v34 v83), ∀ (k0_h2 : k0_cond2 i v1 = 1#1), ∀ (k0_h7 : k0_cond7 v34 = 1#1), ∀ a, (k0_off291 v83) a + S8x1024.size a ≤ S102400x1024.size a := fun i v1 v34 v83 k0_hw136 k0_h2 k0_h7 => k0_hw136.2 k0_h2 k0_h7

def k0_mult133 (v91 : BitVec 32) : BitVec 32 :=
  let c8_i32_47 : BitVec 32 := 8#32
  let v92 : BitVec 32 := Scalar.muli v91 c8_i32_47
  v92

def k0_off292 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off293 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c24_i32_48 : BitVec 32 := 24#32
  let c0_i32_49 : BitVec 32 := 0#32
  ![v66.toNat, 24, 0]
def k0_off294 (v91 : BitVec 32) : Fin 2 → Nat :=
  let c8_i32_47 : BitVec 32 := 8#32
  let v92 : BitVec 32 := Scalar.muli v91 c8_i32_47
  let v93 : BitVec 32 := v92
  let c0_i32_50 : BitVec 32 := 0#32
  ![v93.toNat, 0]

def k0_chk137 (i : grid0.Coords) (v1 : BitVec 32) (v34 : BitVec 32) (v91 : BitVec 32) : Prop :=
  (∀ (k0_h2 : k0_cond2 i v1 = 1#1), ∀ (k0_h7 : k0_cond7 v34 = 1#1), 8 ∣ (k0_mult133 v91).toNat) ∧
  (∀ (k0_h2 : k0_cond2 i v1 = 1#1), ∀ (k0_h7 : k0_cond7 v34 = 1#1), ∀ a, (k0_off294 v91) a + S8x1024.size a ≤ S102400x1024.size a)
theorem k0_mult133_dvd : ∀ (i : grid0.Coords) (v1 : BitVec 32) (v34 : BitVec 32) (v91 : BitVec 32) (k0_hw137 : k0_chk137 i v1 v34 v91), ∀ (k0_h2 : k0_cond2 i v1 = 1#1), ∀ (k0_h7 : k0_cond7 v34 = 1#1), 8 ∣ (k0_mult133 v91).toNat := fun i v1 v34 v91 k0_hw137 k0_h2 k0_h7 => k0_hw137.1 k0_h2 k0_h7
theorem k0_off294_inb : ∀ (i : grid0.Coords) (v1 : BitVec 32) (v34 : BitVec 32) (v91 : BitVec 32) (k0_hw137 : k0_chk137 i v1 v34 v91), ∀ (k0_h2 : k0_cond2 i v1 = 1#1), ∀ (k0_h7 : k0_cond7 v34 = 1#1), ∀ a, (k0_off294 v91) a + S8x1024.size a ≤ S102400x1024.size a := fun i v1 v34 v91 k0_hw137 k0_h2 k0_h7 => k0_hw137.2 k0_h2 k0_h7

def k0_mult134 (v99 : BitVec 32) : BitVec 32 :=
  let c8_i32_53 : BitVec 32 := 8#32
  let v100 : BitVec 32 := Scalar.muli v99 c8_i32_53
  v100

def k0_off295 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off296 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c32_i32_54 : BitVec 32 := 32#32
  let c0_i32_55 : BitVec 32 := 0#32
  ![v66.toNat, 32, 0]
def k0_off297 (v99 : BitVec 32) : Fin 2 → Nat :=
  let c8_i32_53 : BitVec 32 := 8#32
  let v100 : BitVec 32 := Scalar.muli v99 c8_i32_53
  let v101 : BitVec 32 := v100
  let c0_i32_56 : BitVec 32 := 0#32
  ![v101.toNat, 0]

def k0_chk138 (i : grid0.Coords) (v1 : BitVec 32) (v34 : BitVec 32) (v99 : BitVec 32) : Prop :=
  (∀ (k0_h2 : k0_cond2 i v1 = 1#1), ∀ (k0_h7 : k0_cond7 v34 = 1#1), 8 ∣ (k0_mult134 v99).toNat) ∧
  (∀ (k0_h2 : k0_cond2 i v1 = 1#1), ∀ (k0_h7 : k0_cond7 v34 = 1#1), ∀ a, (k0_off297 v99) a + S8x1024.size a ≤ S102400x1024.size a)
theorem k0_mult134_dvd : ∀ (i : grid0.Coords) (v1 : BitVec 32) (v34 : BitVec 32) (v99 : BitVec 32) (k0_hw138 : k0_chk138 i v1 v34 v99), ∀ (k0_h2 : k0_cond2 i v1 = 1#1), ∀ (k0_h7 : k0_cond7 v34 = 1#1), 8 ∣ (k0_mult134 v99).toNat := fun i v1 v34 v99 k0_hw138 k0_h2 k0_h7 => k0_hw138.1 k0_h2 k0_h7
theorem k0_off297_inb : ∀ (i : grid0.Coords) (v1 : BitVec 32) (v34 : BitVec 32) (v99 : BitVec 32) (k0_hw138 : k0_chk138 i v1 v34 v99), ∀ (k0_h2 : k0_cond2 i v1 = 1#1), ∀ (k0_h7 : k0_cond7 v34 = 1#1), ∀ a, (k0_off297 v99) a + S8x1024.size a ≤ S102400x1024.size a := fun i v1 v34 v99 k0_hw138 k0_h2 k0_h7 => k0_hw138.2 k0_h2 k0_h7

def k0_mult135 (v107 : BitVec 32) : BitVec 32 :=
  let c8_i32_59 : BitVec 32 := 8#32
  let v108 : BitVec 32 := Scalar.muli v107 c8_i32_59
  v108

def k0_off298 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off299 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c40_i32_60 : BitVec 32 := 40#32
  let c0_i32_61 : BitVec 32 := 0#32
  ![v66.toNat, 40, 0]
def k0_off300 (v107 : BitVec 32) : Fin 2 → Nat :=
  let c8_i32_59 : BitVec 32 := 8#32
  let v108 : BitVec 32 := Scalar.muli v107 c8_i32_59
  let v109 : BitVec 32 := v108
  let c0_i32_62 : BitVec 32 := 0#32
  ![v109.toNat, 0]

def k0_chk139 (i : grid0.Coords) (v1 : BitVec 32) (v34 : BitVec 32) (v107 : BitVec 32) : Prop :=
  (∀ (k0_h2 : k0_cond2 i v1 = 1#1), ∀ (k0_h7 : k0_cond7 v34 = 1#1), 8 ∣ (k0_mult135 v107).toNat) ∧
  (∀ (k0_h2 : k0_cond2 i v1 = 1#1), ∀ (k0_h7 : k0_cond7 v34 = 1#1), ∀ a, (k0_off300 v107) a + S8x1024.size a ≤ S102400x1024.size a)
theorem k0_mult135_dvd : ∀ (i : grid0.Coords) (v1 : BitVec 32) (v34 : BitVec 32) (v107 : BitVec 32) (k0_hw139 : k0_chk139 i v1 v34 v107), ∀ (k0_h2 : k0_cond2 i v1 = 1#1), ∀ (k0_h7 : k0_cond7 v34 = 1#1), 8 ∣ (k0_mult135 v107).toNat := fun i v1 v34 v107 k0_hw139 k0_h2 k0_h7 => k0_hw139.1 k0_h2 k0_h7
theorem k0_off300_inb : ∀ (i : grid0.Coords) (v1 : BitVec 32) (v34 : BitVec 32) (v107 : BitVec 32) (k0_hw139 : k0_chk139 i v1 v34 v107), ∀ (k0_h2 : k0_cond2 i v1 = 1#1), ∀ (k0_h7 : k0_cond7 v34 = 1#1), ∀ a, (k0_off300 v107) a + S8x1024.size a ≤ S102400x1024.size a := fun i v1 v34 v107 k0_hw139 k0_h2 k0_h7 => k0_hw139.2 k0_h2 k0_h7

def k0_mult136 (v115 : BitVec 32) : BitVec 32 :=
  let c8_i32_65 : BitVec 32 := 8#32
  let v116 : BitVec 32 := Scalar.muli v115 c8_i32_65
  v116

def k0_off301 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off302 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c48_i32_66 : BitVec 32 := 48#32
  let c0_i32_67 : BitVec 32 := 0#32
  ![v66.toNat, 48, 0]
def k0_off303 (v115 : BitVec 32) : Fin 2 → Nat :=
  let c8_i32_65 : BitVec 32 := 8#32
  let v116 : BitVec 32 := Scalar.muli v115 c8_i32_65
  let v117 : BitVec 32 := v116
  let c0_i32_68 : BitVec 32 := 0#32
  ![v117.toNat, 0]

def k0_chk140 (i : grid0.Coords) (v1 : BitVec 32) (v34 : BitVec 32) (v115 : BitVec 32) : Prop :=
  (∀ (k0_h2 : k0_cond2 i v1 = 1#1), ∀ (k0_h7 : k0_cond7 v34 = 1#1), 8 ∣ (k0_mult136 v115).toNat) ∧
  (∀ (k0_h2 : k0_cond2 i v1 = 1#1), ∀ (k0_h7 : k0_cond7 v34 = 1#1), ∀ a, (k0_off303 v115) a + S8x1024.size a ≤ S102400x1024.size a)
theorem k0_mult136_dvd : ∀ (i : grid0.Coords) (v1 : BitVec 32) (v34 : BitVec 32) (v115 : BitVec 32) (k0_hw140 : k0_chk140 i v1 v34 v115), ∀ (k0_h2 : k0_cond2 i v1 = 1#1), ∀ (k0_h7 : k0_cond7 v34 = 1#1), 8 ∣ (k0_mult136 v115).toNat := fun i v1 v34 v115 k0_hw140 k0_h2 k0_h7 => k0_hw140.1 k0_h2 k0_h7
theorem k0_off303_inb : ∀ (i : grid0.Coords) (v1 : BitVec 32) (v34 : BitVec 32) (v115 : BitVec 32) (k0_hw140 : k0_chk140 i v1 v34 v115), ∀ (k0_h2 : k0_cond2 i v1 = 1#1), ∀ (k0_h7 : k0_cond7 v34 = 1#1), ∀ a, (k0_off303 v115) a + S8x1024.size a ≤ S102400x1024.size a := fun i v1 v34 v115 k0_hw140 k0_h2 k0_h7 => k0_hw140.2 k0_h2 k0_h7

def k0_mult137 (v123 : BitVec 32) : BitVec 32 :=
  let c8_i32_71 : BitVec 32 := 8#32
  let v124 : BitVec 32 := Scalar.muli v123 c8_i32_71
  v124

def k0_off304 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off305 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c56_i32_72 : BitVec 32 := 56#32
  let c0_i32_73 : BitVec 32 := 0#32
  ![v66.toNat, 56, 0]
def k0_off306 (v123 : BitVec 32) : Fin 2 → Nat :=
  let c8_i32_71 : BitVec 32 := 8#32
  let v124 : BitVec 32 := Scalar.muli v123 c8_i32_71
  let v125 : BitVec 32 := v124
  let c0_i32_74 : BitVec 32 := 0#32
  ![v125.toNat, 0]

def k0_chk141 (i : grid0.Coords) (v1 : BitVec 32) (v34 : BitVec 32) (v123 : BitVec 32) : Prop :=
  (∀ (k0_h2 : k0_cond2 i v1 = 1#1), ∀ (k0_h7 : k0_cond7 v34 = 1#1), 8 ∣ (k0_mult137 v123).toNat) ∧
  (∀ (k0_h2 : k0_cond2 i v1 = 1#1), ∀ (k0_h7 : k0_cond7 v34 = 1#1), ∀ a, (k0_off306 v123) a + S8x1024.size a ≤ S102400x1024.size a)
theorem k0_mult137_dvd : ∀ (i : grid0.Coords) (v1 : BitVec 32) (v34 : BitVec 32) (v123 : BitVec 32) (k0_hw141 : k0_chk141 i v1 v34 v123), ∀ (k0_h2 : k0_cond2 i v1 = 1#1), ∀ (k0_h7 : k0_cond7 v34 = 1#1), 8 ∣ (k0_mult137 v123).toNat := fun i v1 v34 v123 k0_hw141 k0_h2 k0_h7 => k0_hw141.1 k0_h2 k0_h7
theorem k0_off306_inb : ∀ (i : grid0.Coords) (v1 : BitVec 32) (v34 : BitVec 32) (v123 : BitVec 32) (k0_hw141 : k0_chk141 i v1 v34 v123), ∀ (k0_h2 : k0_cond2 i v1 = 1#1), ∀ (k0_h7 : k0_cond7 v34 = 1#1), ∀ a, (k0_off306 v123) a + S8x1024.size a ≤ S102400x1024.size a := fun i v1 v34 v123 k0_hw141 k0_h2 k0_h7 => k0_hw141.2 k0_h2 k0_h7

def k0_mult138 (v131 : BitVec 32) : BitVec 32 :=
  let c8_i32_77 : BitVec 32 := 8#32
  let v132 : BitVec 32 := Scalar.muli v131 c8_i32_77
  v132

def k0_off307 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off308 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c64_i32 : BitVec 32 := 64#32
  let c0_i32_78 : BitVec 32 := 0#32
  ![v66.toNat, 64, 0]
def k0_off309 (v131 : BitVec 32) : Fin 2 → Nat :=
  let c8_i32_77 : BitVec 32 := 8#32
  let v132 : BitVec 32 := Scalar.muli v131 c8_i32_77
  let v133 : BitVec 32 := v132
  let c0_i32_79 : BitVec 32 := 0#32
  ![v133.toNat, 0]

def k0_chk142 (i : grid0.Coords) (v1 : BitVec 32) (v34 : BitVec 32) (v131 : BitVec 32) : Prop :=
  (∀ (k0_h2 : k0_cond2 i v1 = 1#1), ∀ (k0_h7 : k0_cond7 v34 = 1#1), 8 ∣ (k0_mult138 v131).toNat) ∧
  (∀ (k0_h2 : k0_cond2 i v1 = 1#1), ∀ (k0_h7 : k0_cond7 v34 = 1#1), ∀ a, (k0_off309 v131) a + S8x1024.size a ≤ S102400x1024.size a)
theorem k0_mult138_dvd : ∀ (i : grid0.Coords) (v1 : BitVec 32) (v34 : BitVec 32) (v131 : BitVec 32) (k0_hw142 : k0_chk142 i v1 v34 v131), ∀ (k0_h2 : k0_cond2 i v1 = 1#1), ∀ (k0_h7 : k0_cond7 v34 = 1#1), 8 ∣ (k0_mult138 v131).toNat := fun i v1 v34 v131 k0_hw142 k0_h2 k0_h7 => k0_hw142.1 k0_h2 k0_h7
theorem k0_off309_inb : ∀ (i : grid0.Coords) (v1 : BitVec 32) (v34 : BitVec 32) (v131 : BitVec 32) (k0_hw142 : k0_chk142 i v1 v34 v131), ∀ (k0_h2 : k0_cond2 i v1 = 1#1), ∀ (k0_h7 : k0_cond7 v34 = 1#1), ∀ a, (k0_off309 v131) a + S8x1024.size a ≤ S102400x1024.size a := fun i v1 v34 v131 k0_hw142 k0_h2 k0_h7 => k0_hw142.2 k0_h2 k0_h7

def k0_mult139 (v139 : BitVec 32) : BitVec 32 :=
  let c8_i32_82 : BitVec 32 := 8#32
  let v140 : BitVec 32 := Scalar.muli v139 c8_i32_82
  v140

def k0_off310 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off311 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c72_i32 : BitVec 32 := 72#32
  let c0_i32_83 : BitVec 32 := 0#32
  ![v66.toNat, 72, 0]
def k0_off312 (v139 : BitVec 32) : Fin 2 → Nat :=
  let c8_i32_82 : BitVec 32 := 8#32
  let v140 : BitVec 32 := Scalar.muli v139 c8_i32_82
  let v141 : BitVec 32 := v140
  let c0_i32_84 : BitVec 32 := 0#32
  ![v141.toNat, 0]

def k0_chk143 (i : grid0.Coords) (v1 : BitVec 32) (v34 : BitVec 32) (v139 : BitVec 32) : Prop :=
  (∀ (k0_h2 : k0_cond2 i v1 = 1#1), ∀ (k0_h7 : k0_cond7 v34 = 1#1), 8 ∣ (k0_mult139 v139).toNat) ∧
  (∀ (k0_h2 : k0_cond2 i v1 = 1#1), ∀ (k0_h7 : k0_cond7 v34 = 1#1), ∀ a, (k0_off312 v139) a + S8x1024.size a ≤ S102400x1024.size a)
theorem k0_mult139_dvd : ∀ (i : grid0.Coords) (v1 : BitVec 32) (v34 : BitVec 32) (v139 : BitVec 32) (k0_hw143 : k0_chk143 i v1 v34 v139), ∀ (k0_h2 : k0_cond2 i v1 = 1#1), ∀ (k0_h7 : k0_cond7 v34 = 1#1), 8 ∣ (k0_mult139 v139).toNat := fun i v1 v34 v139 k0_hw143 k0_h2 k0_h7 => k0_hw143.1 k0_h2 k0_h7
theorem k0_off312_inb : ∀ (i : grid0.Coords) (v1 : BitVec 32) (v34 : BitVec 32) (v139 : BitVec 32) (k0_hw143 : k0_chk143 i v1 v34 v139), ∀ (k0_h2 : k0_cond2 i v1 = 1#1), ∀ (k0_h7 : k0_cond7 v34 = 1#1), ∀ a, (k0_off312 v139) a + S8x1024.size a ≤ S102400x1024.size a := fun i v1 v34 v139 k0_hw143 k0_h2 k0_h7 => k0_hw143.2 k0_h2 k0_h7

def k0_mult140 (v147 : BitVec 32) : BitVec 32 :=
  let c8_i32_87 : BitVec 32 := 8#32
  let v148 : BitVec 32 := Scalar.muli v147 c8_i32_87
  v148

def k0_off313 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off314 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c80_i32 : BitVec 32 := 80#32
  let c0_i32_88 : BitVec 32 := 0#32
  ![v66.toNat, 80, 0]
def k0_off315 (v147 : BitVec 32) : Fin 2 → Nat :=
  let c8_i32_87 : BitVec 32 := 8#32
  let v148 : BitVec 32 := Scalar.muli v147 c8_i32_87
  let v149 : BitVec 32 := v148
  let c0_i32_89 : BitVec 32 := 0#32
  ![v149.toNat, 0]

def k0_chk144 (i : grid0.Coords) (v1 : BitVec 32) (v34 : BitVec 32) (v147 : BitVec 32) : Prop :=
  (∀ (k0_h2 : k0_cond2 i v1 = 1#1), ∀ (k0_h7 : k0_cond7 v34 = 1#1), 8 ∣ (k0_mult140 v147).toNat) ∧
  (∀ (k0_h2 : k0_cond2 i v1 = 1#1), ∀ (k0_h7 : k0_cond7 v34 = 1#1), ∀ a, (k0_off315 v147) a + S8x1024.size a ≤ S102400x1024.size a)
theorem k0_mult140_dvd : ∀ (i : grid0.Coords) (v1 : BitVec 32) (v34 : BitVec 32) (v147 : BitVec 32) (k0_hw144 : k0_chk144 i v1 v34 v147), ∀ (k0_h2 : k0_cond2 i v1 = 1#1), ∀ (k0_h7 : k0_cond7 v34 = 1#1), 8 ∣ (k0_mult140 v147).toNat := fun i v1 v34 v147 k0_hw144 k0_h2 k0_h7 => k0_hw144.1 k0_h2 k0_h7
theorem k0_off315_inb : ∀ (i : grid0.Coords) (v1 : BitVec 32) (v34 : BitVec 32) (v147 : BitVec 32) (k0_hw144 : k0_chk144 i v1 v34 v147), ∀ (k0_h2 : k0_cond2 i v1 = 1#1), ∀ (k0_h7 : k0_cond7 v34 = 1#1), ∀ a, (k0_off315 v147) a + S8x1024.size a ≤ S102400x1024.size a := fun i v1 v34 v147 k0_hw144 k0_h2 k0_h7 => k0_hw144.2 k0_h2 k0_h7

def k0_mult141 (v155 : BitVec 32) : BitVec 32 :=
  let c8_i32_92 : BitVec 32 := 8#32
  let v156 : BitVec 32 := Scalar.muli v155 c8_i32_92
  v156

def k0_off316 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off317 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c88_i32 : BitVec 32 := 88#32
  let c0_i32_93 : BitVec 32 := 0#32
  ![v66.toNat, 88, 0]
def k0_off318 (v155 : BitVec 32) : Fin 2 → Nat :=
  let c8_i32_92 : BitVec 32 := 8#32
  let v156 : BitVec 32 := Scalar.muli v155 c8_i32_92
  let v157 : BitVec 32 := v156
  let c0_i32_94 : BitVec 32 := 0#32
  ![v157.toNat, 0]

def k0_chk145 (i : grid0.Coords) (v1 : BitVec 32) (v34 : BitVec 32) (v155 : BitVec 32) : Prop :=
  (∀ (k0_h2 : k0_cond2 i v1 = 1#1), ∀ (k0_h7 : k0_cond7 v34 = 1#1), 8 ∣ (k0_mult141 v155).toNat) ∧
  (∀ (k0_h2 : k0_cond2 i v1 = 1#1), ∀ (k0_h7 : k0_cond7 v34 = 1#1), ∀ a, (k0_off318 v155) a + S8x1024.size a ≤ S102400x1024.size a)
theorem k0_mult141_dvd : ∀ (i : grid0.Coords) (v1 : BitVec 32) (v34 : BitVec 32) (v155 : BitVec 32) (k0_hw145 : k0_chk145 i v1 v34 v155), ∀ (k0_h2 : k0_cond2 i v1 = 1#1), ∀ (k0_h7 : k0_cond7 v34 = 1#1), 8 ∣ (k0_mult141 v155).toNat := fun i v1 v34 v155 k0_hw145 k0_h2 k0_h7 => k0_hw145.1 k0_h2 k0_h7
theorem k0_off318_inb : ∀ (i : grid0.Coords) (v1 : BitVec 32) (v34 : BitVec 32) (v155 : BitVec 32) (k0_hw145 : k0_chk145 i v1 v34 v155), ∀ (k0_h2 : k0_cond2 i v1 = 1#1), ∀ (k0_h7 : k0_cond7 v34 = 1#1), ∀ a, (k0_off318 v155) a + S8x1024.size a ≤ S102400x1024.size a := fun i v1 v34 v155 k0_hw145 k0_h2 k0_h7 => k0_hw145.2 k0_h2 k0_h7

def k0_mult142 (v163 : BitVec 32) : BitVec 32 :=
  let c8_i32_97 : BitVec 32 := 8#32
  let v164 : BitVec 32 := Scalar.muli v163 c8_i32_97
  v164

def k0_off319 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off320 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c96_i32 : BitVec 32 := 96#32
  let c0_i32_98 : BitVec 32 := 0#32
  ![v66.toNat, 96, 0]
def k0_off321 (v163 : BitVec 32) : Fin 2 → Nat :=
  let c8_i32_97 : BitVec 32 := 8#32
  let v164 : BitVec 32 := Scalar.muli v163 c8_i32_97
  let v165 : BitVec 32 := v164
  let c0_i32_99 : BitVec 32 := 0#32
  ![v165.toNat, 0]

def k0_chk146 (i : grid0.Coords) (v1 : BitVec 32) (v34 : BitVec 32) (v163 : BitVec 32) : Prop :=
  (∀ (k0_h2 : k0_cond2 i v1 = 1#1), ∀ (k0_h7 : k0_cond7 v34 = 1#1), 8 ∣ (k0_mult142 v163).toNat) ∧
  (∀ (k0_h2 : k0_cond2 i v1 = 1#1), ∀ (k0_h7 : k0_cond7 v34 = 1#1), ∀ a, (k0_off321 v163) a + S8x1024.size a ≤ S102400x1024.size a)
theorem k0_mult142_dvd : ∀ (i : grid0.Coords) (v1 : BitVec 32) (v34 : BitVec 32) (v163 : BitVec 32) (k0_hw146 : k0_chk146 i v1 v34 v163), ∀ (k0_h2 : k0_cond2 i v1 = 1#1), ∀ (k0_h7 : k0_cond7 v34 = 1#1), 8 ∣ (k0_mult142 v163).toNat := fun i v1 v34 v163 k0_hw146 k0_h2 k0_h7 => k0_hw146.1 k0_h2 k0_h7
theorem k0_off321_inb : ∀ (i : grid0.Coords) (v1 : BitVec 32) (v34 : BitVec 32) (v163 : BitVec 32) (k0_hw146 : k0_chk146 i v1 v34 v163), ∀ (k0_h2 : k0_cond2 i v1 = 1#1), ∀ (k0_h7 : k0_cond7 v34 = 1#1), ∀ a, (k0_off321 v163) a + S8x1024.size a ≤ S102400x1024.size a := fun i v1 v34 v163 k0_hw146 k0_h2 k0_h7 => k0_hw146.2 k0_h2 k0_h7

def k0_mult143 (v171 : BitVec 32) : BitVec 32 :=
  let c8_i32_102 : BitVec 32 := 8#32
  let v172 : BitVec 32 := Scalar.muli v171 c8_i32_102
  v172

def k0_off322 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off323 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c104_i32 : BitVec 32 := 104#32
  let c0_i32_103 : BitVec 32 := 0#32
  ![v66.toNat, 104, 0]
def k0_off324 (v171 : BitVec 32) : Fin 2 → Nat :=
  let c8_i32_102 : BitVec 32 := 8#32
  let v172 : BitVec 32 := Scalar.muli v171 c8_i32_102
  let v173 : BitVec 32 := v172
  let c0_i32_104 : BitVec 32 := 0#32
  ![v173.toNat, 0]

def k0_chk147 (i : grid0.Coords) (v1 : BitVec 32) (v34 : BitVec 32) (v171 : BitVec 32) : Prop :=
  (∀ (k0_h2 : k0_cond2 i v1 = 1#1), ∀ (k0_h7 : k0_cond7 v34 = 1#1), 8 ∣ (k0_mult143 v171).toNat) ∧
  (∀ (k0_h2 : k0_cond2 i v1 = 1#1), ∀ (k0_h7 : k0_cond7 v34 = 1#1), ∀ a, (k0_off324 v171) a + S8x1024.size a ≤ S102400x1024.size a)
theorem k0_mult143_dvd : ∀ (i : grid0.Coords) (v1 : BitVec 32) (v34 : BitVec 32) (v171 : BitVec 32) (k0_hw147 : k0_chk147 i v1 v34 v171), ∀ (k0_h2 : k0_cond2 i v1 = 1#1), ∀ (k0_h7 : k0_cond7 v34 = 1#1), 8 ∣ (k0_mult143 v171).toNat := fun i v1 v34 v171 k0_hw147 k0_h2 k0_h7 => k0_hw147.1 k0_h2 k0_h7
theorem k0_off324_inb : ∀ (i : grid0.Coords) (v1 : BitVec 32) (v34 : BitVec 32) (v171 : BitVec 32) (k0_hw147 : k0_chk147 i v1 v34 v171), ∀ (k0_h2 : k0_cond2 i v1 = 1#1), ∀ (k0_h7 : k0_cond7 v34 = 1#1), ∀ a, (k0_off324 v171) a + S8x1024.size a ≤ S102400x1024.size a := fun i v1 v34 v171 k0_hw147 k0_h2 k0_h7 => k0_hw147.2 k0_h2 k0_h7

def k0_mult144 (v179 : BitVec 32) : BitVec 32 :=
  let c8_i32_107 : BitVec 32 := 8#32
  let v180 : BitVec 32 := Scalar.muli v179 c8_i32_107
  v180

def k0_off325 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off326 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c112_i32 : BitVec 32 := 112#32
  let c0_i32_108 : BitVec 32 := 0#32
  ![v66.toNat, 112, 0]
def k0_off327 (v179 : BitVec 32) : Fin 2 → Nat :=
  let c8_i32_107 : BitVec 32 := 8#32
  let v180 : BitVec 32 := Scalar.muli v179 c8_i32_107
  let v181 : BitVec 32 := v180
  let c0_i32_109 : BitVec 32 := 0#32
  ![v181.toNat, 0]

def k0_chk148 (i : grid0.Coords) (v1 : BitVec 32) (v34 : BitVec 32) (v179 : BitVec 32) : Prop :=
  (∀ (k0_h2 : k0_cond2 i v1 = 1#1), ∀ (k0_h7 : k0_cond7 v34 = 1#1), 8 ∣ (k0_mult144 v179).toNat) ∧
  (∀ (k0_h2 : k0_cond2 i v1 = 1#1), ∀ (k0_h7 : k0_cond7 v34 = 1#1), ∀ a, (k0_off327 v179) a + S8x1024.size a ≤ S102400x1024.size a)
theorem k0_mult144_dvd : ∀ (i : grid0.Coords) (v1 : BitVec 32) (v34 : BitVec 32) (v179 : BitVec 32) (k0_hw148 : k0_chk148 i v1 v34 v179), ∀ (k0_h2 : k0_cond2 i v1 = 1#1), ∀ (k0_h7 : k0_cond7 v34 = 1#1), 8 ∣ (k0_mult144 v179).toNat := fun i v1 v34 v179 k0_hw148 k0_h2 k0_h7 => k0_hw148.1 k0_h2 k0_h7
theorem k0_off327_inb : ∀ (i : grid0.Coords) (v1 : BitVec 32) (v34 : BitVec 32) (v179 : BitVec 32) (k0_hw148 : k0_chk148 i v1 v34 v179), ∀ (k0_h2 : k0_cond2 i v1 = 1#1), ∀ (k0_h7 : k0_cond7 v34 = 1#1), ∀ a, (k0_off327 v179) a + S8x1024.size a ≤ S102400x1024.size a := fun i v1 v34 v179 k0_hw148 k0_h2 k0_h7 => k0_hw148.2 k0_h2 k0_h7

def k0_mult145 (v187 : BitVec 32) : BitVec 32 :=
  let c8_i32_112 : BitVec 32 := 8#32
  let v188 : BitVec 32 := Scalar.muli v187 c8_i32_112
  v188

def k0_off328 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off329 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c120_i32 : BitVec 32 := 120#32
  let c0_i32_113 : BitVec 32 := 0#32
  ![v66.toNat, 120, 0]
def k0_off330 (v187 : BitVec 32) : Fin 2 → Nat :=
  let c8_i32_112 : BitVec 32 := 8#32
  let v188 : BitVec 32 := Scalar.muli v187 c8_i32_112
  let v189 : BitVec 32 := v188
  let c0_i32_114 : BitVec 32 := 0#32
  ![v189.toNat, 0]

def k0_chk149 (i : grid0.Coords) (v1 : BitVec 32) (v34 : BitVec 32) (v187 : BitVec 32) : Prop :=
  (∀ (k0_h2 : k0_cond2 i v1 = 1#1), ∀ (k0_h7 : k0_cond7 v34 = 1#1), 8 ∣ (k0_mult145 v187).toNat) ∧
  (∀ (k0_h2 : k0_cond2 i v1 = 1#1), ∀ (k0_h7 : k0_cond7 v34 = 1#1), ∀ a, (k0_off330 v187) a + S8x1024.size a ≤ S102400x1024.size a)
theorem k0_mult145_dvd : ∀ (i : grid0.Coords) (v1 : BitVec 32) (v34 : BitVec 32) (v187 : BitVec 32) (k0_hw149 : k0_chk149 i v1 v34 v187), ∀ (k0_h2 : k0_cond2 i v1 = 1#1), ∀ (k0_h7 : k0_cond7 v34 = 1#1), 8 ∣ (k0_mult145 v187).toNat := fun i v1 v34 v187 k0_hw149 k0_h2 k0_h7 => k0_hw149.1 k0_h2 k0_h7
theorem k0_off330_inb : ∀ (i : grid0.Coords) (v1 : BitVec 32) (v34 : BitVec 32) (v187 : BitVec 32) (k0_hw149 : k0_chk149 i v1 v34 v187), ∀ (k0_h2 : k0_cond2 i v1 = 1#1), ∀ (k0_h7 : k0_cond7 v34 = 1#1), ∀ a, (k0_off330 v187) a + S8x1024.size a ≤ S102400x1024.size a := fun i v1 v34 v187 k0_hw149 k0_h2 k0_h7 => k0_hw149.2 k0_h2 k0_h7

def k0_mult146 (v195 : BitVec 32) : BitVec 32 :=
  let c8_i32_117 : BitVec 32 := 8#32
  let v196 : BitVec 32 := Scalar.muli v195 c8_i32_117
  v196

def k0_off331 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off332 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c128_i32 : BitVec 32 := 128#32
  let c0_i32_118 : BitVec 32 := 0#32
  ![v66.toNat, 128, 0]
def k0_off333 (v195 : BitVec 32) : Fin 2 → Nat :=
  let c8_i32_117 : BitVec 32 := 8#32
  let v196 : BitVec 32 := Scalar.muli v195 c8_i32_117
  let v197 : BitVec 32 := v196
  let c0_i32_119 : BitVec 32 := 0#32
  ![v197.toNat, 0]

def k0_chk150 (i : grid0.Coords) (v1 : BitVec 32) (v34 : BitVec 32) (v195 : BitVec 32) : Prop :=
  (∀ (k0_h2 : k0_cond2 i v1 = 1#1), ∀ (k0_h7 : k0_cond7 v34 = 1#1), 8 ∣ (k0_mult146 v195).toNat) ∧
  (∀ (k0_h2 : k0_cond2 i v1 = 1#1), ∀ (k0_h7 : k0_cond7 v34 = 1#1), ∀ a, (k0_off333 v195) a + S8x1024.size a ≤ S102400x1024.size a)
theorem k0_mult146_dvd : ∀ (i : grid0.Coords) (v1 : BitVec 32) (v34 : BitVec 32) (v195 : BitVec 32) (k0_hw150 : k0_chk150 i v1 v34 v195), ∀ (k0_h2 : k0_cond2 i v1 = 1#1), ∀ (k0_h7 : k0_cond7 v34 = 1#1), 8 ∣ (k0_mult146 v195).toNat := fun i v1 v34 v195 k0_hw150 k0_h2 k0_h7 => k0_hw150.1 k0_h2 k0_h7
theorem k0_off333_inb : ∀ (i : grid0.Coords) (v1 : BitVec 32) (v34 : BitVec 32) (v195 : BitVec 32) (k0_hw150 : k0_chk150 i v1 v34 v195), ∀ (k0_h2 : k0_cond2 i v1 = 1#1), ∀ (k0_h7 : k0_cond7 v34 = 1#1), ∀ a, (k0_off333 v195) a + S8x1024.size a ≤ S102400x1024.size a := fun i v1 v34 v195 k0_hw150 k0_h2 k0_h7 => k0_hw150.2 k0_h2 k0_h7

def k0_mult147 (v203 : BitVec 32) : BitVec 32 :=
  let c8_i32_122 : BitVec 32 := 8#32
  let v204 : BitVec 32 := Scalar.muli v203 c8_i32_122
  v204

def k0_off334 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off335 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c136_i32 : BitVec 32 := 136#32
  let c0_i32_123 : BitVec 32 := 0#32
  ![v66.toNat, 136, 0]
def k0_off336 (v203 : BitVec 32) : Fin 2 → Nat :=
  let c8_i32_122 : BitVec 32 := 8#32
  let v204 : BitVec 32 := Scalar.muli v203 c8_i32_122
  let v205 : BitVec 32 := v204
  let c0_i32_124 : BitVec 32 := 0#32
  ![v205.toNat, 0]

def k0_chk151 (i : grid0.Coords) (v1 : BitVec 32) (v34 : BitVec 32) (v203 : BitVec 32) : Prop :=
  (∀ (k0_h2 : k0_cond2 i v1 = 1#1), ∀ (k0_h7 : k0_cond7 v34 = 1#1), 8 ∣ (k0_mult147 v203).toNat) ∧
  (∀ (k0_h2 : k0_cond2 i v1 = 1#1), ∀ (k0_h7 : k0_cond7 v34 = 1#1), ∀ a, (k0_off336 v203) a + S8x1024.size a ≤ S102400x1024.size a)
theorem k0_mult147_dvd : ∀ (i : grid0.Coords) (v1 : BitVec 32) (v34 : BitVec 32) (v203 : BitVec 32) (k0_hw151 : k0_chk151 i v1 v34 v203), ∀ (k0_h2 : k0_cond2 i v1 = 1#1), ∀ (k0_h7 : k0_cond7 v34 = 1#1), 8 ∣ (k0_mult147 v203).toNat := fun i v1 v34 v203 k0_hw151 k0_h2 k0_h7 => k0_hw151.1 k0_h2 k0_h7
theorem k0_off336_inb : ∀ (i : grid0.Coords) (v1 : BitVec 32) (v34 : BitVec 32) (v203 : BitVec 32) (k0_hw151 : k0_chk151 i v1 v34 v203), ∀ (k0_h2 : k0_cond2 i v1 = 1#1), ∀ (k0_h7 : k0_cond7 v34 = 1#1), ∀ a, (k0_off336 v203) a + S8x1024.size a ≤ S102400x1024.size a := fun i v1 v34 v203 k0_hw151 k0_h2 k0_h7 => k0_hw151.2 k0_h2 k0_h7

def k0_mult148 (v211 : BitVec 32) : BitVec 32 :=
  let c8_i32_127 : BitVec 32 := 8#32
  let v212 : BitVec 32 := Scalar.muli v211 c8_i32_127
  v212

def k0_off337 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off338 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c144_i32 : BitVec 32 := 144#32
  let c0_i32_128 : BitVec 32 := 0#32
  ![v66.toNat, 144, 0]
def k0_off339 (v211 : BitVec 32) : Fin 2 → Nat :=
  let c8_i32_127 : BitVec 32 := 8#32
  let v212 : BitVec 32 := Scalar.muli v211 c8_i32_127
  let v213 : BitVec 32 := v212
  let c0_i32_129 : BitVec 32 := 0#32
  ![v213.toNat, 0]

def k0_chk152 (i : grid0.Coords) (v1 : BitVec 32) (v34 : BitVec 32) (v211 : BitVec 32) : Prop :=
  (∀ (k0_h2 : k0_cond2 i v1 = 1#1), ∀ (k0_h7 : k0_cond7 v34 = 1#1), 8 ∣ (k0_mult148 v211).toNat) ∧
  (∀ (k0_h2 : k0_cond2 i v1 = 1#1), ∀ (k0_h7 : k0_cond7 v34 = 1#1), ∀ a, (k0_off339 v211) a + S8x1024.size a ≤ S102400x1024.size a)
theorem k0_mult148_dvd : ∀ (i : grid0.Coords) (v1 : BitVec 32) (v34 : BitVec 32) (v211 : BitVec 32) (k0_hw152 : k0_chk152 i v1 v34 v211), ∀ (k0_h2 : k0_cond2 i v1 = 1#1), ∀ (k0_h7 : k0_cond7 v34 = 1#1), 8 ∣ (k0_mult148 v211).toNat := fun i v1 v34 v211 k0_hw152 k0_h2 k0_h7 => k0_hw152.1 k0_h2 k0_h7
theorem k0_off339_inb : ∀ (i : grid0.Coords) (v1 : BitVec 32) (v34 : BitVec 32) (v211 : BitVec 32) (k0_hw152 : k0_chk152 i v1 v34 v211), ∀ (k0_h2 : k0_cond2 i v1 = 1#1), ∀ (k0_h7 : k0_cond7 v34 = 1#1), ∀ a, (k0_off339 v211) a + S8x1024.size a ≤ S102400x1024.size a := fun i v1 v34 v211 k0_hw152 k0_h2 k0_h7 => k0_hw152.2 k0_h2 k0_h7

def k0_mult149 (v219 : BitVec 32) : BitVec 32 :=
  let c8_i32_132 : BitVec 32 := 8#32
  let v220 : BitVec 32 := Scalar.muli v219 c8_i32_132
  v220

def k0_off340 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off341 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c152_i32 : BitVec 32 := 152#32
  let c0_i32_133 : BitVec 32 := 0#32
  ![v66.toNat, 152, 0]
def k0_off342 (v219 : BitVec 32) : Fin 2 → Nat :=
  let c8_i32_132 : BitVec 32 := 8#32
  let v220 : BitVec 32 := Scalar.muli v219 c8_i32_132
  let v221 : BitVec 32 := v220
  let c0_i32_134 : BitVec 32 := 0#32
  ![v221.toNat, 0]

def k0_chk153 (i : grid0.Coords) (v1 : BitVec 32) (v34 : BitVec 32) (v219 : BitVec 32) : Prop :=
  (∀ (k0_h2 : k0_cond2 i v1 = 1#1), ∀ (k0_h7 : k0_cond7 v34 = 1#1), 8 ∣ (k0_mult149 v219).toNat) ∧
  (∀ (k0_h2 : k0_cond2 i v1 = 1#1), ∀ (k0_h7 : k0_cond7 v34 = 1#1), ∀ a, (k0_off342 v219) a + S8x1024.size a ≤ S102400x1024.size a)
theorem k0_mult149_dvd : ∀ (i : grid0.Coords) (v1 : BitVec 32) (v34 : BitVec 32) (v219 : BitVec 32) (k0_hw153 : k0_chk153 i v1 v34 v219), ∀ (k0_h2 : k0_cond2 i v1 = 1#1), ∀ (k0_h7 : k0_cond7 v34 = 1#1), 8 ∣ (k0_mult149 v219).toNat := fun i v1 v34 v219 k0_hw153 k0_h2 k0_h7 => k0_hw153.1 k0_h2 k0_h7
theorem k0_off342_inb : ∀ (i : grid0.Coords) (v1 : BitVec 32) (v34 : BitVec 32) (v219 : BitVec 32) (k0_hw153 : k0_chk153 i v1 v34 v219), ∀ (k0_h2 : k0_cond2 i v1 = 1#1), ∀ (k0_h7 : k0_cond7 v34 = 1#1), ∀ a, (k0_off342 v219) a + S8x1024.size a ≤ S102400x1024.size a := fun i v1 v34 v219 k0_hw153 k0_h2 k0_h7 => k0_hw153.2 k0_h2 k0_h7

def k0_mult150 (v227 : BitVec 32) : BitVec 32 :=
  let c8_i32_137 : BitVec 32 := 8#32
  let v228 : BitVec 32 := Scalar.muli v227 c8_i32_137
  v228

def k0_off343 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off344 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c160_i32 : BitVec 32 := 160#32
  let c0_i32_138 : BitVec 32 := 0#32
  ![v66.toNat, 160, 0]
def k0_off345 (v227 : BitVec 32) : Fin 2 → Nat :=
  let c8_i32_137 : BitVec 32 := 8#32
  let v228 : BitVec 32 := Scalar.muli v227 c8_i32_137
  let v229 : BitVec 32 := v228
  let c0_i32_139 : BitVec 32 := 0#32
  ![v229.toNat, 0]

def k0_chk154 (i : grid0.Coords) (v1 : BitVec 32) (v34 : BitVec 32) (v227 : BitVec 32) : Prop :=
  (∀ (k0_h2 : k0_cond2 i v1 = 1#1), ∀ (k0_h7 : k0_cond7 v34 = 1#1), 8 ∣ (k0_mult150 v227).toNat) ∧
  (∀ (k0_h2 : k0_cond2 i v1 = 1#1), ∀ (k0_h7 : k0_cond7 v34 = 1#1), ∀ a, (k0_off345 v227) a + S8x1024.size a ≤ S102400x1024.size a)
theorem k0_mult150_dvd : ∀ (i : grid0.Coords) (v1 : BitVec 32) (v34 : BitVec 32) (v227 : BitVec 32) (k0_hw154 : k0_chk154 i v1 v34 v227), ∀ (k0_h2 : k0_cond2 i v1 = 1#1), ∀ (k0_h7 : k0_cond7 v34 = 1#1), 8 ∣ (k0_mult150 v227).toNat := fun i v1 v34 v227 k0_hw154 k0_h2 k0_h7 => k0_hw154.1 k0_h2 k0_h7
theorem k0_off345_inb : ∀ (i : grid0.Coords) (v1 : BitVec 32) (v34 : BitVec 32) (v227 : BitVec 32) (k0_hw154 : k0_chk154 i v1 v34 v227), ∀ (k0_h2 : k0_cond2 i v1 = 1#1), ∀ (k0_h7 : k0_cond7 v34 = 1#1), ∀ a, (k0_off345 v227) a + S8x1024.size a ≤ S102400x1024.size a := fun i v1 v34 v227 k0_hw154 k0_h2 k0_h7 => k0_hw154.2 k0_h2 k0_h7

def k0_mult151 (v235 : BitVec 32) : BitVec 32 :=
  let c8_i32_142 : BitVec 32 := 8#32
  let v236 : BitVec 32 := Scalar.muli v235 c8_i32_142
  v236

def k0_off346 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off347 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c168_i32 : BitVec 32 := 168#32
  let c0_i32_143 : BitVec 32 := 0#32
  ![v66.toNat, 168, 0]
def k0_off348 (v235 : BitVec 32) : Fin 2 → Nat :=
  let c8_i32_142 : BitVec 32 := 8#32
  let v236 : BitVec 32 := Scalar.muli v235 c8_i32_142
  let v237 : BitVec 32 := v236
  let c0_i32_144 : BitVec 32 := 0#32
  ![v237.toNat, 0]

def k0_chk155 (i : grid0.Coords) (v1 : BitVec 32) (v34 : BitVec 32) (v235 : BitVec 32) : Prop :=
  (∀ (k0_h2 : k0_cond2 i v1 = 1#1), ∀ (k0_h7 : k0_cond7 v34 = 1#1), 8 ∣ (k0_mult151 v235).toNat) ∧
  (∀ (k0_h2 : k0_cond2 i v1 = 1#1), ∀ (k0_h7 : k0_cond7 v34 = 1#1), ∀ a, (k0_off348 v235) a + S8x1024.size a ≤ S102400x1024.size a)
theorem k0_mult151_dvd : ∀ (i : grid0.Coords) (v1 : BitVec 32) (v34 : BitVec 32) (v235 : BitVec 32) (k0_hw155 : k0_chk155 i v1 v34 v235), ∀ (k0_h2 : k0_cond2 i v1 = 1#1), ∀ (k0_h7 : k0_cond7 v34 = 1#1), 8 ∣ (k0_mult151 v235).toNat := fun i v1 v34 v235 k0_hw155 k0_h2 k0_h7 => k0_hw155.1 k0_h2 k0_h7
theorem k0_off348_inb : ∀ (i : grid0.Coords) (v1 : BitVec 32) (v34 : BitVec 32) (v235 : BitVec 32) (k0_hw155 : k0_chk155 i v1 v34 v235), ∀ (k0_h2 : k0_cond2 i v1 = 1#1), ∀ (k0_h7 : k0_cond7 v34 = 1#1), ∀ a, (k0_off348 v235) a + S8x1024.size a ≤ S102400x1024.size a := fun i v1 v34 v235 k0_hw155 k0_h2 k0_h7 => k0_hw155.2 k0_h2 k0_h7

def k0_mult152 (v243 : BitVec 32) : BitVec 32 :=
  let c8_i32_147 : BitVec 32 := 8#32
  let v244 : BitVec 32 := Scalar.muli v243 c8_i32_147
  v244

def k0_off349 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off350 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c176_i32 : BitVec 32 := 176#32
  let c0_i32_148 : BitVec 32 := 0#32
  ![v66.toNat, 176, 0]
def k0_off351 (v243 : BitVec 32) : Fin 2 → Nat :=
  let c8_i32_147 : BitVec 32 := 8#32
  let v244 : BitVec 32 := Scalar.muli v243 c8_i32_147
  let v245 : BitVec 32 := v244
  let c0_i32_149 : BitVec 32 := 0#32
  ![v245.toNat, 0]

def k0_chk156 (i : grid0.Coords) (v1 : BitVec 32) (v34 : BitVec 32) (v243 : BitVec 32) : Prop :=
  (∀ (k0_h2 : k0_cond2 i v1 = 1#1), ∀ (k0_h7 : k0_cond7 v34 = 1#1), 8 ∣ (k0_mult152 v243).toNat) ∧
  (∀ (k0_h2 : k0_cond2 i v1 = 1#1), ∀ (k0_h7 : k0_cond7 v34 = 1#1), ∀ a, (k0_off351 v243) a + S8x1024.size a ≤ S102400x1024.size a)
theorem k0_mult152_dvd : ∀ (i : grid0.Coords) (v1 : BitVec 32) (v34 : BitVec 32) (v243 : BitVec 32) (k0_hw156 : k0_chk156 i v1 v34 v243), ∀ (k0_h2 : k0_cond2 i v1 = 1#1), ∀ (k0_h7 : k0_cond7 v34 = 1#1), 8 ∣ (k0_mult152 v243).toNat := fun i v1 v34 v243 k0_hw156 k0_h2 k0_h7 => k0_hw156.1 k0_h2 k0_h7
theorem k0_off351_inb : ∀ (i : grid0.Coords) (v1 : BitVec 32) (v34 : BitVec 32) (v243 : BitVec 32) (k0_hw156 : k0_chk156 i v1 v34 v243), ∀ (k0_h2 : k0_cond2 i v1 = 1#1), ∀ (k0_h7 : k0_cond7 v34 = 1#1), ∀ a, (k0_off351 v243) a + S8x1024.size a ≤ S102400x1024.size a := fun i v1 v34 v243 k0_hw156 k0_h2 k0_h7 => k0_hw156.2 k0_h2 k0_h7

def k0_mult153 (v251 : BitVec 32) : BitVec 32 :=
  let c8_i32_152 : BitVec 32 := 8#32
  let v252 : BitVec 32 := Scalar.muli v251 c8_i32_152
  v252

def k0_off352 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off353 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c184_i32 : BitVec 32 := 184#32
  let c0_i32_153 : BitVec 32 := 0#32
  ![v66.toNat, 184, 0]
def k0_off354 (v251 : BitVec 32) : Fin 2 → Nat :=
  let c8_i32_152 : BitVec 32 := 8#32
  let v252 : BitVec 32 := Scalar.muli v251 c8_i32_152
  let v253 : BitVec 32 := v252
  let c0_i32_154 : BitVec 32 := 0#32
  ![v253.toNat, 0]

def k0_chk157 (i : grid0.Coords) (v1 : BitVec 32) (v34 : BitVec 32) (v251 : BitVec 32) : Prop :=
  (∀ (k0_h2 : k0_cond2 i v1 = 1#1), ∀ (k0_h7 : k0_cond7 v34 = 1#1), 8 ∣ (k0_mult153 v251).toNat) ∧
  (∀ (k0_h2 : k0_cond2 i v1 = 1#1), ∀ (k0_h7 : k0_cond7 v34 = 1#1), ∀ a, (k0_off354 v251) a + S8x1024.size a ≤ S102400x1024.size a)
theorem k0_mult153_dvd : ∀ (i : grid0.Coords) (v1 : BitVec 32) (v34 : BitVec 32) (v251 : BitVec 32) (k0_hw157 : k0_chk157 i v1 v34 v251), ∀ (k0_h2 : k0_cond2 i v1 = 1#1), ∀ (k0_h7 : k0_cond7 v34 = 1#1), 8 ∣ (k0_mult153 v251).toNat := fun i v1 v34 v251 k0_hw157 k0_h2 k0_h7 => k0_hw157.1 k0_h2 k0_h7
theorem k0_off354_inb : ∀ (i : grid0.Coords) (v1 : BitVec 32) (v34 : BitVec 32) (v251 : BitVec 32) (k0_hw157 : k0_chk157 i v1 v34 v251), ∀ (k0_h2 : k0_cond2 i v1 = 1#1), ∀ (k0_h7 : k0_cond7 v34 = 1#1), ∀ a, (k0_off354 v251) a + S8x1024.size a ≤ S102400x1024.size a := fun i v1 v34 v251 k0_hw157 k0_h2 k0_h7 => k0_hw157.2 k0_h2 k0_h7

def k0_mult154 (v259 : BitVec 32) : BitVec 32 :=
  let c8_i32_157 : BitVec 32 := 8#32
  let v260 : BitVec 32 := Scalar.muli v259 c8_i32_157
  v260

def k0_off355 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off356 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c192_i32 : BitVec 32 := 192#32
  let c0_i32_158 : BitVec 32 := 0#32
  ![v66.toNat, 192, 0]
def k0_off357 (v259 : BitVec 32) : Fin 2 → Nat :=
  let c8_i32_157 : BitVec 32 := 8#32
  let v260 : BitVec 32 := Scalar.muli v259 c8_i32_157
  let v261 : BitVec 32 := v260
  let c0_i32_159 : BitVec 32 := 0#32
  ![v261.toNat, 0]

def k0_chk158 (i : grid0.Coords) (v1 : BitVec 32) (v34 : BitVec 32) (v259 : BitVec 32) : Prop :=
  (∀ (k0_h2 : k0_cond2 i v1 = 1#1), ∀ (k0_h7 : k0_cond7 v34 = 1#1), 8 ∣ (k0_mult154 v259).toNat) ∧
  (∀ (k0_h2 : k0_cond2 i v1 = 1#1), ∀ (k0_h7 : k0_cond7 v34 = 1#1), ∀ a, (k0_off357 v259) a + S8x1024.size a ≤ S102400x1024.size a)
theorem k0_mult154_dvd : ∀ (i : grid0.Coords) (v1 : BitVec 32) (v34 : BitVec 32) (v259 : BitVec 32) (k0_hw158 : k0_chk158 i v1 v34 v259), ∀ (k0_h2 : k0_cond2 i v1 = 1#1), ∀ (k0_h7 : k0_cond7 v34 = 1#1), 8 ∣ (k0_mult154 v259).toNat := fun i v1 v34 v259 k0_hw158 k0_h2 k0_h7 => k0_hw158.1 k0_h2 k0_h7
theorem k0_off357_inb : ∀ (i : grid0.Coords) (v1 : BitVec 32) (v34 : BitVec 32) (v259 : BitVec 32) (k0_hw158 : k0_chk158 i v1 v34 v259), ∀ (k0_h2 : k0_cond2 i v1 = 1#1), ∀ (k0_h7 : k0_cond7 v34 = 1#1), ∀ a, (k0_off357 v259) a + S8x1024.size a ≤ S102400x1024.size a := fun i v1 v34 v259 k0_hw158 k0_h2 k0_h7 => k0_hw158.2 k0_h2 k0_h7

def k0_mult155 (v267 : BitVec 32) : BitVec 32 :=
  let c8_i32_162 : BitVec 32 := 8#32
  let v268 : BitVec 32 := Scalar.muli v267 c8_i32_162
  v268

def k0_off358 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off359 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c200_i32 : BitVec 32 := 200#32
  let c0_i32_163 : BitVec 32 := 0#32
  ![v66.toNat, 200, 0]
def k0_off360 (v267 : BitVec 32) : Fin 2 → Nat :=
  let c8_i32_162 : BitVec 32 := 8#32
  let v268 : BitVec 32 := Scalar.muli v267 c8_i32_162
  let v269 : BitVec 32 := v268
  let c0_i32_164 : BitVec 32 := 0#32
  ![v269.toNat, 0]

def k0_chk159 (i : grid0.Coords) (v1 : BitVec 32) (v34 : BitVec 32) (v267 : BitVec 32) : Prop :=
  (∀ (k0_h2 : k0_cond2 i v1 = 1#1), ∀ (k0_h7 : k0_cond7 v34 = 1#1), 8 ∣ (k0_mult155 v267).toNat) ∧
  (∀ (k0_h2 : k0_cond2 i v1 = 1#1), ∀ (k0_h7 : k0_cond7 v34 = 1#1), ∀ a, (k0_off360 v267) a + S8x1024.size a ≤ S102400x1024.size a)
theorem k0_mult155_dvd : ∀ (i : grid0.Coords) (v1 : BitVec 32) (v34 : BitVec 32) (v267 : BitVec 32) (k0_hw159 : k0_chk159 i v1 v34 v267), ∀ (k0_h2 : k0_cond2 i v1 = 1#1), ∀ (k0_h7 : k0_cond7 v34 = 1#1), 8 ∣ (k0_mult155 v267).toNat := fun i v1 v34 v267 k0_hw159 k0_h2 k0_h7 => k0_hw159.1 k0_h2 k0_h7
theorem k0_off360_inb : ∀ (i : grid0.Coords) (v1 : BitVec 32) (v34 : BitVec 32) (v267 : BitVec 32) (k0_hw159 : k0_chk159 i v1 v34 v267), ∀ (k0_h2 : k0_cond2 i v1 = 1#1), ∀ (k0_h7 : k0_cond7 v34 = 1#1), ∀ a, (k0_off360 v267) a + S8x1024.size a ≤ S102400x1024.size a := fun i v1 v34 v267 k0_hw159 k0_h2 k0_h7 => k0_hw159.2 k0_h2 k0_h7

def k0_mult156 (v275 : BitVec 32) : BitVec 32 :=
  let c8_i32_167 : BitVec 32 := 8#32
  let v276 : BitVec 32 := Scalar.muli v275 c8_i32_167
  v276

def k0_off361 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off362 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c208_i32 : BitVec 32 := 208#32
  let c0_i32_168 : BitVec 32 := 0#32
  ![v66.toNat, 208, 0]
def k0_off363 (v275 : BitVec 32) : Fin 2 → Nat :=
  let c8_i32_167 : BitVec 32 := 8#32
  let v276 : BitVec 32 := Scalar.muli v275 c8_i32_167
  let v277 : BitVec 32 := v276
  let c0_i32_169 : BitVec 32 := 0#32
  ![v277.toNat, 0]

def k0_chk160 (i : grid0.Coords) (v1 : BitVec 32) (v34 : BitVec 32) (v275 : BitVec 32) : Prop :=
  (∀ (k0_h2 : k0_cond2 i v1 = 1#1), ∀ (k0_h7 : k0_cond7 v34 = 1#1), 8 ∣ (k0_mult156 v275).toNat) ∧
  (∀ (k0_h2 : k0_cond2 i v1 = 1#1), ∀ (k0_h7 : k0_cond7 v34 = 1#1), ∀ a, (k0_off363 v275) a + S8x1024.size a ≤ S102400x1024.size a)
theorem k0_mult156_dvd : ∀ (i : grid0.Coords) (v1 : BitVec 32) (v34 : BitVec 32) (v275 : BitVec 32) (k0_hw160 : k0_chk160 i v1 v34 v275), ∀ (k0_h2 : k0_cond2 i v1 = 1#1), ∀ (k0_h7 : k0_cond7 v34 = 1#1), 8 ∣ (k0_mult156 v275).toNat := fun i v1 v34 v275 k0_hw160 k0_h2 k0_h7 => k0_hw160.1 k0_h2 k0_h7
theorem k0_off363_inb : ∀ (i : grid0.Coords) (v1 : BitVec 32) (v34 : BitVec 32) (v275 : BitVec 32) (k0_hw160 : k0_chk160 i v1 v34 v275), ∀ (k0_h2 : k0_cond2 i v1 = 1#1), ∀ (k0_h7 : k0_cond7 v34 = 1#1), ∀ a, (k0_off363 v275) a + S8x1024.size a ≤ S102400x1024.size a := fun i v1 v34 v275 k0_hw160 k0_h2 k0_h7 => k0_hw160.2 k0_h2 k0_h7

def k0_mult157 (v283 : BitVec 32) : BitVec 32 :=
  let c8_i32_172 : BitVec 32 := 8#32
  let v284 : BitVec 32 := Scalar.muli v283 c8_i32_172
  v284

def k0_off364 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off365 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c216_i32 : BitVec 32 := 216#32
  let c0_i32_173 : BitVec 32 := 0#32
  ![v66.toNat, 216, 0]
def k0_off366 (v283 : BitVec 32) : Fin 2 → Nat :=
  let c8_i32_172 : BitVec 32 := 8#32
  let v284 : BitVec 32 := Scalar.muli v283 c8_i32_172
  let v285 : BitVec 32 := v284
  let c0_i32_174 : BitVec 32 := 0#32
  ![v285.toNat, 0]

def k0_chk161 (i : grid0.Coords) (v1 : BitVec 32) (v34 : BitVec 32) (v283 : BitVec 32) : Prop :=
  (∀ (k0_h2 : k0_cond2 i v1 = 1#1), ∀ (k0_h7 : k0_cond7 v34 = 1#1), 8 ∣ (k0_mult157 v283).toNat) ∧
  (∀ (k0_h2 : k0_cond2 i v1 = 1#1), ∀ (k0_h7 : k0_cond7 v34 = 1#1), ∀ a, (k0_off366 v283) a + S8x1024.size a ≤ S102400x1024.size a)
theorem k0_mult157_dvd : ∀ (i : grid0.Coords) (v1 : BitVec 32) (v34 : BitVec 32) (v283 : BitVec 32) (k0_hw161 : k0_chk161 i v1 v34 v283), ∀ (k0_h2 : k0_cond2 i v1 = 1#1), ∀ (k0_h7 : k0_cond7 v34 = 1#1), 8 ∣ (k0_mult157 v283).toNat := fun i v1 v34 v283 k0_hw161 k0_h2 k0_h7 => k0_hw161.1 k0_h2 k0_h7
theorem k0_off366_inb : ∀ (i : grid0.Coords) (v1 : BitVec 32) (v34 : BitVec 32) (v283 : BitVec 32) (k0_hw161 : k0_chk161 i v1 v34 v283), ∀ (k0_h2 : k0_cond2 i v1 = 1#1), ∀ (k0_h7 : k0_cond7 v34 = 1#1), ∀ a, (k0_off366 v283) a + S8x1024.size a ≤ S102400x1024.size a := fun i v1 v34 v283 k0_hw161 k0_h2 k0_h7 => k0_hw161.2 k0_h2 k0_h7

def k0_mult158 (v291 : BitVec 32) : BitVec 32 :=
  let c8_i32_177 : BitVec 32 := 8#32
  let v292 : BitVec 32 := Scalar.muli v291 c8_i32_177
  v292

def k0_off367 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off368 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c224_i32 : BitVec 32 := 224#32
  let c0_i32_178 : BitVec 32 := 0#32
  ![v66.toNat, 224, 0]
def k0_off369 (v291 : BitVec 32) : Fin 2 → Nat :=
  let c8_i32_177 : BitVec 32 := 8#32
  let v292 : BitVec 32 := Scalar.muli v291 c8_i32_177
  let v293 : BitVec 32 := v292
  let c0_i32_179 : BitVec 32 := 0#32
  ![v293.toNat, 0]

def k0_chk162 (i : grid0.Coords) (v1 : BitVec 32) (v34 : BitVec 32) (v291 : BitVec 32) : Prop :=
  (∀ (k0_h2 : k0_cond2 i v1 = 1#1), ∀ (k0_h7 : k0_cond7 v34 = 1#1), 8 ∣ (k0_mult158 v291).toNat) ∧
  (∀ (k0_h2 : k0_cond2 i v1 = 1#1), ∀ (k0_h7 : k0_cond7 v34 = 1#1), ∀ a, (k0_off369 v291) a + S8x1024.size a ≤ S102400x1024.size a)
theorem k0_mult158_dvd : ∀ (i : grid0.Coords) (v1 : BitVec 32) (v34 : BitVec 32) (v291 : BitVec 32) (k0_hw162 : k0_chk162 i v1 v34 v291), ∀ (k0_h2 : k0_cond2 i v1 = 1#1), ∀ (k0_h7 : k0_cond7 v34 = 1#1), 8 ∣ (k0_mult158 v291).toNat := fun i v1 v34 v291 k0_hw162 k0_h2 k0_h7 => k0_hw162.1 k0_h2 k0_h7
theorem k0_off369_inb : ∀ (i : grid0.Coords) (v1 : BitVec 32) (v34 : BitVec 32) (v291 : BitVec 32) (k0_hw162 : k0_chk162 i v1 v34 v291), ∀ (k0_h2 : k0_cond2 i v1 = 1#1), ∀ (k0_h7 : k0_cond7 v34 = 1#1), ∀ a, (k0_off369 v291) a + S8x1024.size a ≤ S102400x1024.size a := fun i v1 v34 v291 k0_hw162 k0_h2 k0_h7 => k0_hw162.2 k0_h2 k0_h7

def k0_mult159 (v299 : BitVec 32) : BitVec 32 :=
  let c8_i32_182 : BitVec 32 := 8#32
  let v300 : BitVec 32 := Scalar.muli v299 c8_i32_182
  v300

def k0_off370 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off371 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c232_i32 : BitVec 32 := 232#32
  let c0_i32_183 : BitVec 32 := 0#32
  ![v66.toNat, 232, 0]
def k0_off372 (v299 : BitVec 32) : Fin 2 → Nat :=
  let c8_i32_182 : BitVec 32 := 8#32
  let v300 : BitVec 32 := Scalar.muli v299 c8_i32_182
  let v301 : BitVec 32 := v300
  let c0_i32_184 : BitVec 32 := 0#32
  ![v301.toNat, 0]

def k0_chk163 (i : grid0.Coords) (v1 : BitVec 32) (v34 : BitVec 32) (v299 : BitVec 32) : Prop :=
  (∀ (k0_h2 : k0_cond2 i v1 = 1#1), ∀ (k0_h7 : k0_cond7 v34 = 1#1), 8 ∣ (k0_mult159 v299).toNat) ∧
  (∀ (k0_h2 : k0_cond2 i v1 = 1#1), ∀ (k0_h7 : k0_cond7 v34 = 1#1), ∀ a, (k0_off372 v299) a + S8x1024.size a ≤ S102400x1024.size a)
theorem k0_mult159_dvd : ∀ (i : grid0.Coords) (v1 : BitVec 32) (v34 : BitVec 32) (v299 : BitVec 32) (k0_hw163 : k0_chk163 i v1 v34 v299), ∀ (k0_h2 : k0_cond2 i v1 = 1#1), ∀ (k0_h7 : k0_cond7 v34 = 1#1), 8 ∣ (k0_mult159 v299).toNat := fun i v1 v34 v299 k0_hw163 k0_h2 k0_h7 => k0_hw163.1 k0_h2 k0_h7
theorem k0_off372_inb : ∀ (i : grid0.Coords) (v1 : BitVec 32) (v34 : BitVec 32) (v299 : BitVec 32) (k0_hw163 : k0_chk163 i v1 v34 v299), ∀ (k0_h2 : k0_cond2 i v1 = 1#1), ∀ (k0_h7 : k0_cond7 v34 = 1#1), ∀ a, (k0_off372 v299) a + S8x1024.size a ≤ S102400x1024.size a := fun i v1 v34 v299 k0_hw163 k0_h2 k0_h7 => k0_hw163.2 k0_h2 k0_h7

def k0_mult160 (v307 : BitVec 32) : BitVec 32 :=
  let c8_i32_187 : BitVec 32 := 8#32
  let v308 : BitVec 32 := Scalar.muli v307 c8_i32_187
  v308

def k0_off373 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off374 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c240_i32 : BitVec 32 := 240#32
  let c0_i32_188 : BitVec 32 := 0#32
  ![v66.toNat, 240, 0]
def k0_off375 (v307 : BitVec 32) : Fin 2 → Nat :=
  let c8_i32_187 : BitVec 32 := 8#32
  let v308 : BitVec 32 := Scalar.muli v307 c8_i32_187
  let v309 : BitVec 32 := v308
  let c0_i32_189 : BitVec 32 := 0#32
  ![v309.toNat, 0]

def k0_chk164 (i : grid0.Coords) (v1 : BitVec 32) (v34 : BitVec 32) (v307 : BitVec 32) : Prop :=
  (∀ (k0_h2 : k0_cond2 i v1 = 1#1), ∀ (k0_h7 : k0_cond7 v34 = 1#1), 8 ∣ (k0_mult160 v307).toNat) ∧
  (∀ (k0_h2 : k0_cond2 i v1 = 1#1), ∀ (k0_h7 : k0_cond7 v34 = 1#1), ∀ a, (k0_off375 v307) a + S8x1024.size a ≤ S102400x1024.size a)
theorem k0_mult160_dvd : ∀ (i : grid0.Coords) (v1 : BitVec 32) (v34 : BitVec 32) (v307 : BitVec 32) (k0_hw164 : k0_chk164 i v1 v34 v307), ∀ (k0_h2 : k0_cond2 i v1 = 1#1), ∀ (k0_h7 : k0_cond7 v34 = 1#1), 8 ∣ (k0_mult160 v307).toNat := fun i v1 v34 v307 k0_hw164 k0_h2 k0_h7 => k0_hw164.1 k0_h2 k0_h7
theorem k0_off375_inb : ∀ (i : grid0.Coords) (v1 : BitVec 32) (v34 : BitVec 32) (v307 : BitVec 32) (k0_hw164 : k0_chk164 i v1 v34 v307), ∀ (k0_h2 : k0_cond2 i v1 = 1#1), ∀ (k0_h7 : k0_cond7 v34 = 1#1), ∀ a, (k0_off375 v307) a + S8x1024.size a ≤ S102400x1024.size a := fun i v1 v34 v307 k0_hw164 k0_h2 k0_h7 => k0_hw164.2 k0_h2 k0_h7

def k0_mult161 (v315 : BitVec 32) : BitVec 32 :=
  let c8_i32_192 : BitVec 32 := 8#32
  let v316 : BitVec 32 := Scalar.muli v315 c8_i32_192
  v316

def k0_off376 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off377 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c248_i32 : BitVec 32 := 248#32
  let c0_i32_193 : BitVec 32 := 0#32
  ![v66.toNat, 248, 0]
def k0_off378 (v315 : BitVec 32) : Fin 2 → Nat :=
  let c8_i32_192 : BitVec 32 := 8#32
  let v316 : BitVec 32 := Scalar.muli v315 c8_i32_192
  let v317 : BitVec 32 := v316
  let c0_i32_194 : BitVec 32 := 0#32
  ![v317.toNat, 0]

def k0_chk165 (i : grid0.Coords) (v1 : BitVec 32) (v34 : BitVec 32) (v315 : BitVec 32) : Prop :=
  (∀ (k0_h2 : k0_cond2 i v1 = 1#1), ∀ (k0_h7 : k0_cond7 v34 = 1#1), 8 ∣ (k0_mult161 v315).toNat) ∧
  (∀ (k0_h2 : k0_cond2 i v1 = 1#1), ∀ (k0_h7 : k0_cond7 v34 = 1#1), ∀ a, (k0_off378 v315) a + S8x1024.size a ≤ S102400x1024.size a)
theorem k0_mult161_dvd : ∀ (i : grid0.Coords) (v1 : BitVec 32) (v34 : BitVec 32) (v315 : BitVec 32) (k0_hw165 : k0_chk165 i v1 v34 v315), ∀ (k0_h2 : k0_cond2 i v1 = 1#1), ∀ (k0_h7 : k0_cond7 v34 = 1#1), 8 ∣ (k0_mult161 v315).toNat := fun i v1 v34 v315 k0_hw165 k0_h2 k0_h7 => k0_hw165.1 k0_h2 k0_h7
theorem k0_off378_inb : ∀ (i : grid0.Coords) (v1 : BitVec 32) (v34 : BitVec 32) (v315 : BitVec 32) (k0_hw165 : k0_chk165 i v1 v34 v315), ∀ (k0_h2 : k0_cond2 i v1 = 1#1), ∀ (k0_h7 : k0_cond7 v34 = 1#1), ∀ a, (k0_off378 v315) a + S8x1024.size a ≤ S102400x1024.size a := fun i v1 v34 v315 k0_hw165 k0_h2 k0_h7 => k0_hw165.2 k0_h2 k0_h7

def k0_mult162 (v323 : BitVec 32) : BitVec 32 :=
  let c8_i32_197 : BitVec 32 := 8#32
  let v324 : BitVec 32 := Scalar.muli v323 c8_i32_197
  v324

def k0_off379 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off380 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c256_i32 : BitVec 32 := 256#32
  let c0_i32_198 : BitVec 32 := 0#32
  ![v66.toNat, 256, 0]
def k0_off381 (v323 : BitVec 32) : Fin 2 → Nat :=
  let c8_i32_197 : BitVec 32 := 8#32
  let v324 : BitVec 32 := Scalar.muli v323 c8_i32_197
  let v325 : BitVec 32 := v324
  let c0_i32_199 : BitVec 32 := 0#32
  ![v325.toNat, 0]

def k0_chk166 (i : grid0.Coords) (v1 : BitVec 32) (v34 : BitVec 32) (v323 : BitVec 32) : Prop :=
  (∀ (k0_h2 : k0_cond2 i v1 = 1#1), ∀ (k0_h7 : k0_cond7 v34 = 1#1), 8 ∣ (k0_mult162 v323).toNat) ∧
  (∀ (k0_h2 : k0_cond2 i v1 = 1#1), ∀ (k0_h7 : k0_cond7 v34 = 1#1), ∀ a, (k0_off381 v323) a + S8x1024.size a ≤ S102400x1024.size a)
theorem k0_mult162_dvd : ∀ (i : grid0.Coords) (v1 : BitVec 32) (v34 : BitVec 32) (v323 : BitVec 32) (k0_hw166 : k0_chk166 i v1 v34 v323), ∀ (k0_h2 : k0_cond2 i v1 = 1#1), ∀ (k0_h7 : k0_cond7 v34 = 1#1), 8 ∣ (k0_mult162 v323).toNat := fun i v1 v34 v323 k0_hw166 k0_h2 k0_h7 => k0_hw166.1 k0_h2 k0_h7
theorem k0_off381_inb : ∀ (i : grid0.Coords) (v1 : BitVec 32) (v34 : BitVec 32) (v323 : BitVec 32) (k0_hw166 : k0_chk166 i v1 v34 v323), ∀ (k0_h2 : k0_cond2 i v1 = 1#1), ∀ (k0_h7 : k0_cond7 v34 = 1#1), ∀ a, (k0_off381 v323) a + S8x1024.size a ≤ S102400x1024.size a := fun i v1 v34 v323 k0_hw166 k0_h2 k0_h7 => k0_hw166.2 k0_h2 k0_h7

def k0_mult163 (v331 : BitVec 32) : BitVec 32 :=
  let c8_i32_202 : BitVec 32 := 8#32
  let v332 : BitVec 32 := Scalar.muli v331 c8_i32_202
  v332

def k0_off382 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off383 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c264_i32 : BitVec 32 := 264#32
  let c0_i32_203 : BitVec 32 := 0#32
  ![v66.toNat, 264, 0]
def k0_off384 (v331 : BitVec 32) : Fin 2 → Nat :=
  let c8_i32_202 : BitVec 32 := 8#32
  let v332 : BitVec 32 := Scalar.muli v331 c8_i32_202
  let v333 : BitVec 32 := v332
  let c0_i32_204 : BitVec 32 := 0#32
  ![v333.toNat, 0]

def k0_chk167 (i : grid0.Coords) (v1 : BitVec 32) (v34 : BitVec 32) (v331 : BitVec 32) : Prop :=
  (∀ (k0_h2 : k0_cond2 i v1 = 1#1), ∀ (k0_h7 : k0_cond7 v34 = 1#1), 8 ∣ (k0_mult163 v331).toNat) ∧
  (∀ (k0_h2 : k0_cond2 i v1 = 1#1), ∀ (k0_h7 : k0_cond7 v34 = 1#1), ∀ a, (k0_off384 v331) a + S8x1024.size a ≤ S102400x1024.size a)
theorem k0_mult163_dvd : ∀ (i : grid0.Coords) (v1 : BitVec 32) (v34 : BitVec 32) (v331 : BitVec 32) (k0_hw167 : k0_chk167 i v1 v34 v331), ∀ (k0_h2 : k0_cond2 i v1 = 1#1), ∀ (k0_h7 : k0_cond7 v34 = 1#1), 8 ∣ (k0_mult163 v331).toNat := fun i v1 v34 v331 k0_hw167 k0_h2 k0_h7 => k0_hw167.1 k0_h2 k0_h7
theorem k0_off384_inb : ∀ (i : grid0.Coords) (v1 : BitVec 32) (v34 : BitVec 32) (v331 : BitVec 32) (k0_hw167 : k0_chk167 i v1 v34 v331), ∀ (k0_h2 : k0_cond2 i v1 = 1#1), ∀ (k0_h7 : k0_cond7 v34 = 1#1), ∀ a, (k0_off384 v331) a + S8x1024.size a ≤ S102400x1024.size a := fun i v1 v34 v331 k0_hw167 k0_h2 k0_h7 => k0_hw167.2 k0_h2 k0_h7

def k0_mult164 (v339 : BitVec 32) : BitVec 32 :=
  let c8_i32_207 : BitVec 32 := 8#32
  let v340 : BitVec 32 := Scalar.muli v339 c8_i32_207
  v340

def k0_off385 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off386 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c272_i32 : BitVec 32 := 272#32
  let c0_i32_208 : BitVec 32 := 0#32
  ![v66.toNat, 272, 0]
def k0_off387 (v339 : BitVec 32) : Fin 2 → Nat :=
  let c8_i32_207 : BitVec 32 := 8#32
  let v340 : BitVec 32 := Scalar.muli v339 c8_i32_207
  let v341 : BitVec 32 := v340
  let c0_i32_209 : BitVec 32 := 0#32
  ![v341.toNat, 0]

def k0_chk168 (i : grid0.Coords) (v1 : BitVec 32) (v34 : BitVec 32) (v339 : BitVec 32) : Prop :=
  (∀ (k0_h2 : k0_cond2 i v1 = 1#1), ∀ (k0_h7 : k0_cond7 v34 = 1#1), 8 ∣ (k0_mult164 v339).toNat) ∧
  (∀ (k0_h2 : k0_cond2 i v1 = 1#1), ∀ (k0_h7 : k0_cond7 v34 = 1#1), ∀ a, (k0_off387 v339) a + S8x1024.size a ≤ S102400x1024.size a)
theorem k0_mult164_dvd : ∀ (i : grid0.Coords) (v1 : BitVec 32) (v34 : BitVec 32) (v339 : BitVec 32) (k0_hw168 : k0_chk168 i v1 v34 v339), ∀ (k0_h2 : k0_cond2 i v1 = 1#1), ∀ (k0_h7 : k0_cond7 v34 = 1#1), 8 ∣ (k0_mult164 v339).toNat := fun i v1 v34 v339 k0_hw168 k0_h2 k0_h7 => k0_hw168.1 k0_h2 k0_h7
theorem k0_off387_inb : ∀ (i : grid0.Coords) (v1 : BitVec 32) (v34 : BitVec 32) (v339 : BitVec 32) (k0_hw168 : k0_chk168 i v1 v34 v339), ∀ (k0_h2 : k0_cond2 i v1 = 1#1), ∀ (k0_h7 : k0_cond7 v34 = 1#1), ∀ a, (k0_off387 v339) a + S8x1024.size a ≤ S102400x1024.size a := fun i v1 v34 v339 k0_hw168 k0_h2 k0_h7 => k0_hw168.2 k0_h2 k0_h7

def k0_mult165 (v347 : BitVec 32) : BitVec 32 :=
  let c8_i32_212 : BitVec 32 := 8#32
  let v348 : BitVec 32 := Scalar.muli v347 c8_i32_212
  v348

def k0_off388 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off389 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c280_i32 : BitVec 32 := 280#32
  let c0_i32_213 : BitVec 32 := 0#32
  ![v66.toNat, 280, 0]
def k0_off390 (v347 : BitVec 32) : Fin 2 → Nat :=
  let c8_i32_212 : BitVec 32 := 8#32
  let v348 : BitVec 32 := Scalar.muli v347 c8_i32_212
  let v349 : BitVec 32 := v348
  let c0_i32_214 : BitVec 32 := 0#32
  ![v349.toNat, 0]

def k0_chk169 (i : grid0.Coords) (v1 : BitVec 32) (v34 : BitVec 32) (v347 : BitVec 32) : Prop :=
  (∀ (k0_h2 : k0_cond2 i v1 = 1#1), ∀ (k0_h7 : k0_cond7 v34 = 1#1), 8 ∣ (k0_mult165 v347).toNat) ∧
  (∀ (k0_h2 : k0_cond2 i v1 = 1#1), ∀ (k0_h7 : k0_cond7 v34 = 1#1), ∀ a, (k0_off390 v347) a + S8x1024.size a ≤ S102400x1024.size a)
theorem k0_mult165_dvd : ∀ (i : grid0.Coords) (v1 : BitVec 32) (v34 : BitVec 32) (v347 : BitVec 32) (k0_hw169 : k0_chk169 i v1 v34 v347), ∀ (k0_h2 : k0_cond2 i v1 = 1#1), ∀ (k0_h7 : k0_cond7 v34 = 1#1), 8 ∣ (k0_mult165 v347).toNat := fun i v1 v34 v347 k0_hw169 k0_h2 k0_h7 => k0_hw169.1 k0_h2 k0_h7
theorem k0_off390_inb : ∀ (i : grid0.Coords) (v1 : BitVec 32) (v34 : BitVec 32) (v347 : BitVec 32) (k0_hw169 : k0_chk169 i v1 v34 v347), ∀ (k0_h2 : k0_cond2 i v1 = 1#1), ∀ (k0_h7 : k0_cond7 v34 = 1#1), ∀ a, (k0_off390 v347) a + S8x1024.size a ≤ S102400x1024.size a := fun i v1 v34 v347 k0_hw169 k0_h2 k0_h7 => k0_hw169.2 k0_h2 k0_h7

def k0_mult166 (v355 : BitVec 32) : BitVec 32 :=
  let c8_i32_217 : BitVec 32 := 8#32
  let v356 : BitVec 32 := Scalar.muli v355 c8_i32_217
  v356

def k0_off391 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off392 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c288_i32 : BitVec 32 := 288#32
  let c0_i32_218 : BitVec 32 := 0#32
  ![v66.toNat, 288, 0]
def k0_off393 (v355 : BitVec 32) : Fin 2 → Nat :=
  let c8_i32_217 : BitVec 32 := 8#32
  let v356 : BitVec 32 := Scalar.muli v355 c8_i32_217
  let v357 : BitVec 32 := v356
  let c0_i32_219 : BitVec 32 := 0#32
  ![v357.toNat, 0]

def k0_chk170 (i : grid0.Coords) (v1 : BitVec 32) (v34 : BitVec 32) (v355 : BitVec 32) : Prop :=
  (∀ (k0_h2 : k0_cond2 i v1 = 1#1), ∀ (k0_h7 : k0_cond7 v34 = 1#1), 8 ∣ (k0_mult166 v355).toNat) ∧
  (∀ (k0_h2 : k0_cond2 i v1 = 1#1), ∀ (k0_h7 : k0_cond7 v34 = 1#1), ∀ a, (k0_off393 v355) a + S8x1024.size a ≤ S102400x1024.size a)
theorem k0_mult166_dvd : ∀ (i : grid0.Coords) (v1 : BitVec 32) (v34 : BitVec 32) (v355 : BitVec 32) (k0_hw170 : k0_chk170 i v1 v34 v355), ∀ (k0_h2 : k0_cond2 i v1 = 1#1), ∀ (k0_h7 : k0_cond7 v34 = 1#1), 8 ∣ (k0_mult166 v355).toNat := fun i v1 v34 v355 k0_hw170 k0_h2 k0_h7 => k0_hw170.1 k0_h2 k0_h7
theorem k0_off393_inb : ∀ (i : grid0.Coords) (v1 : BitVec 32) (v34 : BitVec 32) (v355 : BitVec 32) (k0_hw170 : k0_chk170 i v1 v34 v355), ∀ (k0_h2 : k0_cond2 i v1 = 1#1), ∀ (k0_h7 : k0_cond7 v34 = 1#1), ∀ a, (k0_off393 v355) a + S8x1024.size a ≤ S102400x1024.size a := fun i v1 v34 v355 k0_hw170 k0_h2 k0_h7 => k0_hw170.2 k0_h2 k0_h7

def k0_mult167 (v363 : BitVec 32) : BitVec 32 :=
  let c8_i32_222 : BitVec 32 := 8#32
  let v364 : BitVec 32 := Scalar.muli v363 c8_i32_222
  v364

def k0_off394 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off395 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c296_i32 : BitVec 32 := 296#32
  let c0_i32_223 : BitVec 32 := 0#32
  ![v66.toNat, 296, 0]
def k0_off396 (v363 : BitVec 32) : Fin 2 → Nat :=
  let c8_i32_222 : BitVec 32 := 8#32
  let v364 : BitVec 32 := Scalar.muli v363 c8_i32_222
  let v365 : BitVec 32 := v364
  let c0_i32_224 : BitVec 32 := 0#32
  ![v365.toNat, 0]

def k0_chk171 (i : grid0.Coords) (v1 : BitVec 32) (v34 : BitVec 32) (v363 : BitVec 32) : Prop :=
  (∀ (k0_h2 : k0_cond2 i v1 = 1#1), ∀ (k0_h7 : k0_cond7 v34 = 1#1), 8 ∣ (k0_mult167 v363).toNat) ∧
  (∀ (k0_h2 : k0_cond2 i v1 = 1#1), ∀ (k0_h7 : k0_cond7 v34 = 1#1), ∀ a, (k0_off396 v363) a + S8x1024.size a ≤ S102400x1024.size a)
theorem k0_mult167_dvd : ∀ (i : grid0.Coords) (v1 : BitVec 32) (v34 : BitVec 32) (v363 : BitVec 32) (k0_hw171 : k0_chk171 i v1 v34 v363), ∀ (k0_h2 : k0_cond2 i v1 = 1#1), ∀ (k0_h7 : k0_cond7 v34 = 1#1), 8 ∣ (k0_mult167 v363).toNat := fun i v1 v34 v363 k0_hw171 k0_h2 k0_h7 => k0_hw171.1 k0_h2 k0_h7
theorem k0_off396_inb : ∀ (i : grid0.Coords) (v1 : BitVec 32) (v34 : BitVec 32) (v363 : BitVec 32) (k0_hw171 : k0_chk171 i v1 v34 v363), ∀ (k0_h2 : k0_cond2 i v1 = 1#1), ∀ (k0_h7 : k0_cond7 v34 = 1#1), ∀ a, (k0_off396 v363) a + S8x1024.size a ≤ S102400x1024.size a := fun i v1 v34 v363 k0_hw171 k0_h2 k0_h7 => k0_hw171.2 k0_h2 k0_h7

def k0_mult168 (v371 : BitVec 32) : BitVec 32 :=
  let c8_i32_227 : BitVec 32 := 8#32
  let v372 : BitVec 32 := Scalar.muli v371 c8_i32_227
  v372

def k0_off397 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off398 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c304_i32 : BitVec 32 := 304#32
  let c0_i32_228 : BitVec 32 := 0#32
  ![v66.toNat, 304, 0]
def k0_off399 (v371 : BitVec 32) : Fin 2 → Nat :=
  let c8_i32_227 : BitVec 32 := 8#32
  let v372 : BitVec 32 := Scalar.muli v371 c8_i32_227
  let v373 : BitVec 32 := v372
  let c0_i32_229 : BitVec 32 := 0#32
  ![v373.toNat, 0]

def k0_chk172 (i : grid0.Coords) (v1 : BitVec 32) (v34 : BitVec 32) (v371 : BitVec 32) : Prop :=
  (∀ (k0_h2 : k0_cond2 i v1 = 1#1), ∀ (k0_h7 : k0_cond7 v34 = 1#1), 8 ∣ (k0_mult168 v371).toNat) ∧
  (∀ (k0_h2 : k0_cond2 i v1 = 1#1), ∀ (k0_h7 : k0_cond7 v34 = 1#1), ∀ a, (k0_off399 v371) a + S8x1024.size a ≤ S102400x1024.size a)
theorem k0_mult168_dvd : ∀ (i : grid0.Coords) (v1 : BitVec 32) (v34 : BitVec 32) (v371 : BitVec 32) (k0_hw172 : k0_chk172 i v1 v34 v371), ∀ (k0_h2 : k0_cond2 i v1 = 1#1), ∀ (k0_h7 : k0_cond7 v34 = 1#1), 8 ∣ (k0_mult168 v371).toNat := fun i v1 v34 v371 k0_hw172 k0_h2 k0_h7 => k0_hw172.1 k0_h2 k0_h7
theorem k0_off399_inb : ∀ (i : grid0.Coords) (v1 : BitVec 32) (v34 : BitVec 32) (v371 : BitVec 32) (k0_hw172 : k0_chk172 i v1 v34 v371), ∀ (k0_h2 : k0_cond2 i v1 = 1#1), ∀ (k0_h7 : k0_cond7 v34 = 1#1), ∀ a, (k0_off399 v371) a + S8x1024.size a ≤ S102400x1024.size a := fun i v1 v34 v371 k0_hw172 k0_h2 k0_h7 => k0_hw172.2 k0_h2 k0_h7

def k0_mult169 (v379 : BitVec 32) : BitVec 32 :=
  let c8_i32_232 : BitVec 32 := 8#32
  let v380 : BitVec 32 := Scalar.muli v379 c8_i32_232
  v380

def k0_off400 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off401 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c312_i32 : BitVec 32 := 312#32
  let c0_i32_233 : BitVec 32 := 0#32
  ![v66.toNat, 312, 0]
def k0_off402 (v379 : BitVec 32) : Fin 2 → Nat :=
  let c8_i32_232 : BitVec 32 := 8#32
  let v380 : BitVec 32 := Scalar.muli v379 c8_i32_232
  let v381 : BitVec 32 := v380
  let c0_i32_234 : BitVec 32 := 0#32
  ![v381.toNat, 0]

def k0_chk173 (i : grid0.Coords) (v1 : BitVec 32) (v34 : BitVec 32) (v379 : BitVec 32) : Prop :=
  (∀ (k0_h2 : k0_cond2 i v1 = 1#1), ∀ (k0_h7 : k0_cond7 v34 = 1#1), 8 ∣ (k0_mult169 v379).toNat) ∧
  (∀ (k0_h2 : k0_cond2 i v1 = 1#1), ∀ (k0_h7 : k0_cond7 v34 = 1#1), ∀ a, (k0_off402 v379) a + S8x1024.size a ≤ S102400x1024.size a)
theorem k0_mult169_dvd : ∀ (i : grid0.Coords) (v1 : BitVec 32) (v34 : BitVec 32) (v379 : BitVec 32) (k0_hw173 : k0_chk173 i v1 v34 v379), ∀ (k0_h2 : k0_cond2 i v1 = 1#1), ∀ (k0_h7 : k0_cond7 v34 = 1#1), 8 ∣ (k0_mult169 v379).toNat := fun i v1 v34 v379 k0_hw173 k0_h2 k0_h7 => k0_hw173.1 k0_h2 k0_h7
theorem k0_off402_inb : ∀ (i : grid0.Coords) (v1 : BitVec 32) (v34 : BitVec 32) (v379 : BitVec 32) (k0_hw173 : k0_chk173 i v1 v34 v379), ∀ (k0_h2 : k0_cond2 i v1 = 1#1), ∀ (k0_h7 : k0_cond7 v34 = 1#1), ∀ a, (k0_off402 v379) a + S8x1024.size a ≤ S102400x1024.size a := fun i v1 v34 v379 k0_hw173 k0_h2 k0_h7 => k0_hw173.2 k0_h2 k0_h7

def k0_mult170 (v387 : BitVec 32) : BitVec 32 :=
  let c8_i32_237 : BitVec 32 := 8#32
  let v388 : BitVec 32 := Scalar.muli v387 c8_i32_237
  v388

def k0_off403 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off404 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c320_i32 : BitVec 32 := 320#32
  let c0_i32_238 : BitVec 32 := 0#32
  ![v66.toNat, 320, 0]
def k0_off405 (v387 : BitVec 32) : Fin 2 → Nat :=
  let c8_i32_237 : BitVec 32 := 8#32
  let v388 : BitVec 32 := Scalar.muli v387 c8_i32_237
  let v389 : BitVec 32 := v388
  let c0_i32_239 : BitVec 32 := 0#32
  ![v389.toNat, 0]

def k0_chk174 (i : grid0.Coords) (v1 : BitVec 32) (v34 : BitVec 32) (v387 : BitVec 32) : Prop :=
  (∀ (k0_h2 : k0_cond2 i v1 = 1#1), ∀ (k0_h7 : k0_cond7 v34 = 1#1), 8 ∣ (k0_mult170 v387).toNat) ∧
  (∀ (k0_h2 : k0_cond2 i v1 = 1#1), ∀ (k0_h7 : k0_cond7 v34 = 1#1), ∀ a, (k0_off405 v387) a + S8x1024.size a ≤ S102400x1024.size a)
theorem k0_mult170_dvd : ∀ (i : grid0.Coords) (v1 : BitVec 32) (v34 : BitVec 32) (v387 : BitVec 32) (k0_hw174 : k0_chk174 i v1 v34 v387), ∀ (k0_h2 : k0_cond2 i v1 = 1#1), ∀ (k0_h7 : k0_cond7 v34 = 1#1), 8 ∣ (k0_mult170 v387).toNat := fun i v1 v34 v387 k0_hw174 k0_h2 k0_h7 => k0_hw174.1 k0_h2 k0_h7
theorem k0_off405_inb : ∀ (i : grid0.Coords) (v1 : BitVec 32) (v34 : BitVec 32) (v387 : BitVec 32) (k0_hw174 : k0_chk174 i v1 v34 v387), ∀ (k0_h2 : k0_cond2 i v1 = 1#1), ∀ (k0_h7 : k0_cond7 v34 = 1#1), ∀ a, (k0_off405 v387) a + S8x1024.size a ≤ S102400x1024.size a := fun i v1 v34 v387 k0_hw174 k0_h2 k0_h7 => k0_hw174.2 k0_h2 k0_h7

def k0_mult171 (v395 : BitVec 32) : BitVec 32 :=
  let c8_i32_242 : BitVec 32 := 8#32
  let v396 : BitVec 32 := Scalar.muli v395 c8_i32_242
  v396

def k0_off406 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off407 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c328_i32 : BitVec 32 := 328#32
  let c0_i32_243 : BitVec 32 := 0#32
  ![v66.toNat, 328, 0]
def k0_off408 (v395 : BitVec 32) : Fin 2 → Nat :=
  let c8_i32_242 : BitVec 32 := 8#32
  let v396 : BitVec 32 := Scalar.muli v395 c8_i32_242
  let v397 : BitVec 32 := v396
  let c0_i32_244 : BitVec 32 := 0#32
  ![v397.toNat, 0]

def k0_chk175 (i : grid0.Coords) (v1 : BitVec 32) (v34 : BitVec 32) (v395 : BitVec 32) : Prop :=
  (∀ (k0_h2 : k0_cond2 i v1 = 1#1), ∀ (k0_h7 : k0_cond7 v34 = 1#1), 8 ∣ (k0_mult171 v395).toNat) ∧
  (∀ (k0_h2 : k0_cond2 i v1 = 1#1), ∀ (k0_h7 : k0_cond7 v34 = 1#1), ∀ a, (k0_off408 v395) a + S8x1024.size a ≤ S102400x1024.size a)
theorem k0_mult171_dvd : ∀ (i : grid0.Coords) (v1 : BitVec 32) (v34 : BitVec 32) (v395 : BitVec 32) (k0_hw175 : k0_chk175 i v1 v34 v395), ∀ (k0_h2 : k0_cond2 i v1 = 1#1), ∀ (k0_h7 : k0_cond7 v34 = 1#1), 8 ∣ (k0_mult171 v395).toNat := fun i v1 v34 v395 k0_hw175 k0_h2 k0_h7 => k0_hw175.1 k0_h2 k0_h7
theorem k0_off408_inb : ∀ (i : grid0.Coords) (v1 : BitVec 32) (v34 : BitVec 32) (v395 : BitVec 32) (k0_hw175 : k0_chk175 i v1 v34 v395), ∀ (k0_h2 : k0_cond2 i v1 = 1#1), ∀ (k0_h7 : k0_cond7 v34 = 1#1), ∀ a, (k0_off408 v395) a + S8x1024.size a ≤ S102400x1024.size a := fun i v1 v34 v395 k0_hw175 k0_h2 k0_h7 => k0_hw175.2 k0_h2 k0_h7

def k0_mult172 (v403 : BitVec 32) : BitVec 32 :=
  let c8_i32_247 : BitVec 32 := 8#32
  let v404 : BitVec 32 := Scalar.muli v403 c8_i32_247
  v404

def k0_off409 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off410 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c336_i32 : BitVec 32 := 336#32
  let c0_i32_248 : BitVec 32 := 0#32
  ![v66.toNat, 336, 0]
def k0_off411 (v403 : BitVec 32) : Fin 2 → Nat :=
  let c8_i32_247 : BitVec 32 := 8#32
  let v404 : BitVec 32 := Scalar.muli v403 c8_i32_247
  let v405 : BitVec 32 := v404
  let c0_i32_249 : BitVec 32 := 0#32
  ![v405.toNat, 0]

def k0_chk176 (i : grid0.Coords) (v1 : BitVec 32) (v34 : BitVec 32) (v403 : BitVec 32) : Prop :=
  (∀ (k0_h2 : k0_cond2 i v1 = 1#1), ∀ (k0_h7 : k0_cond7 v34 = 1#1), 8 ∣ (k0_mult172 v403).toNat) ∧
  (∀ (k0_h2 : k0_cond2 i v1 = 1#1), ∀ (k0_h7 : k0_cond7 v34 = 1#1), ∀ a, (k0_off411 v403) a + S8x1024.size a ≤ S102400x1024.size a)
theorem k0_mult172_dvd : ∀ (i : grid0.Coords) (v1 : BitVec 32) (v34 : BitVec 32) (v403 : BitVec 32) (k0_hw176 : k0_chk176 i v1 v34 v403), ∀ (k0_h2 : k0_cond2 i v1 = 1#1), ∀ (k0_h7 : k0_cond7 v34 = 1#1), 8 ∣ (k0_mult172 v403).toNat := fun i v1 v34 v403 k0_hw176 k0_h2 k0_h7 => k0_hw176.1 k0_h2 k0_h7
theorem k0_off411_inb : ∀ (i : grid0.Coords) (v1 : BitVec 32) (v34 : BitVec 32) (v403 : BitVec 32) (k0_hw176 : k0_chk176 i v1 v34 v403), ∀ (k0_h2 : k0_cond2 i v1 = 1#1), ∀ (k0_h7 : k0_cond7 v34 = 1#1), ∀ a, (k0_off411 v403) a + S8x1024.size a ≤ S102400x1024.size a := fun i v1 v34 v403 k0_hw176 k0_h2 k0_h7 => k0_hw176.2 k0_h2 k0_h7

def k0_mult173 (v411 : BitVec 32) : BitVec 32 :=
  let c8_i32_252 : BitVec 32 := 8#32
  let v412 : BitVec 32 := Scalar.muli v411 c8_i32_252
  v412

def k0_off412 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off413 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c344_i32 : BitVec 32 := 344#32
  let c0_i32_253 : BitVec 32 := 0#32
  ![v66.toNat, 344, 0]
def k0_off414 (v411 : BitVec 32) : Fin 2 → Nat :=
  let c8_i32_252 : BitVec 32 := 8#32
  let v412 : BitVec 32 := Scalar.muli v411 c8_i32_252
  let v413 : BitVec 32 := v412
  let c0_i32_254 : BitVec 32 := 0#32
  ![v413.toNat, 0]

def k0_chk177 (i : grid0.Coords) (v1 : BitVec 32) (v34 : BitVec 32) (v411 : BitVec 32) : Prop :=
  (∀ (k0_h2 : k0_cond2 i v1 = 1#1), ∀ (k0_h7 : k0_cond7 v34 = 1#1), 8 ∣ (k0_mult173 v411).toNat) ∧
  (∀ (k0_h2 : k0_cond2 i v1 = 1#1), ∀ (k0_h7 : k0_cond7 v34 = 1#1), ∀ a, (k0_off414 v411) a + S8x1024.size a ≤ S102400x1024.size a)
theorem k0_mult173_dvd : ∀ (i : grid0.Coords) (v1 : BitVec 32) (v34 : BitVec 32) (v411 : BitVec 32) (k0_hw177 : k0_chk177 i v1 v34 v411), ∀ (k0_h2 : k0_cond2 i v1 = 1#1), ∀ (k0_h7 : k0_cond7 v34 = 1#1), 8 ∣ (k0_mult173 v411).toNat := fun i v1 v34 v411 k0_hw177 k0_h2 k0_h7 => k0_hw177.1 k0_h2 k0_h7
theorem k0_off414_inb : ∀ (i : grid0.Coords) (v1 : BitVec 32) (v34 : BitVec 32) (v411 : BitVec 32) (k0_hw177 : k0_chk177 i v1 v34 v411), ∀ (k0_h2 : k0_cond2 i v1 = 1#1), ∀ (k0_h7 : k0_cond7 v34 = 1#1), ∀ a, (k0_off414 v411) a + S8x1024.size a ≤ S102400x1024.size a := fun i v1 v34 v411 k0_hw177 k0_h2 k0_h7 => k0_hw177.2 k0_h2 k0_h7

def k0_mult174 (v419 : BitVec 32) : BitVec 32 :=
  let c8_i32_257 : BitVec 32 := 8#32
  let v420 : BitVec 32 := Scalar.muli v419 c8_i32_257
  v420

def k0_off415 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off416 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c352_i32 : BitVec 32 := 352#32
  let c0_i32_258 : BitVec 32 := 0#32
  ![v66.toNat, 352, 0]
def k0_off417 (v419 : BitVec 32) : Fin 2 → Nat :=
  let c8_i32_257 : BitVec 32 := 8#32
  let v420 : BitVec 32 := Scalar.muli v419 c8_i32_257
  let v421 : BitVec 32 := v420
  let c0_i32_259 : BitVec 32 := 0#32
  ![v421.toNat, 0]

def k0_chk178 (i : grid0.Coords) (v1 : BitVec 32) (v34 : BitVec 32) (v419 : BitVec 32) : Prop :=
  (∀ (k0_h2 : k0_cond2 i v1 = 1#1), ∀ (k0_h7 : k0_cond7 v34 = 1#1), 8 ∣ (k0_mult174 v419).toNat) ∧
  (∀ (k0_h2 : k0_cond2 i v1 = 1#1), ∀ (k0_h7 : k0_cond7 v34 = 1#1), ∀ a, (k0_off417 v419) a + S8x1024.size a ≤ S102400x1024.size a)
theorem k0_mult174_dvd : ∀ (i : grid0.Coords) (v1 : BitVec 32) (v34 : BitVec 32) (v419 : BitVec 32) (k0_hw178 : k0_chk178 i v1 v34 v419), ∀ (k0_h2 : k0_cond2 i v1 = 1#1), ∀ (k0_h7 : k0_cond7 v34 = 1#1), 8 ∣ (k0_mult174 v419).toNat := fun i v1 v34 v419 k0_hw178 k0_h2 k0_h7 => k0_hw178.1 k0_h2 k0_h7
theorem k0_off417_inb : ∀ (i : grid0.Coords) (v1 : BitVec 32) (v34 : BitVec 32) (v419 : BitVec 32) (k0_hw178 : k0_chk178 i v1 v34 v419), ∀ (k0_h2 : k0_cond2 i v1 = 1#1), ∀ (k0_h7 : k0_cond7 v34 = 1#1), ∀ a, (k0_off417 v419) a + S8x1024.size a ≤ S102400x1024.size a := fun i v1 v34 v419 k0_hw178 k0_h2 k0_h7 => k0_hw178.2 k0_h2 k0_h7

def k0_mult175 (v427 : BitVec 32) : BitVec 32 :=
  let c8_i32_262 : BitVec 32 := 8#32
  let v428 : BitVec 32 := Scalar.muli v427 c8_i32_262
  v428

def k0_off418 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off419 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c360_i32 : BitVec 32 := 360#32
  let c0_i32_263 : BitVec 32 := 0#32
  ![v66.toNat, 360, 0]
def k0_off420 (v427 : BitVec 32) : Fin 2 → Nat :=
  let c8_i32_262 : BitVec 32 := 8#32
  let v428 : BitVec 32 := Scalar.muli v427 c8_i32_262
  let v429 : BitVec 32 := v428
  let c0_i32_264 : BitVec 32 := 0#32
  ![v429.toNat, 0]

def k0_chk179 (i : grid0.Coords) (v1 : BitVec 32) (v34 : BitVec 32) (v427 : BitVec 32) : Prop :=
  (∀ (k0_h2 : k0_cond2 i v1 = 1#1), ∀ (k0_h7 : k0_cond7 v34 = 1#1), 8 ∣ (k0_mult175 v427).toNat) ∧
  (∀ (k0_h2 : k0_cond2 i v1 = 1#1), ∀ (k0_h7 : k0_cond7 v34 = 1#1), ∀ a, (k0_off420 v427) a + S8x1024.size a ≤ S102400x1024.size a)
theorem k0_mult175_dvd : ∀ (i : grid0.Coords) (v1 : BitVec 32) (v34 : BitVec 32) (v427 : BitVec 32) (k0_hw179 : k0_chk179 i v1 v34 v427), ∀ (k0_h2 : k0_cond2 i v1 = 1#1), ∀ (k0_h7 : k0_cond7 v34 = 1#1), 8 ∣ (k0_mult175 v427).toNat := fun i v1 v34 v427 k0_hw179 k0_h2 k0_h7 => k0_hw179.1 k0_h2 k0_h7
theorem k0_off420_inb : ∀ (i : grid0.Coords) (v1 : BitVec 32) (v34 : BitVec 32) (v427 : BitVec 32) (k0_hw179 : k0_chk179 i v1 v34 v427), ∀ (k0_h2 : k0_cond2 i v1 = 1#1), ∀ (k0_h7 : k0_cond7 v34 = 1#1), ∀ a, (k0_off420 v427) a + S8x1024.size a ≤ S102400x1024.size a := fun i v1 v34 v427 k0_hw179 k0_h2 k0_h7 => k0_hw179.2 k0_h2 k0_h7

def k0_mult176 (v435 : BitVec 32) : BitVec 32 :=
  let c8_i32_267 : BitVec 32 := 8#32
  let v436 : BitVec 32 := Scalar.muli v435 c8_i32_267
  v436

def k0_off421 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off422 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c368_i32 : BitVec 32 := 368#32
  let c0_i32_268 : BitVec 32 := 0#32
  ![v66.toNat, 368, 0]
def k0_off423 (v435 : BitVec 32) : Fin 2 → Nat :=
  let c8_i32_267 : BitVec 32 := 8#32
  let v436 : BitVec 32 := Scalar.muli v435 c8_i32_267
  let v437 : BitVec 32 := v436
  let c0_i32_269 : BitVec 32 := 0#32
  ![v437.toNat, 0]

def k0_chk180 (i : grid0.Coords) (v1 : BitVec 32) (v34 : BitVec 32) (v435 : BitVec 32) : Prop :=
  (∀ (k0_h2 : k0_cond2 i v1 = 1#1), ∀ (k0_h7 : k0_cond7 v34 = 1#1), 8 ∣ (k0_mult176 v435).toNat) ∧
  (∀ (k0_h2 : k0_cond2 i v1 = 1#1), ∀ (k0_h7 : k0_cond7 v34 = 1#1), ∀ a, (k0_off423 v435) a + S8x1024.size a ≤ S102400x1024.size a)
theorem k0_mult176_dvd : ∀ (i : grid0.Coords) (v1 : BitVec 32) (v34 : BitVec 32) (v435 : BitVec 32) (k0_hw180 : k0_chk180 i v1 v34 v435), ∀ (k0_h2 : k0_cond2 i v1 = 1#1), ∀ (k0_h7 : k0_cond7 v34 = 1#1), 8 ∣ (k0_mult176 v435).toNat := fun i v1 v34 v435 k0_hw180 k0_h2 k0_h7 => k0_hw180.1 k0_h2 k0_h7
theorem k0_off423_inb : ∀ (i : grid0.Coords) (v1 : BitVec 32) (v34 : BitVec 32) (v435 : BitVec 32) (k0_hw180 : k0_chk180 i v1 v34 v435), ∀ (k0_h2 : k0_cond2 i v1 = 1#1), ∀ (k0_h7 : k0_cond7 v34 = 1#1), ∀ a, (k0_off423 v435) a + S8x1024.size a ≤ S102400x1024.size a := fun i v1 v34 v435 k0_hw180 k0_h2 k0_h7 => k0_hw180.2 k0_h2 k0_h7

def k0_mult177 (v443 : BitVec 32) : BitVec 32 :=
  let c8_i32_272 : BitVec 32 := 8#32
  let v444 : BitVec 32 := Scalar.muli v443 c8_i32_272
  v444

def k0_off424 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off425 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c376_i32 : BitVec 32 := 376#32
  let c0_i32_273 : BitVec 32 := 0#32
  ![v66.toNat, 376, 0]
def k0_off426 (v443 : BitVec 32) : Fin 2 → Nat :=
  let c8_i32_272 : BitVec 32 := 8#32
  let v444 : BitVec 32 := Scalar.muli v443 c8_i32_272
  let v445 : BitVec 32 := v444
  let c0_i32_274 : BitVec 32 := 0#32
  ![v445.toNat, 0]

def k0_chk181 (i : grid0.Coords) (v1 : BitVec 32) (v34 : BitVec 32) (v443 : BitVec 32) : Prop :=
  (∀ (k0_h2 : k0_cond2 i v1 = 1#1), ∀ (k0_h7 : k0_cond7 v34 = 1#1), 8 ∣ (k0_mult177 v443).toNat) ∧
  (∀ (k0_h2 : k0_cond2 i v1 = 1#1), ∀ (k0_h7 : k0_cond7 v34 = 1#1), ∀ a, (k0_off426 v443) a + S8x1024.size a ≤ S102400x1024.size a)
theorem k0_mult177_dvd : ∀ (i : grid0.Coords) (v1 : BitVec 32) (v34 : BitVec 32) (v443 : BitVec 32) (k0_hw181 : k0_chk181 i v1 v34 v443), ∀ (k0_h2 : k0_cond2 i v1 = 1#1), ∀ (k0_h7 : k0_cond7 v34 = 1#1), 8 ∣ (k0_mult177 v443).toNat := fun i v1 v34 v443 k0_hw181 k0_h2 k0_h7 => k0_hw181.1 k0_h2 k0_h7
theorem k0_off426_inb : ∀ (i : grid0.Coords) (v1 : BitVec 32) (v34 : BitVec 32) (v443 : BitVec 32) (k0_hw181 : k0_chk181 i v1 v34 v443), ∀ (k0_h2 : k0_cond2 i v1 = 1#1), ∀ (k0_h7 : k0_cond7 v34 = 1#1), ∀ a, (k0_off426 v443) a + S8x1024.size a ≤ S102400x1024.size a := fun i v1 v34 v443 k0_hw181 k0_h2 k0_h7 => k0_hw181.2 k0_h2 k0_h7

def k0_mult178 (v451 : BitVec 32) : BitVec 32 :=
  let c8_i32_277 : BitVec 32 := 8#32
  let v452 : BitVec 32 := Scalar.muli v451 c8_i32_277
  v452

def k0_off427 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off428 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c384_i32 : BitVec 32 := 384#32
  let c0_i32_278 : BitVec 32 := 0#32
  ![v66.toNat, 384, 0]
def k0_off429 (v451 : BitVec 32) : Fin 2 → Nat :=
  let c8_i32_277 : BitVec 32 := 8#32
  let v452 : BitVec 32 := Scalar.muli v451 c8_i32_277
  let v453 : BitVec 32 := v452
  let c0_i32_279 : BitVec 32 := 0#32
  ![v453.toNat, 0]

def k0_chk182 (i : grid0.Coords) (v1 : BitVec 32) (v34 : BitVec 32) (v451 : BitVec 32) : Prop :=
  (∀ (k0_h2 : k0_cond2 i v1 = 1#1), ∀ (k0_h7 : k0_cond7 v34 = 1#1), 8 ∣ (k0_mult178 v451).toNat) ∧
  (∀ (k0_h2 : k0_cond2 i v1 = 1#1), ∀ (k0_h7 : k0_cond7 v34 = 1#1), ∀ a, (k0_off429 v451) a + S8x1024.size a ≤ S102400x1024.size a)
theorem k0_mult178_dvd : ∀ (i : grid0.Coords) (v1 : BitVec 32) (v34 : BitVec 32) (v451 : BitVec 32) (k0_hw182 : k0_chk182 i v1 v34 v451), ∀ (k0_h2 : k0_cond2 i v1 = 1#1), ∀ (k0_h7 : k0_cond7 v34 = 1#1), 8 ∣ (k0_mult178 v451).toNat := fun i v1 v34 v451 k0_hw182 k0_h2 k0_h7 => k0_hw182.1 k0_h2 k0_h7
theorem k0_off429_inb : ∀ (i : grid0.Coords) (v1 : BitVec 32) (v34 : BitVec 32) (v451 : BitVec 32) (k0_hw182 : k0_chk182 i v1 v34 v451), ∀ (k0_h2 : k0_cond2 i v1 = 1#1), ∀ (k0_h7 : k0_cond7 v34 = 1#1), ∀ a, (k0_off429 v451) a + S8x1024.size a ≤ S102400x1024.size a := fun i v1 v34 v451 k0_hw182 k0_h2 k0_h7 => k0_hw182.2 k0_h2 k0_h7

def k0_mult179 (v459 : BitVec 32) : BitVec 32 :=
  let c8_i32_282 : BitVec 32 := 8#32
  let v460 : BitVec 32 := Scalar.muli v459 c8_i32_282
  v460

def k0_off430 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off431 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c392_i32 : BitVec 32 := 392#32
  let c0_i32_283 : BitVec 32 := 0#32
  ![v66.toNat, 392, 0]
def k0_off432 (v459 : BitVec 32) : Fin 2 → Nat :=
  let c8_i32_282 : BitVec 32 := 8#32
  let v460 : BitVec 32 := Scalar.muli v459 c8_i32_282
  let v461 : BitVec 32 := v460
  let c0_i32_284 : BitVec 32 := 0#32
  ![v461.toNat, 0]

def k0_chk183 (i : grid0.Coords) (v1 : BitVec 32) (v34 : BitVec 32) (v459 : BitVec 32) : Prop :=
  (∀ (k0_h2 : k0_cond2 i v1 = 1#1), ∀ (k0_h7 : k0_cond7 v34 = 1#1), 8 ∣ (k0_mult179 v459).toNat) ∧
  (∀ (k0_h2 : k0_cond2 i v1 = 1#1), ∀ (k0_h7 : k0_cond7 v34 = 1#1), ∀ a, (k0_off432 v459) a + S8x1024.size a ≤ S102400x1024.size a)
theorem k0_mult179_dvd : ∀ (i : grid0.Coords) (v1 : BitVec 32) (v34 : BitVec 32) (v459 : BitVec 32) (k0_hw183 : k0_chk183 i v1 v34 v459), ∀ (k0_h2 : k0_cond2 i v1 = 1#1), ∀ (k0_h7 : k0_cond7 v34 = 1#1), 8 ∣ (k0_mult179 v459).toNat := fun i v1 v34 v459 k0_hw183 k0_h2 k0_h7 => k0_hw183.1 k0_h2 k0_h7
theorem k0_off432_inb : ∀ (i : grid0.Coords) (v1 : BitVec 32) (v34 : BitVec 32) (v459 : BitVec 32) (k0_hw183 : k0_chk183 i v1 v34 v459), ∀ (k0_h2 : k0_cond2 i v1 = 1#1), ∀ (k0_h7 : k0_cond7 v34 = 1#1), ∀ a, (k0_off432 v459) a + S8x1024.size a ≤ S102400x1024.size a := fun i v1 v34 v459 k0_hw183 k0_h2 k0_h7 => k0_hw183.2 k0_h2 k0_h7

def k0_mult180 (v467 : BitVec 32) : BitVec 32 :=
  let c8_i32_287 : BitVec 32 := 8#32
  let v468 : BitVec 32 := Scalar.muli v467 c8_i32_287
  v468

def k0_off433 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off434 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c400_i32 : BitVec 32 := 400#32
  let c0_i32_288 : BitVec 32 := 0#32
  ![v66.toNat, 400, 0]
def k0_off435 (v467 : BitVec 32) : Fin 2 → Nat :=
  let c8_i32_287 : BitVec 32 := 8#32
  let v468 : BitVec 32 := Scalar.muli v467 c8_i32_287
  let v469 : BitVec 32 := v468
  let c0_i32_289 : BitVec 32 := 0#32
  ![v469.toNat, 0]

def k0_chk184 (i : grid0.Coords) (v1 : BitVec 32) (v34 : BitVec 32) (v467 : BitVec 32) : Prop :=
  (∀ (k0_h2 : k0_cond2 i v1 = 1#1), ∀ (k0_h7 : k0_cond7 v34 = 1#1), 8 ∣ (k0_mult180 v467).toNat) ∧
  (∀ (k0_h2 : k0_cond2 i v1 = 1#1), ∀ (k0_h7 : k0_cond7 v34 = 1#1), ∀ a, (k0_off435 v467) a + S8x1024.size a ≤ S102400x1024.size a)
theorem k0_mult180_dvd : ∀ (i : grid0.Coords) (v1 : BitVec 32) (v34 : BitVec 32) (v467 : BitVec 32) (k0_hw184 : k0_chk184 i v1 v34 v467), ∀ (k0_h2 : k0_cond2 i v1 = 1#1), ∀ (k0_h7 : k0_cond7 v34 = 1#1), 8 ∣ (k0_mult180 v467).toNat := fun i v1 v34 v467 k0_hw184 k0_h2 k0_h7 => k0_hw184.1 k0_h2 k0_h7
theorem k0_off435_inb : ∀ (i : grid0.Coords) (v1 : BitVec 32) (v34 : BitVec 32) (v467 : BitVec 32) (k0_hw184 : k0_chk184 i v1 v34 v467), ∀ (k0_h2 : k0_cond2 i v1 = 1#1), ∀ (k0_h7 : k0_cond7 v34 = 1#1), ∀ a, (k0_off435 v467) a + S8x1024.size a ≤ S102400x1024.size a := fun i v1 v34 v467 k0_hw184 k0_h2 k0_h7 => k0_hw184.2 k0_h2 k0_h7

def k0_mult181 (v475 : BitVec 32) : BitVec 32 :=
  let c8_i32_292 : BitVec 32 := 8#32
  let v476 : BitVec 32 := Scalar.muli v475 c8_i32_292
  v476

def k0_off436 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off437 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c408_i32 : BitVec 32 := 408#32
  let c0_i32_293 : BitVec 32 := 0#32
  ![v66.toNat, 408, 0]
def k0_off438 (v475 : BitVec 32) : Fin 2 → Nat :=
  let c8_i32_292 : BitVec 32 := 8#32
  let v476 : BitVec 32 := Scalar.muli v475 c8_i32_292
  let v477 : BitVec 32 := v476
  let c0_i32_294 : BitVec 32 := 0#32
  ![v477.toNat, 0]

def k0_chk185 (i : grid0.Coords) (v1 : BitVec 32) (v34 : BitVec 32) (v475 : BitVec 32) : Prop :=
  (∀ (k0_h2 : k0_cond2 i v1 = 1#1), ∀ (k0_h7 : k0_cond7 v34 = 1#1), 8 ∣ (k0_mult181 v475).toNat) ∧
  (∀ (k0_h2 : k0_cond2 i v1 = 1#1), ∀ (k0_h7 : k0_cond7 v34 = 1#1), ∀ a, (k0_off438 v475) a + S8x1024.size a ≤ S102400x1024.size a)
theorem k0_mult181_dvd : ∀ (i : grid0.Coords) (v1 : BitVec 32) (v34 : BitVec 32) (v475 : BitVec 32) (k0_hw185 : k0_chk185 i v1 v34 v475), ∀ (k0_h2 : k0_cond2 i v1 = 1#1), ∀ (k0_h7 : k0_cond7 v34 = 1#1), 8 ∣ (k0_mult181 v475).toNat := fun i v1 v34 v475 k0_hw185 k0_h2 k0_h7 => k0_hw185.1 k0_h2 k0_h7
theorem k0_off438_inb : ∀ (i : grid0.Coords) (v1 : BitVec 32) (v34 : BitVec 32) (v475 : BitVec 32) (k0_hw185 : k0_chk185 i v1 v34 v475), ∀ (k0_h2 : k0_cond2 i v1 = 1#1), ∀ (k0_h7 : k0_cond7 v34 = 1#1), ∀ a, (k0_off438 v475) a + S8x1024.size a ≤ S102400x1024.size a := fun i v1 v34 v475 k0_hw185 k0_h2 k0_h7 => k0_hw185.2 k0_h2 k0_h7

def k0_mult182 (v483 : BitVec 32) : BitVec 32 :=
  let c8_i32_297 : BitVec 32 := 8#32
  let v484 : BitVec 32 := Scalar.muli v483 c8_i32_297
  v484

def k0_off439 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off440 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c416_i32 : BitVec 32 := 416#32
  let c0_i32_298 : BitVec 32 := 0#32
  ![v66.toNat, 416, 0]
def k0_off441 (v483 : BitVec 32) : Fin 2 → Nat :=
  let c8_i32_297 : BitVec 32 := 8#32
  let v484 : BitVec 32 := Scalar.muli v483 c8_i32_297
  let v485 : BitVec 32 := v484
  let c0_i32_299 : BitVec 32 := 0#32
  ![v485.toNat, 0]

def k0_chk186 (i : grid0.Coords) (v1 : BitVec 32) (v34 : BitVec 32) (v483 : BitVec 32) : Prop :=
  (∀ (k0_h2 : k0_cond2 i v1 = 1#1), ∀ (k0_h7 : k0_cond7 v34 = 1#1), 8 ∣ (k0_mult182 v483).toNat) ∧
  (∀ (k0_h2 : k0_cond2 i v1 = 1#1), ∀ (k0_h7 : k0_cond7 v34 = 1#1), ∀ a, (k0_off441 v483) a + S8x1024.size a ≤ S102400x1024.size a)
theorem k0_mult182_dvd : ∀ (i : grid0.Coords) (v1 : BitVec 32) (v34 : BitVec 32) (v483 : BitVec 32) (k0_hw186 : k0_chk186 i v1 v34 v483), ∀ (k0_h2 : k0_cond2 i v1 = 1#1), ∀ (k0_h7 : k0_cond7 v34 = 1#1), 8 ∣ (k0_mult182 v483).toNat := fun i v1 v34 v483 k0_hw186 k0_h2 k0_h7 => k0_hw186.1 k0_h2 k0_h7
theorem k0_off441_inb : ∀ (i : grid0.Coords) (v1 : BitVec 32) (v34 : BitVec 32) (v483 : BitVec 32) (k0_hw186 : k0_chk186 i v1 v34 v483), ∀ (k0_h2 : k0_cond2 i v1 = 1#1), ∀ (k0_h7 : k0_cond7 v34 = 1#1), ∀ a, (k0_off441 v483) a + S8x1024.size a ≤ S102400x1024.size a := fun i v1 v34 v483 k0_hw186 k0_h2 k0_h7 => k0_hw186.2 k0_h2 k0_h7

def k0_mult183 (v491 : BitVec 32) : BitVec 32 :=
  let c8_i32_302 : BitVec 32 := 8#32
  let v492 : BitVec 32 := Scalar.muli v491 c8_i32_302
  v492

def k0_off442 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off443 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c424_i32 : BitVec 32 := 424#32
  let c0_i32_303 : BitVec 32 := 0#32
  ![v66.toNat, 424, 0]
def k0_off444 (v491 : BitVec 32) : Fin 2 → Nat :=
  let c8_i32_302 : BitVec 32 := 8#32
  let v492 : BitVec 32 := Scalar.muli v491 c8_i32_302
  let v493 : BitVec 32 := v492
  let c0_i32_304 : BitVec 32 := 0#32
  ![v493.toNat, 0]

def k0_chk187 (i : grid0.Coords) (v1 : BitVec 32) (v34 : BitVec 32) (v491 : BitVec 32) : Prop :=
  (∀ (k0_h2 : k0_cond2 i v1 = 1#1), ∀ (k0_h7 : k0_cond7 v34 = 1#1), 8 ∣ (k0_mult183 v491).toNat) ∧
  (∀ (k0_h2 : k0_cond2 i v1 = 1#1), ∀ (k0_h7 : k0_cond7 v34 = 1#1), ∀ a, (k0_off444 v491) a + S8x1024.size a ≤ S102400x1024.size a)
theorem k0_mult183_dvd : ∀ (i : grid0.Coords) (v1 : BitVec 32) (v34 : BitVec 32) (v491 : BitVec 32) (k0_hw187 : k0_chk187 i v1 v34 v491), ∀ (k0_h2 : k0_cond2 i v1 = 1#1), ∀ (k0_h7 : k0_cond7 v34 = 1#1), 8 ∣ (k0_mult183 v491).toNat := fun i v1 v34 v491 k0_hw187 k0_h2 k0_h7 => k0_hw187.1 k0_h2 k0_h7
theorem k0_off444_inb : ∀ (i : grid0.Coords) (v1 : BitVec 32) (v34 : BitVec 32) (v491 : BitVec 32) (k0_hw187 : k0_chk187 i v1 v34 v491), ∀ (k0_h2 : k0_cond2 i v1 = 1#1), ∀ (k0_h7 : k0_cond7 v34 = 1#1), ∀ a, (k0_off444 v491) a + S8x1024.size a ≤ S102400x1024.size a := fun i v1 v34 v491 k0_hw187 k0_h2 k0_h7 => k0_hw187.2 k0_h2 k0_h7

def k0_mult184 (v499 : BitVec 32) : BitVec 32 :=
  let c8_i32_307 : BitVec 32 := 8#32
  let v500 : BitVec 32 := Scalar.muli v499 c8_i32_307
  v500

def k0_off445 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off446 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c432_i32 : BitVec 32 := 432#32
  let c0_i32_308 : BitVec 32 := 0#32
  ![v66.toNat, 432, 0]
def k0_off447 (v499 : BitVec 32) : Fin 2 → Nat :=
  let c8_i32_307 : BitVec 32 := 8#32
  let v500 : BitVec 32 := Scalar.muli v499 c8_i32_307
  let v501 : BitVec 32 := v500
  let c0_i32_309 : BitVec 32 := 0#32
  ![v501.toNat, 0]

def k0_chk188 (i : grid0.Coords) (v1 : BitVec 32) (v34 : BitVec 32) (v499 : BitVec 32) : Prop :=
  (∀ (k0_h2 : k0_cond2 i v1 = 1#1), ∀ (k0_h7 : k0_cond7 v34 = 1#1), 8 ∣ (k0_mult184 v499).toNat) ∧
  (∀ (k0_h2 : k0_cond2 i v1 = 1#1), ∀ (k0_h7 : k0_cond7 v34 = 1#1), ∀ a, (k0_off447 v499) a + S8x1024.size a ≤ S102400x1024.size a)
theorem k0_mult184_dvd : ∀ (i : grid0.Coords) (v1 : BitVec 32) (v34 : BitVec 32) (v499 : BitVec 32) (k0_hw188 : k0_chk188 i v1 v34 v499), ∀ (k0_h2 : k0_cond2 i v1 = 1#1), ∀ (k0_h7 : k0_cond7 v34 = 1#1), 8 ∣ (k0_mult184 v499).toNat := fun i v1 v34 v499 k0_hw188 k0_h2 k0_h7 => k0_hw188.1 k0_h2 k0_h7
theorem k0_off447_inb : ∀ (i : grid0.Coords) (v1 : BitVec 32) (v34 : BitVec 32) (v499 : BitVec 32) (k0_hw188 : k0_chk188 i v1 v34 v499), ∀ (k0_h2 : k0_cond2 i v1 = 1#1), ∀ (k0_h7 : k0_cond7 v34 = 1#1), ∀ a, (k0_off447 v499) a + S8x1024.size a ≤ S102400x1024.size a := fun i v1 v34 v499 k0_hw188 k0_h2 k0_h7 => k0_hw188.2 k0_h2 k0_h7

def k0_mult185 (v507 : BitVec 32) : BitVec 32 :=
  let c8_i32_312 : BitVec 32 := 8#32
  let v508 : BitVec 32 := Scalar.muli v507 c8_i32_312
  v508

def k0_off448 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off449 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c440_i32 : BitVec 32 := 440#32
  let c0_i32_313 : BitVec 32 := 0#32
  ![v66.toNat, 440, 0]
def k0_off450 (v507 : BitVec 32) : Fin 2 → Nat :=
  let c8_i32_312 : BitVec 32 := 8#32
  let v508 : BitVec 32 := Scalar.muli v507 c8_i32_312
  let v509 : BitVec 32 := v508
  let c0_i32_314 : BitVec 32 := 0#32
  ![v509.toNat, 0]

def k0_chk189 (i : grid0.Coords) (v1 : BitVec 32) (v34 : BitVec 32) (v507 : BitVec 32) : Prop :=
  (∀ (k0_h2 : k0_cond2 i v1 = 1#1), ∀ (k0_h7 : k0_cond7 v34 = 1#1), 8 ∣ (k0_mult185 v507).toNat) ∧
  (∀ (k0_h2 : k0_cond2 i v1 = 1#1), ∀ (k0_h7 : k0_cond7 v34 = 1#1), ∀ a, (k0_off450 v507) a + S8x1024.size a ≤ S102400x1024.size a)
theorem k0_mult185_dvd : ∀ (i : grid0.Coords) (v1 : BitVec 32) (v34 : BitVec 32) (v507 : BitVec 32) (k0_hw189 : k0_chk189 i v1 v34 v507), ∀ (k0_h2 : k0_cond2 i v1 = 1#1), ∀ (k0_h7 : k0_cond7 v34 = 1#1), 8 ∣ (k0_mult185 v507).toNat := fun i v1 v34 v507 k0_hw189 k0_h2 k0_h7 => k0_hw189.1 k0_h2 k0_h7
theorem k0_off450_inb : ∀ (i : grid0.Coords) (v1 : BitVec 32) (v34 : BitVec 32) (v507 : BitVec 32) (k0_hw189 : k0_chk189 i v1 v34 v507), ∀ (k0_h2 : k0_cond2 i v1 = 1#1), ∀ (k0_h7 : k0_cond7 v34 = 1#1), ∀ a, (k0_off450 v507) a + S8x1024.size a ≤ S102400x1024.size a := fun i v1 v34 v507 k0_hw189 k0_h2 k0_h7 => k0_hw189.2 k0_h2 k0_h7

def k0_mult186 (v515 : BitVec 32) : BitVec 32 :=
  let c8_i32_317 : BitVec 32 := 8#32
  let v516 : BitVec 32 := Scalar.muli v515 c8_i32_317
  v516

def k0_off451 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off452 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c448_i32 : BitVec 32 := 448#32
  let c0_i32_318 : BitVec 32 := 0#32
  ![v66.toNat, 448, 0]
def k0_off453 (v515 : BitVec 32) : Fin 2 → Nat :=
  let c8_i32_317 : BitVec 32 := 8#32
  let v516 : BitVec 32 := Scalar.muli v515 c8_i32_317
  let v517 : BitVec 32 := v516
  let c0_i32_319 : BitVec 32 := 0#32
  ![v517.toNat, 0]

def k0_chk190 (i : grid0.Coords) (v1 : BitVec 32) (v34 : BitVec 32) (v515 : BitVec 32) : Prop :=
  (∀ (k0_h2 : k0_cond2 i v1 = 1#1), ∀ (k0_h7 : k0_cond7 v34 = 1#1), 8 ∣ (k0_mult186 v515).toNat) ∧
  (∀ (k0_h2 : k0_cond2 i v1 = 1#1), ∀ (k0_h7 : k0_cond7 v34 = 1#1), ∀ a, (k0_off453 v515) a + S8x1024.size a ≤ S102400x1024.size a)
theorem k0_mult186_dvd : ∀ (i : grid0.Coords) (v1 : BitVec 32) (v34 : BitVec 32) (v515 : BitVec 32) (k0_hw190 : k0_chk190 i v1 v34 v515), ∀ (k0_h2 : k0_cond2 i v1 = 1#1), ∀ (k0_h7 : k0_cond7 v34 = 1#1), 8 ∣ (k0_mult186 v515).toNat := fun i v1 v34 v515 k0_hw190 k0_h2 k0_h7 => k0_hw190.1 k0_h2 k0_h7
theorem k0_off453_inb : ∀ (i : grid0.Coords) (v1 : BitVec 32) (v34 : BitVec 32) (v515 : BitVec 32) (k0_hw190 : k0_chk190 i v1 v34 v515), ∀ (k0_h2 : k0_cond2 i v1 = 1#1), ∀ (k0_h7 : k0_cond7 v34 = 1#1), ∀ a, (k0_off453 v515) a + S8x1024.size a ≤ S102400x1024.size a := fun i v1 v34 v515 k0_hw190 k0_h2 k0_h7 => k0_hw190.2 k0_h2 k0_h7

def k0_mult187 (v523 : BitVec 32) : BitVec 32 :=
  let c8_i32_322 : BitVec 32 := 8#32
  let v524 : BitVec 32 := Scalar.muli v523 c8_i32_322
  v524

def k0_off454 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off455 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c456_i32 : BitVec 32 := 456#32
  let c0_i32_323 : BitVec 32 := 0#32
  ![v66.toNat, 456, 0]
def k0_off456 (v523 : BitVec 32) : Fin 2 → Nat :=
  let c8_i32_322 : BitVec 32 := 8#32
  let v524 : BitVec 32 := Scalar.muli v523 c8_i32_322
  let v525 : BitVec 32 := v524
  let c0_i32_324 : BitVec 32 := 0#32
  ![v525.toNat, 0]

def k0_chk191 (i : grid0.Coords) (v1 : BitVec 32) (v34 : BitVec 32) (v523 : BitVec 32) : Prop :=
  (∀ (k0_h2 : k0_cond2 i v1 = 1#1), ∀ (k0_h7 : k0_cond7 v34 = 1#1), 8 ∣ (k0_mult187 v523).toNat) ∧
  (∀ (k0_h2 : k0_cond2 i v1 = 1#1), ∀ (k0_h7 : k0_cond7 v34 = 1#1), ∀ a, (k0_off456 v523) a + S8x1024.size a ≤ S102400x1024.size a)
theorem k0_mult187_dvd : ∀ (i : grid0.Coords) (v1 : BitVec 32) (v34 : BitVec 32) (v523 : BitVec 32) (k0_hw191 : k0_chk191 i v1 v34 v523), ∀ (k0_h2 : k0_cond2 i v1 = 1#1), ∀ (k0_h7 : k0_cond7 v34 = 1#1), 8 ∣ (k0_mult187 v523).toNat := fun i v1 v34 v523 k0_hw191 k0_h2 k0_h7 => k0_hw191.1 k0_h2 k0_h7
theorem k0_off456_inb : ∀ (i : grid0.Coords) (v1 : BitVec 32) (v34 : BitVec 32) (v523 : BitVec 32) (k0_hw191 : k0_chk191 i v1 v34 v523), ∀ (k0_h2 : k0_cond2 i v1 = 1#1), ∀ (k0_h7 : k0_cond7 v34 = 1#1), ∀ a, (k0_off456 v523) a + S8x1024.size a ≤ S102400x1024.size a := fun i v1 v34 v523 k0_hw191 k0_h2 k0_h7 => k0_hw191.2 k0_h2 k0_h7

def k0_mult188 (v531 : BitVec 32) : BitVec 32 :=
  let c8_i32_327 : BitVec 32 := 8#32
  let v532 : BitVec 32 := Scalar.muli v531 c8_i32_327
  v532

def k0_off457 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off458 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c464_i32 : BitVec 32 := 464#32
  let c0_i32_328 : BitVec 32 := 0#32
  ![v66.toNat, 464, 0]
def k0_off459 (v531 : BitVec 32) : Fin 2 → Nat :=
  let c8_i32_327 : BitVec 32 := 8#32
  let v532 : BitVec 32 := Scalar.muli v531 c8_i32_327
  let v533 : BitVec 32 := v532
  let c0_i32_329 : BitVec 32 := 0#32
  ![v533.toNat, 0]

def k0_chk192 (i : grid0.Coords) (v1 : BitVec 32) (v34 : BitVec 32) (v531 : BitVec 32) : Prop :=
  (∀ (k0_h2 : k0_cond2 i v1 = 1#1), ∀ (k0_h7 : k0_cond7 v34 = 1#1), 8 ∣ (k0_mult188 v531).toNat) ∧
  (∀ (k0_h2 : k0_cond2 i v1 = 1#1), ∀ (k0_h7 : k0_cond7 v34 = 1#1), ∀ a, (k0_off459 v531) a + S8x1024.size a ≤ S102400x1024.size a)
theorem k0_mult188_dvd : ∀ (i : grid0.Coords) (v1 : BitVec 32) (v34 : BitVec 32) (v531 : BitVec 32) (k0_hw192 : k0_chk192 i v1 v34 v531), ∀ (k0_h2 : k0_cond2 i v1 = 1#1), ∀ (k0_h7 : k0_cond7 v34 = 1#1), 8 ∣ (k0_mult188 v531).toNat := fun i v1 v34 v531 k0_hw192 k0_h2 k0_h7 => k0_hw192.1 k0_h2 k0_h7
theorem k0_off459_inb : ∀ (i : grid0.Coords) (v1 : BitVec 32) (v34 : BitVec 32) (v531 : BitVec 32) (k0_hw192 : k0_chk192 i v1 v34 v531), ∀ (k0_h2 : k0_cond2 i v1 = 1#1), ∀ (k0_h7 : k0_cond7 v34 = 1#1), ∀ a, (k0_off459 v531) a + S8x1024.size a ≤ S102400x1024.size a := fun i v1 v34 v531 k0_hw192 k0_h2 k0_h7 => k0_hw192.2 k0_h2 k0_h7

def k0_mult189 (v539 : BitVec 32) : BitVec 32 :=
  let c8_i32_332 : BitVec 32 := 8#32
  let v540 : BitVec 32 := Scalar.muli v539 c8_i32_332
  v540

def k0_off460 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off461 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c472_i32 : BitVec 32 := 472#32
  let c0_i32_333 : BitVec 32 := 0#32
  ![v66.toNat, 472, 0]
def k0_off462 (v539 : BitVec 32) : Fin 2 → Nat :=
  let c8_i32_332 : BitVec 32 := 8#32
  let v540 : BitVec 32 := Scalar.muli v539 c8_i32_332
  let v541 : BitVec 32 := v540
  let c0_i32_334 : BitVec 32 := 0#32
  ![v541.toNat, 0]

def k0_chk193 (i : grid0.Coords) (v1 : BitVec 32) (v34 : BitVec 32) (v539 : BitVec 32) : Prop :=
  (∀ (k0_h2 : k0_cond2 i v1 = 1#1), ∀ (k0_h7 : k0_cond7 v34 = 1#1), 8 ∣ (k0_mult189 v539).toNat) ∧
  (∀ (k0_h2 : k0_cond2 i v1 = 1#1), ∀ (k0_h7 : k0_cond7 v34 = 1#1), ∀ a, (k0_off462 v539) a + S8x1024.size a ≤ S102400x1024.size a)
theorem k0_mult189_dvd : ∀ (i : grid0.Coords) (v1 : BitVec 32) (v34 : BitVec 32) (v539 : BitVec 32) (k0_hw193 : k0_chk193 i v1 v34 v539), ∀ (k0_h2 : k0_cond2 i v1 = 1#1), ∀ (k0_h7 : k0_cond7 v34 = 1#1), 8 ∣ (k0_mult189 v539).toNat := fun i v1 v34 v539 k0_hw193 k0_h2 k0_h7 => k0_hw193.1 k0_h2 k0_h7
theorem k0_off462_inb : ∀ (i : grid0.Coords) (v1 : BitVec 32) (v34 : BitVec 32) (v539 : BitVec 32) (k0_hw193 : k0_chk193 i v1 v34 v539), ∀ (k0_h2 : k0_cond2 i v1 = 1#1), ∀ (k0_h7 : k0_cond7 v34 = 1#1), ∀ a, (k0_off462 v539) a + S8x1024.size a ≤ S102400x1024.size a := fun i v1 v34 v539 k0_hw193 k0_h2 k0_h7 => k0_hw193.2 k0_h2 k0_h7

def k0_mult190 (v547 : BitVec 32) : BitVec 32 :=
  let c8_i32_337 : BitVec 32 := 8#32
  let v548 : BitVec 32 := Scalar.muli v547 c8_i32_337
  v548

def k0_off463 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off464 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c480_i32 : BitVec 32 := 480#32
  let c0_i32_338 : BitVec 32 := 0#32
  ![v66.toNat, 480, 0]
def k0_off465 (v547 : BitVec 32) : Fin 2 → Nat :=
  let c8_i32_337 : BitVec 32 := 8#32
  let v548 : BitVec 32 := Scalar.muli v547 c8_i32_337
  let v549 : BitVec 32 := v548
  let c0_i32_339 : BitVec 32 := 0#32
  ![v549.toNat, 0]

def k0_chk194 (i : grid0.Coords) (v1 : BitVec 32) (v34 : BitVec 32) (v547 : BitVec 32) : Prop :=
  (∀ (k0_h2 : k0_cond2 i v1 = 1#1), ∀ (k0_h7 : k0_cond7 v34 = 1#1), 8 ∣ (k0_mult190 v547).toNat) ∧
  (∀ (k0_h2 : k0_cond2 i v1 = 1#1), ∀ (k0_h7 : k0_cond7 v34 = 1#1), ∀ a, (k0_off465 v547) a + S8x1024.size a ≤ S102400x1024.size a)
theorem k0_mult190_dvd : ∀ (i : grid0.Coords) (v1 : BitVec 32) (v34 : BitVec 32) (v547 : BitVec 32) (k0_hw194 : k0_chk194 i v1 v34 v547), ∀ (k0_h2 : k0_cond2 i v1 = 1#1), ∀ (k0_h7 : k0_cond7 v34 = 1#1), 8 ∣ (k0_mult190 v547).toNat := fun i v1 v34 v547 k0_hw194 k0_h2 k0_h7 => k0_hw194.1 k0_h2 k0_h7
theorem k0_off465_inb : ∀ (i : grid0.Coords) (v1 : BitVec 32) (v34 : BitVec 32) (v547 : BitVec 32) (k0_hw194 : k0_chk194 i v1 v34 v547), ∀ (k0_h2 : k0_cond2 i v1 = 1#1), ∀ (k0_h7 : k0_cond7 v34 = 1#1), ∀ a, (k0_off465 v547) a + S8x1024.size a ≤ S102400x1024.size a := fun i v1 v34 v547 k0_hw194 k0_h2 k0_h7 => k0_hw194.2 k0_h2 k0_h7

def k0_mult191 (v555 : BitVec 32) : BitVec 32 :=
  let c8_i32_342 : BitVec 32 := 8#32
  let v556 : BitVec 32 := Scalar.muli v555 c8_i32_342
  v556

def k0_off466 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off467 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c488_i32 : BitVec 32 := 488#32
  let c0_i32_343 : BitVec 32 := 0#32
  ![v66.toNat, 488, 0]
def k0_off468 (v555 : BitVec 32) : Fin 2 → Nat :=
  let c8_i32_342 : BitVec 32 := 8#32
  let v556 : BitVec 32 := Scalar.muli v555 c8_i32_342
  let v557 : BitVec 32 := v556
  let c0_i32_344 : BitVec 32 := 0#32
  ![v557.toNat, 0]

def k0_chk195 (i : grid0.Coords) (v1 : BitVec 32) (v34 : BitVec 32) (v555 : BitVec 32) : Prop :=
  (∀ (k0_h2 : k0_cond2 i v1 = 1#1), ∀ (k0_h7 : k0_cond7 v34 = 1#1), 8 ∣ (k0_mult191 v555).toNat) ∧
  (∀ (k0_h2 : k0_cond2 i v1 = 1#1), ∀ (k0_h7 : k0_cond7 v34 = 1#1), ∀ a, (k0_off468 v555) a + S8x1024.size a ≤ S102400x1024.size a)
theorem k0_mult191_dvd : ∀ (i : grid0.Coords) (v1 : BitVec 32) (v34 : BitVec 32) (v555 : BitVec 32) (k0_hw195 : k0_chk195 i v1 v34 v555), ∀ (k0_h2 : k0_cond2 i v1 = 1#1), ∀ (k0_h7 : k0_cond7 v34 = 1#1), 8 ∣ (k0_mult191 v555).toNat := fun i v1 v34 v555 k0_hw195 k0_h2 k0_h7 => k0_hw195.1 k0_h2 k0_h7
theorem k0_off468_inb : ∀ (i : grid0.Coords) (v1 : BitVec 32) (v34 : BitVec 32) (v555 : BitVec 32) (k0_hw195 : k0_chk195 i v1 v34 v555), ∀ (k0_h2 : k0_cond2 i v1 = 1#1), ∀ (k0_h7 : k0_cond7 v34 = 1#1), ∀ a, (k0_off468 v555) a + S8x1024.size a ≤ S102400x1024.size a := fun i v1 v34 v555 k0_hw195 k0_h2 k0_h7 => k0_hw195.2 k0_h2 k0_h7

def k0_mult192 (v563 : BitVec 32) : BitVec 32 :=
  let c8_i32_347 : BitVec 32 := 8#32
  let v564 : BitVec 32 := Scalar.muli v563 c8_i32_347
  v564

def k0_off469 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off470 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c496_i32 : BitVec 32 := 496#32
  let c0_i32_348 : BitVec 32 := 0#32
  ![v66.toNat, 496, 0]
def k0_off471 (v563 : BitVec 32) : Fin 2 → Nat :=
  let c8_i32_347 : BitVec 32 := 8#32
  let v564 : BitVec 32 := Scalar.muli v563 c8_i32_347
  let v565 : BitVec 32 := v564
  let c0_i32_349 : BitVec 32 := 0#32
  ![v565.toNat, 0]

def k0_chk196 (i : grid0.Coords) (v1 : BitVec 32) (v34 : BitVec 32) (v563 : BitVec 32) : Prop :=
  (∀ (k0_h2 : k0_cond2 i v1 = 1#1), ∀ (k0_h7 : k0_cond7 v34 = 1#1), 8 ∣ (k0_mult192 v563).toNat) ∧
  (∀ (k0_h2 : k0_cond2 i v1 = 1#1), ∀ (k0_h7 : k0_cond7 v34 = 1#1), ∀ a, (k0_off471 v563) a + S8x1024.size a ≤ S102400x1024.size a)
theorem k0_mult192_dvd : ∀ (i : grid0.Coords) (v1 : BitVec 32) (v34 : BitVec 32) (v563 : BitVec 32) (k0_hw196 : k0_chk196 i v1 v34 v563), ∀ (k0_h2 : k0_cond2 i v1 = 1#1), ∀ (k0_h7 : k0_cond7 v34 = 1#1), 8 ∣ (k0_mult192 v563).toNat := fun i v1 v34 v563 k0_hw196 k0_h2 k0_h7 => k0_hw196.1 k0_h2 k0_h7
theorem k0_off471_inb : ∀ (i : grid0.Coords) (v1 : BitVec 32) (v34 : BitVec 32) (v563 : BitVec 32) (k0_hw196 : k0_chk196 i v1 v34 v563), ∀ (k0_h2 : k0_cond2 i v1 = 1#1), ∀ (k0_h7 : k0_cond7 v34 = 1#1), ∀ a, (k0_off471 v563) a + S8x1024.size a ≤ S102400x1024.size a := fun i v1 v34 v563 k0_hw196 k0_h2 k0_h7 => k0_hw196.2 k0_h2 k0_h7

def k0_mult193 (v571 : BitVec 32) : BitVec 32 :=
  let c8_i32_352 : BitVec 32 := 8#32
  let v572 : BitVec 32 := Scalar.muli v571 c8_i32_352
  v572

def k0_off472 (i : grid0.Coords) : Fin 1 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  ![v66.toNat]
def k0_off473 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c504_i32 : BitVec 32 := 504#32
  let c0_i32_353 : BitVec 32 := 0#32
  ![v66.toNat, 504, 0]
def k0_off474 (v571 : BitVec 32) : Fin 2 → Nat :=
  let c8_i32_352 : BitVec 32 := 8#32
  let v572 : BitVec 32 := Scalar.muli v571 c8_i32_352
  let v573 : BitVec 32 := v572
  let c0_i32_354 : BitVec 32 := 0#32
  ![v573.toNat, 0]

def k0_chk197 (i : grid0.Coords) (v1 : BitVec 32) (v34 : BitVec 32) (v571 : BitVec 32) : Prop :=
  (∀ (k0_h2 : k0_cond2 i v1 = 1#1), ∀ (k0_h7 : k0_cond7 v34 = 1#1), 8 ∣ (k0_mult193 v571).toNat) ∧
  (∀ (k0_h2 : k0_cond2 i v1 = 1#1), ∀ (k0_h7 : k0_cond7 v34 = 1#1), ∀ a, (k0_off474 v571) a + S8x1024.size a ≤ S102400x1024.size a)
theorem k0_mult193_dvd : ∀ (i : grid0.Coords) (v1 : BitVec 32) (v34 : BitVec 32) (v571 : BitVec 32) (k0_hw197 : k0_chk197 i v1 v34 v571), ∀ (k0_h2 : k0_cond2 i v1 = 1#1), ∀ (k0_h7 : k0_cond7 v34 = 1#1), 8 ∣ (k0_mult193 v571).toNat := fun i v1 v34 v571 k0_hw197 k0_h2 k0_h7 => k0_hw197.1 k0_h2 k0_h7
theorem k0_off474_inb : ∀ (i : grid0.Coords) (v1 : BitVec 32) (v34 : BitVec 32) (v571 : BitVec 32) (k0_hw197 : k0_chk197 i v1 v34 v571), ∀ (k0_h2 : k0_cond2 i v1 = 1#1), ∀ (k0_h7 : k0_cond7 v34 = 1#1), ∀ a, (k0_off474 v571) a + S8x1024.size a ≤ S102400x1024.size a := fun i v1 v34 v571 k0_hw197 k0_h2 k0_h7 => k0_hw197.2 k0_h2 k0_h7

def k0_off475 (i : grid0.Coords) : Fin 3 → Nat :=
  let arg0 : BitVec 32 := BitVec.ofNat 32 (i 0).val
  let c1_i32 : BitVec 32 := 1#32
  let v0 : BitVec 32 := Scalar.andi arg0 c1_i32
  let v579 : Index := Scalar.indexCast v0
  let c0_355 : Index := 0#32
  let c0_356 : Index := 0#32
  ![v579.toNat, 0, 0]
def k0_cond8 (i : grid0.Coords) : BitVec 1 :=
  let arg0 : BitVec 32 := BitVec.ofNat 32 (i 0).val
  let c2_i32 : BitVec 32 := 2#32
  let v611 : BitVec 1 := Scalar.cmpi .sge arg0 c2_i32
  let v612 : BitVec 32 := Scalar.extui v611
  let c0_i32_373 : BitVec 32 := 0#32
  let v613 : BitVec 1 := Scalar.cmpi .ne v612 c0_i32_373
  v613

def k0_off476 (i : grid0.Coords) : Fin 1 → Nat :=
  let arg0 : BitVec 32 := BitVec.ofNat 32 (i 0).val
  let c2_i32_376 : BitVec 32 := 2#32
  let v618 : BitVec 32 := Scalar.subi arg0 c2_i32_376
  let c0_i32_377 : BitVec 32 := 0#32
  let v619 : BitVec 32 := Scalar.maxsi v618 c0_i32_377
  let v620 : Index := Scalar.indexCast v619
  ![v620.toNat]
def k0_mult194 (v621 : BitVec 32) : BitVec 32 :=
  let c8_i32_378 : BitVec 32 := 8#32
  let v622 : BitVec 32 := Scalar.muli v621 c8_i32_378
  v622

def k0_off477 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off478 (v621 : BitVec 32) : (Fin 2 → Nat) × (Fin 2 → Nat) :=
  let c0_i32_379 : BitVec 32 := 0#32
  let c0_i32_380 : BitVec 32 := 0#32
  let c8_i32_378 : BitVec 32 := 8#32
  let v622 : BitVec 32 := Scalar.muli v621 c8_i32_378
  let v623 : BitVec 32 := v622
  ⟨![0, 0], ![v623.toNat, 1024]⟩

def k0_off479 (i : grid0.Coords) (v621 : BitVec 32) : (Fin 3 → Nat) × (Fin 3 → Nat) :=
  let arg0 : BitVec 32 := BitVec.ofNat 32 (i 0).val
  let c1_i32 : BitVec 32 := 1#32
  let v0 : BitVec 32 := Scalar.andi arg0 c1_i32
  let c0_i32_381 : BitVec 32 := 0#32
  let c0_i32_382 : BitVec 32 := 0#32
  let c8_i32_378 : BitVec 32 := 8#32
  let v622 : BitVec 32 := Scalar.muli v621 c8_i32_378
  let v623 : BitVec 32 := v622
  ⟨![v0.toNat, 0, 0], ![1, v623.toNat, 1024]⟩

def k0_sz2 (v621 : BitVec 32) : Fin 2 → Nat :=
  let c8_i32_378 : BitVec 32 := 8#32
  let v622 : BitVec 32 := Scalar.muli v621 c8_i32_378
  let v623 : BitVec 32 := v622
  ![v623.toNat, 1024]

def k0_chk198 (i : grid0.Coords) (v1 : BitVec 32) (v34 : BitVec 32) (v621 : BitVec 32) : Prop :=
  (∀ (k0_h2 : k0_cond2 i v1 = 1#1), ∀ (k0_h7 : k0_cond7 v34 = 1#1), ∀ (k0_h8 : k0_cond8 i = 1#1), 8 ∣ (k0_mult194 v621).toNat) ∧
  (∀ (k0_h2 : k0_cond2 i v1 = 1#1), ∀ (k0_h7 : k0_cond7 v34 = 1#1), ∀ (k0_h8 : k0_cond8 i = 1#1), (⟨3, (k0_off479 i v621).2⟩ : Shape).Squeezes ⟨2, k0_sz2 v621⟩)
theorem k0_mult194_dvd : ∀ (i : grid0.Coords) (v1 : BitVec 32) (v34 : BitVec 32) (v621 : BitVec 32) (k0_hw198 : k0_chk198 i v1 v34 v621), ∀ (k0_h2 : k0_cond2 i v1 = 1#1), ∀ (k0_h7 : k0_cond7 v34 = 1#1), ∀ (k0_h8 : k0_cond8 i = 1#1), 8 ∣ (k0_mult194 v621).toNat := fun i v1 v34 v621 k0_hw198 k0_h2 k0_h7 k0_h8 => k0_hw198.1 k0_h2 k0_h7 k0_h8
theorem k0_sz2_squeezes : ∀ (i : grid0.Coords) (v1 : BitVec 32) (v34 : BitVec 32) (v621 : BitVec 32) (k0_hw198 : k0_chk198 i v1 v34 v621), ∀ (k0_h2 : k0_cond2 i v1 = 1#1), ∀ (k0_h7 : k0_cond7 v34 = 1#1), ∀ (k0_h8 : k0_cond8 i = 1#1), (⟨3, (k0_off479 i v621).2⟩ : Shape).Squeezes ⟨2, k0_sz2 v621⟩ := fun i v1 v34 v621 k0_hw198 k0_h2 k0_h7 k0_h8 => k0_hw198.2 k0_h2 k0_h7 k0_h8

def k0_mult195 (v66 : BitVec 32) : BitVec 32 :=
  let c8_i32_28 : BitVec 32 := 8#32
  let v67 : BitVec 32 := Scalar.muli v66 c8_i32_28
  v67
def k0_cond9 (v3 : BitVec 32) : BitVec 1 :=
  let c0_i32_14 : BitVec 32 := 0#32
  let v38 : BitVec 1 := Scalar.cmpi .sgt v3 c0_i32_14
  let v39 : BitVec 32 := Scalar.extui v38
  let c0_i32_15 : BitVec 32 := 0#32
  let v40 : BitVec 1 := Scalar.cmpi .ne v39 c0_i32_15
  v40

def k0_off480 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off481 (v66 : BitVec 32) : Fin 2 → Nat :=
  let c8_i32_28 : BitVec 32 := 8#32
  let v67 : BitVec 32 := Scalar.muli v66 c8_i32_28
  let v68 : BitVec 32 := v67
  let c0_i32_29 : BitVec 32 := 0#32
  ![v68.toNat, 0]

def k0_chk199 (i : grid0.Coords) (v1 : BitVec 32) (v3 : BitVec 32) (v66 : BitVec 32) : Prop :=
  (∀ (k0_h2 : k0_cond2 i v1 = 1#1), ∀ (k0_h9 : k0_cond9 v3 = 1#1), 8 ∣ (k0_mult195 v66).toNat) ∧
  (∀ (k0_h2 : k0_cond2 i v1 = 1#1), ∀ (k0_h9 : k0_cond9 v3 = 1#1), ∀ a, (k0_off481 v66) a + S8x1024.size a ≤ S102400x1024.size a)
theorem k0_mult195_dvd : ∀ (i : grid0.Coords) (v1 : BitVec 32) (v3 : BitVec 32) (v66 : BitVec 32) (k0_hw199 : k0_chk199 i v1 v3 v66), ∀ (k0_h2 : k0_cond2 i v1 = 1#1), ∀ (k0_h9 : k0_cond9 v3 = 1#1), 8 ∣ (k0_mult195 v66).toNat := fun i v1 v3 v66 k0_hw199 k0_h2 k0_h9 => k0_hw199.1 k0_h2 k0_h9
theorem k0_off481_inb : ∀ (i : grid0.Coords) (v1 : BitVec 32) (v3 : BitVec 32) (v66 : BitVec 32) (k0_hw199 : k0_chk199 i v1 v3 v66), ∀ (k0_h2 : k0_cond2 i v1 = 1#1), ∀ (k0_h9 : k0_cond9 v3 = 1#1), ∀ a, (k0_off481 v66) a + S8x1024.size a ≤ S102400x1024.size a := fun i v1 v3 v66 k0_hw199 k0_h2 k0_h9 => k0_hw199.2 k0_h2 k0_h9

def k0_off482 (i : grid0.Coords) : Fin 3 → Nat :=
  let arg0 : BitVec 32 := BitVec.ofNat 32 (i 0).val
  let c1_i32 : BitVec 32 := 1#32
  let v0 : BitVec 32 := Scalar.andi arg0 c1_i32
  let c0_i32_30 : BitVec 32 := 0#32
  let c0_i32_31 : BitVec 32 := 0#32
  ![v0.toNat, 0, 0]
def k0_mult196 (v74 : BitVec 32) : BitVec 32 :=
  let c8_i32_34 : BitVec 32 := 8#32
  let v75 : BitVec 32 := Scalar.muli v74 c8_i32_34
  v75

def k0_off483 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off484 (v74 : BitVec 32) : Fin 2 → Nat :=
  let c8_i32_34 : BitVec 32 := 8#32
  let v75 : BitVec 32 := Scalar.muli v74 c8_i32_34
  let v76 : BitVec 32 := v75
  let c0_i32_35 : BitVec 32 := 0#32
  ![v76.toNat, 0]

def k0_chk200 (i : grid0.Coords) (v1 : BitVec 32) (v3 : BitVec 32) (v74 : BitVec 32) : Prop :=
  (∀ (k0_h2 : k0_cond2 i v1 = 1#1), ∀ (k0_h9 : k0_cond9 v3 = 1#1), 8 ∣ (k0_mult196 v74).toNat) ∧
  (∀ (k0_h2 : k0_cond2 i v1 = 1#1), ∀ (k0_h9 : k0_cond9 v3 = 1#1), ∀ a, (k0_off484 v74) a + S8x1024.size a ≤ S102400x1024.size a)
theorem k0_mult196_dvd : ∀ (i : grid0.Coords) (v1 : BitVec 32) (v3 : BitVec 32) (v74 : BitVec 32) (k0_hw200 : k0_chk200 i v1 v3 v74), ∀ (k0_h2 : k0_cond2 i v1 = 1#1), ∀ (k0_h9 : k0_cond9 v3 = 1#1), 8 ∣ (k0_mult196 v74).toNat := fun i v1 v3 v74 k0_hw200 k0_h2 k0_h9 => k0_hw200.1 k0_h2 k0_h9
theorem k0_off484_inb : ∀ (i : grid0.Coords) (v1 : BitVec 32) (v3 : BitVec 32) (v74 : BitVec 32) (k0_hw200 : k0_chk200 i v1 v3 v74), ∀ (k0_h2 : k0_cond2 i v1 = 1#1), ∀ (k0_h9 : k0_cond9 v3 = 1#1), ∀ a, (k0_off484 v74) a + S8x1024.size a ≤ S102400x1024.size a := fun i v1 v3 v74 k0_hw200 k0_h2 k0_h9 => k0_hw200.2 k0_h2 k0_h9

def k0_off485 (i : grid0.Coords) : Fin 3 → Nat :=
  let arg0 : BitVec 32 := BitVec.ofNat 32 (i 0).val
  let c1_i32 : BitVec 32 := 1#32
  let v0 : BitVec 32 := Scalar.andi arg0 c1_i32
  let c8_i32_36 : BitVec 32 := 8#32
  let c0_i32_37 : BitVec 32 := 0#32
  ![v0.toNat, 8, 0]
def k0_mult197 (v82 : BitVec 32) : BitVec 32 :=
  let c8_i32_40 : BitVec 32 := 8#32
  let v83 : BitVec 32 := Scalar.muli v82 c8_i32_40
  v83

def k0_off486 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off487 (v82 : BitVec 32) : Fin 2 → Nat :=
  let c8_i32_40 : BitVec 32 := 8#32
  let v83 : BitVec 32 := Scalar.muli v82 c8_i32_40
  let v84 : BitVec 32 := v83
  let c0_i32_41 : BitVec 32 := 0#32
  ![v84.toNat, 0]

def k0_chk201 (i : grid0.Coords) (v1 : BitVec 32) (v3 : BitVec 32) (v82 : BitVec 32) : Prop :=
  (∀ (k0_h2 : k0_cond2 i v1 = 1#1), ∀ (k0_h9 : k0_cond9 v3 = 1#1), 8 ∣ (k0_mult197 v82).toNat) ∧
  (∀ (k0_h2 : k0_cond2 i v1 = 1#1), ∀ (k0_h9 : k0_cond9 v3 = 1#1), ∀ a, (k0_off487 v82) a + S8x1024.size a ≤ S102400x1024.size a)
theorem k0_mult197_dvd : ∀ (i : grid0.Coords) (v1 : BitVec 32) (v3 : BitVec 32) (v82 : BitVec 32) (k0_hw201 : k0_chk201 i v1 v3 v82), ∀ (k0_h2 : k0_cond2 i v1 = 1#1), ∀ (k0_h9 : k0_cond9 v3 = 1#1), 8 ∣ (k0_mult197 v82).toNat := fun i v1 v3 v82 k0_hw201 k0_h2 k0_h9 => k0_hw201.1 k0_h2 k0_h9
theorem k0_off487_inb : ∀ (i : grid0.Coords) (v1 : BitVec 32) (v3 : BitVec 32) (v82 : BitVec 32) (k0_hw201 : k0_chk201 i v1 v3 v82), ∀ (k0_h2 : k0_cond2 i v1 = 1#1), ∀ (k0_h9 : k0_cond9 v3 = 1#1), ∀ a, (k0_off487 v82) a + S8x1024.size a ≤ S102400x1024.size a := fun i v1 v3 v82 k0_hw201 k0_h2 k0_h9 => k0_hw201.2 k0_h2 k0_h9

def k0_off488 (i : grid0.Coords) : Fin 3 → Nat :=
  let arg0 : BitVec 32 := BitVec.ofNat 32 (i 0).val
  let c1_i32 : BitVec 32 := 1#32
  let v0 : BitVec 32 := Scalar.andi arg0 c1_i32
  let c16_i32_42 : BitVec 32 := 16#32
  let c0_i32_43 : BitVec 32 := 0#32
  ![v0.toNat, 16, 0]
def k0_mult198 (v90 : BitVec 32) : BitVec 32 :=
  let c8_i32_46 : BitVec 32 := 8#32
  let v91 : BitVec 32 := Scalar.muli v90 c8_i32_46
  v91

def k0_off489 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off490 (v90 : BitVec 32) : Fin 2 → Nat :=
  let c8_i32_46 : BitVec 32 := 8#32
  let v91 : BitVec 32 := Scalar.muli v90 c8_i32_46
  let v92 : BitVec 32 := v91
  let c0_i32_47 : BitVec 32 := 0#32
  ![v92.toNat, 0]

def k0_chk202 (i : grid0.Coords) (v1 : BitVec 32) (v3 : BitVec 32) (v90 : BitVec 32) : Prop :=
  (∀ (k0_h2 : k0_cond2 i v1 = 1#1), ∀ (k0_h9 : k0_cond9 v3 = 1#1), 8 ∣ (k0_mult198 v90).toNat) ∧
  (∀ (k0_h2 : k0_cond2 i v1 = 1#1), ∀ (k0_h9 : k0_cond9 v3 = 1#1), ∀ a, (k0_off490 v90) a + S8x1024.size a ≤ S102400x1024.size a)
theorem k0_mult198_dvd : ∀ (i : grid0.Coords) (v1 : BitVec 32) (v3 : BitVec 32) (v90 : BitVec 32) (k0_hw202 : k0_chk202 i v1 v3 v90), ∀ (k0_h2 : k0_cond2 i v1 = 1#1), ∀ (k0_h9 : k0_cond9 v3 = 1#1), 8 ∣ (k0_mult198 v90).toNat := fun i v1 v3 v90 k0_hw202 k0_h2 k0_h9 => k0_hw202.1 k0_h2 k0_h9
theorem k0_off490_inb : ∀ (i : grid0.Coords) (v1 : BitVec 32) (v3 : BitVec 32) (v90 : BitVec 32) (k0_hw202 : k0_chk202 i v1 v3 v90), ∀ (k0_h2 : k0_cond2 i v1 = 1#1), ∀ (k0_h9 : k0_cond9 v3 = 1#1), ∀ a, (k0_off490 v90) a + S8x1024.size a ≤ S102400x1024.size a := fun i v1 v3 v90 k0_hw202 k0_h2 k0_h9 => k0_hw202.2 k0_h2 k0_h9

def k0_off491 (i : grid0.Coords) : Fin 3 → Nat :=
  let arg0 : BitVec 32 := BitVec.ofNat 32 (i 0).val
  let c1_i32 : BitVec 32 := 1#32
  let v0 : BitVec 32 := Scalar.andi arg0 c1_i32
  let c24_i32_48 : BitVec 32 := 24#32
  let c0_i32_49 : BitVec 32 := 0#32
  ![v0.toNat, 24, 0]
def k0_mult199 (v98 : BitVec 32) : BitVec 32 :=
  let c8_i32_52 : BitVec 32 := 8#32
  let v99 : BitVec 32 := Scalar.muli v98 c8_i32_52
  v99

def k0_off492 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off493 (v98 : BitVec 32) : Fin 2 → Nat :=
  let c8_i32_52 : BitVec 32 := 8#32
  let v99 : BitVec 32 := Scalar.muli v98 c8_i32_52
  let v100 : BitVec 32 := v99
  let c0_i32_53 : BitVec 32 := 0#32
  ![v100.toNat, 0]

def k0_chk203 (i : grid0.Coords) (v1 : BitVec 32) (v3 : BitVec 32) (v98 : BitVec 32) : Prop :=
  (∀ (k0_h2 : k0_cond2 i v1 = 1#1), ∀ (k0_h9 : k0_cond9 v3 = 1#1), 8 ∣ (k0_mult199 v98).toNat) ∧
  (∀ (k0_h2 : k0_cond2 i v1 = 1#1), ∀ (k0_h9 : k0_cond9 v3 = 1#1), ∀ a, (k0_off493 v98) a + S8x1024.size a ≤ S102400x1024.size a)
theorem k0_mult199_dvd : ∀ (i : grid0.Coords) (v1 : BitVec 32) (v3 : BitVec 32) (v98 : BitVec 32) (k0_hw203 : k0_chk203 i v1 v3 v98), ∀ (k0_h2 : k0_cond2 i v1 = 1#1), ∀ (k0_h9 : k0_cond9 v3 = 1#1), 8 ∣ (k0_mult199 v98).toNat := fun i v1 v3 v98 k0_hw203 k0_h2 k0_h9 => k0_hw203.1 k0_h2 k0_h9
theorem k0_off493_inb : ∀ (i : grid0.Coords) (v1 : BitVec 32) (v3 : BitVec 32) (v98 : BitVec 32) (k0_hw203 : k0_chk203 i v1 v3 v98), ∀ (k0_h2 : k0_cond2 i v1 = 1#1), ∀ (k0_h9 : k0_cond9 v3 = 1#1), ∀ a, (k0_off493 v98) a + S8x1024.size a ≤ S102400x1024.size a := fun i v1 v3 v98 k0_hw203 k0_h2 k0_h9 => k0_hw203.2 k0_h2 k0_h9

def k0_off494 (i : grid0.Coords) : Fin 3 → Nat :=
  let arg0 : BitVec 32 := BitVec.ofNat 32 (i 0).val
  let c1_i32 : BitVec 32 := 1#32
  let v0 : BitVec 32 := Scalar.andi arg0 c1_i32
  let c32_i32_54 : BitVec 32 := 32#32
  let c0_i32_55 : BitVec 32 := 0#32
  ![v0.toNat, 32, 0]
def k0_mult200 (v106 : BitVec 32) : BitVec 32 :=
  let c8_i32_58 : BitVec 32 := 8#32
  let v107 : BitVec 32 := Scalar.muli v106 c8_i32_58
  v107

def k0_off495 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off496 (v106 : BitVec 32) : Fin 2 → Nat :=
  let c8_i32_58 : BitVec 32 := 8#32
  let v107 : BitVec 32 := Scalar.muli v106 c8_i32_58
  let v108 : BitVec 32 := v107
  let c0_i32_59 : BitVec 32 := 0#32
  ![v108.toNat, 0]

def k0_chk204 (i : grid0.Coords) (v1 : BitVec 32) (v3 : BitVec 32) (v106 : BitVec 32) : Prop :=
  (∀ (k0_h2 : k0_cond2 i v1 = 1#1), ∀ (k0_h9 : k0_cond9 v3 = 1#1), 8 ∣ (k0_mult200 v106).toNat) ∧
  (∀ (k0_h2 : k0_cond2 i v1 = 1#1), ∀ (k0_h9 : k0_cond9 v3 = 1#1), ∀ a, (k0_off496 v106) a + S8x1024.size a ≤ S102400x1024.size a)
theorem k0_mult200_dvd : ∀ (i : grid0.Coords) (v1 : BitVec 32) (v3 : BitVec 32) (v106 : BitVec 32) (k0_hw204 : k0_chk204 i v1 v3 v106), ∀ (k0_h2 : k0_cond2 i v1 = 1#1), ∀ (k0_h9 : k0_cond9 v3 = 1#1), 8 ∣ (k0_mult200 v106).toNat := fun i v1 v3 v106 k0_hw204 k0_h2 k0_h9 => k0_hw204.1 k0_h2 k0_h9
theorem k0_off496_inb : ∀ (i : grid0.Coords) (v1 : BitVec 32) (v3 : BitVec 32) (v106 : BitVec 32) (k0_hw204 : k0_chk204 i v1 v3 v106), ∀ (k0_h2 : k0_cond2 i v1 = 1#1), ∀ (k0_h9 : k0_cond9 v3 = 1#1), ∀ a, (k0_off496 v106) a + S8x1024.size a ≤ S102400x1024.size a := fun i v1 v3 v106 k0_hw204 k0_h2 k0_h9 => k0_hw204.2 k0_h2 k0_h9

def k0_off497 (i : grid0.Coords) : Fin 3 → Nat :=
  let arg0 : BitVec 32 := BitVec.ofNat 32 (i 0).val
  let c1_i32 : BitVec 32 := 1#32
  let v0 : BitVec 32 := Scalar.andi arg0 c1_i32
  let c40_i32_60 : BitVec 32 := 40#32
  let c0_i32_61 : BitVec 32 := 0#32
  ![v0.toNat, 40, 0]
def k0_mult201 (v114 : BitVec 32) : BitVec 32 :=
  let c8_i32_64 : BitVec 32 := 8#32
  let v115 : BitVec 32 := Scalar.muli v114 c8_i32_64
  v115

def k0_off498 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off499 (v114 : BitVec 32) : Fin 2 → Nat :=
  let c8_i32_64 : BitVec 32 := 8#32
  let v115 : BitVec 32 := Scalar.muli v114 c8_i32_64
  let v116 : BitVec 32 := v115
  let c0_i32_65 : BitVec 32 := 0#32
  ![v116.toNat, 0]

def k0_chk205 (i : grid0.Coords) (v1 : BitVec 32) (v3 : BitVec 32) (v114 : BitVec 32) : Prop :=
  (∀ (k0_h2 : k0_cond2 i v1 = 1#1), ∀ (k0_h9 : k0_cond9 v3 = 1#1), 8 ∣ (k0_mult201 v114).toNat) ∧
  (∀ (k0_h2 : k0_cond2 i v1 = 1#1), ∀ (k0_h9 : k0_cond9 v3 = 1#1), ∀ a, (k0_off499 v114) a + S8x1024.size a ≤ S102400x1024.size a)
theorem k0_mult201_dvd : ∀ (i : grid0.Coords) (v1 : BitVec 32) (v3 : BitVec 32) (v114 : BitVec 32) (k0_hw205 : k0_chk205 i v1 v3 v114), ∀ (k0_h2 : k0_cond2 i v1 = 1#1), ∀ (k0_h9 : k0_cond9 v3 = 1#1), 8 ∣ (k0_mult201 v114).toNat := fun i v1 v3 v114 k0_hw205 k0_h2 k0_h9 => k0_hw205.1 k0_h2 k0_h9
theorem k0_off499_inb : ∀ (i : grid0.Coords) (v1 : BitVec 32) (v3 : BitVec 32) (v114 : BitVec 32) (k0_hw205 : k0_chk205 i v1 v3 v114), ∀ (k0_h2 : k0_cond2 i v1 = 1#1), ∀ (k0_h9 : k0_cond9 v3 = 1#1), ∀ a, (k0_off499 v114) a + S8x1024.size a ≤ S102400x1024.size a := fun i v1 v3 v114 k0_hw205 k0_h2 k0_h9 => k0_hw205.2 k0_h2 k0_h9

def k0_off500 (i : grid0.Coords) : Fin 3 → Nat :=
  let arg0 : BitVec 32 := BitVec.ofNat 32 (i 0).val
  let c1_i32 : BitVec 32 := 1#32
  let v0 : BitVec 32 := Scalar.andi arg0 c1_i32
  let c48_i32_66 : BitVec 32 := 48#32
  let c0_i32_67 : BitVec 32 := 0#32
  ![v0.toNat, 48, 0]
def k0_mult202 (v122 : BitVec 32) : BitVec 32 :=
  let c8_i32_70 : BitVec 32 := 8#32
  let v123 : BitVec 32 := Scalar.muli v122 c8_i32_70
  v123

def k0_off501 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off502 (v122 : BitVec 32) : Fin 2 → Nat :=
  let c8_i32_70 : BitVec 32 := 8#32
  let v123 : BitVec 32 := Scalar.muli v122 c8_i32_70
  let v124 : BitVec 32 := v123
  let c0_i32_71 : BitVec 32 := 0#32
  ![v124.toNat, 0]

def k0_chk206 (i : grid0.Coords) (v1 : BitVec 32) (v3 : BitVec 32) (v122 : BitVec 32) : Prop :=
  (∀ (k0_h2 : k0_cond2 i v1 = 1#1), ∀ (k0_h9 : k0_cond9 v3 = 1#1), 8 ∣ (k0_mult202 v122).toNat) ∧
  (∀ (k0_h2 : k0_cond2 i v1 = 1#1), ∀ (k0_h9 : k0_cond9 v3 = 1#1), ∀ a, (k0_off502 v122) a + S8x1024.size a ≤ S102400x1024.size a)
theorem k0_mult202_dvd : ∀ (i : grid0.Coords) (v1 : BitVec 32) (v3 : BitVec 32) (v122 : BitVec 32) (k0_hw206 : k0_chk206 i v1 v3 v122), ∀ (k0_h2 : k0_cond2 i v1 = 1#1), ∀ (k0_h9 : k0_cond9 v3 = 1#1), 8 ∣ (k0_mult202 v122).toNat := fun i v1 v3 v122 k0_hw206 k0_h2 k0_h9 => k0_hw206.1 k0_h2 k0_h9
theorem k0_off502_inb : ∀ (i : grid0.Coords) (v1 : BitVec 32) (v3 : BitVec 32) (v122 : BitVec 32) (k0_hw206 : k0_chk206 i v1 v3 v122), ∀ (k0_h2 : k0_cond2 i v1 = 1#1), ∀ (k0_h9 : k0_cond9 v3 = 1#1), ∀ a, (k0_off502 v122) a + S8x1024.size a ≤ S102400x1024.size a := fun i v1 v3 v122 k0_hw206 k0_h2 k0_h9 => k0_hw206.2 k0_h2 k0_h9

def k0_off503 (i : grid0.Coords) : Fin 3 → Nat :=
  let arg0 : BitVec 32 := BitVec.ofNat 32 (i 0).val
  let c1_i32 : BitVec 32 := 1#32
  let v0 : BitVec 32 := Scalar.andi arg0 c1_i32
  let c56_i32_72 : BitVec 32 := 56#32
  let c0_i32_73 : BitVec 32 := 0#32
  ![v0.toNat, 56, 0]
def k0_mult203 (v66 : BitVec 32) : BitVec 32 :=
  let c8_i32_27 : BitVec 32 := 8#32
  let v67 : BitVec 32 := Scalar.muli v66 c8_i32_27
  v67
def k0_cond10 (v3 : BitVec 32) : BitVec 1 :=
  let c8_i32 : BitVec 32 := 8#32
  let v41 : BitVec 1 := Scalar.cmpi .sgt v3 c8_i32
  let v42 : BitVec 32 := Scalar.extui v41
  let c0_i32_16 : BitVec 32 := 0#32
  let v43 : BitVec 1 := Scalar.cmpi .ne v42 c0_i32_16
  v43

def k0_off504 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off505 (v66 : BitVec 32) : Fin 2 → Nat :=
  let c8_i32_27 : BitVec 32 := 8#32
  let v67 : BitVec 32 := Scalar.muli v66 c8_i32_27
  let v68 : BitVec 32 := v67
  let c0_i32_28 : BitVec 32 := 0#32
  ![v68.toNat, 0]

def k0_chk207 (i : grid0.Coords) (v1 : BitVec 32) (v3 : BitVec 32) (v66 : BitVec 32) : Prop :=
  (∀ (k0_h2 : k0_cond2 i v1 = 1#1), ∀ (k0_h10 : k0_cond10 v3 = 1#1), 8 ∣ (k0_mult203 v66).toNat) ∧
  (∀ (k0_h2 : k0_cond2 i v1 = 1#1), ∀ (k0_h10 : k0_cond10 v3 = 1#1), ∀ a, (k0_off505 v66) a + S8x1024.size a ≤ S102400x1024.size a)
theorem k0_mult203_dvd : ∀ (i : grid0.Coords) (v1 : BitVec 32) (v3 : BitVec 32) (v66 : BitVec 32) (k0_hw207 : k0_chk207 i v1 v3 v66), ∀ (k0_h2 : k0_cond2 i v1 = 1#1), ∀ (k0_h10 : k0_cond10 v3 = 1#1), 8 ∣ (k0_mult203 v66).toNat := fun i v1 v3 v66 k0_hw207 k0_h2 k0_h10 => k0_hw207.1 k0_h2 k0_h10
theorem k0_off505_inb : ∀ (i : grid0.Coords) (v1 : BitVec 32) (v3 : BitVec 32) (v66 : BitVec 32) (k0_hw207 : k0_chk207 i v1 v3 v66), ∀ (k0_h2 : k0_cond2 i v1 = 1#1), ∀ (k0_h10 : k0_cond10 v3 = 1#1), ∀ a, (k0_off505 v66) a + S8x1024.size a ≤ S102400x1024.size a := fun i v1 v3 v66 k0_hw207 k0_h2 k0_h10 => k0_hw207.2 k0_h2 k0_h10

def k0_off506 (i : grid0.Coords) : Fin 3 → Nat :=
  let arg0 : BitVec 32 := BitVec.ofNat 32 (i 0).val
  let c1_i32 : BitVec 32 := 1#32
  let v0 : BitVec 32 := Scalar.andi arg0 c1_i32
  let c64_i32 : BitVec 32 := 64#32
  let c0_i32_29 : BitVec 32 := 0#32
  ![v0.toNat, 64, 0]
def k0_mult204 (v74 : BitVec 32) : BitVec 32 :=
  let c8_i32_32 : BitVec 32 := 8#32
  let v75 : BitVec 32 := Scalar.muli v74 c8_i32_32
  v75

def k0_off507 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off508 (v74 : BitVec 32) : Fin 2 → Nat :=
  let c8_i32_32 : BitVec 32 := 8#32
  let v75 : BitVec 32 := Scalar.muli v74 c8_i32_32
  let v76 : BitVec 32 := v75
  let c0_i32_33 : BitVec 32 := 0#32
  ![v76.toNat, 0]

def k0_chk208 (i : grid0.Coords) (v1 : BitVec 32) (v3 : BitVec 32) (v74 : BitVec 32) : Prop :=
  (∀ (k0_h2 : k0_cond2 i v1 = 1#1), ∀ (k0_h10 : k0_cond10 v3 = 1#1), 8 ∣ (k0_mult204 v74).toNat) ∧
  (∀ (k0_h2 : k0_cond2 i v1 = 1#1), ∀ (k0_h10 : k0_cond10 v3 = 1#1), ∀ a, (k0_off508 v74) a + S8x1024.size a ≤ S102400x1024.size a)
theorem k0_mult204_dvd : ∀ (i : grid0.Coords) (v1 : BitVec 32) (v3 : BitVec 32) (v74 : BitVec 32) (k0_hw208 : k0_chk208 i v1 v3 v74), ∀ (k0_h2 : k0_cond2 i v1 = 1#1), ∀ (k0_h10 : k0_cond10 v3 = 1#1), 8 ∣ (k0_mult204 v74).toNat := fun i v1 v3 v74 k0_hw208 k0_h2 k0_h10 => k0_hw208.1 k0_h2 k0_h10
theorem k0_off508_inb : ∀ (i : grid0.Coords) (v1 : BitVec 32) (v3 : BitVec 32) (v74 : BitVec 32) (k0_hw208 : k0_chk208 i v1 v3 v74), ∀ (k0_h2 : k0_cond2 i v1 = 1#1), ∀ (k0_h10 : k0_cond10 v3 = 1#1), ∀ a, (k0_off508 v74) a + S8x1024.size a ≤ S102400x1024.size a := fun i v1 v3 v74 k0_hw208 k0_h2 k0_h10 => k0_hw208.2 k0_h2 k0_h10

def k0_off509 (i : grid0.Coords) : Fin 3 → Nat :=
  let arg0 : BitVec 32 := BitVec.ofNat 32 (i 0).val
  let c1_i32 : BitVec 32 := 1#32
  let v0 : BitVec 32 := Scalar.andi arg0 c1_i32
  let c72_i32 : BitVec 32 := 72#32
  let c0_i32_34 : BitVec 32 := 0#32
  ![v0.toNat, 72, 0]
def k0_mult205 (v82 : BitVec 32) : BitVec 32 :=
  let c8_i32_37 : BitVec 32 := 8#32
  let v83 : BitVec 32 := Scalar.muli v82 c8_i32_37
  v83

def k0_off510 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off511 (v82 : BitVec 32) : Fin 2 → Nat :=
  let c8_i32_37 : BitVec 32 := 8#32
  let v83 : BitVec 32 := Scalar.muli v82 c8_i32_37
  let v84 : BitVec 32 := v83
  let c0_i32_38 : BitVec 32 := 0#32
  ![v84.toNat, 0]

def k0_chk209 (i : grid0.Coords) (v1 : BitVec 32) (v3 : BitVec 32) (v82 : BitVec 32) : Prop :=
  (∀ (k0_h2 : k0_cond2 i v1 = 1#1), ∀ (k0_h10 : k0_cond10 v3 = 1#1), 8 ∣ (k0_mult205 v82).toNat) ∧
  (∀ (k0_h2 : k0_cond2 i v1 = 1#1), ∀ (k0_h10 : k0_cond10 v3 = 1#1), ∀ a, (k0_off511 v82) a + S8x1024.size a ≤ S102400x1024.size a)
theorem k0_mult205_dvd : ∀ (i : grid0.Coords) (v1 : BitVec 32) (v3 : BitVec 32) (v82 : BitVec 32) (k0_hw209 : k0_chk209 i v1 v3 v82), ∀ (k0_h2 : k0_cond2 i v1 = 1#1), ∀ (k0_h10 : k0_cond10 v3 = 1#1), 8 ∣ (k0_mult205 v82).toNat := fun i v1 v3 v82 k0_hw209 k0_h2 k0_h10 => k0_hw209.1 k0_h2 k0_h10
theorem k0_off511_inb : ∀ (i : grid0.Coords) (v1 : BitVec 32) (v3 : BitVec 32) (v82 : BitVec 32) (k0_hw209 : k0_chk209 i v1 v3 v82), ∀ (k0_h2 : k0_cond2 i v1 = 1#1), ∀ (k0_h10 : k0_cond10 v3 = 1#1), ∀ a, (k0_off511 v82) a + S8x1024.size a ≤ S102400x1024.size a := fun i v1 v3 v82 k0_hw209 k0_h2 k0_h10 => k0_hw209.2 k0_h2 k0_h10

def k0_off512 (i : grid0.Coords) : Fin 3 → Nat :=
  let arg0 : BitVec 32 := BitVec.ofNat 32 (i 0).val
  let c1_i32 : BitVec 32 := 1#32
  let v0 : BitVec 32 := Scalar.andi arg0 c1_i32
  let c80_i32 : BitVec 32 := 80#32
  let c0_i32_39 : BitVec 32 := 0#32
  ![v0.toNat, 80, 0]
def k0_mult206 (v90 : BitVec 32) : BitVec 32 :=
  let c8_i32_42 : BitVec 32 := 8#32
  let v91 : BitVec 32 := Scalar.muli v90 c8_i32_42
  v91

def k0_off513 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off514 (v90 : BitVec 32) : Fin 2 → Nat :=
  let c8_i32_42 : BitVec 32 := 8#32
  let v91 : BitVec 32 := Scalar.muli v90 c8_i32_42
  let v92 : BitVec 32 := v91
  let c0_i32_43 : BitVec 32 := 0#32
  ![v92.toNat, 0]

def k0_chk210 (i : grid0.Coords) (v1 : BitVec 32) (v3 : BitVec 32) (v90 : BitVec 32) : Prop :=
  (∀ (k0_h2 : k0_cond2 i v1 = 1#1), ∀ (k0_h10 : k0_cond10 v3 = 1#1), 8 ∣ (k0_mult206 v90).toNat) ∧
  (∀ (k0_h2 : k0_cond2 i v1 = 1#1), ∀ (k0_h10 : k0_cond10 v3 = 1#1), ∀ a, (k0_off514 v90) a + S8x1024.size a ≤ S102400x1024.size a)
theorem k0_mult206_dvd : ∀ (i : grid0.Coords) (v1 : BitVec 32) (v3 : BitVec 32) (v90 : BitVec 32) (k0_hw210 : k0_chk210 i v1 v3 v90), ∀ (k0_h2 : k0_cond2 i v1 = 1#1), ∀ (k0_h10 : k0_cond10 v3 = 1#1), 8 ∣ (k0_mult206 v90).toNat := fun i v1 v3 v90 k0_hw210 k0_h2 k0_h10 => k0_hw210.1 k0_h2 k0_h10
theorem k0_off514_inb : ∀ (i : grid0.Coords) (v1 : BitVec 32) (v3 : BitVec 32) (v90 : BitVec 32) (k0_hw210 : k0_chk210 i v1 v3 v90), ∀ (k0_h2 : k0_cond2 i v1 = 1#1), ∀ (k0_h10 : k0_cond10 v3 = 1#1), ∀ a, (k0_off514 v90) a + S8x1024.size a ≤ S102400x1024.size a := fun i v1 v3 v90 k0_hw210 k0_h2 k0_h10 => k0_hw210.2 k0_h2 k0_h10

def k0_off515 (i : grid0.Coords) : Fin 3 → Nat :=
  let arg0 : BitVec 32 := BitVec.ofNat 32 (i 0).val
  let c1_i32 : BitVec 32 := 1#32
  let v0 : BitVec 32 := Scalar.andi arg0 c1_i32
  let c88_i32 : BitVec 32 := 88#32
  let c0_i32_44 : BitVec 32 := 0#32
  ![v0.toNat, 88, 0]
def k0_mult207 (v98 : BitVec 32) : BitVec 32 :=
  let c8_i32_47 : BitVec 32 := 8#32
  let v99 : BitVec 32 := Scalar.muli v98 c8_i32_47
  v99

def k0_off516 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off517 (v98 : BitVec 32) : Fin 2 → Nat :=
  let c8_i32_47 : BitVec 32 := 8#32
  let v99 : BitVec 32 := Scalar.muli v98 c8_i32_47
  let v100 : BitVec 32 := v99
  let c0_i32_48 : BitVec 32 := 0#32
  ![v100.toNat, 0]

def k0_chk211 (i : grid0.Coords) (v1 : BitVec 32) (v3 : BitVec 32) (v98 : BitVec 32) : Prop :=
  (∀ (k0_h2 : k0_cond2 i v1 = 1#1), ∀ (k0_h10 : k0_cond10 v3 = 1#1), 8 ∣ (k0_mult207 v98).toNat) ∧
  (∀ (k0_h2 : k0_cond2 i v1 = 1#1), ∀ (k0_h10 : k0_cond10 v3 = 1#1), ∀ a, (k0_off517 v98) a + S8x1024.size a ≤ S102400x1024.size a)
theorem k0_mult207_dvd : ∀ (i : grid0.Coords) (v1 : BitVec 32) (v3 : BitVec 32) (v98 : BitVec 32) (k0_hw211 : k0_chk211 i v1 v3 v98), ∀ (k0_h2 : k0_cond2 i v1 = 1#1), ∀ (k0_h10 : k0_cond10 v3 = 1#1), 8 ∣ (k0_mult207 v98).toNat := fun i v1 v3 v98 k0_hw211 k0_h2 k0_h10 => k0_hw211.1 k0_h2 k0_h10
theorem k0_off517_inb : ∀ (i : grid0.Coords) (v1 : BitVec 32) (v3 : BitVec 32) (v98 : BitVec 32) (k0_hw211 : k0_chk211 i v1 v3 v98), ∀ (k0_h2 : k0_cond2 i v1 = 1#1), ∀ (k0_h10 : k0_cond10 v3 = 1#1), ∀ a, (k0_off517 v98) a + S8x1024.size a ≤ S102400x1024.size a := fun i v1 v3 v98 k0_hw211 k0_h2 k0_h10 => k0_hw211.2 k0_h2 k0_h10

def k0_off518 (i : grid0.Coords) : Fin 3 → Nat :=
  let arg0 : BitVec 32 := BitVec.ofNat 32 (i 0).val
  let c1_i32 : BitVec 32 := 1#32
  let v0 : BitVec 32 := Scalar.andi arg0 c1_i32
  let c96_i32 : BitVec 32 := 96#32
  let c0_i32_49 : BitVec 32 := 0#32
  ![v0.toNat, 96, 0]
def k0_mult208 (v106 : BitVec 32) : BitVec 32 :=
  let c8_i32_52 : BitVec 32 := 8#32
  let v107 : BitVec 32 := Scalar.muli v106 c8_i32_52
  v107

def k0_off519 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off520 (v106 : BitVec 32) : Fin 2 → Nat :=
  let c8_i32_52 : BitVec 32 := 8#32
  let v107 : BitVec 32 := Scalar.muli v106 c8_i32_52
  let v108 : BitVec 32 := v107
  let c0_i32_53 : BitVec 32 := 0#32
  ![v108.toNat, 0]

def k0_chk212 (i : grid0.Coords) (v1 : BitVec 32) (v3 : BitVec 32) (v106 : BitVec 32) : Prop :=
  (∀ (k0_h2 : k0_cond2 i v1 = 1#1), ∀ (k0_h10 : k0_cond10 v3 = 1#1), 8 ∣ (k0_mult208 v106).toNat) ∧
  (∀ (k0_h2 : k0_cond2 i v1 = 1#1), ∀ (k0_h10 : k0_cond10 v3 = 1#1), ∀ a, (k0_off520 v106) a + S8x1024.size a ≤ S102400x1024.size a)
theorem k0_mult208_dvd : ∀ (i : grid0.Coords) (v1 : BitVec 32) (v3 : BitVec 32) (v106 : BitVec 32) (k0_hw212 : k0_chk212 i v1 v3 v106), ∀ (k0_h2 : k0_cond2 i v1 = 1#1), ∀ (k0_h10 : k0_cond10 v3 = 1#1), 8 ∣ (k0_mult208 v106).toNat := fun i v1 v3 v106 k0_hw212 k0_h2 k0_h10 => k0_hw212.1 k0_h2 k0_h10
theorem k0_off520_inb : ∀ (i : grid0.Coords) (v1 : BitVec 32) (v3 : BitVec 32) (v106 : BitVec 32) (k0_hw212 : k0_chk212 i v1 v3 v106), ∀ (k0_h2 : k0_cond2 i v1 = 1#1), ∀ (k0_h10 : k0_cond10 v3 = 1#1), ∀ a, (k0_off520 v106) a + S8x1024.size a ≤ S102400x1024.size a := fun i v1 v3 v106 k0_hw212 k0_h2 k0_h10 => k0_hw212.2 k0_h2 k0_h10

def k0_off521 (i : grid0.Coords) : Fin 3 → Nat :=
  let arg0 : BitVec 32 := BitVec.ofNat 32 (i 0).val
  let c1_i32 : BitVec 32 := 1#32
  let v0 : BitVec 32 := Scalar.andi arg0 c1_i32
  let c104_i32 : BitVec 32 := 104#32
  let c0_i32_54 : BitVec 32 := 0#32
  ![v0.toNat, 104, 0]
def k0_mult209 (v114 : BitVec 32) : BitVec 32 :=
  let c8_i32_57 : BitVec 32 := 8#32
  let v115 : BitVec 32 := Scalar.muli v114 c8_i32_57
  v115

def k0_off522 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off523 (v114 : BitVec 32) : Fin 2 → Nat :=
  let c8_i32_57 : BitVec 32 := 8#32
  let v115 : BitVec 32 := Scalar.muli v114 c8_i32_57
  let v116 : BitVec 32 := v115
  let c0_i32_58 : BitVec 32 := 0#32
  ![v116.toNat, 0]

def k0_chk213 (i : grid0.Coords) (v1 : BitVec 32) (v3 : BitVec 32) (v114 : BitVec 32) : Prop :=
  (∀ (k0_h2 : k0_cond2 i v1 = 1#1), ∀ (k0_h10 : k0_cond10 v3 = 1#1), 8 ∣ (k0_mult209 v114).toNat) ∧
  (∀ (k0_h2 : k0_cond2 i v1 = 1#1), ∀ (k0_h10 : k0_cond10 v3 = 1#1), ∀ a, (k0_off523 v114) a + S8x1024.size a ≤ S102400x1024.size a)
theorem k0_mult209_dvd : ∀ (i : grid0.Coords) (v1 : BitVec 32) (v3 : BitVec 32) (v114 : BitVec 32) (k0_hw213 : k0_chk213 i v1 v3 v114), ∀ (k0_h2 : k0_cond2 i v1 = 1#1), ∀ (k0_h10 : k0_cond10 v3 = 1#1), 8 ∣ (k0_mult209 v114).toNat := fun i v1 v3 v114 k0_hw213 k0_h2 k0_h10 => k0_hw213.1 k0_h2 k0_h10
theorem k0_off523_inb : ∀ (i : grid0.Coords) (v1 : BitVec 32) (v3 : BitVec 32) (v114 : BitVec 32) (k0_hw213 : k0_chk213 i v1 v3 v114), ∀ (k0_h2 : k0_cond2 i v1 = 1#1), ∀ (k0_h10 : k0_cond10 v3 = 1#1), ∀ a, (k0_off523 v114) a + S8x1024.size a ≤ S102400x1024.size a := fun i v1 v3 v114 k0_hw213 k0_h2 k0_h10 => k0_hw213.2 k0_h2 k0_h10

def k0_off524 (i : grid0.Coords) : Fin 3 → Nat :=
  let arg0 : BitVec 32 := BitVec.ofNat 32 (i 0).val
  let c1_i32 : BitVec 32 := 1#32
  let v0 : BitVec 32 := Scalar.andi arg0 c1_i32
  let c112_i32 : BitVec 32 := 112#32
  let c0_i32_59 : BitVec 32 := 0#32
  ![v0.toNat, 112, 0]
def k0_mult210 (v122 : BitVec 32) : BitVec 32 :=
  let c8_i32_62 : BitVec 32 := 8#32
  let v123 : BitVec 32 := Scalar.muli v122 c8_i32_62
  v123

def k0_off525 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off526 (v122 : BitVec 32) : Fin 2 → Nat :=
  let c8_i32_62 : BitVec 32 := 8#32
  let v123 : BitVec 32 := Scalar.muli v122 c8_i32_62
  let v124 : BitVec 32 := v123
  let c0_i32_63 : BitVec 32 := 0#32
  ![v124.toNat, 0]

def k0_chk214 (i : grid0.Coords) (v1 : BitVec 32) (v3 : BitVec 32) (v122 : BitVec 32) : Prop :=
  (∀ (k0_h2 : k0_cond2 i v1 = 1#1), ∀ (k0_h10 : k0_cond10 v3 = 1#1), 8 ∣ (k0_mult210 v122).toNat) ∧
  (∀ (k0_h2 : k0_cond2 i v1 = 1#1), ∀ (k0_h10 : k0_cond10 v3 = 1#1), ∀ a, (k0_off526 v122) a + S8x1024.size a ≤ S102400x1024.size a)
theorem k0_mult210_dvd : ∀ (i : grid0.Coords) (v1 : BitVec 32) (v3 : BitVec 32) (v122 : BitVec 32) (k0_hw214 : k0_chk214 i v1 v3 v122), ∀ (k0_h2 : k0_cond2 i v1 = 1#1), ∀ (k0_h10 : k0_cond10 v3 = 1#1), 8 ∣ (k0_mult210 v122).toNat := fun i v1 v3 v122 k0_hw214 k0_h2 k0_h10 => k0_hw214.1 k0_h2 k0_h10
theorem k0_off526_inb : ∀ (i : grid0.Coords) (v1 : BitVec 32) (v3 : BitVec 32) (v122 : BitVec 32) (k0_hw214 : k0_chk214 i v1 v3 v122), ∀ (k0_h2 : k0_cond2 i v1 = 1#1), ∀ (k0_h10 : k0_cond10 v3 = 1#1), ∀ a, (k0_off526 v122) a + S8x1024.size a ≤ S102400x1024.size a := fun i v1 v3 v122 k0_hw214 k0_h2 k0_h10 => k0_hw214.2 k0_h2 k0_h10

def k0_off527 (i : grid0.Coords) : Fin 3 → Nat :=
  let arg0 : BitVec 32 := BitVec.ofNat 32 (i 0).val
  let c1_i32 : BitVec 32 := 1#32
  let v0 : BitVec 32 := Scalar.andi arg0 c1_i32
  let c120_i32 : BitVec 32 := 120#32
  let c0_i32_64 : BitVec 32 := 0#32
  ![v0.toNat, 120, 0]
def k0_mult211 (v66 : BitVec 32) : BitVec 32 :=
  let c8_i32_27 : BitVec 32 := 8#32
  let v67 : BitVec 32 := Scalar.muli v66 c8_i32_27
  v67
def k0_cond11 (v3 : BitVec 32) : BitVec 1 :=
  let c16_i32 : BitVec 32 := 16#32
  let v44 : BitVec 1 := Scalar.cmpi .sgt v3 c16_i32
  let v45 : BitVec 32 := Scalar.extui v44
  let c0_i32_17 : BitVec 32 := 0#32
  let v46 : BitVec 1 := Scalar.cmpi .ne v45 c0_i32_17
  v46

def k0_off528 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off529 (v66 : BitVec 32) : Fin 2 → Nat :=
  let c8_i32_27 : BitVec 32 := 8#32
  let v67 : BitVec 32 := Scalar.muli v66 c8_i32_27
  let v68 : BitVec 32 := v67
  let c0_i32_28 : BitVec 32 := 0#32
  ![v68.toNat, 0]

def k0_chk215 (i : grid0.Coords) (v1 : BitVec 32) (v3 : BitVec 32) (v66 : BitVec 32) : Prop :=
  (∀ (k0_h2 : k0_cond2 i v1 = 1#1), ∀ (k0_h11 : k0_cond11 v3 = 1#1), 8 ∣ (k0_mult211 v66).toNat) ∧
  (∀ (k0_h2 : k0_cond2 i v1 = 1#1), ∀ (k0_h11 : k0_cond11 v3 = 1#1), ∀ a, (k0_off529 v66) a + S8x1024.size a ≤ S102400x1024.size a)
theorem k0_mult211_dvd : ∀ (i : grid0.Coords) (v1 : BitVec 32) (v3 : BitVec 32) (v66 : BitVec 32) (k0_hw215 : k0_chk215 i v1 v3 v66), ∀ (k0_h2 : k0_cond2 i v1 = 1#1), ∀ (k0_h11 : k0_cond11 v3 = 1#1), 8 ∣ (k0_mult211 v66).toNat := fun i v1 v3 v66 k0_hw215 k0_h2 k0_h11 => k0_hw215.1 k0_h2 k0_h11
theorem k0_off529_inb : ∀ (i : grid0.Coords) (v1 : BitVec 32) (v3 : BitVec 32) (v66 : BitVec 32) (k0_hw215 : k0_chk215 i v1 v3 v66), ∀ (k0_h2 : k0_cond2 i v1 = 1#1), ∀ (k0_h11 : k0_cond11 v3 = 1#1), ∀ a, (k0_off529 v66) a + S8x1024.size a ≤ S102400x1024.size a := fun i v1 v3 v66 k0_hw215 k0_h2 k0_h11 => k0_hw215.2 k0_h2 k0_h11

def k0_off530 (i : grid0.Coords) : Fin 3 → Nat :=
  let arg0 : BitVec 32 := BitVec.ofNat 32 (i 0).val
  let c1_i32 : BitVec 32 := 1#32
  let v0 : BitVec 32 := Scalar.andi arg0 c1_i32
  let c128_i32 : BitVec 32 := 128#32
  let c0_i32_29 : BitVec 32 := 0#32
  ![v0.toNat, 128, 0]
def k0_mult212 (v74 : BitVec 32) : BitVec 32 :=
  let c8_i32_32 : BitVec 32 := 8#32
  let v75 : BitVec 32 := Scalar.muli v74 c8_i32_32
  v75

def k0_off531 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off532 (v74 : BitVec 32) : Fin 2 → Nat :=
  let c8_i32_32 : BitVec 32 := 8#32
  let v75 : BitVec 32 := Scalar.muli v74 c8_i32_32
  let v76 : BitVec 32 := v75
  let c0_i32_33 : BitVec 32 := 0#32
  ![v76.toNat, 0]

def k0_chk216 (i : grid0.Coords) (v1 : BitVec 32) (v3 : BitVec 32) (v74 : BitVec 32) : Prop :=
  (∀ (k0_h2 : k0_cond2 i v1 = 1#1), ∀ (k0_h11 : k0_cond11 v3 = 1#1), 8 ∣ (k0_mult212 v74).toNat) ∧
  (∀ (k0_h2 : k0_cond2 i v1 = 1#1), ∀ (k0_h11 : k0_cond11 v3 = 1#1), ∀ a, (k0_off532 v74) a + S8x1024.size a ≤ S102400x1024.size a)
theorem k0_mult212_dvd : ∀ (i : grid0.Coords) (v1 : BitVec 32) (v3 : BitVec 32) (v74 : BitVec 32) (k0_hw216 : k0_chk216 i v1 v3 v74), ∀ (k0_h2 : k0_cond2 i v1 = 1#1), ∀ (k0_h11 : k0_cond11 v3 = 1#1), 8 ∣ (k0_mult212 v74).toNat := fun i v1 v3 v74 k0_hw216 k0_h2 k0_h11 => k0_hw216.1 k0_h2 k0_h11
theorem k0_off532_inb : ∀ (i : grid0.Coords) (v1 : BitVec 32) (v3 : BitVec 32) (v74 : BitVec 32) (k0_hw216 : k0_chk216 i v1 v3 v74), ∀ (k0_h2 : k0_cond2 i v1 = 1#1), ∀ (k0_h11 : k0_cond11 v3 = 1#1), ∀ a, (k0_off532 v74) a + S8x1024.size a ≤ S102400x1024.size a := fun i v1 v3 v74 k0_hw216 k0_h2 k0_h11 => k0_hw216.2 k0_h2 k0_h11

def k0_off533 (i : grid0.Coords) : Fin 3 → Nat :=
  let arg0 : BitVec 32 := BitVec.ofNat 32 (i 0).val
  let c1_i32 : BitVec 32 := 1#32
  let v0 : BitVec 32 := Scalar.andi arg0 c1_i32
  let c136_i32 : BitVec 32 := 136#32
  let c0_i32_34 : BitVec 32 := 0#32
  ![v0.toNat, 136, 0]
def k0_mult213 (v82 : BitVec 32) : BitVec 32 :=
  let c8_i32_37 : BitVec 32 := 8#32
  let v83 : BitVec 32 := Scalar.muli v82 c8_i32_37
  v83

def k0_off534 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off535 (v82 : BitVec 32) : Fin 2 → Nat :=
  let c8_i32_37 : BitVec 32 := 8#32
  let v83 : BitVec 32 := Scalar.muli v82 c8_i32_37
  let v84 : BitVec 32 := v83
  let c0_i32_38 : BitVec 32 := 0#32
  ![v84.toNat, 0]

def k0_chk217 (i : grid0.Coords) (v1 : BitVec 32) (v3 : BitVec 32) (v82 : BitVec 32) : Prop :=
  (∀ (k0_h2 : k0_cond2 i v1 = 1#1), ∀ (k0_h11 : k0_cond11 v3 = 1#1), 8 ∣ (k0_mult213 v82).toNat) ∧
  (∀ (k0_h2 : k0_cond2 i v1 = 1#1), ∀ (k0_h11 : k0_cond11 v3 = 1#1), ∀ a, (k0_off535 v82) a + S8x1024.size a ≤ S102400x1024.size a)
theorem k0_mult213_dvd : ∀ (i : grid0.Coords) (v1 : BitVec 32) (v3 : BitVec 32) (v82 : BitVec 32) (k0_hw217 : k0_chk217 i v1 v3 v82), ∀ (k0_h2 : k0_cond2 i v1 = 1#1), ∀ (k0_h11 : k0_cond11 v3 = 1#1), 8 ∣ (k0_mult213 v82).toNat := fun i v1 v3 v82 k0_hw217 k0_h2 k0_h11 => k0_hw217.1 k0_h2 k0_h11
theorem k0_off535_inb : ∀ (i : grid0.Coords) (v1 : BitVec 32) (v3 : BitVec 32) (v82 : BitVec 32) (k0_hw217 : k0_chk217 i v1 v3 v82), ∀ (k0_h2 : k0_cond2 i v1 = 1#1), ∀ (k0_h11 : k0_cond11 v3 = 1#1), ∀ a, (k0_off535 v82) a + S8x1024.size a ≤ S102400x1024.size a := fun i v1 v3 v82 k0_hw217 k0_h2 k0_h11 => k0_hw217.2 k0_h2 k0_h11

def k0_off536 (i : grid0.Coords) : Fin 3 → Nat :=
  let arg0 : BitVec 32 := BitVec.ofNat 32 (i 0).val
  let c1_i32 : BitVec 32 := 1#32
  let v0 : BitVec 32 := Scalar.andi arg0 c1_i32
  let c144_i32 : BitVec 32 := 144#32
  let c0_i32_39 : BitVec 32 := 0#32
  ![v0.toNat, 144, 0]
def k0_mult214 (v90 : BitVec 32) : BitVec 32 :=
  let c8_i32_42 : BitVec 32 := 8#32
  let v91 : BitVec 32 := Scalar.muli v90 c8_i32_42
  v91

def k0_off537 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off538 (v90 : BitVec 32) : Fin 2 → Nat :=
  let c8_i32_42 : BitVec 32 := 8#32
  let v91 : BitVec 32 := Scalar.muli v90 c8_i32_42
  let v92 : BitVec 32 := v91
  let c0_i32_43 : BitVec 32 := 0#32
  ![v92.toNat, 0]

def k0_chk218 (i : grid0.Coords) (v1 : BitVec 32) (v3 : BitVec 32) (v90 : BitVec 32) : Prop :=
  (∀ (k0_h2 : k0_cond2 i v1 = 1#1), ∀ (k0_h11 : k0_cond11 v3 = 1#1), 8 ∣ (k0_mult214 v90).toNat) ∧
  (∀ (k0_h2 : k0_cond2 i v1 = 1#1), ∀ (k0_h11 : k0_cond11 v3 = 1#1), ∀ a, (k0_off538 v90) a + S8x1024.size a ≤ S102400x1024.size a)
theorem k0_mult214_dvd : ∀ (i : grid0.Coords) (v1 : BitVec 32) (v3 : BitVec 32) (v90 : BitVec 32) (k0_hw218 : k0_chk218 i v1 v3 v90), ∀ (k0_h2 : k0_cond2 i v1 = 1#1), ∀ (k0_h11 : k0_cond11 v3 = 1#1), 8 ∣ (k0_mult214 v90).toNat := fun i v1 v3 v90 k0_hw218 k0_h2 k0_h11 => k0_hw218.1 k0_h2 k0_h11
theorem k0_off538_inb : ∀ (i : grid0.Coords) (v1 : BitVec 32) (v3 : BitVec 32) (v90 : BitVec 32) (k0_hw218 : k0_chk218 i v1 v3 v90), ∀ (k0_h2 : k0_cond2 i v1 = 1#1), ∀ (k0_h11 : k0_cond11 v3 = 1#1), ∀ a, (k0_off538 v90) a + S8x1024.size a ≤ S102400x1024.size a := fun i v1 v3 v90 k0_hw218 k0_h2 k0_h11 => k0_hw218.2 k0_h2 k0_h11

def k0_off539 (i : grid0.Coords) : Fin 3 → Nat :=
  let arg0 : BitVec 32 := BitVec.ofNat 32 (i 0).val
  let c1_i32 : BitVec 32 := 1#32
  let v0 : BitVec 32 := Scalar.andi arg0 c1_i32
  let c152_i32 : BitVec 32 := 152#32
  let c0_i32_44 : BitVec 32 := 0#32
  ![v0.toNat, 152, 0]
def k0_mult215 (v98 : BitVec 32) : BitVec 32 :=
  let c8_i32_47 : BitVec 32 := 8#32
  let v99 : BitVec 32 := Scalar.muli v98 c8_i32_47
  v99

def k0_off540 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off541 (v98 : BitVec 32) : Fin 2 → Nat :=
  let c8_i32_47 : BitVec 32 := 8#32
  let v99 : BitVec 32 := Scalar.muli v98 c8_i32_47
  let v100 : BitVec 32 := v99
  let c0_i32_48 : BitVec 32 := 0#32
  ![v100.toNat, 0]

def k0_chk219 (i : grid0.Coords) (v1 : BitVec 32) (v3 : BitVec 32) (v98 : BitVec 32) : Prop :=
  (∀ (k0_h2 : k0_cond2 i v1 = 1#1), ∀ (k0_h11 : k0_cond11 v3 = 1#1), 8 ∣ (k0_mult215 v98).toNat) ∧
  (∀ (k0_h2 : k0_cond2 i v1 = 1#1), ∀ (k0_h11 : k0_cond11 v3 = 1#1), ∀ a, (k0_off541 v98) a + S8x1024.size a ≤ S102400x1024.size a)
theorem k0_mult215_dvd : ∀ (i : grid0.Coords) (v1 : BitVec 32) (v3 : BitVec 32) (v98 : BitVec 32) (k0_hw219 : k0_chk219 i v1 v3 v98), ∀ (k0_h2 : k0_cond2 i v1 = 1#1), ∀ (k0_h11 : k0_cond11 v3 = 1#1), 8 ∣ (k0_mult215 v98).toNat := fun i v1 v3 v98 k0_hw219 k0_h2 k0_h11 => k0_hw219.1 k0_h2 k0_h11
theorem k0_off541_inb : ∀ (i : grid0.Coords) (v1 : BitVec 32) (v3 : BitVec 32) (v98 : BitVec 32) (k0_hw219 : k0_chk219 i v1 v3 v98), ∀ (k0_h2 : k0_cond2 i v1 = 1#1), ∀ (k0_h11 : k0_cond11 v3 = 1#1), ∀ a, (k0_off541 v98) a + S8x1024.size a ≤ S102400x1024.size a := fun i v1 v3 v98 k0_hw219 k0_h2 k0_h11 => k0_hw219.2 k0_h2 k0_h11

def k0_off542 (i : grid0.Coords) : Fin 3 → Nat :=
  let arg0 : BitVec 32 := BitVec.ofNat 32 (i 0).val
  let c1_i32 : BitVec 32 := 1#32
  let v0 : BitVec 32 := Scalar.andi arg0 c1_i32
  let c160_i32 : BitVec 32 := 160#32
  let c0_i32_49 : BitVec 32 := 0#32
  ![v0.toNat, 160, 0]
def k0_mult216 (v106 : BitVec 32) : BitVec 32 :=
  let c8_i32_52 : BitVec 32 := 8#32
  let v107 : BitVec 32 := Scalar.muli v106 c8_i32_52
  v107

def k0_off543 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off544 (v106 : BitVec 32) : Fin 2 → Nat :=
  let c8_i32_52 : BitVec 32 := 8#32
  let v107 : BitVec 32 := Scalar.muli v106 c8_i32_52
  let v108 : BitVec 32 := v107
  let c0_i32_53 : BitVec 32 := 0#32
  ![v108.toNat, 0]

def k0_chk220 (i : grid0.Coords) (v1 : BitVec 32) (v3 : BitVec 32) (v106 : BitVec 32) : Prop :=
  (∀ (k0_h2 : k0_cond2 i v1 = 1#1), ∀ (k0_h11 : k0_cond11 v3 = 1#1), 8 ∣ (k0_mult216 v106).toNat) ∧
  (∀ (k0_h2 : k0_cond2 i v1 = 1#1), ∀ (k0_h11 : k0_cond11 v3 = 1#1), ∀ a, (k0_off544 v106) a + S8x1024.size a ≤ S102400x1024.size a)
theorem k0_mult216_dvd : ∀ (i : grid0.Coords) (v1 : BitVec 32) (v3 : BitVec 32) (v106 : BitVec 32) (k0_hw220 : k0_chk220 i v1 v3 v106), ∀ (k0_h2 : k0_cond2 i v1 = 1#1), ∀ (k0_h11 : k0_cond11 v3 = 1#1), 8 ∣ (k0_mult216 v106).toNat := fun i v1 v3 v106 k0_hw220 k0_h2 k0_h11 => k0_hw220.1 k0_h2 k0_h11
theorem k0_off544_inb : ∀ (i : grid0.Coords) (v1 : BitVec 32) (v3 : BitVec 32) (v106 : BitVec 32) (k0_hw220 : k0_chk220 i v1 v3 v106), ∀ (k0_h2 : k0_cond2 i v1 = 1#1), ∀ (k0_h11 : k0_cond11 v3 = 1#1), ∀ a, (k0_off544 v106) a + S8x1024.size a ≤ S102400x1024.size a := fun i v1 v3 v106 k0_hw220 k0_h2 k0_h11 => k0_hw220.2 k0_h2 k0_h11

def k0_off545 (i : grid0.Coords) : Fin 3 → Nat :=
  let arg0 : BitVec 32 := BitVec.ofNat 32 (i 0).val
  let c1_i32 : BitVec 32 := 1#32
  let v0 : BitVec 32 := Scalar.andi arg0 c1_i32
  let c168_i32 : BitVec 32 := 168#32
  let c0_i32_54 : BitVec 32 := 0#32
  ![v0.toNat, 168, 0]
def k0_mult217 (v114 : BitVec 32) : BitVec 32 :=
  let c8_i32_57 : BitVec 32 := 8#32
  let v115 : BitVec 32 := Scalar.muli v114 c8_i32_57
  v115

def k0_off546 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off547 (v114 : BitVec 32) : Fin 2 → Nat :=
  let c8_i32_57 : BitVec 32 := 8#32
  let v115 : BitVec 32 := Scalar.muli v114 c8_i32_57
  let v116 : BitVec 32 := v115
  let c0_i32_58 : BitVec 32 := 0#32
  ![v116.toNat, 0]

def k0_chk221 (i : grid0.Coords) (v1 : BitVec 32) (v3 : BitVec 32) (v114 : BitVec 32) : Prop :=
  (∀ (k0_h2 : k0_cond2 i v1 = 1#1), ∀ (k0_h11 : k0_cond11 v3 = 1#1), 8 ∣ (k0_mult217 v114).toNat) ∧
  (∀ (k0_h2 : k0_cond2 i v1 = 1#1), ∀ (k0_h11 : k0_cond11 v3 = 1#1), ∀ a, (k0_off547 v114) a + S8x1024.size a ≤ S102400x1024.size a)
theorem k0_mult217_dvd : ∀ (i : grid0.Coords) (v1 : BitVec 32) (v3 : BitVec 32) (v114 : BitVec 32) (k0_hw221 : k0_chk221 i v1 v3 v114), ∀ (k0_h2 : k0_cond2 i v1 = 1#1), ∀ (k0_h11 : k0_cond11 v3 = 1#1), 8 ∣ (k0_mult217 v114).toNat := fun i v1 v3 v114 k0_hw221 k0_h2 k0_h11 => k0_hw221.1 k0_h2 k0_h11
theorem k0_off547_inb : ∀ (i : grid0.Coords) (v1 : BitVec 32) (v3 : BitVec 32) (v114 : BitVec 32) (k0_hw221 : k0_chk221 i v1 v3 v114), ∀ (k0_h2 : k0_cond2 i v1 = 1#1), ∀ (k0_h11 : k0_cond11 v3 = 1#1), ∀ a, (k0_off547 v114) a + S8x1024.size a ≤ S102400x1024.size a := fun i v1 v3 v114 k0_hw221 k0_h2 k0_h11 => k0_hw221.2 k0_h2 k0_h11

def k0_off548 (i : grid0.Coords) : Fin 3 → Nat :=
  let arg0 : BitVec 32 := BitVec.ofNat 32 (i 0).val
  let c1_i32 : BitVec 32 := 1#32
  let v0 : BitVec 32 := Scalar.andi arg0 c1_i32
  let c176_i32 : BitVec 32 := 176#32
  let c0_i32_59 : BitVec 32 := 0#32
  ![v0.toNat, 176, 0]
def k0_mult218 (v122 : BitVec 32) : BitVec 32 :=
  let c8_i32_62 : BitVec 32 := 8#32
  let v123 : BitVec 32 := Scalar.muli v122 c8_i32_62
  v123

def k0_off549 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off550 (v122 : BitVec 32) : Fin 2 → Nat :=
  let c8_i32_62 : BitVec 32 := 8#32
  let v123 : BitVec 32 := Scalar.muli v122 c8_i32_62
  let v124 : BitVec 32 := v123
  let c0_i32_63 : BitVec 32 := 0#32
  ![v124.toNat, 0]

def k0_chk222 (i : grid0.Coords) (v1 : BitVec 32) (v3 : BitVec 32) (v122 : BitVec 32) : Prop :=
  (∀ (k0_h2 : k0_cond2 i v1 = 1#1), ∀ (k0_h11 : k0_cond11 v3 = 1#1), 8 ∣ (k0_mult218 v122).toNat) ∧
  (∀ (k0_h2 : k0_cond2 i v1 = 1#1), ∀ (k0_h11 : k0_cond11 v3 = 1#1), ∀ a, (k0_off550 v122) a + S8x1024.size a ≤ S102400x1024.size a)
theorem k0_mult218_dvd : ∀ (i : grid0.Coords) (v1 : BitVec 32) (v3 : BitVec 32) (v122 : BitVec 32) (k0_hw222 : k0_chk222 i v1 v3 v122), ∀ (k0_h2 : k0_cond2 i v1 = 1#1), ∀ (k0_h11 : k0_cond11 v3 = 1#1), 8 ∣ (k0_mult218 v122).toNat := fun i v1 v3 v122 k0_hw222 k0_h2 k0_h11 => k0_hw222.1 k0_h2 k0_h11
theorem k0_off550_inb : ∀ (i : grid0.Coords) (v1 : BitVec 32) (v3 : BitVec 32) (v122 : BitVec 32) (k0_hw222 : k0_chk222 i v1 v3 v122), ∀ (k0_h2 : k0_cond2 i v1 = 1#1), ∀ (k0_h11 : k0_cond11 v3 = 1#1), ∀ a, (k0_off550 v122) a + S8x1024.size a ≤ S102400x1024.size a := fun i v1 v3 v122 k0_hw222 k0_h2 k0_h11 => k0_hw222.2 k0_h2 k0_h11

def k0_off551 (i : grid0.Coords) : Fin 3 → Nat :=
  let arg0 : BitVec 32 := BitVec.ofNat 32 (i 0).val
  let c1_i32 : BitVec 32 := 1#32
  let v0 : BitVec 32 := Scalar.andi arg0 c1_i32
  let c184_i32 : BitVec 32 := 184#32
  let c0_i32_64 : BitVec 32 := 0#32
  ![v0.toNat, 184, 0]
def k0_mult219 (v66 : BitVec 32) : BitVec 32 :=
  let c8_i32_27 : BitVec 32 := 8#32
  let v67 : BitVec 32 := Scalar.muli v66 c8_i32_27
  v67
def k0_cond12 (v3 : BitVec 32) : BitVec 1 :=
  let c24_i32 : BitVec 32 := 24#32
  let v47 : BitVec 1 := Scalar.cmpi .sgt v3 c24_i32
  let v48 : BitVec 32 := Scalar.extui v47
  let c0_i32_18 : BitVec 32 := 0#32
  let v49 : BitVec 1 := Scalar.cmpi .ne v48 c0_i32_18
  v49

def k0_off552 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off553 (v66 : BitVec 32) : Fin 2 → Nat :=
  let c8_i32_27 : BitVec 32 := 8#32
  let v67 : BitVec 32 := Scalar.muli v66 c8_i32_27
  let v68 : BitVec 32 := v67
  let c0_i32_28 : BitVec 32 := 0#32
  ![v68.toNat, 0]

def k0_chk223 (i : grid0.Coords) (v1 : BitVec 32) (v3 : BitVec 32) (v66 : BitVec 32) : Prop :=
  (∀ (k0_h2 : k0_cond2 i v1 = 1#1), ∀ (k0_h12 : k0_cond12 v3 = 1#1), 8 ∣ (k0_mult219 v66).toNat) ∧
  (∀ (k0_h2 : k0_cond2 i v1 = 1#1), ∀ (k0_h12 : k0_cond12 v3 = 1#1), ∀ a, (k0_off553 v66) a + S8x1024.size a ≤ S102400x1024.size a)
theorem k0_mult219_dvd : ∀ (i : grid0.Coords) (v1 : BitVec 32) (v3 : BitVec 32) (v66 : BitVec 32) (k0_hw223 : k0_chk223 i v1 v3 v66), ∀ (k0_h2 : k0_cond2 i v1 = 1#1), ∀ (k0_h12 : k0_cond12 v3 = 1#1), 8 ∣ (k0_mult219 v66).toNat := fun i v1 v3 v66 k0_hw223 k0_h2 k0_h12 => k0_hw223.1 k0_h2 k0_h12
theorem k0_off553_inb : ∀ (i : grid0.Coords) (v1 : BitVec 32) (v3 : BitVec 32) (v66 : BitVec 32) (k0_hw223 : k0_chk223 i v1 v3 v66), ∀ (k0_h2 : k0_cond2 i v1 = 1#1), ∀ (k0_h12 : k0_cond12 v3 = 1#1), ∀ a, (k0_off553 v66) a + S8x1024.size a ≤ S102400x1024.size a := fun i v1 v3 v66 k0_hw223 k0_h2 k0_h12 => k0_hw223.2 k0_h2 k0_h12

def k0_off554 (i : grid0.Coords) : Fin 3 → Nat :=
  let arg0 : BitVec 32 := BitVec.ofNat 32 (i 0).val
  let c1_i32 : BitVec 32 := 1#32
  let v0 : BitVec 32 := Scalar.andi arg0 c1_i32
  let c192_i32 : BitVec 32 := 192#32
  let c0_i32_29 : BitVec 32 := 0#32
  ![v0.toNat, 192, 0]
def k0_mult220 (v74 : BitVec 32) : BitVec 32 :=
  let c8_i32_32 : BitVec 32 := 8#32
  let v75 : BitVec 32 := Scalar.muli v74 c8_i32_32
  v75

def k0_off555 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off556 (v74 : BitVec 32) : Fin 2 → Nat :=
  let c8_i32_32 : BitVec 32 := 8#32
  let v75 : BitVec 32 := Scalar.muli v74 c8_i32_32
  let v76 : BitVec 32 := v75
  let c0_i32_33 : BitVec 32 := 0#32
  ![v76.toNat, 0]

def k0_chk224 (i : grid0.Coords) (v1 : BitVec 32) (v3 : BitVec 32) (v74 : BitVec 32) : Prop :=
  (∀ (k0_h2 : k0_cond2 i v1 = 1#1), ∀ (k0_h12 : k0_cond12 v3 = 1#1), 8 ∣ (k0_mult220 v74).toNat) ∧
  (∀ (k0_h2 : k0_cond2 i v1 = 1#1), ∀ (k0_h12 : k0_cond12 v3 = 1#1), ∀ a, (k0_off556 v74) a + S8x1024.size a ≤ S102400x1024.size a)
theorem k0_mult220_dvd : ∀ (i : grid0.Coords) (v1 : BitVec 32) (v3 : BitVec 32) (v74 : BitVec 32) (k0_hw224 : k0_chk224 i v1 v3 v74), ∀ (k0_h2 : k0_cond2 i v1 = 1#1), ∀ (k0_h12 : k0_cond12 v3 = 1#1), 8 ∣ (k0_mult220 v74).toNat := fun i v1 v3 v74 k0_hw224 k0_h2 k0_h12 => k0_hw224.1 k0_h2 k0_h12
theorem k0_off556_inb : ∀ (i : grid0.Coords) (v1 : BitVec 32) (v3 : BitVec 32) (v74 : BitVec 32) (k0_hw224 : k0_chk224 i v1 v3 v74), ∀ (k0_h2 : k0_cond2 i v1 = 1#1), ∀ (k0_h12 : k0_cond12 v3 = 1#1), ∀ a, (k0_off556 v74) a + S8x1024.size a ≤ S102400x1024.size a := fun i v1 v3 v74 k0_hw224 k0_h2 k0_h12 => k0_hw224.2 k0_h2 k0_h12

def k0_off557 (i : grid0.Coords) : Fin 3 → Nat :=
  let arg0 : BitVec 32 := BitVec.ofNat 32 (i 0).val
  let c1_i32 : BitVec 32 := 1#32
  let v0 : BitVec 32 := Scalar.andi arg0 c1_i32
  let c200_i32 : BitVec 32 := 200#32
  let c0_i32_34 : BitVec 32 := 0#32
  ![v0.toNat, 200, 0]
def k0_mult221 (v82 : BitVec 32) : BitVec 32 :=
  let c8_i32_37 : BitVec 32 := 8#32
  let v83 : BitVec 32 := Scalar.muli v82 c8_i32_37
  v83

def k0_off558 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off559 (v82 : BitVec 32) : Fin 2 → Nat :=
  let c8_i32_37 : BitVec 32 := 8#32
  let v83 : BitVec 32 := Scalar.muli v82 c8_i32_37
  let v84 : BitVec 32 := v83
  let c0_i32_38 : BitVec 32 := 0#32
  ![v84.toNat, 0]

def k0_chk225 (i : grid0.Coords) (v1 : BitVec 32) (v3 : BitVec 32) (v82 : BitVec 32) : Prop :=
  (∀ (k0_h2 : k0_cond2 i v1 = 1#1), ∀ (k0_h12 : k0_cond12 v3 = 1#1), 8 ∣ (k0_mult221 v82).toNat) ∧
  (∀ (k0_h2 : k0_cond2 i v1 = 1#1), ∀ (k0_h12 : k0_cond12 v3 = 1#1), ∀ a, (k0_off559 v82) a + S8x1024.size a ≤ S102400x1024.size a)
theorem k0_mult221_dvd : ∀ (i : grid0.Coords) (v1 : BitVec 32) (v3 : BitVec 32) (v82 : BitVec 32) (k0_hw225 : k0_chk225 i v1 v3 v82), ∀ (k0_h2 : k0_cond2 i v1 = 1#1), ∀ (k0_h12 : k0_cond12 v3 = 1#1), 8 ∣ (k0_mult221 v82).toNat := fun i v1 v3 v82 k0_hw225 k0_h2 k0_h12 => k0_hw225.1 k0_h2 k0_h12
theorem k0_off559_inb : ∀ (i : grid0.Coords) (v1 : BitVec 32) (v3 : BitVec 32) (v82 : BitVec 32) (k0_hw225 : k0_chk225 i v1 v3 v82), ∀ (k0_h2 : k0_cond2 i v1 = 1#1), ∀ (k0_h12 : k0_cond12 v3 = 1#1), ∀ a, (k0_off559 v82) a + S8x1024.size a ≤ S102400x1024.size a := fun i v1 v3 v82 k0_hw225 k0_h2 k0_h12 => k0_hw225.2 k0_h2 k0_h12

def k0_off560 (i : grid0.Coords) : Fin 3 → Nat :=
  let arg0 : BitVec 32 := BitVec.ofNat 32 (i 0).val
  let c1_i32 : BitVec 32 := 1#32
  let v0 : BitVec 32 := Scalar.andi arg0 c1_i32
  let c208_i32 : BitVec 32 := 208#32
  let c0_i32_39 : BitVec 32 := 0#32
  ![v0.toNat, 208, 0]
def k0_mult222 (v90 : BitVec 32) : BitVec 32 :=
  let c8_i32_42 : BitVec 32 := 8#32
  let v91 : BitVec 32 := Scalar.muli v90 c8_i32_42
  v91

def k0_off561 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off562 (v90 : BitVec 32) : Fin 2 → Nat :=
  let c8_i32_42 : BitVec 32 := 8#32
  let v91 : BitVec 32 := Scalar.muli v90 c8_i32_42
  let v92 : BitVec 32 := v91
  let c0_i32_43 : BitVec 32 := 0#32
  ![v92.toNat, 0]

def k0_chk226 (i : grid0.Coords) (v1 : BitVec 32) (v3 : BitVec 32) (v90 : BitVec 32) : Prop :=
  (∀ (k0_h2 : k0_cond2 i v1 = 1#1), ∀ (k0_h12 : k0_cond12 v3 = 1#1), 8 ∣ (k0_mult222 v90).toNat) ∧
  (∀ (k0_h2 : k0_cond2 i v1 = 1#1), ∀ (k0_h12 : k0_cond12 v3 = 1#1), ∀ a, (k0_off562 v90) a + S8x1024.size a ≤ S102400x1024.size a)
theorem k0_mult222_dvd : ∀ (i : grid0.Coords) (v1 : BitVec 32) (v3 : BitVec 32) (v90 : BitVec 32) (k0_hw226 : k0_chk226 i v1 v3 v90), ∀ (k0_h2 : k0_cond2 i v1 = 1#1), ∀ (k0_h12 : k0_cond12 v3 = 1#1), 8 ∣ (k0_mult222 v90).toNat := fun i v1 v3 v90 k0_hw226 k0_h2 k0_h12 => k0_hw226.1 k0_h2 k0_h12
theorem k0_off562_inb : ∀ (i : grid0.Coords) (v1 : BitVec 32) (v3 : BitVec 32) (v90 : BitVec 32) (k0_hw226 : k0_chk226 i v1 v3 v90), ∀ (k0_h2 : k0_cond2 i v1 = 1#1), ∀ (k0_h12 : k0_cond12 v3 = 1#1), ∀ a, (k0_off562 v90) a + S8x1024.size a ≤ S102400x1024.size a := fun i v1 v3 v90 k0_hw226 k0_h2 k0_h12 => k0_hw226.2 k0_h2 k0_h12

def k0_off563 (i : grid0.Coords) : Fin 3 → Nat :=
  let arg0 : BitVec 32 := BitVec.ofNat 32 (i 0).val
  let c1_i32 : BitVec 32 := 1#32
  let v0 : BitVec 32 := Scalar.andi arg0 c1_i32
  let c216_i32 : BitVec 32 := 216#32
  let c0_i32_44 : BitVec 32 := 0#32
  ![v0.toNat, 216, 0]
def k0_mult223 (v98 : BitVec 32) : BitVec 32 :=
  let c8_i32_47 : BitVec 32 := 8#32
  let v99 : BitVec 32 := Scalar.muli v98 c8_i32_47
  v99

def k0_off564 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off565 (v98 : BitVec 32) : Fin 2 → Nat :=
  let c8_i32_47 : BitVec 32 := 8#32
  let v99 : BitVec 32 := Scalar.muli v98 c8_i32_47
  let v100 : BitVec 32 := v99
  let c0_i32_48 : BitVec 32 := 0#32
  ![v100.toNat, 0]

def k0_chk227 (i : grid0.Coords) (v1 : BitVec 32) (v3 : BitVec 32) (v98 : BitVec 32) : Prop :=
  (∀ (k0_h2 : k0_cond2 i v1 = 1#1), ∀ (k0_h12 : k0_cond12 v3 = 1#1), 8 ∣ (k0_mult223 v98).toNat) ∧
  (∀ (k0_h2 : k0_cond2 i v1 = 1#1), ∀ (k0_h12 : k0_cond12 v3 = 1#1), ∀ a, (k0_off565 v98) a + S8x1024.size a ≤ S102400x1024.size a)
theorem k0_mult223_dvd : ∀ (i : grid0.Coords) (v1 : BitVec 32) (v3 : BitVec 32) (v98 : BitVec 32) (k0_hw227 : k0_chk227 i v1 v3 v98), ∀ (k0_h2 : k0_cond2 i v1 = 1#1), ∀ (k0_h12 : k0_cond12 v3 = 1#1), 8 ∣ (k0_mult223 v98).toNat := fun i v1 v3 v98 k0_hw227 k0_h2 k0_h12 => k0_hw227.1 k0_h2 k0_h12
theorem k0_off565_inb : ∀ (i : grid0.Coords) (v1 : BitVec 32) (v3 : BitVec 32) (v98 : BitVec 32) (k0_hw227 : k0_chk227 i v1 v3 v98), ∀ (k0_h2 : k0_cond2 i v1 = 1#1), ∀ (k0_h12 : k0_cond12 v3 = 1#1), ∀ a, (k0_off565 v98) a + S8x1024.size a ≤ S102400x1024.size a := fun i v1 v3 v98 k0_hw227 k0_h2 k0_h12 => k0_hw227.2 k0_h2 k0_h12

def k0_off566 (i : grid0.Coords) : Fin 3 → Nat :=
  let arg0 : BitVec 32 := BitVec.ofNat 32 (i 0).val
  let c1_i32 : BitVec 32 := 1#32
  let v0 : BitVec 32 := Scalar.andi arg0 c1_i32
  let c224_i32 : BitVec 32 := 224#32
  let c0_i32_49 : BitVec 32 := 0#32
  ![v0.toNat, 224, 0]
def k0_mult224 (v106 : BitVec 32) : BitVec 32 :=
  let c8_i32_52 : BitVec 32 := 8#32
  let v107 : BitVec 32 := Scalar.muli v106 c8_i32_52
  v107

def k0_off567 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off568 (v106 : BitVec 32) : Fin 2 → Nat :=
  let c8_i32_52 : BitVec 32 := 8#32
  let v107 : BitVec 32 := Scalar.muli v106 c8_i32_52
  let v108 : BitVec 32 := v107
  let c0_i32_53 : BitVec 32 := 0#32
  ![v108.toNat, 0]

def k0_chk228 (i : grid0.Coords) (v1 : BitVec 32) (v3 : BitVec 32) (v106 : BitVec 32) : Prop :=
  (∀ (k0_h2 : k0_cond2 i v1 = 1#1), ∀ (k0_h12 : k0_cond12 v3 = 1#1), 8 ∣ (k0_mult224 v106).toNat) ∧
  (∀ (k0_h2 : k0_cond2 i v1 = 1#1), ∀ (k0_h12 : k0_cond12 v3 = 1#1), ∀ a, (k0_off568 v106) a + S8x1024.size a ≤ S102400x1024.size a)
theorem k0_mult224_dvd : ∀ (i : grid0.Coords) (v1 : BitVec 32) (v3 : BitVec 32) (v106 : BitVec 32) (k0_hw228 : k0_chk228 i v1 v3 v106), ∀ (k0_h2 : k0_cond2 i v1 = 1#1), ∀ (k0_h12 : k0_cond12 v3 = 1#1), 8 ∣ (k0_mult224 v106).toNat := fun i v1 v3 v106 k0_hw228 k0_h2 k0_h12 => k0_hw228.1 k0_h2 k0_h12
theorem k0_off568_inb : ∀ (i : grid0.Coords) (v1 : BitVec 32) (v3 : BitVec 32) (v106 : BitVec 32) (k0_hw228 : k0_chk228 i v1 v3 v106), ∀ (k0_h2 : k0_cond2 i v1 = 1#1), ∀ (k0_h12 : k0_cond12 v3 = 1#1), ∀ a, (k0_off568 v106) a + S8x1024.size a ≤ S102400x1024.size a := fun i v1 v3 v106 k0_hw228 k0_h2 k0_h12 => k0_hw228.2 k0_h2 k0_h12

def k0_off569 (i : grid0.Coords) : Fin 3 → Nat :=
  let arg0 : BitVec 32 := BitVec.ofNat 32 (i 0).val
  let c1_i32 : BitVec 32 := 1#32
  let v0 : BitVec 32 := Scalar.andi arg0 c1_i32
  let c232_i32 : BitVec 32 := 232#32
  let c0_i32_54 : BitVec 32 := 0#32
  ![v0.toNat, 232, 0]
def k0_mult225 (v114 : BitVec 32) : BitVec 32 :=
  let c8_i32_57 : BitVec 32 := 8#32
  let v115 : BitVec 32 := Scalar.muli v114 c8_i32_57
  v115

def k0_off570 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off571 (v114 : BitVec 32) : Fin 2 → Nat :=
  let c8_i32_57 : BitVec 32 := 8#32
  let v115 : BitVec 32 := Scalar.muli v114 c8_i32_57
  let v116 : BitVec 32 := v115
  let c0_i32_58 : BitVec 32 := 0#32
  ![v116.toNat, 0]

def k0_chk229 (i : grid0.Coords) (v1 : BitVec 32) (v3 : BitVec 32) (v114 : BitVec 32) : Prop :=
  (∀ (k0_h2 : k0_cond2 i v1 = 1#1), ∀ (k0_h12 : k0_cond12 v3 = 1#1), 8 ∣ (k0_mult225 v114).toNat) ∧
  (∀ (k0_h2 : k0_cond2 i v1 = 1#1), ∀ (k0_h12 : k0_cond12 v3 = 1#1), ∀ a, (k0_off571 v114) a + S8x1024.size a ≤ S102400x1024.size a)
theorem k0_mult225_dvd : ∀ (i : grid0.Coords) (v1 : BitVec 32) (v3 : BitVec 32) (v114 : BitVec 32) (k0_hw229 : k0_chk229 i v1 v3 v114), ∀ (k0_h2 : k0_cond2 i v1 = 1#1), ∀ (k0_h12 : k0_cond12 v3 = 1#1), 8 ∣ (k0_mult225 v114).toNat := fun i v1 v3 v114 k0_hw229 k0_h2 k0_h12 => k0_hw229.1 k0_h2 k0_h12
theorem k0_off571_inb : ∀ (i : grid0.Coords) (v1 : BitVec 32) (v3 : BitVec 32) (v114 : BitVec 32) (k0_hw229 : k0_chk229 i v1 v3 v114), ∀ (k0_h2 : k0_cond2 i v1 = 1#1), ∀ (k0_h12 : k0_cond12 v3 = 1#1), ∀ a, (k0_off571 v114) a + S8x1024.size a ≤ S102400x1024.size a := fun i v1 v3 v114 k0_hw229 k0_h2 k0_h12 => k0_hw229.2 k0_h2 k0_h12

def k0_off572 (i : grid0.Coords) : Fin 3 → Nat :=
  let arg0 : BitVec 32 := BitVec.ofNat 32 (i 0).val
  let c1_i32 : BitVec 32 := 1#32
  let v0 : BitVec 32 := Scalar.andi arg0 c1_i32
  let c240_i32 : BitVec 32 := 240#32
  let c0_i32_59 : BitVec 32 := 0#32
  ![v0.toNat, 240, 0]
def k0_mult226 (v122 : BitVec 32) : BitVec 32 :=
  let c8_i32_62 : BitVec 32 := 8#32
  let v123 : BitVec 32 := Scalar.muli v122 c8_i32_62
  v123

def k0_off573 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off574 (v122 : BitVec 32) : Fin 2 → Nat :=
  let c8_i32_62 : BitVec 32 := 8#32
  let v123 : BitVec 32 := Scalar.muli v122 c8_i32_62
  let v124 : BitVec 32 := v123
  let c0_i32_63 : BitVec 32 := 0#32
  ![v124.toNat, 0]

def k0_chk230 (i : grid0.Coords) (v1 : BitVec 32) (v3 : BitVec 32) (v122 : BitVec 32) : Prop :=
  (∀ (k0_h2 : k0_cond2 i v1 = 1#1), ∀ (k0_h12 : k0_cond12 v3 = 1#1), 8 ∣ (k0_mult226 v122).toNat) ∧
  (∀ (k0_h2 : k0_cond2 i v1 = 1#1), ∀ (k0_h12 : k0_cond12 v3 = 1#1), ∀ a, (k0_off574 v122) a + S8x1024.size a ≤ S102400x1024.size a)
theorem k0_mult226_dvd : ∀ (i : grid0.Coords) (v1 : BitVec 32) (v3 : BitVec 32) (v122 : BitVec 32) (k0_hw230 : k0_chk230 i v1 v3 v122), ∀ (k0_h2 : k0_cond2 i v1 = 1#1), ∀ (k0_h12 : k0_cond12 v3 = 1#1), 8 ∣ (k0_mult226 v122).toNat := fun i v1 v3 v122 k0_hw230 k0_h2 k0_h12 => k0_hw230.1 k0_h2 k0_h12
theorem k0_off574_inb : ∀ (i : grid0.Coords) (v1 : BitVec 32) (v3 : BitVec 32) (v122 : BitVec 32) (k0_hw230 : k0_chk230 i v1 v3 v122), ∀ (k0_h2 : k0_cond2 i v1 = 1#1), ∀ (k0_h12 : k0_cond12 v3 = 1#1), ∀ a, (k0_off574 v122) a + S8x1024.size a ≤ S102400x1024.size a := fun i v1 v3 v122 k0_hw230 k0_h2 k0_h12 => k0_hw230.2 k0_h2 k0_h12

def k0_off575 (i : grid0.Coords) : Fin 3 → Nat :=
  let arg0 : BitVec 32 := BitVec.ofNat 32 (i 0).val
  let c1_i32 : BitVec 32 := 1#32
  let v0 : BitVec 32 := Scalar.andi arg0 c1_i32
  let c248_i32 : BitVec 32 := 248#32
  let c0_i32_64 : BitVec 32 := 0#32
  ![v0.toNat, 248, 0]
def k0_mult227 (v66 : BitVec 32) : BitVec 32 :=
  let c8_i32_27 : BitVec 32 := 8#32
  let v67 : BitVec 32 := Scalar.muli v66 c8_i32_27
  v67
def k0_cond13 (v3 : BitVec 32) : BitVec 1 :=
  let c32_i32 : BitVec 32 := 32#32
  let v50 : BitVec 1 := Scalar.cmpi .sgt v3 c32_i32
  let v51 : BitVec 32 := Scalar.extui v50
  let c0_i32_19 : BitVec 32 := 0#32
  let v52 : BitVec 1 := Scalar.cmpi .ne v51 c0_i32_19
  v52

def k0_off576 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off577 (v66 : BitVec 32) : Fin 2 → Nat :=
  let c8_i32_27 : BitVec 32 := 8#32
  let v67 : BitVec 32 := Scalar.muli v66 c8_i32_27
  let v68 : BitVec 32 := v67
  let c0_i32_28 : BitVec 32 := 0#32
  ![v68.toNat, 0]

def k0_chk231 (i : grid0.Coords) (v1 : BitVec 32) (v3 : BitVec 32) (v66 : BitVec 32) : Prop :=
  (∀ (k0_h2 : k0_cond2 i v1 = 1#1), ∀ (k0_h13 : k0_cond13 v3 = 1#1), 8 ∣ (k0_mult227 v66).toNat) ∧
  (∀ (k0_h2 : k0_cond2 i v1 = 1#1), ∀ (k0_h13 : k0_cond13 v3 = 1#1), ∀ a, (k0_off577 v66) a + S8x1024.size a ≤ S102400x1024.size a)
theorem k0_mult227_dvd : ∀ (i : grid0.Coords) (v1 : BitVec 32) (v3 : BitVec 32) (v66 : BitVec 32) (k0_hw231 : k0_chk231 i v1 v3 v66), ∀ (k0_h2 : k0_cond2 i v1 = 1#1), ∀ (k0_h13 : k0_cond13 v3 = 1#1), 8 ∣ (k0_mult227 v66).toNat := fun i v1 v3 v66 k0_hw231 k0_h2 k0_h13 => k0_hw231.1 k0_h2 k0_h13
theorem k0_off577_inb : ∀ (i : grid0.Coords) (v1 : BitVec 32) (v3 : BitVec 32) (v66 : BitVec 32) (k0_hw231 : k0_chk231 i v1 v3 v66), ∀ (k0_h2 : k0_cond2 i v1 = 1#1), ∀ (k0_h13 : k0_cond13 v3 = 1#1), ∀ a, (k0_off577 v66) a + S8x1024.size a ≤ S102400x1024.size a := fun i v1 v3 v66 k0_hw231 k0_h2 k0_h13 => k0_hw231.2 k0_h2 k0_h13

def k0_off578 (i : grid0.Coords) : Fin 3 → Nat :=
  let arg0 : BitVec 32 := BitVec.ofNat 32 (i 0).val
  let c1_i32 : BitVec 32 := 1#32
  let v0 : BitVec 32 := Scalar.andi arg0 c1_i32
  let c256_i32 : BitVec 32 := 256#32
  let c0_i32_29 : BitVec 32 := 0#32
  ![v0.toNat, 256, 0]
def k0_mult228 (v74 : BitVec 32) : BitVec 32 :=
  let c8_i32_32 : BitVec 32 := 8#32
  let v75 : BitVec 32 := Scalar.muli v74 c8_i32_32
  v75

def k0_off579 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off580 (v74 : BitVec 32) : Fin 2 → Nat :=
  let c8_i32_32 : BitVec 32 := 8#32
  let v75 : BitVec 32 := Scalar.muli v74 c8_i32_32
  let v76 : BitVec 32 := v75
  let c0_i32_33 : BitVec 32 := 0#32
  ![v76.toNat, 0]

def k0_chk232 (i : grid0.Coords) (v1 : BitVec 32) (v3 : BitVec 32) (v74 : BitVec 32) : Prop :=
  (∀ (k0_h2 : k0_cond2 i v1 = 1#1), ∀ (k0_h13 : k0_cond13 v3 = 1#1), 8 ∣ (k0_mult228 v74).toNat) ∧
  (∀ (k0_h2 : k0_cond2 i v1 = 1#1), ∀ (k0_h13 : k0_cond13 v3 = 1#1), ∀ a, (k0_off580 v74) a + S8x1024.size a ≤ S102400x1024.size a)
theorem k0_mult228_dvd : ∀ (i : grid0.Coords) (v1 : BitVec 32) (v3 : BitVec 32) (v74 : BitVec 32) (k0_hw232 : k0_chk232 i v1 v3 v74), ∀ (k0_h2 : k0_cond2 i v1 = 1#1), ∀ (k0_h13 : k0_cond13 v3 = 1#1), 8 ∣ (k0_mult228 v74).toNat := fun i v1 v3 v74 k0_hw232 k0_h2 k0_h13 => k0_hw232.1 k0_h2 k0_h13
theorem k0_off580_inb : ∀ (i : grid0.Coords) (v1 : BitVec 32) (v3 : BitVec 32) (v74 : BitVec 32) (k0_hw232 : k0_chk232 i v1 v3 v74), ∀ (k0_h2 : k0_cond2 i v1 = 1#1), ∀ (k0_h13 : k0_cond13 v3 = 1#1), ∀ a, (k0_off580 v74) a + S8x1024.size a ≤ S102400x1024.size a := fun i v1 v3 v74 k0_hw232 k0_h2 k0_h13 => k0_hw232.2 k0_h2 k0_h13

def k0_off581 (i : grid0.Coords) : Fin 3 → Nat :=
  let arg0 : BitVec 32 := BitVec.ofNat 32 (i 0).val
  let c1_i32 : BitVec 32 := 1#32
  let v0 : BitVec 32 := Scalar.andi arg0 c1_i32
  let c264_i32 : BitVec 32 := 264#32
  let c0_i32_34 : BitVec 32 := 0#32
  ![v0.toNat, 264, 0]
def k0_mult229 (v82 : BitVec 32) : BitVec 32 :=
  let c8_i32_37 : BitVec 32 := 8#32
  let v83 : BitVec 32 := Scalar.muli v82 c8_i32_37
  v83

def k0_off582 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off583 (v82 : BitVec 32) : Fin 2 → Nat :=
  let c8_i32_37 : BitVec 32 := 8#32
  let v83 : BitVec 32 := Scalar.muli v82 c8_i32_37
  let v84 : BitVec 32 := v83
  let c0_i32_38 : BitVec 32 := 0#32
  ![v84.toNat, 0]

def k0_chk233 (i : grid0.Coords) (v1 : BitVec 32) (v3 : BitVec 32) (v82 : BitVec 32) : Prop :=
  (∀ (k0_h2 : k0_cond2 i v1 = 1#1), ∀ (k0_h13 : k0_cond13 v3 = 1#1), 8 ∣ (k0_mult229 v82).toNat) ∧
  (∀ (k0_h2 : k0_cond2 i v1 = 1#1), ∀ (k0_h13 : k0_cond13 v3 = 1#1), ∀ a, (k0_off583 v82) a + S8x1024.size a ≤ S102400x1024.size a)
theorem k0_mult229_dvd : ∀ (i : grid0.Coords) (v1 : BitVec 32) (v3 : BitVec 32) (v82 : BitVec 32) (k0_hw233 : k0_chk233 i v1 v3 v82), ∀ (k0_h2 : k0_cond2 i v1 = 1#1), ∀ (k0_h13 : k0_cond13 v3 = 1#1), 8 ∣ (k0_mult229 v82).toNat := fun i v1 v3 v82 k0_hw233 k0_h2 k0_h13 => k0_hw233.1 k0_h2 k0_h13
theorem k0_off583_inb : ∀ (i : grid0.Coords) (v1 : BitVec 32) (v3 : BitVec 32) (v82 : BitVec 32) (k0_hw233 : k0_chk233 i v1 v3 v82), ∀ (k0_h2 : k0_cond2 i v1 = 1#1), ∀ (k0_h13 : k0_cond13 v3 = 1#1), ∀ a, (k0_off583 v82) a + S8x1024.size a ≤ S102400x1024.size a := fun i v1 v3 v82 k0_hw233 k0_h2 k0_h13 => k0_hw233.2 k0_h2 k0_h13

def k0_off584 (i : grid0.Coords) : Fin 3 → Nat :=
  let arg0 : BitVec 32 := BitVec.ofNat 32 (i 0).val
  let c1_i32 : BitVec 32 := 1#32
  let v0 : BitVec 32 := Scalar.andi arg0 c1_i32
  let c272_i32 : BitVec 32 := 272#32
  let c0_i32_39 : BitVec 32 := 0#32
  ![v0.toNat, 272, 0]
def k0_mult230 (v90 : BitVec 32) : BitVec 32 :=
  let c8_i32_42 : BitVec 32 := 8#32
  let v91 : BitVec 32 := Scalar.muli v90 c8_i32_42
  v91

def k0_off585 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off586 (v90 : BitVec 32) : Fin 2 → Nat :=
  let c8_i32_42 : BitVec 32 := 8#32
  let v91 : BitVec 32 := Scalar.muli v90 c8_i32_42
  let v92 : BitVec 32 := v91
  let c0_i32_43 : BitVec 32 := 0#32
  ![v92.toNat, 0]

def k0_chk234 (i : grid0.Coords) (v1 : BitVec 32) (v3 : BitVec 32) (v90 : BitVec 32) : Prop :=
  (∀ (k0_h2 : k0_cond2 i v1 = 1#1), ∀ (k0_h13 : k0_cond13 v3 = 1#1), 8 ∣ (k0_mult230 v90).toNat) ∧
  (∀ (k0_h2 : k0_cond2 i v1 = 1#1), ∀ (k0_h13 : k0_cond13 v3 = 1#1), ∀ a, (k0_off586 v90) a + S8x1024.size a ≤ S102400x1024.size a)
theorem k0_mult230_dvd : ∀ (i : grid0.Coords) (v1 : BitVec 32) (v3 : BitVec 32) (v90 : BitVec 32) (k0_hw234 : k0_chk234 i v1 v3 v90), ∀ (k0_h2 : k0_cond2 i v1 = 1#1), ∀ (k0_h13 : k0_cond13 v3 = 1#1), 8 ∣ (k0_mult230 v90).toNat := fun i v1 v3 v90 k0_hw234 k0_h2 k0_h13 => k0_hw234.1 k0_h2 k0_h13
theorem k0_off586_inb : ∀ (i : grid0.Coords) (v1 : BitVec 32) (v3 : BitVec 32) (v90 : BitVec 32) (k0_hw234 : k0_chk234 i v1 v3 v90), ∀ (k0_h2 : k0_cond2 i v1 = 1#1), ∀ (k0_h13 : k0_cond13 v3 = 1#1), ∀ a, (k0_off586 v90) a + S8x1024.size a ≤ S102400x1024.size a := fun i v1 v3 v90 k0_hw234 k0_h2 k0_h13 => k0_hw234.2 k0_h2 k0_h13

def k0_off587 (i : grid0.Coords) : Fin 3 → Nat :=
  let arg0 : BitVec 32 := BitVec.ofNat 32 (i 0).val
  let c1_i32 : BitVec 32 := 1#32
  let v0 : BitVec 32 := Scalar.andi arg0 c1_i32
  let c280_i32 : BitVec 32 := 280#32
  let c0_i32_44 : BitVec 32 := 0#32
  ![v0.toNat, 280, 0]
def k0_mult231 (v98 : BitVec 32) : BitVec 32 :=
  let c8_i32_47 : BitVec 32 := 8#32
  let v99 : BitVec 32 := Scalar.muli v98 c8_i32_47
  v99

def k0_off588 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off589 (v98 : BitVec 32) : Fin 2 → Nat :=
  let c8_i32_47 : BitVec 32 := 8#32
  let v99 : BitVec 32 := Scalar.muli v98 c8_i32_47
  let v100 : BitVec 32 := v99
  let c0_i32_48 : BitVec 32 := 0#32
  ![v100.toNat, 0]

def k0_chk235 (i : grid0.Coords) (v1 : BitVec 32) (v3 : BitVec 32) (v98 : BitVec 32) : Prop :=
  (∀ (k0_h2 : k0_cond2 i v1 = 1#1), ∀ (k0_h13 : k0_cond13 v3 = 1#1), 8 ∣ (k0_mult231 v98).toNat) ∧
  (∀ (k0_h2 : k0_cond2 i v1 = 1#1), ∀ (k0_h13 : k0_cond13 v3 = 1#1), ∀ a, (k0_off589 v98) a + S8x1024.size a ≤ S102400x1024.size a)
theorem k0_mult231_dvd : ∀ (i : grid0.Coords) (v1 : BitVec 32) (v3 : BitVec 32) (v98 : BitVec 32) (k0_hw235 : k0_chk235 i v1 v3 v98), ∀ (k0_h2 : k0_cond2 i v1 = 1#1), ∀ (k0_h13 : k0_cond13 v3 = 1#1), 8 ∣ (k0_mult231 v98).toNat := fun i v1 v3 v98 k0_hw235 k0_h2 k0_h13 => k0_hw235.1 k0_h2 k0_h13
theorem k0_off589_inb : ∀ (i : grid0.Coords) (v1 : BitVec 32) (v3 : BitVec 32) (v98 : BitVec 32) (k0_hw235 : k0_chk235 i v1 v3 v98), ∀ (k0_h2 : k0_cond2 i v1 = 1#1), ∀ (k0_h13 : k0_cond13 v3 = 1#1), ∀ a, (k0_off589 v98) a + S8x1024.size a ≤ S102400x1024.size a := fun i v1 v3 v98 k0_hw235 k0_h2 k0_h13 => k0_hw235.2 k0_h2 k0_h13

def k0_off590 (i : grid0.Coords) : Fin 3 → Nat :=
  let arg0 : BitVec 32 := BitVec.ofNat 32 (i 0).val
  let c1_i32 : BitVec 32 := 1#32
  let v0 : BitVec 32 := Scalar.andi arg0 c1_i32
  let c288_i32 : BitVec 32 := 288#32
  let c0_i32_49 : BitVec 32 := 0#32
  ![v0.toNat, 288, 0]
def k0_mult232 (v106 : BitVec 32) : BitVec 32 :=
  let c8_i32_52 : BitVec 32 := 8#32
  let v107 : BitVec 32 := Scalar.muli v106 c8_i32_52
  v107

def k0_off591 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off592 (v106 : BitVec 32) : Fin 2 → Nat :=
  let c8_i32_52 : BitVec 32 := 8#32
  let v107 : BitVec 32 := Scalar.muli v106 c8_i32_52
  let v108 : BitVec 32 := v107
  let c0_i32_53 : BitVec 32 := 0#32
  ![v108.toNat, 0]

def k0_chk236 (i : grid0.Coords) (v1 : BitVec 32) (v3 : BitVec 32) (v106 : BitVec 32) : Prop :=
  (∀ (k0_h2 : k0_cond2 i v1 = 1#1), ∀ (k0_h13 : k0_cond13 v3 = 1#1), 8 ∣ (k0_mult232 v106).toNat) ∧
  (∀ (k0_h2 : k0_cond2 i v1 = 1#1), ∀ (k0_h13 : k0_cond13 v3 = 1#1), ∀ a, (k0_off592 v106) a + S8x1024.size a ≤ S102400x1024.size a)
theorem k0_mult232_dvd : ∀ (i : grid0.Coords) (v1 : BitVec 32) (v3 : BitVec 32) (v106 : BitVec 32) (k0_hw236 : k0_chk236 i v1 v3 v106), ∀ (k0_h2 : k0_cond2 i v1 = 1#1), ∀ (k0_h13 : k0_cond13 v3 = 1#1), 8 ∣ (k0_mult232 v106).toNat := fun i v1 v3 v106 k0_hw236 k0_h2 k0_h13 => k0_hw236.1 k0_h2 k0_h13
theorem k0_off592_inb : ∀ (i : grid0.Coords) (v1 : BitVec 32) (v3 : BitVec 32) (v106 : BitVec 32) (k0_hw236 : k0_chk236 i v1 v3 v106), ∀ (k0_h2 : k0_cond2 i v1 = 1#1), ∀ (k0_h13 : k0_cond13 v3 = 1#1), ∀ a, (k0_off592 v106) a + S8x1024.size a ≤ S102400x1024.size a := fun i v1 v3 v106 k0_hw236 k0_h2 k0_h13 => k0_hw236.2 k0_h2 k0_h13

def k0_off593 (i : grid0.Coords) : Fin 3 → Nat :=
  let arg0 : BitVec 32 := BitVec.ofNat 32 (i 0).val
  let c1_i32 : BitVec 32 := 1#32
  let v0 : BitVec 32 := Scalar.andi arg0 c1_i32
  let c296_i32 : BitVec 32 := 296#32
  let c0_i32_54 : BitVec 32 := 0#32
  ![v0.toNat, 296, 0]
def k0_mult233 (v114 : BitVec 32) : BitVec 32 :=
  let c8_i32_57 : BitVec 32 := 8#32
  let v115 : BitVec 32 := Scalar.muli v114 c8_i32_57
  v115

def k0_off594 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off595 (v114 : BitVec 32) : Fin 2 → Nat :=
  let c8_i32_57 : BitVec 32 := 8#32
  let v115 : BitVec 32 := Scalar.muli v114 c8_i32_57
  let v116 : BitVec 32 := v115
  let c0_i32_58 : BitVec 32 := 0#32
  ![v116.toNat, 0]

def k0_chk237 (i : grid0.Coords) (v1 : BitVec 32) (v3 : BitVec 32) (v114 : BitVec 32) : Prop :=
  (∀ (k0_h2 : k0_cond2 i v1 = 1#1), ∀ (k0_h13 : k0_cond13 v3 = 1#1), 8 ∣ (k0_mult233 v114).toNat) ∧
  (∀ (k0_h2 : k0_cond2 i v1 = 1#1), ∀ (k0_h13 : k0_cond13 v3 = 1#1), ∀ a, (k0_off595 v114) a + S8x1024.size a ≤ S102400x1024.size a)
theorem k0_mult233_dvd : ∀ (i : grid0.Coords) (v1 : BitVec 32) (v3 : BitVec 32) (v114 : BitVec 32) (k0_hw237 : k0_chk237 i v1 v3 v114), ∀ (k0_h2 : k0_cond2 i v1 = 1#1), ∀ (k0_h13 : k0_cond13 v3 = 1#1), 8 ∣ (k0_mult233 v114).toNat := fun i v1 v3 v114 k0_hw237 k0_h2 k0_h13 => k0_hw237.1 k0_h2 k0_h13
theorem k0_off595_inb : ∀ (i : grid0.Coords) (v1 : BitVec 32) (v3 : BitVec 32) (v114 : BitVec 32) (k0_hw237 : k0_chk237 i v1 v3 v114), ∀ (k0_h2 : k0_cond2 i v1 = 1#1), ∀ (k0_h13 : k0_cond13 v3 = 1#1), ∀ a, (k0_off595 v114) a + S8x1024.size a ≤ S102400x1024.size a := fun i v1 v3 v114 k0_hw237 k0_h2 k0_h13 => k0_hw237.2 k0_h2 k0_h13

def k0_off596 (i : grid0.Coords) : Fin 3 → Nat :=
  let arg0 : BitVec 32 := BitVec.ofNat 32 (i 0).val
  let c1_i32 : BitVec 32 := 1#32
  let v0 : BitVec 32 := Scalar.andi arg0 c1_i32
  let c304_i32 : BitVec 32 := 304#32
  let c0_i32_59 : BitVec 32 := 0#32
  ![v0.toNat, 304, 0]
def k0_mult234 (v122 : BitVec 32) : BitVec 32 :=
  let c8_i32_62 : BitVec 32 := 8#32
  let v123 : BitVec 32 := Scalar.muli v122 c8_i32_62
  v123

def k0_off597 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off598 (v122 : BitVec 32) : Fin 2 → Nat :=
  let c8_i32_62 : BitVec 32 := 8#32
  let v123 : BitVec 32 := Scalar.muli v122 c8_i32_62
  let v124 : BitVec 32 := v123
  let c0_i32_63 : BitVec 32 := 0#32
  ![v124.toNat, 0]

def k0_chk238 (i : grid0.Coords) (v1 : BitVec 32) (v3 : BitVec 32) (v122 : BitVec 32) : Prop :=
  (∀ (k0_h2 : k0_cond2 i v1 = 1#1), ∀ (k0_h13 : k0_cond13 v3 = 1#1), 8 ∣ (k0_mult234 v122).toNat) ∧
  (∀ (k0_h2 : k0_cond2 i v1 = 1#1), ∀ (k0_h13 : k0_cond13 v3 = 1#1), ∀ a, (k0_off598 v122) a + S8x1024.size a ≤ S102400x1024.size a)
theorem k0_mult234_dvd : ∀ (i : grid0.Coords) (v1 : BitVec 32) (v3 : BitVec 32) (v122 : BitVec 32) (k0_hw238 : k0_chk238 i v1 v3 v122), ∀ (k0_h2 : k0_cond2 i v1 = 1#1), ∀ (k0_h13 : k0_cond13 v3 = 1#1), 8 ∣ (k0_mult234 v122).toNat := fun i v1 v3 v122 k0_hw238 k0_h2 k0_h13 => k0_hw238.1 k0_h2 k0_h13
theorem k0_off598_inb : ∀ (i : grid0.Coords) (v1 : BitVec 32) (v3 : BitVec 32) (v122 : BitVec 32) (k0_hw238 : k0_chk238 i v1 v3 v122), ∀ (k0_h2 : k0_cond2 i v1 = 1#1), ∀ (k0_h13 : k0_cond13 v3 = 1#1), ∀ a, (k0_off598 v122) a + S8x1024.size a ≤ S102400x1024.size a := fun i v1 v3 v122 k0_hw238 k0_h2 k0_h13 => k0_hw238.2 k0_h2 k0_h13

def k0_off599 (i : grid0.Coords) : Fin 3 → Nat :=
  let arg0 : BitVec 32 := BitVec.ofNat 32 (i 0).val
  let c1_i32 : BitVec 32 := 1#32
  let v0 : BitVec 32 := Scalar.andi arg0 c1_i32
  let c312_i32 : BitVec 32 := 312#32
  let c0_i32_64 : BitVec 32 := 0#32
  ![v0.toNat, 312, 0]
def k0_mult235 (v66 : BitVec 32) : BitVec 32 :=
  let c8_i32_27 : BitVec 32 := 8#32
  let v67 : BitVec 32 := Scalar.muli v66 c8_i32_27
  v67
def k0_cond14 (v3 : BitVec 32) : BitVec 1 :=
  let c40_i32 : BitVec 32 := 40#32
  let v53 : BitVec 1 := Scalar.cmpi .sgt v3 c40_i32
  let v54 : BitVec 32 := Scalar.extui v53
  let c0_i32_20 : BitVec 32 := 0#32
  let v55 : BitVec 1 := Scalar.cmpi .ne v54 c0_i32_20
  v55

def k0_off600 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off601 (v66 : BitVec 32) : Fin 2 → Nat :=
  let c8_i32_27 : BitVec 32 := 8#32
  let v67 : BitVec 32 := Scalar.muli v66 c8_i32_27
  let v68 : BitVec 32 := v67
  let c0_i32_28 : BitVec 32 := 0#32
  ![v68.toNat, 0]

def k0_chk239 (i : grid0.Coords) (v1 : BitVec 32) (v3 : BitVec 32) (v66 : BitVec 32) : Prop :=
  (∀ (k0_h2 : k0_cond2 i v1 = 1#1), ∀ (k0_h14 : k0_cond14 v3 = 1#1), 8 ∣ (k0_mult235 v66).toNat) ∧
  (∀ (k0_h2 : k0_cond2 i v1 = 1#1), ∀ (k0_h14 : k0_cond14 v3 = 1#1), ∀ a, (k0_off601 v66) a + S8x1024.size a ≤ S102400x1024.size a)
theorem k0_mult235_dvd : ∀ (i : grid0.Coords) (v1 : BitVec 32) (v3 : BitVec 32) (v66 : BitVec 32) (k0_hw239 : k0_chk239 i v1 v3 v66), ∀ (k0_h2 : k0_cond2 i v1 = 1#1), ∀ (k0_h14 : k0_cond14 v3 = 1#1), 8 ∣ (k0_mult235 v66).toNat := fun i v1 v3 v66 k0_hw239 k0_h2 k0_h14 => k0_hw239.1 k0_h2 k0_h14
theorem k0_off601_inb : ∀ (i : grid0.Coords) (v1 : BitVec 32) (v3 : BitVec 32) (v66 : BitVec 32) (k0_hw239 : k0_chk239 i v1 v3 v66), ∀ (k0_h2 : k0_cond2 i v1 = 1#1), ∀ (k0_h14 : k0_cond14 v3 = 1#1), ∀ a, (k0_off601 v66) a + S8x1024.size a ≤ S102400x1024.size a := fun i v1 v3 v66 k0_hw239 k0_h2 k0_h14 => k0_hw239.2 k0_h2 k0_h14

def k0_off602 (i : grid0.Coords) : Fin 3 → Nat :=
  let arg0 : BitVec 32 := BitVec.ofNat 32 (i 0).val
  let c1_i32 : BitVec 32 := 1#32
  let v0 : BitVec 32 := Scalar.andi arg0 c1_i32
  let c320_i32 : BitVec 32 := 320#32
  let c0_i32_29 : BitVec 32 := 0#32
  ![v0.toNat, 320, 0]
def k0_mult236 (v74 : BitVec 32) : BitVec 32 :=
  let c8_i32_32 : BitVec 32 := 8#32
  let v75 : BitVec 32 := Scalar.muli v74 c8_i32_32
  v75

def k0_off603 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off604 (v74 : BitVec 32) : Fin 2 → Nat :=
  let c8_i32_32 : BitVec 32 := 8#32
  let v75 : BitVec 32 := Scalar.muli v74 c8_i32_32
  let v76 : BitVec 32 := v75
  let c0_i32_33 : BitVec 32 := 0#32
  ![v76.toNat, 0]

def k0_chk240 (i : grid0.Coords) (v1 : BitVec 32) (v3 : BitVec 32) (v74 : BitVec 32) : Prop :=
  (∀ (k0_h2 : k0_cond2 i v1 = 1#1), ∀ (k0_h14 : k0_cond14 v3 = 1#1), 8 ∣ (k0_mult236 v74).toNat) ∧
  (∀ (k0_h2 : k0_cond2 i v1 = 1#1), ∀ (k0_h14 : k0_cond14 v3 = 1#1), ∀ a, (k0_off604 v74) a + S8x1024.size a ≤ S102400x1024.size a)
theorem k0_mult236_dvd : ∀ (i : grid0.Coords) (v1 : BitVec 32) (v3 : BitVec 32) (v74 : BitVec 32) (k0_hw240 : k0_chk240 i v1 v3 v74), ∀ (k0_h2 : k0_cond2 i v1 = 1#1), ∀ (k0_h14 : k0_cond14 v3 = 1#1), 8 ∣ (k0_mult236 v74).toNat := fun i v1 v3 v74 k0_hw240 k0_h2 k0_h14 => k0_hw240.1 k0_h2 k0_h14
theorem k0_off604_inb : ∀ (i : grid0.Coords) (v1 : BitVec 32) (v3 : BitVec 32) (v74 : BitVec 32) (k0_hw240 : k0_chk240 i v1 v3 v74), ∀ (k0_h2 : k0_cond2 i v1 = 1#1), ∀ (k0_h14 : k0_cond14 v3 = 1#1), ∀ a, (k0_off604 v74) a + S8x1024.size a ≤ S102400x1024.size a := fun i v1 v3 v74 k0_hw240 k0_h2 k0_h14 => k0_hw240.2 k0_h2 k0_h14

def k0_off605 (i : grid0.Coords) : Fin 3 → Nat :=
  let arg0 : BitVec 32 := BitVec.ofNat 32 (i 0).val
  let c1_i32 : BitVec 32 := 1#32
  let v0 : BitVec 32 := Scalar.andi arg0 c1_i32
  let c328_i32 : BitVec 32 := 328#32
  let c0_i32_34 : BitVec 32 := 0#32
  ![v0.toNat, 328, 0]
def k0_mult237 (v82 : BitVec 32) : BitVec 32 :=
  let c8_i32_37 : BitVec 32 := 8#32
  let v83 : BitVec 32 := Scalar.muli v82 c8_i32_37
  v83

def k0_off606 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off607 (v82 : BitVec 32) : Fin 2 → Nat :=
  let c8_i32_37 : BitVec 32 := 8#32
  let v83 : BitVec 32 := Scalar.muli v82 c8_i32_37
  let v84 : BitVec 32 := v83
  let c0_i32_38 : BitVec 32 := 0#32
  ![v84.toNat, 0]

def k0_chk241 (i : grid0.Coords) (v1 : BitVec 32) (v3 : BitVec 32) (v82 : BitVec 32) : Prop :=
  (∀ (k0_h2 : k0_cond2 i v1 = 1#1), ∀ (k0_h14 : k0_cond14 v3 = 1#1), 8 ∣ (k0_mult237 v82).toNat) ∧
  (∀ (k0_h2 : k0_cond2 i v1 = 1#1), ∀ (k0_h14 : k0_cond14 v3 = 1#1), ∀ a, (k0_off607 v82) a + S8x1024.size a ≤ S102400x1024.size a)
theorem k0_mult237_dvd : ∀ (i : grid0.Coords) (v1 : BitVec 32) (v3 : BitVec 32) (v82 : BitVec 32) (k0_hw241 : k0_chk241 i v1 v3 v82), ∀ (k0_h2 : k0_cond2 i v1 = 1#1), ∀ (k0_h14 : k0_cond14 v3 = 1#1), 8 ∣ (k0_mult237 v82).toNat := fun i v1 v3 v82 k0_hw241 k0_h2 k0_h14 => k0_hw241.1 k0_h2 k0_h14
theorem k0_off607_inb : ∀ (i : grid0.Coords) (v1 : BitVec 32) (v3 : BitVec 32) (v82 : BitVec 32) (k0_hw241 : k0_chk241 i v1 v3 v82), ∀ (k0_h2 : k0_cond2 i v1 = 1#1), ∀ (k0_h14 : k0_cond14 v3 = 1#1), ∀ a, (k0_off607 v82) a + S8x1024.size a ≤ S102400x1024.size a := fun i v1 v3 v82 k0_hw241 k0_h2 k0_h14 => k0_hw241.2 k0_h2 k0_h14

def k0_off608 (i : grid0.Coords) : Fin 3 → Nat :=
  let arg0 : BitVec 32 := BitVec.ofNat 32 (i 0).val
  let c1_i32 : BitVec 32 := 1#32
  let v0 : BitVec 32 := Scalar.andi arg0 c1_i32
  let c336_i32 : BitVec 32 := 336#32
  let c0_i32_39 : BitVec 32 := 0#32
  ![v0.toNat, 336, 0]
def k0_mult238 (v90 : BitVec 32) : BitVec 32 :=
  let c8_i32_42 : BitVec 32 := 8#32
  let v91 : BitVec 32 := Scalar.muli v90 c8_i32_42
  v91

def k0_off609 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off610 (v90 : BitVec 32) : Fin 2 → Nat :=
  let c8_i32_42 : BitVec 32 := 8#32
  let v91 : BitVec 32 := Scalar.muli v90 c8_i32_42
  let v92 : BitVec 32 := v91
  let c0_i32_43 : BitVec 32 := 0#32
  ![v92.toNat, 0]

def k0_chk242 (i : grid0.Coords) (v1 : BitVec 32) (v3 : BitVec 32) (v90 : BitVec 32) : Prop :=
  (∀ (k0_h2 : k0_cond2 i v1 = 1#1), ∀ (k0_h14 : k0_cond14 v3 = 1#1), 8 ∣ (k0_mult238 v90).toNat) ∧
  (∀ (k0_h2 : k0_cond2 i v1 = 1#1), ∀ (k0_h14 : k0_cond14 v3 = 1#1), ∀ a, (k0_off610 v90) a + S8x1024.size a ≤ S102400x1024.size a)
theorem k0_mult238_dvd : ∀ (i : grid0.Coords) (v1 : BitVec 32) (v3 : BitVec 32) (v90 : BitVec 32) (k0_hw242 : k0_chk242 i v1 v3 v90), ∀ (k0_h2 : k0_cond2 i v1 = 1#1), ∀ (k0_h14 : k0_cond14 v3 = 1#1), 8 ∣ (k0_mult238 v90).toNat := fun i v1 v3 v90 k0_hw242 k0_h2 k0_h14 => k0_hw242.1 k0_h2 k0_h14
theorem k0_off610_inb : ∀ (i : grid0.Coords) (v1 : BitVec 32) (v3 : BitVec 32) (v90 : BitVec 32) (k0_hw242 : k0_chk242 i v1 v3 v90), ∀ (k0_h2 : k0_cond2 i v1 = 1#1), ∀ (k0_h14 : k0_cond14 v3 = 1#1), ∀ a, (k0_off610 v90) a + S8x1024.size a ≤ S102400x1024.size a := fun i v1 v3 v90 k0_hw242 k0_h2 k0_h14 => k0_hw242.2 k0_h2 k0_h14

def k0_off611 (i : grid0.Coords) : Fin 3 → Nat :=
  let arg0 : BitVec 32 := BitVec.ofNat 32 (i 0).val
  let c1_i32 : BitVec 32 := 1#32
  let v0 : BitVec 32 := Scalar.andi arg0 c1_i32
  let c344_i32 : BitVec 32 := 344#32
  let c0_i32_44 : BitVec 32 := 0#32
  ![v0.toNat, 344, 0]
def k0_mult239 (v98 : BitVec 32) : BitVec 32 :=
  let c8_i32_47 : BitVec 32 := 8#32
  let v99 : BitVec 32 := Scalar.muli v98 c8_i32_47
  v99

def k0_off612 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off613 (v98 : BitVec 32) : Fin 2 → Nat :=
  let c8_i32_47 : BitVec 32 := 8#32
  let v99 : BitVec 32 := Scalar.muli v98 c8_i32_47
  let v100 : BitVec 32 := v99
  let c0_i32_48 : BitVec 32 := 0#32
  ![v100.toNat, 0]

def k0_chk243 (i : grid0.Coords) (v1 : BitVec 32) (v3 : BitVec 32) (v98 : BitVec 32) : Prop :=
  (∀ (k0_h2 : k0_cond2 i v1 = 1#1), ∀ (k0_h14 : k0_cond14 v3 = 1#1), 8 ∣ (k0_mult239 v98).toNat) ∧
  (∀ (k0_h2 : k0_cond2 i v1 = 1#1), ∀ (k0_h14 : k0_cond14 v3 = 1#1), ∀ a, (k0_off613 v98) a + S8x1024.size a ≤ S102400x1024.size a)
theorem k0_mult239_dvd : ∀ (i : grid0.Coords) (v1 : BitVec 32) (v3 : BitVec 32) (v98 : BitVec 32) (k0_hw243 : k0_chk243 i v1 v3 v98), ∀ (k0_h2 : k0_cond2 i v1 = 1#1), ∀ (k0_h14 : k0_cond14 v3 = 1#1), 8 ∣ (k0_mult239 v98).toNat := fun i v1 v3 v98 k0_hw243 k0_h2 k0_h14 => k0_hw243.1 k0_h2 k0_h14
theorem k0_off613_inb : ∀ (i : grid0.Coords) (v1 : BitVec 32) (v3 : BitVec 32) (v98 : BitVec 32) (k0_hw243 : k0_chk243 i v1 v3 v98), ∀ (k0_h2 : k0_cond2 i v1 = 1#1), ∀ (k0_h14 : k0_cond14 v3 = 1#1), ∀ a, (k0_off613 v98) a + S8x1024.size a ≤ S102400x1024.size a := fun i v1 v3 v98 k0_hw243 k0_h2 k0_h14 => k0_hw243.2 k0_h2 k0_h14

def k0_off614 (i : grid0.Coords) : Fin 3 → Nat :=
  let arg0 : BitVec 32 := BitVec.ofNat 32 (i 0).val
  let c1_i32 : BitVec 32 := 1#32
  let v0 : BitVec 32 := Scalar.andi arg0 c1_i32
  let c352_i32 : BitVec 32 := 352#32
  let c0_i32_49 : BitVec 32 := 0#32
  ![v0.toNat, 352, 0]
def k0_mult240 (v106 : BitVec 32) : BitVec 32 :=
  let c8_i32_52 : BitVec 32 := 8#32
  let v107 : BitVec 32 := Scalar.muli v106 c8_i32_52
  v107

def k0_off615 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off616 (v106 : BitVec 32) : Fin 2 → Nat :=
  let c8_i32_52 : BitVec 32 := 8#32
  let v107 : BitVec 32 := Scalar.muli v106 c8_i32_52
  let v108 : BitVec 32 := v107
  let c0_i32_53 : BitVec 32 := 0#32
  ![v108.toNat, 0]

def k0_chk244 (i : grid0.Coords) (v1 : BitVec 32) (v3 : BitVec 32) (v106 : BitVec 32) : Prop :=
  (∀ (k0_h2 : k0_cond2 i v1 = 1#1), ∀ (k0_h14 : k0_cond14 v3 = 1#1), 8 ∣ (k0_mult240 v106).toNat) ∧
  (∀ (k0_h2 : k0_cond2 i v1 = 1#1), ∀ (k0_h14 : k0_cond14 v3 = 1#1), ∀ a, (k0_off616 v106) a + S8x1024.size a ≤ S102400x1024.size a)
theorem k0_mult240_dvd : ∀ (i : grid0.Coords) (v1 : BitVec 32) (v3 : BitVec 32) (v106 : BitVec 32) (k0_hw244 : k0_chk244 i v1 v3 v106), ∀ (k0_h2 : k0_cond2 i v1 = 1#1), ∀ (k0_h14 : k0_cond14 v3 = 1#1), 8 ∣ (k0_mult240 v106).toNat := fun i v1 v3 v106 k0_hw244 k0_h2 k0_h14 => k0_hw244.1 k0_h2 k0_h14
theorem k0_off616_inb : ∀ (i : grid0.Coords) (v1 : BitVec 32) (v3 : BitVec 32) (v106 : BitVec 32) (k0_hw244 : k0_chk244 i v1 v3 v106), ∀ (k0_h2 : k0_cond2 i v1 = 1#1), ∀ (k0_h14 : k0_cond14 v3 = 1#1), ∀ a, (k0_off616 v106) a + S8x1024.size a ≤ S102400x1024.size a := fun i v1 v3 v106 k0_hw244 k0_h2 k0_h14 => k0_hw244.2 k0_h2 k0_h14

def k0_off617 (i : grid0.Coords) : Fin 3 → Nat :=
  let arg0 : BitVec 32 := BitVec.ofNat 32 (i 0).val
  let c1_i32 : BitVec 32 := 1#32
  let v0 : BitVec 32 := Scalar.andi arg0 c1_i32
  let c360_i32 : BitVec 32 := 360#32
  let c0_i32_54 : BitVec 32 := 0#32
  ![v0.toNat, 360, 0]
def k0_mult241 (v114 : BitVec 32) : BitVec 32 :=
  let c8_i32_57 : BitVec 32 := 8#32
  let v115 : BitVec 32 := Scalar.muli v114 c8_i32_57
  v115

def k0_off618 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off619 (v114 : BitVec 32) : Fin 2 → Nat :=
  let c8_i32_57 : BitVec 32 := 8#32
  let v115 : BitVec 32 := Scalar.muli v114 c8_i32_57
  let v116 : BitVec 32 := v115
  let c0_i32_58 : BitVec 32 := 0#32
  ![v116.toNat, 0]

def k0_chk245 (i : grid0.Coords) (v1 : BitVec 32) (v3 : BitVec 32) (v114 : BitVec 32) : Prop :=
  (∀ (k0_h2 : k0_cond2 i v1 = 1#1), ∀ (k0_h14 : k0_cond14 v3 = 1#1), 8 ∣ (k0_mult241 v114).toNat) ∧
  (∀ (k0_h2 : k0_cond2 i v1 = 1#1), ∀ (k0_h14 : k0_cond14 v3 = 1#1), ∀ a, (k0_off619 v114) a + S8x1024.size a ≤ S102400x1024.size a)
theorem k0_mult241_dvd : ∀ (i : grid0.Coords) (v1 : BitVec 32) (v3 : BitVec 32) (v114 : BitVec 32) (k0_hw245 : k0_chk245 i v1 v3 v114), ∀ (k0_h2 : k0_cond2 i v1 = 1#1), ∀ (k0_h14 : k0_cond14 v3 = 1#1), 8 ∣ (k0_mult241 v114).toNat := fun i v1 v3 v114 k0_hw245 k0_h2 k0_h14 => k0_hw245.1 k0_h2 k0_h14
theorem k0_off619_inb : ∀ (i : grid0.Coords) (v1 : BitVec 32) (v3 : BitVec 32) (v114 : BitVec 32) (k0_hw245 : k0_chk245 i v1 v3 v114), ∀ (k0_h2 : k0_cond2 i v1 = 1#1), ∀ (k0_h14 : k0_cond14 v3 = 1#1), ∀ a, (k0_off619 v114) a + S8x1024.size a ≤ S102400x1024.size a := fun i v1 v3 v114 k0_hw245 k0_h2 k0_h14 => k0_hw245.2 k0_h2 k0_h14

def k0_off620 (i : grid0.Coords) : Fin 3 → Nat :=
  let arg0 : BitVec 32 := BitVec.ofNat 32 (i 0).val
  let c1_i32 : BitVec 32 := 1#32
  let v0 : BitVec 32 := Scalar.andi arg0 c1_i32
  let c368_i32 : BitVec 32 := 368#32
  let c0_i32_59 : BitVec 32 := 0#32
  ![v0.toNat, 368, 0]
def k0_mult242 (v122 : BitVec 32) : BitVec 32 :=
  let c8_i32_62 : BitVec 32 := 8#32
  let v123 : BitVec 32 := Scalar.muli v122 c8_i32_62
  v123

def k0_off621 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off622 (v122 : BitVec 32) : Fin 2 → Nat :=
  let c8_i32_62 : BitVec 32 := 8#32
  let v123 : BitVec 32 := Scalar.muli v122 c8_i32_62
  let v124 : BitVec 32 := v123
  let c0_i32_63 : BitVec 32 := 0#32
  ![v124.toNat, 0]

def k0_chk246 (i : grid0.Coords) (v1 : BitVec 32) (v3 : BitVec 32) (v122 : BitVec 32) : Prop :=
  (∀ (k0_h2 : k0_cond2 i v1 = 1#1), ∀ (k0_h14 : k0_cond14 v3 = 1#1), 8 ∣ (k0_mult242 v122).toNat) ∧
  (∀ (k0_h2 : k0_cond2 i v1 = 1#1), ∀ (k0_h14 : k0_cond14 v3 = 1#1), ∀ a, (k0_off622 v122) a + S8x1024.size a ≤ S102400x1024.size a)
theorem k0_mult242_dvd : ∀ (i : grid0.Coords) (v1 : BitVec 32) (v3 : BitVec 32) (v122 : BitVec 32) (k0_hw246 : k0_chk246 i v1 v3 v122), ∀ (k0_h2 : k0_cond2 i v1 = 1#1), ∀ (k0_h14 : k0_cond14 v3 = 1#1), 8 ∣ (k0_mult242 v122).toNat := fun i v1 v3 v122 k0_hw246 k0_h2 k0_h14 => k0_hw246.1 k0_h2 k0_h14
theorem k0_off622_inb : ∀ (i : grid0.Coords) (v1 : BitVec 32) (v3 : BitVec 32) (v122 : BitVec 32) (k0_hw246 : k0_chk246 i v1 v3 v122), ∀ (k0_h2 : k0_cond2 i v1 = 1#1), ∀ (k0_h14 : k0_cond14 v3 = 1#1), ∀ a, (k0_off622 v122) a + S8x1024.size a ≤ S102400x1024.size a := fun i v1 v3 v122 k0_hw246 k0_h2 k0_h14 => k0_hw246.2 k0_h2 k0_h14

def k0_off623 (i : grid0.Coords) : Fin 3 → Nat :=
  let arg0 : BitVec 32 := BitVec.ofNat 32 (i 0).val
  let c1_i32 : BitVec 32 := 1#32
  let v0 : BitVec 32 := Scalar.andi arg0 c1_i32
  let c376_i32 : BitVec 32 := 376#32
  let c0_i32_64 : BitVec 32 := 0#32
  ![v0.toNat, 376, 0]
def k0_mult243 (v66 : BitVec 32) : BitVec 32 :=
  let c8_i32_27 : BitVec 32 := 8#32
  let v67 : BitVec 32 := Scalar.muli v66 c8_i32_27
  v67
def k0_cond15 (v3 : BitVec 32) : BitVec 1 :=
  let c48_i32 : BitVec 32 := 48#32
  let v56 : BitVec 1 := Scalar.cmpi .sgt v3 c48_i32
  let v57 : BitVec 32 := Scalar.extui v56
  let c0_i32_21 : BitVec 32 := 0#32
  let v58 : BitVec 1 := Scalar.cmpi .ne v57 c0_i32_21
  v58

def k0_off624 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off625 (v66 : BitVec 32) : Fin 2 → Nat :=
  let c8_i32_27 : BitVec 32 := 8#32
  let v67 : BitVec 32 := Scalar.muli v66 c8_i32_27
  let v68 : BitVec 32 := v67
  let c0_i32_28 : BitVec 32 := 0#32
  ![v68.toNat, 0]

def k0_chk247 (i : grid0.Coords) (v1 : BitVec 32) (v3 : BitVec 32) (v66 : BitVec 32) : Prop :=
  (∀ (k0_h2 : k0_cond2 i v1 = 1#1), ∀ (k0_h15 : k0_cond15 v3 = 1#1), 8 ∣ (k0_mult243 v66).toNat) ∧
  (∀ (k0_h2 : k0_cond2 i v1 = 1#1), ∀ (k0_h15 : k0_cond15 v3 = 1#1), ∀ a, (k0_off625 v66) a + S8x1024.size a ≤ S102400x1024.size a)
theorem k0_mult243_dvd : ∀ (i : grid0.Coords) (v1 : BitVec 32) (v3 : BitVec 32) (v66 : BitVec 32) (k0_hw247 : k0_chk247 i v1 v3 v66), ∀ (k0_h2 : k0_cond2 i v1 = 1#1), ∀ (k0_h15 : k0_cond15 v3 = 1#1), 8 ∣ (k0_mult243 v66).toNat := fun i v1 v3 v66 k0_hw247 k0_h2 k0_h15 => k0_hw247.1 k0_h2 k0_h15
theorem k0_off625_inb : ∀ (i : grid0.Coords) (v1 : BitVec 32) (v3 : BitVec 32) (v66 : BitVec 32) (k0_hw247 : k0_chk247 i v1 v3 v66), ∀ (k0_h2 : k0_cond2 i v1 = 1#1), ∀ (k0_h15 : k0_cond15 v3 = 1#1), ∀ a, (k0_off625 v66) a + S8x1024.size a ≤ S102400x1024.size a := fun i v1 v3 v66 k0_hw247 k0_h2 k0_h15 => k0_hw247.2 k0_h2 k0_h15

def k0_off626 (i : grid0.Coords) : Fin 3 → Nat :=
  let arg0 : BitVec 32 := BitVec.ofNat 32 (i 0).val
  let c1_i32 : BitVec 32 := 1#32
  let v0 : BitVec 32 := Scalar.andi arg0 c1_i32
  let c384_i32 : BitVec 32 := 384#32
  let c0_i32_29 : BitVec 32 := 0#32
  ![v0.toNat, 384, 0]
def k0_mult244 (v74 : BitVec 32) : BitVec 32 :=
  let c8_i32_32 : BitVec 32 := 8#32
  let v75 : BitVec 32 := Scalar.muli v74 c8_i32_32
  v75

def k0_off627 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off628 (v74 : BitVec 32) : Fin 2 → Nat :=
  let c8_i32_32 : BitVec 32 := 8#32
  let v75 : BitVec 32 := Scalar.muli v74 c8_i32_32
  let v76 : BitVec 32 := v75
  let c0_i32_33 : BitVec 32 := 0#32
  ![v76.toNat, 0]

def k0_chk248 (i : grid0.Coords) (v1 : BitVec 32) (v3 : BitVec 32) (v74 : BitVec 32) : Prop :=
  (∀ (k0_h2 : k0_cond2 i v1 = 1#1), ∀ (k0_h15 : k0_cond15 v3 = 1#1), 8 ∣ (k0_mult244 v74).toNat) ∧
  (∀ (k0_h2 : k0_cond2 i v1 = 1#1), ∀ (k0_h15 : k0_cond15 v3 = 1#1), ∀ a, (k0_off628 v74) a + S8x1024.size a ≤ S102400x1024.size a)
theorem k0_mult244_dvd : ∀ (i : grid0.Coords) (v1 : BitVec 32) (v3 : BitVec 32) (v74 : BitVec 32) (k0_hw248 : k0_chk248 i v1 v3 v74), ∀ (k0_h2 : k0_cond2 i v1 = 1#1), ∀ (k0_h15 : k0_cond15 v3 = 1#1), 8 ∣ (k0_mult244 v74).toNat := fun i v1 v3 v74 k0_hw248 k0_h2 k0_h15 => k0_hw248.1 k0_h2 k0_h15
theorem k0_off628_inb : ∀ (i : grid0.Coords) (v1 : BitVec 32) (v3 : BitVec 32) (v74 : BitVec 32) (k0_hw248 : k0_chk248 i v1 v3 v74), ∀ (k0_h2 : k0_cond2 i v1 = 1#1), ∀ (k0_h15 : k0_cond15 v3 = 1#1), ∀ a, (k0_off628 v74) a + S8x1024.size a ≤ S102400x1024.size a := fun i v1 v3 v74 k0_hw248 k0_h2 k0_h15 => k0_hw248.2 k0_h2 k0_h15

def k0_off629 (i : grid0.Coords) : Fin 3 → Nat :=
  let arg0 : BitVec 32 := BitVec.ofNat 32 (i 0).val
  let c1_i32 : BitVec 32 := 1#32
  let v0 : BitVec 32 := Scalar.andi arg0 c1_i32
  let c392_i32 : BitVec 32 := 392#32
  let c0_i32_34 : BitVec 32 := 0#32
  ![v0.toNat, 392, 0]
def k0_mult245 (v82 : BitVec 32) : BitVec 32 :=
  let c8_i32_37 : BitVec 32 := 8#32
  let v83 : BitVec 32 := Scalar.muli v82 c8_i32_37
  v83

def k0_off630 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off631 (v82 : BitVec 32) : Fin 2 → Nat :=
  let c8_i32_37 : BitVec 32 := 8#32
  let v83 : BitVec 32 := Scalar.muli v82 c8_i32_37
  let v84 : BitVec 32 := v83
  let c0_i32_38 : BitVec 32 := 0#32
  ![v84.toNat, 0]

def k0_chk249 (i : grid0.Coords) (v1 : BitVec 32) (v3 : BitVec 32) (v82 : BitVec 32) : Prop :=
  (∀ (k0_h2 : k0_cond2 i v1 = 1#1), ∀ (k0_h15 : k0_cond15 v3 = 1#1), 8 ∣ (k0_mult245 v82).toNat) ∧
  (∀ (k0_h2 : k0_cond2 i v1 = 1#1), ∀ (k0_h15 : k0_cond15 v3 = 1#1), ∀ a, (k0_off631 v82) a + S8x1024.size a ≤ S102400x1024.size a)
theorem k0_mult245_dvd : ∀ (i : grid0.Coords) (v1 : BitVec 32) (v3 : BitVec 32) (v82 : BitVec 32) (k0_hw249 : k0_chk249 i v1 v3 v82), ∀ (k0_h2 : k0_cond2 i v1 = 1#1), ∀ (k0_h15 : k0_cond15 v3 = 1#1), 8 ∣ (k0_mult245 v82).toNat := fun i v1 v3 v82 k0_hw249 k0_h2 k0_h15 => k0_hw249.1 k0_h2 k0_h15
theorem k0_off631_inb : ∀ (i : grid0.Coords) (v1 : BitVec 32) (v3 : BitVec 32) (v82 : BitVec 32) (k0_hw249 : k0_chk249 i v1 v3 v82), ∀ (k0_h2 : k0_cond2 i v1 = 1#1), ∀ (k0_h15 : k0_cond15 v3 = 1#1), ∀ a, (k0_off631 v82) a + S8x1024.size a ≤ S102400x1024.size a := fun i v1 v3 v82 k0_hw249 k0_h2 k0_h15 => k0_hw249.2 k0_h2 k0_h15

def k0_off632 (i : grid0.Coords) : Fin 3 → Nat :=
  let arg0 : BitVec 32 := BitVec.ofNat 32 (i 0).val
  let c1_i32 : BitVec 32 := 1#32
  let v0 : BitVec 32 := Scalar.andi arg0 c1_i32
  let c400_i32 : BitVec 32 := 400#32
  let c0_i32_39 : BitVec 32 := 0#32
  ![v0.toNat, 400, 0]
def k0_mult246 (v90 : BitVec 32) : BitVec 32 :=
  let c8_i32_42 : BitVec 32 := 8#32
  let v91 : BitVec 32 := Scalar.muli v90 c8_i32_42
  v91

def k0_off633 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off634 (v90 : BitVec 32) : Fin 2 → Nat :=
  let c8_i32_42 : BitVec 32 := 8#32
  let v91 : BitVec 32 := Scalar.muli v90 c8_i32_42
  let v92 : BitVec 32 := v91
  let c0_i32_43 : BitVec 32 := 0#32
  ![v92.toNat, 0]

def k0_chk250 (i : grid0.Coords) (v1 : BitVec 32) (v3 : BitVec 32) (v90 : BitVec 32) : Prop :=
  (∀ (k0_h2 : k0_cond2 i v1 = 1#1), ∀ (k0_h15 : k0_cond15 v3 = 1#1), 8 ∣ (k0_mult246 v90).toNat) ∧
  (∀ (k0_h2 : k0_cond2 i v1 = 1#1), ∀ (k0_h15 : k0_cond15 v3 = 1#1), ∀ a, (k0_off634 v90) a + S8x1024.size a ≤ S102400x1024.size a)
theorem k0_mult246_dvd : ∀ (i : grid0.Coords) (v1 : BitVec 32) (v3 : BitVec 32) (v90 : BitVec 32) (k0_hw250 : k0_chk250 i v1 v3 v90), ∀ (k0_h2 : k0_cond2 i v1 = 1#1), ∀ (k0_h15 : k0_cond15 v3 = 1#1), 8 ∣ (k0_mult246 v90).toNat := fun i v1 v3 v90 k0_hw250 k0_h2 k0_h15 => k0_hw250.1 k0_h2 k0_h15
theorem k0_off634_inb : ∀ (i : grid0.Coords) (v1 : BitVec 32) (v3 : BitVec 32) (v90 : BitVec 32) (k0_hw250 : k0_chk250 i v1 v3 v90), ∀ (k0_h2 : k0_cond2 i v1 = 1#1), ∀ (k0_h15 : k0_cond15 v3 = 1#1), ∀ a, (k0_off634 v90) a + S8x1024.size a ≤ S102400x1024.size a := fun i v1 v3 v90 k0_hw250 k0_h2 k0_h15 => k0_hw250.2 k0_h2 k0_h15

def k0_off635 (i : grid0.Coords) : Fin 3 → Nat :=
  let arg0 : BitVec 32 := BitVec.ofNat 32 (i 0).val
  let c1_i32 : BitVec 32 := 1#32
  let v0 : BitVec 32 := Scalar.andi arg0 c1_i32
  let c408_i32 : BitVec 32 := 408#32
  let c0_i32_44 : BitVec 32 := 0#32
  ![v0.toNat, 408, 0]
def k0_mult247 (v98 : BitVec 32) : BitVec 32 :=
  let c8_i32_47 : BitVec 32 := 8#32
  let v99 : BitVec 32 := Scalar.muli v98 c8_i32_47
  v99

def k0_off636 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off637 (v98 : BitVec 32) : Fin 2 → Nat :=
  let c8_i32_47 : BitVec 32 := 8#32
  let v99 : BitVec 32 := Scalar.muli v98 c8_i32_47
  let v100 : BitVec 32 := v99
  let c0_i32_48 : BitVec 32 := 0#32
  ![v100.toNat, 0]

def k0_chk251 (i : grid0.Coords) (v1 : BitVec 32) (v3 : BitVec 32) (v98 : BitVec 32) : Prop :=
  (∀ (k0_h2 : k0_cond2 i v1 = 1#1), ∀ (k0_h15 : k0_cond15 v3 = 1#1), 8 ∣ (k0_mult247 v98).toNat) ∧
  (∀ (k0_h2 : k0_cond2 i v1 = 1#1), ∀ (k0_h15 : k0_cond15 v3 = 1#1), ∀ a, (k0_off637 v98) a + S8x1024.size a ≤ S102400x1024.size a)
theorem k0_mult247_dvd : ∀ (i : grid0.Coords) (v1 : BitVec 32) (v3 : BitVec 32) (v98 : BitVec 32) (k0_hw251 : k0_chk251 i v1 v3 v98), ∀ (k0_h2 : k0_cond2 i v1 = 1#1), ∀ (k0_h15 : k0_cond15 v3 = 1#1), 8 ∣ (k0_mult247 v98).toNat := fun i v1 v3 v98 k0_hw251 k0_h2 k0_h15 => k0_hw251.1 k0_h2 k0_h15
theorem k0_off637_inb : ∀ (i : grid0.Coords) (v1 : BitVec 32) (v3 : BitVec 32) (v98 : BitVec 32) (k0_hw251 : k0_chk251 i v1 v3 v98), ∀ (k0_h2 : k0_cond2 i v1 = 1#1), ∀ (k0_h15 : k0_cond15 v3 = 1#1), ∀ a, (k0_off637 v98) a + S8x1024.size a ≤ S102400x1024.size a := fun i v1 v3 v98 k0_hw251 k0_h2 k0_h15 => k0_hw251.2 k0_h2 k0_h15

def k0_off638 (i : grid0.Coords) : Fin 3 → Nat :=
  let arg0 : BitVec 32 := BitVec.ofNat 32 (i 0).val
  let c1_i32 : BitVec 32 := 1#32
  let v0 : BitVec 32 := Scalar.andi arg0 c1_i32
  let c416_i32 : BitVec 32 := 416#32
  let c0_i32_49 : BitVec 32 := 0#32
  ![v0.toNat, 416, 0]
def k0_mult248 (v106 : BitVec 32) : BitVec 32 :=
  let c8_i32_52 : BitVec 32 := 8#32
  let v107 : BitVec 32 := Scalar.muli v106 c8_i32_52
  v107

def k0_off639 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off640 (v106 : BitVec 32) : Fin 2 → Nat :=
  let c8_i32_52 : BitVec 32 := 8#32
  let v107 : BitVec 32 := Scalar.muli v106 c8_i32_52
  let v108 : BitVec 32 := v107
  let c0_i32_53 : BitVec 32 := 0#32
  ![v108.toNat, 0]

def k0_chk252 (i : grid0.Coords) (v1 : BitVec 32) (v3 : BitVec 32) (v106 : BitVec 32) : Prop :=
  (∀ (k0_h2 : k0_cond2 i v1 = 1#1), ∀ (k0_h15 : k0_cond15 v3 = 1#1), 8 ∣ (k0_mult248 v106).toNat) ∧
  (∀ (k0_h2 : k0_cond2 i v1 = 1#1), ∀ (k0_h15 : k0_cond15 v3 = 1#1), ∀ a, (k0_off640 v106) a + S8x1024.size a ≤ S102400x1024.size a)
theorem k0_mult248_dvd : ∀ (i : grid0.Coords) (v1 : BitVec 32) (v3 : BitVec 32) (v106 : BitVec 32) (k0_hw252 : k0_chk252 i v1 v3 v106), ∀ (k0_h2 : k0_cond2 i v1 = 1#1), ∀ (k0_h15 : k0_cond15 v3 = 1#1), 8 ∣ (k0_mult248 v106).toNat := fun i v1 v3 v106 k0_hw252 k0_h2 k0_h15 => k0_hw252.1 k0_h2 k0_h15
theorem k0_off640_inb : ∀ (i : grid0.Coords) (v1 : BitVec 32) (v3 : BitVec 32) (v106 : BitVec 32) (k0_hw252 : k0_chk252 i v1 v3 v106), ∀ (k0_h2 : k0_cond2 i v1 = 1#1), ∀ (k0_h15 : k0_cond15 v3 = 1#1), ∀ a, (k0_off640 v106) a + S8x1024.size a ≤ S102400x1024.size a := fun i v1 v3 v106 k0_hw252 k0_h2 k0_h15 => k0_hw252.2 k0_h2 k0_h15

def k0_off641 (i : grid0.Coords) : Fin 3 → Nat :=
  let arg0 : BitVec 32 := BitVec.ofNat 32 (i 0).val
  let c1_i32 : BitVec 32 := 1#32
  let v0 : BitVec 32 := Scalar.andi arg0 c1_i32
  let c424_i32 : BitVec 32 := 424#32
  let c0_i32_54 : BitVec 32 := 0#32
  ![v0.toNat, 424, 0]
def k0_mult249 (v114 : BitVec 32) : BitVec 32 :=
  let c8_i32_57 : BitVec 32 := 8#32
  let v115 : BitVec 32 := Scalar.muli v114 c8_i32_57
  v115

def k0_off642 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off643 (v114 : BitVec 32) : Fin 2 → Nat :=
  let c8_i32_57 : BitVec 32 := 8#32
  let v115 : BitVec 32 := Scalar.muli v114 c8_i32_57
  let v116 : BitVec 32 := v115
  let c0_i32_58 : BitVec 32 := 0#32
  ![v116.toNat, 0]

def k0_chk253 (i : grid0.Coords) (v1 : BitVec 32) (v3 : BitVec 32) (v114 : BitVec 32) : Prop :=
  (∀ (k0_h2 : k0_cond2 i v1 = 1#1), ∀ (k0_h15 : k0_cond15 v3 = 1#1), 8 ∣ (k0_mult249 v114).toNat) ∧
  (∀ (k0_h2 : k0_cond2 i v1 = 1#1), ∀ (k0_h15 : k0_cond15 v3 = 1#1), ∀ a, (k0_off643 v114) a + S8x1024.size a ≤ S102400x1024.size a)
theorem k0_mult249_dvd : ∀ (i : grid0.Coords) (v1 : BitVec 32) (v3 : BitVec 32) (v114 : BitVec 32) (k0_hw253 : k0_chk253 i v1 v3 v114), ∀ (k0_h2 : k0_cond2 i v1 = 1#1), ∀ (k0_h15 : k0_cond15 v3 = 1#1), 8 ∣ (k0_mult249 v114).toNat := fun i v1 v3 v114 k0_hw253 k0_h2 k0_h15 => k0_hw253.1 k0_h2 k0_h15
theorem k0_off643_inb : ∀ (i : grid0.Coords) (v1 : BitVec 32) (v3 : BitVec 32) (v114 : BitVec 32) (k0_hw253 : k0_chk253 i v1 v3 v114), ∀ (k0_h2 : k0_cond2 i v1 = 1#1), ∀ (k0_h15 : k0_cond15 v3 = 1#1), ∀ a, (k0_off643 v114) a + S8x1024.size a ≤ S102400x1024.size a := fun i v1 v3 v114 k0_hw253 k0_h2 k0_h15 => k0_hw253.2 k0_h2 k0_h15

def k0_off644 (i : grid0.Coords) : Fin 3 → Nat :=
  let arg0 : BitVec 32 := BitVec.ofNat 32 (i 0).val
  let c1_i32 : BitVec 32 := 1#32
  let v0 : BitVec 32 := Scalar.andi arg0 c1_i32
  let c432_i32 : BitVec 32 := 432#32
  let c0_i32_59 : BitVec 32 := 0#32
  ![v0.toNat, 432, 0]
def k0_mult250 (v122 : BitVec 32) : BitVec 32 :=
  let c8_i32_62 : BitVec 32 := 8#32
  let v123 : BitVec 32 := Scalar.muli v122 c8_i32_62
  v123

def k0_off645 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off646 (v122 : BitVec 32) : Fin 2 → Nat :=
  let c8_i32_62 : BitVec 32 := 8#32
  let v123 : BitVec 32 := Scalar.muli v122 c8_i32_62
  let v124 : BitVec 32 := v123
  let c0_i32_63 : BitVec 32 := 0#32
  ![v124.toNat, 0]

def k0_chk254 (i : grid0.Coords) (v1 : BitVec 32) (v3 : BitVec 32) (v122 : BitVec 32) : Prop :=
  (∀ (k0_h2 : k0_cond2 i v1 = 1#1), ∀ (k0_h15 : k0_cond15 v3 = 1#1), 8 ∣ (k0_mult250 v122).toNat) ∧
  (∀ (k0_h2 : k0_cond2 i v1 = 1#1), ∀ (k0_h15 : k0_cond15 v3 = 1#1), ∀ a, (k0_off646 v122) a + S8x1024.size a ≤ S102400x1024.size a)
theorem k0_mult250_dvd : ∀ (i : grid0.Coords) (v1 : BitVec 32) (v3 : BitVec 32) (v122 : BitVec 32) (k0_hw254 : k0_chk254 i v1 v3 v122), ∀ (k0_h2 : k0_cond2 i v1 = 1#1), ∀ (k0_h15 : k0_cond15 v3 = 1#1), 8 ∣ (k0_mult250 v122).toNat := fun i v1 v3 v122 k0_hw254 k0_h2 k0_h15 => k0_hw254.1 k0_h2 k0_h15
theorem k0_off646_inb : ∀ (i : grid0.Coords) (v1 : BitVec 32) (v3 : BitVec 32) (v122 : BitVec 32) (k0_hw254 : k0_chk254 i v1 v3 v122), ∀ (k0_h2 : k0_cond2 i v1 = 1#1), ∀ (k0_h15 : k0_cond15 v3 = 1#1), ∀ a, (k0_off646 v122) a + S8x1024.size a ≤ S102400x1024.size a := fun i v1 v3 v122 k0_hw254 k0_h2 k0_h15 => k0_hw254.2 k0_h2 k0_h15

def k0_off647 (i : grid0.Coords) : Fin 3 → Nat :=
  let arg0 : BitVec 32 := BitVec.ofNat 32 (i 0).val
  let c1_i32 : BitVec 32 := 1#32
  let v0 : BitVec 32 := Scalar.andi arg0 c1_i32
  let c440_i32 : BitVec 32 := 440#32
  let c0_i32_64 : BitVec 32 := 0#32
  ![v0.toNat, 440, 0]
def k0_mult251 (v66 : BitVec 32) : BitVec 32 :=
  let c8_i32_27 : BitVec 32 := 8#32
  let v67 : BitVec 32 := Scalar.muli v66 c8_i32_27
  v67
def k0_cond16 (v3 : BitVec 32) : BitVec 1 :=
  let c56_i32 : BitVec 32 := 56#32
  let v59 : BitVec 1 := Scalar.cmpi .sgt v3 c56_i32
  let v60 : BitVec 32 := Scalar.extui v59
  let c0_i32_22 : BitVec 32 := 0#32
  let v61 : BitVec 1 := Scalar.cmpi .ne v60 c0_i32_22
  v61

def k0_off648 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off649 (v66 : BitVec 32) : Fin 2 → Nat :=
  let c8_i32_27 : BitVec 32 := 8#32
  let v67 : BitVec 32 := Scalar.muli v66 c8_i32_27
  let v68 : BitVec 32 := v67
  let c0_i32_28 : BitVec 32 := 0#32
  ![v68.toNat, 0]

def k0_chk255 (i : grid0.Coords) (v1 : BitVec 32) (v3 : BitVec 32) (v66 : BitVec 32) : Prop :=
  (∀ (k0_h2 : k0_cond2 i v1 = 1#1), ∀ (k0_h16 : k0_cond16 v3 = 1#1), 8 ∣ (k0_mult251 v66).toNat) ∧
  (∀ (k0_h2 : k0_cond2 i v1 = 1#1), ∀ (k0_h16 : k0_cond16 v3 = 1#1), ∀ a, (k0_off649 v66) a + S8x1024.size a ≤ S102400x1024.size a)
theorem k0_mult251_dvd : ∀ (i : grid0.Coords) (v1 : BitVec 32) (v3 : BitVec 32) (v66 : BitVec 32) (k0_hw255 : k0_chk255 i v1 v3 v66), ∀ (k0_h2 : k0_cond2 i v1 = 1#1), ∀ (k0_h16 : k0_cond16 v3 = 1#1), 8 ∣ (k0_mult251 v66).toNat := fun i v1 v3 v66 k0_hw255 k0_h2 k0_h16 => k0_hw255.1 k0_h2 k0_h16
theorem k0_off649_inb : ∀ (i : grid0.Coords) (v1 : BitVec 32) (v3 : BitVec 32) (v66 : BitVec 32) (k0_hw255 : k0_chk255 i v1 v3 v66), ∀ (k0_h2 : k0_cond2 i v1 = 1#1), ∀ (k0_h16 : k0_cond16 v3 = 1#1), ∀ a, (k0_off649 v66) a + S8x1024.size a ≤ S102400x1024.size a := fun i v1 v3 v66 k0_hw255 k0_h2 k0_h16 => k0_hw255.2 k0_h2 k0_h16

def k0_off650 (i : grid0.Coords) : Fin 3 → Nat :=
  let arg0 : BitVec 32 := BitVec.ofNat 32 (i 0).val
  let c1_i32 : BitVec 32 := 1#32
  let v0 : BitVec 32 := Scalar.andi arg0 c1_i32
  let c448_i32 : BitVec 32 := 448#32
  let c0_i32_29 : BitVec 32 := 0#32
  ![v0.toNat, 448, 0]
def k0_mult252 (v74 : BitVec 32) : BitVec 32 :=
  let c8_i32_32 : BitVec 32 := 8#32
  let v75 : BitVec 32 := Scalar.muli v74 c8_i32_32
  v75

def k0_off651 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off652 (v74 : BitVec 32) : Fin 2 → Nat :=
  let c8_i32_32 : BitVec 32 := 8#32
  let v75 : BitVec 32 := Scalar.muli v74 c8_i32_32
  let v76 : BitVec 32 := v75
  let c0_i32_33 : BitVec 32 := 0#32
  ![v76.toNat, 0]

def k0_chk256 (i : grid0.Coords) (v1 : BitVec 32) (v3 : BitVec 32) (v74 : BitVec 32) : Prop :=
  (∀ (k0_h2 : k0_cond2 i v1 = 1#1), ∀ (k0_h16 : k0_cond16 v3 = 1#1), 8 ∣ (k0_mult252 v74).toNat) ∧
  (∀ (k0_h2 : k0_cond2 i v1 = 1#1), ∀ (k0_h16 : k0_cond16 v3 = 1#1), ∀ a, (k0_off652 v74) a + S8x1024.size a ≤ S102400x1024.size a)
theorem k0_mult252_dvd : ∀ (i : grid0.Coords) (v1 : BitVec 32) (v3 : BitVec 32) (v74 : BitVec 32) (k0_hw256 : k0_chk256 i v1 v3 v74), ∀ (k0_h2 : k0_cond2 i v1 = 1#1), ∀ (k0_h16 : k0_cond16 v3 = 1#1), 8 ∣ (k0_mult252 v74).toNat := fun i v1 v3 v74 k0_hw256 k0_h2 k0_h16 => k0_hw256.1 k0_h2 k0_h16
theorem k0_off652_inb : ∀ (i : grid0.Coords) (v1 : BitVec 32) (v3 : BitVec 32) (v74 : BitVec 32) (k0_hw256 : k0_chk256 i v1 v3 v74), ∀ (k0_h2 : k0_cond2 i v1 = 1#1), ∀ (k0_h16 : k0_cond16 v3 = 1#1), ∀ a, (k0_off652 v74) a + S8x1024.size a ≤ S102400x1024.size a := fun i v1 v3 v74 k0_hw256 k0_h2 k0_h16 => k0_hw256.2 k0_h2 k0_h16

def k0_off653 (i : grid0.Coords) : Fin 3 → Nat :=
  let arg0 : BitVec 32 := BitVec.ofNat 32 (i 0).val
  let c1_i32 : BitVec 32 := 1#32
  let v0 : BitVec 32 := Scalar.andi arg0 c1_i32
  let c456_i32 : BitVec 32 := 456#32
  let c0_i32_34 : BitVec 32 := 0#32
  ![v0.toNat, 456, 0]
def k0_mult253 (v82 : BitVec 32) : BitVec 32 :=
  let c8_i32_37 : BitVec 32 := 8#32
  let v83 : BitVec 32 := Scalar.muli v82 c8_i32_37
  v83

def k0_off654 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off655 (v82 : BitVec 32) : Fin 2 → Nat :=
  let c8_i32_37 : BitVec 32 := 8#32
  let v83 : BitVec 32 := Scalar.muli v82 c8_i32_37
  let v84 : BitVec 32 := v83
  let c0_i32_38 : BitVec 32 := 0#32
  ![v84.toNat, 0]

def k0_chk257 (i : grid0.Coords) (v1 : BitVec 32) (v3 : BitVec 32) (v82 : BitVec 32) : Prop :=
  (∀ (k0_h2 : k0_cond2 i v1 = 1#1), ∀ (k0_h16 : k0_cond16 v3 = 1#1), 8 ∣ (k0_mult253 v82).toNat) ∧
  (∀ (k0_h2 : k0_cond2 i v1 = 1#1), ∀ (k0_h16 : k0_cond16 v3 = 1#1), ∀ a, (k0_off655 v82) a + S8x1024.size a ≤ S102400x1024.size a)
theorem k0_mult253_dvd : ∀ (i : grid0.Coords) (v1 : BitVec 32) (v3 : BitVec 32) (v82 : BitVec 32) (k0_hw257 : k0_chk257 i v1 v3 v82), ∀ (k0_h2 : k0_cond2 i v1 = 1#1), ∀ (k0_h16 : k0_cond16 v3 = 1#1), 8 ∣ (k0_mult253 v82).toNat := fun i v1 v3 v82 k0_hw257 k0_h2 k0_h16 => k0_hw257.1 k0_h2 k0_h16
theorem k0_off655_inb : ∀ (i : grid0.Coords) (v1 : BitVec 32) (v3 : BitVec 32) (v82 : BitVec 32) (k0_hw257 : k0_chk257 i v1 v3 v82), ∀ (k0_h2 : k0_cond2 i v1 = 1#1), ∀ (k0_h16 : k0_cond16 v3 = 1#1), ∀ a, (k0_off655 v82) a + S8x1024.size a ≤ S102400x1024.size a := fun i v1 v3 v82 k0_hw257 k0_h2 k0_h16 => k0_hw257.2 k0_h2 k0_h16

def k0_off656 (i : grid0.Coords) : Fin 3 → Nat :=
  let arg0 : BitVec 32 := BitVec.ofNat 32 (i 0).val
  let c1_i32 : BitVec 32 := 1#32
  let v0 : BitVec 32 := Scalar.andi arg0 c1_i32
  let c464_i32 : BitVec 32 := 464#32
  let c0_i32_39 : BitVec 32 := 0#32
  ![v0.toNat, 464, 0]
def k0_mult254 (v90 : BitVec 32) : BitVec 32 :=
  let c8_i32_42 : BitVec 32 := 8#32
  let v91 : BitVec 32 := Scalar.muli v90 c8_i32_42
  v91

def k0_off657 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off658 (v90 : BitVec 32) : Fin 2 → Nat :=
  let c8_i32_42 : BitVec 32 := 8#32
  let v91 : BitVec 32 := Scalar.muli v90 c8_i32_42
  let v92 : BitVec 32 := v91
  let c0_i32_43 : BitVec 32 := 0#32
  ![v92.toNat, 0]

def k0_chk258 (i : grid0.Coords) (v1 : BitVec 32) (v3 : BitVec 32) (v90 : BitVec 32) : Prop :=
  (∀ (k0_h2 : k0_cond2 i v1 = 1#1), ∀ (k0_h16 : k0_cond16 v3 = 1#1), 8 ∣ (k0_mult254 v90).toNat) ∧
  (∀ (k0_h2 : k0_cond2 i v1 = 1#1), ∀ (k0_h16 : k0_cond16 v3 = 1#1), ∀ a, (k0_off658 v90) a + S8x1024.size a ≤ S102400x1024.size a)
theorem k0_mult254_dvd : ∀ (i : grid0.Coords) (v1 : BitVec 32) (v3 : BitVec 32) (v90 : BitVec 32) (k0_hw258 : k0_chk258 i v1 v3 v90), ∀ (k0_h2 : k0_cond2 i v1 = 1#1), ∀ (k0_h16 : k0_cond16 v3 = 1#1), 8 ∣ (k0_mult254 v90).toNat := fun i v1 v3 v90 k0_hw258 k0_h2 k0_h16 => k0_hw258.1 k0_h2 k0_h16
theorem k0_off658_inb : ∀ (i : grid0.Coords) (v1 : BitVec 32) (v3 : BitVec 32) (v90 : BitVec 32) (k0_hw258 : k0_chk258 i v1 v3 v90), ∀ (k0_h2 : k0_cond2 i v1 = 1#1), ∀ (k0_h16 : k0_cond16 v3 = 1#1), ∀ a, (k0_off658 v90) a + S8x1024.size a ≤ S102400x1024.size a := fun i v1 v3 v90 k0_hw258 k0_h2 k0_h16 => k0_hw258.2 k0_h2 k0_h16

def k0_off659 (i : grid0.Coords) : Fin 3 → Nat :=
  let arg0 : BitVec 32 := BitVec.ofNat 32 (i 0).val
  let c1_i32 : BitVec 32 := 1#32
  let v0 : BitVec 32 := Scalar.andi arg0 c1_i32
  let c472_i32 : BitVec 32 := 472#32
  let c0_i32_44 : BitVec 32 := 0#32
  ![v0.toNat, 472, 0]
def k0_mult255 (v98 : BitVec 32) : BitVec 32 :=
  let c8_i32_47 : BitVec 32 := 8#32
  let v99 : BitVec 32 := Scalar.muli v98 c8_i32_47
  v99

def k0_off660 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off661 (v98 : BitVec 32) : Fin 2 → Nat :=
  let c8_i32_47 : BitVec 32 := 8#32
  let v99 : BitVec 32 := Scalar.muli v98 c8_i32_47
  let v100 : BitVec 32 := v99
  let c0_i32_48 : BitVec 32 := 0#32
  ![v100.toNat, 0]

def k0_chk259 (i : grid0.Coords) (v1 : BitVec 32) (v3 : BitVec 32) (v98 : BitVec 32) : Prop :=
  (∀ (k0_h2 : k0_cond2 i v1 = 1#1), ∀ (k0_h16 : k0_cond16 v3 = 1#1), 8 ∣ (k0_mult255 v98).toNat) ∧
  (∀ (k0_h2 : k0_cond2 i v1 = 1#1), ∀ (k0_h16 : k0_cond16 v3 = 1#1), ∀ a, (k0_off661 v98) a + S8x1024.size a ≤ S102400x1024.size a)
theorem k0_mult255_dvd : ∀ (i : grid0.Coords) (v1 : BitVec 32) (v3 : BitVec 32) (v98 : BitVec 32) (k0_hw259 : k0_chk259 i v1 v3 v98), ∀ (k0_h2 : k0_cond2 i v1 = 1#1), ∀ (k0_h16 : k0_cond16 v3 = 1#1), 8 ∣ (k0_mult255 v98).toNat := fun i v1 v3 v98 k0_hw259 k0_h2 k0_h16 => k0_hw259.1 k0_h2 k0_h16
theorem k0_off661_inb : ∀ (i : grid0.Coords) (v1 : BitVec 32) (v3 : BitVec 32) (v98 : BitVec 32) (k0_hw259 : k0_chk259 i v1 v3 v98), ∀ (k0_h2 : k0_cond2 i v1 = 1#1), ∀ (k0_h16 : k0_cond16 v3 = 1#1), ∀ a, (k0_off661 v98) a + S8x1024.size a ≤ S102400x1024.size a := fun i v1 v3 v98 k0_hw259 k0_h2 k0_h16 => k0_hw259.2 k0_h2 k0_h16

def k0_off662 (i : grid0.Coords) : Fin 3 → Nat :=
  let arg0 : BitVec 32 := BitVec.ofNat 32 (i 0).val
  let c1_i32 : BitVec 32 := 1#32
  let v0 : BitVec 32 := Scalar.andi arg0 c1_i32
  let c480_i32 : BitVec 32 := 480#32
  let c0_i32_49 : BitVec 32 := 0#32
  ![v0.toNat, 480, 0]
def k0_mult256 (v106 : BitVec 32) : BitVec 32 :=
  let c8_i32_52 : BitVec 32 := 8#32
  let v107 : BitVec 32 := Scalar.muli v106 c8_i32_52
  v107

def k0_off663 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off664 (v106 : BitVec 32) : Fin 2 → Nat :=
  let c8_i32_52 : BitVec 32 := 8#32
  let v107 : BitVec 32 := Scalar.muli v106 c8_i32_52
  let v108 : BitVec 32 := v107
  let c0_i32_53 : BitVec 32 := 0#32
  ![v108.toNat, 0]

def k0_chk260 (i : grid0.Coords) (v1 : BitVec 32) (v3 : BitVec 32) (v106 : BitVec 32) : Prop :=
  (∀ (k0_h2 : k0_cond2 i v1 = 1#1), ∀ (k0_h16 : k0_cond16 v3 = 1#1), 8 ∣ (k0_mult256 v106).toNat) ∧
  (∀ (k0_h2 : k0_cond2 i v1 = 1#1), ∀ (k0_h16 : k0_cond16 v3 = 1#1), ∀ a, (k0_off664 v106) a + S8x1024.size a ≤ S102400x1024.size a)
theorem k0_mult256_dvd : ∀ (i : grid0.Coords) (v1 : BitVec 32) (v3 : BitVec 32) (v106 : BitVec 32) (k0_hw260 : k0_chk260 i v1 v3 v106), ∀ (k0_h2 : k0_cond2 i v1 = 1#1), ∀ (k0_h16 : k0_cond16 v3 = 1#1), 8 ∣ (k0_mult256 v106).toNat := fun i v1 v3 v106 k0_hw260 k0_h2 k0_h16 => k0_hw260.1 k0_h2 k0_h16
theorem k0_off664_inb : ∀ (i : grid0.Coords) (v1 : BitVec 32) (v3 : BitVec 32) (v106 : BitVec 32) (k0_hw260 : k0_chk260 i v1 v3 v106), ∀ (k0_h2 : k0_cond2 i v1 = 1#1), ∀ (k0_h16 : k0_cond16 v3 = 1#1), ∀ a, (k0_off664 v106) a + S8x1024.size a ≤ S102400x1024.size a := fun i v1 v3 v106 k0_hw260 k0_h2 k0_h16 => k0_hw260.2 k0_h2 k0_h16

def k0_off665 (i : grid0.Coords) : Fin 3 → Nat :=
  let arg0 : BitVec 32 := BitVec.ofNat 32 (i 0).val
  let c1_i32 : BitVec 32 := 1#32
  let v0 : BitVec 32 := Scalar.andi arg0 c1_i32
  let c488_i32 : BitVec 32 := 488#32
  let c0_i32_54 : BitVec 32 := 0#32
  ![v0.toNat, 488, 0]
def k0_mult257 (v114 : BitVec 32) : BitVec 32 :=
  let c8_i32_57 : BitVec 32 := 8#32
  let v115 : BitVec 32 := Scalar.muli v114 c8_i32_57
  v115

def k0_off666 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off667 (v114 : BitVec 32) : Fin 2 → Nat :=
  let c8_i32_57 : BitVec 32 := 8#32
  let v115 : BitVec 32 := Scalar.muli v114 c8_i32_57
  let v116 : BitVec 32 := v115
  let c0_i32_58 : BitVec 32 := 0#32
  ![v116.toNat, 0]

def k0_chk261 (i : grid0.Coords) (v1 : BitVec 32) (v3 : BitVec 32) (v114 : BitVec 32) : Prop :=
  (∀ (k0_h2 : k0_cond2 i v1 = 1#1), ∀ (k0_h16 : k0_cond16 v3 = 1#1), 8 ∣ (k0_mult257 v114).toNat) ∧
  (∀ (k0_h2 : k0_cond2 i v1 = 1#1), ∀ (k0_h16 : k0_cond16 v3 = 1#1), ∀ a, (k0_off667 v114) a + S8x1024.size a ≤ S102400x1024.size a)
theorem k0_mult257_dvd : ∀ (i : grid0.Coords) (v1 : BitVec 32) (v3 : BitVec 32) (v114 : BitVec 32) (k0_hw261 : k0_chk261 i v1 v3 v114), ∀ (k0_h2 : k0_cond2 i v1 = 1#1), ∀ (k0_h16 : k0_cond16 v3 = 1#1), 8 ∣ (k0_mult257 v114).toNat := fun i v1 v3 v114 k0_hw261 k0_h2 k0_h16 => k0_hw261.1 k0_h2 k0_h16
theorem k0_off667_inb : ∀ (i : grid0.Coords) (v1 : BitVec 32) (v3 : BitVec 32) (v114 : BitVec 32) (k0_hw261 : k0_chk261 i v1 v3 v114), ∀ (k0_h2 : k0_cond2 i v1 = 1#1), ∀ (k0_h16 : k0_cond16 v3 = 1#1), ∀ a, (k0_off667 v114) a + S8x1024.size a ≤ S102400x1024.size a := fun i v1 v3 v114 k0_hw261 k0_h2 k0_h16 => k0_hw261.2 k0_h2 k0_h16

def k0_off668 (i : grid0.Coords) : Fin 3 → Nat :=
  let arg0 : BitVec 32 := BitVec.ofNat 32 (i 0).val
  let c1_i32 : BitVec 32 := 1#32
  let v0 : BitVec 32 := Scalar.andi arg0 c1_i32
  let c496_i32 : BitVec 32 := 496#32
  let c0_i32_59 : BitVec 32 := 0#32
  ![v0.toNat, 496, 0]
def k0_mult258 (v122 : BitVec 32) : BitVec 32 :=
  let c8_i32_62 : BitVec 32 := 8#32
  let v123 : BitVec 32 := Scalar.muli v122 c8_i32_62
  v123

def k0_off669 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off670 (v122 : BitVec 32) : Fin 2 → Nat :=
  let c8_i32_62 : BitVec 32 := 8#32
  let v123 : BitVec 32 := Scalar.muli v122 c8_i32_62
  let v124 : BitVec 32 := v123
  let c0_i32_63 : BitVec 32 := 0#32
  ![v124.toNat, 0]

def k0_chk262 (i : grid0.Coords) (v1 : BitVec 32) (v3 : BitVec 32) (v122 : BitVec 32) : Prop :=
  (∀ (k0_h2 : k0_cond2 i v1 = 1#1), ∀ (k0_h16 : k0_cond16 v3 = 1#1), 8 ∣ (k0_mult258 v122).toNat) ∧
  (∀ (k0_h2 : k0_cond2 i v1 = 1#1), ∀ (k0_h16 : k0_cond16 v3 = 1#1), ∀ a, (k0_off670 v122) a + S8x1024.size a ≤ S102400x1024.size a)
theorem k0_mult258_dvd : ∀ (i : grid0.Coords) (v1 : BitVec 32) (v3 : BitVec 32) (v122 : BitVec 32) (k0_hw262 : k0_chk262 i v1 v3 v122), ∀ (k0_h2 : k0_cond2 i v1 = 1#1), ∀ (k0_h16 : k0_cond16 v3 = 1#1), 8 ∣ (k0_mult258 v122).toNat := fun i v1 v3 v122 k0_hw262 k0_h2 k0_h16 => k0_hw262.1 k0_h2 k0_h16
theorem k0_off670_inb : ∀ (i : grid0.Coords) (v1 : BitVec 32) (v3 : BitVec 32) (v122 : BitVec 32) (k0_hw262 : k0_chk262 i v1 v3 v122), ∀ (k0_h2 : k0_cond2 i v1 = 1#1), ∀ (k0_h16 : k0_cond16 v3 = 1#1), ∀ a, (k0_off670 v122) a + S8x1024.size a ≤ S102400x1024.size a := fun i v1 v3 v122 k0_hw262 k0_h2 k0_h16 => k0_hw262.2 k0_h2 k0_h16

def k0_off671 (i : grid0.Coords) : Fin 3 → Nat :=
  let arg0 : BitVec 32 := BitVec.ofNat 32 (i 0).val
  let c1_i32 : BitVec 32 := 1#32
  let v0 : BitVec 32 := Scalar.andi arg0 c1_i32
  let c504_i32 : BitVec 32 := 504#32
  let c0_i32_64 : BitVec 32 := 0#32
  ![v0.toNat, 504, 0]
def k0_off672 (i : grid0.Coords) : Fin 1 → Nat :=
  let c1_i32_26 : BitVec 32 := 1#32
  let arg0 : BitVec 32 := BitVec.ofNat 32 (i 0).val
  let c1_i32 : BitVec 32 := 1#32
  let v0 : BitVec 32 := Scalar.andi arg0 c1_i32
  let v67 : BitVec 32 := Scalar.subi c1_i32_26 v0
  ![v67.toNat]
def k0_off673 (i : grid0.Coords) : Fin 3 → Nat :=
  let c1_i32_25 : BitVec 32 := 1#32
  let arg0 : BitVec 32 := BitVec.ofNat 32 (i 0).val
  let c1_i32 : BitVec 32 := 1#32
  let v0 : BitVec 32 := Scalar.andi arg0 c1_i32
  let v66 : BitVec 32 := Scalar.subi c1_i32_25 v0
  let c0_i32_27 : BitVec 32 := 0#32
  let c0_i32_28 : BitVec 32 := 0#32
  ![v66.toNat, 0, 0]
def k0_mult259 (v3 : BitVec 32) : BitVec 32 :=
  let c8_i32_31 : BitVec 32 := 8#32
  let v73 : BitVec 32 := Scalar.muli v3 c8_i32_31
  v73
def k0_cond17 (i : grid0.Coords) (v1 : BitVec 32) : BitVec 1 :=
  let arg0 : BitVec 32 := BitVec.ofNat 32 (i 0).val
  let c1_i32_23 : BitVec 32 := 1#32
  let v62 : BitVec 32 := Scalar.subi v1 c1_i32_23
  let v63 : BitVec 1 := Scalar.cmpi .eq arg0 v62
  let v64 : BitVec 32 := Scalar.extui v63
  let c0_i32_24 : BitVec 32 := 0#32
  let v65 : BitVec 1 := Scalar.cmpi .ne v64 c0_i32_24
  v65

def k0_off674 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off675 (v3 : BitVec 32) : (Fin 2 → Nat) × (Fin 2 → Nat) :=
  let c0_i32_32 : BitVec 32 := 0#32
  let c0_i32_33 : BitVec 32 := 0#32
  let c8_i32_31 : BitVec 32 := 8#32
  let v73 : BitVec 32 := Scalar.muli v3 c8_i32_31
  let v74 : BitVec 32 := v73
  ⟨![0, 0], ![v74.toNat, 1024]⟩

def k0_off676 (i : grid0.Coords) (v3 : BitVec 32) : (Fin 3 → Nat) × (Fin 3 → Nat) :=
  let arg0 : BitVec 32 := BitVec.ofNat 32 (i 0).val
  let c1_i32 : BitVec 32 := 1#32
  let v0 : BitVec 32 := Scalar.andi arg0 c1_i32
  let c0_i32_34 : BitVec 32 := 0#32
  let c0_i32_35 : BitVec 32 := 0#32
  let c8_i32_31 : BitVec 32 := 8#32
  let v73 : BitVec 32 := Scalar.muli v3 c8_i32_31
  let v74 : BitVec 32 := v73
  ⟨![v0.toNat, 0, 0], ![1, v74.toNat, 1024]⟩

def k0_sz3 (v3 : BitVec 32) : Fin 2 → Nat :=
  let c8_i32_31 : BitVec 32 := 8#32
  let v73 : BitVec 32 := Scalar.muli v3 c8_i32_31
  let v74 : BitVec 32 := v73
  ![v74.toNat, 1024]

def k0_chk263 (i : grid0.Coords) (v1 : BitVec 32) (v3 : BitVec 32) : Prop :=
  (∀ (k0_h2 : k0_cond2 i v1 = 1#1), ∀ (k0_h17 : k0_cond17 i v1 = 1#1), 8 ∣ (k0_mult259 v3).toNat) ∧
  (∀ (k0_h2 : k0_cond2 i v1 = 1#1), ∀ (k0_h17 : k0_cond17 i v1 = 1#1), (⟨3, (k0_off676 i v3).2⟩ : Shape).Squeezes ⟨2, k0_sz3 v3⟩)
theorem k0_mult259_dvd : ∀ (i : grid0.Coords) (v1 : BitVec 32) (v3 : BitVec 32) (k0_hw263 : k0_chk263 i v1 v3), ∀ (k0_h2 : k0_cond2 i v1 = 1#1), ∀ (k0_h17 : k0_cond17 i v1 = 1#1), 8 ∣ (k0_mult259 v3).toNat := fun i v1 v3 k0_hw263 k0_h2 k0_h17 => k0_hw263.1 k0_h2 k0_h17
theorem k0_sz3_squeezes : ∀ (i : grid0.Coords) (v1 : BitVec 32) (v3 : BitVec 32) (k0_hw263 : k0_chk263 i v1 v3), ∀ (k0_h2 : k0_cond2 i v1 = 1#1), ∀ (k0_h17 : k0_cond17 i v1 = 1#1), (⟨3, (k0_off676 i v3).2⟩ : Shape).Squeezes ⟨2, k0_sz3 v3⟩ := fun i v1 v3 k0_hw263 k0_h2 k0_h17 => k0_hw263.2 k0_h2 k0_h17

def k0_cond18 (i : grid0.Coords) : BitVec 1 :=
  let arg0 : BitVec 32 := BitVec.ofNat 32 (i 0).val
  let c1_i32_36 : BitVec 32 := 1#32
  let v80 : BitVec 1 := Scalar.cmpi .sge arg0 c1_i32_36
  let v81 : BitVec 32 := Scalar.extui v80
  let c0_i32_37 : BitVec 32 := 0#32
  let v82 : BitVec 1 := Scalar.cmpi .ne v81 c0_i32_37
  v82

def k0_off677 (i : grid0.Coords) : Fin 1 → Nat :=
  let arg0 : BitVec 32 := BitVec.ofNat 32 (i 0).val
  let c1_i32_39 : BitVec 32 := 1#32
  let v84 : BitVec 32 := Scalar.subi arg0 c1_i32_39
  let c0_i32_40 : BitVec 32 := 0#32
  let v85 : BitVec 32 := Scalar.maxsi v84 c0_i32_40
  let v86 : Index := Scalar.indexCast v85
  ![v86.toNat]
def k0_mult260 (v87 : BitVec 32) : BitVec 32 :=
  let c8_i32_41 : BitVec 32 := 8#32
  let v88 : BitVec 32 := Scalar.muli v87 c8_i32_41
  v88

def k0_off678 (i : grid0.Coords) : Fin 1 → Nat :=
  let c1_i32_38 : BitVec 32 := 1#32
  let arg0 : BitVec 32 := BitVec.ofNat 32 (i 0).val
  let c1_i32 : BitVec 32 := 1#32
  let v0 : BitVec 32 := Scalar.andi arg0 c1_i32
  let v83 : BitVec 32 := Scalar.subi c1_i32_38 v0
  ![v83.toNat]
def k0_off679 (v87 : BitVec 32) : (Fin 2 → Nat) × (Fin 2 → Nat) :=
  let c0_i32_42 : BitVec 32 := 0#32
  let c0_i32_43 : BitVec 32 := 0#32
  let c8_i32_41 : BitVec 32 := 8#32
  let v88 : BitVec 32 := Scalar.muli v87 c8_i32_41
  let v89 : BitVec 32 := v88
  ⟨![0, 0], ![v89.toNat, 1024]⟩

def k0_off680 (i : grid0.Coords) (v87 : BitVec 32) : (Fin 3 → Nat) × (Fin 3 → Nat) :=
  let c1_i32_38 : BitVec 32 := 1#32
  let arg0 : BitVec 32 := BitVec.ofNat 32 (i 0).val
  let c1_i32 : BitVec 32 := 1#32
  let v0 : BitVec 32 := Scalar.andi arg0 c1_i32
  let v83 : BitVec 32 := Scalar.subi c1_i32_38 v0
  let c0_i32_44 : BitVec 32 := 0#32
  let c0_i32_45 : BitVec 32 := 0#32
  let c8_i32_41 : BitVec 32 := 8#32
  let v88 : BitVec 32 := Scalar.muli v87 c8_i32_41
  let v89 : BitVec 32 := v88
  ⟨![v83.toNat, 0, 0], ![1, v89.toNat, 1024]⟩

def k0_sz4 (v87 : BitVec 32) : Fin 2 → Nat :=
  let c8_i32_41 : BitVec 32 := 8#32
  let v88 : BitVec 32 := Scalar.muli v87 c8_i32_41
  let v89 : BitVec 32 := v88
  ![v89.toNat, 1024]

def k0_chk264 (i : grid0.Coords) (v1 : BitVec 32) (v87 : BitVec 32) : Prop :=
  (∀ (k0_h2 : k0_cond2 i v1 = 1#1), ∀ (k0_h17 : k0_cond17 i v1 = 1#1), ∀ (k0_h18 : k0_cond18 i = 1#1), 8 ∣ (k0_mult260 v87).toNat) ∧
  (∀ (k0_h2 : k0_cond2 i v1 = 1#1), ∀ (k0_h17 : k0_cond17 i v1 = 1#1), ∀ (k0_h18 : k0_cond18 i = 1#1), (⟨3, (k0_off680 i v87).2⟩ : Shape).Squeezes ⟨2, k0_sz4 v87⟩)
theorem k0_mult260_dvd : ∀ (i : grid0.Coords) (v1 : BitVec 32) (v87 : BitVec 32) (k0_hw264 : k0_chk264 i v1 v87), ∀ (k0_h2 : k0_cond2 i v1 = 1#1), ∀ (k0_h17 : k0_cond17 i v1 = 1#1), ∀ (k0_h18 : k0_cond18 i = 1#1), 8 ∣ (k0_mult260 v87).toNat := fun i v1 v87 k0_hw264 k0_h2 k0_h17 k0_h18 => k0_hw264.1 k0_h2 k0_h17 k0_h18
theorem k0_sz4_squeezes : ∀ (i : grid0.Coords) (v1 : BitVec 32) (v87 : BitVec 32) (k0_hw264 : k0_chk264 i v1 v87), ∀ (k0_h2 : k0_cond2 i v1 = 1#1), ∀ (k0_h17 : k0_cond17 i v1 = 1#1), ∀ (k0_h18 : k0_cond18 i = 1#1), (⟨3, (k0_off680 i v87).2⟩ : Shape).Squeezes ⟨2, k0_sz4 v87⟩ := fun i v1 v87 k0_hw264 k0_h2 k0_h17 k0_h18 => k0_hw264.2 k0_h2 k0_h17 k0_h18

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c227_i32 : BitVec 32 := 227#32
  let v1 : BitVec 32 := Scalar.minsi v0 c227_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ a, (k0_off1 i) a + S1.size a ≤ S228.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S228) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S228.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S228) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .smem S1x1x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1 : Shape := ⟨1, ![1]⟩
abbrev S228 : Shape := ⟨1, ![228]⟩
abbrev S228x1x64 : Shape := ⟨3, ![228, 1, 64]⟩
abbrev S102400x1024 : Shape := ⟨2, ![102400, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S228x64 : Shape := ⟨2, ![228, 64]⟩
abbrev S228x64x1 : Shape := ⟨3, ![228, 64, 1]⟩
abbrev S228x64x12800 : Shape := ⟨3, ![228, 64, 12800]⟩
abbrev S1x1 : Shape := ⟨2, ![1, 1]⟩
abbrev S228x1 : Shape := ⟨2, ![228, 1]⟩
abbrev S_ : Shape := ⟨0, ![]⟩
abbrev S12800 : Shape := ⟨1, ![12800]⟩
abbrev S228x1x1 : Shape := ⟨3, ![228, 1, 1]⟩
abbrev S12800x8x1024 : Shape := ⟨3, ![12800, 8, 1024]⟩
abbrev S12800x1 : Shape := ⟨2, ![12800, 1]⟩
abbrev S12800x8 : Shape := ⟨2, ![12800, 8]⟩
abbrev S102400 : Shape := ⟨1, ![102400]⟩
abbrev S102400x1 : Shape := ⟨2, ![102400, 1]⟩
abbrev S32 : Shape := ⟨1, ![32]⟩
abbrev S1x32 : Shape := ⟨2, ![1, 32]⟩
abbrev S102400x32 : Shape := ⟨2, ![102400, 32]⟩
abbrev S102400x32x2048 : Shape := ⟨3, ![102400, 32, 2048]⟩
abbrev S1x32x2048 : Shape := ⟨3, ![1, 32, 2048]⟩
abbrev S102400x32x1024 : Shape := ⟨3, ![102400, 32, 1024]⟩
abbrev S32x102400x1024 : Shape := ⟨3, ![32, 102400, 1024]⟩
abbrev S32x1x1024 : Shape := ⟨3, ![32, 1, 1024]⟩
abbrev S32x102400 : Shape := ⟨2, ![32, 102400]⟩
abbrev S32x102400x1 : Shape := ⟨3, ![32, 102400, 1]⟩

abbrev nBuf : Space → Nat
  | .hbm => 117
  | .vmem => 0
  | .smem => 0
  | _ => 0

abbrev bufTy : (tb : Table) → Fin (tcTables nBuf tb) → BufTy
  | .hbm, ⟨0, _⟩ => ⟨S1, .i32⟩
  | .hbm, ⟨1, _⟩ => ⟨S228, .i32⟩
  | .hbm, ⟨2, _⟩ => ⟨S228, .i32⟩
  | .hbm, ⟨3, _⟩ => ⟨S228, .i32⟩
  | .hbm, ⟨4, _⟩ => ⟨S228, .i32⟩
  | .hbm, ⟨5, _⟩ => ⟨S228, .i32⟩
  | .hbm, ⟨6, _⟩ => ⟨S228x1x64, .i32⟩
  | .hbm, ⟨7, _⟩ => ⟨S228x1x64, .i32⟩
  | .hbm, ⟨8, _⟩ => ⟨S102400x1024, .f32⟩
  | .hbm, ⟨9, _⟩ => ⟨S32x1024x2048, .f32⟩
  | .hbm, ⟨10, _⟩ => ⟨S32x2048, .f32⟩
  | .hbm, ⟨11, _⟩ => ⟨S32x1024x1024, .f32⟩
  | .hbm, ⟨12, _⟩ => ⟨S32x1024, .f32⟩
  | .hbm, ⟨13, _⟩ => ⟨S228x64, .i32⟩
  | .hbm, ⟨14, _⟩ => ⟨S228x64x1, .i32⟩
  | .hbm, ⟨15, _⟩ => ⟨S228x64x12800, .i32⟩
  | .hbm, ⟨16, _⟩ => ⟨S228x64x12800, .i32⟩
  | .hbm, ⟨17, _⟩ => ⟨S228x64x12800, .i1⟩
  | .hbm, ⟨18, _⟩ => ⟨S228x64, .i32⟩
  | .hbm, ⟨19, _⟩ => ⟨S228x64, .i32⟩
  | .hbm, ⟨20, _⟩ => ⟨S1x1, .i32⟩
  | .hbm, ⟨21, _⟩ => ⟨S228x64, .i32⟩
  | .hbm, ⟨22, _⟩ => ⟨S228x64, .i1⟩
  | .hbm, ⟨23, _⟩ => ⟨S228x1, .i32⟩
  | .hbm, ⟨24, _⟩ => ⟨S228x64, .i32⟩
  | .hbm, ⟨25, _⟩ => ⟨S228x64, .i1⟩
  | .hbm, ⟨26, _⟩ => ⟨S228x64, .i1⟩
  | .hbm, ⟨27, _⟩ => ⟨S228x64x1, .i1⟩
  | .hbm, ⟨28, _⟩ => ⟨S228x64x12800, .i1⟩
  | .hbm, ⟨29, _⟩ => ⟨S228x64x12800, .i1⟩
  | .hbm, ⟨30, _⟩ => ⟨S_, .i1⟩
  | .hbm, ⟨31, _⟩ => ⟨S12800, .i1⟩
  | .hbm, ⟨32, _⟩ => ⟨S228x1x1, .i32⟩
  | .hbm, ⟨33, _⟩ => ⟨S_, .i32⟩
  | .hbm, ⟨34, _⟩ => ⟨S_, .i32⟩
  | .hbm, ⟨35, _⟩ => ⟨S228x64x12800, .i32⟩
  | .hbm, ⟨36, _⟩ => ⟨S228x64x12800, .i32⟩
  | .hbm, ⟨37, _⟩ => ⟨S228x64x12800, .i32⟩
  | .hbm, ⟨38, _⟩ => ⟨S_, .i32⟩
  | .hbm, ⟨39, _⟩ => ⟨S12800, .i32⟩
  | .hbm, ⟨40, _⟩ => ⟨S228x64, .i32⟩
  | .hbm, ⟨41, _⟩ => ⟨S228x64x1, .i32⟩
  | .hbm, ⟨42, _⟩ => ⟨S_, .i32⟩
  | .hbm, ⟨43, _⟩ => ⟨S_, .i32⟩
  | .hbm, ⟨44, _⟩ => ⟨S228x64x12800, .i32⟩
  | .hbm, ⟨45, _⟩ => ⟨S228x64x12800, .i32⟩
  | .hbm, ⟨46, _⟩ => ⟨S228x64x12800, .i32⟩
  | .hbm, ⟨47, _⟩ => ⟨S_, .i32⟩
  | .hbm, ⟨48, _⟩ => ⟨S12800, .i32⟩
  | .hbm, ⟨49, _⟩ => ⟨S12800x8x1024, .f32⟩
  | .hbm, ⟨50, _⟩ => ⟨S_, .i32⟩
  | .hbm, ⟨51, _⟩ => ⟨S12800, .i32⟩
  | .hbm, ⟨52, _⟩ => ⟨S12800, .i1⟩
  | .hbm, ⟨53, _⟩ => ⟨S_, .i32⟩
  | .hbm, ⟨54, _⟩ => ⟨S12800, .i32⟩
  | .hbm, ⟨55, _⟩ => ⟨S12800, .i32⟩
  | .hbm, ⟨56, _⟩ => ⟨S12800, .i32⟩
  | .hbm, ⟨57, _⟩ => ⟨S12800x1, .i32⟩
  | .hbm, ⟨58, _⟩ => ⟨S12800x8x1024, .f32⟩
  | .hbm, ⟨59, _⟩ => ⟨S102400x1024, .f32⟩
  | .hbm, ⟨60, _⟩ => ⟨S12800x8, .i32⟩
  | .hbm, ⟨61, _⟩ => ⟨S102400, .i32⟩
  | .hbm, ⟨62, _⟩ => ⟨S102400x1, .i32⟩
  | .hbm, ⟨63, _⟩ => ⟨S32, .i32⟩
  | .hbm, ⟨64, _⟩ => ⟨S1x32, .i32⟩
  | .hbm, ⟨65, _⟩ => ⟨S102400x32, .i32⟩
  | .hbm, ⟨66, _⟩ => ⟨S102400x32, .i32⟩
  | .hbm, ⟨67, _⟩ => ⟨S102400x32, .i1⟩
  | .hbm, ⟨68, _⟩ => ⟨S102400x32, .f32⟩
  | .hbm, ⟨69, _⟩ => ⟨S102400x32x2048, .f32⟩
  | .hbm, ⟨70, _⟩ => ⟨S1x32x2048, .f32⟩
  | .hbm, ⟨71, _⟩ => ⟨S102400x32x2048, .f32⟩
  | .hbm, ⟨72, _⟩ => ⟨S102400x32x2048, .f32⟩
  | .hbm, ⟨73, _⟩ => ⟨S102400x32x1024, .f32⟩
  | .hbm, ⟨74, _⟩ => ⟨S102400x32x1024, .f32⟩
  | .hbm, ⟨75, _⟩ => ⟨S_, .f32⟩
  | .hbm, ⟨76, _⟩ => ⟨S102400x32x1024, .f32⟩
  | .hbm, ⟨77, _⟩ => ⟨S102400x32x1024, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S102400x32x1024, .f32⟩
  | .hbm, ⟨82, _⟩ => ⟨S102400x32x1024, .f32⟩
  | .hbm, ⟨83, _⟩ => ⟨S_, .f32⟩
  | .hbm, ⟨84, _⟩ => ⟨S102400x32x1024, .f32⟩
  | .hbm, ⟨85, _⟩ => ⟨S102400x32x1024, .f32⟩
  | .hbm, ⟨86, _⟩ => ⟨S_, .f32⟩
  | .hbm, ⟨87, _⟩ => ⟨S102400x32x1024, .f32⟩
  | .hbm, ⟨88, _⟩ => ⟨S102400x32x1024, .f32⟩
  | .hbm, ⟨89, _⟩ => ⟨S102400x32x1024, .f32⟩
  | .hbm, ⟨90, _⟩ => ⟨S_, .f32⟩
  | .hbm, ⟨91, _⟩ => ⟨S102400x32x1024, .f32⟩
  | .hbm, ⟨92, _⟩ => ⟨S102400x32x1024, .f32⟩
  | .hbm, ⟨93, _⟩ => ⟨S102400x32x1024, .f32⟩
  | .hbm, ⟨94, _⟩ => ⟨S102400x32x1024, .f32⟩
  | .hbm, ⟨95, _⟩ => ⟨S_, .f32⟩
  | .hbm, ⟨96, _⟩ => ⟨S102400x32x1024, .f32⟩
  | .hbm, ⟨97, _⟩ => ⟨S102400x32x1024, .f32⟩
  | .hbm, ⟨98, _⟩ => ⟨S_, .f32⟩
  | .hbm, ⟨99, _⟩ => ⟨S102400x32x1024, .f32⟩
  | .hbm, ⟨100, _⟩ => ⟨S102400x32x1024, .f32⟩
  | .hbm, ⟨101, _⟩ => ⟨S102400x32x1024, .f32⟩
  | .hbm, ⟨102, _⟩ => ⟨S32x102400x1024, .f32⟩
  | .hbm, ⟨103, _⟩ => ⟨S32x1x1024, .f32⟩
  | .hbm, ⟨104, _⟩ => ⟨S32x102400x1024, .f32⟩
  | .hbm, ⟨105, _⟩ => ⟨S32x102400x1024, .f32⟩
  | .hbm, ⟨106, _⟩ => ⟨S32x102400, .f32⟩
  | .hbm, ⟨107, _⟩ => ⟨S32x102400x1, .f32⟩
  | .hbm, ⟨108, _⟩ => ⟨S32x102400x1024, .f32⟩
  | .hbm, ⟨109, _⟩ => ⟨S32x102400x1024, .f32⟩
  | .hbm, ⟨110, _⟩ => ⟨S_, .f32⟩
  | .hbm, ⟨111, _⟩ => ⟨S102400x1024, .f32⟩
  | .hbm, ⟨112, _⟩ => ⟨S12800x8, .i1⟩
  | .hbm, ⟨113, _⟩ => ⟨S102400, .i1⟩
  | .hbm, ⟨114, _⟩ => ⟨S102400x1, .i1⟩
  | .hbm, ⟨115, _⟩ => ⟨S102400x1024, .i1⟩
  | .hbm, ⟨116, _⟩ => ⟨S102400x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_cst_7 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_12 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call3_v0 : Ref sig .tc := ⟨.hbm, 115, rfl⟩
abbrev main_v76 : Ref sig .tc := ⟨.hbm, 116, rfl⟩

abbrev nD : Nat := 1
abbrev τ : Topo := Topo.v7x

variable {F : FTy → Type} [FloatOps F]
-- ==== Kernel2.lean ====
abbrev S20480x1024 : Shape := ⟨2, ![20480, 1024]⟩
abbrev S20480x128 : Shape := ⟨2, ![20480, 128]⟩
abbrev S8x6144 : Shape := ⟨2, ![8, 6144]⟩
abbrev S1024 : Shape := ⟨1, ![1024]⟩
abbrev S102400x1024 : Shape := ⟨2, ![102400, 1024]⟩
abbrev S1x1024 : Shape := ⟨2, ![1, 1024]⟩
abbrev S4096x1024 : Shape := ⟨2, ![4096, 1024]⟩
abbrev S16384x1024 : Shape := ⟨2, ![16384, 1024]⟩
abbrev S256x1024 : Shape := ⟨2, ![256, 1024]⟩
abbrev S256x128 : Shape := ⟨2, ![256, 128]⟩
abbrev S1280x1024 : Shape := ⟨2, ![1280, 1024]⟩
abbrev S256x1280 : Shape := ⟨2, ![256, 1280]⟩
abbrev S256x1 : Shape := ⟨2, ![256, 1]⟩
abbrev S256 : Shape := ⟨1, ![256]⟩
abbrev S16x256x1024 : Shape := ⟨3, ![16, 256, 1024]⟩
abbrev S4x4096x1024 : Shape := ⟨3, ![4, 4096, 1024]⟩

abbrev nBuf : Space → Nat
  | .hbm => 13
  | .vmem => 15
  | .smem => 0
  | _ => 0

abbrev bufTy : (tb : Table) → Fin (tcTables nBuf tb) → BufTy
  | .hbm, ⟨0, _⟩ => ⟨S20480x1024, .f32⟩
  | .hbm, ⟨1, _⟩ => ⟨S20480x128, .i32⟩
  | .hbm, ⟨2, _⟩ => ⟨S20480x128, .f32⟩
  | .hbm, ⟨3, _⟩ => ⟨S8x6144, .f32⟩
  | .hbm, ⟨4, _⟩ => ⟨S1024, .f32⟩
  | .hbm, ⟨5, _⟩ => ⟨S1024, .f32⟩
  | .hbm, ⟨6, _⟩ => ⟨S102400x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S16384x1024, .f32⟩
  | .hbm, ⟨11, _⟩ => ⟨S16x256x1024, .f32⟩
  | .hbm, ⟨12, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S256x128, .i32⟩
  | .local _ .vmem, ⟨3, _⟩ => ⟨S256x128, .i32⟩
  | .local _ .vmem, ⟨4, _⟩ => ⟨S256x128, .f32⟩
  | .local _ .vmem, ⟨5, _⟩ => ⟨S256x128, .f32⟩
  | .local _ .vmem, ⟨6, _⟩ => ⟨S8x6144, .f32⟩
  | .local _ .vmem, ⟨7, _⟩ => ⟨S1x1024, .f32⟩
  | .local _ .vmem, ⟨8, _⟩ => ⟨S1x1024, .f32⟩
  | .local _ .vmem, ⟨9, _⟩ => ⟨S1280x1024, .f32⟩
  | .local _ .vmem, ⟨10, _⟩ => ⟨S1280x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![80], ![false]⟩

def k0_off1 (i : grid0.Coords) : Fin 2 → Nat :=
  let arg0 : BitVec 32 := BitVec.ofNat 32 (i 0).val
  let c256_i32 : BitVec 32 := 256#32
  let v36 : BitVec 32 := Scalar.muli arg0 c256_i32
  let c4096_i32 : BitVec 32 := 4096#32
  let v37 : BitVec 1 := Scalar.cmpi .slt v36 c4096_i32
  let c0_i32_13 : BitVec 32 := 0#32
  let c1_i32_12 : BitVec 32 := 1#32
  let c4096_i32_6 : BitVec 32 := 4096#32
  let v38 : BitVec 32 := Scalar.subi v36 c4096_i32_6
  let c0_i32 : BitVec 32 := 0#32
  let v40 : BitVec 1 := Scalar.cmpi .sgt v38 c0_i32
  let v41 : BitVec 32 := Scalar.extui v40
  let c0_i32_8 : BitVec 32 := 0#32
  let v42 : BitVec 1 := Scalar.cmpi .slt v38 c0_i32_8
  let v43 : BitVec 32 := Scalar.extui v42
  let v44 : BitVec 32 := Scalar.subi v41 v43
  let c4096_i32_7 : BitVec 32 := 4096#32
  let c0_i32_9 : BitVec 32 := 0#32
  let v45 : BitVec 1 := Scalar.cmpi .sgt c4096_i32_7 c0_i32_9
  let v46 : BitVec 32 := Scalar.extui v45
  let c0_i32_10 : BitVec 32 := 0#32
  let v47 : BitVec 1 := Scalar.cmpi .slt c4096_i32_7 c0_i32_10
  let v48 : BitVec 32 := Scalar.extui v47
  let v49 : BitVec 32 := Scalar.subi v46 v48
  let v50 : BitVec 1 := Scalar.cmpi .ne v44 v49
  let v51 : BitVec 32 := Scalar.remsi v38 c4096_i32_7
  let c0_i32_11 : BitVec 32 := 0#32
  let v52 : BitVec 1 := Scalar.cmpi .ne v51 c0_i32_11
  let v53 : BitVec 1 := Scalar.andi v50 v52
  let v39 : BitVec 32 := Scalar.divsi v38 c4096_i32_7
  let c1_i32 : BitVec 32 := 1#32
  let v54 : BitVec 32 := Scalar.subi v39 c1_i32
  let v55 : BitVec 32 := Scalar.select v53 v54 v39
  let v56 : BitVec 32 := Scalar.addi c1_i32_12 v55
  let v57 : BitVec 32 := Scalar.select v37 c0_i32_13 v56
  let v58 : Index := Scalar.indexCast v57
  let c5120 : Index := 5120#32
  ![v58.toNat, 5120]
def k0_cond1 (i : grid0.Coords) : BitVec 1 :=
  let arg0 : BitVec 32 := BitVec.ofNat 32 (i 0).val
  let c256_i32_26 : BitVec 32 := 256#32
  let v90 : BitVec 32 := Scalar.muli arg0 c256_i32_26
  let c4096_i32_27 : BitVec 32 := 4096#32
  let v91 : BitVec 1 := Scalar.cmpi .slt v90 c4096_i32_27
  let v92 : BitVec 32 := Scalar.extui v91
  let c0_i32_28 : BitVec 32 := 0#32
  let v93 : BitVec 1 := Scalar.cmpi .ne v92 c0_i32_28
  v93

def k0_cond2 (i : grid0.Coords) : BitVec 1 :=
  let arg0 : BitVec 32 := BitVec.ofNat 32 (i 0).val
  let c256_i32_29 : BitVec 32 := 256#32
  let v94 : BitVec 32 := Scalar.muli arg0 c256_i32_29
  let c4096_i32_30 : BitVec 32 := 4096#32
  let v95 : BitVec 1 := Scalar.cmpi .sge v94 c4096_i32_30
  let v96 : BitVec 32 := Scalar.extui v95
  let c0_i32_31 : BitVec 32 := 0#32
  let v97 : BitVec 1 := Scalar.cmpi .ne v96 c0_i32_31
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1280x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S20480x1024 : Shape := ⟨2, ![20480, 1024]⟩
abbrev S20480x128 : Shape := ⟨2, ![20480, 128]⟩
abbrev S8x6144 : Shape := ⟨2, ![8, 6144]⟩
abbrev S1024 : Shape := ⟨1, ![1024]⟩
abbrev S102400x1024 : Shape := ⟨2, ![102400, 1024]⟩
abbrev S20480 : Shape := ⟨1, ![20480]⟩
abbrev S_ : Shape := ⟨0, ![]⟩
abbrev S20480x1 : Shape := ⟨2, ![20480, 1]⟩
abbrev S20480x4 : Shape := ⟨2, ![20480, 4]⟩
abbrev S4096x1024 : Shape := ⟨2, ![4096, 1024]⟩
abbrev S16x256x1024 : Shape := ⟨3, ![16, 256, 1024]⟩
abbrev S1x6144 : Shape := ⟨2, ![1, 6144]⟩
abbrev S1x1024 : Shape := ⟨2, ![1, 1024]⟩
abbrev S1x1x1024 : Shape := ⟨3, ![1, 1, 1024]⟩
abbrev S16x256 : Shape := ⟨2, ![16, 256]⟩
abbrev S16x256x1 : Shape := ⟨3, ![16, 256, 1]⟩
abbrev S16384x1024 : Shape := ⟨2, ![16384, 1024]⟩
abbrev S4x4096x1024 : Shape := ⟨3, ![4, 4096, 1024]⟩
abbrev S4x6144 : Shape := ⟨2, ![4, 6144]⟩
abbrev S4x1024 : Shape := ⟨2, ![4, 1024]⟩
abbrev S4x1x1024 : Shape := ⟨3, ![4, 1, 1024]⟩
abbrev S4x4096 : Shape := ⟨2, ![4, 4096]⟩
abbrev S4x4096x1 : Shape := ⟨3, ![4, 4096, 1]⟩

abbrev nBuf : Space → Nat
  | .hbm => 179
  | .vmem => 0
  | .smem => 0
  | _ => 0

abbrev hbmTy0_0 (i : Nat) : BufTy := match i % 128 with
  | 0 => ⟨S20480x1024, .f32⟩
  | 1 => ⟨S20480x128, .i32⟩
  | 2 => ⟨S20480x128, .f32⟩
  | 3 => ⟨S8x6144, .f32⟩
  | 4 => ⟨S1024, .f32⟩
  | 5 => ⟨S1024, .f32⟩
  | 6 => ⟨S102400x1024, .f32⟩
  | 7 => ⟨S20480, .i32⟩
  | 8 => ⟨S_, .i32⟩
  | 9 => ⟨S_, .i32⟩
  | 10 => ⟨S20480, .i32⟩
  | 11 => ⟨S20480, .i32⟩
  | 12 => ⟨S20480, .i32⟩
  | 13 => ⟨S_, .i32⟩
  | 14 => ⟨S20480, .i32⟩
  | 15 => ⟨S20480, .i1⟩
  | 16 => ⟨S20480, .i32⟩
  | 17 => ⟨S20480, .i32⟩
  | 18 => ⟨S_, .i32⟩
  | 19 => ⟨S20480, .i32⟩
  | 20 => ⟨S20480, .i1⟩
  | 21 => ⟨S20480, .i1⟩
  | 22 => ⟨S_, .i32⟩
  | 23 => ⟨S20480, .i32⟩
  | 24 => ⟨S20480, .i32⟩
  | 25 => ⟨S20480, .i32⟩
  | 26 => ⟨S20480x1, .i32⟩
  | 27 => ⟨S_, .i32⟩
  | 28 => ⟨S20480x1, .i32⟩
  | 29 => ⟨S20480x1, .i32⟩
  | 30 => ⟨S20480x4, .i32⟩
  | 31 => ⟨S20480x4, .i32⟩
  | 32 => ⟨S20480x4, .i32⟩
  | 33 => ⟨S20480x1, .f32⟩
  | 34 => ⟨S20480x1, .i32⟩
  | 35 => ⟨S20480, .i32⟩
  | 36 => ⟨S_, .i32⟩
  | 37 => ⟨S20480, .i32⟩
  | 38 => ⟨S20480, .i1⟩
  | 39 => ⟨S_, .i32⟩
  | 40 => ⟨S20480, .i32⟩
  | 41 => ⟨S20480, .i32⟩
  | 42 => ⟨S20480, .i32⟩
  | 43 => ⟨S20480x1, .i32⟩
  | 44 => ⟨S20480x1024, .f32⟩
  | 45 => ⟨S20480x1024, .f32⟩
  | 46 => ⟨S20480x1024, .f32⟩
  | 47 => ⟨S_, .f32⟩
  | 48 => ⟨S20480x1024, .f32⟩
  | 49 => ⟨S20480x1024, .f32⟩
  | 50 => ⟨S20480x1, .f32⟩
  | 51 => ⟨S20480x1, .i32⟩
  | 52 => ⟨S20480, .i32⟩
  | 53 => ⟨S_, .i32⟩
  | 54 => ⟨S20480, .i32⟩
  | 55 => ⟨S20480, .i1⟩
  | 56 => ⟨S_, .i32⟩
  | 57 => ⟨S20480, .i32⟩
  | 58 => ⟨S20480, .i32⟩
  | 59 => ⟨S20480, .i32⟩
  | 60 => ⟨S20480x1, .i32⟩
  | 61 => ⟨S20480x1024, .f32⟩
  | 62 => ⟨S20480x1024, .f32⟩
  | 63 => ⟨S20480x1024, .f32⟩
  | 64 => ⟨S20480x1024, .f32⟩
  | 65 => ⟨S20480x1, .f32⟩
  | 66 => ⟨S20480x1, .i32⟩
  | 67 => ⟨S20480, .i32⟩
  | 68 => ⟨S_, .i32⟩
  | 69 => ⟨S20480, .i32⟩
  | 70 => ⟨S20480, .i1⟩
  | 71 => ⟨S_, .i32⟩
  | 72 => ⟨S20480, .i32⟩
  | 73 => ⟨S20480, .i32⟩
  | 74 => ⟨S20480, .i32⟩
  | 75 => ⟨S20480x1, .i32⟩
  | 76 => ⟨S20480x1024, .f32⟩
  | 77 => ⟨S20480x1024, .f32⟩
  | 78 => ⟨S20480x1024, .f32⟩
  | 79 => ⟨S20480x1024, .f32⟩
  | 80 => ⟨S20480x1, .f32⟩
  | 81 => ⟨S20480x1, .i32⟩
  | 82 => ⟨S20480, .i32⟩
  | 83 => ⟨S_, .i32⟩
  | 84 => ⟨S20480, .i32⟩
  | 85 => ⟨S20480, .i1⟩
  | 86 => ⟨S_, .i32⟩
  | 87 => ⟨S20480, .i32⟩
  | 88 => ⟨S20480, .i32⟩
  | 89 => ⟨S20480, .i32⟩
  | 90 => ⟨S20480x1, .i32⟩
  | 91 => ⟨S20480x1024, .f32⟩
  | 92 => ⟨S20480x1024, .f32⟩
  | 93 => ⟨S20480x1024, .f32⟩
  | 94 => ⟨S20480x1024, .f32⟩
  | 95 => ⟨S4096x1024, .f32⟩
  | 96 => ⟨S16x256x1024, .f32⟩
  | 97 => ⟨S4096x1024, .f32⟩
  | 98 => ⟨S16x256x1024, .f32⟩
  | 99 => ⟨S1x6144, .f32⟩
  | 100 => ⟨S1x1024, .f32⟩
  | 101 => ⟨S_, .f32⟩
  | 102 => ⟨S16x256x1024, .f32⟩
  | 103 => ⟨S16x256x1024, .f32⟩
  | 104 => ⟨S1x1x1024, .f32⟩
  | 105 => ⟨S16x256x1024, .f32⟩
  | 106 => ⟨S16x256x1024, .f32⟩
  | 107 => ⟨S16x256x1024, .f32⟩
  | 108 => ⟨S_, .f32⟩
  | 109 => ⟨S16x256, .f32⟩
  | 110 => ⟨S16x256x1, .f32⟩
  | 111 => ⟨S_, .f32⟩
  | 112 => ⟨S16x256x1, .f32⟩
  | 113 => ⟨S16x256x1, .f32⟩
  | 114 => ⟨S16x256x1024, .f32⟩
  | 115 => ⟨S16x256x1024, .f32⟩
  | 116 => ⟨S16x256x1024, .f32⟩
  | 117 => ⟨S_, .f32⟩
  | 118 => ⟨S16x256, .f32⟩
  | 119 => ⟨S16x256x1, .f32⟩
  | 120 => ⟨S_, .f32⟩
  | 121 => ⟨S16x256x1, .f32⟩
  | 122 => ⟨S16x256x1, .f32⟩
  | 123 => ⟨S16x256x1024, .f32⟩
  | 124 => ⟨S16x256x1024, .f32⟩
  | 125 => ⟨S_, .f32⟩
  | 126 => ⟨S16x256x1, .f32⟩
  | 127 => ⟨S16x256x1, .f32⟩
  | _ => ⟨S20480x1024, .f32⟩

abbrev hbmTy0_1 (i : Nat) : BufTy := match i % 128 with
  | 0 => ⟨S16x256x1, .f32⟩
  | 1 => ⟨S16x256x1024, .f32⟩
  | 2 => ⟨S16x256x1024, .f32⟩
  | 3 => ⟨S1x1x1024, .f32⟩
  | 4 => ⟨S16x256x1024, .f32⟩
  | 5 => ⟨S16x256x1024, .f32⟩
  | 6 => ⟨S1x1x1024, .f32⟩
  | 7 => ⟨S16x256x1024, .f32⟩
  | 8 => ⟨S16x256x1024, .f32⟩
  | 9 => ⟨S16384x1024, .f32⟩
  | 10 => ⟨S4x4096x1024, .f32⟩
  | 11 => ⟨S16384x1024, .f32⟩
  | 12 => ⟨S4x4096x1024, .f32⟩
  | 13 => ⟨S4x6144, .f32⟩
  | 14 => ⟨S4x1024, .f32⟩
  | 15 => ⟨S_, .f32⟩
  | 16 => ⟨S4x4096x1024, .f32⟩
  | 17 => ⟨S4x4096x1024, .f32⟩
  | 18 => ⟨S4x1x1024, .f32⟩
  | 19 => ⟨S4x4096x1024, .f32⟩
  | 20 => ⟨S4x4096x1024, .f32⟩
  | 21 => ⟨S4x4096x1024, .f32⟩
  | 22 => ⟨S_, .f32⟩
  | 23 => ⟨S4x4096, .f32⟩
  | 24 => ⟨S4x4096x1, .f32⟩
  | 25 => ⟨S_, .f32⟩
  | 26 => ⟨S4x4096x1, .f32⟩
  | 27 => ⟨S4x4096x1, .f32⟩
  | 28 => ⟨S4x4096x1024, .f32⟩
  | 29 => ⟨S4x4096x1024, .f32⟩
  | 30 => ⟨S4x4096x1024, .f32⟩
  | 31 => ⟨S_, .f32⟩
  | 32 => ⟨S4x4096, .f32⟩
  | 33 => ⟨S4x4096x1, .f32⟩
  | 34 => ⟨S_, .f32⟩
  | 35 => ⟨S4x4096x1, .f32⟩
  | 36 => ⟨S4x4096x1, .f32⟩
  | 37 => ⟨S4x4096x1024, .f32⟩
  | 38 => ⟨S4x4096x1024, .f32⟩
  | 39 => ⟨S_, .f32⟩
  | 40 => ⟨S4x4096x1, .f32⟩
  | 41 => ⟨S4x4096x1, .f32⟩
  | 42 => ⟨S4x4096x1, .f32⟩
  | 43 => ⟨S4x4096x1024, .f32⟩
  | 44 => ⟨S4x4096x1024, .f32⟩
  | 45 => ⟨S1x1x1024, .f32⟩
  | 46 => ⟨S4x4096x1024, .f32⟩
  | 47 => ⟨S4x4096x1024, .f32⟩
  | 48 => ⟨S1x1x1024, .f32⟩
  | 49 => ⟨S4x4096x1024, .f32⟩
  | 50 => ⟨S4x4096x1024, .f32⟩
  | _ => ⟨S20480x1024, .f32⟩

abbrev hbmTy (i : Nat) : BufTy := match i / 128 with
  | 0 => hbmTy0_0 i
  | 1 => hbmTy0_1 i
  | _ => ⟨S20480x1024, .f32⟩

abbrev bufTy : (tb : Table) → Fin (tcTables nBuf tb) → BufTy
  | .hbm, ⟨i, _⟩ => hbmTy i
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_3 : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_5 : Ref sig .tc := ⟨.hbm, 68, rfl⟩
abbrev main_v38 : Ref sig .tc := ⟨.hbm, 69, rfl⟩
abbrev main_v39 : Ref sig .tc := ⟨.hbm, 70, rfl⟩
abbrev main_c_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_7 : Ref sig .tc := ⟨.hbm, 83, rfl⟩
abbrev main_v51 : Ref sig .tc := ⟨.hbm, 84, rfl⟩
abbrev main_v52 : Ref sig .tc := ⟨.hbm, 85, rfl⟩
abbrev main_c_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_9 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_10 : Ref sig .tc := ⟨.hbm, 108, rfl⟩
abbrev main_v73 : Ref sig .tc := ⟨.hbm, 109, rfl⟩
abbrev main_v74 : Ref sig .tc := ⟨.hbm, 110, rfl⟩
abbrev main_cst_11 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_12 : Ref sig .tc := ⟨.hbm, 117, rfl⟩
abbrev main_v80 : Ref sig .tc := ⟨.hbm, 118, rfl⟩
abbrev main_v81 : Ref sig .tc := ⟨.hbm, 119, rfl⟩
abbrev main_cst_13 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_14 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_15 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_16 : Ref sig .tc := ⟨.hbm, 150, rfl⟩
abbrev main_v109 : Ref sig .tc := ⟨.hbm, 151, rfl⟩
abbrev main_v110 : Ref sig .tc := ⟨.hbm, 152, rfl⟩
abbrev main_cst_17 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_18 : Ref sig .tc := ⟨.hbm, 159, rfl⟩
abbrev main_v116 : Ref sig .tc := ⟨.hbm, 160, rfl⟩
abbrev main_v117 : Ref sig .tc := ⟨.hbm, 161, rfl⟩
abbrev main_cst_19 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_20 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩

abbrev nD : Nat := 1
abbrev τ : Topo := Topo.v7x

variable {F : FTy → Type} [FloatOps F]
-- ==== Proof.Body.lean ====
/-
  The kernel's body as loops. The printed body of `cc0_ffn` writes each loop over chunks out: sixty-four row copies into
  the tile's buffer, in three places, and sixty-four row copies out of it. Here each copy is one step with the chunk's
  number as a parameter, the loops are `steps`, and the printed body is shown to be this one by unfolding.
-/
module

public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.SL.Sem

variable {F : FTy → Type} [FloatOps F]

variable (F) in
/-- A program of the kernel's body. -/
abbrev Prg (α : Type) := Prog (TpuEff nD τ sig (Elt F) Λ₀ .tc) α

/-! ## The operands -/

/-- The tables in scalar memory: the number of live tiles, each tile's expert, its chunks, whether it is a half tile,
    its weight slot and the expert whose weights it starts. -/
abbrev tabL : Memref sig .tc .smem S1 .i32 := Memref.whole main_arg0
abbrev tabE : Memref sig .tc .smem S228 .i32 := Memref.whole main_arg1
abbrev tabN : Memref sig .tc .smem S228 .i32 := Memref.whole main_arg2
abbrev tabH : Memref sig .tc .smem S228 .i32 := Memref.whole main_arg3
abbrev tabS : Memref sig .tc .smem S228 .i32 := Memref.whole main_arg4
abbrev tabW : Memref sig .tc .smem S228 .i32 := Memref.whole main_arg5
/-- The rows, read and written in place, and the experts' weights, all left in HBM. -/
abbrev rowM : Memref sig .tc .hbm S102400x1024 .f32 := Memref.whole main_v2
abbrev guM : Memref sig .tc .hbm S32x1024x2048 .f32 := Memref.whole main_arg9
abbrev dnM : Memref sig .tc .hbm S32x1024x1024 .f32 := Memref.whole main_arg11
/-- The two slots of f32 weights, the current expert's bf16 weights, the two slots of gathered and of computed rows. -/
abbrev guF : Memref sig .tc .vmem S2x1024x2048 .f32 := Memref.whole cc0_scratch0
abbrev dnF : Memref sig .tc .vmem S2x1024x1024 .f32 := Memref.whole cc0_scratch1
abbrev guS : Memref sig .tc .vmem S1024x2048 .bf16 := Memref.whole cc0_scratch2
abbrev dnS : Memref sig .tc .vmem S1024x1024 .bf16 := Memref.whole cc0_scratch3
abbrev xM : Memref sig .tc .vmem S2x512x1024 .f32 := Memref.whole cc0_scratch4
abbrev yM : Memref sig .tc .vmem S2x512x1024 .f32 := Memref.whole cc0_scratch5
abbrev xSems : DmaSems sig S2 := cc0_scratch6
abbrev ySems : DmaSems sig S2 := cc0_scratch7
abbrev wSems : DmaSems sig S2 := cc0_scratch8

/-- One cell of a pair of semaphores. -/
abbrev semAt (S : DmaSems sig S2) (o : Fin 1 → ℕ) (h : ∀ a, o a + S1.size a ≤ S2.size a) : DmaSem sig :=
  ((S.slice (Rect.unit (s := S2) o S1.size h)).squeeze S_ squeezes_S1_S_).sem
/-- Eight rows of a slot of a tile buffer. -/
abbrev bufRows (M : Memref sig .tc .vmem S2x512x1024 .f32) (o : Fin 3 → ℕ) (h : ∀ a, o a + S1x8x1024.size a ≤ S2x512x1024.size a) :
    Memref sig .tc .vmem S8x1024 .f32 :=
  (M.slice (Rect.unit (s := S2x512x1024) o S1x8x1024.size h) (fun _ => rfl)).squeeze S8x1024 squeezes_S1x8x1024_S8x1024
/-- A slot of a tile buffer. -/
abbrev bufSlot (M : Memref sig .tc .vmem S2x512x1024 .f32) (o : Fin 3 → ℕ) (h : ∀ a, o a + S1x512x1024.size a ≤ S2x512x1024.size a) :
    Memref sig .tc .vmem S512x1024 .f32 :=
  (M.slice (Rect.unit (s := S2x512x1024) o S1x512x1024.size h) (fun _ => rfl)).squeeze S512x1024 squeezes_S1x512x1024_S512x1024
/-- Eight of the rows left in HBM. -/
abbrev hbmRows (o : Fin 2 → ℕ) (h : ∀ a, o a + S8x1024.size a ≤ S102400x1024.size a) : Memref sig .tc .hbm S8x1024 .f32 :=
  rowM.slice (Rect.unit (s := S102400x1024) o S8x1024.size h) (fun _ => rfl)
/-- One expert's weights and one slot for them, of either matrix. -/
abbrev guSrc (o : Fin 3 → ℕ) (h : ∀ a, o a + S1x1024x2048.size a ≤ S32x1024x2048.size a) : Memref sig .tc .hbm S1024x2048 .f32 :=
  (guM.slice (Rect.unit (s := S32x1024x2048) o S1x1024x2048.size h) (fun _ => rfl)).squeeze S1024x2048 squeezes_S1x1024x2048_S1024x2048
abbrev dnSrc (o : Fin 3 → ℕ) (h : ∀ a, o a + S1x1024x1024.size a ≤ S32x1024x1024.size a) : Memref sig .tc .hbm S1024x1024 .f32 :=
  (dnM.slice (Rect.unit (s := S32x1024x1024) o S1x1024x1024.size h) (fun _ => rfl)).squeeze S1024x1024 squeezes_S1x1024x1024_S1024x1024
abbrev guDst (o : Fin 3 → ℕ) (h : ∀ a, o a + S1x1024x2048.size a ≤ S2x1024x2048.size a) : Memref sig .tc .vmem S1024x2048 .f32 :=
  (guF.slice (Rect.unit (s := S2x1024x2048) o S1x1024x2048.size h) (fun _ => rfl)).squeeze S1024x2048 squeezes_S1x1024x2048_S1024x2048
abbrev dnDst (o : Fin 3 → ℕ) (h : ∀ a, o a + S1x1024x1024.size a ≤ S2x1024x1024.size a) : Memref sig .tc .vmem S1024x1024 .f32 :=
  (dnF.slice (Rect.unit (s := S2x1024x1024) o S1x1024x1024.size h) (fun _ => rfl)).squeeze S1024x1024 squeezes_S1x1024x1024_S1024x1024

/-! ## The loops -/

/-- `n` steps, numbered from `c`. -/
def steps (f : ℕ → Prg F PUnit) : ℕ → ℕ → Prg F PUnit
  | _, 0 => pure ⟨⟩
  | c, n + 1 => do f c; steps f (c + 1) n

theorem inbTab (c : ℕ) : ∀ a, (![0, 0, c % 64] : Fin 3 → ℕ) a + S1x1x1.size a ≤ S1x1x64.size a := by
  intro a; have := Nat.mod_lt c (show 0 < 64 by omega); fin_cases a <;> simp [S1x1x1, S1x1x64] <;> omega
theorem inbBuf {k : ℕ} (hk : k < 2) (c : ℕ) : ∀ a, (![k, 8 * (c % 64), 0] : Fin 3 → ℕ) a + S1x8x1024.size a ≤ S2x512x1024.size a := by
  intro a; have := Nat.mod_lt c (show 0 < 64 by omega); fin_cases a <;> simp [S1x8x1024, S2x512x1024] <;> omega
theorem inbSem {k : ℕ} (hk : k < 2) : ∀ a, (![k] : Fin 1 → ℕ) a + S1.size a ≤ S2.size a := by
  intro a; fin_cases a; simp [S1, S2]; omega

/-- The rows of chunk `v`. -/
abbrev rowOff (v : BitVec 32) : Fin 2 → ℕ := ![(Scalar.muli v 8#32).toNat, 0]

/-- One copy in: the chunk's number from the table, then its rows into rows `8 c …` of slot `k`. -/
def gatherStep (tab : Memref sig .tc .smem S1x1x64 .i32) {P : BitVec 32 → Prop} (d : ∀ v, Decidable (P v))
    (hP : ∀ v, P v → ∀ a, rowOff v a + S8x1024.size a ≤ S102400x1024.size a) {k : ℕ} (hk : k < 2) (c : ℕ) : Prg F PUnit := do
  let v : Elt F .i32 ← smemLoad tab (Rect.unit (s := S1x1x64) ![0, 0, c % 64] S1x1x1.size (inbTab c)) numel1_S1x1x1 rfl
  have hw : P v := (← Prog.lift (TpuEff.assume (P v) (d v))).down
  Prog.lift (.enqueueDma (hbmRows (rowOff v) (hP v hw)) (.here (bufRows xM ![k, 8 * (c % 64), 0] (inbBuf hk c)))
    (.dma (semAt xSems ![k] (inbSem hk))) (View.wordExact_bits rfl) ((View.wordExact_bits rfl).reshape _ _) ⟨Or.inl rfl, trivial⟩)

/-- One copy out: rows `8 c …` of slot `k` to the chunk whose number the table gives. -/
def scatterStep (tab : Memref sig .tc .smem S1x1x64 .i32) {P : BitVec 32 → Prop} (d : ∀ v, Decidable (P v))
    (hP : ∀ v, P v → ∀ a, rowOff v a + S8x1024.size a ≤ S102400x1024.size a) {k : ℕ} (hk : k < 2) (c : ℕ) : Prg F PUnit := do
  let v : Elt F .i32 ← smemLoad tab (Rect.unit (s := S1x1x64) ![0, 0, c % 64] S1x1x1.size (inbTab c)) numel1_S1x1x1 rfl
  have hw : P v := (← Prog.lift (TpuEff.assume (P v) (d v))).down
  Prog.lift (.enqueueDma (bufRows yM ![k, 8 * (c % 64), 0] (inbBuf hk c)) (.here (hbmRows (rowOff v) (hP v hw)))
    (.dma (semAt ySems ![k] (inbSem hk))) ((View.wordExact_bits rfl).reshape _ _) (View.wordExact_bits rfl) ⟨Or.inl rfl, trivial⟩)

/-! ## The point's slots -/

/-- The slot of a point, and the other one. -/
abbrev parW (i : grid0.Coords) : BitVec 32 := Scalar.andi (BitVec.ofNat 32 (i 0).val) 1#32
abbrev othW (i : grid0.Coords) : BitVec 32 := Scalar.subi 1#32 (parW i)
theorem parW_lt (i : grid0.Coords) : (parW i).toNat < 2 := by
  have := k0_off69_inb i 0; simp [k0_off69, S1, S2] at this; simp [parW]; omega
theorem othW_lt (i : grid0.Coords) : (othW i).toNat < 2 := by
  have := k0_off85_inb i 0; simp [k0_off85, S1, S2] at this; simp [othW, parW]; omega

end Cert.KernelIdeal.Hand
end
-- ==== Proof.Body2.lean ====
/-
  The body of the kernel as loops, and that the printed body is it.
-/
module

public import proofs.«01_k».proof.Proof.Body

@[expose] public section

noncomputable section

namespace Cert.KernelIdeal.Hand

open Cert.KernelIdeal Cert.KernelIdeal.Gen
open Idealize.ShloMosaic Idealize.SL.Sem

variable {F : FTy → Type} [FloatOps F]

/-- The wait for the rows of an earlier tile to be written: `n` chunks of eight rows, counted by their cell. -/
def waitOut (s : DmaSem sig) (z : Fin 2 → ℕ) : Prg F PUnit :=
  Prog.lift (.waitDma s rowM.view.ref (⟨2, z⟩ : Shape) .f32 (Or.inl rfl))

/-- The copies of one expert's two matrices into slot `k`, both counted by one cell. -/
def startW (k : ℕ) (hs : ∀ a, (![k] : Fin 1 → ℕ) a + S1.size a ≤ S2.size a)
    (hg : ∀ a, (![k, 0, 0] : Fin 3 → ℕ) a + S1x1024x2048.size a ≤ S2x1024x2048.size a)
    (hd : ∀ a, (![k, 0, 0] : Fin 3 → ℕ) a + S1x1024x1024.size a ≤ S2x1024x1024.size a)
    (e : ℕ) (eg : ∀ a, (![e, 0, 0] : Fin 3 → ℕ) a + S1x1024x2048.size a ≤ S32x1024x2048.size a)
    (ed : ∀ a, (![e, 0, 0] : Fin 3 → ℕ) a + S1x1024x1024.size a ≤ S32x1024x1024.size a) : Prg F PUnit := do
  Prog.lift (.enqueueDma (guSrc ![e, 0, 0] eg) (.here (guDst ![k, 0, 0] hg)) (.dma (semAt wSems ![k] hs))
    ((View.wordExact_bits rfl).reshape _ _) ((View.wordExact_bits rfl).reshape _ _) ⟨Or.inl rfl, trivial⟩)
  Prog.lift (.enqueueDma (dnSrc ![e, 0, 0] ed) (.here (dnDst ![k, 0, 0] hd)) (.dma (semAt wSems ![k] hs))
    ((View.wordExact_bits rfl).reshape _ _) ((View.wordExact_bits rfl).reshape _ _) ⟨Or.inl rfl, trivial⟩)

/-- The first point's copies: the first tile's rows and the first expert's weights. -/
def first (i : grid0.Coords) (arg7 : Memref sig .tc .smem S1x1x64 .i32) (h1 : k0_cond1 i = 1#1) : Prg F PUnit := do
  steps (gatherStep arg7 (fun v => k0_chk1.dec i v) (fun v hw => hw.2 h1) (k := 0) (by decide)) 0 64
  let v : Elt F .i32 ← smemLoad tabE (Rect.unit (s := S228) ![0] S1.size inb_S228_S1_0) numel1_S1 rfl
  have hw : k0_chk65 i v := (← Prog.lift (TpuEff.assume (k0_chk65 i v) (k0_chk65.dec i v))).down
  startW 0 inb_S2_S1_0 inb_S2x1024x2048_S1x1024x2048_0_0_0 inb_S2x1024x1024_S1x1024x1024_0_0_0 v.toNat (hw.1 h1) (hw.2 h1)

/-- The wait for the gathered rows in slot `k`. -/
def waitX (k : ℕ) (hs : ∀ a, (![k] : Fin 1 → ℕ) a + S1.size a ≤ S2.size a)
    (hx : ∀ a, (![k, 0, 0] : Fin 3 → ℕ) a + S1x512x1024.size a ≤ S2x512x1024.size a) : Prg F PUnit :=
  Prog.lift (.waitDma2 (semAt xSems ![k] hs)
    (rowM.slice (Rect.unit (s := S102400x1024) ![0, 0] S512x1024.size inb_S102400x1024_S512x1024_0_0) (fun _ => rfl))
    (bufSlot xM ![k, 0, 0] hx) (View.wordExact_bits rfl) ((View.wordExact_bits rfl).reshape _ _))

/-- A new expert: its weights waited for and cast, the next expert's copies started into the other slot. -/
def newExpert (i : grid0.Coords) (v1 v6 v10 v14 : BitVec 32) (hw66 : k0_chk66 i v1 v6 v10 v14) (h2 : k0_cond2 i v1 = 1#1) (h3 : k0_cond3 i v6 v10 = 1#1) (K : Prg F PUnit) :
    Prg F PUnit := do
  Prog.lift (.waitDma2 (semAt wSems (k0_off71 v14) (k0_off71_inb i v1 v6 v10 v14 hw66 h2 h3))
    (guSrc ![0, 0, 0] inb_S32x1024x2048_S1x1024x2048_0_0_0) (guDst (k0_off72 v14) (k0_off72_inb i v1 v6 v10 v14 hw66 h2 h3))
    ((View.wordExact_bits rfl).reshape _ _) ((View.wordExact_bits rfl).reshape _ _))
  Prog.lift (.waitDma2 (semAt wSems (k0_off71 v14) (k0_off71_inb i v1 v6 v10 v14 hw66 h2 h3))
    (dnSrc ![0, 0, 0] inb_S32x1024x1024_S1x1024x1024_0_0_0) (dnDst (k0_off73 v14) (k0_off73_inb i v1 v6 v10 v14 hw66 h2 h3))
    ((View.wordExact_bits rfl).reshape _ _) ((View.wordExact_bits rfl).reshape _ _))
  let v79 : Vec F S1x1024x2048 .f32 ← Prog.lift (.load guF (Rect.unit (s := S2x1024x2048) (k0_off74 v14) S1x1024x2048.size (k0_off74_inb i v1 v6 v10 v14 hw66 h2 h3)).toLoadRect (View.loadsAt_vmem h_S1x1024x2048))
  let v82 : Vec F S1024x2048 .bf16 ← Prog.lift (.load guS (Rect.unit (s := S1024x2048) ![0, 0] S1024x2048.size inb_S1024x2048_S1024x2048_0_0).toLoadRect (View.loadsAt_vmem h_S1024x2048))
  Prog.lift (.store guS (Rect.unit (s := S1024x2048) ![0, 0] S1024x2048.size inb_S1024x2048_S1024x2048_0_0) (k0_pay5 v79) Finset.univ (View.stores_vmem h_S1024x2048 ((Memref.isWhole_whole _).storeExact_slice rfl _ packedbf16_S1024x2048_S1024x2048_0_0) (fun _ => rfl)) (.inl rfl))
  let v86 : Vec F S1x1024x1024 .f32 ← Prog.lift (.load dnF (Rect.unit (s := S2x1024x1024) (k0_off75 v14) S1x1024x1024.size (k0_off75_inb i v1 v6 v10 v14 hw66 h2 h3)).toLoadRect (View.loadsAt_vmem h_S1x1024x1024))
  let v89 : Vec F S1024x1024 .bf16 ← Prog.lift (.load dnS (Rect.unit (s := S1024x1024) ![0, 0] S1024x1024.size inb_S1024x1024_S1024x1024_0_0).toLoadRect (View.loadsAt_vmem h_S1024x1024))
  Prog.lift (.store dnS (Rect.unit (s := S1024x1024) ![0, 0] S1024x1024.size inb_S1024x1024_S1024x1024_0_0) (k0_pay6 v86) Finset.univ (View.stores_vmem h_S1024x1024 ((Memref.isWhole_whole _).storeExact_slice rfl _ packedbf16_S1024x1024_S1024x1024_0_0) (fun _ => rfl)) (.inl rfl))
  let v93 : Elt F .i32 ← smemLoad tabW (Rect.unit (s := S228) (k0_off76 i) S1.size (k0_off76_inb i)) numel1_S1 rfl
  have hw67 : k0_chk67 i v1 v6 v10 v14 v93 := (← Prog.lift (TpuEff.assume (k0_chk67 i v1 v6 v10 v14 v93) (k0_chk67.dec i v1 v6 v10 v14 v93))).down
  if h4 : k0_cond4 v93 = 1#1 then do
    let v98 : Elt F .i32 ← smemLoad tabW (Rect.unit (s := S228) (k0_off77 i) S1.size (k0_off77_inb i)) numel1_S1 rfl
    have hw68 : k0_chk68 i v1 v6 v10 v93 v98 := (← Prog.lift (TpuEff.assume (k0_chk68 i v1 v6 v10 v93 v98) (k0_chk68.dec i v1 v6 v10 v93 v98))).down
    startW (Scalar.subi 1#32 v14).toNat (k0_off78_inb i v1 v6 v10 v14 v93 hw67 h2 h3 h4) (k0_off79_inb i v1 v6 v10 v14 v93 hw67 h2 h3 h4)
      (k0_off82_inb i v1 v6 v10 v14 v93 hw67 h2 h3 h4) v98.toNat (k0_off80_inb i v1 v6 v10 v93 v98 hw68 h2 h3 h4) (k0_off83_inb i v1 v6 v10 v93 v98 hw68 h2 h3 h4)
    K
  else K

/-- A half tile: the next tile's copies in, the layer on 256 rows, and the result stored once its slot is free. -/
def tileHalf (i : grid0.Coords) (v1 v29 : BitVec 32) (h2 : k0_cond2 i v1 = 1#1) (h5 : k0_cond5 v29 = 1#1)
    (arg8 : Memref sig .tc .smem S1x1x64 .i32) (arg12 : Memref sig .tc .vmem S1x1x2048 .f32) (arg14 : Memref sig .tc .vmem S1x1x1024 .f32) (K : Prg F PUnit) : Prg F PUnit := do
  steps (gatherStep arg8 (fun v => k0_chk69.dec i v1 v29 v) (fun v hw => hw.2 h2 h5) (othW_lt i)) 0 64
  let v580 : Vec F S1x256x1024 .f32 ← Prog.lift (.load xM (Rect.unit (s := S2x512x1024) (k0_off277 i) S1x256x1024.size (k0_off277_inb i)).toLoadRect (View.loadsAt_vmem h_S1x256x1024))
  let v583 : Vec F S1024x2048 .bf16 ← Prog.lift (.load guS (Rect.unit (s := S1024x2048) ![0, 0] S1024x2048.size inb_S1024x2048_S1024x2048_0_0).toLoadRect (View.loadsAt_vmem h_S1024x2048))
  let v585 : Vec F S1x1x2048 .f32 ← Prog.lift (.load arg12 (Rect.unit (s := S1x1x2048) ![0, 0, 0] S1x1x2048.size inb_S1x1x2048_S1x1x2048_0_0_0).toLoadRect (View.loadsAt_vmem h_S1x1x2048))
  let v605 : Vec F S1024x1024 .bf16 ← Prog.lift (.load dnS (Rect.unit (s := S1024x1024) ![0, 0] S1024x1024.size inb_S1024x1024_S1024x1024_0_0).toLoadRect (View.loadsAt_vmem h_S1024x1024))
  let v607 : Vec F S1x1x1024 .f32 ← Prog.lift (.load arg14 (Rect.unit (s := S1x1x1024) ![0, 0, 0] S1x1x1024.size inb_S1x1x1024_S1x1x1024_0_0_0).toLoadRect (View.loadsAt_vmem h_S1x1x1024))
  if h6 : k0_cond6 i = 1#1 then do
    let v621 : Elt F .i32 ← smemLoad tabN (Rect.unit (s := S228) (k0_off278 i) S1.size (k0_off278_inb i h6)) numel1_S1 rfl
    have hw133 : k0_chk133 i v1 v29 v621 := (← Prog.lift (TpuEff.assume (k0_chk133 i v1 v29 v621) (k0_chk133.dec i v1 v29 v621))).down
    waitOut (semAt ySems (k0_off279 i) (k0_off279_inb i h6)) (k0_off280 v621).2
    pure ⟨⟩
  else pure ⟨⟩
  let v615 : Vec F S1x256x1024 .f32 ← Prog.lift (.load yM (Rect.unit (s := S2x512x1024) (k0_off277 i) S1x256x1024.size (k0_off277_inb i)).toLoadRect (View.loadsAt_vmem h_S1x256x1024))
  Prog.lift (.store yM (Rect.unit (s := S2x512x1024) (k0_off277 i) S1x256x1024.size (k0_off277_inb i)) (k0_pay7 (k0_pay1 v580 v583 v585 v605) (k0_pay2 v607)) Finset.univ (View.stores_vmem_bits_univ h_S1x256x1024 rfl) (.inl rfl))
  K

/-- A full tile: the same on 512 rows. -/
def tileFull (i : grid0.Coords) (v1 v34 : BitVec 32) (h2 : k0_cond2 i v1 = 1#1) (h7 : k0_cond7 v34 = 1#1)
    (arg8 : Memref sig .tc .smem S1x1x64 .i32) (arg12 : Memref sig .tc .vmem S1x1x2048 .f32) (arg14 : Memref sig .tc .vmem S1x1x1024 .f32) (K : Prg F PUnit) : Prg F PUnit := do
  steps (gatherStep arg8 (fun v => k0_chk134.dec i v1 v34 v) (fun v hw => hw.2 h2 h7) (othW_lt i)) 0 64
  let v580 : Vec F S1x512x1024 .f32 ← Prog.lift (.load xM (Rect.unit (s := S2x512x1024) (k0_off475 i) S1x512x1024.size (k0_off475_inb i)).toLoadRect (View.loadsAt_vmem h_S1x512x1024))
  let v583 : Vec F S1024x2048 .bf16 ← Prog.lift (.load guS (Rect.unit (s := S1024x2048) ![0, 0] S1024x2048.size inb_S1024x2048_S1024x2048_0_0).toLoadRect (View.loadsAt_vmem h_S1024x2048))
  let v585 : Vec F S1x1x2048 .f32 ← Prog.lift (.load arg12 (Rect.unit (s := S1x1x2048) ![0, 0, 0] S1x1x2048.size inb_S1x1x2048_S1x1x2048_0_0_0).toLoadRect (View.loadsAt_vmem h_S1x1x2048))
  let v605 : Vec F S1024x1024 .bf16 ← Prog.lift (.load dnS (Rect.unit (s := S1024x1024) ![0, 0] S1024x1024.size inb_S1024x1024_S1024x1024_0_0).toLoadRect (View.loadsAt_vmem h_S1024x1024))
  let v607 : Vec F S1x1x1024 .f32 ← Prog.lift (.load arg14 (Rect.unit (s := S1x1x1024) ![0, 0, 0] S1x1x1024.size inb_S1x1x1024_S1x1x1024_0_0_0).toLoadRect (View.loadsAt_vmem h_S1x1x1024))
  if h8 : k0_cond8 i = 1#1 then do
    let v621 : Elt F .i32 ← smemLoad tabN (Rect.unit (s := S228) (k0_off476 i) S1.size (k0_off476_inb i h8)) numel1_S1 rfl
    have hw198 : k0_chk198 i v1 v34 v621 := (← Prog.lift (TpuEff.assume (k0_chk198 i v1 v34 v621) (k0_chk198.dec i v1 v34 v621))).down
    waitOut (semAt ySems (k0_off477 i) (k0_off477_inb i h8)) (k0_off478 v621).2
    pure ⟨⟩
  else pure ⟨⟩
  let v615 : Vec F S1x512x1024 .f32 ← Prog.lift (.load yM (Rect.unit (s := S2x512x1024) (k0_off475 i) S1x512x1024.size (k0_off475_inb i)).toLoadRect (View.loadsAt_vmem h_S1x512x1024))
  Prog.lift (.store yM (Rect.unit (s := S2x512x1024) (k0_off475 i) S1x512x1024.size (k0_off475_inb i)) (k0_pay8 (k0_pay3 v580 v583 v585 v605) (k0_pay4 v607)) Finset.univ (View.stores_vmem_bits_univ h_S1x512x1024 rfl) (.inl rfl))
  K

/-- Group `g` of the copies out: eight chunks, if the tile has more than `8 g`. -/
def scatterGroup (i : grid0.Coords) (v1 v3 : BitVec 32) (h2 : k0_cond2 i v1 = 1#1) (arg9 : Memref sig .tc .smem S1x1x64 .i32) (g : ℕ)
    {cnd : BitVec 1} {P : BitVec 32 → Prop} (d : ∀ v, Decidable (P v))
    (hP : cnd = 1#1 → ∀ v, P v → ∀ a, rowOff v a + S8x1024.size a ≤ S102400x1024.size a) (K : Prg F PUnit) : Prg F PUnit := do
  if h : cnd = 1#1 then do
    steps (scatterStep arg9 d (hP h) (parW_lt i)) (8 * g) 8
    K
  else K

/-- The last live tile's waits: the copies in that no tile uses, and what is still being written. -/
def last (i : grid0.Coords) (v1 v3 : BitVec 32) (hw263 : k0_chk263 i v1 v3) (h2 : k0_cond2 i v1 = 1#1) (h17 : k0_cond17 i v1 = 1#1) (K : Prg F PUnit) : Prg F PUnit := do
  waitX (othW i).toNat (k0_off672_inb i) (k0_off673_inb i)
  waitOut (semAt ySems (k0_off674 i) (k0_off674_inb i)) (k0_off675 v3).2
  if h18 : k0_cond18 i = 1#1 then do
    let v87 : Elt F .i32 ← smemLoad tabN (Rect.unit (s := S228) (k0_off677 i) S1.size (k0_off677_inb i h18)) numel1_S1 rfl
    have hw264 : k0_chk264 i v1 v87 := (← Prog.lift (TpuEff.assume (k0_chk264 i v1 v87) (k0_chk264.dec i v1 v87))).down
    waitOut (semAt ySems (k0_off678 i) (k0_off678_inb i h18)) (k0_off679 v87).2
    K
  else K

/-- The copies out of a live tile: the first five groups (the printed text breaks off there into its own part), -/
def outA (i : grid0.Coords) (arg9 : Memref sig .tc .smem S1x1x64 .i32) (v1 v3 : BitVec 32) (h2 : k0_cond2 i v1 = 1#1) : Prg F PUnit :=
  scatterGroup i v1 v3 h2 arg9 0 (cnd := k0_cond9 v3) (fun v => k0_chk202.dec i v1 v3 v) (fun h v hw => hw.2 h2 h) <|
  scatterGroup i v1 v3 h2 arg9 1 (cnd := k0_cond10 v3) (fun v => k0_chk210.dec i v1 v3 v) (fun h v hw => hw.2 h2 h) <|
  scatterGroup i v1 v3 h2 arg9 2 (cnd := k0_cond11 v3) (fun v => k0_chk218.dec i v1 v3 v) (fun h v hw => hw.2 h2 h) <|
  scatterGroup i v1 v3 h2 arg9 3 (cnd := k0_cond12 v3) (fun v => k0_chk226.dec i v1 v3 v) (fun h v hw => hw.2 h2 h) <|
  scatterGroup i v1 v3 h2 arg9 4 (cnd := k0_cond13 v3) (fun v => k0_chk234.dec i v1 v3 v) (fun h v hw => hw.2 h2 h) <|
  pure ⟨⟩

/-- and the other three, then, if the tile is the last, its waits. -/
def outB (i : grid0.Coords) (arg9 : Memref sig .tc .smem S1x1x64 .i32) (v1 v3 : BitVec 32) (hw263 : k0_chk263 i v1 v3) (h2 : k0_cond2 i v1 = 1#1) : Prg F PUnit :=
  scatterGroup i v1 v3 h2 arg9 5 (cnd := k0_cond14 v3) (fun v => k0_chk242.dec i v1 v3 v) (fun h v hw => hw.2 h2 h) <|
  scatterGroup i v1 v3 h2 arg9 6 (cnd := k0_cond15 v3) (fun v => k0_chk250.dec i v1 v3 v) (fun h v hw => hw.2 h2 h) <|
  scatterGroup i v1 v3 h2 arg9 7 (cnd := k0_cond16 v3) (fun v => k0_chk258.dec i v1 v3 v) (fun h v hw => hw.2 h2 h) <|
  if h17 : k0_cond17 i v1 = 1#1 then last i v1 v3 hw263 h2 h17 (pure ⟨⟩) else pure ⟨⟩

/-- A live tile up to `outA`. -/
def liveA (i : grid0.Coords) (arg8 arg9 : Memref sig .tc .smem S1x1x64 .i32) (arg12 : Memref sig .tc .vmem S1x1x2048 .f32) (arg14 : Memref sig .tc .vmem S1x1x1024 .f32)
    (v1 v3 v6 v10 v14 : BitVec 32) (hw66 : k0_chk66 i v1 v6 v10 v14) (h2 : k0_cond2 i v1 = 1#1) : Prg F PUnit := do
  waitX (parW i).toNat (k0_off69_inb i) (k0_off70_inb i)
  let K : Prg F PUnit := do
    let v29 : Elt F .i32 ← smemLoad tabH (Rect.unit (s := S228) (k0_off84 i) S1.size (k0_off84_inb i)) numel1_S1 rfl
    let K : Prg F PUnit := do
      let v34 : Elt F .i32 ← smemLoad tabH (Rect.unit (s := S228) (k0_off282 i) S1.size (k0_off282_inb i)) numel1_S1 rfl
      let K := outA i arg9 v1 v3 h2
      if h7 : k0_cond7 v34 = 1#1 then tileFull i v1 v34 h2 h7 arg8 arg12 arg14 K else K
    if h5 : k0_cond5 v29 = 1#1 then tileHalf i v1 v29 h2 h5 arg8 arg12 arg14 K else K
  if h3 : k0_cond3 i v6 v10 = 1#1 then newExpert i v1 v6 v10 v14 hw66 h2 h3 K else K

/-- The body at one point. -/
def ffnBody (i : grid0.Coords) (arg7 arg8 arg9 : Memref sig .tc .smem S1x1x64 .i32) (arg12 : Memref sig .tc .vmem S1x1x2048 .f32)
    (arg14 : Memref sig .tc .vmem S1x1x1024 .f32) : Prg F PUnit := do
  let v1 : Elt F .i32 ← smemLoad tabL (Rect.unit (s := S1) ![0] S1.size inb_S1_S1_0) numel1_S1 rfl
  let v3 : Elt F .i32 ← smemLoad tabN (Rect.unit (s := S228) (k0_off1 i) S1.size (k0_off1_inb i)) numel1_S1 rfl
  have hw263 : k0_chk263 i v1 v3 := (← Prog.lift (TpuEff.assume (k0_chk263 i v1 v3) (k0_chk263.dec i v1 v3))).down
  let v6 : Elt F .i32 ← smemLoad tabE (Rect.unit (s := S228) (k0_off1 i) S1.size (k0_off1_inb i)) numel1_S1 rfl
  let v10 : Elt F .i32 ← smemLoad tabE (Rect.unit (s := S228) (k0_off2 i) S1.size (k0_off2_inb i)) numel1_S1 rfl
  let v14 : Elt F .i32 ← smemLoad tabS (Rect.unit (s := S228) (k0_off1 i) S1.size (k0_off1_inb i)) numel1_S1 rfl
  have hw66 : k0_chk66 i v1 v6 v10 v14 := (← Prog.lift (TpuEff.assume (k0_chk66 i v1 v6 v10 v14) (k0_chk66.dec i v1 v6 v10 v14))).down
  if h1 : k0_cond1 i = 1#1 then first i arg7 h1 else pure ⟨⟩
  if h2 : k0_cond2 i v1 = 1#1 then do
    liveA i arg8 arg9 arg12 arg14 v1 v3 v6 v10 v14 hw66 h2
    outB i arg9 v1 v3 hw263 h2
  else pure ⟨⟩

set_option maxRecDepth 65536 in
set_option maxHeartbeats 4000000 in
/-- The printed body is this one. -/
theorem ffn_eq (i : grid0.Coords) (arg7 arg8 arg9 : Memref sig .tc .smem S1x1x64 .i32) (arg12 : Memref sig .tc .vmem S1x1x2048 .f32)
    (arg14 : Memref sig .tc .vmem S1x1x1024 .f32) (h7 : arg7.IsWhole) (h8 : arg8.IsWhole) (h9 : arg9.IsWhole) (h12 : arg12.IsWhole) (h14 : arg14.IsWhole) :
    cc0_ffn (F := F) i tabL (Memref.isWhole_whole _) tabE (Memref.isWhole_whole _) tabN (Memref.isWhole_whole _) tabH (Memref.isWhole_whole _)
      tabS (Memref.isWhole_whole _) tabW (Memref.isWhole_whole _) arg7 h7 arg8 h8 arg9 h9 rowM (Memref.isWhole_whole _) guM (Memref.isWhole_whole _) arg12 h12
      dnM (Memref.isWhole_whole _) arg14 h14 rowM (Memref.isWhole_whole _) guF (Memref.isWhole_whole _) dnF (Memref.isWhole_whole _) guS (Memref.isWhole_whole _)
      dnS (Memref.isWhole_whole _) xM (Memref.isWhole_whole _) yM (Memref.isWhole_whole _) xSems ySems wSems
      = ffnBody i arg7 arg8 arg9 arg12 arg14 := by
  sl_kernel_rfl

end Cert.KernelIdeal.Hand
end
-- ==== Proof.Words.lean ====
/-
  The kernel's conditions and offsets, read as numbers.
-/
module

public import proofs.«01_k».proof.Proof.Body2
public import Idealize.ShloMosaic.Lib.WordCmp

@[expose] public section

noncomputable section

namespace Cert.KernelIdeal.Hand

open Cert.KernelIdeal Cert.KernelIdeal.Gen
open Idealize.ShloMosaic Idealize.ShloMosaic.WordCmp

theorem ne_extui (b : BitVec 1) : Scalar.cmpi .ne (Scalar.extui b : BitVec 32) 0#32 = 1#1 ↔ b = 1#1 := by
  rcases (show b = 0#1 ∨ b = 1#1 by revert b; decide) with rfl | rfl <;> decide
theorem eq_iff (x y : BitVec 32) : Scalar.cmpi .eq x y = 1#1 ↔ x = y := by
  rw [scalar_cmpi_eq, cmpi_eq_eq, ofBool_decide_eq_one_iff]
theorem ne_iff (x y : BitVec 32) : Scalar.cmpi .ne x y = 1#1 ↔ x ≠ y := by
  rw [scalar_cmpi_eq, cmpi_ne_eq, ofBool_decide_eq_one_iff]
theorem slt_iff (x y : BitVec 32) : Scalar.cmpi .slt x y = 1#1 ↔ x.toInt < y.toInt := by
  rw [scalar_cmpi_eq, cmpi_slt_eq, ofBool_decide_eq_one_iff]
theorem sgt_iff (x y : BitVec 32) : Scalar.cmpi .sgt x y = 1#1 ↔ y.toInt < x.toInt := by
  rw [scalar_cmpi_eq, cmpi_sgt_eq, ofBool_decide_eq_one_iff]
theorem sge_iff (x y : BitVec 32) : Scalar.cmpi .sge x y = 1#1 ↔ y.toInt ≤ x.toInt := by
  rw [scalar_cmpi_eq, cmpi_sge_eq, ofBool_decide_eq_one_iff]
theorem or_iff (x y : BitVec 1) : Scalar.ori x y = 1#1 ↔ x = 1#1 ∨ y = 1#1 := by
  rcases (show x = 0#1 ∨ x = 1#1 by revert x; decide) with rfl | rfl <;>
    rcases (show y = 0#1 ∨ y = 1#1 by revert y; decide) with rfl | rfl <;> decide

theorem toInt_small {v : BitVec 32} (h : v.toNat < 1000000) : v.toInt = (v.toNat : ℤ) := toInt_eq_toNat_of_lt_half (by omega)
theorem toInt_ofNat {n : ℕ} (h : n < 1000000) : (BitVec.ofNat 32 n).toInt = (n : ℤ) := toInt_ofNat_of_lt (by omega)
theorem toNat_ofNat' {n : ℕ} (h : n < 1000000) : (BitVec.ofNat 32 n).toNat = n := toNat_ofNat_of_lt (by omega)

theorem pt_lt (i : grid0.Coords) : (i 0).val < 228 := (i 0).isLt

theorem cond1_iff (i : grid0.Coords) : k0_cond1 i = 1#1 ↔ (i 0).val = 0 := by
  have := pt_lt i
  refine (ne_extui _).trans ((eq_iff _ _).trans ?_)
  rw [← BitVec.toNat_inj, toNat_ofNat' (by omega)]; simp
theorem cond2_iff (i : grid0.Coords) {v1 : BitVec 32} (h : v1.toNat < 228) : k0_cond2 i v1 = 1#1 ↔ (i 0).val < v1.toNat := by
  have := pt_lt i
  refine (ne_extui _).trans ((slt_iff _ _).trans ?_)
  rw [toInt_ofNat (by omega), toInt_small (by omega)]; omega
theorem cond3_iff (i : grid0.Coords) {v6 v10 : BitVec 32} : k0_cond3 i v6 v10 = 1#1 ↔ (i 0).val = 0 ∨ v6 ≠ v10 := by
  have := pt_lt i
  refine (ne_extui _).trans ((or_iff _ _).trans (or_congr ?_ (ne_iff _ _)))
  refine (eq_iff _ _).trans ?_
  rw [← BitVec.toNat_inj, toNat_ofNat' (by omega)]; simp
theorem cond4_iff {v : BitVec 32} : k0_cond4 v = 1#1 ↔ 0 ≤ v.toInt :=
  (ne_extui _).trans ((sge_iff _ _).trans (by simp))
theorem cond5_iff {v : BitVec 32} : k0_cond5 v = 1#1 ↔ v = 1#32 := (ne_extui _).trans (eq_iff _ _)
theorem cond7_iff {v : BitVec 32} : k0_cond7 v = 1#1 ↔ v = 0#32 := (ne_extui _).trans (eq_iff _ _)
theorem cond6_iff (i : grid0.Coords) : k0_cond6 i = 1#1 ↔ 2 ≤ (i 0).val := by
  have := pt_lt i
  refine (ne_extui _).trans ((sge_iff _ _).trans ?_)
  rw [toInt_ofNat (by omega), toInt_ofNat (by omega)]; omega
theorem cond8_iff (i : grid0.Coords) : k0_cond8 i = 1#1 ↔ 2 ≤ (i 0).val := cond6_iff i
theorem cond18_iff (i : grid0.Coords) : k0_cond18 i = 1#1 ↔ 1 ≤ (i 0).val := by
  have := pt_lt i
  refine (ne_extui _).trans ((sge_iff _ _).trans ?_)
  rw [toInt_ofNat (by omega), toInt_ofNat (by omega)]; omega
theorem cond17_iff (i : grid0.Coords) {v1 : BitVec 32} (h : v1.toNat < 228) (h1 : 1 ≤ v1.toNat) : k0_cond17 i v1 = 1#1 ↔ (i 0).val = v1.toNat - 1 := by
  have := pt_lt i
  refine (ne_extui _).trans ((eq_iff _ _).trans ?_)
  rw [← BitVec.toNat_inj, toNat_ofNat' (by omega)]
  show _ = (v1 - 1#32).toNat ↔ _
  rw [BitVec.toNat_sub]; simp; omega

theorem grp_iff {v : BitVec 32} (h : v.toNat ≤ 64) {n : ℕ} (hn : n < 1000) :
    Scalar.cmpi .ne (Scalar.extui (Scalar.cmpi .sgt v (BitVec.ofNat 32 n)) : BitVec 32) 0#32 = 1#1 ↔ n < v.toNat := by
  refine (ne_extui _).trans ((sgt_iff _ _).trans ?_)
  rw [toInt_ofNat (by omega), toInt_small (by omega)]; omega
theorem cond9_iff {v : BitVec 32} (h : v.toNat ≤ 64) : k0_cond9 v = 1#1 ↔ 8 * 0 < v.toNat := grp_iff h (by omega)
theorem cond10_iff {v : BitVec 32} (h : v.toNat ≤ 64) : k0_cond10 v = 1#1 ↔ 8 * 1 < v.toNat := grp_iff h (by omega)
theorem cond11_iff {v : BitVec 32} (h : v.toNat ≤ 64) : k0_cond11 v = 1#1 ↔ 8 * 2 < v.toNat := grp_iff h (by omega)
theorem cond12_iff {v : BitVec 32} (h : v.toNat ≤ 64) : k0_cond12 v = 1#1 ↔ 8 * 3 < v.toNat := grp_iff h (by omega)
theorem cond13_iff {v : BitVec 32} (h : v.toNat ≤ 64) : k0_cond13 v = 1#1 ↔ 8 * 4 < v.toNat := grp_iff h (by omega)
theorem cond14_iff {v : BitVec 32} (h : v.toNat ≤ 64) : k0_cond14 v = 1#1 ↔ 8 * 5 < v.toNat := grp_iff h (by omega)
theorem cond15_iff {v : BitVec 32} (h : v.toNat ≤ 64) : k0_cond15 v = 1#1 ↔ 8 * 6 < v.toNat := grp_iff h (by omega)
theorem cond16_iff {v : BitVec 32} (h : v.toNat ≤ 64) : k0_cond16 v = 1#1 ↔ 8 * 7 < v.toNat := grp_iff h (by omega)

theorem parW_eq (i : grid0.Coords) : (parW i).toNat = (i 0).val % 2 := by
  have := pt_lt i
  show (BitVec.ofNat 32 (i 0).val &&& 1#32).toNat = _
  rw [BitVec.toNat_and, toNat_ofNat' (by omega)]
  exact Nat.and_one_is_mod _
theorem sub1_eq {v : BitVec 32} (h : v.toNat < 2) : (Scalar.subi 1#32 v).toNat = 1 - v.toNat := by
  show (1#32 - v).toNat = _
  rw [BitVec.toNat_sub]; simp; omega
theorem othW_eq (i : grid0.Coords) : (othW i).toNat = 1 - (i 0).val % 2 := by
  rw [← parW_eq]; exact sub1_eq (parW_lt i)

theorem off1_eq (i : grid0.Coords) : k0_off1 i = ![(i 0).val] := by
  have := pt_lt i
  show ![(BitVec.ofNat 32 (i 0).val).toNat] = _
  rw [toNat_ofNat' (by omega)]
theorem maxsi_sub {s m : ℕ} (hs : s < 1000) (hm : m ≤ s) : (Scalar.maxsi (Scalar.subi (BitVec.ofNat 32 s) (BitVec.ofNat 32 m)) 0#32).toNat = s - m := by
  have h1 : (Scalar.subi (BitVec.ofNat 32 s) (BitVec.ofNat 32 m)) = BitVec.ofNat 32 (s - m) := by
    apply BitVec.eq_of_toNat_eq
    show (BitVec.ofNat 32 s - BitVec.ofNat 32 m).toNat = _
    rw [BitVec.toNat_sub, toNat_ofNat' (by omega), toNat_ofNat' (by omega), toNat_ofNat' (by omega)]; omega
  rw [h1]
  unfold Scalar.maxsi IntOp.maxsi
  have : (BitVec.ofNat 32 (s - m)).toNat = s - m := toNat_ofNat' (by omega)
  split
  · exact this
  · rename_i hc
    simp only [BitVec.slt, toInt_ofNat (show s - m < 1000000 by omega), decide_eq_true_eq, BitVec.toInt_zero] at hc
    simp; omega
theorem off2_eq (i : grid0.Coords) (h : 1 ≤ (i 0).val) : k0_off2 i = ![(i 0).val - 1] := by
  have := pt_lt i
  show ![(Scalar.maxsi (Scalar.subi (BitVec.ofNat 32 (i 0).val) (BitVec.ofNat 32 1)) 0#32).toNat] = _
  rw [maxsi_sub (by omega) h]
theorem off677_eq (i : grid0.Coords) (h : 1 ≤ (i 0).val) : k0_off677 i = ![(i 0).val - 1] := by
  have := pt_lt i
  show ![(Scalar.maxsi (Scalar.subi (BitVec.ofNat 32 (i 0).val) (BitVec.ofNat 32 1)) 0#32).toNat] = _
  rw [maxsi_sub (by omega) h]
theorem off278_eq (i : grid0.Coords) (h : 2 ≤ (i 0).val) : k0_off278 i = ![(i 0).val - 2] := by
  have := pt_lt i
  show ![(Scalar.maxsi (Scalar.subi (BitVec.ofNat 32 (i 0).val) (BitVec.ofNat 32 2)) 0#32).toNat] = _
  rw [maxsi_sub (by omega) h]
theorem off476_eq (i : grid0.Coords) (h : 2 ≤ (i 0).val) : k0_off476 i = ![(i 0).val - 2] := off278_eq i h
theorem off277_eq (i : grid0.Coords) : k0_off277 i = ![(i 0).val % 2, 0, 0] := by
  rw [← parW_eq]; rfl
theorem off475_eq (i : grid0.Coords) : k0_off475 i = ![(i 0).val % 2, 0, 0] := by
  rw [← parW_eq]; rfl
theorem off279_eq (i : grid0.Coords) : k0_off279 i = ![(i 0).val % 2] := by
  rw [← parW_eq]; rfl
theorem off477_eq (i : grid0.Coords) : k0_off477 i = ![(i 0).val % 2] := by
  rw [← parW_eq]; rfl
theorem off674_eq (i : grid0.Coords) : k0_off674 i = ![(i 0).val % 2] := by
  rw [← parW_eq]; rfl
theorem off678_eq (i : grid0.Coords) : k0_off678 i = ![1 - (i 0).val % 2] := by
  rw [← othW_eq]; rfl

theorem muli8' {v : BitVec 32} (h : v.toNat ≤ 64) : (Scalar.muli v 8#32).toNat = 8 * v.toNat := by
  show (v * 8#32).toNat = _
  rw [BitVec.toNat_mul]; simp; omega
theorem size_eq {v : BitVec 32} (h : v.toNat ≤ 64) : ![(Scalar.muli v 8#32).toNat, 1024] = ![8 * v.toNat, 1024] := by rw [muli8' h]

theorem squeezes_rows (n : ℕ) : (⟨3, ![1, n, 1024]⟩ : Shape).Squeezes ⟨2, ![n, 1024]⟩ := by
  have h1 : (List.ofFn (![1, n, 1024] : Fin 3 → ℕ)) = [1, n, 1024] := by simp [List.ofFn_succ]
  have h2 : (List.ofFn (![n, 1024] : Fin 2 → ℕ)) = [n, 1024] := by simp [List.ofFn_succ]
  show Shape.dropsOnes (List.ofFn (![1, n, 1024] : Fin 3 → ℕ)).reverse (List.ofFn (![n, 1024] : Fin 2 → ℕ)).reverse = true
  rw [h1, h2]
  simp [Shape.dropsOnes]

/-! ## The checks -/

theorem chunk_ok {v : BitVec 32} (h : v.toNat < 12800) : 8 ∣ (Scalar.muli v 8#32).toNat
    ∧ ∀ a, (![(Scalar.muli v 8#32).toNat, 0] : Fin 2 → ℕ) a + S8x1024.size a ≤ S102400x1024.size a := by
  have : (Scalar.muli v 8#32).toNat = 8 * v.toNat := by
    show (v * 8#32).toNat = _
    rw [BitVec.toNat_mul]; simp; omega
  rw [this]
  refine ⟨⟨_, rfl⟩, fun a => ?_⟩
  fin_cases a <;> simp [S8x1024, S102400x1024]; omega

theorem chk1_ok (i : grid0.Coords) {v : BitVec 32} (h : v.toNat < 12800) : k0_chk1 i v := ⟨fun _ => (chunk_ok h).1, fun _ => (chunk_ok h).2⟩
theorem chk69_ok (i : grid0.Coords) (v1 u : BitVec 32) {v : BitVec 32} (h : v.toNat < 12800) : k0_chk69 i v1 u v := ⟨fun _ _ => (chunk_ok h).1, fun _ _ => (chunk_ok h).2⟩
theorem chk134_ok (i : grid0.Coords) (v1 u : BitVec 32) {v : BitVec 32} (h : v.toNat < 12800) : k0_chk134 i v1 u v := ⟨fun _ _ => (chunk_ok h).1, fun _ _ => (chunk_ok h).2⟩
theorem chk202_ok (i : grid0.Coords) (v1 u : BitVec 32) {v : BitVec 32} (h : v.toNat < 12800) : k0_chk202 i v1 u v := ⟨fun _ _ => (chunk_ok h).1, fun _ _ => (chunk_ok h).2⟩
theorem chk210_ok (i : grid0.Coords) (v1 u : BitVec 32) {v : BitVec 32} (h : v.toNat < 12800) : k0_chk210 i v1 u v := ⟨fun _ _ => (chunk_ok h).1, fun _ _ => (chunk_ok h).2⟩
theorem chk218_ok (i : grid0.Coords) (v1 u : BitVec 32) {v : BitVec 32} (h : v.toNat < 12800) : k0_chk218 i v1 u v := ⟨fun _ _ => (chunk_ok h).1, fun _ _ => (chunk_ok h).2⟩
theorem chk226_ok (i : grid0.Coords) (v1 u : BitVec 32) {v : BitVec 32} (h : v.toNat < 12800) : k0_chk226 i v1 u v := ⟨fun _ _ => (chunk_ok h).1, fun _ _ => (chunk_ok h).2⟩
theorem chk234_ok (i : grid0.Coords) (v1 u : BitVec 32) {v : BitVec 32} (h : v.toNat < 12800) : k0_chk234 i v1 u v := ⟨fun _ _ => (chunk_ok h).1, fun _ _ => (chunk_ok h).2⟩
theorem chk242_ok (i : grid0.Coords) (v1 u : BitVec 32) {v : BitVec 32} (h : v.toNat < 12800) : k0_chk242 i v1 u v := ⟨fun _ _ => (chunk_ok h).1, fun _ _ => (chunk_ok h).2⟩
theorem chk250_ok (i : grid0.Coords) (v1 u : BitVec 32) {v : BitVec 32} (h : v.toNat < 12800) : k0_chk250 i v1 u v := ⟨fun _ _ => (chunk_ok h).1, fun _ _ => (chunk_ok h).2⟩
theorem chk258_ok (i : grid0.Coords) (v1 u : BitVec 32) {v : BitVec 32} (h : v.toNat < 12800) : k0_chk258 i v1 u v := ⟨fun _ _ => (chunk_ok h).1, fun _ _ => (chunk_ok h).2⟩
theorem expert_ok {e n : ℕ} (h : e < 32) (a : Fin 3) : (![e, 0, 0] : Fin 3 → ℕ) a + (![1, 1024, n] : Fin 3 → ℕ) a ≤ (![32, 1024, n] : Fin 3 → ℕ) a := by
  fin_cases a <;> simp; omega
theorem wslot_ok {e n : ℕ} (h : e < 2) (a : Fin 3) : (![e, 0, 0] : Fin 3 → ℕ) a + (![1, 1024, n] : Fin 3 → ℕ) a ≤ (![2, 1024, n] : Fin 3 → ℕ) a := by
  fin_cases a <;> simp; omega
theorem chk65_ok (i : grid0.Coords) {v : BitVec 32} (h : v.toNat < 32) : k0_chk65 i v := ⟨fun _ => expert_ok h, fun _ => expert_ok h⟩
theorem chk66_ok (i : grid0.Coords) (v1 v6 v10 : BitVec 32) {v : BitVec 32} (h : v.toNat < 2) : k0_chk66 i v1 v6 v10 v :=
  ⟨fun _ _ => inbSem h, fun _ _ => wslot_ok h, fun _ _ => wslot_ok h, fun _ _ => wslot_ok h, fun _ _ => wslot_ok h⟩
theorem chk67_ok (i : grid0.Coords) (v1 v6 v10 v93 : BitVec 32) {v : BitVec 32} (h : v.toNat < 2) : k0_chk67 i v1 v6 v10 v v93 := by
  have h' : (Scalar.subi 1#32 v).toNat < 2 := by rw [sub1_eq h]; omega
  exact ⟨fun _ _ _ => inbSem h', fun _ _ _ => wslot_ok h', fun _ _ _ => inbSem h', fun _ _ _ => wslot_ok h'⟩
theorem chk68_ok (i : grid0.Coords) (v1 v6 v10 v93 : BitVec 32) {v : BitVec 32} (h : v.toNat < 32) : k0_chk68 i v1 v6 v10 v93 v :=
  ⟨fun _ _ _ => expert_ok h, fun _ _ _ => expert_ok h⟩
theorem eight_dvd {v : BitVec 32} (h : v.toNat ≤ 64) : 8 ∣ (Scalar.muli v 8#32).toNat := ⟨_, muli8' h⟩
theorem chk133_ok (i : grid0.Coords) (v1 u : BitVec 32) {v : BitVec 32} (h : v.toNat ≤ 64) : k0_chk133 i v1 u v := ⟨fun _ _ _ => eight_dvd h, fun _ _ _ => squeezes_rows _⟩
theorem chk198_ok (i : grid0.Coords) (v1 u : BitVec 32) {v : BitVec 32} (h : v.toNat ≤ 64) : k0_chk198 i v1 u v := ⟨fun _ _ _ => eight_dvd h, fun _ _ _ => squeezes_rows _⟩
theorem chk263_ok (i : grid0.Coords) (v1 : BitVec 32) {v : BitVec 32} (h : v.toNat ≤ 64) : k0_chk263 i v1 v := ⟨fun _ _ => eight_dvd h, fun _ _ => squeezes_rows _⟩
theorem chk264_ok (i : grid0.Coords) (v1 : BitVec 32) {v : BitVec 32} (h : v.toNat ≤ 64) : k0_chk264 i v1 v := ⟨fun _ _ _ => eight_dvd h, fun _ _ _ => squeezes_rows _⟩

end Cert.KernelIdeal.Hand
end
-- ==== Proof.Geo.lean ====
/-
  Where the copies' two ends lie. The rows left in HBM fall into chunks of eight, a slot of a tile buffer into
  sixty-four pieces of eight rows; a copy's end is one chunk or one piece, and what it writes there is stated by
  coordinates.
-/
module

public import proofs.«01_k».proof.Proof.Body
public import Idealize.ShloMosaic.Lib.ValueLayout

@[expose] public section

noncomputable section

namespace Cert.KernelIdeal.Hand

open Cert.KernelIdeal Cert.KernelIdeal.Gen
open Idealize.ShloMosaic Idealize.SL.Sem
open Idealize.ShloMosaic.ValueIdx (ix2 ix3)

variable {F : FTy → Type} [FloatOps F]

/-- The elements of rows `8 j …` of the rows in HBM. -/
def chunk (j : ℕ) : Finset S102400x1024.Idx := Finset.univ.filter fun i => (i 0).val / 8 = j
/-- The elements of rows `8 c …` of slot `k` of a tile buffer. -/
def piece (k c : ℕ) : Finset S2x512x1024.Idx := Finset.univ.filter fun i => (i 0).val = k ∧ (i 1).val / 8 = c
/-- The elements of slot `k` of a tile buffer. -/
def slot (k : ℕ) : Finset S2x512x1024.Idx := Finset.univ.filter fun i => (i 0).val = k

theorem mem_chunk {j : ℕ} {i : S102400x1024.Idx} : i ∈ chunk j ↔ (i 0).val / 8 = j := by simp [chunk]
theorem mem_piece {k c : ℕ} {i : S2x512x1024.Idx} : i ∈ piece k c ↔ (i 0).val = k ∧ (i 1).val / 8 = c := by simp [piece]
theorem mem_slot {k : ℕ} {i : S2x512x1024.Idx} : i ∈ slot k ↔ (i 0).val = k := by simp [slot]

theorem muli8 {v : BitVec 32} (h : v.toNat < 12800) : (Scalar.muli v 8#32).toNat = 8 * v.toNat := by
  show (v * 8#32).toNat = _
  rw [BitVec.toNat_mul]; simp; omega

theorem rowOff_eq {v : BitVec 32} (h : v.toNat < 12800) : rowOff v = ![8 * v.toNat, 0] := by
  simp only [rowOff, muli8 h]

theorem hbmRows_set {o : Fin 2 → ℕ} (hb : ∀ a, o a + S8x1024.size a ≤ S102400x1024.size a) {v : ℕ} (ho : o = ![8 * v, 0]) :
    (hbmRows o hb).view.set = chunk v := by
  subst ho
  refine (View.set_slice_whole main_v2 (Rect.unit (s := S102400x1024) _ S8x1024.size hb)).trans ?_
  ext i
  rw [Rect.mem_set_unit, mem_chunk]
  have h1 : (i 1).val < 1024 := (i 1).isLt
  constructor
  · intro h; have := h 0; simp [S8x1024] at this; omega
  · intro h a; fin_cases a <;> simp [S8x1024] <;> omega

theorem pieceRect_set {k c : ℕ} (hc : c < 64) {o : Fin 3 → ℕ} (ho : o = ![k, 8 * c, 0])
    (hb : ∀ a, o a + S1x8x1024.size a ≤ S2x512x1024.size a) :
    (Rect.unit (s := S2x512x1024) o S1x8x1024.size hb).set = piece k c := by
  subst ho
  ext i
  rw [Rect.mem_set_unit, mem_piece]
  have h1 : (i 2).val < 1024 := (i 2).isLt
  constructor
  · intro h; have h0 := h 0; have h1 := h 1; simp [S1x8x1024] at h0 h1; omega
  · intro h a; fin_cases a <;> simp [S1x8x1024] <;> omega

theorem bufRowsX_set {k c : ℕ} (hc : c < 64) {o : Fin 3 → ℕ} (ho : o = ![k, 8 * c, 0])
    (hb : ∀ a, o a + S1x8x1024.size a ≤ S2x512x1024.size a) : (bufRows xM o hb).view.set = piece k c := by
  refine (View.set_reshape _ _).trans ?_
  exact (View.set_slice_whole cc0_scratch4 _).trans (pieceRect_set hc ho hb)
theorem bufRowsY_set {k c : ℕ} (hc : c < 64) {o : Fin 3 → ℕ} (ho : o = ![k, 8 * c, 0])
    (hb : ∀ a, o a + S1x8x1024.size a ≤ S2x512x1024.size a) : (bufRows yM o hb).view.set = piece k c := by
  refine (View.set_reshape _ _).trans ?_
  exact (View.set_slice_whole cc0_scratch5 _).trans (pieceRect_set hc ho hb)

/-- A row-and-column of eight rows as an element of the slot's piece. -/
theorem piece_emb {k c : ℕ} (hc : c < 64) {o : Fin 3 → ℕ} (ho : o = ![k, 8 * c, 0])
    (hb : ∀ a, o a + S1x8x1024.size a ≤ S2x512x1024.size a)
    (h : S8x1024.numel = S1x8x1024.numel) (x : S8x1024.Idx) (i : S2x512x1024.Idx)
    (h0 : (i 0).val = k) (h1 : (i 1).val = 8 * c + (x 0).val) (h2 : (i 2).val = (x 1).val) :
    (Rect.unit (s := S2x512x1024) o S1x8x1024.size hb).emb (Shape.reshapeEquiv h x) = i := by
  subst ho
  have hE : Shape.reshapeEquiv h x = (ix3 (⟨0, Nat.one_pos⟩ : Fin 1) (x 0 : Fin 8) (x 1 : Fin 1024) : S1x8x1024.Idx) := by
    refine (congrArg (Shape.reshapeEquiv h) (?_ : x = ix2 (x 0 : Fin 8) (x 1 : Fin 1024))).trans
      (ValueIdx.reshapeEquiv_ix2_1ab (a := 8) (b := 1024) h (x 0) (x 1))
    funext a; fin_cases a <;> rfl
  rw [hE]
  funext a
  apply Fin.ext
  rw [Rect.emb_apply]
  fin_cases a
  · show k + 1 * 0 = (i 0).val; omega
  · show 8 * c + 1 * (x 0).val = (i 1).val; omega
  · show 0 + 1 * (x 1).val = (i 2).val; omega

/-- A row-and-column of eight rows as an element of the chunk. -/
theorem chunk_emb {v : ℕ} {o : Fin 2 → ℕ} (ho : o = ![8 * v, 0])
    (hb : ∀ a, o a + S8x1024.size a ≤ S102400x1024.size a) (x : S8x1024.Idx) (i : S102400x1024.Idx)
    (h0 : (i 0).val = 8 * v + (x 0).val) (h1 : (i 1).val = (x 1).val) :
    (Rect.unit (s := S102400x1024) o S8x1024.size hb).emb x = i := by
  subst ho
  funext a
  apply Fin.ext
  rw [Rect.emb_apply]
  fin_cases a
  · show 8 * v + 1 * (x 0).val = (i 0).val; omega
  · show 0 + 1 * (x 1).val = (i 1).val; omega

/-- The tile of chunks `src`: row `8 c + r` is row `r` of chunk `src c`, in either slot. -/
def gath (f0 : S102400x1024.Idx → Elt F .f32) (src : ℕ → ℕ) : S2x512x1024.Idx → Elt F .f32 := fun i =>
  f0 (ix2 (⟨(8 * src ((i 1).val / 8) + (i 1).val % 8) % 102400, Nat.mod_lt _ (by omega)⟩ : Fin 102400) (i 2 : Fin 1024))

/-- A copy in writes, on its piece, the tile of its chunks. -/
theorem gather_written {k c v : ℕ} (hc : c < 64) (hv : v < 12800) {os : Fin 2 → ℕ} (hos : os = ![8 * v, 0])
    (hbs : ∀ a, os a + S8x1024.size a ≤ S102400x1024.size a) {od : Fin 3 → ℕ} (hod : od = ![k, 8 * c, 0])
    (hbd : ∀ a, od a + S1x8x1024.size a ≤ S2x512x1024.size a) (f0 : S102400x1024.Idx → Elt F .f32)
    (fd : S2x512x1024.Idx → Elt F .f32) {src : ℕ → ℕ} (hsrc : src c = v) (i : S2x512x1024.Idx) (hi : i ∈ piece k c) :
    (bufRows xM od hbd).view.write (Elt F) fd (ReadAs.same.apply ((hbmRows os hbs).view.read (Elt F) f0)) Finset.univ i
      = gath f0 src i := by
  obtain ⟨hi0, hi1⟩ := mem_piece.mp hi
  have hx : (bufRows xM od hbd).view.emb (ix2 (⟨(i 1).val % 8, Nat.mod_lt _ (by omega)⟩ : Fin 8) (i 2 : Fin 1024)) = i :=
    piece_emb hc hod hbd _ _ i hi0 (by show (i 1).val = 8 * c + (i 1).val % 8; omega) rfl
  conv_lhs => rw [← hx]
  rw [View.write_emb_of_mem (h := Finset.mem_univ _)]
  show f0 _ = f0 _
  congr 1
  refine chunk_emb hos hbs _ _ ?_ rfl
  show (8 * src ((i 1).val / 8) + (i 1).val % 8) % 102400 = 8 * v + (i 1).val % 8
  rw [hi1, hsrc]; omega

/-- A copy out writes, on its chunk, the piece's rows. -/
theorem scatter_written {k c v : ℕ} (hc : c < 64) (hv : v < 12800) {od : Fin 2 → ℕ} (hod : od = ![8 * v, 0])
    (hbd : ∀ a, od a + S8x1024.size a ≤ S102400x1024.size a) {os : Fin 3 → ℕ} (hos : os = ![k, 8 * c, 0])
    (hbs : ∀ a, os a + S1x8x1024.size a ≤ S2x512x1024.size a) (fy : S2x512x1024.Idx → Elt F .f32)
    (fd g : S102400x1024.Idx → Elt F .f32)
    (hg : ∀ (i : S102400x1024.Idx) (j : S2x512x1024.Idx), (i 0).val / 8 = v → (j 0).val = k →
      (j 1).val = 8 * c + (i 0).val % 8 → (j 2).val = (i 1).val → fy j = g i)
    (i : S102400x1024.Idx) (hi : i ∈ chunk v) :
    (hbmRows od hbd).view.write (Elt F) fd (ReadAs.same.apply ((bufRows yM os hbs).view.read (Elt F) fy)) Finset.univ i
      = g i := by
  have hi0 := mem_chunk.mp hi
  have hx : (hbmRows od hbd).view.emb (ix2 (⟨(i 0).val % 8, Nat.mod_lt _ (by omega)⟩ : Fin 8) (i 1 : Fin 1024)) = i :=
    chunk_emb hod hbd _ i (by show (i 0).val = 8 * v + (i 0).val % 8; omega) rfl
  have hk : k < 2 := by have := hbs 0; subst hos; simp [S1x8x1024, S2x512x1024] at this; omega
  conv_lhs => rw [← hx]
  rw [View.write_emb_of_mem (h := Finset.mem_univ _)]
  show fy _ = g i
  rw [show (bufRows yM os hbs).view.emb (ix2 (⟨(i 0).val % 8, Nat.mod_lt _ (by omega)⟩ : Fin 8) (i 1 : Fin 1024))
      = ix3 (⟨k, hk⟩ : Fin 2) (⟨8 * c + (i 0).val % 8, by omega⟩ : Fin 512) (i 1 : Fin 1024) from
    piece_emb hc hos hbs _ _ _ rfl rfl rfl]
  exact hg i _ hi0 rfl rfl rfl

end Cert.KernelIdeal.Hand
end
-- ==== Proof.Loops.lean ====
/-
  The loops of copies. A loop of steps is run by its invariant, one step's resources at a time; the copies of one loop
  go out on one semaphore cell, as a batch of equal amounts whose deliveries are fixed beforehand: the chunk's piece of
  the tile and, of the rows read, the share lent to the copy.
-/
module

public import proofs.«01_k».proof.Proof.Geo
public import Idealize.ShloMosaic.Lib.Pipeline.FrameBody
public import Idealize.ShloMosaic.Lib.Batch
public import Idealize.ShloMosaic.Lib.MixedBatch
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

/-- The counters' place in the proof's algebra. -/
abbrev EC : UEmb Counters (MT nD τ sig Unit (Elt F) ℕ (Pipeline.UD sig nD τ) ℕ) := countersEmb (U := Pipeline.UD sig nD τ)

/-- The weakest precondition of a piece of the body. -/
abbrev wpB (c : Dev nD) {α : Type} (p : Prg F α) (Q : α → sProp 𝕄) : sProp 𝕄 :=
  wp frame (wpE (defs₀ (F := F)) Variants.none (c : Thread nD τ) none) Set.univ p Q

/-- The places of the rows and of the two tile buffers. -/
abbrev rowL (c : Dev nD) : Loc nD τ sig := rowM.view.loc (c : Thread nD τ)
abbrev xL (c : Dev nD) : Loc nD τ sig := xM.view.loc (c : Thread nD τ)
abbrev yL (c : Dev nD) : Loc nD τ sig := yM.view.loc (c : Thread nD τ)

/-- One piece of the body after another. -/
theorem wpB_bind {c : Dev nD} {α β : Type} (p : Prg F α) (k : α → Prg F β) (Q : β → sProp 𝕄) :
    wpB c (p >>= k) Q = wpB c p fun a => wpB c (k a) Q := wp_bind ..
theorem wpB_mono {c : Dev nD} {α : Type} {p : Prg F α} {Q Q' : α → sProp 𝕄} (h : ∀ a, Q a ⊢ Q' a) : wpB c p Q ⊢ wpB c p Q' :=
  wp_mono _ _ _ h
theorem wpB_frame {c : Dev nD} {α : Type} {p : Prg F α} {Q : α → sProp 𝕄} {R : sProp 𝕄} :
    iprop(wpB c p Q ∗ R) ⊢ wpB c p fun a => iprop(Q a ∗ R) := wp_frame_r _ _ _

/-- A loop by its invariant: each step spends its own resources. -/
theorem wp_steps {c : Dev nD} {f : ℕ → Prg F PUnit} {n : ℕ} (R : Fin n → sProp 𝕄) (I : ℕ → sProp 𝕄)
    (hstep : ∀ j (hj : j < n), iprop(I j ∗ R ⟨j, hj⟩) ⊢ wpB c (f j) fun _ => I (j + 1)) :
    ∀ k j, j + k ≤ n → iprop(I j ∗ bigSep (pending j) R) ⊢ wpB c (steps f j k) fun _ => iprop(I (j + k) ∗ bigSep (pending (j + k)) R)
  | 0, j, _ => by
      show _ ⊢ wpB c (pure PUnit.unit : Prg F PUnit) _
      unfold wpB
      rw [wp_pure]
      exact fupd_intro
  | k + 1, j, h => by
      have hj : j < n := by omega
      show _ ⊢ wpB c (f j >>= fun _ => steps f (j + 1) k) _
      rw [pending_succ hj, bigSep_insert (not_mem_pending_succ hj), wpB_bind]
      rw [show j + (k + 1) = j + 1 + k by omega]
      refine sep_assoc'.trans ?_
      refine (sep_mono_l (hstep j hj)).trans ?_
      refine wpB_frame.trans (wpB_mono fun _ => ?_)
      exact wp_steps R I hstep k (j + 1) (by omega)

/-! ## The copies' amounts -/

theorem amount_bufRows (o : Fin 3 → ℕ) (h : ∀ a, o a + S1x8x1024.size a ≤ S2x512x1024.size a) (s : DmaSem sig) :
    (bufRows xM o h).view.amount (.dma s) = 1024 := by rfl
theorem amount_hbmRows (o : Fin 2 → ℕ) (h : ∀ a, o a + S8x1024.size a ≤ S102400x1024.size a) (s : DmaSem sig) :
    (hbmRows o h).view.amount (.dma s) = 1024 := by rfl
theorem amount_bufSlot (o : Fin 3 → ℕ) (h : ∀ a, o a + S1x512x1024.size a ≤ S2x512x1024.size a) :
    (bufSlot xM o h).view.dmaCredit = 65536 := by rfl
theorem amount_out (n : ℕ) (h : 8 ∣ n) : rowM.view.ref.dmaCredit (⟨2, ![n, 1024]⟩ : Shape) .f32 = 128 * n := by
  show RefSig.tileCredit _ _ = _
  obtain ⟨k, rfl⟩ := h
  simp [RefSig.tileCredit, RefSig.lead, RefSig.rows, RefSig.lanes, RefSig.roundUp, RefSig.creditRowMultiple, EltTy.bits]
  omega
theorem amount_guDst (o : Fin 3 → ℕ) (h : ∀ a, o a + S1x1024x2048.size a ≤ S2x1024x2048.size a) :
    (guDst o h).view.dmaCredit = 262144 := by rfl
theorem amount_dnDst (o : Fin 3 → ℕ) (h : ∀ a, o a + S1x1024x1024.size a ≤ S2x1024x1024.size a) :
    (dnDst o h).view.dmaCredit = 131072 := by rfl

/-! ## A copy in, a copy out -/

/-- The word of chunk `c` in a staged table. -/
theorem tab_read {tab : Memref sig .tc .smem S1x1x64 .i32} {c : ℕ} (hc : c < 64) (ft : tab.view.ty.Contents (Elt F))
    (x : (⟨3, S1x1x1.size⟩ : Shape).Idx) :
    (tab.access (Rect.unit (s := S1x1x64) ![0, 0, c % 64] S1x1x1.size (inbTab c))).read (Elt F) ft x
      = tab.view.read (Elt F) ft (ix3 (⟨0, Nat.one_pos⟩ : Fin 1) (⟨0, Nat.one_pos⟩ : Fin 1) (⟨c, hc⟩ : Fin 64)) := by
  show tab.view.read (Elt F) ft ((Rect.unit (s := S1x1x64) ![0, 0, c % 64] S1x1x1.size (inbTab c)).emb x) = _
  congr 1
  funext a
  apply Fin.ext
  rw [Rect.emb_apply]
  have h0 : (x 0).val < 1 := (x 0).isLt
  have h1 : (x 1).val < 1 := (x 1).isLt
  have h2 : (x 2).val < 1 := (x 2).isLt
  fin_cases a
  · show 0 + 1 * (x 0).val = 0; omega
  · show 0 + 1 * (x 1).val = 0; omega
  · show c % 64 + 1 * (x 2).val = c; omega

/-- A staged table. -/
abbrev tabPt (c : Dev nD) (tab : Memref sig .tc .smem S1x1x64 .i32) (ft : Buf (Elt F) (tab.view.loc (c : Thread nD τ))) : sProp 𝕄 :=
  tab.view.loc (c : Thread nD τ) ↦[tab.view.set]{fullShare} ft

/-- A word loaded from a table. -/
theorem wp_word {c : Dev nD} {s : Shape} {e : EltTy} {tab : Memref sig .tc .smem s e} {r : Rect s} {h1 : r.shape.numel = 1} {hp : e.packing = 1}
    {β : Type} {k : Elt F e → Prg F β} {q : PosShare TreeShare} {ft : Buf (Elt F) (tab.view.loc (c : Thread nD τ))} {Q : β → sProp 𝕄} :
    (tab.view.loc (c : Thread nD τ) ↦[tab.view.set]{q} ft)
      ⊢ iprop(((tab.view.loc (c : Thread nD τ) ↦[tab.view.set]{q} ft)
          -∗ wpB c (k ((tab.access r).read (Elt F) ft (Shape.Idx.first (h1.symm ▸ Nat.one_pos)))) Q) -∗ wpB c (smemLoad tab r h1 hp >>= k) Q) :=
  wp_smemLoadElt (defs := defs₀ (F := F)) (m := tab) (r := r) (f := ft) (hw := View.loads_smem_one hp h1) (k := fun a => k a) Variants.none (c : Thread nD τ) none Set.univ (View.set_slice_subset _ _)

theorem wp_ret_intro {c : Dev nD} {α : Type} {a : α} {Q : α → sProp 𝕄} : Q a ⊢ wpB c (Prog.ret a) Q := fupd_intro

/-- One copy in. -/
theorem wp_gatherStep {c : Dev nD} {tab : Memref sig .tc .smem S1x1x64 .i32} {P : BitVec 32 → Prop} {d : ∀ v, Decidable (P v)}
    {hP : ∀ v, P v → ∀ a, rowOff v a + S8x1024.size a ≤ S102400x1024.size a} {k : ℕ} (hk : k < 2) {j : ℕ} (hj : j < 64)
    {D : Fin 64 → sProp 𝕄} {q : PosShare TreeShare} {ft : Buf (Elt F) (tab.view.loc (c : Thread nD τ))}
    {f0 : S102400x1024.Idx → Elt F .f32} {fx : S2x512x1024.Idx → Elt F .f32} {src : ℕ → ℕ} {v : BitVec 32}
    (hread : (tab.view.read (Elt F) ft (ix3 (⟨0, Nat.one_pos⟩ : Fin 1) (⟨0, Nat.one_pos⟩ : Fin 1) (⟨j, hj⟩ : Fin 64)) : BitVec 32) = v)
    (hv : v.toNat < 12800) (hPv : P v) (hsrc : src j = v.toNat)
    (hD : iprop((xL c ↦[piece k j]{fullShare} gath f0 src) ∗ (rowL c ↦[chunk v.toNat]{q} f0)) ⊢ D ⟨j, hj⟩) :
    iprop(tabPt c tab ft ∗ Batch EC (c : Thread nD τ) (.dma (semAt xSems ![k] (inbSem hk))) () 1024 D j 0
        ∗ (rowL c ↦[chunk v.toNat]{q} f0) ∗ (xL c ↦[piece k j]{fullShare} fx))
      ⊢ wpB c (gatherStep tab d hP hk j) fun _ =>
        iprop(tabPt c tab ft ∗ Batch EC (c : Thread nD τ) (.dma (semAt xSems ![k] (inbSem hk))) () 1024 D (j + 1) 0) := by
  have hmod : j % 64 = j := Nat.mod_eq_of_lt hj
  have hrow := hbmRows_set (hP v hPv) (rowOff_eq hv)
  have hbuf := bufRowsX_set (k := k) hj (o := ![k, 8 * (j % 64), 0]) (by rw [hmod]) (inbBuf hk j)
  unfold gatherStep
  iintro ⟨Ht, HB, Hr, Hx⟩
  iapply wp_word $$ [Ht]
  · iexact Ht
  iintro Ht
  rw [tab_read hj, hread]
  iapply (wp_assume (defs := defs₀ (F := F)) Variants.none (c : Thread nD τ) none Set.univ hPv)
  have hpt : (xL c ↦[piece k j]{fullShare} (bufRows xM ![k, 8 * (j % 64), 0] (inbBuf hk j)).view.write (Elt F) fx
      (ReadAs.same.apply ((hbmRows (rowOff v) (hP v hPv)).view.read (Elt F) f0)) Finset.univ : sProp 𝕄) = (xL c ↦[piece k j]{fullShare} gath f0 src) :=
    pointsTo_congr fun i hi => gather_written hj hv (rowOff_eq hv) _ (by rw [hmod]) _ f0 fx hsrc i hi
  iapply (wp_dmaBatch (src := hbmRows (rowOff v) (hP v hPv)) (via := ReadAs.same) (dst := bufRows xM ![k, 8 * (j % 64), 0] (inbBuf hk j)) (sm := .dma (semAt xSems ![k] (inbSem hk))) (q := q) (fs := f0) (fd := fx) (Sd := piece k j) (defs := defs₀ (F := F)) EC Variants.none (c : Thread nD τ) none () 1024 (amount_bufRows _ _ _) hbuf.subset hj (Nat.zero_le _) (by
    rw [hrow]
    refine (sep_mono_l (Entails.of_eq hpt)).trans hD)) $$ [Hr Hx HB]
  · rw [hrow]
    isplitl [Hr]; · iexact Hr
    isplitl [Hx]; · iexact Hx
    iexact HB
  iintro HB
  iapply wp_ret_intro
  isplitl [Ht]; · iexact Ht
  iexact HB

/-- One copy out. -/
theorem wp_scatterStep {c : Dev nD} {tab : Memref sig .tc .smem S1x1x64 .i32} {P : BitVec 32 → Prop} {d : ∀ v, Decidable (P v)}
    {hP : ∀ v, P v → ∀ a, rowOff v a + S8x1024.size a ≤ S102400x1024.size a} {k : ℕ} (hk : k < 2) {n j : ℕ} (hn : j < n) (hj : j < 64)
    {D : Fin n → sProp 𝕄} {ft : Buf (Elt F) (tab.view.loc (c : Thread nD τ))}
    {f0 g : S102400x1024.Idx → Elt F .f32} {fy : S2x512x1024.Idx → Elt F .f32} {v : BitVec 32}
    (hread : (tab.view.read (Elt F) ft (ix3 (⟨0, Nat.one_pos⟩ : Fin 1) (⟨0, Nat.one_pos⟩ : Fin 1) (⟨j, hj⟩ : Fin 64)) : BitVec 32) = v)
    (hv : v.toNat < 12800) (hPv : P v)
    (hg : ∀ (i : S102400x1024.Idx) (x : S2x512x1024.Idx), (i 0).val / 8 = v.toNat → (x 0).val = k →
      (x 1).val = 8 * j + (i 0).val % 8 → (x 2).val = (i 1).val → fy x = g i)
    (hD : iprop((rowL c ↦[chunk v.toNat]{fullShare} g) ∗ (yL c ↦[piece k j]{fullShare} fy)) ⊢ D ⟨j, hn⟩) :
    iprop(tabPt c tab ft ∗ Batch EC (c : Thread nD τ) (.dma (semAt ySems ![k] (inbSem hk))) () 1024 D j 0
        ∗ (rowL c ↦[chunk v.toNat]{fullShare} f0) ∗ (yL c ↦[piece k j]{fullShare} fy))
      ⊢ wpB c (scatterStep tab d hP hk j) fun _ =>
        iprop(tabPt c tab ft ∗ Batch EC (c : Thread nD τ) (.dma (semAt ySems ![k] (inbSem hk))) () 1024 D (j + 1) 0) := by
  have hmod : j % 64 = j := Nat.mod_eq_of_lt hj
  have hrow := hbmRows_set (hP v hPv) (rowOff_eq hv)
  have hbuf := bufRowsY_set (k := k) hj (o := ![k, 8 * (j % 64), 0]) (by rw [hmod]) (inbBuf hk j)
  unfold scatterStep
  iintro ⟨Ht, HB, Hr, Hy⟩
  iapply wp_word $$ [Ht]
  · iexact Ht
  iintro Ht
  rw [tab_read hj, hread]
  iapply (wp_assume (defs := defs₀ (F := F)) Variants.none (c : Thread nD τ) none Set.univ hPv)
  have hpt : (rowL c ↦[chunk v.toNat]{fullShare} (hbmRows (rowOff v) (hP v hPv)).view.write (Elt F) f0
      (ReadAs.same.apply ((bufRows yM ![k, 8 * (j % 64), 0] (inbBuf hk j)).view.read (Elt F) fy)) Finset.univ : sProp 𝕄) = (rowL c ↦[chunk v.toNat]{fullShare} g) :=
    pointsTo_congr fun i hi => scatter_written hj hv (rowOff_eq hv) _ (by rw [hmod]) _ fy f0 g hg i hi
  iapply (wp_dmaBatch (src := bufRows yM ![k, 8 * (j % 64), 0] (inbBuf hk j)) (via := ReadAs.same) (dst := hbmRows (rowOff v) (hP v hPv)) (sm := .dma (semAt ySems ![k] (inbSem hk))) (q := fullShare) (fs := fy) (fd := f0) (Sd := chunk v.toNat) (defs := defs₀ (F := F)) EC Variants.none (c : Thread nD τ) none () 1024 (amount_hbmRows _ _ _) hrow.subset hn (Nat.zero_le _) (by
    rw [hbuf]
    refine (sep_mono_l (Entails.of_eq hpt)).trans hD)) $$ [Hr Hy HB]
  · rw [hbuf]
    isplitl [Hy]; · iexact Hy
    isplitl [Hr]; · iexact Hr
    iexact HB
  iintro HB
  iapply wp_ret_intro
  isplitl [Ht]; · iexact Ht
  iexact HB

end Cert.KernelIdeal.Hand
end
-- ==== Proof.Flights.lean ====
/-
  A tile's copies as wholes. The sixty-four copies of a tile's rows into one slot, from their start to their wait; the
  copies of a tile's results out, from their start to their wait.
-/
module

public import proofs.«01_k».proof.Proof.Loops
public import proofs.«01_k».proof.Proof.Body2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

/-- What the core owes, whatever it has waited for. -/
abbrev owe (c : Dev nD) : sProp 𝕄 := iprop(∃ W, owes (c : Thread nD τ) 0 W)

/-- The cells that count the copies in, the copies out, and the weights' copies, by slot. -/
def xC (k : ℕ) : DmaSem sig := semAt xSems ![k % 2] (inbSem (Nat.mod_lt k (by decide)))
def yC (k : ℕ) : DmaSem sig := semAt ySems ![k % 2] (inbSem (Nat.mod_lt k (by decide)))
def wC (k : ℕ) : DmaSem sig := semAt wSems ![k % 2] (inbSem (Nat.mod_lt k (by decide)))

theorem semAt_congr (S : DmaSems sig S2) {o o' : Fin 1 → ℕ} (ho : o = o') (h h') : semAt S o h = semAt S o' h' := by subst ho; rfl
theorem xC_eq {k : ℕ} {o : Fin 1 → ℕ} (ho : o = ![k]) (hk : k < 2) (h) : semAt xSems o h = xC k :=
  semAt_congr _ (by rw [ho, Nat.mod_eq_of_lt hk]) _ _
theorem yC_eq {k : ℕ} {o : Fin 1 → ℕ} (ho : o = ![k]) (hk : k < 2) (h) : semAt ySems o h = yC k :=
  semAt_congr _ (by rw [ho, Nat.mod_eq_of_lt hk]) _ _
theorem wC_eq {k : ℕ} {o : Fin 1 → ℕ} (ho : o = ![k]) (hk : k < 2) (h) : semAt wSems o h = wC k :=
  semAt_congr _ (by rw [ho, Nat.mod_eq_of_lt hk]) _ _

theorem pieces_disjoint (k : ℕ) {n : ℕ} : ∀ t ∈ (Finset.univ : Finset (Fin n)), ∀ t' ∈ (Finset.univ : Finset (Fin n)), t ≠ t' →
    Disjoint (piece k t.val) (piece k t'.val) := by
  intro t _ t' _ h
  rw [Finset.disjoint_left]
  intro i hi hi'
  exact h (Fin.ext ((mem_piece.mp hi).2.symm.trans (mem_piece.mp hi').2))

theorem slot_eq (k : ℕ) : slot k = (Finset.univ : Finset (Fin 64)).biUnion fun j => piece k j.val := by
  ext i
  have h1 : (i 1).val < 512 := (i 1).isLt
  simp only [mem_slot, Finset.mem_biUnion, Finset.mem_univ, true_and, mem_piece]
  constructor
  · intro h; exact ⟨⟨(i 1).val / 8, by omega⟩, h, rfl⟩
  · rintro ⟨_, h, _⟩; exact h

theorem pending_all {n : ℕ} : (pending n : Finset (Fin n)) = ∅ := by
  ext t; simp [pending]

theorem bs_split {I : Type} {s : Finset I} {Φ Ψ : I → sProp 𝕄} :
    (bigSep s fun i => iprop(Φ i ∗ Ψ i)) ⊢ iprop((bigSep s fun i => Φ i) ∗ bigSep s fun i => Ψ i) := Entails.of_eq (bigSep_sep _ _ _)
theorem bs_join {I : Type} {s : Finset I} {Φ Ψ : I → sProp 𝕄} :
    iprop((bigSep s fun i => Φ i) ∗ bigSep s fun i => Ψ i) ⊢ (bigSep s fun i => iprop(Φ i ∗ Ψ i)) := Entails.of_eq (bigSep_sep _ _ _).symm

/-! ## The copies in -/

/-- What copy `j` of a tile's rows delivers: the piece, and the lent share of the chunk. -/
abbrev XD (c : Dev nD) (k : ℕ) (f0 : S102400x1024.Idx → Elt F .f32) (src : ℕ → ℕ) (j : Fin 64) : sProp 𝕄 :=
  iprop((xL c ↦[piece k j.val]{fullShare} gath f0 src) ∗ (rowL c ↦[chunk (src j.val)]{shareTok fullShare 64 j} f0))

/-- A tile's rows on their way into slot `k`, the rows read lent from `S`. -/
def XFly (c : Dev nD) (k : ℕ) (S : Finset S102400x1024.Idx) (f0 : S102400x1024.Idx → Elt F .f32) (src : ℕ → ℕ) : sProp 𝕄 :=
  iprop(Batch EC (c : Thread nD τ) (.dma (xC k)) () 1024 (XD c k f0 src) 64 0 ∗ (rowL c ↦[S]{shareDrop fullShare 64} f0)
    ∗ bigSep Finset.univ fun j : Fin 64 => rowL c ↦[S \ chunk (src j.val)]{shareTok fullShare 64 j} f0)

theorem gather_all {c : Dev nD} {tab : Memref sig .tc .smem S1x1x64 .i32} {P : BitVec 32 → Prop} {d : ∀ v, Decidable (P v)}
    {hP : ∀ v, P v → ∀ a, rowOff v a + S8x1024.size a ≤ S102400x1024.size a} {k : ℕ} (hk : k < 2)
    {ft : Buf (Elt F) (tab.view.loc (c : Thread nD τ))} {f0 : S102400x1024.Idx → Elt F .f32} {w : ℕ → BitVec 32} {S : Finset S102400x1024.Idx}
    (hread : ∀ j (hj : j < 64), (tab.view.read (Elt F) ft (ix3 (⟨0, Nat.one_pos⟩ : Fin 1) (⟨0, Nat.one_pos⟩ : Fin 1) (⟨j, hj⟩ : Fin 64)) : BitVec 32) = w j)
    (hv : ∀ j, j < 64 → (w j).toNat < 12800) (hPv : ∀ j, j < 64 → P (w j)) (hS : ∀ j, j < 64 → chunk (w j).toNat ⊆ S) :
    iprop(tabPt c tab ft ∗ semVal ((c : Thread nD τ), .dma (xC k)) 0 ∗ (∃ g, xL c ↦[slot k]{fullShare} g) ∗ (rowL c ↦[S]{fullShare} f0))
      ⊢ wpB c (steps (gatherStep tab d hP hk) 0 64) fun _ => iprop(tabPt c tab ft ∗ XFly c k S f0 fun j => (w j).toNat) := by
  set src : ℕ → ℕ := fun j => (w j).toNat with hsrc
  have hloop := wp_steps (c := c) (f := gatherStep tab d hP hk) (n := 64)
    (fun j => iprop((rowL c ↦[chunk (src j.val)]{shareTok fullShare 64 j} f0) ∗ (∃ fx, xL c ↦[piece k j.val]{fullShare} fx)))
    (fun j => iprop(tabPt c tab ft ∗ Batch EC (c : Thread nD τ) (.dma (semAt xSems ![k] (inbSem hk))) () 1024 (XD c k f0 src) j 0))
    (fun j hj => by
      iintro ⟨⟨Ht, HB⟩, Hr, ⟨%fx, Hx⟩⟩
      iapply (wp_gatherStep (c := c) hk hj (D := XD c k f0 src) (fx := fx) (hread j hj) (hv j hj) (hPv j hj) rfl .rfl)
      isplitl [Ht]; · iexact Ht
      isplitl [HB]; · iexact HB
      isplitl [Hr]; · iexact Hr
      iexact Hx) 64 0 (by omega)
  have htok : (bigSep Finset.univ fun j : Fin 64 => (rowL c ↦[S]{shareTok fullShare 64 j} f0 : sProp 𝕄))
      ⊢ iprop((bigSep Finset.univ fun j : Fin 64 => rowL c ↦[chunk (src j.val)]{shareTok fullShare 64 j} f0)
        ∗ bigSep Finset.univ fun j : Fin 64 => rowL c ↦[S \ chunk (src j.val)]{shareTok fullShare 64 j} f0) := by
    exact (bigSep_mono fun j _ => (pointsTo_split_subset (hS j.val j.isLt)).1).trans (Entails.of_eq (bigSep_sep _ _ _))
  have hslot : iprop(∃ g, xL c ↦[slot k]{fullShare} g) ⊢ (bigSep Finset.univ fun j : Fin 64 => iprop(∃ fx, xL c ↦[piece k j.val]{fullShare} fx) : sProp 𝕄) := by
    refine exists_elim fun g => ?_
    rw [slot_eq, pointsTo_biUnion _ _ (pieces_disjoint k)]
    exact bigSep_mono fun j _ => exists_intro (Φ := fun fx => (xL c ↦[piece k j.val]{fullShare} fx : sProp 𝕄)) g
  unfold XFly
  rw [← xC_eq (k := k) rfl hk (inbSem hk)]
  iintro ⟨Ht, Hs, Hx, Hr⟩
  imod (batch_alloc' (Lvl := ℕ) (EC (F := F)) (c : Thread nD τ) () 1024 (XD c k f0 src) (sm := .dma (semAt xSems ![k] (inbSem hk))) (E := Set.univ)) $$ Hs with HB
  ihave Hx := hslot $$ Hx
  ihave Hr := (pointsTo_toks_split fullShare 64) $$ Hr
  icases Hr with ⟨Hd, Hr⟩
  ihave Hr := htok $$ Hr
  icases Hr with ⟨Hc, Hr⟩
  iapply (wp_wand _ _ _) $$ [Ht HB Hx Hc]
  · iapply hloop
    isplitl [Ht HB]
    · isplitl [Ht]; · iexact Ht
      iexact HB
    rw [pending_zero]
    iapply bs_join
    isplitl [Hc]; · iexact Hc
    iexact Hx
  iintro %u ⟨⟨Ht, HB⟩, -⟩
  isplitl [Ht]; · iexact Ht
  isplitl [HB]; · iexact HB
  isplitl [Hd]; · iexact Hd
  iexact Hr

/-- The wait for a tile's rows: they are in the slot, and what was lent comes back. -/
theorem wait_x {c : Dev nD} {k : ℕ} (hk : k < 2) (hs hx) {S : Finset S102400x1024.Idx} {f0 : S102400x1024.Idx → Elt F .f32} {src : ℕ → ℕ}
    (hS : ∀ j, j < 64 → chunk (src j) ⊆ S) :
    iprop(XFly c k S f0 src ∗ owe c) ⊢ wpB c (waitX k hs hx) fun _ =>
      iprop((rowL c ↦[S]{fullShare} f0) ∗ (xL c ↦[slot k]{fullShare} gath f0 src) ∗ semVal ((c : Thread nD τ), .dma (xC k)) 0 ∗ owe c) := by
  have htok : iprop((bigSep Finset.univ fun j : Fin 64 => rowL c ↦[chunk (src j.val)]{shareTok fullShare 64 j} f0)
        ∗ bigSep Finset.univ fun j : Fin 64 => rowL c ↦[S \ chunk (src j.val)]{shareTok fullShare 64 j} f0)
      ⊢ (bigSep Finset.univ fun j : Fin 64 => (rowL c ↦[S]{shareTok fullShare 64 j} f0 : sProp 𝕄)) := by
    exact (Entails.of_eq (bigSep_sep _ _ _).symm).trans (bigSep_mono fun j _ => (pointsTo_split_subset (hS j.val j.isLt)).2)
  unfold XFly waitX
  rw [← xC_eq (k := k) rfl hk hs]
  iintro ⟨⟨HB, Hd, Hr⟩, ⟨%W, HO⟩⟩
  iapply (wp_waitBatchAll (defs := defs₀ (F := F)) (EC (F := F)) Variants.none (c : Thread nD τ) none (n := 64) (N := 1024) (u := 0) () (amount_bufSlot _ _) (by omega) (by omega)) $$ [HB HO]
  · isplitl [HB]; · iexact HB
    iexact HO
  iintro ⟨HD, Hs, HO⟩
  ihave HD := bs_split $$ HD
  icases HD with ⟨Hx, Hc⟩
  iapply wp_ret_intro
  isplitl [Hd Hc Hr]
  · iapply (pointsTo_toks_join fullShare 64)
    isplitl [Hd]; · iexact Hd
    iapply htok
    isplitl [Hc]; · iexact Hc
    iexact Hr
  isplitl [Hx]
  · rw [slot_eq, pointsTo_biUnion _ _ (pieces_disjoint k)]
    iexact Hx
  isplitl [Hs]; · iexact Hs
  iexists _
  iexact HO

/-! ## The copies out -/

/-- The rows of the first `n` chunks of a list, -/
def wset (n : ℕ) (dst : ℕ → ℕ) : Finset S102400x1024.Idx := (Finset.univ : Finset (Fin n)).biUnion fun j => chunk (dst j.val)
/-- and the first `n` pieces of a slot. -/
def used (k n : ℕ) : Finset S2x512x1024.Idx := (Finset.univ : Finset (Fin n)).biUnion fun j => piece k j.val

theorem mem_wset {n : ℕ} {dst : ℕ → ℕ} {i : S102400x1024.Idx} : i ∈ wset n dst ↔ ∃ j, j < n ∧ (i 0).val / 8 = dst j := by
  simp only [wset, Finset.mem_biUnion, Finset.mem_univ, true_and, mem_chunk]
  exact ⟨fun ⟨j, h⟩ => ⟨j.val, j.isLt, h⟩, fun ⟨j, hj, h⟩ => ⟨⟨j, hj⟩, h⟩⟩

theorem used_subset (k n : ℕ) : used k n ⊆ slot k := by
  intro i hi
  simp only [used, Finset.mem_biUnion, Finset.mem_univ, true_and, mem_piece] at hi
  obtain ⟨_, h, _⟩ := hi
  exact mem_slot.mpr h

theorem chunks_disjoint {n : ℕ} {dst : ℕ → ℕ} (hinj : ∀ j j', j < n → j' < n → dst j = dst j' → j = j') :
    ∀ t ∈ (Finset.univ : Finset (Fin n)), ∀ t' ∈ (Finset.univ : Finset (Fin n)), t ≠ t' → Disjoint (chunk (dst t.val)) (chunk (dst t'.val)) := by
  intro t _ t' _ h
  rw [Finset.disjoint_left]
  intro i hi hi'
  exact h (Fin.ext (hinj _ _ t.isLt t'.isLt ((mem_chunk.mp hi).symm.trans (mem_chunk.mp hi'))))

/-- What copy `j` of a tile's results delivers: the chunk written, and the piece back. -/
abbrev YD (c : Dev nD) (k n : ℕ) (g : S102400x1024.Idx → Elt F .f32) (y : S2x512x1024.Idx → Elt F .f32) (dst : ℕ → ℕ) (j : Fin n) : sProp 𝕄 :=
  iprop((rowL c ↦[chunk (dst j.val)]{fullShare} g) ∗ (yL c ↦[piece k j.val]{fullShare} y))

/-- A tile's results on their way out of slot `k`. -/
def YFly (c : Dev nD) (k n : ℕ) (g : S102400x1024.Idx → Elt F .f32) (y : S2x512x1024.Idx → Elt F .f32) (dst : ℕ → ℕ) : sProp 𝕄 :=
  iprop(Batch EC (c : Thread nD τ) (.dma (yC k)) () 1024 (YD c k n g y dst) n 0 ∗ ∃ h, yL c ↦[slot k \ used k n]{fullShare} h)

/-- The copies out with the first `j` started. -/
def YOut (c : Dev nD) (tab : Memref sig .tc .smem S1x1x64 .i32) (ft : Buf (Elt F) (tab.view.loc (c : Thread nD τ))) (k n : ℕ)
    (f0 g : S102400x1024.Idx → Elt F .f32) (y : S2x512x1024.Idx → Elt F .f32) (dst : ℕ → ℕ) (j : ℕ) : sProp 𝕄 :=
  iprop((tabPt c tab ft ∗ Batch EC (c : Thread nD τ) (.dma (yC k)) () 1024 (YD c k n g y dst) j 0)
    ∗ bigSep (pending j) fun j : Fin n => iprop((rowL c ↦[chunk (dst j.val)]{fullShare} f0) ∗ (yL c ↦[piece k j.val]{fullShare} y)))

theorem yout_start {c : Dev nD} {tab : Memref sig .tc .smem S1x1x64 .i32} {ft : Buf (Elt F) (tab.view.loc (c : Thread nD τ))} {k n : ℕ}
    {f0 g : S102400x1024.Idx → Elt F .f32} {y : S2x512x1024.Idx → Elt F .f32} {dst : ℕ → ℕ}
    (hinj : ∀ j j', j < n → j' < n → dst j = dst j' → j = j') :
    iprop(tabPt c tab ft ∗ semVal ((c : Thread nD τ), .dma (yC k)) 0 ∗ (yL c ↦[slot k]{fullShare} y) ∗ (rowL c ↦[wset n dst]{fullShare} f0))
      ⊢ (|={Set.univ}=> iprop(YOut c tab ft k n f0 g y dst 0 ∗ ∃ h, yL c ↦[slot k \ used k n]{fullShare} h) : sProp 𝕄) := by
  iintro ⟨Ht, Hs, Hy, Hr⟩
  imod (batch_alloc' (Lvl := ℕ) (EC (F := F)) (c : Thread nD τ) () 1024 (YD c k n g y dst) (sm := .dma (yC k)) (E := Set.univ)) $$ Hs with HB
  imodintro
  ihave Hy := (pointsTo_split_subset (used_subset k n)).1 $$ Hy
  icases Hy with ⟨Hy, Hrest⟩
  isplitr [Hrest]
  · unfold YOut
    isplitl [Ht HB]
    · isplitl [Ht]; · iexact Ht
      iexact HB
    rw [pending_zero]
    iapply bs_join
    isplitl [Hr]
    · rw [wset, pointsTo_biUnion _ _ (chunks_disjoint hinj)]
      exact .rfl
    · rw [used, pointsTo_biUnion _ _ (pieces_disjoint k)]
      exact .rfl
  iexists y
  iexact Hrest

/-- One group of eight. -/
theorem scatter_group {c : Dev nD} {i : grid0.Coords} {v1 v3 : BitVec 32} {h2 : k0_cond2 i v1 = 1#1} {tab : Memref sig .tc .smem S1x1x64 .i32}
    {m : ℕ} (hm8 : m < 8) {cnd : BitVec 1} {P : BitVec 32 → Prop} {d : ∀ v, Decidable (P v)}
    {hP : cnd = 1#1 → ∀ v, P v → ∀ a, rowOff v a + S8x1024.size a ≤ S102400x1024.size a} {K : Prg F PUnit}
    {ft : Buf (Elt F) (tab.view.loc (c : Thread nD τ))} {n : ℕ} (hn : n ≤ 64) (hn8 : 8 ∣ n) (hcnd : cnd = 1#1 ↔ 8 * m < n)
    {f0 g : S102400x1024.Idx → Elt F .f32} {y : S2x512x1024.Idx → Elt F .f32} {w : ℕ → BitVec 32}
    (hread : ∀ j (hj : j < 64), (tab.view.read (Elt F) ft (ix3 (⟨0, Nat.one_pos⟩ : Fin 1) (⟨0, Nat.one_pos⟩ : Fin 1) (⟨j, hj⟩ : Fin 64)) : BitVec 32) = w j)
    (hv : ∀ j, j < 64 → (w j).toNat < 12800) (hPv : cnd = 1#1 → ∀ j, j < n → P (w j))
    (hg : ∀ (i' : S102400x1024.Idx) (x : S2x512x1024.Idx) j, j < n → (i' 0).val / 8 = (w j).toNat → (x 0).val = (parW i).toNat →
      (x 1).val = 8 * j + (i' 0).val % 8 → (x 2).val = (i' 1).val → y x = g i')
    {R : sProp 𝕄} {Q : PUnit → sProp 𝕄}
    (hK : iprop(YOut c tab ft (parW i).toNat n f0 g y (fun j => (w j).toNat) (min (8 * (m + 1)) n) ∗ R) ⊢ wpB c K Q) :
    iprop(YOut c tab ft (parW i).toNat n f0 g y (fun j => (w j).toNat) (min (8 * m) n) ∗ R)
      ⊢ wpB c (scatterGroup i v1 v3 h2 tab m d hP K) Q := by
  unfold scatterGroup
  by_cases hc : cnd = 1#1
  · have hlt := hcnd.mp hc
    obtain ⟨n', rfl⟩ := hn8
    have hm : m + 1 ≤ n' := by omega
    rw [dif_pos hc, wpB_bind]
    have hloop := wp_steps (c := c) (f := scatterStep tab d (hP hc) (parW_lt i)) (n := 8 * n')
      (fun j => iprop((rowL c ↦[chunk ((w j.val).toNat)]{fullShare} f0) ∗ (yL c ↦[piece (parW i).toNat j.val]{fullShare} y)))
      (fun j => iprop(tabPt c tab ft ∗ Batch EC (c : Thread nD τ) (.dma (semAt ySems ![(parW i).toNat] (inbSem (parW_lt i)))) () 1024 (YD c (parW i).toNat (8 * n') g y fun j => (w j).toNat) j 0))
      (fun j hj => by
        iintro ⟨⟨Ht, HB⟩, Hr, Hy⟩
        iapply (wp_scatterStep (c := c) (parW_lt i) hj (by omega) (D := YD c (parW i).toNat (8 * n') g y fun j => (w j).toNat) (hread j (by omega)) (hv j (by omega)) (hPv hc j hj)
          (fun i' x => hg i' x j hj) .rfl)
        isplitl [Ht]; · iexact Ht
        isplitl [HB]; · iexact HB
        isplitl [Hr]; · iexact Hr
        iexact Hy) 8 (8 * m) (by omega)
    rw [Nat.min_eq_left (by omega)] at hK ⊢
    unfold YOut at hK ⊢
    rw [yC_eq (k := (parW i).toNat) rfl (parW_lt i) (inbSem (parW_lt i))] at hloop
    refine (sep_mono_l hloop).trans (wpB_frame.trans (wpB_mono fun _ => ?_))
    exact hK
  · rw [dif_neg hc]
    rw [Nat.min_eq_right (by have := mt hcnd.mpr hc; omega)] at hK ⊢
    exact hK

/-- The copies out all started are the results on their way. -/
theorem yout_done {c : Dev nD} {tab : Memref sig .tc .smem S1x1x64 .i32} {ft : Buf (Elt F) (tab.view.loc (c : Thread nD τ))} {k n : ℕ}
    {f0 g : S102400x1024.Idx → Elt F .f32} {y : S2x512x1024.Idx → Elt F .f32} {dst : ℕ → ℕ} :
    iprop(YOut c tab ft k n f0 g y dst n ∗ ∃ h, yL c ↦[slot k \ used k n]{fullShare} h) ⊢ iprop(tabPt c tab ft ∗ YFly c k n g y dst) := by
  unfold YOut YFly
  iintro ⟨⟨⟨Ht, HB⟩, -⟩, Hr⟩
  isplitl [Ht]; · iexact Ht
  isplitl [HB]; · iexact HB
  iexact Hr

/-- The wait for a tile's results to be written. -/
theorem wait_y {c : Dev nD} {k n : ℕ} (hk : k < 2) (hn8 : 8 ∣ n) {o : Fin 1 → ℕ} (ho : o = ![k]) (h) {z : Fin 2 → ℕ} (hz : z = ![8 * n, 1024])
    {g : S102400x1024.Idx → Elt F .f32} {y : S2x512x1024.Idx → Elt F .f32} {dst : ℕ → ℕ}
    (hinj : ∀ j j', j < n → j' < n → dst j = dst j' → j = j') :
    iprop(YFly c k n g y dst ∗ owe c) ⊢ wpB c (waitOut (semAt ySems o h) z) fun _ =>
      iprop((rowL c ↦[wset n dst]{fullShare} g) ∗ (∃ h, yL c ↦[slot k]{fullShare} h) ∗ semVal ((c : Thread nD τ), .dma (yC k)) 0 ∗ owe c) := by
  subst hz
  rw [yC_eq ho hk h]
  unfold YFly waitOut
  iintro ⟨⟨HB, ⟨%h', Hrest⟩⟩, ⟨%W, HO⟩⟩
  iapply (wp_waitBatchAllSized (defs := defs₀ (F := F)) (EC (F := F)) Variants.none (c : Thread nD τ) none (n := n) (N := 1024) (u := 0) ()
    (amount_out (8 * n) ⟨n, rfl⟩) (by omega) (by omega)) $$ [HB HO]
  · isplitl [HB]; · iexact HB
    iexact HO
  iintro ⟨HD, Hs, HO⟩
  ihave HD := bs_split $$ HD
  icases HD with ⟨Hr, Hy⟩
  iapply wp_ret_intro
  isplitl [Hr]
  · rw [wset, pointsTo_biUnion _ _ (chunks_disjoint hinj)]
    iexact Hr
  isplitl [Hy Hrest]
  · iexists _
    iapply (pointsTo_join_subset (used_subset k n))
    isplitl [Hy]
    · rw [used, pointsTo_biUnion _ _ (pieces_disjoint k)]
      iexact Hy
    iexact Hrest
  isplitl [Hs]; · iexact Hs
  iexists _
  iexact HO

end Cert.KernelIdeal.Hand
end
-- ==== Proof.Weights.lean ====
/-
  The experts' weights on their way: one expert's two matrices are copied into a slot, counted by one cell, waited for
  and cast when the expert's first tile comes, and the next expert's copies started into the other slot.
-/
module

public import proofs.«01_k».proof.Proof.Words
public import proofs.«01_k».proof.Proof.Flights

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

/-! ## Words of the tables -/

/-- Word `s` of a table of 228. -/
def wd (f : S228.Idx → BitVec 32) (s : ℕ) : BitVec 32 := f fun a => match a with | 0 => (⟨s % 228, Nat.mod_lt _ (by decide)⟩ : Fin 228)

theorem tab228_read {b : Ref sig .tc} {s : ℕ} {o : Fin 1 → ℕ} (ho : o = ![s]) {tab : Memref sig .tc .smem S228 .i32}
    (h : ∀ a, o a + S1.size a ≤ S228.size a) (ft : tab.view.ty.Contents (Elt F)) (x : (⟨1, S1.size⟩ : Shape).Idx) :
    (tab.access (Rect.unit (s := S228) o S1.size h)).read (Elt F) ft x = wd (tab.view.read (Elt F) ft) s := by
  subst ho
  show tab.view.read (Elt F) ft ((Rect.unit (s := S228) ![s] S1.size h).emb x) = _
  unfold wd
  congr 1
  funext a
  apply Fin.ext
  rw [Rect.emb_apply]
  have h0 : (x 0).val < 1 := (x 0).isLt
  have h1 := h 0
  simp [S1, S228] at h1
  fin_cases a
  show s + 1 * (x 0).val = s % 228
  omega

/-- A word loaded from a table held whole. -/
theorem wp_tab {c : Dev nD} {tab : Memref sig .tc .smem S228 .i32} {s : ℕ} {o : Fin 1 → ℕ} (ho : o = ![s])
    {h : ∀ a, o a + S1.size a ≤ S228.size a} {h1 : (Rect.unit (s := S228) o S1.size h).shape.numel = 1} {hp : EltTy.i32.packing = 1}
    {β : Type} {k : Elt F .i32 → Prg F β} {q : PosShare TreeShare} {ft : Buf (Elt F) (tab.view.loc (c : Thread nD τ))} {Q : β → sProp 𝕄} :
    (tab.view.loc (c : Thread nD τ) ↦{q} ft)
      ⊢ iprop(((tab.view.loc (c : Thread nD τ) ↦{q} ft) -∗ wpB c (k (wd (tab.view.read (Elt F) ft) s)) Q)
          -∗ wpB c (smemLoad tab (Rect.unit (s := S228) o S1.size h) h1 hp >>= k) Q) := by
  have := wp_smemLoadElt (Γ := .empty) (defs := defs₀ (F := F)) (m := tab) (r := Rect.unit (s := S228) o S1.size h) (f := ft) (hw := View.loads_smem_one hp h1)
    (x := Shape.Idx.first (h1.symm ▸ Nat.one_pos)) (k := fun a => k a) (S := Finset.univ) (q := q) (Q := Q) Variants.none (c : Thread nD τ) none Set.univ (Finset.subset_univ _)
  rw [tab228_read (b := main_arg0) ho h ft] at this
  exact this

/-! ## Loads and stores -/

/-- A load through a rectangle, by what it reads. -/
theorem load_at {c : Dev nD} {cs : CoreSpace} {s : Shape} {e : EltTy} {m : Memref sig .tc cs s e} {r : Rect s} {hl : m.view.LoadsAt r.toLoadRect} {β : Type}
    {k : (r.shape.Idx → Elt F e) → Prg F β} {S : Finset (Idx ((m.access r).loc (c : Thread nD τ)))} {q : PosShare TreeShare} {f : Buf (Elt F) ((m.access r).loc (c : Thread nD τ))}
    {v : r.shape.Idx → Elt F e} {Q : β → sProp 𝕄} (hS : (m.access r).set ⊆ S) (hv : (m.access r).read (Elt F) f = v) :
    ((m.access r).loc (c : Thread nD τ) ↦[S]{q} f)
      ⊢ iprop((((m.access r).loc (c : Thread nD τ) ↦[S]{q} f) -∗ wpB c (k v) Q) -∗ wpB c (Prog.lift (.load m r.toLoadRect hl) >>= k) Q) := by
  subst hv
  exact wp_load_rect (Γ := .empty) (defs := defs₀ (F := F)) (k := fun a => k a) Variants.none (c : Thread nD τ) none Set.univ hS

/-- A store through a rectangle, by what it leaves. -/
theorem store_at {c : Dev nD} {cs : CoreSpace} {s : Shape} {e : EltTy} {m : Memref sig .tc cs s e} {r : Rect s} {w : r.shape.Idx → Elt F e}
    {hx : (m.access r).Stores Finset.univ} {hm} {β : Type}
    {k : PUnit → Prg F β} {S : Finset (Idx ((m.access r).loc (c : Thread nD τ)))} {f g : Buf (Elt F) ((m.access r).loc (c : Thread nD τ))}
    {Q : β → sProp 𝕄} (hS : (m.access r).setOn Finset.univ ⊆ S) (hg : ∀ i ∈ S, (m.access r).write (Elt F) f w Finset.univ i = g i) :
    ((m.access r).loc (c : Thread nD τ) ↦[S]{fullShare} f)
      ⊢ iprop((((m.access r).loc (c : Thread nD τ) ↦[S]{fullShare} g) -∗ wpB c (k ⟨⟩) Q) -∗ wpB c (Prog.lift (.store m r w Finset.univ hx hm) >>= k) Q) := by
  rw [← pointsTo_congr hg]
  exact wp_store (Γ := .empty) (defs := defs₀ (F := F)) (k := fun a => k a) Variants.none (c : Thread nD τ) none Set.univ hS

/-- An assumption that holds. -/
theorem assume_at {c : Dev nD} {P : Prop} {d : Decidable P} {β : Type} {k : PLift P → Prg F β} {Q : β → sProp 𝕄} (h : P) :
    wpB c (k ⟨h⟩) Q ⊢ wpB c (Prog.lift (.assume P d) >>= k) Q :=
  wp_assume (Γ := .empty) (defs := defs₀ (F := F)) (k := fun a => k a) Variants.none (c : Thread nD τ) none Set.univ h

/-- A branch taken, and one not taken. -/
theorem if_pos_at {c : Dev nD} {P : Prop} {d : Decidable P} {β : Type} {t : P → Prg F β} {e : ¬ P → Prg F β} {Q : β → sProp 𝕄} (h : P) :
    wpB c (t h) Q ⊢ wpB c (dite P t e) Q := by rw [dif_pos h]
theorem if_neg_at {c : Dev nD} {P : Prop} {d : Decidable P} {β : Type} {t : P → Prg F β} {e : ¬ P → Prg F β} {Q : β → sProp 𝕄} (h : ¬ P) :
    wpB c (e h) Q ⊢ wpB c (dite P t e) Q := by rw [dif_neg h]

/-- A piece of the body, with what is left of it. -/
theorem then_at {c : Dev nD} {α β : Type} {p : Prg F α} {k : α → Prg F β} {P : sProp 𝕄} {Q' : α → sProp 𝕄} {Q : β → sProp 𝕄} (h : P ⊢ wpB c p Q') :
    P ⊢ iprop((∀ a, Q' a -∗ wpB c (k a) Q) -∗ wpB c (p >>= k) Q) := by
  iintro HP Hk
  rw [wpB_bind]
  ihave H := h $$ HP
  iapply (wp_wand _ _ _) $$ [H]
  · iexact H
  iexact Hk

/-! ## Planes -/

/-- Plane `k` of an array of planes. -/
def plane (a n k : ℕ) : Finset (⟨3, ![a, 1024, n]⟩ : Shape).Idx := Finset.univ.filter fun i => (i 0).val = k
theorem mem_plane {a n k : ℕ} {i : (⟨3, ![a, 1024, n]⟩ : Shape).Idx} : i ∈ plane a n k ↔ (i 0).val = k := by simp [plane]

theorem plane_set {a n k : ℕ} {o : Fin 3 → ℕ} (ho : o = ![k, 0, 0])
    (hb : ∀ x, o x + (![1, 1024, n] : Fin 3 → ℕ) x ≤ (⟨3, ![a, 1024, n]⟩ : Shape).size x) :
    (Rect.unit (s := ⟨3, ![a, 1024, n]⟩) o ![1, 1024, n] hb).set = plane a n k := by
  subst ho
  ext i
  rw [Rect.mem_set_unit, mem_plane]
  have h1 : (i 1).val < 1024 := (i 1).isLt
  have h2 : (i 2).val < n := (i 2).isLt
  constructor
  · intro h; have h0 := h 0; simp at h0; omega
  · intro h x; fin_cases x <;> simp <;> omega

theorem plane_emb {a n k : ℕ} {o : Fin 3 → ℕ} (ho : o = ![k, 0, 0])
    (hb : ∀ x, o x + (![1, 1024, n] : Fin 3 → ℕ) x ≤ (⟨3, ![a, 1024, n]⟩ : Shape).size x)
    (h : (⟨2, ![1024, n]⟩ : Shape).numel = (⟨3, ![1, 1024, n]⟩ : Shape).numel) (x : (⟨2, ![1024, n]⟩ : Shape).Idx)
    (i : (⟨3, ![a, 1024, n]⟩ : Shape).Idx) (h0 : (i 0).val = k) (h1 : (i 1).val = (x 0).val) (h2 : (i 2).val = (x 1).val) :
    (Rect.unit (s := ⟨3, ![a, 1024, n]⟩) o ![1, 1024, n] hb).emb (Shape.reshapeEquiv h x) = i := by
  subst ho
  have hE : Shape.reshapeEquiv h x = (ix3 (⟨0, Nat.one_pos⟩ : Fin 1) (x 0 : Fin 1024) (x 1 : Fin n) : (⟨3, ![1, 1024, n]⟩ : Shape).Idx) := by
    refine (congrArg (Shape.reshapeEquiv h) (?_ : x = ix2 (x 0 : Fin 1024) (x 1 : Fin n))).trans
      (ValueIdx.reshapeEquiv_ix2_1ab (a := 1024) (b := n) h (x 0) (x 1))
    funext a; fin_cases a <;> rfl
  rw [hE]
  funext a
  apply Fin.ext
  rw [Rect.emb_apply]
  fin_cases a
  · show k + 1 * 0 = (i 0).val; omega
  · show 0 + 1 * (x 0).val = (i 1).val; omega
  · show 0 + 1 * (x 1).val = (i 2).val; omega

/-- Plane `e` of the experts' matrices, on its own and in any slot. -/
def guX (gu : S32x1024x2048.Idx → Elt F .f32) (e : ℕ) : S1x1024x2048.Idx → Elt F .f32 := fun x =>
  gu (ix3 (⟨e % 32, Nat.mod_lt _ (by decide)⟩ : Fin 32) (x 1 : Fin 1024) (x 2 : Fin 2048))
def dnX (dn : S32x1024x1024.Idx → Elt F .f32) (e : ℕ) : S1x1024x1024.Idx → Elt F .f32 := fun x =>
  dn (ix3 (⟨e % 32, Nat.mod_lt _ (by decide)⟩ : Fin 32) (x 1 : Fin 1024) (x 2 : Fin 1024))
def guAt (gu : S32x1024x2048.Idx → Elt F .f32) (e : ℕ) : S2x1024x2048.Idx → Elt F .f32 := fun x =>
  gu (ix3 (⟨e % 32, Nat.mod_lt _ (by decide)⟩ : Fin 32) (x 1 : Fin 1024) (x 2 : Fin 2048))
def dnAt (dn : S32x1024x1024.Idx → Elt F .f32) (e : ℕ) : S2x1024x1024.Idx → Elt F .f32 := fun x =>
  dn (ix3 (⟨e % 32, Nat.mod_lt _ (by decide)⟩ : Fin 32) (x 1 : Fin 1024) (x 2 : Fin 1024))
/-- The expert's matrices cast. -/
def guC (gu : S32x1024x2048.Idx → Elt F .f32) (e : ℕ) : Vec F S1024x2048 .bf16 := k0_pay5 (guX gu e)
def dnC (dn : S32x1024x1024.Idx → Elt F .f32) (e : ℕ) : Vec F S1024x1024 .bf16 := k0_pay6 (dnX dn e)

theorem gu_written {k e : ℕ} (he : e < 32) {od os : Fin 3 → ℕ} (hod : od = ![k, 0, 0]) (hos : os = ![e, 0, 0]) (hd hs)
    (gu : S32x1024x2048.Idx → Elt F .f32) (fd : S2x1024x2048.Idx → Elt F .f32) (i : S2x1024x2048.Idx) (hi : i ∈ plane 2 2048 k) :
    (guDst od hd).view.write (Elt F) fd (ReadAs.same.apply ((guSrc os hs).view.read (Elt F) gu)) Finset.univ i = guAt gu e i := by
  have hx : (guDst od hd).view.emb (ix2 (i 1 : Fin 1024) (i 2 : Fin 2048)) = i :=
    plane_emb hod hd _ _ i (mem_plane.mp hi) rfl rfl
  conv_lhs => rw [← hx]
  rw [View.write_emb_of_mem (h := Finset.mem_univ _)]
  show gu _ = gu _
  congr 1
  exact plane_emb hos hs _ _ _ (Nat.mod_eq_of_lt he) rfl rfl

theorem dn_written {k e : ℕ} (he : e < 32) {od os : Fin 3 → ℕ} (hod : od = ![k, 0, 0]) (hos : os = ![e, 0, 0]) (hd hs)
    (dn : S32x1024x1024.Idx → Elt F .f32) (fd : S2x1024x1024.Idx → Elt F .f32) (i : S2x1024x1024.Idx) (hi : i ∈ plane 2 1024 k) :
    (dnDst od hd).view.write (Elt F) fd (ReadAs.same.apply ((dnSrc os hs).view.read (Elt F) dn)) Finset.univ i = dnAt dn e i := by
  have hx : (dnDst od hd).view.emb (ix2 (i 1 : Fin 1024) (i 2 : Fin 1024)) = i :=
    plane_emb hod hd _ _ i (mem_plane.mp hi) rfl rfl
  conv_lhs => rw [← hx]
  rw [View.write_emb_of_mem (h := Finset.mem_univ _)]
  show dn _ = dn _
  congr 1
  exact plane_emb hos hs _ _ _ (Nat.mod_eq_of_lt he) rfl rfl

theorem guDst_set {k : ℕ} {o : Fin 3 → ℕ} (ho : o = ![k, 0, 0]) (h) : (guDst o h).view.set = plane 2 2048 k :=
  (View.set_reshape _ _).trans ((View.set_slice_whole cc0_scratch0 _).trans (plane_set ho h))
theorem dnDst_set {k : ℕ} {o : Fin 3 → ℕ} (ho : o = ![k, 0, 0]) (h) : (dnDst o h).view.set = plane 2 1024 k :=
  (View.set_reshape _ _).trans ((View.set_slice_whole cc0_scratch1 _).trans (plane_set ho h))
theorem guSrc_set {k : ℕ} {o : Fin 3 → ℕ} (ho : o = ![k, 0, 0]) (h) : (guSrc o h).view.set = plane 32 2048 k :=
  (View.set_reshape _ _).trans ((View.set_slice_whole main_arg9 _).trans (plane_set ho h))
theorem dnSrc_set {k : ℕ} {o : Fin 3 → ℕ} (ho : o = ![k, 0, 0]) (h) : (dnSrc o h).view.set = plane 32 1024 k :=
  (View.set_reshape _ _).trans ((View.set_slice_whole main_arg11 _).trans (plane_set ho h))

/-! ## The copies of weights -/

abbrev guL (c : Dev nD) : Loc nD τ sig := guM.view.loc (c : Thread nD τ)
abbrev dnL (c : Dev nD) : Loc nD τ sig := dnM.view.loc (c : Thread nD τ)
abbrev guFL (c : Dev nD) : Loc nD τ sig := guF.view.loc (c : Thread nD τ)
abbrev dnFL (c : Dev nD) : Loc nD τ sig := dnF.view.loc (c : Thread nD τ)
abbrev guSL (c : Dev nD) : Loc nD τ sig := guS.view.loc (c : Thread nD τ)
abbrev dnSL (c : Dev nD) : Loc nD τ sig := dnS.view.loc (c : Thread nD τ)

/-- What the two copies deliver. -/
def wD (c : Dev nD) (e k : ℕ) (gu : S32x1024x2048.Idx → Elt F .f32) (dn : S32x1024x1024.Idx → Elt F .f32) : Fin 2 → sProp 𝕄
  | 0 => iprop((guFL c ↦[plane 2 2048 k]{fullShare} guAt gu e) ∗ (guL c ↦[plane 32 2048 e]{fullShare} gu))
  | 1 => iprop((dnFL c ↦[plane 2 1024 k]{fullShare} dnAt dn e) ∗ (dnL c ↦[plane 32 1024 e]{fullShare} dn))

instance (c : Dev nD) (e k : ℕ) (gu : S32x1024x2048.Idx → Elt F .f32) (dn : S32x1024x1024.Idx → Elt F .f32) (t : Fin 2) :
    Storable (upEmb : UEmb _ 𝕄) (wD c e k gu dn t) := by
  fin_cases t
  · show Storable _ (iprop((guFL c ↦[plane 2 2048 k]{fullShare} guAt gu e) ∗ (guL c ↦[plane 32 2048 e]{fullShare} gu))); infer_instance
  · show Storable _ (iprop((dnFL c ↦[plane 2 1024 k]{fullShare} dnAt dn e) ∗ (dnL c ↦[plane 32 1024 e]{fullShare} dn))); infer_instance

/-- The two copies' amounts. -/
def wA : Fin 2 → ℕ := ![262144, 131072]

/-- Expert `e`'s weights on their way into slot `k`. -/
def WFly (c : Dev nD) (e k : ℕ) (gu : S32x1024x2048.Idx → Elt F .f32) (dn : S32x1024x1024.Idx → Elt F .f32) : sProp 𝕄 :=
  iprop(MixedBatch EC (c : Thread nD τ) (.dma (wC k)) () wA (wD c e k gu dn) 2 0
    ∗ (guL c ↦[Finset.univ \ plane 32 2048 e]{fullShare} gu) ∗ (dnL c ↦[Finset.univ \ plane 32 1024 e]{fullShare} dn))
/-- The matrices at rest in HBM. -/
abbrev WHome (c : Dev nD) (gu : S32x1024x2048.Idx → Elt F .f32) (dn : S32x1024x1024.Idx → Elt F .f32) : sProp 𝕄 :=
  iprop((guL c ↦{fullShare} gu) ∗ (dnL c ↦{fullShare} dn))
/-- A free slot for weights. -/
def WFree (c : Dev nD) (k : ℕ) : sProp 𝕄 :=
  iprop(semVal ((c : Thread nD τ), .dma (wC k)) 0 ∗ (∃ g, guFL c ↦[plane 2 2048 k]{fullShare} g) ∗ (∃ g, dnFL c ↦[plane 2 1024 k]{fullShare} g))

theorem start_w {c : Dev nD} {k e : ℕ} (hk : k < 2) (he : e < 32) (hs hg hd eg ed) {gu : S32x1024x2048.Idx → Elt F .f32} {dn : S32x1024x1024.Idx → Elt F .f32} :
    iprop(WFree c k ∗ WHome c gu dn) ⊢ wpB c (startW k hs hg hd e eg ed) fun _ => WFly c e k gu dn := by
  unfold WFree WFly startW
  rw [← wC_eq (k := k) rfl hk hs]
  iintro ⟨⟨Hs, ⟨%g, Hgf⟩, ⟨%g', Hdf⟩⟩, Hgu, Hdn⟩
  imod (mixedBatch_alloc' (Lvl := ℕ) (EC (F := F)) (c : Thread nD τ) () wA (wD c e k gu dn) (sm := .dma (semAt wSems ![k] hs)) (E := Set.univ)) $$ Hs with HB
  ihave Hgu := (pointsTo_split_subset (Finset.subset_univ (plane 32 2048 e))).1 $$ Hgu
  ihave Hdn := (pointsTo_split_subset (Finset.subset_univ (plane 32 1024 e))).1 $$ Hdn
  icases Hgu with ⟨Hgu, Hgr⟩
  icases Hdn with ⟨Hdn, Hdr⟩
  have hpt : (guFL c ↦[plane 2 2048 k]{fullShare} (guDst ![k, 0, 0] hg).view.write (Elt F) g (ReadAs.same.apply ((guSrc ![e, 0, 0] eg).view.read (Elt F) gu)) Finset.univ : sProp 𝕄)
      = (guFL c ↦[plane 2 2048 k]{fullShare} guAt gu e) := pointsTo_congr fun i hi => gu_written he rfl rfl hg eg gu g i hi
  have hpt' : (dnFL c ↦[plane 2 1024 k]{fullShare} (dnDst ![k, 0, 0] hd).view.write (Elt F) g' (ReadAs.same.apply ((dnSrc ![e, 0, 0] ed).view.read (Elt F) dn)) Finset.univ : sProp 𝕄)
      = (dnFL c ↦[plane 2 1024 k]{fullShare} dnAt dn e) := pointsTo_congr fun i hi => dn_written he rfl rfl hd ed dn g' i hi
  iapply (wp_dmaMixedBatch (src := guSrc ![e, 0, 0] eg) (via := ReadAs.same) (dst := guDst ![k, 0, 0] hg) (sm := .dma (semAt wSems ![k] hs)) (q := fullShare) (fs := gu) (fd := g)
    (Sd := plane 2 2048 k) (defs := defs₀ (F := F)) EC Variants.none (c : Thread nD τ) none () wA (guDst_set rfl hg).subset (j := 0) (by decide) (amount_guDst _ _) (Nat.zero_le _)
    (D := wD c e k gu dn) (by rw [guSrc_set rfl]; exact sep_mono_l (Entails.of_eq hpt))) $$ [Hgu Hgf HB]
  · rw [guSrc_set rfl]
    isplitl [Hgu]; · iexact Hgu
    isplitl [Hgf]; · iexact Hgf
    iexact HB
  iintro HB
  iapply (wp_dmaMixedBatch (src := dnSrc ![e, 0, 0] ed) (via := ReadAs.same) (dst := dnDst ![k, 0, 0] hd) (sm := .dma (semAt wSems ![k] hs)) (q := fullShare) (fs := dn) (fd := g')
    (Sd := plane 2 1024 k) (defs := defs₀ (F := F)) EC Variants.none (c : Thread nD τ) none () wA (dnDst_set rfl hd).subset (j := 1) (by decide) (amount_dnDst _ _) (Nat.zero_le _)
    (D := wD c e k gu dn) (by rw [dnSrc_set rfl]; exact sep_mono_l (Entails.of_eq hpt'))) $$ [Hdn Hdf HB]
  · rw [dnSrc_set rfl]
    isplitl [Hdn]; · iexact Hdn
    isplitl [Hdf]; · iexact Hdf
    iexact HB
  iintro HB
  iapply wp_ret_intro
  isplitl [HB]; · iexact HB
  isplitl [Hgr]; · iexact Hgr
  iexact Hdr

/-- The weights' state once expert word `w` (none if negative) has been started into the slot other than `k`. -/
def WNext (c : Dev nD) (w : BitVec 32) (k : ℕ) (gu : S32x1024x2048.Idx → Elt F .f32) (dn : S32x1024x1024.Idx → Elt F .f32) : sProp 𝕄 :=
  if 0 ≤ w.toInt then iprop(WFly c w.toNat (1 - k) gu dn ∗ WFree c k) else iprop(WHome c gu dn ∗ WFree c (1 - k) ∗ WFree c k)

theorem guX_read {k e : ℕ} (gu : S32x1024x2048.Idx → Elt F .f32) {o : Fin 3 → ℕ} (ho : o = ![k, 0, 0]) (h : ∀ a, o a + S1x1024x2048.size a ≤ S2x1024x2048.size a) :
    (guF.access (Rect.unit (s := S2x1024x2048) o S1x1024x2048.size h)).read (Elt F) (guAt gu e) = guX gu e := by
  subst ho
  funext x
  show guAt gu e ((Rect.unit (s := S2x1024x2048) ![k, 0, 0] S1x1024x2048.size h).emb x) = _
  unfold guAt guX
  congr 1
  funext a
  apply Fin.ext
  fin_cases a
  · rfl
  · show 0 + 1 * (x 1).val = (x 1).val; omega
  · show 0 + 1 * (x 2).val = (x 2).val; omega
theorem dnX_read {k e : ℕ} (dn : S32x1024x1024.Idx → Elt F .f32) {o : Fin 3 → ℕ} (ho : o = ![k, 0, 0]) (h : ∀ a, o a + S1x1024x1024.size a ≤ S2x1024x1024.size a) :
    (dnF.access (Rect.unit (s := S2x1024x1024) o S1x1024x1024.size h)).read (Elt F) (dnAt dn e) = dnX dn e := by
  subst ho
  funext x
  show dnAt dn e ((Rect.unit (s := S2x1024x1024) ![k, 0, 0] S1x1024x1024.size h).emb x) = _
  unfold dnAt dnX
  congr 1
  funext a
  apply Fin.ext
  fin_cases a
  · rfl
  · show 0 + 1 * (x 1).val = (x 1).val; omega
  · show 0 + 1 * (x 2).val = (x 2).val; omega

theorem wD_split {c : Dev nD} {e k : ℕ} {gu : S32x1024x2048.Idx → Elt F .f32} {dn : S32x1024x1024.Idx → Elt F .f32} :
    bigSep Finset.univ (wD c e k gu dn) ⊢ iprop(((guFL c ↦[plane 2 2048 k]{fullShare} guAt gu e) ∗ (guL c ↦[plane 32 2048 e]{fullShare} gu))
      ∗ ((dnFL c ↦[plane 2 1024 k]{fullShare} dnAt dn e) ∗ (dnL c ↦[plane 32 1024 e]{fullShare} dn))) := Entails.of_eq (bigSep_fin_two _)

theorem guF_acc {k : ℕ} {o : Fin 3 → ℕ} (ho : o = ![k, 0, 0]) (h : ∀ a, o a + S1x1024x2048.size a ≤ S2x1024x2048.size a) :
    (guF.access (Rect.unit (s := S2x1024x2048) o S1x1024x2048.size h)).set = plane 2 2048 k :=
  (View.set_slice_whole cc0_scratch0 _).trans (plane_set ho h)
theorem dnF_acc {k : ℕ} {o : Fin 3 → ℕ} (ho : o = ![k, 0, 0]) (h : ∀ a, o a + S1x1024x1024.size a ≤ S2x1024x1024.size a) :
    (dnF.access (Rect.unit (s := S2x1024x1024) o S1x1024x1024.size h)).set = plane 2 1024 k :=
  (View.set_slice_whole cc0_scratch1 _).trans (plane_set ho h)

theorem two_zero : (![0, 0] : Fin 2 → ℕ) = fun _ => 0 := by funext a; fin_cases a <;> rfl
theorem three_zero : (![0, 0, 0] : Fin 3 → ℕ) = fun _ => 0 := by funext a; fin_cases a <;> rfl

theorem new_expert {c : Dev nD} {i : grid0.Coords} {v1 v6 v10 v14 : BitVec 32} {hw66 : k0_chk66 i v1 v6 v10 v14} {h2 : k0_cond2 i v1 = 1#1}
    {h3 : k0_cond3 i v6 v10 = 1#1} {K : Prg F PUnit} {s e : ℕ} (hs : (i 0).val = s) (hk : v14.toNat < 2) (he : e < 32)
    {gu : S32x1024x2048.Idx → Elt F .f32} {dn : S32x1024x1024.Idx → Elt F .f32} {q : PosShare TreeShare} {tW : S228.Idx → BitVec 32}
    (hw : (wd tW s).toInt < 32) {R : sProp 𝕄} {Q : PUnit → sProp 𝕄}
    (hK : iprop((guSL c ↦{fullShare} guC gu e) ∗ (dnSL c ↦{fullShare} dnC dn e) ∗ WNext c (wd tW s) v14.toNat gu dn ∗ owe c
        ∗ (tabW.view.loc (c : Thread nD τ) ↦{q} tW) ∗ R) ⊢ wpB c K Q) :
    iprop(WFly c e v14.toNat gu dn ∗ WFree c (1 - v14.toNat) ∗ (∃ g, guSL c ↦{fullShare} g) ∗ (∃ g, dnSL c ↦{fullShare} g) ∗ owe c
        ∗ (tabW.view.loc (c : Thread nD τ) ↦{q} tW) ∗ R)
      ⊢ wpB c (newExpert i v1 v6 v10 v14 hw66 h2 h3 K) Q := by
  have hos : k0_off76 i = ![s] := by rw [← hs]; exact off1_eq i
  unfold newExpert WFly
  rw [← wC_eq (k := v14.toNat) (o := k0_off71 v14) rfl hk (k0_off71_inb i v1 v6 v10 v14 hw66 h2 h3)]
  iintro ⟨⟨HB, Hgr, Hdr⟩, HF, ⟨%g, Hg⟩, ⟨%g', Hd⟩, ⟨%W, HO⟩, HT, HR⟩
  iapply (wp_waitMixedBatch (defs := defs₀ (F := F)) (EC (F := F)) Variants.none (c : Thread nD τ) none () (J := 262144) (amount_guDst _ _) (j := 2) (u := 0) (A := wA) (D := wD c e v14.toNat gu dn) (by decide)) $$ [HB HO]
  · isplitl [HB]; · iexact HB
    iexact HO
  iintro ⟨HB, HO⟩
  iapply (wp_waitMixedBatchAll (defs := defs₀ (F := F)) (EC (F := F)) Variants.none (c : Thread nD τ) none () (J := 131072) (amount_dnDst _ _) (A := wA) (D := wD c e v14.toNat gu dn) (u := 262144) (by decide) (by decide)) $$ [HB HO]
  · isplitl [HB]; · iexact HB
    iexact HO
  iintro ⟨HD, Hs, HO⟩
  ihave HD := wD_split $$ HD
  icases HD with ⟨⟨Hgf, Hgp⟩, ⟨Hdf, Hdp⟩⟩
  have hgu : iprop((guL c ↦[plane 32 2048 e]{fullShare} gu) ∗ (guL c ↦[Finset.univ \ plane 32 2048 e]{fullShare} gu)) ⊢ (guL c ↦{fullShare} gu : sProp 𝕄) :=
    (pointsTo_split_subset (Finset.subset_univ (plane 32 2048 e))).2
  ihave Hgu := hgu $$ [Hgp Hgr]
  · isplitl [Hgp]; · iexact Hgp
    iexact Hgr
  have hdn : iprop((dnL c ↦[plane 32 1024 e]{fullShare} dn) ∗ (dnL c ↦[Finset.univ \ plane 32 1024 e]{fullShare} dn)) ⊢ (dnL c ↦{fullShare} dn : sProp 𝕄) :=
    (pointsTo_split_subset (Finset.subset_univ (plane 32 1024 e))).2
  ihave Hdn := hdn $$ [Hdp Hdr]
  · isplitl [Hdp]; · iexact Hdp
    iexact Hdr
  iapply (load_at (c := c) (m := guF) (r := Rect.unit (s := S2x1024x2048) (k0_off74 v14) S1x1024x2048.size (k0_off74_inb i v1 v6 v10 v14 hw66 h2 h3)) (S := plane 2 2048 v14.toNat) (f := guAt gu e) (v := guX gu e) (guF_acc rfl _).subset (guX_read gu rfl _)) $$ [Hgf]
  · iexact Hgf
  iintro Hgf
  iapply (load_at (c := c) (m := guS) (r := Rect.unit (s := S1024x2048) ![0, 0] S1024x2048.size inb_S1024x2048_S1024x2048_0_0) (S := Finset.univ) (f := g) (Finset.subset_univ _) rfl) $$ [Hg]
  · iexact Hg
  iintro Hg
  iapply (store_at (c := c) (m := guS) (r := Rect.unit (s := S1024x2048) ![0, 0] S1024x2048.size inb_S1024x2048_S1024x2048_0_0) (S := Finset.univ) (f := g) (g := guC gu e) (Finset.subset_univ _)
    (fun i _ => congrFun (Memref.write_access_unit_zero_univ (Elt F) cc0_scratch2 two_zero _ g (guC gu e)) i)) $$ [Hg]
  · iexact Hg
  iintro Hg
  iapply (load_at (c := c) (m := dnF) (r := Rect.unit (s := S2x1024x1024) (k0_off75 v14) S1x1024x1024.size (k0_off75_inb i v1 v6 v10 v14 hw66 h2 h3)) (S := plane 2 1024 v14.toNat) (f := dnAt dn e) (v := dnX dn e) (dnF_acc rfl _).subset (dnX_read dn rfl _)) $$ [Hdf]
  · iexact Hdf
  iintro Hdf
  iapply (load_at (c := c) (m := dnS) (r := Rect.unit (s := S1024x1024) ![0, 0] S1024x1024.size inb_S1024x1024_S1024x1024_0_0) (S := Finset.univ) (f := g') (Finset.subset_univ _) rfl) $$ [Hd]
  · iexact Hd
  iintro Hd
  iapply (store_at (c := c) (m := dnS) (r := Rect.unit (s := S1024x1024) ![0, 0] S1024x1024.size inb_S1024x1024_S1024x1024_0_0) (S := Finset.univ) (f := g') (g := dnC dn e) (Finset.subset_univ _)
    (fun i _ => congrFun (Memref.write_access_unit_zero_univ (Elt F) cc0_scratch3 two_zero _ g' (dnC dn e)) i)) $$ [Hd]
  · iexact Hd
  iintro Hd
  iapply (wp_tab (tab := tabW) (ft := tW) hos) $$ [HT]
  · iexact HT
  iintro HT
  iapply (assume_at (chk67_ok i v1 v6 v10 _ hk))
  have hfree : iprop(semVal ((c : Thread nD τ), .dma (wC v14.toNat)) 0 ∗ (guFL c ↦[plane 2 2048 v14.toNat]{fullShare} guAt gu e) ∗ (dnFL c ↦[plane 2 1024 v14.toNat]{fullShare} dnAt dn e)) ⊢ WFree c v14.toNat := by
    unfold WFree
    iintro ⟨H, H1, H2⟩
    isplitl [H]; · iexact H
    isplitl [H1]; · iexists _; iexact H1
    iexists _; iexact H2
  ihave HF' := hfree $$ [Hs Hgf Hdf]
  · isplitl [Hs]; · rw [← wC_eq (k := v14.toNat) (o := k0_off71 v14) rfl hk (k0_off71_inb i v1 v6 v10 v14 hw66 h2 h3)]; iexact Hs
    isplitl [Hgf]; · iexact Hgf
    iexact Hdf
  by_cases h4 : k0_cond4 (wd tW s) = 1#1
  · have h0 : 0 ≤ (wd tW s).toInt := cond4_iff.mp h4
    have hlt : (wd tW s).toNat < 32 := by
      have := WordCmp.toInt_eq_toNat_of_lt_half ((WordCmp.toInt_nonneg_iff_lt_half _).mp h0); omega
    iapply (if_pos_at h4)
    iapply (wp_tab (tab := tabW) (ft := tW) hos) $$ [HT]
    · iexact HT
    iintro HT
    iapply (assume_at (chk68_ok i v1 v6 v10 _ hlt))
    iapply (then_at (start_w (gu := gu) (dn := dn) (by rw [sub1_eq hk]; omega) hlt _ _ _ _ _)) $$ [HF Hgu Hdn]
    · isplitl [HF]; · rw [sub1_eq hk]; iexact HF
      isplitl [Hgu]; · iexact Hgu
      iexact Hdn
    iintro %u HB
    iapply hK
    isplitl [Hg]; · iexact Hg
    isplitl [Hd]; · iexact Hd
    isplitl [HB HF']
    · unfold WNext
      rw [if_pos h0, ← sub1_eq hk]
      isplitl [HB]; · iexact HB
      iexact HF'
    isplitl [HO]; · iexists _; iexact HO
    isplitl [HT]; · iexact HT
    iexact HR
  · have h0 : ¬ 0 ≤ (wd tW s).toInt := fun h => h4 (cond4_iff.mpr h)
    iapply (if_neg_at h4)
    iapply hK
    isplitl [Hg]; · iexact Hg
    isplitl [Hd]; · iexact Hd
    isplitl [Hgu Hdn HF HF']
    · unfold WNext
      rw [if_neg h0]
      isplitl [Hgu Hdn]
      · isplitl [Hgu]; · iexact Hgu
        iexact Hdn
      isplitl [HF]; · iexact HF
      iexact HF'
    isplitl [HO]; · iexists _; iexact HO
    isplitl [HT]; · iexact HT
    iexact HR

end Cert.KernelIdeal.Hand
end
-- ==== Proof.World.lean ====
/-
  What the call is run on, what each tile computes, and what is held between one tile and the next.
-/
module

public import proofs.«01_k».proof.Proof.Weights

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

/-- What the call is run on: the rows, the experts' matrices and their biases by tile, the six tables, and the chunks
    each tile reads and writes. -/
structure World (F : FTy → Type) [FloatOps F] where
  f0 : S102400x1024.Idx → Elt F .f32
  gu : S32x1024x2048.Idx → Elt F .f32
  dn : S32x1024x1024.Idx → Elt F .f32
  bG : ℕ → S1x1x2048.Idx → Elt F .f32
  bD : ℕ → S1x1x1024.Idx → Elt F .f32
  tL : S1.Idx → BitVec 32
  tE : S228.Idx → BitVec 32
  tN : S228.Idx → BitVec 32
  tH : S228.Idx → BitVec 32
  tS : S228.Idx → BitVec 32
  tW : S228.Idx → BitVec 32
  sw : ℕ → ℕ → BitVec 32
  dw : ℕ → ℕ → BitVec 32

namespace World
variable (W : World F)

/-- The word a table of one word holds. -/
def vL : BitVec 32 := W.tL fun a => match a with | 0 => (⟨0, Nat.one_pos⟩ : Fin 1)
def L : ℕ := W.vL.toNat
def e (s : ℕ) : ℕ := (wd W.tE s).toNat
def nv (s : ℕ) : ℕ := (wd W.tN s).toNat
def sl (s : ℕ) : ℕ := (wd W.tS s).toNat
def wN (s : ℕ) : BitVec 32 := wd W.tW s
def src (s j : ℕ) : ℕ := (W.sw s j).toNat
def dst (s j : ℕ) : ℕ := (W.dw s j).toNat

/-- What the proof asks of the tables. -/
structure Good : Prop where
  L1 : 1 ≤ W.L
  L2 : W.L < 228
  e_lt : ∀ s, s < 228 → W.e s < 32
  nv_le : ∀ s, s < 228 → W.nv s ≤ 64
  nv_8 : ∀ s, s < 228 → 8 ∣ W.nv s
  half : ∀ s, s < 228 → wd W.tH s = 0#32 ∨ (wd W.tH s = 1#32 ∧ W.nv s ≤ 32)
  sl_lt : ∀ s, s < 228 → W.sl s < 2
  sl_0 : W.sl 0 = 0
  wN_lt : ∀ s, s < 228 → (W.wN s).toInt < 32
  wN_last : (W.wN (W.L - 1)).toInt < 0
  turn : ∀ s, s + 1 < W.L → (wd W.tE (s + 1) = wd W.tE s ∧ W.wN (s + 1) = W.wN s ∧ W.sl (s + 1) = W.sl s)
    ∨ (wd W.tE (s + 1) ≠ wd W.tE s ∧ W.wN s = wd W.tE (s + 1) ∧ W.sl (s + 1) = 1 - W.sl s)
  src_lt : ∀ s, s < 228 → ∀ j, j < 64 → W.src s j < 12800
  dst_lt : ∀ s, s < 228 → ∀ j, j < 64 → W.dst s j < 12800
  once : ∀ s j s' j', s < W.L → j < W.nv s → s' < W.L → j' < W.nv s' → W.dst s j = W.dst s' j' → s = s' ∧ j = j'
  before : ∀ s j s' j', s ≤ W.L → j < 64 → s' < W.L → j' < W.nv s' → W.src s j = W.dst s' j' → s ≤ s'

open Classical in
/-- The rows no tile before `s` has written, and those one has. -/
def fresh (s : ℕ) : Finset S102400x1024.Idx := Finset.univ.filter fun i => ∀ t, t < s → ∀ j, j < W.nv t → W.dst t j ≠ (i 0).val / 8
open Classical in
def done (s : ℕ) : Finset S102400x1024.Idx := Finset.univ.filter fun i => ∃ t, t < s ∧ ∃ j, j < W.nv t ∧ W.dst t j = (i 0).val / 8

/-- The rows tile `s` writes. -/
abbrev out (s : ℕ) : Finset S102400x1024.Idx := wset (W.nv s) (W.dst s)

theorem mem_fresh {s : ℕ} {i : S102400x1024.Idx} : i ∈ W.fresh s ↔ ∀ t, t < s → ∀ j, j < W.nv t → W.dst t j ≠ (i 0).val / 8 := by simp [fresh]
theorem mem_done {s : ℕ} {i : S102400x1024.Idx} : i ∈ W.done s ↔ ∃ t, t < s ∧ ∃ j, j < W.nv t ∧ W.dst t j = (i 0).val / 8 := by simp [done]

theorem fresh_zero : W.fresh 0 = Finset.univ := by ext i; simp [mem_fresh]
theorem done_zero : W.done 0 = ∅ := by ext i; simp [mem_done]

variable {W}

theorem Good.out_fresh (h : W.Good) {s : ℕ} (hs : s < W.L) : W.out s ⊆ W.fresh s := by
  intro i hi
  obtain ⟨j, hj, hij⟩ := mem_wset.mp hi
  rw [mem_fresh]
  intro t ht j' hj' heq
  have := h.once t j' s j (by omega) hj' hs hj (heq.trans hij)
  omega

theorem fresh_succ (s : ℕ) : W.fresh s \ W.out s = W.fresh (s + 1) := by
  ext i
  rw [Finset.mem_sdiff, mem_fresh, mem_fresh, mem_wset]
  constructor
  · rintro ⟨h1, h2⟩ t ht j hj heq
    rcases Nat.lt_succ_iff_lt_or_eq.mp ht with h | rfl
    · exact h1 t h j hj heq
    · exact h2 ⟨j, hj, heq.symm⟩
  · intro h
    exact ⟨fun t ht => h t (by omega), fun ⟨j, hj, heq⟩ => h s (by omega) j hj heq.symm⟩

theorem done_succ (s : ℕ) : W.done s ∪ W.out s = W.done (s + 1) := by
  ext i
  rw [Finset.mem_union, mem_done, mem_done, mem_wset]
  constructor
  · rintro (⟨t, ht, h⟩ | ⟨j, hj, h⟩)
    · exact ⟨t, by omega, h⟩
    · exact ⟨s, by omega, j, hj, h.symm⟩
  · rintro ⟨t, ht, j, hj, h⟩
    rcases Nat.lt_succ_iff_lt_or_eq.mp ht with h' | rfl
    · exact .inl ⟨t, h', j, hj, h⟩
    · exact .inr ⟨j, hj, h.symm⟩

theorem Good.done_disj (h : W.Good) {s : ℕ} (hs : s < W.L) : Disjoint (W.done s) (W.out s) := by
  rw [Finset.disjoint_left]
  intro i hi ho
  obtain ⟨t, ht, j, hj, heq⟩ := W.mem_done.mp hi
  exact (W.mem_fresh.mp (h.out_fresh hs ho)) t ht j hj heq

theorem fresh_done (s : ℕ) : Finset.univ \ W.fresh s = W.done s := by
  ext i
  rw [Finset.mem_sdiff, mem_fresh, mem_done]
  simp

theorem Good.src_fresh (h : W.Good) {s : ℕ} (hs : s ≤ W.L) {j : ℕ} (hj : j < 64) : chunk (W.src s j) ⊆ W.fresh s := by
  intro i hi
  rw [mem_fresh]
  intro t ht j' hj' heq
  have := h.before s j t j' hs hj (by omega) hj' ((mem_chunk.mp hi).symm.trans heq.symm)
  omega

theorem Good.inj (h : W.Good) {s : ℕ} (hs : s < W.L) (j j' : ℕ) (hj : j < W.nv s) (hj' : j' < W.nv s) (heq : W.dst s j = W.dst s j') : j = j' :=
  (h.once s j s j' hs hj hs hj' heq).2

variable (W)

/-- The rows tile `s` computes on: 512, or in a half tile 256. -/
def xF (s : ℕ) : S1x512x1024.Idx → Elt F .f32 := fun x => gath W.f0 (W.src s) (ix3 (⟨0, by decide⟩ : Fin 2) (x 1 : Fin 512) (x 2 : Fin 1024))
def xH (s : ℕ) : S1x256x1024.Idx → Elt F .f32 := fun x =>
  gath W.f0 (W.src s) (ix3 (⟨0, by decide⟩ : Fin 2) (⟨(x 1).val, lt_trans (show (x 1).val < 256 from (x 1).isLt) (by decide)⟩ : Fin 512) (x 2 : Fin 1024))

/-- What tile `s` computes. -/
def yF (s : ℕ) : S1x512x1024.Idx → Elt F .f32 :=
  k0_pay8 (k0_pay3 (W.xF s) (guC W.gu (W.e s)) (W.bG s) (dnC W.dn (W.e s))) (k0_pay4 (W.bD s))
def yH (s : ℕ) : S1x256x1024.Idx → Elt F .f32 :=
  k0_pay7 (k0_pay1 (W.xH s) (guC W.gu (W.e s)) (W.bG s) (dnC W.dn (W.e s))) (k0_pay2 (W.bD s))

/-- and its element in row `r`. -/
def yTile (s r : ℕ) (q : Fin 1024) : Elt F .f32 :=
  if wd W.tH s = 1#32 then W.yH s (ix3 (⟨0, Nat.one_pos⟩ : Fin 1) (⟨r % 256, Nat.mod_lt _ (by decide)⟩ : Fin 256) q)
  else W.yF s (ix3 (⟨0, Nat.one_pos⟩ : Fin 1) (⟨r % 512, Nat.mod_lt _ (by decide)⟩ : Fin 512) q)

open Classical in
/-- What the call leaves: a written row's tile's, any other as it was. -/
def G : S102400x1024.Idx → Elt F .f32 := fun i =>
  if h : ∃ p : ℕ × ℕ, p.1 < W.L ∧ p.2 < W.nv p.1 ∧ W.dst p.1 p.2 = (i 0).val / 8 then
    W.yTile h.choose.1 (8 * h.choose.2 + (i 0).val % 8) (i 1 : Fin 1024)
  else W.f0 i

variable {W}

theorem Good.G_out (h : W.Good) {s j : ℕ} {i : S102400x1024.Idx} (hs : s < W.L) (hj : j < W.nv s) (hi : W.dst s j = (i 0).val / 8) :
    W.G i = W.yTile s (8 * j + (i 0).val % 8) (i 1 : Fin 1024) := by
  have hex : ∃ p : ℕ × ℕ, p.1 < W.L ∧ p.2 < W.nv p.1 ∧ W.dst p.1 p.2 = (i 0).val / 8 := ⟨(s, j), hs, hj, hi⟩
  unfold G
  rw [dif_pos hex]
  obtain ⟨h1, h2, h3⟩ := hex.choose_spec
  obtain ⟨e1, e2⟩ := h.once _ _ s j h1 h2 hs hj (h3.trans hi.symm)
  rw [e1, e2]

theorem G_rest {i : S102400x1024.Idx} (h : ∀ s, s < W.L → ∀ j, j < W.nv s → W.dst s j ≠ (i 0).val / 8) : W.G i = W.f0 i := by
  unfold G
  rw [dif_neg]
  rintro ⟨p, h1, h2, h3⟩
  exact h p.1 h1 p.2 h2 h3

end World

/-! ## What is held between tiles -/

variable (c : Dev nD) (W : World F)

/-- A free slot for a tile's rows, and one for its results. -/
def XFree (k : ℕ) : sProp 𝕄 := iprop(semVal ((c : Thread nD τ), .dma (xC k)) 0 ∗ ∃ g, xL c ↦[slot k]{fullShare} g)
def YFree (k : ℕ) : sProp 𝕄 := iprop(semVal ((c : Thread nD τ), .dma (yC k)) 0 ∗ ∃ g, yL c ↦[slot k]{fullShare} g)

/-- Slot `k`'s results before tile `s`: those of tile `s - m` on their way, if there is one. -/
def YAt (k s m : ℕ) : sProp 𝕄 :=
  if m ≤ s then iprop(∃ y, YFly c k (W.nv (s - m)) W.G y (W.dst (s - m))) else YFree c k

/-- The weights before tile `s`. -/
def WPre (s : ℕ) : sProp 𝕄 :=
  if s = 0 then iprop(WFly c (W.e 0) 0 W.gu W.dn ∗ WFree c 1 ∗ (∃ g, guSL c ↦{fullShare} g) ∗ (∃ g, dnSL c ↦{fullShare} g))
  else iprop(WNext c (W.wN (s - 1)) (W.sl (s - 1)) W.gu W.dn ∗ (guSL c ↦{fullShare} guC W.gu (W.e (s - 1))) ∗ (dnSL c ↦{fullShare} dnC W.dn (W.e (s - 1))))
/-- and once tile `s` has them. -/
def WMid (s : ℕ) : sProp 𝕄 :=
  iprop(WNext c (W.wN s) (W.sl s) W.gu W.dn ∗ (guSL c ↦{fullShare} guC W.gu (W.e s)) ∗ (dnSL c ↦{fullShare} dnC W.dn (W.e s)))

/-- The six tables. -/
def Tabs (q : PosShare TreeShare) : sProp 𝕄 :=
  iprop((tabL.view.loc (c : Thread nD τ) ↦{q} W.tL) ∗ (tabE.view.loc (c : Thread nD τ) ↦{q} W.tE) ∗ (tabN.view.loc (c : Thread nD τ) ↦{q} W.tN)
    ∗ (tabH.view.loc (c : Thread nD τ) ↦{q} W.tH) ∗ (tabS.view.loc (c : Thread nD τ) ↦{q} W.tS) ∗ (tabW.view.loc (c : Thread nD τ) ↦{q} W.tW))

/-- Everything at rest, but for the rows. -/
def Free : sProp 𝕄 :=
  iprop(XFree c 0 ∗ XFree c 1 ∗ YFree c 0 ∗ YFree c 1 ∗ WFree c 0 ∗ WFree c 1 ∗ (∃ g, guSL c ↦{fullShare} g) ∗ (∃ g, dnSL c ↦{fullShare} g) ∗ WHome c W.gu W.dn)

/-- Before live tile `s`. -/
def Ready (s : ℕ) : sProp 𝕄 :=
  iprop(XFly c (s % 2) (W.fresh s) W.f0 (W.src s) ∗ XFree c (1 - s % 2) ∗ YAt c W (s % 2) s 2 ∗ YAt c W (1 - s % 2) s 1
    ∗ (rowL c ↦[W.done (s - 2)]{fullShare} W.G) ∗ WPre c W s)

theorem WPre_succ (s : ℕ) : WPre c W (s + 1) = WMid c W s := by
  unfold WPre WMid
  rw [if_neg (Nat.succ_ne_zero s), Nat.add_sub_cancel]

end Cert.KernelIdeal.Hand
end
-- ==== Proof.Tile.lean ====
/-
  A live tile, piece by piece: the wait for a slot of results, the layer on the tile's rows, and the copies out.
-/
module

public import proofs.«01_k».proof.Proof.World

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

theorem done_join (c : Dev nD) {W : World F} (hW : W.Good) {s : ℕ} (hs : s < W.L) :
    iprop((rowL c ↦[W.done s]{fullShare} W.G) ∗ (rowL c ↦[W.out s]{fullShare} W.G)) ⊢ (rowL c ↦[W.done (s + 1)]{fullShare} W.G : sProp 𝕄) := by
  rw [← World.done_succ]
  exact (pointsTo_union (hW.done_disj hs)).2

theorem yfree_open {c : Dev nD} {k : ℕ} : YFree (F := F) c k ⊢ iprop(semVal ((c : Thread nD τ), .dma (yC k)) 0 ∗ ∃ g, yL c ↦[slot k]{fullShare} g) := by
  unfold YFree; exact .rfl

/-- The wait for the results of tile `s - m`, if there is one. -/
theorem wait_prev {c : Dev nD} {W : World F} (hW : W.Good) {s m k : ℕ} (hs : s < 228) (hm : 1 ≤ m) (hsm : s - m < W.L) (hk : k < 2) {cnd : BitVec 1} (hc : cnd = 1#1 ↔ m ≤ s)
    {o1 : Fin 1 → ℕ} (ho1 : m ≤ s → o1 = ![s - m]) {h1 : cnd = 1#1 → ∀ a, o1 a + S1.size a ≤ S228.size a}
    {P : BitVec 32 → Prop} {d : ∀ v, Decidable (P v)} (hP : ∀ v : BitVec 32, v.toNat ≤ 64 → P v)
    {o2 : Fin 1 → ℕ} (ho2 : o2 = ![k]) {h2 : cnd = 1#1 → ∀ a, o2 a + S1.size a ≤ S2.size a}
    {z : BitVec 32 → Fin 2 → ℕ} (hz : ∀ v : BitVec 32, v.toNat ≤ 64 → z v = ![8 * v.toNat, 1024]) {q : PosShare TreeShare}
    {K : Prg F PUnit} {Q : PUnit → sProp 𝕄} :
    iprop(YAt c W k s m ∗ (rowL c ↦[W.done (s - m)]{fullShare} W.G) ∗ (tabN.view.loc (c : Thread nD τ) ↦{q} W.tN) ∗ owe c)
      ⊢ iprop((iprop(YFree c k ∗ (rowL c ↦[W.done (s + 1 - m)]{fullShare} W.G) ∗ (tabN.view.loc (c : Thread nD τ) ↦{q} W.tN) ∗ owe c) -∗ wpB c K Q)
        -∗ wpB c (if h : cnd = 1#1 then do
          let v : Elt F .i32 ← smemLoad tabN (Rect.unit (s := S228) o1 S1.size (h1 h)) numel1_S1 rfl
          have hw : P v := (← Prog.lift (TpuEff.assume (P v) (d v))).down
          waitOut (semAt ySems o2 (h2 h)) (z v)
          K
        else K) Q) := by
  unfold YAt
  by_cases h : cnd = 1#1
  · have hle := hc.mp h
    have hn := hW.nv_le (s - m) (by omega)
    rw [if_pos hle]
    iintro ⟨⟨%y, HY⟩, Hd, HT, HO⟩ HK
    iapply (if_pos_at h)
    iapply (wp_tab (tab := tabN) (ft := W.tN) (ho1 hle)) $$ [HT]
    · iexact HT
    iintro HT
    iapply (assume_at (hP _ hn))
    iapply (then_at (wait_y (g := W.G) (y := y) (dst := W.dst (s - m)) hk (hW.nv_8 (s - m) (by omega)) ho2 (h2 h) (hz _ hn) (hW.inj hsm))) $$ [HY HO]
    · isplitl [HY]; · iexact HY
      iexact HO
    iintro %u ⟨Hr, Hy, Hs, HO⟩
    iapply HK
    isplitl [Hy Hs]
    · unfold YFree
      isplitl [Hs]; · iexact Hs
      iexact Hy
    isplitl [Hd Hr]
    · rw [show s + 1 - m = s - m + 1 by omega]
      iapply (done_join c hW hsm)
      isplitl [Hd]; · iexact Hd
      iexact Hr
    isplitl [HT]; · iexact HT
    iexact HO
  · have hle : ¬ m ≤ s := fun h' => h (hc.mpr h')
    rw [if_neg hle, show s - m = s + 1 - m by omega]
    rw [dif_neg h]
    iintro H HK
    iapply HK
    iexact H

/-! ## The tile buffers -/

/-- The first `n` rows of slot `k` lie in it. -/
theorem rows_slot {n k : ℕ} {o : Fin 3 → ℕ} (ho : o = ![k, 0, 0]) (h : ∀ a, o a + (![1, n, 1024] : Fin 3 → ℕ) a ≤ S2x512x1024.size a) :
    (Rect.unit (s := S2x512x1024) o ![1, n, 1024] h).set ⊆ slot k := by
  subst ho
  intro i hi
  rw [Rect.mem_set_unit] at hi
  have := hi 0
  rw [mem_slot]
  simp at this; omega

theorem rows_emb {n k : ℕ} {o : Fin 3 → ℕ} (ho : o = ![k, 0, 0]) (h : ∀ a, o a + (![1, n, 1024] : Fin 3 → ℕ) a ≤ S2x512x1024.size a)
    (x : (⟨3, ![1, n, 1024]⟩ : Shape).Idx) (i : S2x512x1024.Idx) (h0 : (i 0).val = k) (h1 : (i 1).val = (x 1).val) (h2 : (i 2).val = (x 2).val) :
    (Rect.unit (s := S2x512x1024) o ![1, n, 1024] h).emb x = i := by
  subst ho
  funext a
  apply Fin.ext
  rw [Rect.emb_apply]
  have hx : (x 0).val < 1 := (x 0).isLt
  fin_cases a
  · show k + 1 * (x 0).val = (i 0).val; omega
  · show 0 + 1 * (x 1).val = (i 1).val; omega
  · show 0 + 1 * (x 2).val = (i 2).val; omega

theorem xF_read {W : World F} {s k : ℕ} (hk : k < 2) {o : Fin 3 → ℕ} (ho : o = ![k, 0, 0]) (h : ∀ a, o a + S1x512x1024.size a ≤ S2x512x1024.size a) :
    (xM.access (Rect.unit (s := S2x512x1024) o S1x512x1024.size h)).read (Elt F) (gath W.f0 (W.src s)) = W.xF s := by
  funext x
  show gath W.f0 (W.src s) ((Rect.unit (s := S2x512x1024) o S1x512x1024.size h).emb x) = _
  rw [rows_emb (n := 512) ho h x (ix3 (⟨k, hk⟩ : Fin 2) (x 1 : Fin 512) (x 2 : Fin 1024)) rfl rfl rfl]
  rfl
theorem xH_read {W : World F} {s k : ℕ} (hk : k < 2) {o : Fin 3 → ℕ} (ho : o = ![k, 0, 0]) (h : ∀ a, o a + S1x256x1024.size a ≤ S2x512x1024.size a) :
    (xM.access (Rect.unit (s := S2x512x1024) o S1x256x1024.size h)).read (Elt F) (gath W.f0 (W.src s)) = W.xH s := by
  funext x
  show gath W.f0 (W.src s) ((Rect.unit (s := S2x512x1024) o S1x256x1024.size h).emb x) = _
  rw [rows_emb (n := 256) ho h x (ix3 (⟨k, hk⟩ : Fin 2) (⟨(x 1).val, lt_trans (show (x 1).val < 256 from (x 1).isLt) (by decide)⟩ : Fin 512) (x 2 : Fin 1024)) rfl rfl rfl]
  rfl

theorem xrows_acc {n k : ℕ} {o : Fin 3 → ℕ} (ho : o = ![k, 0, 0]) (h : ∀ a, o a + (![1, n, 1024] : Fin 3 → ℕ) a ≤ S2x512x1024.size a) :
    (xM.access (Rect.unit (s := S2x512x1024) o ![1, n, 1024] h)).set ⊆ slot k := by
  have := View.set_slice_whole cc0_scratch4 (Rect.unit (s := S2x512x1024) o ![1, n, 1024] h)
  exact this.subset.trans (rows_slot ho h)
theorem yrows_acc {n k : ℕ} {o : Fin 3 → ℕ} (ho : o = ![k, 0, 0]) (h : ∀ a, o a + (![1, n, 1024] : Fin 3 → ℕ) a ≤ S2x512x1024.size a) :
    (yM.access (Rect.unit (s := S2x512x1024) o ![1, n, 1024] h)).set ⊆ slot k := by
  have := View.set_slice_whole cc0_scratch5 (Rect.unit (s := S2x512x1024) o ![1, n, 1024] h)
  exact this.subset.trans (rows_slot ho h)

/-- What a store of `n` rows leaves in one of them. -/
theorem yrows_write {n k : ℕ} {o : Fin 3 → ℕ} (ho : o = ![k, 0, 0]) (h : ∀ a, o a + (![1, n, 1024] : Fin 3 → ℕ) a ≤ S2x512x1024.size a)
    (f : S2x512x1024.Idx → Elt F .f32) (w : (⟨3, ![1, n, 1024]⟩ : Shape).Idx → Elt F .f32) (i : S2x512x1024.Idx) (h0 : (i 0).val = k) (h1 : (i 1).val < n) :
    (yM.access (Rect.unit (s := S2x512x1024) o ![1, n, 1024] h)).write (Elt F) f w Finset.univ i
      = w (ix3 (⟨0, Nat.one_pos⟩ : Fin 1) (⟨(i 1).val, h1⟩ : Fin n) (i 2 : Fin 1024)) := by
  have hx : (yM.access (Rect.unit (s := S2x512x1024) o ![1, n, 1024] h)).emb (ix3 (⟨0, Nat.one_pos⟩ : Fin 1) (⟨(i 1).val, h1⟩ : Fin n) (i 2 : Fin 1024)) = i :=
    rows_emb ho h _ i h0 rfl rfl
  conv_lhs => rw [← hx]
  rw [View.write_emb_of_mem (h := Finset.mem_univ _)]
  rfl

/-- A load of a whole window. -/
theorem whole_read {cs : CoreSpace} {s : Shape} {e : EltTy} {m : Memref sig .tc cs s e} {o : Fin s.rank → ℕ} (ho : o = fun _ => 0)
    (h : ∀ a, o a + s.size a ≤ s.size a) (f : m.view.ty.Contents (Elt F)) :
    (m.access (Rect.unit (s := s) o s.size h)).read (Elt F) f = m.view.read (Elt F) f := by
  subst ho
  funext x
  show m.view.read (Elt F) f ((Rect.unit (s := s) (fun _ => 0) s.size h).emb x) = _
  congr 1
  funext a
  apply Fin.ext
  rw [Rect.emb_apply]
  show 0 + 1 * (x a).val = _
  omega

/-- The results a tile's slot holds. -/
def Holds (W : World F) (s : ℕ) (y : S2x512x1024.Idx → Elt F .f32) : Prop :=
  ∀ x : S2x512x1024.Idx, (x 0).val = s % 2 → (x 1).val < 8 * W.nv s → y x = W.yTile s (x 1).val (x 2 : Fin 1024)

/-- What a tile needs while it computes: its rows, the next tile's, the weights, the biases. -/
def TileIn (c : Dev nD) (W : World F) (s : ℕ) (q q' q'' : PosShare TreeShare) (arg8 : Memref sig .tc .smem S1x1x64 .i32) (arg12 : Memref sig .tc .vmem S1x1x2048 .f32)
    (arg14 : Memref sig .tc .vmem S1x1x1024 .f32) (f8 : Buf (Elt F) (arg8.view.loc (c : Thread nD τ))) (f12 : Buf (Elt F) (arg12.view.loc (c : Thread nD τ)))
    (f14 : Buf (Elt F) (arg14.view.loc (c : Thread nD τ))) : sProp 𝕄 :=
  iprop(tabPt c arg8 f8 ∗ (guSL c ↦{fullShare} guC W.gu (W.e s)) ∗ (dnSL c ↦{fullShare} dnC W.dn (W.e s))
    ∗ (arg12.view.loc (c : Thread nD τ) ↦[arg12.view.set]{q'} f12) ∗ (arg14.view.loc (c : Thread nD τ) ↦[arg14.view.set]{q''} f14)
    ∗ (tabN.view.loc (c : Thread nD τ) ↦{q} W.tN) ∗ owe c)

theorem tile_half {c : Dev nD} {W : World F} (hW : W.Good) {i : grid0.Coords} {s : ℕ} (hs : (i 0).val = s) (hsL : s < W.L)
    {v1 v29 : BitVec 32} {h2 : k0_cond2 i v1 = 1#1} {h5 : k0_cond5 v29 = 1#1} (hh : wd W.tH s = 1#32)
    {q q' q'' : PosShare TreeShare} {arg8 : Memref sig .tc .smem S1x1x64 .i32} {arg12 : Memref sig .tc .vmem S1x1x2048 .f32} {arg14 : Memref sig .tc .vmem S1x1x1024 .f32}
    {f8 : Buf (Elt F) (arg8.view.loc (c : Thread nD τ))} {f12 : Buf (Elt F) (arg12.view.loc (c : Thread nD τ))} {f14 : Buf (Elt F) (arg14.view.loc (c : Thread nD τ))}
    (h8 : ∀ j (hj : j < 64), (arg8.view.read (Elt F) f8 (ix3 (⟨0, Nat.one_pos⟩ : Fin 1) (⟨0, Nat.one_pos⟩ : Fin 1) (⟨j, hj⟩ : Fin 64)) : BitVec 32) = W.sw (s + 1) j)
    (h12 : arg12.view.read (Elt F) f12 = W.bG s) (h14 : arg14.view.read (Elt F) f14 = W.bD s)
    {K : Prg F PUnit} {R : sProp 𝕄} {Q : PUnit → sProp 𝕄}
    (hK : ∀ y, Holds W s y → iprop(TileIn c W s q q' q'' arg8 arg12 arg14 f8 f12 f14 ∗ XFly c (1 - s % 2) (W.fresh (s + 1)) W.f0 (W.src (s + 1)) ∗ (∃ g, xL c ↦[slot (s % 2)]{fullShare} g)
        ∗ semVal ((c : Thread nD τ), .dma (yC (s % 2))) 0 ∗ (yL c ↦[slot (s % 2)]{fullShare} y) ∗ (rowL c ↦[W.done (s - 1)]{fullShare} W.G) ∗ R) ⊢ wpB c K Q) :
    iprop(TileIn c W s q q' q'' arg8 arg12 arg14 f8 f12 f14 ∗ XFree c (1 - s % 2) ∗ (rowL c ↦[W.fresh (s + 1)]{fullShare} W.f0) ∗ (xL c ↦[slot (s % 2)]{fullShare} gath W.f0 (W.src s))
        ∗ YAt c W (s % 2) s 2 ∗ (rowL c ↦[W.done (s - 2)]{fullShare} W.G) ∗ R)
      ⊢ wpB c (tileHalf i v1 v29 h2 h5 arg8 arg12 arg14 K) Q := by
  have hs228 : s < 228 := by have := hW.L2; omega
  have hk : s % 2 < 2 := Nat.mod_lt _ (by decide)
  have ho : k0_off277 i = ![s % 2, 0, 0] := by rw [off277_eq, hs]
  have hoth : (othW i).toNat = 1 - s % 2 := by rw [othW_eq, hs]
  have hn : W.nv s ≤ 32 := by
    rcases hW.half s hs228 with h | h
    · rw [hh] at h; exact absurd h (by decide)
    · exact h.2
  unfold tileHalf TileIn XFree
  iintro ⟨⟨H8, Hg, Hd, H12, H14, HN, HO⟩, ⟨Hxs, Hxf⟩, Hr, Hx, HY, Hdn, HR⟩
  iapply (then_at (gather_all (tab := arg8) (ft := f8) (f0 := W.f0) (S := W.fresh (s + 1)) (othW_lt i) h8
    (fun j hj => hW.src_lt (s + 1) (by have := hW.L2; omega) j hj) (fun j hj => chk69_ok i v1 v29 (hW.src_lt (s + 1) (by have := hW.L2; omega) j hj))
    (fun j hj => hW.src_fresh (by omega) hj))) $$ [H8 Hxs Hxf Hr]
  · rw [hoth]
    isplitl [H8]; · iexact H8
    isplitl [Hxs]; · iexact Hxs
    isplitl [Hxf]; · iexact Hxf
    iexact Hr
  iintro %u ⟨H8, HX⟩
  iapply (load_at (c := c) (m := xM) (r := Rect.unit (s := S2x512x1024) (k0_off277 i) S1x256x1024.size (k0_off277_inb i)) (S := slot (s % 2)) (f := gath W.f0 (W.src s)) (v := W.xH s)
    (xrows_acc (n := 256) ho (k0_off277_inb i)) (xH_read hk ho _)) $$ [Hx]
  · iexact Hx
  iintro Hx
  iapply (load_at (c := c) (m := guS) (r := Rect.unit (s := S1024x2048) ![0, 0] S1024x2048.size inb_S1024x2048_S1024x2048_0_0) (S := Finset.univ) (f := guC W.gu (W.e s)) (v := guC W.gu (W.e s)) (Finset.subset_univ _)
    (Memref.read_access_unit_zero (Elt F) cc0_scratch2 two_zero _ _)) $$ [Hg]
  · iexact Hg
  iintro Hg
  iapply (load_at (c := c) (m := arg12) (r := Rect.unit (s := S1x1x2048) ![0, 0, 0] S1x1x2048.size inb_S1x1x2048_S1x1x2048_0_0_0) (S := arg12.view.set) (f := f12) (v := W.bG s) (View.set_slice_subset _ _)
    ((whole_read three_zero _ f12).trans h12)) $$ [H12]
  · iexact H12
  iintro H12
  iapply (load_at (c := c) (m := dnS) (r := Rect.unit (s := S1024x1024) ![0, 0] S1024x1024.size inb_S1024x1024_S1024x1024_0_0) (S := Finset.univ) (f := dnC W.dn (W.e s)) (v := dnC W.dn (W.e s)) (Finset.subset_univ _)
    (Memref.read_access_unit_zero (Elt F) cc0_scratch3 two_zero _ _)) $$ [Hd]
  · iexact Hd
  iintro Hd
  iapply (load_at (c := c) (m := arg14) (r := Rect.unit (s := S1x1x1024) ![0, 0, 0] S1x1x1024.size inb_S1x1x1024_S1x1x1024_0_0_0) (S := arg14.view.set) (f := f14) (v := W.bD s) (View.set_slice_subset _ _)
    ((whole_read three_zero _ f14).trans h14)) $$ [H14]
  · iexact H14
  iintro H14
  iapply (wait_prev (c := c) (q := q) hW hs228 (m := 2) (k := s % 2) (by decide) (by omega) hk (by rw [cond6_iff, hs]) (fun h => by rw [off278_eq i (by omega), hs]) (fun v hv => chk133_ok i v1 v29 hv)
    (by rw [off279_eq, hs]) (fun v hv => size_eq hv)) $$ [HY Hdn HN HO]
  · isplitl [HY]; · iexact HY
    isplitl [Hdn]; · iexact Hdn
    isplitl [HN]; · iexact HN
    iexact HO
  iintro ⟨HYF, Hdn, HN, HO⟩
  ihave HYF := yfree_open $$ HYF
  icases HYF with ⟨Hys, ⟨%g, Hy⟩⟩
  iapply (load_at (c := c) (m := yM) (r := Rect.unit (s := S2x512x1024) (k0_off277 i) S1x256x1024.size (k0_off277_inb i)) (S := slot (s % 2)) (f := g)
    (yrows_acc (n := 256) ho (k0_off277_inb i)) rfl) $$ [Hy]
  · iexact Hy
  iintro Hy
  iapply (store_at (c := c) (m := yM) (r := Rect.unit (s := S2x512x1024) (k0_off277 i) S1x256x1024.size (k0_off277_inb i)) (S := slot (s % 2)) (f := g)
    (yrows_acc (n := 256) ho (k0_off277_inb i)) (fun i _ => rfl)) $$ [Hy]
  · iexact Hy
  iintro Hy
  have hH : Holds W s ((yM.access (Rect.unit (s := S2x512x1024) (k0_off277 i) S1x256x1024.size (k0_off277_inb i))).write (Elt F) g (W.yH s) Finset.univ) := by
    intro x h0 h1
    refine (yrows_write (n := 256) ho _ _ _ x h0 (by omega)).trans ?_
    unfold World.yTile
    rw [if_pos hh]
    have : (x 1).val % 256 = (x 1).val := Nat.mod_eq_of_lt (by omega)
    show W.yH s _ = _
    congr 2
    exact Fin.ext this.symm
  iapply (hK _ hH)
  unfold TileIn
  isplitl [H8 Hg Hd H12 H14 HN HO]
  · isplitl [H8]; · iexact H8
    isplitl [Hg]; · iexact Hg
    isplitl [Hd]; · iexact Hd
    isplitl [H12]; · iexact H12
    isplitl [H14]; · iexact H14
    isplitl [HN]; · iexact HN
    iexact HO
  isplitl [HX]; · rw [← hoth]; iexact HX
  isplitl [Hx]; · iexists _; iexact Hx
  isplitl [Hys]; · iexact Hys
  isplitl [Hy]; · iexact Hy
  isplitl [Hdn]; · rw [show s - 1 = s + 1 - 2 by omega]; iexact Hdn
  iexact HR

theorem tile_full {c : Dev nD} {W : World F} (hW : W.Good) {i : grid0.Coords} {s : ℕ} (hs : (i 0).val = s) (hsL : s < W.L)
    {v1 v34 : BitVec 32} {h2 : k0_cond2 i v1 = 1#1} {h7 : k0_cond7 v34 = 1#1} (hh : wd W.tH s = 0#32)
    {q q' q'' : PosShare TreeShare} {arg8 : Memref sig .tc .smem S1x1x64 .i32} {arg12 : Memref sig .tc .vmem S1x1x2048 .f32} {arg14 : Memref sig .tc .vmem S1x1x1024 .f32}
    {f8 : Buf (Elt F) (arg8.view.loc (c : Thread nD τ))} {f12 : Buf (Elt F) (arg12.view.loc (c : Thread nD τ))} {f14 : Buf (Elt F) (arg14.view.loc (c : Thread nD τ))}
    (h8 : ∀ j (hj : j < 64), (arg8.view.read (Elt F) f8 (ix3 (⟨0, Nat.one_pos⟩ : Fin 1) (⟨0, Nat.one_pos⟩ : Fin 1) (⟨j, hj⟩ : Fin 64)) : BitVec 32) = W.sw (s + 1) j)
    (h12 : arg12.view.read (Elt F) f12 = W.bG s) (h14 : arg14.view.read (Elt F) f14 = W.bD s)
    {K : Prg F PUnit} {R : sProp 𝕄} {Q : PUnit → sProp 𝕄}
    (hK : ∀ y, Holds W s y → iprop(TileIn c W s q q' q'' arg8 arg12 arg14 f8 f12 f14 ∗ XFly c (1 - s % 2) (W.fresh (s + 1)) W.f0 (W.src (s + 1)) ∗ (∃ g, xL c ↦[slot (s % 2)]{fullShare} g)
        ∗ semVal ((c : Thread nD τ), .dma (yC (s % 2))) 0 ∗ (yL c ↦[slot (s % 2)]{fullShare} y) ∗ (rowL c ↦[W.done (s - 1)]{fullShare} W.G) ∗ R) ⊢ wpB c K Q) :
    iprop(TileIn c W s q q' q'' arg8 arg12 arg14 f8 f12 f14 ∗ XFree c (1 - s % 2) ∗ (rowL c ↦[W.fresh (s + 1)]{fullShare} W.f0) ∗ (xL c ↦[slot (s % 2)]{fullShare} gath W.f0 (W.src s))
        ∗ YAt c W (s % 2) s 2 ∗ (rowL c ↦[W.done (s - 2)]{fullShare} W.G) ∗ R)
      ⊢ wpB c (tileFull i v1 v34 h2 h7 arg8 arg12 arg14 K) Q := by
  have hs228 : s < 228 := by have := hW.L2; omega
  have hk : s % 2 < 2 := Nat.mod_lt _ (by decide)
  have ho : k0_off475 i = ![s % 2, 0, 0] := by rw [off475_eq, hs]
  have hoth : (othW i).toNat = 1 - s % 2 := by rw [othW_eq, hs]
  have hn : W.nv s ≤ 64 := hW.nv_le s hs228
  unfold tileFull TileIn XFree
  iintro ⟨⟨H8, Hg, Hd, H12, H14, HN, HO⟩, ⟨Hxs, Hxf⟩, Hr, Hx, HY, Hdn, HR⟩
  iapply (then_at (gather_all (tab := arg8) (ft := f8) (f0 := W.f0) (S := W.fresh (s + 1)) (othW_lt i) h8
    (fun j hj => hW.src_lt (s + 1) (by have := hW.L2; omega) j hj) (fun j hj => chk134_ok i v1 v34 (hW.src_lt (s + 1) (by have := hW.L2; omega) j hj))
    (fun j hj => hW.src_fresh (by omega) hj))) $$ [H8 Hxs Hxf Hr]
  · rw [hoth]
    isplitl [H8]; · iexact H8
    isplitl [Hxs]; · iexact Hxs
    isplitl [Hxf]; · iexact Hxf
    iexact Hr
  iintro %u ⟨H8, HX⟩
  iapply (load_at (c := c) (m := xM) (r := Rect.unit (s := S2x512x1024) (k0_off475 i) S1x512x1024.size (k0_off475_inb i)) (S := slot (s % 2)) (f := gath W.f0 (W.src s)) (v := W.xF s)
    (xrows_acc (n := 512) ho (k0_off475_inb i)) (xF_read hk ho _)) $$ [Hx]
  · iexact Hx
  iintro Hx
  iapply (load_at (c := c) (m := guS) (r := Rect.unit (s := S1024x2048) ![0, 0] S1024x2048.size inb_S1024x2048_S1024x2048_0_0) (S := Finset.univ) (f := guC W.gu (W.e s)) (v := guC W.gu (W.e s)) (Finset.subset_univ _)
    (Memref.read_access_unit_zero (Elt F) cc0_scratch2 two_zero _ _)) $$ [Hg]
  · iexact Hg
  iintro Hg
  iapply (load_at (c := c) (m := arg12) (r := Rect.unit (s := S1x1x2048) ![0, 0, 0] S1x1x2048.size inb_S1x1x2048_S1x1x2048_0_0_0) (S := arg12.view.set) (f := f12) (v := W.bG s) (View.set_slice_subset _ _)
    ((whole_read three_zero _ f12).trans h12)) $$ [H12]
  · iexact H12
  iintro H12
  iapply (load_at (c := c) (m := dnS) (r := Rect.unit (s := S1024x1024) ![0, 0] S1024x1024.size inb_S1024x1024_S1024x1024_0_0) (S := Finset.univ) (f := dnC W.dn (W.e s)) (v := dnC W.dn (W.e s)) (Finset.subset_univ _)
    (Memref.read_access_unit_zero (Elt F) cc0_scratch3 two_zero _ _)) $$ [Hd]
  · iexact Hd
  iintro Hd
  iapply (load_at (c := c) (m := arg14) (r := Rect.unit (s := S1x1x1024) ![0, 0, 0] S1x1x1024.size inb_S1x1x1024_S1x1x1024_0_0_0) (S := arg14.view.set) (f := f14) (v := W.bD s) (View.set_slice_subset _ _)
    ((whole_read three_zero _ f14).trans h14)) $$ [H14]
  · iexact H14
  iintro H14
  iapply (wait_prev (c := c) (q := q) hW hs228 (m := 2) (k := s % 2) (by decide) (by omega) hk (by rw [cond8_iff, hs]) (fun h => by rw [off476_eq i (by omega), hs]) (fun v hv => chk198_ok i v1 v34 hv)
    (by rw [off477_eq, hs]) (fun v hv => size_eq hv)) $$ [HY Hdn HN HO]
  · isplitl [HY]; · iexact HY
    isplitl [Hdn]; · iexact Hdn
    isplitl [HN]; · iexact HN
    iexact HO
  iintro ⟨HYF, Hdn, HN, HO⟩
  ihave HYF := yfree_open $$ HYF
  icases HYF with ⟨Hys, ⟨%g, Hy⟩⟩
  iapply (load_at (c := c) (m := yM) (r := Rect.unit (s := S2x512x1024) (k0_off475 i) S1x512x1024.size (k0_off475_inb i)) (S := slot (s % 2)) (f := g)
    (yrows_acc (n := 512) ho (k0_off475_inb i)) rfl) $$ [Hy]
  · iexact Hy
  iintro Hy
  iapply (store_at (c := c) (m := yM) (r := Rect.unit (s := S2x512x1024) (k0_off475 i) S1x512x1024.size (k0_off475_inb i)) (S := slot (s % 2)) (f := g)
    (yrows_acc (n := 512) ho (k0_off475_inb i)) (fun i _ => rfl)) $$ [Hy]
  · iexact Hy
  iintro Hy
  have hH : Holds W s ((yM.access (Rect.unit (s := S2x512x1024) (k0_off475 i) S1x512x1024.size (k0_off475_inb i))).write (Elt F) g (W.yF s) Finset.univ) := by
    intro x h0 h1
    refine (yrows_write (n := 512) ho _ _ _ x h0 (by omega)).trans ?_
    unfold World.yTile
    rw [if_neg (by rw [hh]; decide)]
    have : (x 1).val % 512 = (x 1).val := Nat.mod_eq_of_lt (by omega)
    show W.yF s _ = _
    congr 2
    exact Fin.ext this.symm
  iapply (hK _ hH)
  unfold TileIn
  isplitl [H8 Hg Hd H12 H14 HN HO]
  · isplitl [H8]; · iexact H8
    isplitl [Hg]; · iexact Hg
    isplitl [Hd]; · iexact Hd
    isplitl [H12]; · iexact H12
    isplitl [H14]; · iexact H14
    isplitl [HN]; · iexact HN
    iexact HO
  isplitl [HX]; · rw [← hoth]; iexact HX
  isplitl [Hx]; · iexists _; iexact Hx
  isplitl [Hys]; · iexact Hys
  isplitl [Hy]; · iexact Hy
  isplitl [Hdn]; · rw [show s - 1 = s + 1 - 2 by omega]; iexact Hdn
  iexact HR

end Cert.KernelIdeal.Hand
end
-- ==== Proof.Ends.lean ====
/-
  A live tile from its first wait to its last copy out, and what the last tile waits for besides.
-/
module

public import proofs.«01_k».proof.Proof.Tile

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

/-! ## The weights at a tile -/

theorem wpre_new {c : Dev nD} {W : World F} (hW : W.Good) {s : ℕ} (hs : s < W.L) (h : s = 0 ∨ wd W.tE s ≠ wd W.tE (s - 1)) :
    WPre c W s ⊢ iprop(WFly c (W.e s) (W.sl s) W.gu W.dn ∗ WFree c (1 - W.sl s) ∗ (∃ g, guSL c ↦{fullShare} g) ∗ (∃ g, dnSL c ↦{fullShare} g)) := by
  unfold WPre
  by_cases h0 : s = 0
  · subst h0
    rw [if_pos rfl, hW.sl_0]
  · rw [if_neg h0]
    obtain ⟨t, rfl⟩ : ∃ t, s = t + 1 := ⟨s - 1, by omega⟩
    rw [Nat.add_sub_cancel]
    rcases hW.turn t hs with ⟨h1, _, _⟩ | ⟨_, h2, h3⟩
    · rcases h with h | h
      · omega
      · exact absurd h1 h
    · have hlt := hW.e_lt (t + 1) (by have := hW.L2; omega)
      have hsl := hW.sl_lt t (by have := hW.L2; omega)
      unfold WNext
      have hi : 0 ≤ (W.wN t).toInt := by
        rw [h2, WordCmp.toInt_nonneg_iff_lt_half]
        have : (wd W.tE (t + 1)).toNat < 32 := hlt
        omega
      rw [if_pos hi, h3, h2, show 1 - (1 - W.sl t) = W.sl t by omega]
      iintro ⟨⟨HF, Hf⟩, Hg, Hd⟩
      isplitl [HF]; · iexact HF
      isplitl [Hf]; · iexact Hf
      isplitl [Hg]; · iexists _; iexact Hg
      iexists _; iexact Hd

theorem wpre_same {c : Dev nD} {W : World F} (hW : W.Good) {s : ℕ} (hs : s < W.L) (h0 : s ≠ 0) (h : wd W.tE s = wd W.tE (s - 1)) : WPre c W s ⊢ WMid c W s := by
  unfold WPre WMid
  rw [if_neg h0]
  obtain ⟨t, rfl⟩ : ∃ t, s = t + 1 := ⟨s - 1, by omega⟩
  rw [Nat.add_sub_cancel]
  rw [Nat.add_sub_cancel] at h
  rcases hW.turn t hs with ⟨h1, h2, h3⟩ | ⟨h1, _, _⟩
  · rw [h2, h3]
    have : W.e (t + 1) = W.e t := congrArg BitVec.toNat h1
    rw [this]
  · exact absurd h h1

/-! ## The copies out -/

/-- The copies out of tile `s` with the first `n` started. -/
abbrev OutAt (c : Dev nD) (W : World F) (i : grid0.Coords) (s : ℕ) (arg9 : Memref sig .tc .smem S1x1x64 .i32) (f9 : Buf (Elt F) (arg9.view.loc (c : Thread nD τ)))
    (y : S2x512x1024.Idx → Elt F .f32) (n : ℕ) : sProp 𝕄 := YOut c arg9 f9 (parW i).toNat (W.nv s) W.f0 W.G y (fun j => (W.dw s j).toNat) n

section Out
variable {c : Dev nD} {W : World F} (hW : W.Good) {i : grid0.Coords} {s : ℕ} (hs : (i 0).val = s) (hsL : s < W.L) {v1 : BitVec 32} {h2 : k0_cond2 i v1 = 1#1}
  {arg9 : Memref sig .tc .smem S1x1x64 .i32} {f9 : Buf (Elt F) (arg9.view.loc (c : Thread nD τ))}
  (h9 : ∀ j (hj : j < 64), (arg9.view.read (Elt F) f9 (ix3 (⟨0, Nat.one_pos⟩ : Fin 1) (⟨0, Nat.one_pos⟩ : Fin 1) (⟨j, hj⟩ : Fin 64)) : BitVec 32) = W.dw s j)
  {y : S2x512x1024.Idx → Elt F .f32} (hy : Holds W s y)
include hW hs hsL h9 hy

theorem out_group {m : ℕ} (hm : m < 8) {cnd : BitVec 1} (hcnd : cnd = 1#1 ↔ 8 * m < W.nv s) {P : BitVec 32 → Prop} {d : ∀ v, Decidable (P v)}
    {hP : cnd = 1#1 → ∀ v, P v → ∀ a, rowOff v a + S8x1024.size a ≤ S102400x1024.size a} (hPv : ∀ v : BitVec 32, v.toNat < 12800 → P v) {v3 : BitVec 32} {K : Prg F PUnit} {Q : PUnit → sProp 𝕄} {R : sProp 𝕄}
    (hK : iprop(OutAt c W i s arg9 f9 y (min (8 * (m + 1)) (W.nv s)) ∗ R) ⊢ wpB c K Q) :
    iprop(OutAt c W i s arg9 f9 y (min (8 * m) (W.nv s)) ∗ R) ⊢ wpB c (scatterGroup i v1 v3 h2 arg9 m d hP K) Q := by
  have h228 : s < 228 := by have := hW.L2; omega
  have hn := hW.nv_le s h228
  refine scatter_group hm hn (hW.nv_8 s h228) hcnd h9 (fun j hj => hW.dst_lt s h228 j hj) (fun _ j hj => hPv _ (hW.dst_lt s h228 j (by omega))) ?_ hK
  intro i' x j hj hd h0 h1 h2
  rw [hy x (by rw [h0, parW_eq, hs]) (by omega), hW.G_out (i := i') hsL hj hd.symm, h1]
  congr 1
  exact Fin.ext h2

theorem out_A {Q : PUnit → sProp 𝕄} {R : sProp 𝕄} (hK : iprop(OutAt c W i s arg9 f9 y (min (8 * 5) (W.nv s)) ∗ R) ⊢ Q ⟨⟩) :
    iprop(OutAt c W i s arg9 f9 y 0 ∗ R) ⊢ wpB c (outA i arg9 v1 (wd W.tN s) h2) Q := by
  have h228 : s < 228 := by have := hW.L2; omega
  have hn := hW.nv_le s h228
  unfold outA
  have hstart : (0 : ℕ) = min (8 * 0) (W.nv s) := by omega
  conv_lhs => rw [hstart]
  refine out_group hW hs hsL h9 hy (by decide) (cond9_iff hn) (fun v hv => chk202_ok i v1 _ hv) ?_
  refine out_group hW hs hsL h9 hy (by decide) (cond10_iff hn) (fun v hv => chk210_ok i v1 _ hv) ?_
  refine out_group hW hs hsL h9 hy (by decide) (cond11_iff hn) (fun v hv => chk218_ok i v1 _ hv) ?_
  refine out_group hW hs hsL h9 hy (by decide) (cond12_iff hn) (fun v hv => chk226_ok i v1 _ hv) ?_
  refine out_group hW hs hsL h9 hy (by decide) (cond13_iff hn) (fun v hv => chk234_ok i v1 _ hv) ?_
  exact hK.trans wp_ret_intro

theorem out_B {Q : PUnit → sProp 𝕄} {R : sProp 𝕄} {hw263 : k0_chk263 i v1 (wd W.tN s)} (hK : iprop(OutAt c W i s arg9 f9 y (W.nv s) ∗ R)
      ⊢ wpB c (if h17 : k0_cond17 i v1 = 1#1 then last i v1 (wd W.tN s) hw263 h2 h17 (pure ⟨⟩) else pure ⟨⟩) Q) :
    iprop(OutAt c W i s arg9 f9 y (min (8 * 5) (W.nv s)) ∗ R) ⊢ wpB c (outB i arg9 v1 (wd W.tN s) hw263 h2) Q := by
  have h228 : s < 228 := by have := hW.L2; omega
  have hn := hW.nv_le s h228
  unfold outB
  refine out_group hW hs hsL h9 hy (by decide) (cond14_iff hn) (fun v hv => chk242_ok i v1 _ hv) ?_
  refine out_group hW hs hsL h9 hy (by decide) (cond15_iff hn) (fun v hv => chk250_ok i v1 _ hv) ?_
  refine out_group hW hs hsL h9 hy (by decide) (cond16_iff hn) (fun v hv => chk258_ok i v1 _ hv) ?_
  have : min (8 * (7 + 1)) (W.nv s) = W.nv s := by omega
  rw [this]
  exact hK

end Out

/-! ## The last tile's waits -/

theorem rows_all (c : Dev nD) (W : World F) :
    iprop((rowL c ↦[W.done W.L]{fullShare} W.G) ∗ (rowL c ↦[W.fresh W.L]{fullShare} W.f0)) ⊢ (rowL c ↦{fullShare} W.G : sProp 𝕄) := by
  have h1 : (rowL c ↦[W.fresh W.L]{fullShare} W.f0 : sProp 𝕄) = (rowL c ↦[W.fresh W.L]{fullShare} W.G) :=
    pointsTo_congr fun i hi => (World.G_rest fun t ht j hj => W.mem_fresh.mp hi t ht j hj).symm
  rw [h1, ← World.fresh_done]
  iintro ⟨Hd, Hf⟩
  iapply (pointsTo_split_subset (Finset.subset_univ (W.fresh W.L))).2
  isplitl [Hf]; · iexact Hf
  iexact Hd

theorem wfree_both {c : Dev nD} {k : ℕ} (hk : k < 2) : iprop(WFree (F := F) c (1 - k) ∗ WFree c k) ⊢ iprop(WFree c 0 ∗ WFree c 1) := by
  rcases (show k = 0 ∨ k = 1 by omega) with rfl | rfl
  · exact sep_comm
  · exact .rfl
theorem xfree_both {c : Dev nD} {k : ℕ} (hk : k < 2) : iprop(XFree (F := F) c (1 - k) ∗ XFree c k) ⊢ iprop(XFree c 0 ∗ XFree c 1) := by
  rcases (show k = 0 ∨ k = 1 by omega) with rfl | rfl
  · exact sep_comm
  · exact .rfl
theorem yfree_both {c : Dev nD} {k : ℕ} (hk : k < 2) : iprop(YFree (F := F) c (1 - k) ∗ YFree c k) ⊢ iprop(YFree c 0 ∗ YFree c 1) := by
  rcases (show k = 0 ∨ k = 1 by omega) with rfl | rfl
  · exact sep_comm
  · exact .rfl

theorem xfree_open {c : Dev nD} {k : ℕ} : XFree (F := F) c k ⊢ iprop(semVal ((c : Thread nD τ), .dma (xC k)) 0 ∗ ∃ g, xL c ↦[slot k]{fullShare} g) := by
  unfold XFree; exact .rfl

theorem wmid_last {c : Dev nD} {W : World F} (hW : W.Good) {s : ℕ} (hs : s + 1 = W.L) :
    WPre c W (s + 1) ⊢ iprop((WFree c 0 ∗ WFree c 1) ∗ (∃ g, guSL c ↦{fullShare} g) ∗ (∃ g, dnSL c ↦{fullShare} g) ∗ WHome c W.gu W.dn) := by
  rw [WPre_succ]
  unfold WMid WNext
  have hw : ¬ 0 ≤ (W.wN s).toInt := by
    have := hW.wN_last
    rw [show W.L - 1 = s by omega] at this; omega
  rw [if_neg hw]
  iintro ⟨⟨Hh, Hf⟩, Hg, Hd⟩
  isplitl [Hf]
  · iapply (wfree_both (hW.sl_lt s (by have := hW.L2; omega)))
    iexact Hf
  isplitl [Hg]; · iexists _; iexact Hg
  isplitl [Hd]; · iexists _; iexact Hd
  iexact Hh

theorem last_ok {c : Dev nD} {W : World F} (hW : W.Good) {i : grid0.Coords} {s : ℕ} (hs : (i 0).val = s) (hsL : s + 1 = W.L) {v1 : BitVec 32} {h2 : k0_cond2 i v1 = 1#1}
    {h17 : k0_cond17 i v1 = 1#1} {hw263 : k0_chk263 i v1 (wd W.tN s)} {q : PosShare TreeShare} :
    iprop(Ready c W (s + 1) ∗ (tabN.view.loc (c : Thread nD τ) ↦{q} W.tN) ∗ owe c)
      ⊢ wpB c (last i v1 (wd W.tN s) hw263 h2 h17 (pure ⟨⟩)) fun _ =>
        iprop((Free c W ∗ (rowL c ↦{fullShare} W.G)) ∗ (tabN.view.loc (c : Thread nD τ) ↦{q} W.tN) ∗ owe c) := by
  have h228 : s < 228 := by have := hW.L2; omega
  have hk : s % 2 < 2 := Nat.mod_lt _ (by decide)
  have hoth : (othW i).toNat = 1 - s % 2 := by rw [othW_eq, hs]
  have e1 : (s + 1) % 2 = 1 - s % 2 := by omega
  have e2 : 1 - (1 - s % 2) = s % 2 := by omega
  unfold Ready last
  rw [e1, e2, ← hoth]
  iintro ⟨⟨HX, HXF, HY2, HY1, Hdn, HW⟩, HN, HO⟩
  iapply (then_at (wait_x (S := W.fresh (s + 1)) (f0 := W.f0) (src := W.src (s + 1)) (k := (othW i).toNat) (othW_lt i) (k0_off672_inb i) (k0_off673_inb i) (fun j hj => hW.src_fresh (by omega) hj))) $$ [HX HO]
  · isplitl [HX]; · iexact HX
    iexact HO
  iintro %u ⟨Hr, Hx, Hxs, HO⟩
  have hy1 : YAt c W (s % 2) (s + 1) 1 ⊢ iprop(∃ y, YFly c (s % 2) (W.nv s) W.G y (W.dst s)) := by
    unfold YAt
    rw [if_pos (by omega), Nat.add_sub_cancel]
  ihave HY1 := hy1 $$ HY1
  icases HY1 with ⟨%y, HY1⟩
  iapply (then_at (wait_y (g := W.G) (y := y) (dst := W.dst s) (n := W.nv s) hk (hW.nv_8 s h228) (by rw [off674_eq, hs]) (k0_off674_inb i) (size_eq (hW.nv_le s h228)) (hW.inj (by omega)))) $$ [HY1 HO]
  · isplitl [HY1]; · iexact HY1
    iexact HO
  iintro %u2 ⟨Hr1, Hy1, Hys1, HO⟩
  have hy2 : YAt c W (othW i).toNat (s + 1) 2 ⊢ YAt c W (1 - s % 2) s 1 := by
    rw [hoth]
    unfold YAt
    by_cases h1 : 1 ≤ s
    · rw [if_pos h1, if_pos (by omega), show s + 1 - 2 = s - 1 by omega]
    · rw [if_neg h1, if_neg (by omega)]
  ihave HY2 := hy2 $$ HY2
  iapply (wait_prev (c := c) (q := q) hW h228 (m := 1) (k := 1 - s % 2) (by decide) (by omega) (by omega) (by rw [cond18_iff, hs]) (fun h => by rw [off677_eq i (by omega), hs]) (fun v hv => chk264_ok i v1 hv)
    (by rw [off678_eq, hs]) (fun v hv => size_eq hv)) $$ [HY2 Hdn HN HO]
  · isplitl [HY2]; · iexact HY2
    isplitl [Hdn]; · rw [show s - 1 = s + 1 - 2 by omega]; iexact Hdn
    isplitl [HN]; · iexact HN
    iexact HO
  iintro ⟨HYF, Hdn, HN, HO⟩
  iapply wp_ret_intro
  isplitr [HN HO]
  · ihave Hall := (done_join c hW (s := s) (by omega)) $$ [Hdn Hr1]
    · isplitl [Hdn]; · rw [show s = s + 1 - 1 by omega]; iexact Hdn
      iexact Hr1
    ihave HW := (wmid_last hW hsL) $$ HW
    icases HW with ⟨⟨Hw0, Hw1⟩, Hg, Hd, Hh⟩
    ihave HXX := (xfree_both (k := s % 2) hk) $$ [Hxs Hx HXF]
    · isplitl [Hxs Hx]
      · rw [← hoth]
        unfold XFree
        isplitl [Hxs]; · iexact Hxs
        iexists _; iexact Hx
      iexact HXF
    icases HXX with ⟨Hx0, Hx1⟩
    ihave HYY := (yfree_both (k := s % 2) hk) $$ [HYF Hys1 Hy1]
    · isplitl [HYF]; · iexact HYF
      unfold YFree
      isplitl [Hys1]; · iexact Hys1
      iexact Hy1
    icases HYY with ⟨Hy0, Hy1⟩
    isplitr [Hall Hr]
    · unfold Free
      isplitl [Hx0]; · iexact Hx0
      isplitl [Hx1]; · iexact Hx1
      isplitl [Hy0]; · iexact Hy0
      isplitl [Hy1]; · iexact Hy1
      isplitl [Hw0]; · iexact Hw0
      isplitl [Hw1]; · iexact Hw1
      isplitl [Hg]; · iexact Hg
      isplitl [Hd]; · iexact Hd
      iexact Hh
    · iapply (rows_all c W)
      rw [← hsL]
      isplitl [Hall]; · iexact Hall
      iexact Hr
  isplitl [HN]; · iexact HN
  iexact HO

/-! ## The first tile's copies in -/

theorem first_ok {c : Dev nD} {W : World F} (hW : W.Good) {i : grid0.Coords} {h1 : k0_cond1 i = 1#1} {q : PosShare TreeShare} {arg7 : Memref sig .tc .smem S1x1x64 .i32}
    {f7 : Buf (Elt F) (arg7.view.loc (c : Thread nD τ))}
    (h7 : ∀ j (hj : j < 64), (arg7.view.read (Elt F) f7 (ix3 (⟨0, Nat.one_pos⟩ : Fin 1) (⟨0, Nat.one_pos⟩ : Fin 1) (⟨j, hj⟩ : Fin 64)) : BitVec 32) = W.sw 0 j) :
    iprop((Free c W ∗ (rowL c ↦{fullShare} W.f0)) ∗ (tabE.view.loc (c : Thread nD τ) ↦{q} W.tE) ∗ tabPt c arg7 f7)
      ⊢ wpB c (first i arg7 h1) fun _ => iprop(Ready c W 0 ∗ (tabE.view.loc (c : Thread nD τ) ↦{q} W.tE) ∗ tabPt c arg7 f7) := by
  unfold first Free
  iintro ⟨⟨⟨HX0, Hx1, Hy0, Hy1, Hw0, Hw1, Hg, Hd, Hh⟩, Hr⟩, HE, H7⟩
  ihave HX0 := xfree_open $$ HX0
  icases HX0 with ⟨Hx0s, Hx0⟩
  iapply (then_at (gather_all (tab := arg7) (ft := f7) (f0 := W.f0) (S := W.fresh 0) (k := 0) (by decide) h7
    (fun j hj => hW.src_lt 0 (by decide) j hj) (fun j hj => chk1_ok i (hW.src_lt 0 (by decide) j hj))
    (fun j hj => hW.src_fresh (by omega) hj))) $$ [H7 Hx0s Hx0 Hr]
  · isplitl [H7]; · iexact H7
    isplitl [Hx0s]; · iexact Hx0s
    isplitl [Hx0]; · iexact Hx0
    rw [World.fresh_zero]; iexact Hr
  iintro %u ⟨H7, HX⟩
  iapply (wp_tab (tab := tabE) (ft := W.tE) (s := 0) rfl) $$ [HE]
  · iexact HE
  iintro HE
  iapply (assume_at (chk65_ok i (hW.e_lt 0 (by decide))))
  iapply (then_at (k := fun u => Prog.ret u) (start_w (k := 0) (e := W.e 0) (gu := W.gu) (dn := W.dn) (by decide) (hW.e_lt 0 (by decide)) _ _ _ _ _)) $$ [Hw0 Hh]
  · isplitl [Hw0]; · iexact Hw0
    iexact Hh
  iintro %u2 HF
  iapply wp_ret_intro
  isplitr [HE H7]
  · unfold Ready YAt WPre
    rw [if_neg (by decide), if_neg (by decide), if_pos rfl]
    isplitl [HX]; · iexact HX
    isplitl [Hx1]; · iexact Hx1
    isplitl [Hy0]; · iexact Hy0
    isplitl [Hy1]; · iexact Hy1
    isplitl []
    · rw [World.done_zero, pointsTo_empty]; iempintro
    isplitl [HF]; · iexact HF
    isplitl [Hw1]; · iexact Hw1
    isplitl [Hg]; · iexact Hg
    iexact Hd
  isplitl [HE]; · iexact HE
  iexact H7

end Cert.KernelIdeal.Hand
end
-- ==== Proof.Live.lean ====
/-
  One point of the grid.
-/
module

public import proofs.«01_k».proof.Proof.Ends

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

/-- A live tile's text once its weights are there. -/
def midK (i : grid0.Coords) (arg8 arg9 : Memref sig .tc .smem S1x1x64 .i32) (arg12 : Memref sig .tc .vmem S1x1x2048 .f32) (arg14 : Memref sig .tc .vmem S1x1x1024 .f32)
    (v1 v3 : BitVec 32) (h2 : k0_cond2 i v1 = 1#1) : Prg F PUnit := do
  let v29 : Elt F .i32 ← smemLoad tabH (Rect.unit (s := S228) (k0_off84 i) S1.size (k0_off84_inb i)) numel1_S1 rfl
  let K : Prg F PUnit := do
    let v34 : Elt F .i32 ← smemLoad tabH (Rect.unit (s := S228) (k0_off282 i) S1.size (k0_off282_inb i)) numel1_S1 rfl
    if h7 : k0_cond7 v34 = 1#1 then tileFull i v1 v34 h2 h7 arg8 arg12 arg14 (outA i arg9 v1 v3 h2) else outA i arg9 v1 v3 h2
  if h5 : k0_cond5 v29 = 1#1 then tileHalf i v1 v29 h2 h5 arg8 arg12 arg14 K else K

section
variable (c : Dev nD) (W : World F) (i : grid0.Coords) (s : ℕ) (q q' q'' : PosShare TreeShare) (arg8 arg9 : Memref sig .tc .smem S1x1x64 .i32)
  (arg12 : Memref sig .tc .vmem S1x1x2048 .f32) (arg14 : Memref sig .tc .vmem S1x1x1024 .f32) (f8 : Buf (Elt F) (arg8.view.loc (c : Thread nD τ)))
  (f9 : Buf (Elt F) (arg9.view.loc (c : Thread nD τ))) (f12 : Buf (Elt F) (arg12.view.loc (c : Thread nD τ))) (f14 : Buf (Elt F) (arg14.view.loc (c : Thread nD τ)))

/-- What stays aside while a tile is computed, -/
def Aside : sProp 𝕄 :=
  iprop(semVal ((c : Thread nD τ), .dma (xC (s % 2))) 0 ∗ tabPt c arg9 f9 ∗ YAt c W (1 - s % 2) s 1 ∗ WNext c (W.wN s) (W.sl s) W.gu W.dn
    ∗ (rowL c ↦[W.out s]{fullShare} W.f0))
/-- and what stays aside while its results are copied out. -/
def After : sProp 𝕄 :=
  iprop(TileIn c W s q q' q'' arg8 arg12 arg14 f8 f12 f14 ∗ XFly c (1 - s % 2) (W.fresh (s + 1)) W.f0 (W.src (s + 1)) ∗ XFree c (s % 2)
    ∗ (∃ h, yL c ↦[slot (s % 2) \ used (s % 2) (W.nv s)]{fullShare} h) ∗ (rowL c ↦[W.done (s - 1)]{fullShare} W.G) ∗ YAt c W (1 - s % 2) s 1
    ∗ WNext c (W.wN s) (W.sl s) W.gu W.dn ∗ (tabH.view.loc (c : Thread nD τ) ↦{q} W.tH))
/-- The state once the first five groups of copies out have been started. -/
def MidOut : sProp 𝕄 :=
  iprop(∃ y, ⌜Holds W s y⌝ ∗ OutAt c W i s arg9 f9 y (min (8 * 5) (W.nv s)) ∗ After c W s q q' q'' arg8 arg12 arg14 f8 f12 f14)
end

section
variable {c : Dev nD} {W : World F} (hW : W.Good) {i : grid0.Coords} {s : ℕ} (hs : (i 0).val = s) (hsL : s < W.L) {v1 : BitVec 32} {h2 : k0_cond2 i v1 = 1#1}
  {q q' q'' : PosShare TreeShare} {arg8 arg9 : Memref sig .tc .smem S1x1x64 .i32}
  {arg12 : Memref sig .tc .vmem S1x1x2048 .f32} {arg14 : Memref sig .tc .vmem S1x1x1024 .f32} {f8 : Buf (Elt F) (arg8.view.loc (c : Thread nD τ))}
  {f9 : Buf (Elt F) (arg9.view.loc (c : Thread nD τ))} {f12 : Buf (Elt F) (arg12.view.loc (c : Thread nD τ))} {f14 : Buf (Elt F) (arg14.view.loc (c : Thread nD τ))}
  (h8 : ∀ j (hj : j < 64), (arg8.view.read (Elt F) f8 (ix3 (⟨0, Nat.one_pos⟩ : Fin 1) (⟨0, Nat.one_pos⟩ : Fin 1) (⟨j, hj⟩ : Fin 64)) : BitVec 32) = W.sw (s + 1) j)
  (h9 : ∀ j (hj : j < 64), (arg9.view.read (Elt F) f9 (ix3 (⟨0, Nat.one_pos⟩ : Fin 1) (⟨0, Nat.one_pos⟩ : Fin 1) (⟨j, hj⟩ : Fin 64)) : BitVec 32) = W.dw s j)
  (h12 : arg12.view.read (Elt F) f12 = W.bG s) (h14 : arg14.view.read (Elt F) f14 = W.bD s)
include hW hs hsL

include h9 in
/-- From a tile's results to its copies out. -/
theorem outA_start {y : S2x512x1024.Idx → Elt F .f32} (hy : Holds W s y) {Q : PUnit → sProp 𝕄}
    (hQ : MidOut c W i s q q' q'' arg8 arg9 arg12 arg14 f8 f9 f12 f14 ⊢ Q ⟨⟩) :
    iprop(TileIn c W s q q' q'' arg8 arg12 arg14 f8 f12 f14 ∗ XFly c (1 - s % 2) (W.fresh (s + 1)) W.f0 (W.src (s + 1)) ∗ (∃ g, xL c ↦[slot (s % 2)]{fullShare} g)
        ∗ semVal ((c : Thread nD τ), .dma (yC (s % 2))) 0 ∗ (yL c ↦[slot (s % 2)]{fullShare} y) ∗ (rowL c ↦[W.done (s - 1)]{fullShare} W.G)
        ∗ Aside c W s arg9 f9 ∗ (tabH.view.loc (c : Thread nD τ) ↦{q} W.tH))
      ⊢ wpB c (outA i arg9 v1 (wd W.tN s) h2) Q := by
  have hpar : (parW i).toNat = s % 2 := by rw [parW_eq, hs]
  have hout := out_A hW hs hsL h9 hy (v1 := v1) (h2 := h2) (Q := Q) (R := After c W s q q' q'' arg8 arg12 arg14 f8 f12 f14) (by
    refine BIBase.Entails.trans ?_ hQ
    unfold MidOut
    iintro ⟨H1, H2⟩
    iexists y
    isplitr; · ipureintro; exact hy
    isplitl [H1]; · iexact H1
    iexact H2)
  unfold Aside
  iintro ⟨HT, HX, Hx, Hys, Hy, Hdn, ⟨Hxs, H9, HY1, HW, Hro⟩, HH⟩
  imod (yout_start (c := c) (tab := arg9) (ft := f9) (k := (parW i).toNat) (n := W.nv s) (f0 := W.f0) (g := W.G) (y := y) (dst := fun j => (W.dw s j).toNat) (hW.inj hsL)) $$ [H9 Hys Hy Hro] with HYO
  · rw [hpar]
    isplitl [H9]; · iexact H9
    isplitl [Hys]; · iexact Hys
    isplitl [Hy]; · iexact Hy
    iexact Hro
  icases HYO with ⟨HYO, Hrest⟩
  iapply hout
  isplitl [HYO]; · iexact HYO
  unfold After XFree
  isplitl [HT]; · iexact HT
  isplitl [HX]; · iexact HX
  isplitl [Hxs Hx]
  · isplitl [Hxs]; · iexact Hxs
    iexact Hx
  isplitl [Hrest]; · rw [← hpar]; iexact Hrest
  isplitl [Hdn]; · iexact Hdn
  isplitl [HY1]; · iexact HY1
  isplitl [HW]; · iexact HW
  iexact HH

include h8 h9 h12 h14 in
/-- A live tile once its weights are there. -/
theorem mid_ok {Q : PUnit → sProp 𝕄} (hQ : MidOut c W i s q q' q'' arg8 arg9 arg12 arg14 f8 f9 f12 f14 ⊢ Q ⟨⟩) :
    iprop(TileIn c W s q q' q'' arg8 arg12 arg14 f8 f12 f14 ∗ XFree c (1 - s % 2) ∗ (rowL c ↦[W.fresh (s + 1)]{fullShare} W.f0) ∗ (xL c ↦[slot (s % 2)]{fullShare} gath W.f0 (W.src s))
        ∗ YAt c W (s % 2) s 2 ∗ (rowL c ↦[W.done (s - 2)]{fullShare} W.G) ∗ Aside c W s arg9 f9 ∗ (tabH.view.loc (c : Thread nD τ) ↦{q} W.tH))
      ⊢ wpB c (midK i arg8 arg9 arg12 arg14 v1 (wd W.tN s) h2) Q := by
  have ho : k0_off84 i = ![s] := by rw [← hs]; exact off1_eq i
  have h228 : s < 228 := by have := hW.L2; omega
  unfold midK
  iintro ⟨HT, HX, Hr, Hx, HY, Hdn, HA, HH⟩
  iapply (wp_tab (tab := tabH) (ft := W.tH) ho) $$ [HH]
  · iexact HH
  iintro HH
  rcases hW.half s h228 with hh | ⟨hh, -⟩
  · have h5 : ¬ k0_cond5 (wd W.tH s) = 1#1 := by rw [cond5_iff, hh]; decide
    have h7 : k0_cond7 (wd W.tH s) = 1#1 := by rw [cond7_iff, hh]
    iapply (if_neg_at h5)
    iapply (wp_tab (tab := tabH) (ft := W.tH) ho) $$ [HH]
    · iexact HH
    iintro HH
    iapply (if_pos_at h7)
    iapply (tile_full hW hs hsL hh h8 h12 h14 (R := iprop(Aside c W s arg9 f9 ∗ (tabH.view.loc (c : Thread nD τ) ↦{q} W.tH)))
      (fun y hy => outA_start hW hs hsL h9 hy hQ))
    isplitl [HT]; · iexact HT
    isplitl [HX]; · iexact HX
    isplitl [Hr]; · iexact Hr
    isplitl [Hx]; · iexact Hx
    isplitl [HY]; · iexact HY
    isplitl [Hdn]; · iexact Hdn
    isplitl [HA]; · iexact HA
    iexact HH
  · have h5 : k0_cond5 (wd W.tH s) = 1#1 := by rw [cond5_iff, hh]
    have h7 : ¬ k0_cond7 (wd W.tH s) = 1#1 := by rw [cond7_iff, hh]; decide
    iapply (if_pos_at h5)
    iapply (tile_half hW hs hsL hh h8 h12 h14 (R := iprop(Aside c W s arg9 f9 ∗ (tabH.view.loc (c : Thread nD τ) ↦{q} W.tH)))
      (fun y hy => by
        iintro ⟨HT, HX, Hx, Hys, Hy, Hdn, HA, HH⟩
        iapply (wp_tab (tab := tabH) (ft := W.tH) ho) $$ [HH]
        · iexact HH
        iintro HH
        iapply (if_neg_at h7)
        iapply (outA_start hW hs hsL h9 hy hQ)
        isplitl [HT]; · iexact HT
        isplitl [HX]; · iexact HX
        isplitl [Hx]; · iexact Hx
        isplitl [Hys]; · iexact Hys
        isplitl [Hy]; · iexact Hy
        isplitl [Hdn]; · iexact Hdn
        isplitl [HA]; · iexact HA
        iexact HH))
    isplitl [HT]; · iexact HT
    isplitl [HX]; · iexact HX
    isplitl [Hr]; · iexact Hr
    isplitl [Hx]; · iexact Hx
    isplitl [HY]; · iexact HY
    isplitl [Hdn]; · iexact Hdn
    isplitl [HA]; · iexact HA
    iexact HH

include h8 h9 h12 h14 in
/-- The same, with what it does not touch, one conjunct after another. -/
theorem mid_flat :
    iprop((guSL c ↦{fullShare} guC W.gu (W.e s)) ∗ (dnSL c ↦{fullShare} dnC W.dn (W.e s)) ∗ WNext c (W.wN s) (W.sl s) W.gu W.dn ∗ owe c
        ∗ (tabW.view.loc (c : Thread nD τ) ↦{q} W.tW) ∗ XFree c (1 - s % 2) ∗ (rowL c ↦[W.fresh (s + 1)]{fullShare} W.f0) ∗ (xL c ↦[slot (s % 2)]{fullShare} gath W.f0 (W.src s))
        ∗ YAt c W (s % 2) s 2 ∗ (rowL c ↦[W.done (s - 2)]{fullShare} W.G)
        ∗ semVal ((c : Thread nD τ), .dma (xC (s % 2))) 0 ∗ tabPt c arg9 f9 ∗ YAt c W (1 - s % 2) s 1 ∗ (rowL c ↦[W.out s]{fullShare} W.f0)
        ∗ (tabH.view.loc (c : Thread nD τ) ↦{q} W.tH) ∗ tabPt c arg8 f8 ∗ (arg12.view.loc (c : Thread nD τ) ↦[arg12.view.set]{q'} f12)
        ∗ (arg14.view.loc (c : Thread nD τ) ↦[arg14.view.set]{q''} f14) ∗ (tabN.view.loc (c : Thread nD τ) ↦{q} W.tN))
      ⊢ wpB c (midK i arg8 arg9 arg12 arg14 v1 (wd W.tN s) h2) fun _ =>
        iprop(MidOut c W i s q q' q'' arg8 arg9 arg12 arg14 f8 f9 f12 f14 ∗ (tabW.view.loc (c : Thread nD τ) ↦{q} W.tW)) := by
  have hmid := mid_ok hW hs hsL h8 h9 h12 h14 (v1 := v1) (h2 := h2) (q := q) (q' := q') (q'' := q'') (Q := fun _ => MidOut c W i s q q' q'' arg8 arg9 arg12 arg14 f8 f9 f12 f14) .rfl
  iintro ⟨Hg, Hd, HW, HO, HTW, HXF, Hrf, Hx, HY2, Hdn, Hxs, H9, HY1, Hro, HH, H8, H12, H14, HN⟩
  iapply wpB_frame
  isplitr [HTW]
  · iapply hmid
    unfold TileIn Aside
    isplitl [H8 Hg Hd H12 H14 HN HO]
    · isplitl [H8]; · iexact H8
      isplitl [Hg]; · iexact Hg
      isplitl [Hd]; · iexact Hd
      isplitl [H12]; · iexact H12
      isplitl [H14]; · iexact H14
      isplitl [HN]; · iexact HN
      iexact HO
    isplitl [HXF]; · iexact HXF
    isplitl [Hrf]; · iexact Hrf
    isplitl [Hx]; · iexact Hx
    isplitl [HY2]; · iexact HY2
    isplitl [Hdn]; · iexact Hdn
    isplitr [HH]
    · isplitl [Hxs]; · iexact Hxs
      isplitl [H9]; · iexact H9
      isplitl [HY1]; · iexact HY1
      isplitl [HW]; · iexact HW
      iexact Hro
    iexact HH
  iexact HTW

set_option maxHeartbeats 1000000 in
include h8 h9 h12 h14 in
/-- A live tile up to its fifth group of copies out. -/
theorem live_A {hw66 : k0_chk66 i v1 (wd W.tE s) (wd W.tE (s - 1)) (wd W.tS s)} :
    iprop(Ready c W s ∗ tabPt c arg8 f8 ∗ tabPt c arg9 f9 ∗ (arg12.view.loc (c : Thread nD τ) ↦[arg12.view.set]{q'} f12) ∗ (arg14.view.loc (c : Thread nD τ) ↦[arg14.view.set]{q''} f14)
        ∗ (tabN.view.loc (c : Thread nD τ) ↦{q} W.tN) ∗ (tabH.view.loc (c : Thread nD τ) ↦{q} W.tH) ∗ (tabW.view.loc (c : Thread nD τ) ↦{q} W.tW) ∗ owe c)
      ⊢ wpB c (liveA i arg8 arg9 arg12 arg14 v1 (wd W.tN s) (wd W.tE s) (wd W.tE (s - 1)) (wd W.tS s) hw66 h2) fun _ =>
        iprop(MidOut c W i s q q' q'' arg8 arg9 arg12 arg14 f8 f9 f12 f14 ∗ (tabW.view.loc (c : Thread nD τ) ↦{q} W.tW)) := by
  have h228 : s < 228 := by have := hW.L2; omega
  have hpar : (parW i).toNat = s % 2 := by rw [parW_eq, hs]
  have hflat := mid_flat hW hs hsL h8 h9 h12 h14 (v1 := v1) (h2 := h2) (q := q) (q' := q') (q'' := q'')
  unfold Ready liveA
  rw [← hpar]
  iintro ⟨⟨HX, HXF, HY2, HY1, Hdn, HW⟩, H8, H9, H12, H14, HN, HH, HTW, HO⟩
  iapply (then_at (wait_x (S := W.fresh s) (f0 := W.f0) (src := W.src s) (k := (parW i).toNat) (parW_lt i) (k0_off69_inb i) (k0_off70_inb i) (fun j hj => hW.src_fresh (by omega) hj))) $$ [HX HO]
  · isplitl [HX]; · iexact HX
    iexact HO
  iintro %u ⟨Hr, Hx, Hxs, HO⟩
  have hr : (rowL c ↦[W.fresh s]{fullShare} W.f0) ⊢ iprop((rowL c ↦[W.out s]{fullShare} W.f0) ∗ (rowL c ↦[W.fresh (s + 1)]{fullShare} W.f0) : sProp 𝕄) := by
    rw [← World.fresh_succ]
    exact (pointsTo_split_subset (hW.out_fresh hsL)).1
  ihave Hr := hr $$ Hr
  icases Hr with ⟨Hro, Hrf⟩
  by_cases h3 : k0_cond3 i (wd W.tE s) (wd W.tE (s - 1)) = 1#1
  · have h3' := (cond3_iff i).mp h3
    rw [hs] at h3'
    ihave HW := (wpre_new hW hsL h3') $$ HW
    icases HW with ⟨HF, Hf, Hg, Hd⟩
    iapply (if_pos_at h3)
    iapply (new_expert hs (hW.sl_lt s h228) (hW.e_lt s h228) (hW.wN_lt s h228)
      (R := iprop(XFree c (1 - s % 2) ∗ (rowL c ↦[W.fresh (s + 1)]{fullShare} W.f0) ∗ (xL c ↦[slot (s % 2)]{fullShare} gath W.f0 (W.src s))
        ∗ YAt c W (s % 2) s 2 ∗ (rowL c ↦[W.done (s - 2)]{fullShare} W.G)
        ∗ semVal ((c : Thread nD τ), .dma (xC (s % 2))) 0 ∗ tabPt c arg9 f9 ∗ YAt c W (1 - s % 2) s 1 ∗ (rowL c ↦[W.out s]{fullShare} W.f0)
        ∗ (tabH.view.loc (c : Thread nD τ) ↦{q} W.tH) ∗ tabPt c arg8 f8 ∗ (arg12.view.loc (c : Thread nD τ) ↦[arg12.view.set]{q'} f12)
        ∗ (arg14.view.loc (c : Thread nD τ) ↦[arg14.view.set]{q''} f14) ∗ (tabN.view.loc (c : Thread nD τ) ↦{q} W.tN))) hflat)
    rw [hpar]
    isplitl [HF]; · iexact HF
    isplitl [Hf]; · iexact Hf
    isplitl [Hg]; · iexact Hg
    isplitl [Hd]; · iexact Hd
    isplitl [HO]; · iexact HO
    isplitl [HTW]; · iexact HTW
    isplitl [HXF]; · iexact HXF
    isplitl [Hrf]; · iexact Hrf
    isplitl [Hx]; · iexact Hx
    isplitl [HY2]; · iexact HY2
    isplitl [Hdn]; · iexact Hdn
    isplitl [Hxs]; · iexact Hxs
    isplitl [H9]; · iexact H9
    isplitl [HY1]; · iexact HY1
    isplitl [Hro]; · iexact Hro
    isplitl [HH]; · iexact HH
    isplitl [H8]; · iexact H8
    isplitl [H12]; · iexact H12
    isplitl [H14]; · iexact H14
    iexact HN
  · have h3' : ¬ (s = 0 ∨ wd W.tE s ≠ wd W.tE (s - 1)) := by rw [← hs]; rw [← hs] at h3; exact fun h => h3 ((cond3_iff i).mpr h)
    have hsame : wd W.tE s = wd W.tE (s - 1) := by by_contra hc; exact h3' (.inr hc)
    ihave HW := (wpre_same hW hsL (fun h => h3' (.inl h)) hsame) $$ HW
    unfold WMid
    icases HW with ⟨HW, Hg, Hd⟩
    iapply (if_neg_at h3)
    iapply hflat
    rw [hpar]
    isplitl [Hg]; · iexact Hg
    isplitl [Hd]; · iexact Hd
    isplitl [HW]; · iexact HW
    isplitl [HO]; · iexact HO
    isplitl [HTW]; · iexact HTW
    isplitl [HXF]; · iexact HXF
    isplitl [Hrf]; · iexact Hrf
    isplitl [Hx]; · iexact Hx
    isplitl [HY2]; · iexact HY2
    isplitl [Hdn]; · iexact Hdn
    isplitl [Hxs]; · iexact Hxs
    isplitl [H9]; · iexact H9
    isplitl [HY1]; · iexact HY1
    isplitl [Hro]; · iexact Hro
    isplitl [HH]; · iexact HH
    isplitl [H8]; · iexact H8
    isplitl [H12]; · iexact H12
    isplitl [H14]; · iexact H14
    iexact HN

end

end Cert.KernelIdeal.Hand
end
-- ==== Proof.Point.lean ====
/-
  The body at every point of the grid.
-/
module

public import proofs.«01_k».proof.Proof.Live

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

theorem off2_all (i : grid0.Coords) : k0_off2 i = ![(i 0).val - 1] := by
  by_cases h : 1 ≤ (i 0).val
  · exact off2_eq i h
  · have h0 : (i 0).val = 0 := by omega
    show ![(Scalar.maxsi (Scalar.subi (BitVec.ofNat 32 (i 0).val) (BitVec.ofNat 32 1)) 0#32).toNat] = _
    rw [h0]; decide

/-- The word of a table of one. -/
theorem wp_tabL {c : Dev nD} {W : World F} {h : ∀ a, (![0] : Fin 1 → ℕ) a + S1.size a ≤ S1.size a} {h1 : (Rect.unit (s := S1) ![0] S1.size h).shape.numel = 1} {hp : EltTy.i32.packing = 1}
    {β : Type} {k : Elt F .i32 → Prg F β} {q : PosShare TreeShare} {Q : β → sProp 𝕄} :
    (tabL.view.loc (c : Thread nD τ) ↦{q} W.tL)
      ⊢ iprop(((tabL.view.loc (c : Thread nD τ) ↦{q} W.tL) -∗ wpB c (k W.vL) Q)
          -∗ wpB c (smemLoad tabL (Rect.unit (s := S1) ![0] S1.size h) h1 hp >>= k) Q) := by
  have := wp_smemLoadElt (Γ := .empty) (defs := defs₀ (F := F)) (m := tabL) (r := Rect.unit (s := S1) ![0] S1.size h) (f := W.tL) (hw := View.loads_smem_one hp h1)
    (x := Shape.Idx.first (h1.symm ▸ Nat.one_pos)) (k := fun a => k a) (S := Finset.univ) (q := q) (Q := Q) Variants.none (c : Thread nD τ) none Set.univ (Finset.subset_univ _)
  have hr : (tabL.access (Rect.unit (s := S1) ![0] S1.size h)).read (Elt F) W.tL (Shape.Idx.first (h1.symm ▸ Nat.one_pos)) = W.vL := by
    have hsub : ∀ x y : S1.Idx, x = y := fun x y => by
      funext a
      apply Fin.ext
      have hx : (x a).val < 1 := by
        fin_cases a; exact (x 0).isLt
      have hy : (y a).val < 1 := by
        fin_cases a; exact (y 0).isLt
      omega
    exact congrArg W.tL (hsub _ _)
  rw [hr] at this
  exact this

/-- What is held before point `s`. -/
def Phi (c : Dev nD) (W : World F) (s : ℕ) : sProp 𝕄 :=
  if s = 0 then iprop(Free c W ∗ (rowL c ↦{fullShare} W.f0))
  else if s < W.L then Ready c W s else iprop(Free c W ∗ (rowL c ↦{fullShare} W.G))

section
variable {c : Dev nD} {W : World F} (hW : W.Good) {i : grid0.Coords} {s : ℕ} (hs : (i 0).val = s)
  {q q' q'' : PosShare TreeShare} {arg7 arg8 arg9 : Memref sig .tc .smem S1x1x64 .i32}
  {arg12 : Memref sig .tc .vmem S1x1x2048 .f32} {arg14 : Memref sig .tc .vmem S1x1x1024 .f32} {f7 : Buf (Elt F) (arg7.view.loc (c : Thread nD τ))} {f8 : Buf (Elt F) (arg8.view.loc (c : Thread nD τ))}
  {f9 : Buf (Elt F) (arg9.view.loc (c : Thread nD τ))} {f12 : Buf (Elt F) (arg12.view.loc (c : Thread nD τ))} {f14 : Buf (Elt F) (arg14.view.loc (c : Thread nD τ))}
  (h7 : ∀ j (hj : j < 64), (arg7.view.read (Elt F) f7 (ix3 (⟨0, Nat.one_pos⟩ : Fin 1) (⟨0, Nat.one_pos⟩ : Fin 1) (⟨j, hj⟩ : Fin 64)) : BitVec 32) = W.sw s j)
  (h8 : s < W.L → ∀ j (hj : j < 64), (arg8.view.read (Elt F) f8 (ix3 (⟨0, Nat.one_pos⟩ : Fin 1) (⟨0, Nat.one_pos⟩ : Fin 1) (⟨j, hj⟩ : Fin 64)) : BitVec 32) = W.sw (s + 1) j)
  (h9 : ∀ j (hj : j < 64), (arg9.view.read (Elt F) f9 (ix3 (⟨0, Nat.one_pos⟩ : Fin 1) (⟨0, Nat.one_pos⟩ : Fin 1) (⟨j, hj⟩ : Fin 64)) : BitVec 32) = W.dw s j)
  (h12 : arg12.view.read (Elt F) f12 = W.bG s) (h14 : arg14.view.read (Elt F) f14 = W.bD s)
include hW hs

omit hW in
/-- With the last copy out started, all is as the next tile needs it. -/
theorem after_ready {y : S2x512x1024.Idx → Elt F .f32} :
    iprop(OutAt c W i s arg9 f9 y (W.nv s) ∗ After c W s q q' q'' arg8 arg12 arg14 f8 f12 f14)
      ⊢ iprop(Ready c W (s + 1) ∗ tabPt c arg8 f8 ∗ tabPt c arg9 f9 ∗ (arg12.view.loc (c : Thread nD τ) ↦[arg12.view.set]{q'} f12)
        ∗ (arg14.view.loc (c : Thread nD τ) ↦[arg14.view.set]{q''} f14) ∗ (tabN.view.loc (c : Thread nD τ) ↦{q} W.tN) ∗ (tabH.view.loc (c : Thread nD τ) ↦{q} W.tH) ∗ owe c) := by
  have hpar : (parW i).toNat = s % 2 := by rw [parW_eq, hs]
  have e1 : (s + 1) % 2 = 1 - s % 2 := by omega
  have e2 : 1 - (1 - s % 2) = s % 2 := by omega
  have hy2 : YAt c W (1 - s % 2) s 1 ⊢ YAt c W (1 - s % 2) (s + 1) 2 := by
    unfold YAt
    by_cases h1 : 1 ≤ s
    · rw [if_pos h1, if_pos (by omega), show s + 1 - 2 = s - 1 by omega]
    · rw [if_neg h1, if_neg (by omega)]
  have hy1 : YFly c (s % 2) (W.nv s) W.G y (fun j => (W.dw s j).toNat) ⊢ YAt c W (s % 2) (s + 1) 1 := by
    unfold YAt
    rw [if_pos (by omega), Nat.add_sub_cancel]
    exact exists_intro (Φ := fun y => YFly c (s % 2) (W.nv s) W.G y (W.dst s)) y
  unfold After TileIn OutAt
  iintro ⟨HO, ⟨H8, Hg, Hd, H12, H14, HN, HOw⟩, HX, HXF, Hrest, Hdn, HY1, HW, HH⟩
  ihave HO := yout_done $$ [HO Hrest]
  · isplitl [HO]; · iexact HO
    rw [hpar]; iexact Hrest
  icases HO with ⟨H9, HYF⟩
  isplitl [HX HXF HYF Hdn HY1 HW Hg Hd]
  · unfold Ready
    rw [e1, e2, WPre_succ, show s + 1 - 2 = s - 1 by omega]
    isplitl [HX]; · iexact HX
    isplitl [HXF]; · iexact HXF
    isplitl [HY1]; · iapply hy2; iexact HY1
    isplitl [HYF]; · iapply hy1; rw [← hpar]; iexact HYF
    isplitl [Hdn]; · iexact Hdn
    unfold WMid
    isplitl [HW]; · iexact HW
    isplitl [Hg]; · iexact Hg
    iexact Hd
  isplitl [H8]; · iexact H8
  isplitl [H9]; · iexact H9
  isplitl [H12]; · iexact H12
  isplitl [H14]; · iexact H14
  isplitl [HN]; · iexact HN
  isplitl [HH]; · iexact HH
  iexact HOw

/-- A live tile ends with its successor's state, or with everything at rest. -/
theorem end_ok (hsL : s < W.L) {h2 : k0_cond2 i W.vL = 1#1} {hw263 : k0_chk263 i W.vL (wd W.tN s)} :
    iprop(Ready c W (s + 1) ∗ (tabN.view.loc (c : Thread nD τ) ↦{q} W.tN) ∗ owe c)
      ⊢ wpB c (if h17 : k0_cond17 i W.vL = 1#1 then last i W.vL (wd W.tN s) hw263 h2 h17 (pure ⟨⟩) else pure ⟨⟩) fun _ =>
        iprop(Phi c W (s + 1) ∗ (tabN.view.loc (c : Thread nD τ) ↦{q} W.tN) ∗ owe c) := by
  have hL2 : W.vL.toNat < 228 := hW.L2
  have hL1 : 1 ≤ W.vL.toNat := hW.L1
  unfold Phi
  rw [if_neg (Nat.succ_ne_zero s)]
  by_cases h17 : k0_cond17 i W.vL = 1#1
  · have hlast : s + 1 = W.L := by
      have := (cond17_iff i hL2 hL1).mp h17
      rw [hs] at this
      have e : W.L = W.vL.toNat := rfl
      omega
    rw [if_neg (by omega), dif_pos h17]
    exact last_ok hW hs hlast
  · have hlt : s + 1 < W.L := by
      have : ¬ s = W.vL.toNat - 1 := fun h => h17 ((cond17_iff i hL2 hL1).mpr (hs.trans h))
      have e : W.L = W.vL.toNat := rfl
      omega
    rw [if_pos hlt, dif_neg h17]
    iintro H
    iapply wp_ret_intro
    iexact H

include h8 h9 h12 h14 in
set_option maxHeartbeats 1000000 in
theorem rest_ok (hsL : s < W.L) {h2 : k0_cond2 i W.vL = 1#1} {hw263 : k0_chk263 i W.vL (wd W.tN s)} {hw66 : k0_chk66 i W.vL (wd W.tE s) (wd W.tE (s - 1)) (wd W.tS s)} :
    iprop(Ready c W s ∗ Tabs c W q ∗ tabPt c arg7 f7 ∗ tabPt c arg8 f8 ∗ tabPt c arg9 f9 ∗ (arg12.view.loc (c : Thread nD τ) ↦[arg12.view.set]{q'} f12)
        ∗ (arg14.view.loc (c : Thread nD τ) ↦[arg14.view.set]{q''} f14) ∗ owe c)
      ⊢ wpB c (do
          liveA i arg8 arg9 arg12 arg14 W.vL (wd W.tN s) (wd W.tE s) (wd W.tE (s - 1)) (wd W.tS s) hw66 h2
          outB i arg9 W.vL (wd W.tN s) hw263 h2) fun _ =>
        iprop(Phi c W (s + 1) ∗ Tabs c W q ∗ tabPt c arg7 f7 ∗ tabPt c arg8 f8 ∗ tabPt c arg9 f9 ∗ (arg12.view.loc (c : Thread nD τ) ↦[arg12.view.set]{q'} f12)
        ∗ (arg14.view.loc (c : Thread nD τ) ↦[arg14.view.set]{q''} f14) ∗ owe c) := by
  have hend := end_ok (c := c) hW hs hsL (h2 := h2) (hw263 := hw263) (q := q)
  unfold Tabs
  iintro ⟨HR, ⟨HL, HE, HN, HH, HS, HTW⟩, H7, H8, H9, H12, H14, HO⟩
  iapply (then_at (live_A hW hs hsL (h8 hsL) h9 h12 h14 (h2 := h2) (hw66 := hw66) (q := q) (q' := q') (q'' := q''))) $$ [HR HN HH HTW H8 H9 H12 H14 HO]
  · isplitl [HR]; · iexact HR
    isplitl [H8]; · iexact H8
    isplitl [H9]; · iexact H9
    isplitl [H12]; · iexact H12
    isplitl [H14]; · iexact H14
    isplitl [HN]; · iexact HN
    isplitl [HH]; · iexact HH
    isplitl [HTW]; · iexact HTW
    iexact HO
  unfold MidOut
  iintro %u ⟨⟨%y, %hy, HOut, HA⟩, HTW⟩
  iapply (out_B hW hs hsL h9 hy (R := iprop(After c W s q q' q'' arg8 arg12 arg14 f8 f12 f14 ∗ (tabL.view.loc (c : Thread nD τ) ↦{q} W.tL)
      ∗ (tabE.view.loc (c : Thread nD τ) ↦{q} W.tE) ∗ (tabS.view.loc (c : Thread nD τ) ↦{q} W.tS) ∗ (tabW.view.loc (c : Thread nD τ) ↦{q} W.tW) ∗ tabPt c arg7 f7)) (by
      iintro ⟨HOut, HA, HL, HE, HS, HTW, H7⟩
      ihave HA := (after_ready hs) $$ [HOut HA]
      · isplitl [HOut]; · iexact HOut
        iexact HA
      icases HA with ⟨HR, H8, H9, H12, H14, HN, HH, HO⟩
      iapply (wp_wand _ _ _) $$ [HR HN HO]
      · iapply hend
        isplitl [HR]; · iexact HR
        isplitl [HN]; · iexact HN
        iexact HO
      iintro %u ⟨HP, HN, HO⟩
      isplitl [HP]; · iexact HP
      isplitl [HL HE HN HH HS HTW]
      · isplitl [HL]; · iexact HL
        isplitl [HE]; · iexact HE
        isplitl [HN]; · iexact HN
        isplitl [HH]; · iexact HH
        isplitl [HS]; · iexact HS
        iexact HTW
      isplitl [H7]; · iexact H7
      isplitl [H8]; · iexact H8
      isplitl [H9]; · iexact H9
      isplitl [H12]; · iexact H12
      isplitl [H14]; · iexact H14
      iexact HO))
  isplitl [HOut]; · iexact HOut
  isplitl [HA]; · iexact HA
  isplitl [HL]; · iexact HL
  isplitl [HE]; · iexact HE
  isplitl [HS]; · iexact HS
  isplitl [HTW]; · iexact HTW
  iexact H7

include h7 h8 h9 h12 h14 in
set_option maxHeartbeats 1000000 in
/-- The body at point `s`. -/
theorem body_ok :
    iprop(Phi c W s ∗ Tabs c W q ∗ tabPt c arg7 f7 ∗ tabPt c arg8 f8 ∗ tabPt c arg9 f9 ∗ (arg12.view.loc (c : Thread nD τ) ↦[arg12.view.set]{q'} f12)
        ∗ (arg14.view.loc (c : Thread nD τ) ↦[arg14.view.set]{q''} f14) ∗ owe c)
      ⊢ wpB c (ffnBody i arg7 arg8 arg9 arg12 arg14) fun _ =>
        iprop(Phi c W (s + 1) ∗ Tabs c W q ∗ tabPt c arg7 f7 ∗ tabPt c arg8 f8 ∗ tabPt c arg9 f9 ∗ (arg12.view.loc (c : Thread nD τ) ↦[arg12.view.set]{q'} f12)
        ∗ (arg14.view.loc (c : Thread nD τ) ↦[arg14.view.set]{q''} f14) ∗ owe c) := by
  have h228 : s < 228 := hs ▸ pt_lt i
  have hL2 : W.vL.toNat < 228 := hW.L2
  have hL1 : 1 ≤ W.vL.toNat := hW.L1
  have hLe : W.L = W.vL.toNat := rfl
  have ho1 : k0_off1 i = ![s] := by rw [← hs]; exact off1_eq i
  have ho2 : k0_off2 i = ![s - 1] := by rw [← hs]; exact off2_all i
  have hc2 := cond2_iff i hL2
  rw [hs] at hc2
  unfold ffnBody Tabs
  iintro ⟨HP, ⟨HL, HE, HN, HH, HS, HTW⟩, H7, H8, H9, H12, H14, HO⟩
  iapply (wp_tabL (W := W)) $$ [HL]
  · iexact HL
  iintro HL
  iapply (wp_tab (tab := tabN) (ft := W.tN) ho1) $$ [HN]
  · iexact HN
  iintro HN
  iapply (assume_at (chk263_ok i _ (hW.nv_le s h228)))
  iapply (wp_tab (tab := tabE) (ft := W.tE) ho1) $$ [HE]
  · iexact HE
  iintro HE
  iapply (wp_tab (tab := tabE) (ft := W.tE) ho2) $$ [HE]
  · iexact HE
  iintro HE
  iapply (wp_tab (tab := tabS) (ft := W.tS) ho1) $$ [HS]
  · iexact HS
  iintro HS
  iapply (assume_at (chk66_ok i _ _ _ (hW.sl_lt s h228)))
  have hrest := fun hsL h2 hw263 hw66 => rest_ok (c := c) hW hs (q := q) (q' := q') (q'' := q'') (f7 := f7) h8 h9 h12 h14 hsL (h2 := h2) (hw263 := hw263) (hw66 := hw66)
  unfold Tabs at hrest
  by_cases h1 : k0_cond1 i = 1#1
  · have h0 : s = 0 := hs ▸ (cond1_iff i).mp h1
    have hsL : s < W.L := by omega
    have hP0 : Phi c W s ⊢ iprop(Free c W ∗ (rowL c ↦{fullShare} W.f0)) := by unfold Phi; rw [if_pos h0]
    ihave HP := hP0 $$ HP
    iapply (if_pos_at h1)
    iapply (then_at (first_ok hW (arg7 := arg7) (f7 := f7) (q := q) (fun j hj => (h7 j hj).trans (by rw [h0])))) $$ [HP HE H7]
    · isplitl [HP]; · iexact HP
      isplitl [HE]; · iexact HE
      iexact H7
    iintro %u ⟨HR, HE, H7⟩
    iapply (if_pos_at (hc2.mpr hsL))
    iapply (hrest hsL (hc2.mpr hsL) _ _)
    isplitl [HR]; · rw [h0]; iexact HR
    isplitl [HL HE HN HH HS HTW]
    · isplitl [HL]; · iexact HL
      isplitl [HE]; · iexact HE
      isplitl [HN]; · iexact HN
      isplitl [HH]; · iexact HH
      isplitl [HS]; · iexact HS
      iexact HTW
    isplitl [H7]; · iexact H7
    isplitl [H8]; · iexact H8
    isplitl [H9]; · iexact H9
    isplitl [H12]; · iexact H12
    isplitl [H14]; · iexact H14
    iexact HO
  · have h0 : s ≠ 0 := fun h => h1 ((cond1_iff i).mpr (hs.trans h))
    iapply (if_neg_at h1)
    by_cases hsL : s < W.L
    · have hP1 : Phi c W s ⊢ Ready c W s := by unfold Phi; rw [if_neg h0, if_pos hsL]
      ihave HR := hP1 $$ HP
      iapply (if_pos_at (hc2.mpr hsL))
      iapply (hrest hsL (hc2.mpr hsL) _ _)
      isplitl [HR]; · iexact HR
      isplitl [HL HE HN HH HS HTW]
      · isplitl [HL]; · iexact HL
        isplitl [HE]; · iexact HE
        isplitl [HN]; · iexact HN
        isplitl [HH]; · iexact HH
        isplitl [HS]; · iexact HS
        iexact HTW
      isplitl [H7]; · iexact H7
      isplitl [H8]; · iexact H8
      isplitl [H9]; · iexact H9
      isplitl [H12]; · iexact H12
      isplitl [H14]; · iexact H14
      iexact HO
    · have hP2 : Phi c W s ⊢ Phi c W (s + 1) := by
        unfold Phi; rw [if_neg h0, if_neg hsL, if_neg (by omega), if_neg (by omega)]
      ihave HP := hP2 $$ HP
      iapply (if_neg_at (fun h => hsL (hc2.mp h)))
      iapply wp_ret_intro
      isplitl [HP]; · iexact HP
      isplitl [HL HE HN HH HS HTW]
      · isplitl [HL]; · iexact HL
        isplitl [HE]; · iexact HE
        isplitl [HN]; · iexact HN
        isplitl [HH]; · iexact HH
        isplitl [HS]; · iexact HS
        iexact HTW
      isplitl [H7]; · iexact H7
      isplitl [H8]; · iexact H8
      isplitl [H9]; · iexact H9
      isplitl [H12]; · iexact H12
      isplitl [H14]; · iexact H14
      iexact HO

end

end Cert.KernelIdeal.Hand
end
-- ==== Proof.Entry.lean ====
/-
  What the call is run on, read off the memory it starts from, and what each point finds in its windows.
-/
module

public import proofs.«01_k».proof.Proof.Point
public import proofs.«01_k».proof.Proof.Gen.KernelIdeal.Launch
public import Idealize.ShloMosaic.Lib.Pipeline.FrameValue
public import Idealize.ShloMosaic.Lib.Pipeline.FrameBody
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

variable (m : (ℓ : Loc nD τ sig) → Buf (Elt F) ℓ)

/-- The buffers as the region finds them. -/
abbrev V (c : Dev nD) (b : Ref sig .tc) : Buf (Elt F) ((c : Thread nD τ).loc b) := StableHlo.after hostOps0 (fun b => m (c, b)) b

theorem V_arg (c : Dev nD) (b : Ref sig .tc) (hb : b ∉ [main_v0, main_v1, main_v2]) : V m c b = m ((c : Thread nD τ).loc b) :=
  StableHlo.after_unwritten [main_v0, main_v1, main_v2] rfl hb _

theorem V_rows (c : Dev nD) : V m c main_v2 = m ((c : Thread nD τ).loc main_arg8) := by
  show StableHlo.after hostOps0 (fun b => m (c, b)) (Proc.devRef .tc main_v2) = _
  rw [StableHlo.after_last_write (i := 2) [] rfl rfl (by simp)]
  rfl

/-- The world of core `c`. -/
def worldOf (c : Dev nD) : World F where
  f0 := m ((c : Thread nD τ).loc main_arg8)
  gu := m ((c : Thread nD τ).loc main_arg9)
  dn := m ((c : Thread nD τ).loc main_arg11)
  bG s i := m ((c : Thread nD τ).loc main_arg10) (ix2 (⟨(wd (m ((c : Thread nD τ).loc main_arg1)) s).toNat % 32, Nat.mod_lt _ (by decide)⟩ : Fin 32) (i 2 : Fin 2048))
  bD s i := m ((c : Thread nD τ).loc main_arg12) (ix2 (⟨(wd (m ((c : Thread nD τ).loc main_arg1)) s).toNat % 32, Nat.mod_lt _ (by decide)⟩ : Fin 32) (i 2 : Fin 1024))
  tL := m ((c : Thread nD τ).loc main_arg0)
  tE := m ((c : Thread nD τ).loc main_arg1)
  tN := m ((c : Thread nD τ).loc main_arg2)
  tH := m ((c : Thread nD τ).loc main_arg3)
  tS := m ((c : Thread nD τ).loc main_arg4)
  tW := m ((c : Thread nD τ).loc main_arg5)
  sw s j := m ((c : Thread nD τ).loc main_arg6) (ix3 (⟨s % 228, Nat.mod_lt _ (by decide)⟩ : Fin 228) (⟨0, Nat.one_pos⟩ : Fin 1) (⟨j % 64, Nat.mod_lt _ (by decide)⟩ : Fin 64))
  dw s j := m ((c : Thread nD τ).loc main_arg7) (ix3 (⟨s % 228, Nat.mod_lt _ (by decide)⟩ : Fin 228) (⟨0, Nat.one_pos⟩ : Fin 1) (⟨j % 64, Nat.mod_lt _ (by decide)⟩ : Fin 64))

/-- The tables' contents, and the admissible contents they are. -/
def tbl : pre0.Contents (Elt F) := fun k => V m 0 (pre0.ref k)

/-- The index maps' word is the tile's expert. -/
theorem tbl_word (i : grid0.Coords) (h1 : S1.numel = 1) (h) :
    ((tbl m).at 1 (Rect.unit (s := S228) (k0_off1 i) S1.size h) h1 : BitVec 32) = wd (m (((0 : Dev nD) : Thread nD τ).loc main_arg1)) (i 0).val := by
  have h0 : tbl m 1 = m (((0 : Dev nD) : Thread nD τ).loc main_arg1) := V_arg m 0 main_arg1 (by decide)
  have := tab228_read (F := F) (b := main_arg1) (off1_eq i) (tab := tabE) h (tbl m 1) (Shape.Idx.first (h1.symm ▸ Nat.one_pos))
  rw [h0] at this
  refine Eq.trans ?_ this
  show tbl m 1 _ = _
  rw [h0]
  rfl

theorem ix5_eq (i : grid0.Coords) :
    cc0_transform_5 k0_off1_inb numel1_S1 (tbl m) i = ![(wd (m (((0 : Dev nD) : Thread nD τ).loc main_arg1)) (i 0).val).toNat, 0, 0] := by
  rw [← tbl_word m i numel1_S1 (k0_off1_inb i)]; rfl
theorem ix7_eq (i : grid0.Coords) :
    cc0_transform_7 k0_off1_inb numel1_S1 (tbl m) i = ![(wd (m (((0 : Dev nD) : Thread nD τ).loc main_arg1)) (i 0).val).toNat, 0, 0] := by
  rw [← tbl_word m i numel1_S1 (k0_off1_inb i)]; rfl
theorem ix0_eq (i : grid0.Coords) : cc0_transform_0 i = ![(i 0).val, 0, 0] := by
  have := pt_lt i
  show ![(BitVec.ofNat 32 (i 0).val).toNat, 0, 0] = _
  rw [toNat_ofNat' (by omega)]
theorem ix2_eq (i : grid0.Coords) : cc0_transform_2 i = ![(i 0).val, 0, 0] := ix0_eq i
theorem ix1_eq (i : grid0.Coords) (h : (i 0).val < 227) : cc0_transform_1 i = ![(i 0).val + 1, 0, 0] := by
  have e : Scalar.minsi (Scalar.addi (BitVec.ofNat 32 (i 0).val) 1#32) 227#32 = BitVec.ofNat 32 ((i 0).val + 1) := by
    have e1 : Scalar.addi (BitVec.ofNat 32 (i 0).val) 1#32 = BitVec.ofNat 32 ((i 0).val + 1) := by
      apply BitVec.eq_of_toNat_eq
      show (BitVec.ofNat 32 (i 0).val + 1#32).toNat = _
      rw [BitVec.toNat_add, toNat_ofNat' (by omega), toNat_ofNat' (by omega), toNat_ofNat' (by omega)]
      exact Nat.mod_eq_of_lt (by omega)
    rw [e1]
    show (if (BitVec.ofNat 32 ((i 0).val + 1)).slt 227#32 then _ else _) = _
    by_cases hl : (BitVec.ofNat 32 ((i 0).val + 1)).slt 227#32 = true
    · rw [if_pos hl]
    · rw [if_neg hl]
      rw [BitVec.slt, decide_eq_true_iff, toInt_ofNat (by omega)] at hl
      have : (227#32).toInt = 227 := by decide
      have : (i 0).val + 1 = 227 := by omega
      rw [this]
  show ![(Scalar.minsi (Scalar.addi (BitVec.ofNat 32 (i 0).val) 1#32) 227#32).toNat, 0, 0] = _
  rw [e, toNat_ofNat' (by omega)]

/-- The tables' contents are admissible if every tile's expert is one. -/
theorem ok_tbl (h : ∀ s, s < 228 → (wd (m (((0 : Dev nD) : Thread nD τ).loc main_arg1)) s).toNat < 32) : ok0 (tbl m) := by
  constructor
  · intro i
    refine ⟨?_, .inl rfl⟩
    rw [ix5_eq]
    have key : ∀ x, x < 32 → ∀ a, (![x, 0, 0] a + 1) * S1x1x2048.size a ≤ S32x1x2048.size a := fun x hx a => by
      fin_cases a <;> simp [S1x1x2048, S32x1x2048] <;> omega
    exact key _ (h _ (pt_lt i))
  · intro i
    refine ⟨?_, .inl rfl⟩
    rw [ix7_eq]
    have key : ∀ x, x < 32 → ∀ a, (![x, 0, 0] a + 1) * S1x1x1024.size a ≤ S32x1x1024.size a := fun x hx a => by
      fin_cases a <;> simp [S1x1x1024, S32x1x1024] <;> omega
    exact key _ (h _ (pt_lt i))

theorem coords_val (t : Fin grid0.N) : (grid0.coords t 0).val = t.val := by
  have h : t.val < 228 := N_0 ▸ t.isLt
  rw [Pipeline.Grid.coords_val t 0 (S := 1) (B := 228) (by decide) rfl, Nat.div_one, Nat.mod_eq_of_lt h]

variable (hok : ok0 (tbl m))

/-- The pipeline at these contents. -/
abbrev adm : (p : Fin 1) → (pcfgs (F := F) p).Adm := fun _ => ⟨tbl m, hok⟩

/-- What window `w` holds at point `t`. -/
def held (c : Dev nD) (w : Fin 5) (t : Fin (cfg0 (adm m hok 0)).N) : (win0 (adm m hok 0) w).block.Idx → Elt F (win0 (adm m hok 0) w).elt :=
  (win0 (adm m hok 0) w).fill ((cfg0 (adm m hok 0)).grid.coords t) (fun _ => Classical.arbitrary _)
    (((win0 (adm m hok 0) w).blk t).view.read (Elt F) (V m c (Pipeline.arrRef spec0 w)))

theorem held_apply (c : Dev nD) (w : Fin 5) (t : Fin (cfg0 (adm m hok 0)).N) (j : (win0 (adm m hok 0) w).block.Idx) :
    held m hok c w t j = ((win0 (adm m hok 0) w).blk t).view.read (Elt F) (V m c (Pipeline.arrRef spec0 w)) j := by
  have hm : (win0 (adm m hok 0) w).moved ((cfg0 (adm m hok 0)).grid.coords t) j = true :=
    ((win0 (adm m hok 0) w).moved_iff _ j).mpr fun a => (j a).isLt
  unfold held Pipeline.Window.fill
  rw [dif_pos hm]

theorem held_cur (c : Dev nD) (t : Fin (cfg0 (adm m hok 0)).N) (j : ℕ) (hj : j < 64) :
    (held m hok c 0 t (ix3 (⟨0, Nat.one_pos⟩ : Fin 1) (⟨0, Nat.one_pos⟩ : Fin 1) (⟨j, hj⟩ : Fin 64)) : BitVec 32) = (worldOf m c).sw t.val j := by
  have ht : t.val < 228 := N_0 ▸ t.isLt
  have hc := coords_val t
  rw [held_apply]
  show V m c main_arg6 ((Rect.block (s := S228x1x64) S1x1x64.size (cc0_transform_0 (grid0.coords t)) (hinb0 (tbl m) hok 0 _)).emb _) = m _ _
  rw [V_arg m c main_arg6 (by decide)]
  refine congrArg (m _) ?_
  funext a
  apply Fin.ext
  rw [Rect.emb_apply]
  have hz := congrFun (ix0_eq (grid0.coords t)) a
  rw [hc] at hz
  refine (congrArg (fun x => x * S1x1x64.size a + 1 * _) hz).trans ?_
  fin_cases a <;> simp [S1x1x64, ix3] <;> omega

theorem held_dst (c : Dev nD) (t : Fin (cfg0 (adm m hok 0)).N) (j : ℕ) (hj : j < 64) :
    (held m hok c 2 t (ix3 (⟨0, Nat.one_pos⟩ : Fin 1) (⟨0, Nat.one_pos⟩ : Fin 1) (⟨j, hj⟩ : Fin 64)) : BitVec 32) = (worldOf m c).dw t.val j := by
  have ht : t.val < 228 := N_0 ▸ t.isLt
  have hc := coords_val t
  rw [held_apply]
  show V m c main_arg7 ((Rect.block (s := S228x1x64) S1x1x64.size (cc0_transform_2 (grid0.coords t)) (hinb0 (tbl m) hok 2 _)).emb _) = m _ _
  rw [V_arg m c main_arg7 (by decide)]
  refine congrArg (m _) ?_
  funext a
  apply Fin.ext
  rw [Rect.emb_apply]
  have hz := congrFun (ix2_eq (grid0.coords t)) a
  rw [hc] at hz
  refine (congrArg (fun x => x * S1x1x64.size a + 1 * _) hz).trans ?_
  fin_cases a <;> simp [S1x1x64, ix3] <;> omega

theorem held_nxt (c : Dev nD) (t : Fin (cfg0 (adm m hok 0)).N) (h : t.val < 227) (j : ℕ) (hj : j < 64) :
    (held m hok c 1 t (ix3 (⟨0, Nat.one_pos⟩ : Fin 1) (⟨0, Nat.one_pos⟩ : Fin 1) (⟨j, hj⟩ : Fin 64)) : BitVec 32) = (worldOf m c).sw (t.val + 1) j := by
  have hc := coords_val t
  rw [held_apply]
  show V m c main_arg6 ((Rect.block (s := S228x1x64) S1x1x64.size (cc0_transform_1 (grid0.coords t)) (hinb0 (tbl m) hok 1 _)).emb _) = m _ _
  rw [V_arg m c main_arg6 (by decide)]
  refine congrArg (m _) ?_
  funext a
  apply Fin.ext
  rw [Rect.emb_apply]
  have hz := congrFun (ix1_eq (grid0.coords t) (by omega)) a
  rw [hc] at hz
  refine (congrArg (fun x => x * S1x1x64.size a + 1 * _) hz).trans ?_
  fin_cases a <;> simp [S1x1x64, ix3] <;> omega

/-- A row of one put between a matrix's two axes. -/
theorem cast_row {α : Type} {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The biases' own layout: a row of one between the expert and the column. -/
theorem V_gu (c : Dev nD) (e : Fin 32) (u : Fin 1) (j : Fin 2048) :
    (V m c main_v0 (ix3 e u j) : F .f32) = m ((c : Thread nD τ).loc main_arg10) (ix2 e j) := by
  show (StableHlo.after hostOps0 (fun b => m (c, b)) (Proc.devRef .tc main_v0) (ix3 e u j) : F .f32) = _
  rw [StableHlo.after_last_write (i := 0) [main_v1, main_v2] rfl rfl (by decide), StableHlo.reshape_result]
  exact cast_row _ _ e u j
theorem V_dn (c : Dev nD) (e : Fin 32) (u : Fin 1) (j : Fin 1024) :
    (V m c main_v1 (ix3 e u j) : F .f32) = m ((c : Thread nD τ).loc main_arg12) (ix2 e j) := by
  show (StableHlo.after hostOps0 (fun b => m (c, b)) (Proc.devRef .tc main_v1) (ix3 e u j) : F .f32) = _
  rw [StableHlo.after_last_write (i := 1) [main_v2] rfl rfl (by decide), StableHlo.reshape_result]
  exact cast_row _ _ e u j

theorem held_bG (hE : ∀ s < 228, (wd (m (((0 : Dev nD) : Thread nD τ).loc main_arg1)) s).toNat < 32) (c : Dev nD) (t : Fin (cfg0 (adm m hok 0)).N) : held m hok c 3 t = (worldOf m c).bG t.val := by
  have ht : t.val < 228 := N_0 ▸ t.isLt
  have hc := coords_val t
  obtain rfl : c = 0 := Subsingleton.elim _ _
  funext j
  rw [held_apply]
  have e1 : (Rect.block (s := S32x1x2048) S1x1x2048.size (cc0_transform_5 k0_off1_inb numel1_S1 (tbl m) (grid0.coords t)) (hinb0 (tbl m) hok 3 _)).emb j
      = ix3 (⟨(wd (m (((0 : Dev nD) : Thread nD τ).loc main_arg1)) t.val).toNat % 32, Nat.mod_lt _ (by decide)⟩ : Fin 32) (⟨0, Nat.one_pos⟩ : Fin 1) (j 2) := by
    funext a
    apply Fin.ext
    rw [Rect.emb_apply]
    have hz := congrFun (ix5_eq m (grid0.coords t)) a
    rw [hc] at hz
    refine (congrArg (fun x => x * S1x1x2048.size a + 1 * _) hz).trans ?_
    have h0 : (j 0).val = 0 := by have : (j 0).val < 1 := (j 0).isLt
                                  omega
    have h1 : (j 1).val = 0 := by have : (j 1).val < 1 := (j 1).isLt
                                  omega
    have hm := Nat.mod_eq_of_lt (hE t.val ht)
    fin_cases a
    · show _ * 1 + 1 * (j 0).val = _ % 32
      rw [hm, h0]; simp
    · show 0 * 1 + 1 * (j 1).val = 0
      omega
    · show 0 * 2048 + 1 * (j 2).val = (j 2).val
      omega
  refine (congrArg (V m 0 main_v0) e1).trans ?_
  exact V_gu m 0 _ _ _

theorem held_bD (hE : ∀ s < 228, (wd (m (((0 : Dev nD) : Thread nD τ).loc main_arg1)) s).toNat < 32) (c : Dev nD) (t : Fin (cfg0 (adm m hok 0)).N) : held m hok c 4 t = (worldOf m c).bD t.val := by
  have ht : t.val < 228 := N_0 ▸ t.isLt
  have hc := coords_val t
  obtain rfl : c = 0 := Subsingleton.elim _ _
  funext j
  rw [held_apply]
  have e1 : (Rect.block (s := S32x1x1024) S1x1x1024.size (cc0_transform_7 k0_off1_inb numel1_S1 (tbl m) (grid0.coords t)) (hinb0 (tbl m) hok 4 _)).emb j
      = ix3 (⟨(wd (m (((0 : Dev nD) : Thread nD τ).loc main_arg1)) t.val).toNat % 32, Nat.mod_lt _ (by decide)⟩ : Fin 32) (⟨0, Nat.one_pos⟩ : Fin 1) (j 2) := by
    funext a
    apply Fin.ext
    rw [Rect.emb_apply]
    have hz := congrFun (ix7_eq m (grid0.coords t)) a
    rw [hc] at hz
    refine (congrArg (fun x => x * S1x1x1024.size a + 1 * _) hz).trans ?_
    have h0 : (j 0).val = 0 := by have : (j 0).val < 1 := (j 0).isLt
                                  omega
    have h1 : (j 1).val = 0 := by have : (j 1).val < 1 := (j 1).isLt
                                  omega
    have hm := Nat.mod_eq_of_lt (hE t.val ht)
    fin_cases a
    · show _ * 1 + 1 * (j 0).val = _ % 32
      rw [hm, h0]; simp
    · show 0 * 1 + 1 * (j 1).val = 0
      omega
    · show 0 * 1024 + 1 * (j 2).val = (j 2).val
      omega
  refine (congrArg (V m 0 main_v1) e1).trans ?_
  exact V_dn m 0 _ _ _

end Cert.KernelIdeal.Hand
end
-- ==== Proof.Rest.lean ====
/-
  What the kernel is handed before the first point and hands back after the last.
-/
module

public import proofs.«01_k».proof.Proof.Entry
public import proofs.«01_k».proof.Proof.Gen.KernelIdeal.Launch
public import Idealize.ShloMosaic.Lib.Pipeline.FrameValue
public import Idealize.ShloMosaic.Lib.Pipeline.FrameBody
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

variable (m : (ℓ : Loc nD τ sig) → Buf (Elt F) ℓ)

/-! ## A buffer of two slots and its halves -/

/-- The half of a two-slot buffer whose first coordinate is `k`. -/
abbrev half (a b k : ℕ) : Finset (⟨3, ![2, a, b]⟩ : Shape).Idx := Finset.univ.filter fun i => (i 0).val = k

theorem half_disjoint (a b : ℕ) : Disjoint (half a b 0) (half a b 1) := by
  rw [Finset.disjoint_left]
  intro i h0 h1
  rw [Finset.mem_filter] at h0 h1
  omega
theorem half_union (a b : ℕ) : half a b 0 ∪ half a b 1 = Finset.univ := by
  ext i
  have : (i 0).val < 2 := (i 0).isLt
  simp only [Finset.mem_union, Finset.mem_filter, Finset.mem_univ, true_and, iff_true]
  omega

theorem x_split {c : Dev nD} {ℓ : Loc nD τ sig} {I J : Finset (Idx ℓ)} (hd : Disjoint I J) (hu : I ∪ J = Finset.univ) (f : Buf (Elt F) ℓ) :
    (ℓ ↦{fullShare} f) ⊢ (iprop((∃ g, ℓ ↦[I]{fullShare} g) ∗ (∃ g, ℓ ↦[J]{fullShare} g)) : sProp 𝕄) := by
  have h := (pointsTo_union (q := fullShare) (f := f) (ℓ := ℓ) (Ix := Unit) (Name := ℕ) (U := Pipeline.UD sig nD τ) (Lvl := ℕ) hd).1
  rw [hu] at h
  refine h.trans ?_
  iintro ⟨H0, H1⟩
  isplitl [H0]; · iexists _; iexact H0
  iexists _; iexact H1
theorem x_join {c : Dev nD} {ℓ : Loc nD τ sig} {I J : Finset (Idx ℓ)} (hd : Disjoint I J) (hu : I ∪ J = Finset.univ) :
    (iprop((∃ g, ℓ ↦[I]{fullShare} g) ∗ (∃ g, ℓ ↦[J]{fullShare} g)) : sProp 𝕄) ⊢ (iprop(∃ g : Buf (Elt F) ℓ, ℓ ↦{fullShare} g) : sProp 𝕄) := by
  iintro ⟨⟨%f, H0⟩, ⟨%g, H1⟩⟩
  have h := pointsTo_join (q := fullShare) (f := f) (g := g) (ℓ := ℓ) (Ix := Unit) (Name := ℕ) (U := Pipeline.UD sig nD τ) (Lvl := ℕ) hd
  rw [hu] at h
  iexists _
  iapply h
  isplitl [H0]; · iexact H0
  iexact H1

/-! ## What the launch gives, spelled out -/

/-- The kernel's own cells, two for each of the copies in, the copies out and the weights. -/
def osem0 : Fin 6 → SemLoc sig := ![SemLoc.dma 10, SemLoc.dma 11, SemLoc.dma 12, SemLoc.dma 13, SemLoc.dma 14, SemLoc.dma 15]
theorem ownSemFacts0 : Pipeline.OwnSemFacts spec0 osem0 := by decide
/-- What it only reads beside its windows, and what it writes. -/
abbrev H0 : Finset (Ref sig .tc) := {main_arg9, main_arg11}
abbrev R0 : Finset (Ref sig .tc) := {main_v2}
theorem H0_sub : H0 ⊆ Pipeline.restRefsP sig pre0 spec0 := by decide
theorem R0_sub : R0 ⊆ Pipeline.restRefsP sig pre0 spec0 \ H0 := by decide

/-- The written buffer at the end; every other as the region found it. -/
def Gv (c : Dev nD) (b : Ref sig .tc) : Buf (Elt F) ((c : Thread nD τ).loc b) :=
  if h : b = main_v2 then h ▸ (worldOf m c).G else V m c b
theorem Gv_v2 (c : Dev nD) : Gv m c main_v2 = (worldOf m c).G := by unfold Gv; rw [dif_pos rfl]

theorem give_eq (U : (c : Dev nD) → (b : Ref sig .tc) → Buf (Elt F) ((c : Thread nD τ).loc b)) (c : Dev nD) :
    Pipeline.ΦDRG osem0 spec0 H0 R0 (V m) U c
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
          ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))
        ∗ (∃ r, prngReg c r)
        ∗ (semVal ((c : Thread nD τ), SemLoc.dma 10) 0 ∗ semVal ((c : Thread nD τ), SemLoc.dma 11) 0 ∗ semVal ((c : Thread nD τ), SemLoc.dma 12) 0
          ∗ semVal ((c : Thread nD τ), SemLoc.dma 13) 0 ∗ semVal ((c : Thread nD τ), SemLoc.dma 14) 0 ∗ semVal ((c : Thread nD τ), SemLoc.dma 15) 0)
        ∗ ((((c : Thread nD τ).loc main_arg9) ↦{fullShare} V m c main_arg9) ∗ (((c : Thread nD τ).loc main_arg11) ↦{fullShare} V m c main_arg11))
        ∗ (((c : Thread nD τ).loc main_v2) ↦{fullShare} U c main_v2)) := by
  rw [Pipeline.ΦDRG_eq, scopedRest0_eq, Pipeline.ownSems0_eq_of_list c osem0 [(0 : Fin 6), 1, 2, 3, 4, 5] (by decide) (by decide),
    BI.bigSep_eq_bigSepL_of_eq [main_arg9, main_arg11] (by decide) (by decide)]
  unfold Pipeline.routed
  rw [BI.bigSep_eq_bigSepL_of_eq [main_v2] (by decide) (by decide)]
  rfl

theorem tabs_eq (c : Dev nD) : (Pipeline.ΦT (Val := Elt F) pre0 (tbl m) c : sProp 𝕄) = Tabs c (worldOf m c) fullShare.right := by
  obtain rfl : c = 0 := Subsingleton.elim _ _
  have h : ∀ k : Fin 6, tbl m k = m (((0 : Dev nD) : Thread nD τ).loc (pre0.ref k)) := by
    intro k
    fin_cases k <;> exact V_arg m 0 _ (by decide)
  unfold Pipeline.ΦT Pipeline.prefHeld
  rw [BI.bigSep_univ_eq_bigSepL [(0 : Fin 6), 1, 2, 3, 4, 5] (by decide) (by decide)]
  simp only [BI.bigSepL]
  rw [h 0, h 1, h 2, h 3, h 4, h 5]
  rfl

theorem xC_cells : SemLoc.dma (xC 0) = (SemLoc.dma 10 : SemLoc sig) ∧ SemLoc.dma (xC 1) = (SemLoc.dma 11 : SemLoc sig)
    ∧ SemLoc.dma (yC 0) = (SemLoc.dma 12 : SemLoc sig) ∧ SemLoc.dma (yC 1) = (SemLoc.dma 13 : SemLoc sig)
    ∧ SemLoc.dma (wC 0) = (SemLoc.dma 14 : SemLoc sig) ∧ SemLoc.dma (wC 1) = (SemLoc.dma 15 : SemLoc sig) := by
  refine ⟨?_, ?_, ?_, ?_, ?_, ?_⟩ <;> rfl

/-- Before the first point. -/
theorem begin_ok (c : Dev nD) :
    Pipeline.ΦDRG osem0 spec0 H0 R0 (V m) (V m) c ⊢ iprop((Free c (worldOf m c) ∗ (rowL c ↦{fullShare} (worldOf m c).f0)) ∗ (∃ r, prngReg c r)) := by
  rw [give_eq, V_arg m c main_arg9 (by decide), V_arg m c main_arg11 (by decide), V_rows]
  unfold Free XFree YFree WFree WHome
  rw [xC_cells.1, xC_cells.2.1, xC_cells.2.2.1, xC_cells.2.2.2.1, xC_cells.2.2.2.2.1, xC_cells.2.2.2.2.2]
  iintro ⟨⟨⟨%f0, HS0⟩, ⟨%f1, HS1⟩, HS2, HS3, ⟨%f4, HS4⟩, ⟨%f5, HS5⟩⟩, Hg, ⟨Hq0, Hq1, Hq2, Hq3, Hq4, Hq5⟩, ⟨Hh0, Hh1⟩, Hr⟩
  ihave HS0 := (x_split (c := c) (half_disjoint 1024 2048) (half_union 1024 2048) f0) $$ HS0
  ihave HS1 := (x_split (c := c) (half_disjoint 1024 1024) (half_union 1024 1024) f1) $$ HS1
  ihave HS4 := (x_split (c := c) (half_disjoint 512 1024) (half_union 512 1024) f4) $$ HS4
  ihave HS5 := (x_split (c := c) (half_disjoint 512 1024) (half_union 512 1024) f5) $$ HS5
  icases HS0 with ⟨Ha0, Ha1⟩
  icases HS1 with ⟨Hb0, Hb1⟩
  icases HS4 with ⟨Hc0, Hc1⟩
  icases HS5 with ⟨Hd0, Hd1⟩
  isplitr [Hg]
  · isplitr [Hr]
    · isplitl [Hq0 Hc0]
      · isplitl [Hq0]; · iexact Hq0
        iexact Hc0
      isplitl [Hq1 Hc1]
      · isplitl [Hq1]; · iexact Hq1
        iexact Hc1
      isplitl [Hq2 Hd0]
      · isplitl [Hq2]; · iexact Hq2
        iexact Hd0
      isplitl [Hq3 Hd1]
      · isplitl [Hq3]; · iexact Hq3
        iexact Hd1
      isplitl [Hq4 Ha0 Hb0]
      · isplitl [Hq4]; · iexact Hq4
        isplitl [Ha0]; · iexact Ha0
        iexact Hb0
      isplitl [Hq5 Ha1 Hb1]
      · isplitl [Hq5]; · iexact Hq5
        isplitl [Ha1]; · iexact Ha1
        iexact Hb1
      isplitl [HS2]; · iexact HS2
      isplitl [HS3]; · iexact HS3
      isplitl [Hh0]; · iexact Hh0
      iexact Hh1
    iexact Hr
  iexact Hg

/-- After the last. -/
theorem finish_ok (c : Dev nD) :
    iprop((Free c (worldOf m c) ∗ (rowL c ↦{fullShare} (worldOf m c).G)) ∗ (∃ r, prngReg c r)) ⊢ Pipeline.ΦDRG osem0 spec0 H0 R0 (V m) (Gv m) c := by
  rw [give_eq, V_arg m c main_arg9 (by decide), V_arg m c main_arg11 (by decide), Gv_v2]
  unfold Free XFree YFree WFree WHome
  rw [xC_cells.1, xC_cells.2.1, xC_cells.2.2.1, xC_cells.2.2.2.1, xC_cells.2.2.2.2.1, xC_cells.2.2.2.2.2]
  iintro ⟨⟨⟨⟨Hq0, Hc0⟩, ⟨Hq1, Hc1⟩, ⟨Hq2, Hd0⟩, ⟨Hq3, Hd1⟩, ⟨Hq4, Ha0, Hb0⟩, ⟨Hq5, Ha1, Hb1⟩, HS2, HS3, ⟨Hh0, Hh1⟩⟩, Hr⟩, Hg⟩
  ihave HS0 := (x_join (c := c) (ℓ := (c : Thread nD τ).loc cc0_scratch0) (half_disjoint 1024 2048) (half_union 1024 2048)) $$ [Ha0 Ha1]
  · isplitl [Ha0]; · iexact Ha0
    iexact Ha1
  ihave HS1 := (x_join (c := c) (ℓ := (c : Thread nD τ).loc cc0_scratch1) (half_disjoint 1024 1024) (half_union 1024 1024)) $$ [Hb0 Hb1]
  · isplitl [Hb0]; · iexact Hb0
    iexact Hb1
  ihave HS4 := (x_join (c := c) (ℓ := (c : Thread nD τ).loc cc0_scratch4) (half_disjoint 512 1024) (half_union 512 1024)) $$ [Hc0 Hc1]
  · isplitl [Hc0]; · iexact Hc0
    iexact Hc1
  ihave HS5 := (x_join (c := c) (ℓ := (c : Thread nD τ).loc cc0_scratch5) (half_disjoint 512 1024) (half_union 512 1024)) $$ [Hd0 Hd1]
  · isplitl [Hd0]; · iexact Hd0
    iexact Hd1
  isplitl [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexact HS5
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0 Hh1]
  · isplitl [Hh0]; · iexact Hh0
    iexact Hh1
  iexact Hr

end Cert.KernelIdeal.Hand
end
-- ==== Proof.Run.lean ====
/-
  The whole run: every point of the grid, from the launch to the end.
-/
module

public import proofs.«01_k».proof.Proof.Rest
public import proofs.«01_k».proof.Proof.Gen.KernelIdeal.Launch
public import Idealize.ShloMosaic.Lib.Pipeline.FrameValue
public import Idealize.ShloMosaic.Lib.Pipeline.FrameBody
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix2 ix3)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The words of the run fit together on every core. -/
def AllGood : Prop := ∀ c, (worldOf m c).Good

variable {m} in
theorem AllGood.experts (hG : AllGood m) : ∀ s < 228, (wd (m (((0 : Dev nD) : Thread nD τ).loc main_arg1)) s).toNat < 32 :=
  fun s hs => (hG 0).e_lt s hs

variable (hG : AllGood m)

/-- The tables' contents as the pipeline is entered with them. -/
abbrev at0 : (p : Fin 1) → (pcfgs (F := F) p).Adm := adm m (ok_tbl m hG.experts)
abbrev cfgG : Pipeline.Cfg sig Λ₀ := cfg0 (at0 m hG 0)

/-- The run's data: the arrays as the region finds them, each window's block left as found, and between points what the
    body holds there, the tables and the generator's register. -/
def dats (p : Fin 1) (c : Dev nD) : Pipeline.Dat τ (Elt F) Unit ℕ (Pipeline.UD sig nD τ) ℕ (Pipeline.pin pcfgs (at0 m hG) p) c where
  A w := V m c (Pipeline.arrRef spec0 w)
  after w t := held m (ok_tbl m hG.experts) c w t
  Φ t := iprop(Phi c (worldOf m c) t.val ∗ Tabs c (worldOf m c) fullShare.right ∗ (∃ r, prngReg c r))
  q w := Pipeline.shareOf spec0 w
  owed _ := 0

theorem before_held (c : Dev nD) (w : Fin 5) (t : Fin (cfgG m hG).N) (d) : (dats m hG 0 c).before w t d = held m (ok_tbl m hG.experts) c w t := by
  rw [(dats m hG 0 c).before_in_eq_fetched w (by fin_cases w <;> rfl) (fun _ => rfl) (fun _ _ _ => rfl)
    (fun t => Pipeline.Window.cut_fill _ _ _ _) t d]
  exact Pipeline.fill_of_clip_none (cfg := cfgG m hG) w _ (fun _ => rfl) _ _ _

abbrev stg (w : Fin 5) (t : Fin (cfgG m hG).N) := ((win0 (at0 m hG 0)) w).stage ((cfgG m hG).slots t w)

/-- The body called at a point. -/
abbrev bodyAt (t : Fin (cfgG m hG).N) :=
  ffnBody (F := F) (grid0.coords t) (stg m hG 0 t) (stg m hG 1 t) (stg m hG 2 t) (stg m hG 3 t) (stg m hG 4 t)

def bodyPre (c : Dev nD) (t : Fin (cfgG m hG).N) : sProp 𝕄 :=
  iprop((dats m hG 0 c).Φ t.castSucc ∗ (dats m hG 0 c).owesAt () t.castSucc
    ∗ (∃ d, owns (c : Thread nD τ) (stg m hG 0 t) fullShare ((dats m hG 0 c).before 0 t d))
    ∗ (∃ d, owns (c : Thread nD τ) (stg m hG 1 t) fullShare ((dats m hG 0 c).before 1 t d))
    ∗ (∃ d, owns (c : Thread nD τ) (stg m hG 2 t) fullShare ((dats m hG 0 c).before 2 t d))
    ∗ (∃ d, owns (c : Thread nD τ) (stg m hG 3 t) fullShare ((dats m hG 0 c).before 3 t d))
    ∗ (∃ d, owns (c : Thread nD τ) (stg m hG 4 t) fullShare ((dats m hG 0 c).before 4 t d)))
def bodyPost (c : Dev nD) (t : Fin (cfgG m hG).N) : sProp 𝕄 :=
  iprop((dats m hG 0 c).Φ t.succ ∗ (dats m hG 0 c).owesAt () t.succ
    ∗ owns (c : Thread nD τ) (stg m hG 0 t) fullShare ((dats m hG 0 c).after 0 t)
    ∗ owns (c : Thread nD τ) (stg m hG 1 t) fullShare ((dats m hG 0 c).after 1 t)
    ∗ owns (c : Thread nD τ) (stg m hG 2 t) fullShare ((dats m hG 0 c).after 2 t)
    ∗ owns (c : Thread nD τ) (stg m hG 3 t) fullShare ((dats m hG 0 c).after 3 t)
    ∗ owns (c : Thread nD τ) (stg m hG 4 t) fullShare ((dats m hG 0 c).after 4 t))

theorem after_held (c : Dev nD) (w : Fin 5) (t : Fin (cfgG m hG).N) : (dats m hG 0 c).after w t = held m (ok_tbl m hG.experts) c w t := by
  dsimp only [dats]

/-- What the body gives back, as the point's end wants it. -/
theorem body_back (c : Dev nD) (t : Fin (cfgG m hG).N) {f7 : Buf (Elt F) ((stg m hG 0 t).view.loc (c : Thread nD τ))} {f8 : Buf (Elt F) ((stg m hG 1 t).view.loc (c : Thread nD τ))}
    {f9 : Buf (Elt F) ((stg m hG 2 t).view.loc (c : Thread nD τ))} {f12 : Buf (Elt F) ((stg m hG 3 t).view.loc (c : Thread nD τ))} {f14 : Buf (Elt F) ((stg m hG 4 t).view.loc (c : Thread nD τ))}
    (e7 : (stg m hG 0 t).view.read (Elt F) f7 = held m (ok_tbl m hG.experts) c 0 t) (e8 : (stg m hG 1 t).view.read (Elt F) f8 = held m (ok_tbl m hG.experts) c 1 t)
    (e9 : (stg m hG 2 t).view.read (Elt F) f9 = held m (ok_tbl m hG.experts) c 2 t) (e12 : (stg m hG 3 t).view.read (Elt F) f12 = held m (ok_tbl m hG.experts) c 3 t)
    (e14 : (stg m hG 4 t).view.read (Elt F) f14 = held m (ok_tbl m hG.experts) c 4 t) :
    iprop((Phi c (worldOf m c) (t.val + 1) ∗ Tabs c (worldOf m c) fullShare.right ∗ tabPt c (stg m hG 0 t) f7 ∗ tabPt c (stg m hG 1 t) f8 ∗ tabPt c (stg m hG 2 t) f9
        ∗ ((stg m hG 3 t).view.loc (c : Thread nD τ) ↦[(stg m hG 3 t).view.set]{fullShare} f12)
        ∗ ((stg m hG 4 t).view.loc (c : Thread nD τ) ↦[(stg m hG 4 t).view.set]{fullShare} f14) ∗ owe c) ∗ (∃ r, prngReg c r)) ⊢ bodyPost m hG c t := by
  unfold bodyPost
  simp only [after_held]
  rw [show (dats m hG 0 c).Φ t.succ = iprop(Phi c (worldOf m c) (t.val + 1) ∗ Tabs c (worldOf m c) fullShare.right ∗ (∃ r, prngReg c r)) from rfl]
  unfold Pipeline.Dat.owesAt Pipeline.owesWithin
  rw [show (dats m hG 0 c).owed t.succ = 0 from rfl]
  unfold owns
  iintro ⟨⟨HP, HT, H7, H8, H9, H12, H14, ⟨%O, HO⟩⟩, Hg⟩
  isplitl [HP HT Hg]
  · isplitl [HP]; · iexact HP
    isplitl [HT]; · iexact HT
    iexact Hg
  isplitl [HO]
  · iexists O; isplitr; · ipureintro; exact fun _ _ => Or.inl trivial
    iexact HO
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H12]
  · iexists f12; isplitr; · ipureintro; exact e12
    iexact H12
  iexists f14; isplitr; · ipureintro; exact e14
  iexact H14

theorem sound_body (c : Dev nD) (t : Fin (cfgG m hG).N) : bodyPre m hG c t ⊢ wpB c (bodyAt m hG t) fun _ => bodyPost m hG c t := by
  unfold bodyPre bodyPost
  simp only [before_held, after_held]
  rw [show (dats m hG 0 c).Φ t.castSucc = iprop(Phi c (worldOf m c) t.val ∗ Tabs c (worldOf m c) fullShare.right ∗ (∃ r, prngReg c r)) from rfl,
    show (dats m hG 0 c).Φ t.succ = iprop(Phi c (worldOf m c) (t.val + 1) ∗ Tabs c (worldOf m c) fullShare.right ∗ (∃ r, prngReg c r)) from rfl]
  unfold Pipeline.Dat.owesAt Pipeline.owesWithin
  rw [show (dats m hG 0 c).owed t.castSucc = 0 from rfl, show (dats m hG 0 c).owed t.succ = 0 from rfl]
  unfold owns
  iintro ⟨⟨HP, HT, Hg⟩, ⟨%O, -, HO⟩, ⟨%d0, %f7, %e7, H7⟩, ⟨%d1, %f8, %e8, H8⟩, ⟨%d2, %f9, %e9, H9⟩, ⟨%d3, %f12, %e12, H12⟩, ⟨%d4, %f14, %e14, H14⟩⟩
  have hb := body_ok (F := F) (c := c) (hG c) (i := grid0.coords t) (s := t.val) (coords_val t) (q := fullShare.right) (q' := fullShare) (q'' := fullShare)
    (arg7 := stg m hG 0 t) (arg8 := stg m hG 1 t) (arg9 := stg m hG 2 t) (arg12 := stg m hG 3 t) (arg14 := stg m hG 4 t)
    (f7 := f7) (f8 := f8) (f9 := f9) (f12 := f12) (f14 := f14)
    (fun j hj => (congrFun e7 _).trans (held_cur m _ c t j hj))
    (fun hl j hj => (congrFun e8 _).trans (held_nxt m _ c t (by have := (hG c).L2; omega) j hj))
    (fun j hj => (congrFun e9 _).trans (held_dst m _ c t j hj))
    (e12.trans (held_bG m _ hG.experts c t)) (e14.trans (held_bD m _ hG.experts c t))
  iapply ((sep_mono hb .rfl).trans (wpB_frame (R := iprop(∃ r, prngReg c r)) |>.trans (wpB_mono fun _ => body_back m hG c t e7 e8 e9 e12 e14)))
  isplitr [Hg]
  · isplitl [HP]; · iexact HP
    isplitl [HT]; · iexact HT
    isplitl [H7]; · iexact H7
    isplitl [H8]; · iexact H8
    isplitl [H9]; · iexact H9
    isplitl [H12]; · iexact H12
    isplitl [H14]; · iexact H14
    iexists _; iexact HO
  iexact Hg

theorem defs₀_row (t : Fin (cfgG m hG).N) :
    defs₀ (F := F) .tc (cfgG m hG).body ((cfgG m hG).bodyArgs t ((cfgG m hG).slots t)) = bodyAt m hG t := by
  unfold defs₀; rw [Defs.onTc_tc]
  exact ffn_eq _ _ _ _ _ _ _ _ _ _ _

theorem body_obligation (c : Dev nD) : Pipeline.BodyObligation (dats (F := F) m hG 0 c) (defs₀ (F := F)) Variants.none () Set.univ := fun t => by
  rw [bigSep_W0, bigSep_W0, defs₀_row]
  exact triple_restated (sound_body m hG c t) rfl .rfl fun _ => .rfl

theorem enter_ok (c : Dev nD) :
    iprop(Pipeline.ΦDRG osem0 spec0 H0 R0 (V m) (V m) c ∗ Pipeline.ΦT pre0 (tbl m) c) ⊢ (dats m hG 0 c).Φ 0 := by
  rw [tabs_eq, show (dats m hG 0 c).Φ 0 = iprop(Phi c (worldOf m c) 0 ∗ Tabs c (worldOf m c) fullShare.right ∗ (∃ r, prngReg c r)) from rfl]
  unfold Phi
  rw [if_pos rfl]
  iintro ⟨H, HT⟩
  ihave H := (begin_ok m c) $$ H
  icases H with ⟨H, Hg⟩
  isplitl [H]; · iexact H
  isplitl [HT]; · iexact HT
  iexact Hg

theorem leave_ok (c : Dev nD) :
    (dats m hG 0 c).Φ (Fin.last (cfgG m hG).N) ⊢ Pipeline.ΦDRG osem0 spec0 H0 R0 (V m) (Gv m) c := by
  have hN : (Fin.last (cfgG m hG).N).val = 228 := N_0
  rw [show (dats m hG 0 c).Φ (Fin.last (cfgG m hG).N) = iprop(Phi c (worldOf m c) (Fin.last (cfgG m hG).N).val ∗ Tabs c (worldOf m c) fullShare.right ∗ (∃ r, prngReg c r)) from rfl, hN]
  unfold Phi
  rw [if_neg (by decide), if_neg (by have := (hG c).L2; omega)]
  iintro ⟨H, -, Hg⟩
  iapply (finish_ok m c)
  isplitl [H]; · iexact H
  iexact Hg

set_option backward.isDefEq.respectTransparency.types false in
theorem run_main : θ_run defs (onTc (τ := τ) (main (F := F))) (s₀ m ρ)
    (fun r => Pipeline.FramePostRG (Pipeline.pin pcfgs (at0 m hG)) (dats m hG) 0 R0 (V m) (Gv m) r ∧ r.2.sem = fun _ => 0) :=
  Pipeline.θ_run_frameP_dmaRG_shared (Q' := _) pcfgs (at0 m hG) (dats m hG) (0 : Fin 1) launch₀0 osem0 defs₀ Variants.none ownSemFacts0 H0 R0 H0_sub R0_sub m ρ main
    (hbody := fun c => (body_obligation m hG c).loose) (hq := fun _ _ _ => rfl)
    (howed := fun _ _ => rfl) (V := V m)
    (hmain := Pipeline.hmainP_prefix pcfgs 0 defs₀ Variants.none m main hostOps0 hostOps0_sub ⟨rfl, rfl, rfl⟩ main_chain) (hA := fun _ _ => rfl)
    (hpf := fun c k => by obtain rfl : c = 0 := Subsingleton.elim _ _; rfl) (G := Gv m)
    (hin := enter_ok m hG) (hout := leave_ok m hG)

/-- A buffer the call does not write. -/
theorem read_rest (c : Dev nD) {r : PUnit × MemSt nD τ sig (Elt F)}
    (h : Pipeline.FramePostRG (Pipeline.pin pcfgs (at0 m hG)) (dats m hG) 0 R0 (V m) (Gv m) r) (b : Ref sig .tc)
    (hb : b ∈ Pipeline.restRefs sig spec0 \ R0) (hv : b ∉ [main_v0, main_v1, main_v2]) : r.2.mem ((c.tc : Thread nD τ).loc b) = m ((c.tc : Thread nD τ).loc b) :=
  ((h.1 c).2 b hb).trans (V_arg m c b hv)

include hG in
/-- The run: the arguments end as they were, the cells at zero, and the result is what the tiles leave. -/
theorem run_all : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ (∀ c : Dev nD, r.2.mem ((c.tc : Thread nD τ).loc main_v2) = (worldOf m c).G) ∧ r.2.sem = fun _ => 0) :=
  (θ_run defs _ _).mono (fun r h => ⟨fun c =>
    have hr := fun (b : Ref sig .tc) hb hv => read_rest m hG c h.1 b hb hv
    have hw := fun (w : Fin 5) => ((h.1.1 c).1 w).trans ((dats m hG 0 c).arrAt_in w (by fin_cases w <;> rfl) _)
    ⟨hr main_arg0 (by decide) (by decide), hr main_arg1 (by decide) (by decide), hr main_arg2 (by decide) (by decide), hr main_arg3 (by decide) (by decide),
     hr main_arg4 (by decide) (by decide), hr main_arg5 (by decide) (by decide), (hw 0).trans (V_arg m c main_arg6 (by decide)), (hw 2).trans (V_arg m c main_arg7 (by decide)),
     hr main_arg8 (by decide) (by decide), hr main_arg9 (by decide) (by decide), hr main_arg10 (by decide) (by decide), hr main_arg11 (by decide) (by decide),
     hr main_arg12 (by decide) (by decide)⟩,
    fun c => (h.1.2 c main_v2 (by decide)).trans (Gv_v2 m c), h.2⟩) (run_main m ρ hG)

end Cert.KernelIdeal.Hand
end
-- ==== Proof.Pre.lean ====
/-
  What the precondition says, word by word.
-/
module

public import proofs.«01_k».proof.Proof.World
public import proofs.«01_k».proof.Pre_tables_agree
public import Idealize.ShloMosaic.Lib.StableHlo.Predicate

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix1 ix2 ix3 ix4)

variable {F : FTy → Type} [FloatOps F]

local notation "𝕄" => MT nD τ sig Unit (Elt F) ℕ (Pipeline.UD sig nD τ) ℕ

theorem and_one {a b : BitVec 1} : IntOp.andi a b = 1#1 ↔ a = 1#1 ∧ b = 1#1 := by revert a b; decide
theorem or_one {a b : BitVec 1} : IntOp.ori a b = 1#1 ↔ a = 1#1 ∨ b = 1#1 := by revert a b; decide
theorem not_one {a : BitVec 1} : (~~~ a) = 1#1 ↔ ¬ a = 1#1 := by revert a; decide

theorem eq_one {w : ℕ} {x y : BitVec w} : IntOp.cmpi .eq x y = 1#1 ↔ x = y := by
  simp [IntOp.cmpi, StableHlo.Predicate.ofBool_eq_one_iff]
theorem ne_one {w : ℕ} {x y : BitVec w} : IntOp.cmpi .ne x y = 1#1 ↔ x ≠ y := by
  simp [IntOp.cmpi, StableHlo.Predicate.ofBool_eq_one_iff]
theorem slt_one {w : ℕ} {x y : BitVec w} : IntOp.cmpi .slt x y = 1#1 ↔ x.toInt < y.toInt := by
  simp [IntOp.cmpi, StableHlo.Predicate.ofBool_eq_one_iff, BitVec.slt]
theorem sle_one {w : ℕ} {x y : BitVec w} : IntOp.cmpi .sle x y = 1#1 ↔ x.toInt ≤ y.toInt := by
  simp [IntOp.cmpi, StableHlo.Predicate.ofBool_eq_one_iff, BitVec.sle]
theorem sgt_one {w : ℕ} {x y : BitVec w} : IntOp.cmpi .sgt x y = 1#1 ↔ y.toInt < x.toInt := by
  simp [IntOp.cmpi, StableHlo.Predicate.ofBool_eq_one_iff, BitVec.slt]
theorem sge_one {w : ℕ} {x y : BitVec w} : IntOp.cmpi .sge x y = 1#1 ↔ y.toInt ≤ x.toInt := by
  simp [IntOp.cmpi, StableHlo.Predicate.ofBool_eq_one_iff, BitVec.sle]

section
open Cert.Pre_tables_agree

/-- A constant broadcast to any shape is that constant. -/
theorem bc_const {s t : Shape} (d : Fin s.rank → Fin t.rank) (h : s.BroadcastsInDim t d) (w : ℕ) (b : BitVec w) (i : t.Idx) :
    broadcastInDim t d h (constantI s w b) i = b := rfl

theorem one_idx (i i' : Pre_tables_agree.S1.Idx) : i = i' :=
  funext fun a => Fin.ext (by
    have ha : a = 0 := Fin.ext (by have := a.isLt; change a.val < 1 at this; change a.val = 0; omega)
    subst ha
    have h1 := (i 0).isLt; have h2 := (i' 0).isLt
    change (i 0).val < 1 at h1; change (i' 0).val < 1 at h2; omega)

/-- The one word of a table of one, broadcast. -/
theorem bc_one {t : Shape} (d : Fin 1 → Fin t.rank) (h : Pre_tables_agree.S1.BroadcastsInDim t d) (x : Pre_tables_agree.S1.Idx → BitVec 32) (i : t.Idx) :
    broadcastInDim t d h x i = x (ix1 0) := congrArg x (one_idx _ _)

/-- A run of a table at an index. -/
theorem sl_at (k : ℕ) (x : Pre_tables_agree.S228.Idx → BitVec 32) (h : Pre_tables_agree.S228.Slices ![k] Pre_tables_agree.S227) (s : Fin 227) (hk : k + s.val < 228) :
    extractStridedSlice Pre_tables_agree.S227 ![k] x h (ix1 s) = x (ix1 ⟨k + s.val, hk⟩) :=
  congrArg x (funext fun a => by
    have ha : a = 0 := Fin.ext (by have := a.isLt; change a.val < 1 at this; change a.val = 0; omega)
    subst ha; rfl)

theorem iota_at (s : Shape) (w : ℕ) (d : Fin s.rank) (i : s.Idx) : iotaInDim s w d i = BitVec.ofNat w (i d).val := rfl

/-- A pair table read along the first two axes of the four. -/
theorem fst_at {w : ℕ} (x : S228x64.Idx → BitVec w) (h) (h') (s j s1 j1) :
    broadcastInDim S228x64x228x64 ![0, 1, 2, 3] h (broadcastInDim S228x64x1x1 ![0, 1] h' x) (ix4 s j s1 j1) = x (ix2 s j) :=
  congrArg x (funext fun a => by match a with | 0 => rfl | 1 => rfl)

/-- A pair table read along the last two axes of the four. -/
theorem snd_at {w : ℕ} (x : S228x64.Idx → BitVec w) (h) (h') (s j s1 j1) :
    broadcastInDim S228x64x228x64 ![0, 1, 2, 3] h (broadcastInDim S1x1x228x64 ![2, 3] h' x) (ix4 s j s1 j1) = x (ix2 s1 j1) :=
  congrArg x (funext fun a => by match a with | 0 => rfl | 1 => rfl)

/-- A column broadcast along its rows. -/
theorem col_at (x : Pre_tables_agree.S228.Idx → BitVec 32) (h) (h') (s : Fin 228) (j : Fin 64) :
    broadcastInDim S228x64 ![0, 1] h (broadcastInDim S228x1 ![0] h' x) (ix2 s j) = x (ix1 s) :=
  congrArg x (funext fun a => by match a with | 0 => rfl)

theorem bc_one2 (x : Pre_tables_agree.S1.Idx → BitVec 32) (h) (h') (s : Fin 228) (j : Fin 64) :
    broadcastInDim S228x64 ![0, 1] h (broadcastInDim S1x1 ![1] h' x) (ix2 s j) = x (ix1 0) := congrArg x (one_idx _ _)

theorem scal_at (x : Pre_tables_agree.S1.Idx → BitVec 32) (h) (t : Shape) (d) (h') (i : t.Idx) :
    broadcastInDim t d h' (shapeCast Pre_tables_agree.S_ x h) i = x (ix1 0) := congrArg x (one_idx _ _)

/-- The two writings of a table of chunk words. -/
theorem cast_at (x : Pre_tables_agree.S228x1x64.Idx → BitVec 32) (h) (s : Fin 228) (j : Fin 64) :
    shapeCast S228x64 x h (ix2 s j) = x (ix3 s 0 j) := by
  refine shapeCast_apply x h _ _ ?_
  rw [Shape.rowMajor_val_three, Shape.rowMajor_val_two]
  show (s.val * 1 + 0) * 64 + j.val = s.val * 64 + j.val
  omega

/-- A slot is live when its tile is and its row is. -/
theorem live_at (x : Pre_tables_agree.S1.Idx → BitVec 32) (y : Pre_tables_agree.S228.Idx → BitVec 32) (h) (h') (h1) (h2) (s : Fin 228) (j : Fin 64)
    (hs : (BitVec.ofNat 32 s.val).toInt < (x (ix1 0)).toInt) (hj : (BitVec.ofNat 32 j.val).toInt < (y (ix1 s)).toInt) :
    andi (cmpi CmpIPredicate.slt (iotaInDim S228x64 32 0) (broadcastInDim S228x64 ![0, 1] h (broadcastInDim S1x1 ![1] h' x)))
      (cmpi CmpIPredicate.slt (iotaInDim S228x64 32 1) (broadcastInDim S228x64 ![0, 1] h1 (broadcastInDim S228x1 ![0] h2 y))) (ix2 s j) = 1#1 := by
  refine and_one.mpr ⟨slt_one.mpr ?_, slt_one.mpr ?_⟩
  · rw [bc_one2]; exact hs
  · rw [col_at]; exact hj

/-- The word a tile number is, as a signed number. -/
theorem ofNat_int (n : ℕ) (h : n < 2 ^ 31) : (BitVec.ofNat 32 n).toInt = n := by
  rw [StableHlo.Predicate.toInt_eq_toNat_of_lt (by rw [BitVec.toNat_ofNat, Nat.mod_eq_of_lt (by omega)]; omega), BitVec.toNat_ofNat, Nat.mod_eq_of_lt (by omega)]

variable [hF : Cert.Pre_tables_agree.Facts] (a0 : IVec Pre_tables_agree.S1 32) (a1 a2 a3 a4 a5 : IVec Pre_tables_agree.S228 32) (a6 a7 : IVec Pre_tables_agree.S228x1x64 32) (a8 : FVec F Pre_tables_agree.S102400x1024 .f32)
  (a9 : FVec F Pre_tables_agree.S32x1024x2048 .f32) (a10 : FVec F Pre_tables_agree.S32x2048 .f32) (a11 : FVec F Pre_tables_agree.S32x1024x1024 .f32) (a12 : FVec F Pre_tables_agree.S32x1024 .f32)

theorem pre_live (h : (Cert.Pre_tables_agree.fn (F := F) a0 a1 a2 a3 a4 a5 a6 a7 a8 a9 a10 a11 a12).1 = fun _ => 1#1)  :
    (1#32).toInt ≤ (a0 (ix1 0)).toInt ∧ (a0 (ix1 0)).toInt < (228#32).toInt := by
  have := congrFun h (ix1 0)
  simp only [Cert.Pre_tables_agree.fn, fn_part1, fn_part2, fn_part3, fn_part4, fn_part5, fn_part6, Idealize.ShloMosaic.andi, Idealize.ShloMosaic.ori, Idealize.ShloMosaic.cmpi, Idealize.ShloMosaic.noti, Idealize.ShloMosaic.subi, and_one, or_one, not_one, eq_one, ne_one, slt_one, sle_one, sgt_one, sge_one, bc_const] at this
  exact this

theorem pre_words (h : (Cert.Pre_tables_agree.fn (F := F) a0 a1 a2 a3 a4 a5 a6 a7 a8 a9 a10 a11 a12).2.1 = fun _ => 1#1) (s : Fin 228) :
    (((((((((0#32).toInt ≤ (a1 (ix1 s)).toInt ∧ (a1 (ix1 s)).toInt < (32#32).toInt) ∧ (0#32).toInt ≤ (a2 (ix1 s)).toInt) ∧
                (a2 (ix1 s)).toInt ≤ (64#32).toInt) ∧ a2 (ix1 s) &&& 7#32 = 0#32) ∧
            (a3 (ix1 s) = 0#32 ∨ a3 (ix1 s) = 1#32 ∧ (a2 (ix1 s)).toInt ≤ (32#32).toInt)) ∧
          (a4 (ix1 s) = 0#32 ∨ a4 (ix1 s) = 1#32)) ∧
        ((0#32).toInt < (BitVec.ofNat 32 s.val).toInt ∨ a4 (ix1 s) = 0#32)) ∧
      (a5 (ix1 s)).toInt < (32#32).toInt) ∧
    (BitVec.ofNat 32 s.val ≠ a0 (ix1 0) - 1#32 ∨ (a5 (ix1 s)).toInt < (0#32).toInt) := by
  have := congrFun h (ix1 s)
  simp only [Cert.Pre_tables_agree.fn, fn_part1, fn_part2, fn_part3, fn_part4, fn_part5, fn_part6, Idealize.ShloMosaic.andi, Idealize.ShloMosaic.ori, Idealize.ShloMosaic.cmpi, Idealize.ShloMosaic.noti, Idealize.ShloMosaic.subi, and_one, or_one, not_one, eq_one, ne_one, slt_one, sle_one, sgt_one, sge_one, bc_const] at this
  simp only [bc_one, iota_at] at this
  exact this

theorem pre_turn (h : (Cert.Pre_tables_agree.fn (F := F) a0 a1 a2 a3 a4 a5 a6 a7 a8 a9 a10 a11 a12).2.2.1 = fun _ => 1#1) (s : Fin 227) :
    ((a0 (ix1 0)).toInt ≤ (BitVec.ofNat 32 (1 + s.val)).toInt ∨
      (a1 (ix1 ⟨1 + s.val, by omega⟩) = a1 (ix1 ⟨0 + s.val, by omega⟩) ∧ a5 (ix1 ⟨1 + s.val, by omega⟩) = a5 (ix1 ⟨0 + s.val, by omega⟩)) ∧
        a4 (ix1 ⟨1 + s.val, by omega⟩) = a4 (ix1 ⟨0 + s.val, by omega⟩)) ∨
    (¬ a1 (ix1 ⟨1 + s.val, by omega⟩) = a1 (ix1 ⟨0 + s.val, by omega⟩) ∧ a5 (ix1 ⟨0 + s.val, by omega⟩) = a1 (ix1 ⟨1 + s.val, by omega⟩)) ∧
      a4 (ix1 ⟨1 + s.val, by omega⟩) = 1#32 - a4 (ix1 ⟨0 + s.val, by omega⟩) := by
  have := congrFun h (ix1 s)
  simp only [Cert.Pre_tables_agree.fn, fn_part1, fn_part2, fn_part3, fn_part4, fn_part5, fn_part6, Idealize.ShloMosaic.andi, Idealize.ShloMosaic.ori, Idealize.ShloMosaic.cmpi, Idealize.ShloMosaic.noti, Idealize.ShloMosaic.subi, and_one, or_one, not_one, eq_one, ne_one, slt_one, sle_one, sgt_one, sge_one, bc_const] at this
  simp only [bc_one] at this
  rw [sl_at 1 _ _ s (by omega), sl_at 1 _ _ s (by omega), sl_at 1 _ _ s (by omega), sl_at 1 _ _ s (by omega), sl_at 0 _ _ s (by omega), sl_at 0 _ _ s (by omega), sl_at 0 _ _ s (by omega)] at this
  exact this

theorem pre_chunks (h : (Cert.Pre_tables_agree.fn (F := F) a0 a1 a2 a3 a4 a5 a6 a7 a8 a9 a10 a11 a12).2.2.2.1 = fun _ => 1#1) (s : Fin 228) (j : Fin 64) :
    (((0#32).toInt ≤ (a6 (ix3 s 0 j)).toInt ∧ (a6 (ix3 s 0 j)).toInt < (12800#32).toInt) ∧ (0#32).toInt ≤ (a7 (ix3 s 0 j)).toInt) ∧ (a7 (ix3 s 0 j)).toInt < (12800#32).toInt := by
  have := congrFun h (ix3 s 0 j)
  simp only [Cert.Pre_tables_agree.fn, fn_part1, fn_part2, fn_part3, fn_part4, fn_part5, fn_part6, Idealize.ShloMosaic.andi, Idealize.ShloMosaic.ori, Idealize.ShloMosaic.cmpi, Idealize.ShloMosaic.noti, Idealize.ShloMosaic.subi, and_one, or_one, not_one, eq_one, ne_one, slt_one, sle_one, sgt_one, sge_one, bc_const] at this
  exact this

theorem pre_once (h : (Cert.Pre_tables_agree.fn (F := F) a0 a1 a2 a3 a4 a5 a6 a7 a8 a9 a10 a11 a12).2.2.2.2.1 = fun _ => 1#1) (s : Fin 228) (j : Fin 64) (s1 : Fin 228) (j1 : Fin 64) :
    ¬ ((((BitVec.ofNat 32 s.val).toInt < (a0 (ix1 0)).toInt ∧ (BitVec.ofNat 32 j.val).toInt < (a2 (ix1 s)).toInt) ∧ ((BitVec.ofNat 32 s1.val).toInt < (a0 (ix1 0)).toInt ∧ (BitVec.ofNat 32 j1.val).toInt < (a2 (ix1 s1)).toInt)) ∧ a7 (ix3 s 0 j) = a7 (ix3 s1 0 j1)) ∨
      BitVec.ofNat 32 s.val = BitVec.ofNat 32 s1.val ∧ BitVec.ofNat 32 j.val = BitVec.ofNat 32 j1.val := by
  have := congrFun h (ix4 s j s1 j1)
  simp only [Cert.Pre_tables_agree.fn, fn_part1, fn_part2, fn_part3, fn_part4, fn_part5, fn_part6, Idealize.ShloMosaic.andi, Idealize.ShloMosaic.ori, Idealize.ShloMosaic.cmpi, Idealize.ShloMosaic.noti, Idealize.ShloMosaic.subi, and_one, or_one, not_one, eq_one, ne_one, slt_one, sle_one, sgt_one, sge_one, bc_const] at this
  rcases this with h | h
  · refine Or.inl fun ⟨⟨⟨p1, p2⟩, ⟨q1, q2⟩⟩, r⟩ => h ⟨⟨?_, ?_⟩, ?_⟩
    · exact (fst_at _ _ _ s j s1 j1).trans (live_at a0 a2 _ _ _ _ s j p1 p2)
    · exact (snd_at _ _ _ s j s1 j1).trans (live_at a0 a2 _ _ _ _ s1 j1 q1 q2)
    · exact ((fst_at _ _ _ s j s1 j1).trans (cast_at a7 _ s j)).trans (r.trans ((snd_at _ _ _ s j s1 j1).trans (cast_at a7 _ s1 j1)).symm)
  · exact Or.inr h

theorem pre_before (h : (Cert.Pre_tables_agree.fn (F := F) a0 a1 a2 a3 a4 a5 a6 a7 a8 a9 a10 a11 a12).2.2.2.2.2 = fun _ => 1#1) (s : Fin 228) (j : Fin 64) (s1 : Fin 228) (j1 : Fin 64) :
    ¬ ((((BitVec.ofNat 32 s1.val).toInt < (a0 (ix1 0)).toInt ∧ (BitVec.ofNat 32 j1.val).toInt < (a2 (ix1 s1)).toInt) ∧ (BitVec.ofNat 32 s.val).toInt ≤ (a0 (ix1 0)).toInt) ∧ a6 (ix3 s 0 j) = a7 (ix3 s1 0 j1)) ∨
      (BitVec.ofNat 32 s.val).toInt ≤ (BitVec.ofNat 32 s1.val).toInt := by
  have := congrFun h (ix4 s j s1 j1)
  simp only [Cert.Pre_tables_agree.fn, fn_part1, fn_part2, fn_part3, fn_part4, fn_part5, fn_part6, Idealize.ShloMosaic.andi, Idealize.ShloMosaic.ori, Idealize.ShloMosaic.cmpi, Idealize.ShloMosaic.noti, Idealize.ShloMosaic.subi, and_one, or_one, not_one, eq_one, ne_one, slt_one, sle_one, sgt_one, sge_one, bc_const] at this
  rcases this with h | h
  · refine Or.inl fun ⟨⟨⟨q1, q2⟩, p⟩, r⟩ => h ⟨⟨?_, ?_⟩, ?_⟩
    · exact (snd_at _ _ _ s j s1 j1).trans (live_at a0 a2 _ _ _ _ s1 j1 q1 q2)
    · rw [scal_at]; exact p
    · exact ((fst_at _ _ _ s j s1 j1).trans (cast_at a6 _ s j)).trans (r.trans ((snd_at _ _ _ s j s1 j1).trans (cast_at a7 _ s1 j1)).symm)
  · exact Or.inr h

end

end Cert.KernelIdeal.Hand
end
-- ==== Proof.Fine.lean ====
/-
  The precondition makes the tables a world the kernel runs on.
-/
module

public import proofs.«01_k».proof.Proof.Run
public import proofs.«01_k».proof.Proof.Pre

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix1 ix2 ix3 ix4)

variable {F : FTy → Type} [FloatOps F]

local notation "𝕄" => MT nD τ sig Unit (Elt F) ℕ (Pipeline.UD sig nD τ) ℕ

open Idealize.ShloMosaic.StableHlo

theorem toInt_nn {x : BitVec 32} (h : 0 ≤ x.toInt) : x.toInt = x.toNat := by
  rw [BitVec.toInt_eq_toNat_cond] at h ⊢
  have := x.isLt
  split at h <;> split <;> omega

theorem wd_at (f : S228.Idx → BitVec 32) (s : ℕ) (hs : s < 228) : wd f s = f (ix1 ⟨s, hs⟩) := by
  unfold wd
  refine congrArg f (funext fun a => ?_)
  match a with
  | 0 => exact Fin.ext (Nat.mod_eq_of_lt hs)

variable [hF : Cert.Pre_tables_agree.Facts] (W : World F) (a6 a7 : IVec S228x1x64 32) (a8 : FVec F S102400x1024 .f32)
  (a9 : FVec F S32x1024x2048 .f32) (a10 : FVec F S32x2048 .f32) (a11 : FVec F S32x1024x1024 .f32) (a12 : FVec F S32x1024 .f32)

theorem vL_at : W.vL = W.tL (ix1 0) := congrArg W.tL (one_idx _ _)

set_option maxHeartbeats 1000000 in
theorem good_of (hsw : ∀ (s : Fin 228) (j : Fin 64), W.sw s.val j.val = a6 (ix3 s 0 j)) (hdw : ∀ (s : Fin 228) (j : Fin 64), W.dw s.val j.val = a7 (ix3 s 0 j))
    (h1 : (Cert.Pre_tables_agree.fn (F := F) W.tL W.tE W.tN W.tH W.tS W.tW a6 a7 a8 a9 a10 a11 a12).1 = fun _ => 1#1)
    (h2 : (Cert.Pre_tables_agree.fn (F := F) W.tL W.tE W.tN W.tH W.tS W.tW a6 a7 a8 a9 a10 a11 a12).2.1 = fun _ => 1#1)
    (h3 : (Cert.Pre_tables_agree.fn (F := F) W.tL W.tE W.tN W.tH W.tS W.tW a6 a7 a8 a9 a10 a11 a12).2.2.1 = fun _ => 1#1)
    (h4 : (Cert.Pre_tables_agree.fn (F := F) W.tL W.tE W.tN W.tH W.tS W.tW a6 a7 a8 a9 a10 a11 a12).2.2.2.1 = fun _ => 1#1)
    (h5 : (Cert.Pre_tables_agree.fn (F := F) W.tL W.tE W.tN W.tH W.tS W.tW a6 a7 a8 a9 a10 a11 a12).2.2.2.2.1 = fun _ => 1#1)
    (h6 : (Cert.Pre_tables_agree.fn (F := F) W.tL W.tE W.tN W.tH W.tS W.tW a6 a7 a8 a9 a10 a11 a12).2.2.2.2.2 = fun _ => 1#1) : W.Good := by
  have c0 : (0#32).toInt = 0 := by decide
  have c1 : (1#32).toInt = 1 := by decide
  have c32 : (32#32).toInt = 32 := by decide
  have c64 : (64#32).toInt = 64 := by decide
  have c228 : (228#32).toInt = 228 := by decide
  have c128 : (12800#32).toInt = 12800 := by decide
  have hl := pre_live _ _ _ _ _ _ _ _ _ _ _ _ _ h1
  rw [← vL_at, c1, c228] at hl
  have eL : W.vL.toInt = (W.L : ℤ) := toInt_nn (by omega)
  have L1 : 1 ≤ W.L := by omega
  have L2 : W.L < 228 := by omega
  have hv : W.vL = BitVec.ofNat 32 W.L := by unfold World.L; simp
  have hw := fun (s : ℕ) (hs : s < 228) => pre_words _ _ _ _ _ _ _ _ _ _ _ _ _ h2 ⟨s, hs⟩
  simp only [← wd_at, ← vL_at, c0, c32, c64] at hw
  have hnv : ∀ s, s < 228 → (wd W.tN s).toInt = (W.nv s : ℤ) ∧ W.nv s ≤ 64 := fun s hs => by
    obtain ⟨⟨⟨⟨⟨⟨⟨⟨⟨e0, e1⟩, n0⟩, n1⟩, n8⟩, hh⟩, hsl⟩, hs0⟩, hwN⟩, hlast⟩ := hw s hs
    have : (wd W.tN s).toInt = (W.nv s : ℤ) := toInt_nn n0
    exact ⟨this, by omega⟩
  have hsl : ∀ s, s < 228 → wd W.tS s = 0#32 ∨ wd W.tS s = 1#32 := fun s hs => (hw s hs).1.1.1.2
  have hc := fun (s : ℕ) (hs : s < 228) (j : ℕ) (hj : j < 64) => pre_chunks _ _ _ _ _ _ _ _ _ _ _ _ _ h4 ⟨s, hs⟩ ⟨j, hj⟩
  simp only [← hsw, ← hdw, c0, c128] at hc
  have ht := fun (s : ℕ) (hs : s < 227) => pre_turn _ _ _ _ _ _ _ _ _ _ _ _ _ h3 ⟨s, hs⟩
  simp only [← wd_at, ← vL_at] at ht
  have ho := fun (s : ℕ) (hs : s < 228) (j : ℕ) (hj : j < 64) (s' : ℕ) (hs' : s' < 228) (j' : ℕ) (hj' : j' < 64) =>
    pre_once _ _ _ _ _ _ _ _ _ _ _ _ _ h5 ⟨s, hs⟩ ⟨j, hj⟩ ⟨s', hs'⟩ ⟨j', hj'⟩
  simp only [← wd_at, ← vL_at, ← hdw] at ho
  have hb := fun (s : ℕ) (hs : s < 228) (j : ℕ) (hj : j < 64) (s' : ℕ) (hs' : s' < 228) (j' : ℕ) (hj' : j' < 64) =>
    pre_before _ _ _ _ _ _ _ _ _ _ _ _ _ h6 ⟨s, hs⟩ ⟨j, hj⟩ ⟨s', hs'⟩ ⟨j', hj'⟩
  simp only [← wd_at, ← vL_at, ← hdw, ← hsw] at hb
  constructor
  · exact L1
  · exact L2
  · intro s hs
    obtain ⟨⟨⟨⟨⟨⟨⟨⟨⟨e0, e1⟩, n0⟩, n1⟩, n8⟩, hh⟩, hsl⟩, hs0⟩, hwN⟩, hlast⟩ := hw s hs
    have : (wd W.tE s).toInt = (W.e s : ℤ) := toInt_nn e0
    omega
  · exact fun s hs => (hnv s hs).2
  · intro s hs
    obtain ⟨⟨⟨⟨⟨⟨⟨⟨⟨e0, e1⟩, n0⟩, n1⟩, n8⟩, hh⟩, hsl⟩, hs0⟩, hwN⟩, hlast⟩ := hw s hs
    have := congrArg BitVec.toNat n8
    rw [BitVec.toNat_and] at this
    have h7 : (7#32).toNat = 2 ^ 3 - 1 := by decide
    rw [h7, Nat.and_two_pow_sub_one_eq_mod] at this
    exact Nat.dvd_of_mod_eq_zero this
  · intro s hs
    obtain ⟨⟨⟨⟨⟨⟨⟨⟨⟨e0, e1⟩, n0⟩, n1⟩, n8⟩, hh⟩, hsl⟩, hs0⟩, hwN⟩, hlast⟩ := hw s hs
    have := (hnv s hs).1
    exact hh.imp id fun h => ⟨h.1, by have := h.2; omega⟩
  · intro s hs
    unfold World.sl
    rcases hsl s hs with h | h <;> rw [h] <;> decide
  · obtain ⟨⟨⟨⟨⟨⟨⟨⟨⟨e0, e1⟩, n0⟩, n1⟩, n8⟩, hh⟩, hsl⟩, hs0⟩, hwN⟩, hlast⟩ := hw 0 (by omega)
    unfold World.sl
    rcases hs0 with h | h
    · exact absurd h (by decide)
    · rw [h]; decide
  · exact fun s hs => (hw s hs).1.2
  · have := (hw (W.L - 1) (by omega)).2
    refine this.resolve_left fun h => h ?_
    have e : W.vL = BitVec.ofNat 32 (W.L - 1) + 1#32 := by
      rw [hv]; apply BitVec.eq_of_toNat_eq; simp; omega
    rw [e]; exact (BitVec.add_sub_cancel _ _).symm
  · intro s hs
    have := ht s (by omega)
    rw [eL, ofNat_int _ (by omega), Nat.zero_add, Nat.add_comm 1 s] at this
    rcases this with (h | ⟨⟨ha, hb⟩, hc⟩) | ⟨⟨ha, hb⟩, hc⟩
    · omega
    · exact Or.inl ⟨ha, hb, by unfold World.sl; rw [hc]⟩
    · refine Or.inr ⟨ha, hb, ?_⟩
      unfold World.sl
      rw [hc]
      rcases hsl s (by omega) with h | h <;> rw [h] <;> decide
  · intro s hs j hj
    obtain ⟨⟨⟨p, q⟩, r⟩, t⟩ := hc s hs j hj
    have : (W.sw s j).toInt = (W.src s j : ℤ) := toInt_nn p
    omega
  · intro s hs j hj
    obtain ⟨⟨⟨p, q⟩, r⟩, t⟩ := hc s hs j hj
    have : (W.dw s j).toInt = (W.dst s j : ℤ) := toInt_nn r
    omega
  · intro s j s' j' hs hj hs' hj' he
    have n1 := hnv s (by omega)
    have n2 := hnv s' (by omega)
    have := ho s (by omega) j (by omega) s' (by omega) j' (by omega)
    rw [eL, n1.1, n2.1, ofNat_int _ (by omega), ofNat_int _ (by omega), ofNat_int _ (by omega), ofNat_int _ (by omega)] at this
    rcases this with h | ⟨ha, hb⟩
    · exact absurd ⟨⟨⟨by omega, by omega⟩, ⟨by omega, by omega⟩⟩, BitVec.eq_of_toNat_eq he⟩ h
    · have x := congrArg BitVec.toInt ha
      have y := congrArg BitVec.toInt hb
      rw [ofNat_int _ (by omega), ofNat_int _ (by omega)] at x y
      omega
  · intro s j s' j' hs hj hs' hj' he
    have n2 := hnv s' (by omega)
    have := hb s (by omega) j (by omega) s' (by omega) j' (by omega)
    rw [eL, n2.1, ofNat_int _ (by omega), ofNat_int _ (by omega), ofNat_int _ (by omega)] at this
    rcases this with h | h
    · exact absurd ⟨⟨⟨by omega, by omega⟩, by omega⟩, BitVec.eq_of_toNat_eq he⟩ h
    · omega

end Cert.KernelIdeal.Hand
end
-- ==== Proof.Frames.lean ====
/-
  The frames, read off the one run of the kernel and the run of the reference.
-/
module

public import proofs.«01_k».proof.Proof.Fine
public import proofs.«01_k».proof.Defs
public import proofs.«01_k».proof.Proof.Gen.Kernel
public import proofs.«01_k».proof.Proof.Gen.ReferenceIdeal.Run
public import proofs.«01_k».proof.Proof.Gen.Pre_tables_agree

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix1 ix2 ix3 ix4)

variable {F : FTy → Type} [FloatOps F]

local notation "𝕄" => MT nD τ sig Unit (Elt F) ℕ (Pipeline.UD sig nD τ) ℕ

/-- The precondition makes every device's tables a world the kernel runs on. -/
theorem good_ideal (m) (h : Cert.Pre_KernelIdeal m) : AllGood (F := Ideal) m := fun c => by
  obtain ⟨h1, h2, h3, h4, h5, h6⟩ := h c
  exact good_of (worldOf m c) _ _ _ _ _ _ _
    (fun s j => congrArg (m ((c : Thread nD τ).loc main_arg6)) (by simp [Nat.mod_eq_of_lt]))
    (fun s j => congrArg (m ((c : Thread nD τ).loc main_arg7)) (by simp [Nat.mod_eq_of_lt])) h1 h2 h3 h4 h5 h6

theorem frame_kernelIdeal : Cert.quiescent_KernelIdeal := fun m ρ h =>
  (θ_run Cert.KernelIdeal.defs _ _).mono (fun _ h => ⟨h.1, h.2.2⟩) (run_all m ρ (good_ideal m h))

theorem good_bits (m : (ℓ : Loc nD τ sig) → Buf (Elt Bits) ℓ) (h : Cert.Pre_Kernel m) : AllGood (F := Bits) m := fun c => by
  obtain ⟨h1, h2, h3, h4, h5, h6⟩ := h c
  exact good_of (worldOf m c) _ _ _ _ _ _ _
    (fun s j => congrArg (m ((c : Thread nD τ).loc main_arg6)) (by simp [Nat.mod_eq_of_lt]))
    (fun s j => congrArg (m ((c : Thread nD τ).loc main_arg7)) (by simp [Nat.mod_eq_of_lt])) h1 h2 h3 h4 h5 h6

theorem frame_reference : Cert.quiescent_ReferenceIdeal := fun m ρ _ =>
  (θ_run Cert.ReferenceIdeal.defs _ _).mono (fun r h => ⟨fun c => (h c).2, sem_eq_zero_of_no_sems (by decide) _⟩) (Cert.ReferenceIdeal.Value.run m ρ)

end Cert.KernelIdeal.Hand
end
-- ==== Proof.Same.lean ====
/-
  The kernel and its ideal reading have one text, so that the run of the one is the run of the other.
-/
module

public import proofs.«01_k».proof.Proof.Frames
public import proofs.«01_k».proof.Defs
public import proofs.«01_k».proof.Proof.Gen.Kernel
public import proofs.«01_k».proof.Proof.Gen.ReferenceIdeal.Run
public import proofs.«01_k».proof.Proof.Gen.Pre_tables_agree

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix1 ix2 ix3 ix4)

variable {F : FTy → Type} [FloatOps F]

local notation "𝕄" => MT nD τ sig Unit (Elt F) ℕ (Pipeline.UD sig nD τ) ℕ

/-- The kernel's frame, said of its ideal reading's text at machine floats. -/
def FrameBits : Prop :=
  ∀ (m : (ℓ : Loc nD τ sig) → Buf (Elt Bits) ℓ) (g : Dev nD → PrngReg), Cert.Pre_Kernel m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

/-- The two texts are one. -/
theorem one_text : Cert.quiescent_Kernel = FrameBits := by sl_kernel_rfl

theorem frameBits : FrameBits := fun m ρ h =>
  (θ_run Cert.KernelIdeal.defs _ _).mono (fun _ h => ⟨h.1, h.2.2⟩) (run_all (F := Bits) m ρ (good_bits m h))

theorem frame_kernel : Cert.quiescent_Kernel := one_text ▸ frameBits

end Cert.KernelIdeal.Hand
end
-- ==== Proof.Spec.lean ====
/-
  One row of the experts' feed-forward over the ideal numbers, and the kernel's payloads read at a row.
-/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.KernelIdeal.Val

open Cert.KernelIdeal Cert.KernelIdeal.Gen
open Idealize.ShloMosaic

/-- The limit of the gate and of the linear half. -/
def lim : EReal := Ideal.ofBits .f32 0x40E00000#32

/-- The hidden word `f` of a row `x`: the first weights' column, and its bias. -/
def hid (x : Fin 1024 → EReal) (w : Fin 1024 → Fin 2048 → EReal) (b : Fin 2048 → EReal) (f : Fin 2048) : EReal :=
  (∑ k : Fin 1024, x k * w k f) + b f

/-- The clamped gate times its sigmoid times the clamped linear half plus one. -/
def act (g u : EReal) : EReal :=
  (min lim (max (Ideal.ofBits .f32 0xC0E00000#32) u) + 1) * min g lim
    * Ideal.logistic (Ideal.ofBits .f32 0x3FD9DB23#32 * min g lim)

/-- Word `q` of the feed-forward of a row. -/
def ffn (x : Fin 1024 → EReal) (w : Fin 1024 → Fin 2048 → EReal) (b : Fin 2048 → EReal)
    (d : Fin 1024 → Fin 1024 → EReal) (c : Fin 1024 → EReal) (q : Fin 1024) : EReal :=
  (∑ f : Fin 1024, act (hid x w b ⟨f.val, by omega⟩) (hid x w b ⟨1024 + f.val, by omega⟩) * d f q) + c q

/-- A whole tile's payload at a row. -/
theorem pay_whole (X : Vec Ideal S1x512x1024 .f32) (W : Vec Ideal S1024x2048 .bf16) (B : Vec Ideal S1x1x2048 .f32)
    (D : Vec Ideal S1024x1024 .bf16) (C : Vec Ideal S1x1x1024 .f32) (r : Fin 512) (q : Fin 1024) :
    k0_pay8 (F := Ideal) (k0_pay3 X W B D) (k0_pay4 C) (ix3 0 r q)
      = ffn (fun k => X (ix3 0 r k)) (fun k f => W (ix2 k f)) (fun f => B (ix3 0 0 f)) (fun f q => D (ix2 f q))
          (fun q => C (ix3 0 0 q)) q := by
  pointwise [k0_pay8, k0_pay3, k0_pay4]
  rfl

/-- A half tile's payload at a row. -/
theorem pay_half (X : Vec Ideal S1x256x1024 .f32) (W : Vec Ideal S1024x2048 .bf16) (B : Vec Ideal S1x1x2048 .f32)
    (D : Vec Ideal S1024x1024 .bf16) (C : Vec Ideal S1x1x1024 .f32) (r : Fin 256) (q : Fin 1024) :
    k0_pay7 (F := Ideal) (k0_pay1 X W B D) (k0_pay2 C) (ix3 0 r q)
      = ffn (fun k => X (ix3 0 r k)) (fun k f => W (ix2 k f)) (fun f => B (ix3 0 0 f)) (fun f q => D (ix2 f q))
          (fun q => C (ix3 0 0 q)) q := by
  pointwise [k0_pay7, k0_pay1, k0_pay2]
  rfl

/-- The first weights' payload at a place. -/
theorem pay_gu (X : Vec Ideal S1x1024x2048 .f32) (k : Fin 1024) (f : Fin 2048) :
    k0_pay5 (F := Ideal) X (ix2 k f) = X (ix3 0 k f) := by
  pointwise [k0_pay5]

/-- The second weights' payload at a place. -/
theorem pay_dn (X : Vec Ideal S1x1024x1024 .f32) (f : Fin 1024) (q : Fin 1024) :
    k0_pay6 (F := Ideal) X (ix2 f q) = X (ix3 0 f q) := by
  pointwise [k0_pay6]

end Cert.KernelIdeal.Val

end
-- ==== Proof.Fold.lean ====
/-
  A fold with a neutral start, over terms of which at most one differs from it.
-/
module

public import Mathlib.Data.Finset.Fold

@[expose] public section

namespace Cert.Fold

variable {α β : Type*} (op : β → β → β) [hc : Std.Commutative op] [ha : Std.Associative op] (z : β)
  (hz : ∀ a, op a z = a)

include hz

/-- All terms neutral: the fold is. -/
theorem fold_none (f : α → β) (s : Finset α) (h : ∀ x ∈ s, f x = z) : s.fold op z f = z := by
  classical
  induction s using Finset.induction_on with
  | empty => rfl
  | insert a s hs ih =>
    rw [Finset.fold_insert hs, ih fun x hx => h x (Finset.mem_insert_of_mem hx), hz]
    exact h a (Finset.mem_insert_self a s)

/-- All terms but one neutral: the fold is that one. -/
theorem fold_pick (f : α → β) (s : Finset α) (a : α) (has : a ∈ s) (h : ∀ x ∈ s, x ≠ a → f x = z) :
    s.fold op z f = f a := by
  classical
  conv_lhs => rw [← Finset.insert_erase has]
  rw [Finset.fold_insert (Finset.notMem_erase a s),
    fold_none op z hz f _ fun x hx => h x (Finset.mem_of_mem_erase hx) (Finset.ne_of_mem_erase hx), hz]

end Cert.Fold
-- ==== Proof.Ref.lean ====
/-
  The reference's result in its parts, each read at a place over the ideal numbers.
-/
module

public import proofs.«01_k».proof.Proof.Spec
public import proofs.«01_k».proof.Proof.Fold
public import proofs.«01_k».proof.Proof.Gen.ReferenceIdeal.Run
public import Idealize.ShloMosaic.PureOps.Reduce

@[expose] public section

set_option maxRecDepth 16384

noncomputable section

namespace Cert.ReferenceIdeal.Val

open Cert.ReferenceIdeal Cert.ReferenceIdeal.Gen Idealize.ShloMosaic Idealize.ShloMosaic.TcCoe
open Cert.KernelIdeal.Val (lim hid act ffn)

/-! ### Which listed chunk each chunk of rows is -/

/-- Chunk `j` of tile `s` is listed and has destination `i`. -/
def mine (a0 : IVec S1 32) (a2 : IVec S228 32) (a7 : IVec S228x1x64 32) : IVec S228x64x12800 1 :=
  andi (cmpi .eq (broadcastInDim S228x64x12800 ![0, 1, 2] bcast_S228x64x1_S228x64x12800_0_1_2 (broadcastInDim S228x64x1 ![0, 1] bcast_S228x64_S228x64x1_0_1 (shapeCast _ a7 shapeCasts_S228x1x64_S228x64))) (iotaInDim S228x64x12800 32 2))
    (broadcastInDim S228x64x12800 ![0, 1, 2] bcast_S228x64x1_S228x64x12800_0_1_2 (broadcastInDim S228x64x1 ![0, 1] bcast_S228x64_S228x64x1_0_1 (andi (cmpi .slt (iotaInDim S228x64 32 0) (broadcastInDim S228x64 ![0, 1] bcast_S1x1_S228x64_0_1 (broadcastInDim S1x1 ![1] bcast_S1_S1x1_1 a0))) (cmpi .slt (iotaInDim S228x64 32 1) (broadcastInDim S228x64 ![0, 1] bcast_S228x1_S228x64_0_1 (broadcastInDim S228x1 ![0] bcast_S228_S228x1_0 a2))))))

/-- Some listed chunk has this destination. -/
def listed (M : IVec S228x64x12800 1) : IVec S12800 1 :=
  Host.reduce IntOp.ori M (constantI S_ 1 0#1) reducesTo_S228x64x12800_S12800_d0_1 h_S_

/-- The sum, over the listed chunks with this destination, of their tiles' experts. -/
def expert (M : IVec S228x64x12800 1) (a1 : IVec S228 32) : IVec S12800 32 :=
  Host.reduce IntOp.addi (select M (broadcastInDim S228x64x12800 ![0, 1, 2] bcast_S228x1x1_S228x64x12800_0_1_2 (broadcastInDim S228x1x1 ![0] bcast_S228_S228x1x1_0 a1)) (broadcastInDim S228x64x12800 ![] bcast_S_S228x64x12800 (id (constantI S_ 32 0#32)))) (constantI S_ 32 0#32) reducesTo_S228x64x12800_S12800_d0_1 h_S_

/-- The sum, over the listed chunks with this destination, of their sources. -/
def source (M : IVec S228x64x12800 1) (a6 : IVec S228x1x64 32) : IVec S12800 32 :=
  Host.reduce IntOp.addi (select M (broadcastInDim S228x64x12800 ![0, 1, 2] bcast_S228x64x1_S228x64x12800_0_1_2 (broadcastInDim S228x64x1 ![0, 1] bcast_S228x64_S228x64x1_0_1 (shapeCast _ a6 shapeCasts_S228x1x64_S228x64))) (broadcastInDim S228x64x12800 ![] bcast_S_S228x64x12800 (id (constantI S_ 32 0#32)))) (constantI S_ 32 0#32) reducesTo_S228x64x12800_S12800_d0_1 h_S_

/-! ### The rows and their feed-forward -/

/-- The source rows of every row. -/
def rows (so : IVec S12800 32) (a8 : FVec Ideal S102400x1024 .f32) : FVec Ideal S102400x1024 .f32 :=
  shapeCast _ (Host.gather gather_S12800x8x1024_S12800x1_S12800x8x1024_12_0_n_n_0_1_181024 (shapeCast _ a8 shapeCasts_S102400x1024_S12800x8x1024) (broadcastInDim S12800x1 ![0] bcast_S12800_S12800x1_0 (select (cmpi .slt so (broadcastInDim S12800 ![] bcast_S_S12800 (constantI S_ 32 0#32))) (addi so (broadcastInDim S12800 ![] bcast_S_S12800 (constantI S_ 32 12800#32))) so))) shapeCasts_S12800x8x1024_S102400x1024

/-- The hidden words of every row under every expert. -/
def hidden (T : FVec Ideal S102400x1024 .f32) (a9 : FVec Ideal S32x1024x2048 .f32) (a10 : FVec Ideal S32x2048 .f32) : FVec Ideal S102400x32x2048 .f32 :=
  addf (Host.dotGeneral dot_S102400x1024_S32x1024x2048_S102400x32x2048_1_1_0_02_n_n none T a9) (broadcastInDim S102400x32x2048 ![0, 1, 2] bcast_S1x32x2048_S102400x32x2048_0_1_2 (broadcastInDim S1x32x2048 ![1, 2] bcast_S32x2048_S1x32x2048_1_2 a10))

/-- The activated words. -/
def active (H : FVec Ideal S102400x32x2048 .f32) : FVec Ideal S102400x32x1024 .f32 :=
  mulf (mulf (addf (minimumf (broadcastInDim S102400x32x1024 ![] bcast_S_S102400x32x1024 (id (constant S_ .f32 0x40E00000#32))) (maximumf (broadcastInDim S102400x32x1024 ![] bcast_S_S102400x32x1024 (id (constant S_ .f32 0xC0E00000#32))) (extractStridedSlice S102400x32x1024 ![0, 0, 1024] H slices_S102400x32x2048_S102400x32x1024_0_0_1024))) (broadcastInDim S102400x32x1024 ![] bcast_S_S102400x32x1024 (constant S_ .f32 0x3F800000#32))) (minimumf (extractStridedSlice S102400x32x1024 ![0, 0, 0] H slices_S102400x32x2048_S102400x32x1024_0_0_0) (broadcastInDim S102400x32x1024 ![] bcast_S_S102400x32x1024 (constant S_ .f32 0x40E00000#32)))) (Host.divf (broadcastInDim S102400x32x1024 ![] bcast_S_S102400x32x1024 (constant S_ .f32 0x3F800000#32)) (addf (broadcastInDim S102400x32x1024 ![] bcast_S_S102400x32x1024 (constant S_ .f32 0x3F800000#32)) (Host.exp (Host.negf (mulf (broadcastInDim S102400x32x1024 ![] bcast_S_S102400x32x1024 (constant S_ .f32 0x3FD9DB23#32)) (minimumf (extractStridedSlice S102400x32x1024 ![0, 0, 0] H slices_S102400x32x2048_S102400x32x1024_0_0_0) (broadcastInDim S102400x32x1024 ![] bcast_S_S102400x32x1024 (constant S_ .f32 0x40E00000#32))))))))

/-- Every expert's result of every row. -/
def every (A : FVec Ideal S102400x32x1024 .f32) (a11 : FVec Ideal S32x1024x1024 .f32) (a12 : FVec Ideal S32x1024 .f32) : FVec Ideal S32x102400x1024 .f32 :=
  addf (Host.dotGeneral dot_S102400x32x1024_S32x1024x1024_S32x102400x1024_2_1_0_2_1_0 none A a11) (broadcastInDim S32x102400x1024 ![0, 1, 2] bcast_S32x1x1024_S32x102400x1024_0_1_2 (broadcastInDim S32x1x1024 ![0, 2] bcast_S32x1024_S32x1x1024_0_2 a12))

/-- The gated sum over the experts where a chunk is listed, the rows as they were elsewhere. -/
def outOf (L : IVec S12800 1) (E : IVec S12800 32) (Y : FVec Ideal S32x102400x1024 .f32) (a8 : FVec Ideal S102400x1024 .f32) : FVec Ideal S102400x1024 .f32 :=
  select (broadcastInDim S102400x1024 ![0, 1] bcast_S102400x1_S102400x1024_0_1 (broadcastInDim S102400x1 ![0] bcast_S102400_S102400x1_0 (shapeCast _ (broadcastInDim S12800x8 ![0] bcast_S12800_S12800x8_0 L) shapeCasts_S12800x8_S102400))) (Host.reduceAdd (mulf (broadcastInDim S32x102400x1024 ![0, 1, 2] bcast_S32x102400x1_S32x102400x1024_0_1_2 (broadcastInDim S32x102400x1 ![0, 1] bcast_S32x102400_S32x102400x1_0_1 (transpose S32x102400 [1, 0] (uitofp .f32 (cmpi .eq (broadcastInDim S102400x32 ![0, 1] bcast_S102400x1_S102400x32_0_1 (broadcastInDim S102400x1 ![0] bcast_S102400_S102400x1_0 (shapeCast _ (broadcastInDim S12800x8 ![0] bcast_S12800_S12800x8_0 E) shapeCasts_S12800x8_S102400))) (broadcastInDim S102400x32 ![0, 1] bcast_S1x32_S102400x32_0_1 (broadcastInDim S1x32 ![1] bcast_S32_S1x32_1 (iotaInDim S32 32 0))))) transposes_S102400x32_S32x102400_1_0))) Y) (constant S_ .f32 0x00000000#32) reducesTo_S32x102400x1024_S102400x1024_d0 h_S_) a8

/-- The reference's result is its parts put together. -/
theorem result_eq (m : (ℓ : Loc nD τ sig) → Buf (Elt Ideal) ℓ) (c : Dev nD) :
    Value.res_main_v76 (F := Ideal) m c
      = outOf (listed (mine (m ((c.tc : Thread nD τ).loc main_arg0)) (m ((c.tc : Thread nD τ).loc main_arg2)) (m ((c.tc : Thread nD τ).loc main_arg7))))
          (expert (mine (m ((c.tc : Thread nD τ).loc main_arg0)) (m ((c.tc : Thread nD τ).loc main_arg2)) (m ((c.tc : Thread nD τ).loc main_arg7))) (m ((c.tc : Thread nD τ).loc main_arg1)))
          (every (active (hidden (rows (source (mine (m ((c.tc : Thread nD τ).loc main_arg0)) (m ((c.tc : Thread nD τ).loc main_arg2)) (m ((c.tc : Thread nD τ).loc main_arg7))) (m ((c.tc : Thread nD τ).loc main_arg6))) (m ((c.tc : Thread nD τ).loc main_arg8)))
            (m ((c.tc : Thread nD τ).loc main_arg9)) (m ((c.tc : Thread nD τ).loc main_arg10))))
            (m ((c.tc : Thread nD τ).loc main_arg11)) (m ((c.tc : Thread nD τ).loc main_arg12)))
          (m ((c.tc : Thread nD τ).loc main_arg8)) := rfl

/-! ### The parts at a place -/

theorem hidden_at (T : FVec Ideal S102400x1024 .f32) (a9 : FVec Ideal S32x1024x2048 .f32) (a10 : FVec Ideal S32x2048 .f32)
    (i : Fin 102400) (e : Fin 32) (f : Fin 2048) :
    hidden T a9 a10 (ix3 i e f) = hid (fun k => T (ix2 i k)) (fun k f => a9 (ix3 e k f)) (fun f => a10 (ix2 e f)) f := by
  pointwise [hidden]
  try rfl

theorem active_at (H : FVec Ideal S102400x32x2048 .f32) (i : Fin 102400) (e : Fin 32) (f : Fin 1024) :
    active H (ix3 i e f) = act (H (ix3 i e ⟨f.val, by omega⟩)) (H (ix3 i e ⟨1024 + f.val, by omega⟩)) := by
  pointwise [active]
  try rfl

theorem every_at (A : FVec Ideal S102400x32x1024 .f32) (a11 : FVec Ideal S32x1024x1024 .f32) (a12 : FVec Ideal S32x1024 .f32)
    (e : Fin 32) (i : Fin 102400) (q : Fin 1024) :
    every A a11 a12 (ix3 e i q) = (∑ f : Fin 1024, A (ix3 i e f) * a11 (ix3 e f q)) + a12 (ix2 e q) := by
  pointwise [every]
  try rfl

/-- Every expert's result of a row is the feed-forward of that row with the expert's weights. -/
theorem every_ffn (T : FVec Ideal S102400x1024 .f32) (a9 : FVec Ideal S32x1024x2048 .f32) (a10 : FVec Ideal S32x2048 .f32)
    (a11 : FVec Ideal S32x1024x1024 .f32) (a12 : FVec Ideal S32x1024 .f32) (e : Fin 32) (i : Fin 102400) (q : Fin 1024) :
    every (active (hidden T a9 a10)) a11 a12 (ix3 e i q)
      = ffn (fun k => T (ix2 i k)) (fun k f => a9 (ix3 e k f)) (fun f => a10 (ix2 e f)) (fun f q => a11 (ix3 e f q))
          (fun q => a12 (ix2 e q)) q := by
  rw [every_at]
  refine congrArg (· + a12 (ix2 e q)) (Finset.sum_congr rfl fun f _ => congrArg (· * a11 (ix3 e f q)) ?_)
  rw [active_at, hidden_at, hidden_at]

/-- The result at a place. -/
theorem out_at (L : IVec S12800 1) (E : IVec S12800 32) (Y : FVec Ideal S32x102400x1024 .f32) (a8 : FVec Ideal S102400x1024 .f32)
    (i : Fin 102400) (q : Fin 1024) :
    outOf L E Y a8 (ix2 i q) = Scalar.select (L (ix1 ⟨i.val / 8, by omega⟩))
      (∑ e : Fin 32, FloatOps.uitofp (F := Idealize.ShloMosaic.Ideal) .f32 (IntOp.cmpi .eq (E (ix1 ⟨i.val / 8, by omega⟩)) (BitVec.ofNat 32 e.val)) * Y (ix3 e i q)) (a8 (ix2 i q)) := by
  pointwise [outOf]

/-- A listed row's gated sum is its expert's result. -/
theorem out_listed (L : IVec S12800 1) (E : IVec S12800 32) (Y : FVec Ideal S32x102400x1024 .f32) (a8 : FVec Ideal S102400x1024 .f32)
    (i : Fin 102400) (q : Fin 1024) (e : Fin 32) (hL : L (ix1 ⟨i.val / 8, by omega⟩) = 1#1)
    (hE : E (ix1 ⟨i.val / 8, by omega⟩) = BitVec.ofNat 32 e.val) :
    outOf L E Y a8 (ix2 i q) = Y (ix3 e i q) := by
  rw [out_at, hL, hE]
  show (∑ x : Fin 32, FloatOps.uitofp (F := Idealize.ShloMosaic.Ideal) .f32 (IntOp.cmpi .eq (BitVec.ofNat 32 e.val) (BitVec.ofNat 32 x.val)) * Y (ix3 x i q) : EReal) = _
  rw [Finset.sum_eq_single e (fun b _ hb => ?_) fun h => absurd (Finset.mem_univ e) h]
  rotate_left
  · have : IntOp.cmpi .eq (BitVec.ofNat 32 e.val) (BitVec.ofNat 32 b.val) = 0#1 := by
      simp only [IntOp.cmpi]
      rw [beq_eq_false_iff_ne.mpr]
      · rfl
      · intro h
        have := congrArg BitVec.toNat h
        simp only [BitVec.toNat_ofNat] at this
        exact hb (Fin.ext (by omega))
    rw [this]
    simp [FloatOps.uitofp]
  · have : IntOp.cmpi .eq (BitVec.ofNat 32 e.val) (BitVec.ofNat 32 e.val) = 1#1 := by
      simp [IntOp.cmpi]
    rw [this]
    simp [FloatOps.uitofp]

/-- A row of no listed chunk stays. -/
theorem out_rest (L : IVec S12800 1) (E : IVec S12800 32) (Y : FVec Ideal S32x102400x1024 .f32) (a8 : FVec Ideal S102400x1024 .f32)
    (i : Fin 102400) (q : Fin 1024) (hL : L (ix1 ⟨i.val / 8, by omega⟩) = 0#1) :
    outOf L E Y a8 (ix2 i q) = a8 (ix2 i q) := by
  rw [out_at, hL]
  rfl

theorem drop_at (x : S228x64x12800.Idx) : (reducesTo_S228x64x12800_S12800_d0_1).drop x = ix1 (x 2) := by
  funext a
  match a with
  | ⟨0, _⟩ => rfl

theorem mine_at (a0 : IVec S1 32) (a2 : IVec S228 32) (a7 : IVec S228x1x64 32) (s : Fin 228) (j : Fin 64) (i : Fin 12800) :
    mine a0 a2 a7 (ix3 s j i) = IntOp.andi (IntOp.cmpi .eq (a7 (ix3 s 0 j)) (BitVec.ofNat 32 i.val))
      (IntOp.andi (IntOp.cmpi .slt (BitVec.ofNat 32 s.val) (a0 (ix1 0))) (IntOp.cmpi .slt (BitVec.ofNat 32 j.val) (a2 (ix1 s)))) := by
  pointwise [mine]

section Pick
variable (M : IVec S228x64x12800 1) (s : Fin 228) (j : Fin 64) (i : Fin 12800)

/-- Chunk `j` of tile `s` is the only listed one with destination `i`. -/
def Only : Prop := M (ix3 s j i) = 1#1 ∧ ∀ s' j', M (ix3 s' j' i) = 1#1 → s' = s ∧ j' = j

/-- No listed chunk has destination `i`. -/
def None' : Prop := ∀ s' j', M (ix3 s' j' i) = 0#1

variable {M s j i}

theorem off_only (h : Only M s j i) (x : S228x64x12800.Idx)
    (hx : x ∈ Finset.univ.filter fun x => (reducesTo_S228x64x12800_S12800_d0_1).drop x = ix1 i) (hn : x ≠ ix3 s j i) : M x = 0#1 := by
  obtain ⟨a, b, k, rfl⟩ : ∃ (a : Fin 228) (b : Fin 64) (k : Fin 12800), x = ix3 a b k := ⟨x 0, x 1, x 2, eq_ix3 x⟩
  obtain rfl : k = i := congrFun ((drop_at _).symm.trans (Finset.mem_filter.mp hx).2) 0
  rcases BitVec.eq_zero_or_eq_one (M (ix3 a b k)) with h0 | h1
  · exact h0
  · obtain ⟨rfl, rfl⟩ := h.2 _ _ h1
    exact absurd rfl hn

theorem in_only : ix3 s j i ∈ Finset.univ.filter fun x => (reducesTo_S228x64x12800_S12800_d0_1).drop x = ix1 i :=
  Finset.mem_filter.mpr ⟨Finset.mem_univ _, drop_at _⟩

theorem listed_only (h : Only M s j i) : listed M (ix1 i) = 1#1 := by
  unfold listed
  rw [Host.reduce_eq_fold]
  exact (Cert.Fold.fold_pick IntOp.ori 0#1 (by decide) M _ (ix3 s j i) in_only (off_only h)).trans h.1

theorem listed_none (h : None' M i) : listed M (ix1 i) = 0#1 := by
  unfold listed
  rw [Host.reduce_eq_fold]
  refine Cert.Fold.fold_none IntOp.ori 0#1 (by decide) M _ fun x hx => ?_
  obtain ⟨a, b, k, rfl⟩ : ∃ (a : Fin 228) (b : Fin 64) (k : Fin 12800), x = ix3 a b k := ⟨x 0, x 1, x 2, eq_ix3 x⟩
  obtain rfl : k = i := congrFun ((drop_at _).symm.trans (Finset.mem_filter.mp hx).2) 0
  exact h _ _

theorem expert_only (h : Only M s j i) (a1 : IVec S228 32) : expert M a1 (ix1 i) = a1 (ix1 s) := by
  unfold expert
  rw [Host.reduce_eq_fold]
  refine (Cert.Fold.fold_pick IntOp.addi 0#32 (fun a => BitVec.add_zero a) _ _ (ix3 s j i) in_only fun x hx hn => ?_).trans ?_
  · show Scalar.select (M x) _ _ = _
    rw [off_only h x hx hn]
    rfl
  · show Scalar.select (M (ix3 s j i)) _ _ = _
    rw [h.1]
    pointwise
    try rfl

theorem source_only (h : Only M s j i) (a6 : IVec S228x1x64 32) : source M a6 (ix1 i) = a6 (ix3 s 0 j) := by
  unfold source
  rw [Host.reduce_eq_fold]
  refine (Cert.Fold.fold_pick IntOp.addi 0#32 (fun a => BitVec.add_zero a) _ _ (ix3 s j i) in_only fun x hx hn => ?_).trans ?_
  · show Scalar.select (M x) _ _ = _
    rw [off_only h x hx hn]
    rfl
  · show Scalar.select (M (ix3 s j i)) _ _ = _
    rw [h.1]
    pointwise
    try rfl

end Pick

/-! ### The source rows at a place -/

/-- The gather's dimension numbers, in a short name. -/
abbrev gd : GatherDims S12800x8x1024 S12800x1 S12800x8x1024 := gather_S12800x8x1024_S12800x1_S12800x8x1024_12_0_n_n_0_1_181024

theorem gather_at (x : FVec Ideal S12800x8x1024 .f32) (st : IVec S12800x1 32) (i : Fin 12800) (r : Fin 8) (k : Fin 1024) :
    Host.gather gather_S12800x8x1024_S12800x1_S12800x8x1024_12_0_n_n_0_1_181024 x st (ix3 i r k)
      = x (ix3 ⟨min (st (ix2 i 0)).toInt.toNat 12799, by omega⟩ r k) := by
  unfold Host.gather
  congr 1
  funext a
  refine Fin.ext ?_
  show gd.start (ix3 i r k) st a + gd.batchCoord (ix3 i r k) a + gd.offCoord (ix3 i r k) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have h0 : (0 : Fin 3) ∈ gd.startIndexMap := List.mem_singleton.mpr rfl
    rw [GatherDims.offCoord_eq_zero _ _ _ (fun h => ((GatherDims.mem_sKept _ _).mp h).1 (List.mem_singleton.mpr rfl))]
    unfold GatherDims.start
    rw [dif_pos h0]
    have hsi : gd.siIdx (ix3 i r k) ⟨List.idxOf (0 : Fin 3) gd.startIndexMap, List.idxOf_lt_length_iff.2 h0⟩ = ix2 i 0 := by
      funext b; refine Fin.ext ?_
      match b with
      | ⟨0, _⟩ => rfl
      | ⟨1, _⟩ => rfl
    rw [hsi]
    rfl
  · have h1 : (1 : Fin 3) ∉ gd.startIndexMap := fun h => absurd (List.mem_singleton.mp h) (by decide)
    have h2 : (1 : Fin 3) ∈ gd.sKept := (GatherDims.mem_sKept _ _).mpr
      ⟨fun h => absurd (List.mem_singleton.mp h) (by decide), List.not_mem_nil⟩
    unfold GatherDims.start GatherDims.offCoord
    rw [dif_neg h1, dif_pos h2]
    simp only [Nat.zero_add]
    rfl
  · have h1 : (2 : Fin 3) ∉ gd.startIndexMap := fun h => absurd (List.mem_singleton.mp h) (by decide)
    have h2 : (2 : Fin 3) ∈ gd.sKept := (GatherDims.mem_sKept _ _).mpr
      ⟨fun h => absurd (List.mem_singleton.mp h) (by decide), List.not_mem_nil⟩
    unfold GatherDims.start GatherDims.offCoord
    rw [dif_neg h1, dif_pos h2]
    simp only [Nat.zero_add]
    rfl

theorem rows_at (so : IVec S12800 32) (a8 : FVec Ideal S102400x1024 .f32) (i : Fin 102400) (k : Fin 1024) (n : ℕ) (hn : n < 12800)
    (hs : so (ix1 ⟨i.val / 8, by omega⟩) = BitVec.ofNat 32 n) :
    rows so a8 (ix2 i k) = a8 (ix2 ⟨8 * n + i.val % 8, by omega⟩ k) := by
  have hi : (BitVec.ofNat 32 n).toInt = n := by
    rw [BitVec.toInt_eq_toNat_of_lt (by rw [BitVec.toNat_ofNat, Nat.mod_eq_of_lt (by omega)]; omega), BitVec.toNat_ofNat,
      Nat.mod_eq_of_lt (by omega)]
  have hb : IntOp.cmpi .slt (BitVec.ofNat 32 n) 0#32 = 0#1 := by
    have : BitVec.slt (BitVec.ofNat 32 n) 0#32 = false := by
      rw [BitVec.slt_eq_decide, hi]
      exact decide_eq_false (by simp)
    simp only [IntOp.cmpi, this]
    rfl
  pointwise [rows, gather_at]
  refine congrArg a8 (congrArg (ix2 · k) (Fin.ext ?_))
  show min _ 12799 * 8 + i.val % 8 = 8 * n + i.val % 8
  rw [hs, hb]
  show min (BitVec.ofNat 32 n).toInt.toNat 12799 * 8 + i.val % 8 = 8 * n + i.val % 8
  rw [hi, Int.toNat_natCast]
  omega

end Cert.ReferenceIdeal.Val

end
-- ==== Proof.Tie.lean ====
/-
  The reference's result is the kernel's: tile rows as the feed-forward of their source rows, and the two sides met.
-/
module

public import proofs.«01_k».proof.Proof.Ref
public import proofs.«01_k».proof.Proof.Fine

@[expose] public section

noncomputable section

namespace Cert.KernelIdeal.Hand

open Cert.KernelIdeal Cert.KernelIdeal.Gen
open Idealize.ShloMosaic Idealize.ShloMosaic.TcCoe
open Cert.KernelIdeal.Val (ffn pay_half pay_whole pay_gu pay_dn)
open Cert.ReferenceIdeal.Val (mine listed expert source rows hidden active every outOf Only None' mine_at listed_only listed_none
  expert_only source_only rows_at every_ffn out_listed out_rest)

/-- The two vocabularies of indices agree. -/
theorem two_ix1 {n : ℕ} (a : Fin n) : ValueIdx.ix1 a = ix1 a := funext fun i => match i with | ⟨0, _⟩ => rfl
theorem two_ix2 {n k : ℕ} (a : Fin n) (b : Fin k) : ValueIdx.ix2 a b = ix2 a b :=
  funext fun i => match i with | ⟨0, _⟩ => rfl | ⟨1, _⟩ => rfl
theorem two_ix3 {n k l : ℕ} (a : Fin n) (b : Fin k) (c : Fin l) : ValueIdx.ix3 a b c = ix3 a b c :=
  funext fun i => match i with | ⟨0, _⟩ => rfl | ⟨1, _⟩ => rfl | ⟨2, _⟩ => rfl

variable (W : World Ideal)

/-- Word `q` of the feed-forward of row `n` with tile `s`'s weights and biases. -/
def rowOf (s : ℕ) (n : Fin 102400) (q : Fin 1024) : EReal :=
  ffn (fun k => W.f0 (ix2 n k)) (fun k f => W.gu (ix3 (⟨W.e s % 32, Nat.mod_lt _ (by decide)⟩ : Fin 32) k f))
    (fun f => W.bG s (ix3 0 0 f)) (fun f q => W.dn (ix3 (⟨W.e s % 32, Nat.mod_lt _ (by decide)⟩ : Fin 32) f q))
    (fun q => W.bD s (ix3 0 0 q)) q

/-- Row `r` of tile `s` is the feed-forward of its source row. -/
theorem tile_row (s r : ℕ) (q : Fin 1024) (n : Fin 102400) (hh : wd W.tH s = 1#32 → r < 256) (hr : r < 512)
    (hn : n.val = 8 * W.src s (r / 8) + r % 8) : W.yTile s r q = rowOf W s n q := by
  have hg : (fun (k : Fin 1024) (f : Fin 2048) => (guC W.gu (W.e s) : Vec Ideal S1024x2048 .bf16) (ix2 k f))
      = fun k f => W.gu (ix3 (⟨W.e s % 32, Nat.mod_lt _ (by decide)⟩ : Fin 32) k f) :=
    funext fun k => funext fun f => (pay_gu _ k f).trans (congrArg W.gu (two_ix3 _ _ _))
  have hd : (fun (f : Fin 1024) (q : Fin 1024) => (dnC W.dn (W.e s) : Vec Ideal S1024x1024 .bf16) (ix2 f q))
      = fun f q => W.dn (ix3 (⟨W.e s % 32, Nat.mod_lt _ (by decide)⟩ : Fin 32) f q) :=
    funext fun f => funext fun q => (pay_dn _ f q).trans (congrArg W.dn (two_ix3 _ _ _))
  have hlt := n.isLt
  unfold World.yTile
  split
  · rename_i h1
    have := hh h1
    refine (congrArg (W.yH s) (two_ix3 _ _ _)).trans ((pay_half (W.xH s) _ _ _ _ _ _).trans ?_)
    rw [hg, hd]
    unfold rowOf
    refine congrArg (fun x => ffn x _ _ _ _ q) (funext fun k => congrArg W.f0 ((two_ix2 _ _).trans (congrArg (ix2 · k) (Fin.ext ?_))))
    show (8 * W.src s (r % 256 / 8) + r % 256 % 8) % 102400 = n.val
    rw [Nat.mod_eq_of_lt this, Nat.mod_eq_of_lt (by omega), hn]
  · refine (congrArg (W.yF s) (two_ix3 _ _ _)).trans ((pay_whole (W.xF s) _ _ _ _ _ _).trans ?_)
    rw [hg, hd]
    unfold rowOf
    refine congrArg (fun x => ffn x _ _ _ _ q) (funext fun k => congrArg W.f0 ((two_ix2 _ _).trans (congrArg (ix2 · k) (Fin.ext ?_))))
    show (8 * W.src s (r % 512 / 8) + r % 512 % 8) % 102400 = n.val
    rw [Nat.mod_eq_of_lt hr, Nat.mod_eq_of_lt (by omega), hn]

variable (a6 a7 : IVec S228x1x64 32) (a10 : FVec Ideal S32x2048 .f32) (a12 : FVec Ideal S32x1024 .f32)

variable {W} in
/-- The reference's table of which chunk is whose, in the kernel's words. -/
theorem mine_iff (h : W.Good) (hdw : ∀ (s : Fin 228) (j : Fin 64), W.dw s.val j.val = a7 (ix3 s 0 j)) (s : Fin 228) (j : Fin 64) (i : Fin 12800) :
    mine W.tL W.tN a7 (ix3 s j i) = 1#1 ↔ s.val < W.L ∧ j.val < W.nv s.val ∧ W.dst s.val j.val = i.val := by
  have hL : (W.tL (ix1 0)).toInt = W.L := by
    have e : W.vL = W.tL (ix1 0) := congrArg W.tL (one_idx _ _)
    have := h.L2
    rw [← e, BitVec.toInt_eq_toNat_of_lt (by unfold World.L at this; omega)]
    rfl
  have hN : (W.tN (ix1 s)).toInt = W.nv s.val := by
    have e : wd W.tN s.val = W.tN (ix1 s) := (wd_at _ _ s.isLt).trans (congrArg W.tN (two_ix1 _))
    have := h.nv_le s.val s.isLt
    rw [← e, BitVec.toInt_eq_toNat_of_lt (by unfold World.nv at this; omega)]
    rfl
  have hs := s.isLt
  have hj := j.isLt
  have hi := i.isLt
  rw [mine_at, and_one, and_one, eq_one, slt_one, slt_one, ofNat_int _ (by omega), ofNat_int _ (by omega), hL, hN, ← hdw]
  constructor
  · rintro ⟨e, h1, h2⟩
    refine ⟨by omega, by omega, ?_⟩
    show (W.dw s.val j.val).toNat = i.val
    rw [e, BitVec.toNat_ofNat, Nat.mod_eq_of_lt (by omega)]
  · rintro ⟨h1, h2, e⟩
    refine ⟨BitVec.eq_of_toNat_eq ?_, by omega, by omega⟩
    rw [BitVec.toNat_ofNat, Nat.mod_eq_of_lt (by omega)]
    exact e

variable {W} in
/-- The reference over the kernel's arrays is the kernel's result. -/
theorem tie (h : W.Good) (hsw : ∀ (s : Fin 228) (j : Fin 64), W.sw s.val j.val = a6 (ix3 s 0 j))
    (hdw : ∀ (s : Fin 228) (j : Fin 64), W.dw s.val j.val = a7 (ix3 s 0 j))
    (hbG : ∀ s (f : Fin 2048), W.bG s (ix3 0 0 f) = a10 (ix2 (⟨W.e s % 32, Nat.mod_lt _ (by decide)⟩ : Fin 32) f))
    (hbD : ∀ s (q : Fin 1024), W.bD s (ix3 0 0 q) = a12 (ix2 (⟨W.e s % 32, Nat.mod_lt _ (by decide)⟩ : Fin 32) q)) :
    outOf (listed (mine W.tL W.tN a7)) (expert (mine W.tL W.tN a7) W.tE)
      (every (active (hidden (rows (source (mine W.tL W.tN a7) a6) W.f0) W.gu a10)) W.dn a12) W.f0 = W.G := by
  funext x
  obtain ⟨i, q, rfl⟩ : ∃ (i : Fin 102400) (q : Fin 1024), x = ix2 i q := ⟨x 0, x 1, eq_ix2 x⟩
  have hi := i.isLt
  by_cases hex : ∃ s j, s < W.L ∧ j < W.nv s ∧ W.dst s j = i.val / 8
  · obtain ⟨s, j, hs, hj, hd⟩ := hex
    have hs' : s < 228 := by have := h.L2; omega
    have hnv := h.nv_le s hs'
    have hj' : j < 64 := by omega
    have he := h.e_lt s hs'
    have hsrc := h.src_lt s hs' j hj'
    have only : Only (mine W.tL W.tN a7) ⟨s, hs'⟩ ⟨j, hj'⟩ ⟨i.val / 8, by omega⟩ := by
      refine ⟨(mine_iff a7 h hdw _ _ _).mpr ⟨hs, hj, hd⟩, fun s' j' hm => ?_⟩
      obtain ⟨g1, g2, g3⟩ := (mine_iff a7 h hdw _ _ _).mp hm
      obtain ⟨e1, e2⟩ := h.once s'.val j'.val s j g1 g2 hs hj (g3.trans hd.symm)
      exact ⟨Fin.ext e1, Fin.ext e2⟩
    have hE : expert (mine W.tL W.tN a7) W.tE (ix1 ⟨i.val / 8, by omega⟩) = BitVec.ofNat 32 (W.e s % 32) := by
      rw [expert_only only]
      refine BitVec.eq_of_toNat_eq ?_
      rw [BitVec.toNat_ofNat, Nat.mod_eq_of_lt (by omega), Nat.mod_eq_of_lt he]
      exact congrArg BitVec.toNat ((wd_at _ _ hs').trans (congrArg W.tE (two_ix1 _))).symm
    have hS : source (mine W.tL W.tN a7) a6 (ix1 ⟨i.val / 8, by omega⟩) = BitVec.ofNat 32 (W.src s j) := by
      rw [source_only only, ← hsw]
      refine BitVec.eq_of_toNat_eq ?_
      rw [BitVec.toNat_ofNat, Nat.mod_eq_of_lt (by omega)]
      rfl
    rw [out_listed _ _ _ _ i q ⟨W.e s % 32, Nat.mod_lt _ (by decide)⟩ (listed_only only) hE, every_ffn,
      h.G_out (i := ix2 i q) hs hj hd]
    refine Eq.trans ?_ (tile_row W s (8 * j + i.val % 8) q ⟨8 * W.src s j + i.val % 8, by omega⟩ (fun h1 => ?_) (by omega) ?_).symm
    · unfold rowOf
      rw [funext (hbG s), funext (hbD s)]
      exact congrArg (fun x => ffn x _ _ _ _ q) (funext fun k => rows_at _ _ i k _ hsrc hS)
    · rcases h.half s hs' with h0 | ⟨_, hle⟩
      · rw [h0] at h1
        exact absurd h1 (by decide)
      · omega
    · show 8 * W.src s j + i.val % 8 = 8 * W.src s ((8 * j + i.val % 8) / 8) + (8 * j + i.val % 8) % 8
      rw [show (8 * j + i.val % 8) / 8 = j by omega]
      omega
  · have none : None' (mine W.tL W.tN a7) ⟨i.val / 8, by omega⟩ := fun s' j' => by
      rcases BitVec.eq_zero_or_eq_one (mine W.tL W.tN a7 (ix3 s' j' ⟨i.val / 8, by omega⟩)) with h0 | h1
      · exact h0
      · exact absurd ⟨_, _, (mine_iff a7 h hdw _ _ _).mp h1⟩ hex
    rw [out_rest _ _ _ _ i q (listed_none none)]
    exact (W.G_rest fun s hs j hj hd => hex ⟨s, j, hs, hj, hd⟩).symm

end Cert.KernelIdeal.Hand

end
-- ==== Proof.Value.lean ====
/-
  The value claim: the kernel's run and the reference's end with one result.
-/
module

public import proofs.«01_k».proof.Proof.Tie
public import proofs.«01_k».proof.Proof.Frames

@[expose] public section

noncomputable section

namespace Cert.KernelIdeal.Hand

open Cert.KernelIdeal Cert.KernelIdeal.Gen
open Idealize.ShloMosaic Idealize.ShloMosaic.TcCoe Idealize.SL.Sem

/-- The reference's result, over the kernel's arguments, is the kernel's. -/
theorem value_eq (m : (ℓ : Loc nD τ sig) → Buf (Elt Ideal) ℓ) (c : Dev nD) (h : (worldOf m c).Good)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8))
    (h9 : m' ((c.tc : Thread Cert.ReferenceIdeal.nD Cert.ReferenceIdeal.τ).loc Cert.ReferenceIdeal.main_arg9) = m ((c : Thread nD τ).loc main_arg9))
    (h10 : m' ((c.tc : Thread Cert.ReferenceIdeal.nD Cert.ReferenceIdeal.τ).loc Cert.ReferenceIdeal.main_arg10) = m ((c : Thread nD τ).loc main_arg10))
    (h11 : m' ((c.tc : Thread Cert.ReferenceIdeal.nD Cert.ReferenceIdeal.τ).loc Cert.ReferenceIdeal.main_arg11) = m ((c : Thread nD τ).loc main_arg11))
    (h12 : m' ((c.tc : Thread Cert.ReferenceIdeal.nD Cert.ReferenceIdeal.τ).loc Cert.ReferenceIdeal.main_arg12) = m ((c : Thread nD τ).loc main_arg12)) :
    Cert.ReferenceIdeal.Value.res_main_v76 (F := Ideal) m' c = (worldOf m c).G := by
  rw [Cert.ReferenceIdeal.Val.result_eq, h0, h1, h2, h6, h7, h8, h9, h10, h11, h12]
  exact tie (W := worldOf m c) (m ((c : Thread nD τ).loc main_arg6)) (m ((c : Thread nD τ).loc main_arg7))
    (m ((c : Thread nD τ).loc main_arg10)) (m ((c : Thread nD τ).loc main_arg12)) h
    (fun s j => congrArg (m ((c : Thread nD τ).loc main_arg6)) ((two_ix3 _ _ _).trans (by simp [Nat.mod_eq_of_lt])))
    (fun s j => congrArg (m ((c : Thread nD τ).loc main_arg7)) ((two_ix3 _ _ _).trans (by simp [Nat.mod_eq_of_lt])))
    (fun s f => congrArg (m ((c : Thread nD τ).loc main_arg10)) (two_ix2 _ _))
    (fun s q => congrArg (m ((c : Thread nD τ).loc main_arg12)) (two_ix2 _ _))

theorem algebraic : Cert.algebraic_KernelIdeal_ReferenceIdeal := fun m g m' g' hpre hag =>
  ⟨fun c => (worldOf m c).G,
    (θ_run defs _ _).mono (fun r h c => ⟨h.2.1 c, h.1 c⟩) (run_all m g (good_ideal m hpre)),
    (θ_run Cert.ReferenceIdeal.defs _ _).mono (fun r h c => by
      obtain ⟨h0, h1, h2, h3, h4, h5, h6, h7, h8, h9, h10, h11, h12⟩ := hag c
      exact ⟨(h c).1.trans (value_eq m c (good_ideal m hpre c) m' h0 h1 h2 h6 h7 h8 h9 h10 h11 h12), (h c).2⟩)
      (Cert.ReferenceIdeal.Value.run m' g')⟩

end Cert.KernelIdeal.Hand

end
-- ==== Proof.Mix.lean ====
/- The combining call's body: what it leaves in the two output buffers, and its triple on each side of the
   boundary between the prompts' blocks and the samples'. -/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic
public import Idealize.ShloMosaic.Lib.Pipeline.ValueKit.Basic

@[expose] public section

set_option maxRecDepth 16384

noncomputable section

namespace Cert.Kernel2Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The rectangle of the modulation table's row that point `i` reads. -/
abbrev rowRect (i : grid0.Coords) : Rect S8x6144 :=
  Rect.unit (s := S8x6144) (k0_off1 i) S1x1024.size (Facts₀.k0_off1_inb i)

/-- The block of mixed rows point `i` computes from its blocks. -/
def mixed (i : grid0.Coords) (x0 : Vec F S256x1024 .f32) (x1 : Vec F S256x128 .i32) (x2 : Vec F S256x128 .f32)
    (x3 : Vec F S8x6144 .f32) (x4 x5 : Vec F S1x1024 .f32) (x6 : Vec F S1280x1024 .f32) : Vec F S256x1024 .f32 :=
  k0_pay1 (k0_pay3 (k0_pay2 x1 x2 x6) (fun j => x3 ((rowRect i).toLoadRect.idx j)) x0 x4) x5

/-- A load of all of a buffer reads its contents. -/
theorem load_all {s : Shape} {e : EltTy} (v : View sig .tc .vmem s e) {off : Fin s.rank → Nat}
    (h : ∀ a, off a = 0) (inb : ∀ a, off a + s.size a ≤ s.size a) (f : v.ty.Contents (Elt F)) :
    v.readAt (Elt F) (Rect.unit off s.size inb).toLoadRect f = v.read (Elt F) f := by
  funext x
  show v.read (Elt F) f _ = v.read (Elt F) f x
  congr 1
  funext a
  apply Fin.ext
  show off a + 1 * (x a).val = (x a).val
  rw [h a]; omega

/-- A store over all of a buffer leaves the stored value. -/
theorem left_all {s : Shape} {e : EltTy} [∀ e, Nonempty (Elt F e)] (v : View sig .tc .vmem s e) {off : Fin s.rank → Nat}
    (h : ∀ a, off a = 0) (inb : ∀ a, off a + s.size a ≤ s.size a) (f : v.ty.Contents (Elt F)) (w w' : s.Idx → Elt F e) (hw : w = w') :
    v.read (Elt F) (v.writes (Elt F) f [⟨Rect.unit off s.size inb, w⟩]) = w' := by
  refine (View.read_writes_eq_canon _ _ _ fun y => ⟨_, List.mem_singleton_self _, ?_⟩).trans
    ((View.canon_cons_unit_zero (funext h) inb w []).trans hw)
  have e : (Rect.unit off s.size inb).emb y = y := funext fun a => Fin.ext (by
    show off a + 1 * (y a).val = (y a).val
    rw [h a]; omega)
  rw [← e]
  exact (Rect.unit off s.size inb).idx_mem y

theorem zero2 : ∀ a : Fin 2, (![0, 0] : Fin 2 → Nat) a = 0 := by decide

theorem left_mixed (v : View sig .tc .vmem S256x1024 .f32) (f : v.ty.Contents (Elt F)) (w : Vec F S256x1024 .f32) :
    v.read (Elt F) (v.writes (Elt F) f [⟨Rect.unit (s := S256x1024) ![0, 0] S256x1024.size Facts₀.inb_S256x1024_S256x1024_0_0, w⟩]) = w :=
  left_all (s := S256x1024) (off := ![0, 0]) v zero2 _ f w w rfl

theorem load_x0 (v : View sig .tc .vmem S256x1024 .f32) (f : v.ty.Contents (Elt F)) :
    v.readAt (Elt F) (Rect.unit (s := S256x1024) ![0, 0] S256x1024.size Facts₀.inb_S256x1024_S256x1024_0_0).toLoadRect f = v.read (Elt F) f :=
  load_all (s := S256x1024) (off := ![0, 0]) v zero2 _ f
theorem load_x1 {e : EltTy} (v : View sig .tc .vmem S256x128 e) (f : v.ty.Contents (Elt F)) :
    v.readAt (Elt F) (Rect.unit (s := S256x128) ![0, 0] S256x128.size Facts₀.inb_S256x128_S256x128_0_0).toLoadRect f = v.read (Elt F) f :=
  load_all (s := S256x128) (off := ![0, 0]) v zero2 _ f
theorem load_x4 (v : View sig .tc .vmem S1x1024 .f32) (f : v.ty.Contents (Elt F)) :
    v.readAt (Elt F) (Rect.unit (s := S1x1024) ![0, 0] S1x1024.size Facts₀.inb_S1x1024_S1x1024_0_0).toLoadRect f = v.read (Elt F) f :=
  load_all (s := S1x1024) (off := ![0, 0]) v zero2 _ f
theorem load_x6 (v : View sig .tc .vmem S1280x1024 .f32) (f : v.ty.Contents (Elt F)) :
    v.readAt (Elt F) (Rect.unit (s := S1280x1024) ![0, 0] S1280x1024.size Facts₀.inb_S1280x1024_S1280x1024_0_0).toLoadRect f = v.read (Elt F) f :=
  load_all (s := S1280x1024) (off := ![0, 0]) v zero2 _ f

theorem pays (i : grid0.Coords) {x0 x0' : Vec F S256x1024 .f32} {x1 x1' : Vec F S256x128 .i32} {x2 x2' : Vec F S256x128 .f32}
    {r : Vec F S1x1024 .f32} {x3 : Vec F S8x6144 .f32} {x4 x4' x5 x5' : Vec F S1x1024 .f32} {x6 x6' : Vec F S1280x1024 .f32}
    (h0 : x0 = x0') (h1 : x1 = x1') (h2 : x2 = x2') (h3 : r = fun j => x3 ((rowRect i).toLoadRect.idx j)) (h4 : x4 = x4') (h5 : x5 = x5') (h6 : x6 = x6') :
    k0_pay1 (k0_pay3 (k0_pay2 x1 x2 x6) r x0 x4) x5 = mixed i x0' x1' x2' x3 x4' x5' x6' := by
  subst h0 h1 h2 h3 h4 h5 h6; unfold mixed; exact Eq.refl _

set_option maxHeartbeats 200000 in
/-- At a block of prompt rows the body leaves the mixed rows in the prompts' buffer and the samples' buffer alone. -/
theorem prompt_body (c : Dev nD) (E : Set ℕ) (i : grid0.Coords) (arg1 : Memref sig .tc .vmem S256x1024 .f32) (harg1 : arg1.IsWhole) (arg2 : Memref sig .tc .vmem S256x128 .i32) (harg2 : arg2.IsWhole) (arg3 : Memref sig .tc .vmem S256x128 .f32) (harg3 : arg3.IsWhole) (arg4 : Memref sig .tc .vmem S8x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1280x1024 .f32) (harg7 : arg7.IsWhole) (arg8 : Memref sig .tc .vmem S256x1024 .f32) (harg8 : arg8.IsWhole) (arg9 : Memref sig .tc .vmem S256x1024 .f32) (harg9 : arg9.IsWhole)
    (h1 : k0_cond1 i = 1#1) (h2 : ¬ k0_cond2 i = 1#1)
    (x0 : Vec F S256x1024 .f32) (x1 : Vec F S256x128 .i32) (x2 : Vec F S256x128 .f32) (x3 : Vec F S8x6144 .f32) (x4 : Vec F S1x1024 .f32) (x5 : Vec F S1x1024 .f32) (x6 : Vec F S1280x1024 .f32) (y : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (mixed i x0 x1 x2 x3 x4 x5 x6) ∗ owns (c : Thread nD τ) arg9 fullShare y) -∗ K ⟨⟩))
      ⊢ wp frame (wpE (defs₀ (F := F)) Variants.none c none) E (cc0_combine i arg1 harg1 arg2 harg2 arg3 harg3 arg4 harg4 arg5 harg5 arg6 harg6 arg7 harg7 arg8 harg8 arg9 harg9) K := by
  simp only [cc0_combine_eq_skeleton]; unfold cc0_combine_skel
  simp only [k0_part1_eq_skeleton, k0_part2_eq_skeleton]
  simp only [dif_pos h1, dif_neg h2]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0 hf1 hf2 hf3 hf4 hf5 hf6 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (left_mixed arg8.view f7 _).trans ?_
    unfold prompt_body.sl.r_1
    exact pays i (load_x0 _ _) (load_x1 _ _) (load_x1 _ _) rfl (load_x4 _ _) (load_x4 _ _) (load_x6 _ _)
  iexists f8; isplitr; · ipureintro; rfl
  iexact H8

set_option maxHeartbeats 200000 in
/-- At a block of sample rows it leaves them in the samples' buffer and the prompts' alone. -/
theorem sample_body (c : Dev nD) (E : Set ℕ) (i : grid0.Coords) (arg1 : Memref sig .tc .vmem S256x1024 .f32) (harg1 : arg1.IsWhole) (arg2 : Memref sig .tc .vmem S256x128 .i32) (harg2 : arg2.IsWhole) (arg3 : Memref sig .tc .vmem S256x128 .f32) (harg3 : arg3.IsWhole) (arg4 : Memref sig .tc .vmem S8x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1280x1024 .f32) (harg7 : arg7.IsWhole) (arg8 : Memref sig .tc .vmem S256x1024 .f32) (harg8 : arg8.IsWhole) (arg9 : Memref sig .tc .vmem S256x1024 .f32) (harg9 : arg9.IsWhole)
    (h1 : ¬ k0_cond1 i = 1#1) (h2 : k0_cond2 i = 1#1)
    (x0 : Vec F S256x1024 .f32) (x1 : Vec F S256x128 .i32) (x2 : Vec F S256x128 .f32) (x3 : Vec F S8x6144 .f32) (x4 : Vec F S1x1024 .f32) (x5 : Vec F S1x1024 .f32) (x6 : Vec F S1280x1024 .f32) (y : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ owns (c : Thread nD τ) arg9 fullShare (mixed i x0 x1 x2 x3 x4 x5 x6)) -∗ K ⟨⟩))
      ⊢ wp frame (wpE (defs₀ (F := F)) Variants.none c none) E (cc0_combine i arg1 harg1 arg2 harg2 arg3 harg3 arg4 harg4 arg5 harg5 arg6 harg6 arg7 harg7 arg8 harg8 arg9 harg9) K := by
  simp only [cc0_combine_eq_skeleton]; unfold cc0_combine_skel
  simp only [k0_part1_eq_skeleton, k0_part2_eq_skeleton]
  simp only [dif_neg h1, dif_pos h2]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (left_mixed arg9.view f8 _).trans ?_
  unfold sample_body.sl.r_1
  exact pays i (load_x0 _ _) (load_x1 _ _) (load_x1 _ _) rfl (load_x4 _ _) (load_x4 _ _) (load_x6 _ _)

end Cert.Kernel2Ideal.Mix
end
-- ==== Proof.MixRun.lean ====
/- The combining call's run: the proof data, the output buffers between points, the body's obligation at every
   point, the whole launch and its frame. -/
module

public import proofs.«01_k».proof.Proof.Mix
public import Idealize.ShloMosaic.Lib.Pipeline.TableIdle

@[expose] public section

set_option maxRecDepth 16384

noncomputable section

namespace Cert.Kernel2Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule of the two outputs -/

theorem flush7 : ∀ t : Fin grid0.N, win0_7.flush t = decide (t.val < 15 ∨ t.val = 79) := by
  simp only [Pipeline.Window.flush_eq_flushF]; decide +kernel

theorem flush8 : ∀ t : Fin grid0.N, win0_8.flush t = decide (16 ≤ t.val) := by
  simp only [Pipeline.Window.flush_eq_flushF]; decide +kernel

theorem early : ∀ t : Fin grid0.N, (k0_cond1 (grid0.coords t) = 1#1) = (t.val < 16) ∧ (k0_cond2 (grid0.coords t) = 1#1) = (16 ≤ t.val) := by
  have h : ∀ t : Fin grid0.N, (k0_cond1 (grid0.coords t) = 1#1 ↔ t.val < 16) ∧ (k0_cond2 (grid0.coords t) = 1#1 ↔ 16 ≤ t.val) := by decide +kernel
  exact fun t => ⟨propext (h t).1, propext (h t).2⟩

/-! ## The proof data -/

/-- The point whose block of mixed prompt rows the prompts' buffer holds after point `t`. -/
def atMost15 (t : Fin cfg0.N) : Fin cfg0.N := ⟨min t.val 15, Nat.lt_of_le_of_lt (Nat.min_le_left _ _) t.isLt⟩

/-- The mixed rows of point `t`'s blocks. -/
def mixedAt (c : Dev nD) (t : Fin cfg0.N) : Vec F S256x1024 .f32 :=
  mixed (grid0.coords t) (iblk m c 0 t) (iblk m c 1 t) (iblk m c 2 t) (iblk m c 3 t) (iblk m c 4 t) (iblk m c 5 t) (iblk m c 6 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => mixedAt m c (atMost15 t)
    | ⟨8, _⟩ => mixedAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = mixedAt m c (atMost15 t) := by dsimp only [dats]
theorem after_8 (c : Dev nD) (t : Fin cfg0.N) : (dats m 0 c).after 8 t = mixedAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

theorem idle7 (t : Fin cfg0.N) : cfg0.idle 7 (cfg0.grid.coords t) = decide (16 ≤ t.val) := by
  show (!(k0_cond1 (grid0.coords t) == 1#1)) = _
  by_cases h : t.val < 16
  · rw [beq_iff_eq.mpr ((early t).1.mpr h)]; simp; omega
  · rw [beq_eq_false_iff_ne.mpr (fun e => h ((early t).1.mp e))]; simp; omega

theorem idle8 (t : Fin cfg0.N) : cfg0.idle 8 (cfg0.grid.coords t) = decide (t.val < 16) := by
  show (!(k0_cond2 (grid0.coords t) == 1#1)) = _
  by_cases h : 16 ≤ t.val
  · rw [beq_iff_eq.mpr ((early t).2.mpr h)]; simp; omega
  · rw [beq_eq_false_iff_ne.mpr (fun e => h ((early t).2.mp e))]; simp; omega

/-- From point 16 on the prompts' buffer holds the last prompt block. -/
theorem before_7 (c : Dev nD) (d) : ∀ (n : Nat) (t : Fin cfg0.N), t.val = 16 + n → (dats m 0 c).before 7 t d = mixedAt m c (atMost15 t) := by
  intro n
  induction n with
  | zero =>
    intro t ht
    rw [(dats m 0 c).before_of_pos 7 t (by omega) ((cfg0.win 7).fetch_out rfl t),
      show (cfg0.win 7).flush ⟨t.val - 1, Nat.lt_of_le_of_lt (Nat.sub_le _ _) t.isLt⟩ = false from
        (flush7 ⟨t.val - 1, Nat.lt_of_le_of_lt (Nat.sub_le _ _) t.isLt⟩).trans (decide_eq_false (by show ¬ (t.val - 1 < 15 ∨ t.val - 1 = 79); omega)),
      if_neg Bool.false_ne_true]
    unfold Dat.left
    rw [idle7, decide_eq_false (show ¬ 16 ≤ t.val - 1 by omega)]
    unfold Dat.kept
    dsimp only
    rw [Pipeline.fill_of_clip_none (cfg := cfg0) 7 _ (fun _ => rfl) d ((dats m 0 c).after 7 _), Window.fill_cut, after_7]
    congr 1
    exact Fin.ext (by show min (t.val - 1) 15 = min t.val 15; omega)
  | succ n ih =>
    intro t ht
    rw [(dats m 0 c).before_of_pos 7 t (by omega) ((cfg0.win 7).fetch_out rfl t),
      show (cfg0.win 7).flush ⟨t.val - 1, Nat.lt_of_le_of_lt (Nat.sub_le _ _) t.isLt⟩ = false from
        (flush7 ⟨t.val - 1, Nat.lt_of_le_of_lt (Nat.sub_le _ _) t.isLt⟩).trans (decide_eq_false (by
          have : t.val < 80 := Nat.lt_of_lt_of_eq t.isLt N_0
          show ¬ (t.val - 1 < 15 ∨ t.val - 1 = 79); omega)),
      if_neg Bool.false_ne_true]
    unfold Dat.left
    rw [idle7, decide_eq_true (show 16 ≤ t.val - 1 by omega)]
    dsimp only
    rw [ih ⟨t.val - 1, Nat.lt_of_le_of_lt (Nat.sub_le _ _) t.isLt⟩ (by show t.val - 1 = 16 + n; omega)]
    congr 1
    exact Fin.ext (by show min (t.val - 1) 15 = min t.val 15; omega)

/-! ## The body's obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t ∗ (dats m 0 c).leavesExact 8 t)

theorem body_prompt (c : Dev nD) (t : Fin cfg0.N) (ht : t.val < 16) :
    bodyPre m c t ⊢ wp frame (wpE (defs₀ (F := F)) Variants.none c none) Set.univ (bodyAt0 t) (fun _ => bodyPost m c t) := by
  unfold bodyPre bodyPost bodyAt0
  have e7 : (dats m 0 c).leavesExact 7 t = owns (c : Thread nD τ) (st0_7 t) fullShare (mixedAt m c t) := by
    unfold Dat.leavesExact; rw [idle7, decide_eq_false (show ¬ 16 ≤ t.val by omega), after_7]
    rw [show atMost15 t = t from Fin.ext (by show min t.val 15 = t.val; omega)]
  have e8 : (dats m 0 c).leavesExact 8 t = iprop(∃ d, owns (c : Thread nD τ) (st0_8 t) fullShare ((dats m 0 c).before 8 t d)) :=
    (dats m 0 c).leavesExact_idle 8 t ((idle8 t).trans (decide_eq_true ht)) ((flush8 t).trans (decide_eq_false (by omega)))
  rw [e7, e8]
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (prompt_body c Set.univ (grid0.coords t) _ _ _ _ _ _ _ _ _ _ _ _ _ _ _ _ _ _ ((early t).1.mpr ht) (fun e => by have := (early t).2.mp e; omega)
    (iblk m c 0 t) (iblk m c 1 t) (iblk m c 2 t) (iblk m c 3 t) (iblk m c 4 t) (iblk m c 5 t) (iblk m c 6 t) ((dats m 0 c).before 8 t d8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

theorem body_sample (c : Dev nD) (t : Fin cfg0.N) (ht : 16 ≤ t.val) :
    bodyPre m c t ⊢ wp frame (wpE (defs₀ (F := F)) Variants.none c none) Set.univ (bodyAt0 t) (fun _ => bodyPost m c t) := by
  unfold bodyPre bodyPost bodyAt0
  have b7 : ∀ d, (dats m 0 c).before 7 t d = mixedAt m c (atMost15 t) := fun d => before_7 m c d (t.val - 16) t (by omega)
  have e7 : iprop(owns (c : Thread nD τ) (st0_7 t) fullShare (mixedAt m c (atMost15 t))) ⊢ ((dats m 0 c).leavesExact 7 t : sProp 𝕄) := by
    unfold Dat.leavesExact; rw [idle7, decide_eq_true ht]
    cases hf : (cfg0.win 7).flush t
    · dsimp only
      iintro H; iexists (mixedAt m c (atMost15 t)); rw [b7]; iexact H
    · dsimp only; rw [after_7]
  have e8 : (dats m 0 c).leavesExact 8 t = owns (c : Thread nD τ) (st0_8 t) fullShare (mixedAt m c t) := by
    unfold Dat.leavesExact; rw [idle8, decide_eq_false (show ¬ t.val < 16 by omega), after_8]
  rw [e8]
  simp only [before_0, before_1, before_2, before_3, before_4, before_5, before_6, b7]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sample_body c Set.univ (grid0.coords t) _ _ _ _ _ _ _ _ _ _ _ _ _ _ _ _ _ _ (fun e => by have := (early t).1.mp e; omega) ((early t).2.mpr ht)
    (iblk m c 0 t) (iblk m c 1 t) (iblk m c 2 t) (iblk m c 3 t) (iblk m c 4 t) (iblk m c 5 t) (iblk m c 6 t) (mixedAt m c (atMost15 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply e7; iexact H7
  iexact H8

theorem defs₀_row (t : Fin cfg0.N) :
    defs₀ (F := F) .tc cfg0.body (cfg0.bodyArgs t (cfg0.slots t)) = bodyAt0 t := by
  unfold defs₀; rw [Defs.onTc_tc]

theorem body_any (c : Dev nD) (t : Fin cfg0.N) :
    bodyPre m c t ⊢ wp frame (wpE (defs₀ (F := F)) Variants.none c none) Set.univ (bodyAt0 t) (fun _ => bodyPost m c t) := by
  by_cases h : t.val < 16
  · exact body_prompt m c t h
  · exact body_sample m c t (by omega)

theorem body_obligation (c : Dev nD) : BodyObligation (dats (F := F) m 0 c) (defs₀ (F := F)) Variants.none () Set.univ := fun t => by
  rw [bigSep_W0, bigSep_W0, defs₀_row]
  exact triple_restated (body_any m c t) rfl .rfl fun _ => .rfl

/-! ## The run -/

set_option backward.isDefEq.respectTransparency.types false in
set_option maxHeartbeats 2000000 in
/-- The whole launch: every array of the pipeline ends at what the proof data compute and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel2Ideal.Mix
end
-- ==== Proof.MixFrames.lean ====
/-
  The combining call's frames, and the two results its run ends with.
-/
module

public import proofs.«01_k».proof.Proof.MixRun
public import proofs.«01_k».proof.Proof.Gen.Kernel2
public import proofs.«01_k».proof.Proof.Gen.Pre_rows_differ
public import proofs.«01_k».proof.Proof.Gen.Reference2Ideal.Run
public import proofs.«01_k».proof.Defs
public import Idealize.ShloMosaic.Lib.Pipeline.ValueKit.Geometry

@[expose] public section

noncomputable section

namespace Cert.Kernel2Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

variable (m : (ℓ : Loc nD τ sig) → Buf (Elt F) ℓ) (ρ : Dev nD → PrngReg)

/-- The arguments are as they were. -/
def Left (f : (ℓ : Loc nD τ sig) → Buf (Elt F) ℓ) : Prop := ∀ c : Dev nD,
      f ((c.tc : Thread nD τ).loc main_arg0) = m ((c.tc : Thread nD τ).loc main_arg0)
      ∧ f ((c.tc : Thread nD τ).loc main_arg1) = m ((c.tc : Thread nD τ).loc main_arg1)
      ∧ f ((c.tc : Thread nD τ).loc main_arg2) = m ((c.tc : Thread nD τ).loc main_arg2)
      ∧ f ((c.tc : Thread nD τ).loc main_arg3) = m ((c.tc : Thread nD τ).loc main_arg3)
      ∧ f ((c.tc : Thread nD τ).loc main_arg4) = m ((c.tc : Thread nD τ).loc main_arg4)
      ∧ f ((c.tc : Thread nD τ).loc main_arg5) = m ((c.tc : Thread nD τ).loc main_arg5)
      ∧ f ((c.tc : Thread nD τ).loc main_arg6) = m ((c.tc : Thread nD τ).loc main_arg6)

theorem left_of (r : _ × _) (h : Pipeline.FramePost cfgs (dats m) 0 (Pipeline.afterTail₀ cfgs (dats m) 0 (V0 m) [hostOps1]) r) : Left m r.2.mem :=
  fun c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c)))⟩

/-- The reshape of the prompts' array. -/
theorem after_main_v3 (c : Dev nD) : Pipeline.afterTail₀ cfgs (dats m) 0 (V0 m) [hostOps1] c main_v3
    = shapeCast S16x256x1024 ((dats m 0 c).arrAt 7 cfg0.N : Vec F S4096x1024 .f32) shapeCasts_S4096x1024_S16x256x1024 := by
  unfold Pipeline.afterTail₀
  simp only [hostOps1, List.flatten_cons, List.flatten_nil, List.append_nil, List.cons_append, List.nil_append]
  after_results
  exact congrArg (fun x : Vec F S4096x1024 .f32 => shapeCast S16x256x1024 x shapeCasts_S4096x1024_S16x256x1024)
    (Pipeline.withArrays_arr spec0 launch0.win.arr_inj c (V0 m c) _ 7)

/-- The reshape of the samples' array. -/
theorem after_main_v4 (c : Dev nD) : Pipeline.afterTail₀ cfgs (dats m) 0 (V0 m) [hostOps1] c main_v4
    = shapeCast S4x4096x1024 ((dats m 0 c).arrAt 8 cfg0.N : Vec F S16384x1024 .f32) shapeCasts_S16384x1024_S4x4096x1024 := by
  unfold Pipeline.afterTail₀
  simp only [hostOps1, List.flatten_cons, List.flatten_nil, List.append_nil, List.cons_append, List.nil_append]
  after_results
  exact congrArg (fun x : Vec F S16384x1024 .f32 => shapeCast S4x4096x1024 x shapeCasts_S16384x1024_S4x4096x1024)
    (Pipeline.withArrays_arr spec0 launch0.win.arr_inj c (V0 m c) _ 8)

/-- The run: the two results, the arguments, and no counter raised. -/
theorem run_all : θ_run defs (onTc (τ := τ) (main (F := F))) ⟨m, fun _ => 0, ρ⟩ (fun r =>
    (∀ c : Dev nD, r.2.mem ((c.tc : Thread nD τ).loc main_v3)
        = shapeCast S16x256x1024 ((dats m 0 c).arrAt 7 cfg0.N : Vec F S4096x1024 .f32) shapeCasts_S4096x1024_S16x256x1024
      ∧ r.2.mem ((c.tc : Thread nD τ).loc main_v4)
        = shapeCast S4x4096x1024 ((dats m 0 c).arrAt 8 cfg0.N : Vec F S16384x1024 .f32) shapeCasts_S16384x1024_S4x4096x1024)
    ∧ Left m r.2.mem ∧ r.2.sem = fun _ => 0) :=
  (θ_run defs _ _).mono (fun r h =>
    ⟨fun c => ⟨((h.1 c).2 main_v3 (Pipeline.mem_restRefs_of main_v3 (by decide) (by decide))).trans (after_main_v3 m c),
      ((h.1 c).2 main_v4 (Pipeline.mem_restRefs_of main_v4 (by decide) (by decide))).trans (after_main_v4 m c)⟩, left_of m r h.1, h.2⟩)
    (run_main m ρ)

theorem frame_kernel2Ideal : Cert.quiescent_Kernel2Ideal := fun m ρ _ =>
  (θ_run defs _ _).mono (fun _ h => h.2) (run_all m ρ)

theorem frame_kernel2Ideal_pre : Cert.quiescent_Kernel2Ideal_pre_rows_differ := fun m ρ _ =>
  (θ_run defs _ _).mono (fun _ h => h.2) (run_all m ρ)

/-- The combining call's frame, said of its ideal reading's text at machine floats. -/
def FrameBits : Prop :=
  ∀ (m : (ℓ : Loc nD τ sig) → Buf (Elt Bits) ℓ) (g : Dev nD → PrngReg), Cert.Pre_Kernel2 m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem one_text : Cert.quiescent_Kernel2 = FrameBits := by sl_kernel_rfl

theorem frameBits : FrameBits := fun m ρ _ =>
  (θ_run defs _ _).mono (fun _ h => h.2) (run_all (F := Bits) m ρ)

theorem frame_kernel2 : Cert.quiescent_Kernel2 := one_text ▸ frameBits

theorem frame_reference2 : Cert.quiescent_Reference2Ideal := fun m ρ _ =>
  (θ_run Cert.Reference2Ideal.defs _ _).mono (fun r h => ⟨fun c => (h c).2.2, sem_eq_zero_of_no_sems (by decide) _⟩) (Cert.Reference2Ideal.Value.run m ρ)

theorem frame_reference2_pre : Cert.quiescent_Reference2Ideal_pre_rows_differ := fun m ρ _ =>
  (θ_run Cert.Reference2Ideal.defs _ _).mono (fun r h => ⟨fun c => (h c).2.2, sem_eq_zero_of_no_sems (by decide) _⟩) (Cert.Reference2Ideal.Value.run m ρ)

end Cert.Kernel2Ideal.Mix
end
-- ==== Proof.MixSpec.lean ====
/-
  A token's layer norm and its sum over its experts over the ideal numbers, and the combining call's payloads read at
  a row.
-/
module

public import proofs.«01_k».proof.Proof.Mix
public import Idealize.ShloMosaic.Lib.Pointwise
public import Idealize.ShloMosaic.Lib.IdealHost

@[expose] public section

set_option maxRecDepth 16384

noncomputable section

namespace Cert.Kernel2Ideal.Val

open Cert.Kernel2Ideal Cert.Kernel2Ideal.Gen
open Idealize.ShloMosaic

/-- The mean of a row. -/
def mean (v : Fin 1024 → EReal) : EReal := Ideal.div (∑ k : Fin 1024, v k) (Ideal.ofBits .f32 0x44800000#32)

/-- Word `q` of a row's layer norm. -/
def norm (v : Fin 1024 → EReal) (g b : EReal) (q : Fin 1024) : EReal :=
  (v q - mean v) * Ideal.rsqrt (mean (fun k => (v k - mean v) * (v k - mean v)) + Ideal.ofBits .f32 0x3727C5AC#32) * g + b

/-- The normed payload at a row. -/
theorem pay_norm (M X : FVec Ideal S256x1024 .f32) (G A B : Vec Ideal S1x1024 .f32) (r : Fin 256) (q : Fin 1024) :
    k0_pay1 (F := Ideal) (k0_pay3 M G X A) B (ix2 r q)
      = norm (fun k => Ideal.ofBits .f32 0x3F9837F0#32 * X (ix2 r k) + G (ix2 0 k) * M (ix2 r k)) (A (ix2 0 q)) (B (ix2 0 q)) q := by
  pointwise [k0_pay1, k0_pay3]
  rfl

/-- The weight of local row `n` for a token with words `w` and gates `p`. -/
def weight (w : Fin 4 → BitVec 32) (p : Fin 4 → EReal) (n : Fin 1280) : EReal :=
  Scalar.select (IntOp.cmpi .eq (BitVec.ofNat 32 n.val) (w 3)) (p 3)
    (Scalar.select (IntOp.cmpi .eq (BitVec.ofNat 32 n.val) (w 2)) (p 2)
      (Scalar.select (IntOp.cmpi .eq (BitVec.ofNat 32 n.val) (w 1)) (p 1)
        (Scalar.select (IntOp.cmpi .eq (BitVec.ofNat 32 n.val) (w 0)) (p 0) 0)))

/-- The summed payload at a row. -/
theorem pay_sum (R : Vec Ideal S256x128 .i32) (P : Vec Ideal S256x128 .f32) (Y : Vec Ideal S1280x1024 .f32) (r : Fin 256) (q : Fin 1024) :
    k0_pay2 (F := Ideal) R P Y (ix2 r q)
      = ∑ n : Fin 1280, weight (fun k => R (ix2 r ⟨4 + k.val, by omega⟩)) (fun k => P (ix2 r ⟨k.val, by omega⟩)) n * Y (ix2 n q) := by
  pointwise [k0_pay2]
  rfl

theorem same_word (a b : Fin 1280) : IntOp.cmpi .eq (BitVec.ofNat 32 a.val) (BitVec.ofNat 32 b.val) = if a = b then 1#1 else 0#1 := by
  by_cases h : a = b
  · rw [if_pos h, h]; simp [IntOp.cmpi]
  · rw [if_neg h]
    simp only [IntOp.cmpi]
    rw [beq_eq_false_iff_ne.mpr]
    · rfl
    · intro e
      have := congrArg BitVec.toNat e
      simp only [BitVec.toNat_ofNat] at this
      exact h (Fin.ext (by omega))

/-- The weights of different local rows pick each its row. -/
theorem weight_sum (w : Fin 4 → BitVec 32) (p : Fin 4 → EReal) (n : Fin 4 → Fin 1280) (hw : ∀ k, w k = BitVec.ofNat 32 (n k).val)
    (hd : ∀ k l, k ≠ l → n k ≠ n l) (y : Fin 1280 → EReal) :
    (∑ a : Fin 1280, weight w p a * y a)
      = 0 + p 0 * y (n 0) + p 1 * y (n 1) + p 2 * y (n 2) + p 3 * y (n 3) := by
  have hv : ∀ a, weight w p a = if a = n 3 then p 3 else if a = n 2 then p 2 else if a = n 1 then p 1 else if a = n 0 then p 0 else 0 := by
    intro a
    unfold weight
    rw [hw, hw, hw, hw, same_word, same_word, same_word, same_word]
    split_ifs <;> rfl
  have hs : (∑ a ∈ ({n 0, n 1, n 2, n 3} : Finset (Fin 1280)), weight w p a * y a) = ∑ a : Fin 1280, weight w p a * y a := by
    refine Finset.sum_subset (Finset.subset_univ _) fun a _ ha => ?_
    simp only [Finset.mem_insert, Finset.mem_singleton, not_or] at ha
    rw [hv, if_neg ha.2.2.2, if_neg ha.2.2.1, if_neg ha.2.1, if_neg ha.1, zero_mul]
  have h01 := hd 0 1 (by decide)
  have h02 := hd 0 2 (by decide)
  have h03 := hd 0 3 (by decide)
  have h12 := hd 1 2 (by decide)
  have h13 := hd 1 3 (by decide)
  have h23 := hd 2 3 (by decide)
  rw [← hs, Finset.sum_insert (by simp [h01, h02, h03]), Finset.sum_insert (by simp [h12, h13]),
    Finset.sum_insert (by simp [h23]), Finset.sum_singleton]
  rw [hv, hv, hv, hv]
  simp only [h01, h02, h03, h12, h13, h23, if_true, if_false, zero_add, add_assoc]

end Cert.Kernel2Ideal.Val

end
-- ==== Proof.MixTile.lean ====
/-
  The two arrays the combining call leaves, read at a place over the ideal numbers.
-/
module

public import proofs.«01_k».proof.Proof.MixRun
public import proofs.«01_k».proof.Proof.MixSpec
public import Idealize.ShloMosaic.Lib.Pipeline.ValueKit.Geometry

@[expose] public section

noncomputable section

namespace Cert.Kernel2Ideal.Mix

open Idealize.ShloMosaic Idealize.ShloMosaic.TcCoe Idealize.ShloMosaic.Tactic
open Cert.Kernel2Ideal Cert.Kernel2Ideal.Gen
open Cert.Kernel2Ideal.Val (mean norm weight)

variable (m : (ℓ : Loc nD τ sig) → Buf (Elt Ideal) ℓ)

/-- The modulation row of a point's tokens. -/
def modRow (t : ℕ) : ℕ := if t < 16 then 0 else 1 + (t - 16) / 16

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![min t.val 15, 0] := (by decide +kernel : ∀ t : Fin grid0.N, _)
theorem at8 : ∀ t : Fin cfg0.N, win0_8.index t = ![t.val - 16, 0] := (by decide +kernel : ∀ t : Fin grid0.N, _)
theorem atRow : ∀ t : Fin cfg0.N, k0_off1 (grid0.coords t) = ![modRow t.val, 5120] := (by decide +kernel : ∀ t : Fin grid0.N, _)

theorem lt80 (t : Fin cfg0.N) : t.val < 80 := Nat.lt_of_lt_of_eq t.isLt N_0

theorem modRow_lt (t : Fin cfg0.N) : modRow t.val < 8 := by have := lt80 t; unfold modRow; split <;> omega

theorem blk0 (c : Dev nD) (t : Fin cfg0.N) (r : Fin 256) (k : Fin 1024) :
    iblk m c 0 t (ix2 r k) = m ((c : Thread nD τ).loc main_arg0) (ix2 ⟨t.val * 256 + r.val, by have := lt80 t; omega⟩ k) := by
  blk_simp [iblk]
  rw [V_main_arg0]
  refine congrArg _ ?_
  blk_ext [at0]

theorem blk1 (c : Dev nD) (t : Fin cfg0.N) (r : Fin 256) (k : Fin 128) :
    iblk m c 1 t (ix2 r k) = m ((c : Thread nD τ).loc main_arg1) (ix2 ⟨t.val * 256 + r.val, by have := lt80 t; omega⟩ k) := by
  blk_simp [iblk]
  rw [V_main_arg1]
  refine congrArg _ ?_
  blk_ext [at1]

theorem blk2 (c : Dev nD) (t : Fin cfg0.N) (r : Fin 256) (k : Fin 128) :
    iblk m c 2 t (ix2 r k) = m ((c : Thread nD τ).loc main_arg2) (ix2 ⟨t.val * 256 + r.val, by have := lt80 t; omega⟩ k) := by
  blk_simp [iblk]
  rw [V_main_arg2]
  refine congrArg _ ?_
  blk_ext [at2]

theorem blk3 (c : Dev nD) (t : Fin cfg0.N) (r : Fin 8) (k : Fin 6144) :
    iblk m c 3 t (ix2 r k) = m ((c : Thread nD τ).loc main_arg3) (ix2 r k) := by
  blk_simp [iblk]
  rw [V_main_arg3]
  refine congrArg _ ?_
  blk_ext [at3]

theorem blk6 (c : Dev nD) (t : Fin cfg0.N) (r : Fin 1280) (k : Fin 1024) :
    iblk m c 6 t (ix2 r k) = m ((c : Thread nD τ).loc main_arg6) (ix2 ⟨t.val * 1280 + r.val, by have := lt80 t; omega⟩ k) := by
  blk_simp [iblk]
  rw [V_main_arg6]
  refine congrArg _ ?_
  blk_ext [at6]

theorem V_main_v0 (c : Dev nD) : V m c main_v0
    = shapeCast S1x1024 (m ((c : Thread nD τ).loc main_arg4) : Vec Ideal S1024 .f32) shapeCasts_S1024_S1x1024 := by
  unfold V V0
  simp only [hostOps0, List.flatten_cons, List.flatten_nil, List.append_nil, List.cons_append, List.nil_append]
  after_results
  rfl

theorem V_main_v1 (c : Dev nD) : V m c main_v1
    = shapeCast S1x1024 (m ((c : Thread nD τ).loc main_arg5) : Vec Ideal S1024 .f32) shapeCasts_S1024_S1x1024 := by
  unfold V V0
  simp only [hostOps0, List.flatten_cons, List.flatten_nil, List.append_nil, List.cons_append, List.nil_append]
  after_results
  rfl

theorem blk4 (c : Dev nD) (t : Fin cfg0.N) (k : Fin 1024) :
    iblk m c 4 t (ix2 0 k) = m ((c : Thread nD τ).loc main_arg4) (ix1 k) := by
  blk_simp [iblk]
  rw [V_main_v0]
  have e : ((win0_4.blk t).view.emb (ix2 0 k)) = ix2 0 k := by blk_ext [at4]
  rw [e]
  pointwise

theorem blk5 (c : Dev nD) (t : Fin cfg0.N) (k : Fin 1024) :
    iblk m c 5 t (ix2 0 k) = m ((c : Thread nD τ).loc main_arg5) (ix1 k) := by
  blk_simp [iblk]
  rw [V_main_v1]
  have e : ((win0_5.blk t).view.emb (ix2 0 k)) = ix2 0 k := by blk_ext [at5]
  rw [e]
  pointwise

/-- Word `q` of row `r` of point `t`'s mixed rows. -/
def rowOut (a0 : Vec Ideal S20480x1024 .f32) (a1 : Vec Ideal S20480x128 .i32) (a2 : Vec Ideal S20480x128 .f32) (a3 : Vec Ideal S8x6144 .f32)
    (a4 a5 : Vec Ideal S1024 .f32) (a6 : Vec Ideal S102400x1024 .f32) (t : Fin 80) (r : Fin 256) (q : Fin 1024) : EReal :=
  norm (fun k => Ideal.ofBits .f32 0x3F9837F0#32 * a0 (ix2 ⟨t.val * 256 + r.val, by omega⟩ k)
      + a3 (ix2 ⟨modRow t.val, modRow_lt (Fin.cast N_0.symm t)⟩ ⟨5120 + k.val, by omega⟩)
        * ∑ n : Fin 1280, weight (fun j => a1 (ix2 ⟨t.val * 256 + r.val, by omega⟩ ⟨4 + j.val, by omega⟩))
            (fun j => a2 (ix2 ⟨t.val * 256 + r.val, by omega⟩ ⟨j.val, by omega⟩)) n
          * a6 (ix2 ⟨t.val * 1280 + n.val, by omega⟩ k))
    (a4 (ix1 q)) (a5 (ix1 q)) q

/-- The same of the launch's arrays. -/
def outAt (c : Dev nD) (t : Fin 80) (r : Fin 256) (q : Fin 1024) : EReal :=
  rowOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) t r q

theorem rowRect_at (t : Fin cfg0.N) (k : Fin 1024) :
    (rowRect (grid0.coords t)).toLoadRect.idx (ix2 0 k) = (ix2 ⟨modRow t.val, modRow_lt t⟩ ⟨5120 + k.val, by omega⟩ : S8x6144.Idx) := by
  funext a
  refine Fin.ext ?_
  have h := congrFun (atRow t)
  match a with
  | ⟨0, _⟩ => show k0_off1 (grid0.coords t) 0 + 1 * 0 = modRow t.val; rw [h 0]; rfl
  | ⟨1, _⟩ => show k0_off1 (grid0.coords t) 1 + 1 * k.val = 5120 + k.val; rw [h 1]; show 5120 + 1 * k.val = _; omega

theorem mixedAt_at (c : Dev nD) (t : Fin cfg0.N) (r : Fin 256) (q : Fin 1024) :
    mixedAt m c t (ix2 r q) = outAt m c ⟨t.val, lt80 t⟩ r q := by
  unfold mixedAt mixed outAt rowOut
  rw [Val.pay_norm]
  simp only [Val.pay_sum, blk0, blk1, blk2, blk6, blk4, blk5, rowRect_at, blk3]

/-- The prompts' array. -/
def prompts (c : Dev nD) : Vec Ideal S4096x1024 .f32 := fun y =>
  outAt m c ⟨(y 0).val / 256, by have : (y 0).val < 4096 := (y 0).isLt; omega⟩ ⟨(y 0).val % 256, by omega⟩ (y 1)

/-- The samples' array. -/
def samples (c : Dev nD) : Vec Ideal S16384x1024 .f32 := fun y =>
  outAt m c ⟨16 + (y 0).val / 256, by have : (y 0).val < 16384 := (y 0).isLt; omega⟩ ⟨(y 0).val % 256, by omega⟩ (y 1)

theorem idx2 {n k : ℕ} (y : (⟨2, ![n, k]⟩ : Shape).Idx) : y = ix2 (y 0) (y 1) := by
  funext a
  match a with
  | ⟨0, _⟩ => rfl
  | ⟨1, _⟩ => rfl

theorem outAt_congr (c : Dev nD) {t t' : Fin 80} {r r' : Fin 256} {q q' : Fin 1024} (h : t.val = t'.val) (h' : r.val = r'.val) (h'' : q.val = q'.val) :
    outAt m c t r q = outAt m c t' r' q' := by
  rw [Fin.ext h, Fin.ext h', Fin.ext h'']

theorem arr7 (c : Dev nD) : (dats m 0 c).arrAt 7 cfg0.N = prompts m c := by
  refine (dats m 0 c).arrAt_eq_of_covers 7 _ (by decide +kernel) fun t hf y => ?_
  obtain ⟨r, q, rfl⟩ : ∃ (r : Fin 256) (q : Fin 1024), y = ix2 r q := ⟨y 0, y 1, idx2 (n := 256) (k := 1024) y⟩
  blk_simp
  rw [after_7]
  refine (mixedAt_at m c _ r q).trans ?_
  unfold prompts
  have h0 : ((win0_7.blk t).view.emb (ix2 r q) 0).val = min t.val 15 * 256 + r.val := by blk_simp [at7]
  have h1 : ((win0_7.blk t).view.emb (ix2 r q) 1).val = q.val := by blk_simp [at7]
  refine outAt_congr m c ?_ ?_ ?_
  · show min t.val 15 = _ / 256
    rw [h0]; omega
  · show r.val = _ % 256
    rw [h0]; omega
  · exact h1.symm

theorem arr8 (c : Dev nD) : (dats m 0 c).arrAt 8 cfg0.N = samples m c := by
  refine (dats m 0 c).arrAt_eq_of_covers 8 _ (by decide +kernel) fun t hf y => ?_
  obtain ⟨r, q, rfl⟩ : ∃ (r : Fin 256) (q : Fin 1024), y = ix2 r q := ⟨y 0, y 1, idx2 (n := 256) (k := 1024) y⟩
  blk_simp
  rw [after_8]
  refine (mixedAt_at m c _ r q).trans ?_
  unfold samples
  have h16 : 16 ≤ t.val := of_decide_eq_true ((flush8 t).symm.trans hf)
  have h0 : ((win0_8.blk t).view.emb (ix2 r q) 0).val = (t.val - 16) * 256 + r.val := by blk_simp [at8]
  have h1 : ((win0_8.blk t).view.emb (ix2 r q) 1).val = q.val := by blk_simp [at8]
  refine outAt_congr m c ?_ ?_ ?_
  · show t.val = 16 + _ / 256
    rw [h0]; omega
  · show r.val = _ % 256
    rw [h0]; omega
  · exact h1.symm

end Cert.Kernel2Ideal.Mix

end
-- ==== Proof.MixRef.lean ====
/-
  The combining reference's two results read at a place.
-/
module

public import proofs.«01_k».proof.Proof.MixSpec
public import proofs.«01_k».proof.Proof.Gen.Reference2Ideal.Run

@[expose] public section

set_option maxRecDepth 16384

noncomputable section

namespace Cert.Reference2Ideal.Val

open Cert.Reference2Ideal Cert.Reference2Ideal.Gen Idealize.ShloMosaic Idealize.ShloMosaic.TcCoe
open Cert.Kernel2Ideal.Val (mean norm)

/-- The block of every token. -/
def block : IVec S20480 32 :=
  select (andi (cmpi .ne (signi (iotaInDim S20480 32 0)) (broadcastInDim S20480 ![] bcast_S_S20480 (signi (id (constantI S_ 32 256#32))))) (cmpi .ne (Host.remsi (iotaInDim S20480 32 0) (broadcastInDim S20480 ![] bcast_S_S20480 (id (constantI S_ 32 256#32)))) (broadcastInDim S20480 ![] bcast_S_S20480 (constantI S_ 32 0#32)))) (subi (Host.divsi (iotaInDim S20480 32 0) (broadcastInDim S20480 ![] bcast_S_S20480 (id (constantI S_ 32 256#32)))) (broadcastInDim S20480 ![] bcast_S_S20480 (constantI S_ 32 1#32))) (Host.divsi (iotaInDim S20480 32 0) (broadcastInDim S20480 ![] bcast_S_S20480 (id (constantI S_ 32 256#32))))

/-- The rows of every token's results. -/
def rows (a1 : IVec S20480x128 32) : IVec S20480x4 32 :=
  addi (broadcastInDim S20480x4 ![0, 1] bcast_S20480x1_S20480x4_0_1 (muli (broadcastInDim S20480x1 ![0] bcast_S20480_S20480x1_0 block) (broadcastInDim S20480x1 ![] bcast_S_S20480x1 (constantI S_ 32 1280#32)))) (extractStridedSlice S20480x4 ![0, 4] a1 slices_S20480x128_S20480x4_0_4)

/-- The rows that column `z` of them names. -/
def pick (z : IVec S20480 32) (a6 : FVec Ideal S102400x1024 .f32) : FVec Ideal S20480x1024 .f32 :=
  Host.gather gather_S102400x1024_S20480x1_S20480x1024_1_0_n_n_0_1_11024 a6 (broadcastInDim S20480x1 ![0] bcast_S20480_S20480x1_0 (select (cmpi .slt z (broadcastInDim S20480 ![] bcast_S_S20480 (constantI S_ 32 0#32))) (addi z (broadcastInDim S20480 ![] bcast_S_S20480 (constantI S_ 32 102400#32))) z))

/-- Every token's sum over its experts. -/
def total (R : IVec S20480x4 32) (a2 : FVec Ideal S20480x128 .f32) (a6 : FVec Ideal S102400x1024 .f32) : FVec Ideal S20480x1024 .f32 :=
  addf (addf (addf (addf (broadcastInDim S20480x1024 ![] bcast_S_S20480x1024 (constant S_ .f32 0x00000000#32)) (mulf (broadcastInDim S20480x1024 ![0, 1] bcast_S20480x1_S20480x1024_0_1 (extractStridedSlice S20480x1 ![0, 0] a2 slices_S20480x128_S20480x1_0_0)) (pick (shapeCast _ (extractStridedSlice S20480x1 ![0, 0] R slices_S20480x4_S20480x1_0_0) shapeCasts_S20480x1_S20480) a6))) (mulf (broadcastInDim S20480x1024 ![0, 1] bcast_S20480x1_S20480x1024_0_1 (extractStridedSlice S20480x1 ![0, 1] a2 slices_S20480x128_S20480x1_0_1)) (pick (shapeCast _ (extractStridedSlice S20480x1 ![0, 1] R slices_S20480x4_S20480x1_0_1) shapeCasts_S20480x1_S20480) a6))) (mulf (broadcastInDim S20480x1024 ![0, 1] bcast_S20480x1_S20480x1024_0_1 (extractStridedSlice S20480x1 ![0, 2] a2 slices_S20480x128_S20480x1_0_2)) (pick (shapeCast _ (extractStridedSlice S20480x1 ![0, 2] R slices_S20480x4_S20480x1_0_2) shapeCasts_S20480x1_S20480) a6))) (mulf (broadcastInDim S20480x1024 ![0, 1] bcast_S20480x1_S20480x1024_0_1 (extractStridedSlice S20480x1 ![0, 3] a2 slices_S20480x128_S20480x1_0_3)) (pick (shapeCast _ (extractStridedSlice S20480x1 ![0, 3] R slices_S20480x4_S20480x1_0_3) shapeCasts_S20480x1_S20480) a6))

/-- The prompts' rows before their layer norm. -/
def beforePrompt (M : FVec Ideal S20480x1024 .f32) (a0 : FVec Ideal S20480x1024 .f32) (a3 : FVec Ideal S8x6144 .f32) : FVec Ideal S16x256x1024 .f32 :=
  addf (mulf (broadcastInDim S16x256x1024 ![] bcast_S_S16x256x1024 (constant S_ .f32 0x3F9837F0#32)) (shapeCast _ (extractStridedSlice S4096x1024 ![0, 0] a0 slices_S20480x1024_S4096x1024_0_0) shapeCasts_S4096x1024_S16x256x1024)) (mulf (broadcastInDim S16x256x1024 ![0, 1, 2] bcast_S1x1x1024_S16x256x1024_0_1_2 (broadcastInDim S1x1x1024 ![0, 2] bcast_S1x1024_S1x1x1024_0_2 (extractStridedSlice S1x1024 ![0, 5120] (extractStridedSlice S1x6144 ![0, 0] a3 slices_S8x6144_S1x6144_0_0) slices_S1x6144_S1x1024_0_5120))) (shapeCast _ (extractStridedSlice S4096x1024 ![0, 0] M slices_S20480x1024_S4096x1024_0_0) shapeCasts_S4096x1024_S16x256x1024))

/-- Their means. -/
def meansPrompt (V : FVec Ideal S16x256x1024 .f32) : FVec Ideal S16x256x1 .f32 :=
  Host.divf (broadcastInDim S16x256x1 ![0, 1] bcast_S16x256_S16x256x1_0_1 (Host.reduceAdd V (constant S_ .f32 0x00000000#32) reducesTo_S16x256x1024_S16x256_d2 h_S_)) (broadcastInDim S16x256x1 ![] bcast_S_S16x256x1 (constant S_ .f32 0x44800000#32))

/-- Their layer norm. -/
def normedPrompt (V : FVec Ideal S16x256x1024 .f32) (a4 a5 : FVec Ideal S1024 .f32) : FVec Ideal S16x256x1024 .f32 :=
  addf (mulf (mulf (subf V (broadcastInDim S16x256x1024 ![0, 1, 2] bcast_S16x256x1_S16x256x1024_0_1_2 (meansPrompt V))) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (subf V (broadcastInDim S16x256x1024 ![0, 1, 2] bcast_S16x256x1_S16x256x1024_0_1_2 (meansPrompt V))) (subf V (broadcastInDim S16x256x1024 ![0, 1, 2] bcast_S16x256x1_S16x256x1024_0_1_2 (meansPrompt V)))) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x3727C5AC#32)))))) (broadcastInDim S16x256x1024 ![0, 1, 2] bcast_S1x1x1024_S16x256x1024_0_1_2 (broadcastInDim S1x1x1024 ![2] bcast_S1024_S1x1x1024_2 a4))) (broadcastInDim S16x256x1024 ![0, 1, 2] bcast_S1x1x1024_S16x256x1024_0_1_2 (broadcastInDim S1x1x1024 ![2] bcast_S1024_S1x1x1024_2 a5))

/-- The samples' rows before their layer norm. -/
def beforeSample (M : FVec Ideal S20480x1024 .f32) (a0 : FVec Ideal S20480x1024 .f32) (a3 : FVec Ideal S8x6144 .f32) : FVec Ideal S4x4096x1024 .f32 :=
  addf (mulf (broadcastInDim S4x4096x1024 ![] bcast_S_S4x4096x1024 (constant S_ .f32 0x3F9837F0#32)) (shapeCast _ (extractStridedSlice S16384x1024 ![4096, 0] a0 slices_S20480x1024_S16384x1024_4096_0) shapeCasts_S16384x1024_S4x4096x1024)) (mulf (broadcastInDim S4x4096x1024 ![0, 1, 2] bcast_S4x1x1024_S4x4096x1024_0_1_2 (broadcastInDim S4x1x1024 ![0, 2] bcast_S4x1024_S4x1x1024_0_2 (extractStridedSlice S4x1024 ![0, 5120] (extractStridedSlice S4x6144 ![1, 0] a3 slices_S8x6144_S4x6144_1_0) slices_S4x6144_S4x1024_0_5120))) (shapeCast _ (extractStridedSlice S16384x1024 ![4096, 0] M slices_S20480x1024_S16384x1024_4096_0) shapeCasts_S16384x1024_S4x4096x1024))

/-- Their means. -/
def meansSample (V : FVec Ideal S4x4096x1024 .f32) : FVec Ideal S4x4096x1 .f32 :=
  Host.divf (broadcastInDim S4x4096x1 ![0, 1] bcast_S4x4096_S4x4096x1_0_1 (Host.reduceAdd V (constant S_ .f32 0x00000000#32) reducesTo_S4x4096x1024_S4x4096_d2 h_S_)) (broadcastInDim S4x4096x1 ![] bcast_S_S4x4096x1 (constant S_ .f32 0x44800000#32))

/-- Their layer norm. -/
def normedSample (V : FVec Ideal S4x4096x1024 .f32) (a4 a5 : FVec Ideal S1024 .f32) : FVec Ideal S4x4096x1024 .f32 :=
  addf (mulf (mulf (subf V (broadcastInDim S4x4096x1024 ![0, 1, 2] bcast_S4x4096x1_S4x4096x1024_0_1_2 (meansSample V))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf V (broadcastInDim S4x4096x1024 ![0, 1, 2] bcast_S4x4096x1_S4x4096x1024_0_1_2 (meansSample V))) (subf V (broadcastInDim S4x4096x1024 ![0, 1, 2] bcast_S4x4096x1_S4x4096x1024_0_1_2 (meansSample V)))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 a4))) (broadcastInDim S4x4096x1024 ![0, 1, 2] bcast_S1x1x1024_S4x4096x1024_0_1_2 (broadcastInDim S1x1x1024 ![2] bcast_S1024_S1x1x1024_2 a5))

theorem resultPrompt (m : (ℓ : Loc nD τ sig) → Buf (Elt Ideal) ℓ) (c : Dev nD) :
    Value.res_main_v96 (F := Ideal) m c
      = normedPrompt (beforePrompt (total (rows (m ((c.tc : Thread nD τ).loc main_arg1))) (m ((c.tc : Thread nD τ).loc main_arg2)) (m ((c.tc : Thread nD τ).loc main_arg6))) (m ((c.tc : Thread nD τ).loc main_arg0)) (m ((c.tc : Thread nD τ).loc main_arg3))) (m ((c.tc : Thread nD τ).loc main_arg4)) (m ((c.tc : Thread nD τ).loc main_arg5)) := rfl

theorem resultSample (m : (ℓ : Loc nD τ sig) → Buf (Elt Ideal) ℓ) (c : Dev nD) :
    Value.res_main_v132 (F := Ideal) m c
      = normedSample (beforeSample (total (rows (m ((c.tc : Thread nD τ).loc main_arg1))) (m ((c.tc : Thread nD τ).loc main_arg2)) (m ((c.tc : Thread nD τ).loc main_arg6))) (m ((c.tc : Thread nD τ).loc main_arg0)) (m ((c.tc : Thread nD τ).loc main_arg3))) (m ((c.tc : Thread nD τ).loc main_arg4)) (m ((c.tc : Thread nD τ).loc main_arg5)) := rfl

theorem normedPrompt_at (V : FVec Ideal S16x256x1024 .f32) (a4 a5 : FVec Ideal S1024 .f32) (b : Fin 16) (r : Fin 256) (q : Fin 1024) :
    normedPrompt V a4 a5 (ix3 b r q) = norm (fun k => V (ix3 b r k)) (a4 (ix1 q)) (a5 (ix1 q)) q := by
  pointwise [normedPrompt, meansPrompt]
  rfl

theorem normedSample_at (V : FVec Ideal S4x4096x1024 .f32) (a4 a5 : FVec Ideal S1024 .f32) (b : Fin 4) (r : Fin 4096) (q : Fin 1024) :
    normedSample V a4 a5 (ix3 b r q) = norm (fun k => V (ix3 b r k)) (a4 (ix1 q)) (a5 (ix1 q)) q := by
  pointwise [normedSample, meansSample]
  rfl

theorem beforePrompt_at (M a0 : FVec Ideal S20480x1024 .f32) (a3 : FVec Ideal S8x6144 .f32) (b : Fin 16) (r : Fin 256) (q : Fin 1024) :
    beforePrompt M a0 a3 (ix3 b r q) = Ideal.ofBits .f32 0x3F9837F0#32 * a0 (ix2 ⟨b.val * 256 + r.val, by omega⟩ q)
      + a3 (ix2 0 ⟨5120 + q.val, by omega⟩) * M (ix2 ⟨b.val * 256 + r.val, by omega⟩ q) := by
  pointwise [beforePrompt]

theorem beforeSample_at (M a0 : FVec Ideal S20480x1024 .f32) (a3 : FVec Ideal S8x6144 .f32) (b : Fin 4) (r : Fin 4096) (q : Fin 1024) :
    beforeSample M a0 a3 (ix3 b r q) = Ideal.ofBits .f32 0x3F9837F0#32 * a0 (ix2 ⟨4096 + (b.val * 4096 + r.val), by omega⟩ q)
      + a3 (ix2 ⟨1 + b.val, by omega⟩ ⟨5120 + q.val, by omega⟩) * M (ix2 ⟨4096 + (b.val * 4096 + r.val), by omega⟩ q) := by
  pointwise [beforeSample]

theorem div_word (i : ℕ) (h : i < 20480) : IntOp.divsi .host (BitVec.ofNat 32 i) 256#32 = BitVec.ofNat 32 (i / 256) := by
  have hn : (BitVec.ofNat 32 i).toNat = i := by rw [BitVec.toNat_ofNat]; omega
  have hm : (BitVec.ofNat 32 i).msb = false := by rw [BitVec.msb_eq_decide, hn]; exact decide_eq_false (by omega)
  have hc : ¬ IntOp.SDivCorner (BitVec.ofNat 32 i) 256#32 := by
    simp [IntOp.SDivCorner]
  unfold IntOp.divsi
  rw [if_neg hc, BitVec.sdiv_eq, hm, show (256#32 : BitVec 32).msb = false from rfl]
  refine BitVec.eq_of_toNat_eq ?_
  show (BitVec.udiv _ _).toNat = _
  rw [BitVec.udiv_eq, BitVec.toNat_udiv, hn, BitVec.toNat_ofNat, BitVec.toNat_ofNat, Nat.mod_eq_of_lt (by decide : 256 < 2 ^ 32),
    Nat.mod_eq_of_lt (by omega)]

theorem floor_word (i : ℕ) (h : i < 20480) (a d : BitVec 32) (r : BitVec 1) (ha : i = 0 → r = 0#1) :
    Scalar.select (IntOp.andi (IntOp.cmpi .ne (if BitVec.ofNat 32 i = 0 then 0 else if (BitVec.ofNat 32 i).msb = true then -1 else 1)
        (if (256#32 : BitVec 32) = 0 then 0 else if (256#32 : BitVec 32).msb = true then -1 else (1 : BitVec 32))) r) a d = d := by
  have h0 : ∀ x : BitVec 1, IntOp.andi 0#1 x = 0#1 := by decide
  have h1 : ∀ x : BitVec 1, IntOp.andi x 0#1 = 0#1 := by decide
  by_cases hi : i = 0
  · rw [ha hi, h1]; rfl
  · have hn : (BitVec.ofNat 32 i).toNat = i := by rw [BitVec.toNat_ofNat]; omega
    have hm : (BitVec.ofNat 32 i).msb = false := by rw [BitVec.msb_eq_decide, hn]; exact decide_eq_false (by omega)
    have hz : ¬ BitVec.ofNat 32 i = 0 := fun h => hi (by rw [← hn, h]; rfl)
    rw [if_neg hz, hm, if_neg (by decide : ¬ (256#32 : BitVec 32) = 0), show (256#32 : BitVec 32).msb = false from rfl]
    rw [show IntOp.cmpi .ne (if false = true then (-1 : BitVec 32) else 1) (if false = true then (-1 : BitVec 32) else 1) = 0#1 from rfl, h0]
    rfl

theorem rem_word : IntOp.cmpi .ne (IntOp.remsi .host (BitVec.ofNat 32 0) 256#32) 0#32 = 0#1 := by decide

theorem block_at (i : Fin 20480) : block (ix1 i) = BitVec.ofNat 32 (i.val / 256) := by
  pointwise [block]
  have e : id (constantI S_ 32 256#32) ix0 = 256#32 := rfl
  rw [e, div_word i.val i.isLt]
  refine floor_word i.val i.isLt _ _ _ fun hi => ?_
  have hw : BitVec.ofNat 32 i.val = BitVec.ofNat 32 0 := congrArg _ hi
  rw [hw]
  exact rem_word

theorem rows_at (a1 : IVec S20480x128 32) (i : Fin 20480) (k : Fin 4) :
    rows a1 (ix2 i k) = block (ix1 i) * 1280#32 + a1 (ix2 i ⟨4 + k.val, by omega⟩) := by
  pointwise [rows]
  rfl

abbrev gd : GatherDims S102400x1024 S20480x1 S20480x1024 := gather_S102400x1024_S20480x1_S20480x1024_1_0_n_n_0_1_11024

theorem gather_at (x : FVec Ideal S102400x1024 .f32) (st : IVec S20480x1 32) (i : Fin 20480) (k : Fin 1024) :
    Host.gather gather_S102400x1024_S20480x1_S20480x1024_1_0_n_n_0_1_11024 x st (ix2 i k)
      = x (ix2 ⟨min (st (ix2 i 0)).toInt.toNat 102399, by omega⟩ k) := by
  unfold Host.gather
  congr 1
  funext a
  refine Fin.ext ?_
  show gd.start (ix2 i k) st a + gd.batchCoord (ix2 i k) a + gd.offCoord (ix2 i k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · have h0 : (0 : Fin 2) ∈ gd.startIndexMap := List.mem_singleton.mpr rfl
    rw [GatherDims.offCoord_eq_zero _ _ _ (fun h => ((GatherDims.mem_sKept _ _).mp h).1 (List.mem_singleton.mpr rfl))]
    unfold GatherDims.start
    rw [dif_pos h0]
    have hsi : gd.siIdx (ix2 i k) ⟨List.idxOf (0 : Fin 2) gd.startIndexMap, List.idxOf_lt_length_iff.2 h0⟩ = ix2 i 0 := by
      funext b; refine Fin.ext ?_
      match b with
      | ⟨0, _⟩ => rfl
      | ⟨1, _⟩ => rfl
    rw [hsi]
    rfl
  · have h1 : (1 : Fin 2) ∉ gd.startIndexMap := fun h => absurd (List.mem_singleton.mp h) (by decide)
    have h2 : (1 : Fin 2) ∈ gd.sKept := (GatherDims.mem_sKept _ _).mpr
      ⟨fun h => absurd (List.mem_singleton.mp h) (by decide), List.not_mem_nil⟩
    unfold GatherDims.start GatherDims.offCoord
    rw [dif_neg h1, dif_pos h2]
    simp only [Nat.zero_add]
    rfl

theorem pick_at (z : IVec S20480 32) (a6 : FVec Ideal S102400x1024 .f32) (i : Fin 20480) (q : Fin 1024) (n : ℕ) (hn : n < 102400)
    (hz : z (ix1 i) = BitVec.ofNat 32 n) : pick z a6 (ix2 i q) = a6 (ix2 ⟨n, hn⟩ q) := by
  have hi : (BitVec.ofNat 32 n).toInt = n := by
    rw [BitVec.toInt_eq_toNat_of_lt (by rw [BitVec.toNat_ofNat, Nat.mod_eq_of_lt (by omega)]; omega), BitVec.toNat_ofNat,
      Nat.mod_eq_of_lt (by omega)]
  have hb : IntOp.cmpi .slt (BitVec.ofNat 32 n) 0#32 = 0#1 := by
    have : BitVec.slt (BitVec.ofNat 32 n) 0#32 = false := by
      rw [BitVec.slt_eq_decide, hi]
      exact decide_eq_false (by simp)
    simp only [IntOp.cmpi, this]
    rfl
  pointwise [pick, gather_at]
  refine congrArg a6 (congrArg (ix2 · q) (Fin.ext ?_))
  show min _ 102399 = n
  rw [hz, hb]
  show min (BitVec.ofNat 32 n).toInt.toNat 102399 = n
  rw [hi, Int.toNat_natCast]
  omega

theorem total_at (R : IVec S20480x4 32) (a2 : FVec Ideal S20480x128 .f32) (a6 : FVec Ideal S102400x1024 .f32) (i : Fin 20480) (q : Fin 1024)
    (n : Fin 4 → Fin 102400) (hn : ∀ k, R (ix2 i k) = BitVec.ofNat 32 (n k).val) :
    total R a2 a6 (ix2 i q) = 0 + a2 (ix2 i 0) * a6 (ix2 (n 0) q) + a2 (ix2 i 1) * a6 (ix2 (n 1) q)
      + a2 (ix2 i 2) * a6 (ix2 (n 2) q) + a2 (ix2 i 3) * a6 (ix2 (n 3) q) := by
  pointwise [total]
  rw [pick_at _ _ _ _ (n 0).val (n 0).isLt, pick_at _ _ _ _ (n 1).val (n 1).isLt, pick_at _ _ _ _ (n 2).val (n 2).isLt,
    pick_at _ _ _ _ (n 3).val (n 3).isLt]
  all_goals
    pointwise
    exact hn _

end Cert.Reference2Ideal.Val

end
-- ==== Proof.MixValue.lean ====
/-
  The combining call's value claim: its run and its reference's end with the same two results.
-/
module

public import proofs.«01_k».proof.Proof.MixFrames
public import proofs.«01_k».proof.Proof.MixTile
public import proofs.«01_k».proof.Proof.MixRef

@[expose] public section

noncomputable section

namespace Cert.Kernel2Ideal.Mix

open Idealize.ShloMosaic Idealize.ShloMosaic.TcCoe Idealize.SL.Sem
open Cert.Kernel2Ideal Cert.Kernel2Ideal.Gen
open Cert.Kernel2Ideal.Val (mean norm weight weight_sum)
open Cert.Reference2Ideal.Val (total rows)

theorem both_one {a b : BitVec 1} : IntOp.andi a b = 1#1 ↔ a = 1#1 ∧ b = 1#1 := by revert a b; decide

theorem some_one {a b : BitVec 1} : IntOp.ori a b = 1#1 ↔ a = 1#1 ∨ b = 1#1 := by revert a b; decide

theorem of_bool {b : Bool} : BitVec.ofBool b = 1#1 ↔ b = true := by cases b <;> decide

variable (a0 : Vec Ideal S20480x1024 .f32) (a1 : Vec Ideal S20480x128 .i32) (a2 : Vec Ideal S20480x128 .f32) (a3 : Vec Ideal S8x6144 .f32)
  (a4 a5 : Vec Ideal S1024 .f32) (a6 : Vec Ideal S102400x1024 .f32)

/-- The words of the experts' rows are rows of the token's block, and differ. -/
def Rows : Prop := ∃ n : Fin 20480 → Fin 4 → Fin 1280,
  (∀ i k, a1 (ix2 i ⟨4 + k.val, by omega⟩) = BitVec.ofNat 32 (n i k).val) ∧ ∀ i k l, k ≠ l → n i k ≠ n i l

theorem in_at (i : Fin 20480) (k : Fin 4) :
    (Cert.Pre_rows_differ.fn (F := Ideal) a0 a1 a2 a3 a4 a5 a6).1 (ix2 i k)
      = IntOp.andi (IntOp.cmpi .sge (a1 (ix2 i ⟨4 + k.val, by omega⟩)) 0#32) (IntOp.cmpi .slt (a1 (ix2 i ⟨4 + k.val, by omega⟩)) 1280#32) := by
  pointwise [Cert.Pre_rows_differ.fn]
  try rfl

theorem differ_at (i : Fin 20480) (k l : Fin 4) :
    (Cert.Pre_rows_differ.fn (F := Ideal) a0 a1 a2 a3 a4 a5 a6).2 (ix3 i k l)
      = IntOp.ori (IntOp.cmpi .ne (a1 (ix2 i ⟨4 + k.val, by omega⟩)) (a1 (ix2 i ⟨4 + l.val, by omega⟩)))
          (IntOp.cmpi .eq (BitVec.ofNat 32 k.val) (BitVec.ofNat 32 l.val)) := by
  pointwise [Cert.Pre_rows_differ.fn]
  try rfl

theorem rows_of (h : (Cert.Pre_rows_differ.fn (F := Ideal) a0 a1 a2 a3 a4 a5 a6).1 = fun _ => 1#1)
    (h' : (Cert.Pre_rows_differ.fn (F := Ideal) a0 a1 a2 a3 a4 a5 a6).2 = fun _ => 1#1) : Rows a1 := by
  have hin : ∀ (i : Fin 20480) (k : Fin 4), (a1 (ix2 i ⟨4 + k.val, by omega⟩) : BitVec 32).toNat < 1280 := fun i k => by
    have e := (in_at a0 a1 a2 a3 a4 a5 a6 i k).symm.trans (congrFun h _)
    rw [both_one] at e
    simp only [IntOp.cmpi, of_bool, BitVec.sle_eq_decide, BitVec.slt_eq_decide, decide_eq_true_eq] at e
    obtain ⟨e0, e1⟩ := e
    rw [show (0#32 : BitVec 32).toInt = 0 from rfl] at e0
    rw [show (1280#32 : BitVec 32).toInt = 1280 from rfl] at e1
    have := BitVec.toInt_eq_toNat_cond (a1 (ix2 i ⟨4 + k.val, by omega⟩) : BitVec 32)
    have hlt := (a1 (ix2 i ⟨4 + k.val, by omega⟩) : BitVec 32).isLt
    split at this <;> omega
  refine ⟨fun i k => ⟨_, hin i k⟩, fun i k => ?_, fun i k l hkl he => ?_⟩
  · exact (BitVec.ofNat_toNat _ _).symm ▸ (BitVec.setWidth_eq _).symm
  · have e := (differ_at a0 a1 a2 a3 a4 a5 a6 i k l).symm.trans (congrFun h' _)
    rw [some_one] at e
    simp only [IntOp.cmpi, of_bool, bne_iff_ne, beq_iff_eq] at e
    rcases e with e | e
    · have hv : (a1 (ix2 i ⟨4 + k.val, by omega⟩) : BitVec 32).toNat = (a1 (ix2 i ⟨4 + l.val, by omega⟩) : BitVec 32).toNat :=
        congrArg (fun x : Fin 1280 => x.val) he
      exact e (BitVec.eq_of_toNat_eq hv)
    · have := congrArg BitVec.toNat e
      simp only [BitVec.toNat_ofNat] at this
      exact hkl (Fin.ext (by omega))

variable {a1}

theorem sum_eq (h : Rows a1) (t : Fin 80) (r : Fin 256) (q : Fin 1024) (i : Fin 20480) (hi : i.val = t.val * 256 + r.val) :
    (∑ n : Fin 1280, weight (fun j => a1 (ix2 i ⟨4 + j.val, by omega⟩)) (fun j => a2 (ix2 i ⟨j.val, by omega⟩)) n
          * a6 (ix2 ⟨t.val * 1280 + n.val, by omega⟩ q)) = total (rows a1) a2 a6 (ix2 i q) := by
  obtain ⟨n, hn, hd⟩ := h
  rw [weight_sum _ _ (n i) (hn i) (hd i) (fun n => a6 (ix2 ⟨t.val * 1280 + n.val, by omega⟩ q))]
  refine (Cert.Reference2Ideal.Val.total_at (rows a1) a2 a6 i q (fun k => ⟨t.val * 1280 + (n i k).val, by omega⟩) fun k => ?_).symm
  rw [Cert.Reference2Ideal.Val.rows_at, Cert.Reference2Ideal.Val.block_at]
  refine (congrArg (_ + ·) (hn i k)).trans ?_
  refine BitVec.eq_of_toNat_eq ?_
  rw [BitVec.toNat_add, BitVec.toNat_mul, BitVec.toNat_ofNat, BitVec.toNat_ofNat, BitVec.toNat_ofNat, BitVec.toNat_ofNat]
  have : i.val / 256 = t.val := by omega
  rw [this]
  show _ = (t.val * 1280 + (n i k).val) % 2 ^ 32
  omega

theorem rowOut_eq (h : Rows a1) (t : Fin 80) (r : Fin 256) (q : Fin 1024) (i : Fin 20480) (hi : i.val = t.val * 256 + r.val)
    (p : Fin 8) (hp : p.val = modRow t.val) :
    rowOut a0 a1 a2 a3 a4 a5 a6 t r q
      = norm (fun k => Ideal.ofBits .f32 0x3F9837F0#32 * a0 (ix2 i k) + a3 (ix2 p ⟨5120 + k.val, by omega⟩) * total (rows a1) a2 a6 (ix2 i k))
          (a4 (ix1 q)) (a5 (ix1 q)) q := by
  have ei : (⟨t.val * 256 + r.val, by omega⟩ : Fin 20480) = i := Fin.ext hi.symm
  have ep : (⟨modRow t.val, modRow_lt (Fin.cast N_0.symm t)⟩ : Fin 8) = p := Fin.ext hp.symm
  unfold rowOut
  rw [ei, ep]
  refine congrArg (fun f => norm f (a4 (ix1 q)) (a5 (ix1 q)) q) (funext fun k => ?_)
  rw [sum_eq a2 a6 h t r k i hi]

theorem idx3 {n k l : ℕ} (y : (⟨3, ![n, k, l]⟩ : Shape).Idx) : y = ix3 (y 0) (y 1) (y 2) := by
  funext a
  match a with
  | ⟨0, _⟩ => rfl
  | ⟨1, _⟩ => rfl
  | ⟨2, _⟩ => rfl

theorem cast_prompt (X : Vec Ideal S4096x1024 .f32) (b : Fin 16) (r : Fin 256) (q : Fin 1024) :
    shapeCast S16x256x1024 X shapeCasts_S4096x1024_S16x256x1024 (ix3 b r q) = X (ix2 ⟨b.val * 256 + r.val, by omega⟩ q) := by
  pointwise

theorem cast_sample (X : Vec Ideal S16384x1024 .f32) (b : Fin 4) (r : Fin 4096) (q : Fin 1024) :
    shapeCast S4x4096x1024 X shapeCasts_S16384x1024_S4x4096x1024 (ix3 b r q) = X (ix2 ⟨b.val * 4096 + r.val, by omega⟩ q) := by
  pointwise

theorem value_prompt (h : Rows a1) (X : Vec Ideal S4096x1024 .f32)
    (hX : ∀ (y : Fin 4096) (q : Fin 1024), X (ix2 y q) = rowOut a0 a1 a2 a3 a4 a5 a6 ⟨y.val / 256, by omega⟩ ⟨y.val % 256, by omega⟩ q) :
    Cert.Reference2Ideal.Val.normedPrompt (Cert.Reference2Ideal.Val.beforePrompt (total (rows a1) a2 a6) a0 a3) a4 a5
      = shapeCast S16x256x1024 X shapeCasts_S4096x1024_S16x256x1024 := by
  funext x
  obtain ⟨b, r, q, rfl⟩ : ∃ (b : Fin 16) (r : Fin 256) (q : Fin 1024), x = ix3 b r q := ⟨x 0, x 1, x 2, idx3 x⟩
  refine (Cert.Reference2Ideal.Val.normedPrompt_at _ a4 a5 b r q).trans (Eq.symm ((cast_prompt X b r q).trans ((hX _ q).trans ?_)))
  refine (rowOut_eq a0 a2 a3 a4 a5 a6 h _ _ q ⟨b.val * 256 + r.val, by omega⟩ ?_ 0 ?_).trans ?_
  · show b.val * 256 + r.val = (b.val * 256 + r.val) / 256 * 256 + (b.val * 256 + r.val) % 256
    omega
  · show 0 = modRow ((b.val * 256 + r.val) / 256)
    unfold modRow
    rw [if_pos (by omega)]
  · refine congrArg (fun f => norm f (a4 (ix1 q)) (a5 (ix1 q)) q) (funext fun k => ?_)
    exact (Cert.Reference2Ideal.Val.beforePrompt_at _ a0 a3 b r k).symm

theorem value_sample (h : Rows a1) (X : Vec Ideal S16384x1024 .f32)
    (hX : ∀ (y : Fin 16384) (q : Fin 1024), X (ix2 y q) = rowOut a0 a1 a2 a3 a4 a5 a6 ⟨16 + y.val / 256, by omega⟩ ⟨y.val % 256, by omega⟩ q) :
    Cert.Reference2Ideal.Val.normedSample (Cert.Reference2Ideal.Val.beforeSample (total (rows a1) a2 a6) a0 a3) a4 a5
      = shapeCast S4x4096x1024 X shapeCasts_S16384x1024_S4x4096x1024 := by
  funext x
  obtain ⟨b, r, q, rfl⟩ : ∃ (b : Fin 4) (r : Fin 4096) (q : Fin 1024), x = ix3 b r q := ⟨x 0, x 1, x 2, idx3 x⟩
  refine (Cert.Reference2Ideal.Val.normedSample_at _ a4 a5 b r q).trans (Eq.symm ((cast_sample X b r q).trans ((hX _ q).trans ?_)))
  refine (rowOut_eq a0 a2 a3 a4 a5 a6 h _ _ q ⟨4096 + (b.val * 4096 + r.val), by omega⟩ ?_ ⟨1 + b.val, by omega⟩ ?_).trans ?_
  · show 4096 + (b.val * 4096 + r.val) = (16 + (b.val * 4096 + r.val) / 256) * 256 + (b.val * 4096 + r.val) % 256
    omega
  · show 1 + b.val = modRow (16 + (b.val * 4096 + r.val) / 256)
    unfold modRow
    rw [if_neg (by omega)]
    omega
  · refine congrArg (fun f => norm f (a4 (ix1 q)) (a5 (ix1 q)) q) (funext fun k => ?_)
    exact (Cert.Reference2Ideal.Val.beforeSample_at _ a0 a3 b r k).symm

theorem algebraic : Cert.algebraic_Kernel2Ideal_Reference2Ideal_pre_rows_differ := fun m g m' g' hpre hag =>
  ⟨fun c => shapeCast S16x256x1024 (prompts m c) shapeCasts_S4096x1024_S16x256x1024,
    fun c => shapeCast S4x4096x1024 (samples m c) shapeCasts_S16384x1024_S4x4096x1024,
    (θ_run defs _ _).mono (fun r h c => ⟨(h.1 c).1.trans (congrArg (fun X : Vec Ideal S4096x1024 .f32 => shapeCast S16x256x1024 X shapeCasts_S4096x1024_S16x256x1024) (arr7 m c)),
      (h.1 c).2.trans (congrArg (fun X : Vec Ideal S16384x1024 .f32 => shapeCast S4x4096x1024 X shapeCasts_S16384x1024_S4x4096x1024) (arr8 m c)), h.2.1 c⟩) (run_all m g),
    (θ_run Cert.Reference2Ideal.defs _ _).mono (fun r h c => by
      obtain ⟨h0, h1, h2, h3, h4, h5, h6⟩ := hag c
      have hr := rows_of _ _ _ _ _ _ _ (hpre c).1 (hpre c).2
      refine ⟨(h c).1.trans ?_, (h c).2.1.trans ?_, (h c).2.2⟩
      · rw [Cert.Reference2Ideal.Val.resultPrompt, h0, h1, h2, h3, h4, h5, h6]
        exact value_prompt _ _ _ _ _ _ hr _ fun y q => rfl
      · rw [Cert.Reference2Ideal.Val.resultSample, h0, h1, h2, h3, h4, h5, h6]
        exact value_sample _ _ _ _ _ _ hr _ fun y q => rfl)
      (Cert.Reference2Ideal.Value.run m' g')⟩

end Cert.Kernel2Ideal.Mix

end
-- ==== Proof.lean ====
module

public import proofs.«01_k».proof.Proof.Same
public import proofs.«01_k».proof.Proof.Value
public import proofs.«01_k».proof.Proof.MixValue
public import proofs.«01_k».proof.Proof.Gen.Reference2Ideal.Run
public import proofs.«01_k».proof.Proof.Gen.Kernel2Ideal.Frame
public import proofs.«01_k».proof.Proof.Gen.Kernel2Ideal.Skeleton
public import proofs.«01_k».proof.Proof.Gen.Kernel2
public import proofs.«01_k».proof.Proof.Gen.Pre_rows_differ

@[expose] public section

noncomputable section

namespace Cert.Proof

open Cert.KernelIdeal.Hand
open Cert.Kernel2Ideal

/-- Every claim, with the witnesses of the programs' stated facts first. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Pre_tables_agree.Gen.facts, Cert.Pre_rows_differ.Gen.facts,
    frame_kernel, frame_kernelIdeal, frame_reference,
    (fun m ρ _ => frame_reference m ρ trivial),
    Mix.frame_kernel2, Mix.frame_kernel2Ideal, Mix.frame_kernel2Ideal_pre,
    Mix.frame_reference2, Mix.frame_reference2_pre,
    trivial, algebraic, trivial, Mix.algebraic⟩

end Cert.Proof

end
